-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite8 [hPre_finite8 : Cert.Pre_finite8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite8 [hPre_finite8 : Cert.Pre_finite8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite9 [hPre_finite9 : Cert.Pre_finite9.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite9 [hPre_finite9 : Cert.Pre_finite9.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6))) = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Kernel8Ideal_pre_finite8 [hKernel8Ideal : Cert.Kernel8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite8 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Reference8Ideal_pre_finite8 [hReference8Ideal : Cert.Reference8Ideal.Facts] [hPre_finite8 : Cert.Pre_finite8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite8 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ r.2.sem = fun _ => 0)

def quiescent_Kernel9Ideal_pre_finite9 [hKernel9Ideal : Cert.Kernel9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite9 m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6))
      ∧ r.2.sem = fun _ => 0)

def quiescent_Reference9Ideal_pre_finite9 [hReference9Ideal : Cert.Reference9Ideal.Facts] [hPre_finite9 : Cert.Pre_finite9.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite9 m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v49_0)) (v1 : (c : Dev Cert.KernelIdeal.nD) → Buf (Elt Ideal) ((c.tc : Thread Cert.KernelIdeal.nD Cert.KernelIdeal.τ).loc Cert.KernelIdeal.main_v49_1)) (v2 : (c : Dev Cert.KernelIdeal.nD) → Buf (Elt Ideal) ((c.tc : Thread Cert.KernelIdeal.nD Cert.KernelIdeal.τ).loc Cert.KernelIdeal.main_v49_2)) (v3 : (c : Dev Cert.KernelIdeal.nD) → Buf (Elt Ideal) ((c.tc : Thread Cert.KernelIdeal.nD Cert.KernelIdeal.τ).loc Cert.KernelIdeal.main_v49_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49_0) = v0 c
          ∧ r.2.mem ((c.tc : Thread Cert.KernelIdeal.nD Cert.KernelIdeal.τ).loc Cert.KernelIdeal.main_v49_1) = v1 c
          ∧ r.2.mem ((c.tc : Thread Cert.KernelIdeal.nD Cert.KernelIdeal.τ).loc Cert.KernelIdeal.main_v49_2) = v2 c
          ∧ r.2.mem ((c.tc : Thread Cert.KernelIdeal.nD Cert.KernelIdeal.τ).loc Cert.KernelIdeal.main_v49_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_v100) = v1 c
          ∧ r.2.mem ((c.tc : Thread Cert.ReferenceIdeal.nD Cert.ReferenceIdeal.τ).loc Cert.ReferenceIdeal.main_v90) = v2 c
          ∧ r.2.mem ((c.tc : Thread Cert.ReferenceIdeal.nD Cert.ReferenceIdeal.τ).loc Cert.ReferenceIdeal.main_v95) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v8) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v8) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal_pre_finite8 [hKernel8Ideal : Cert.Kernel8Ideal.Facts] [hReference8Ideal : Cert.Reference8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite8 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v39) = v0 c
          ∧ r.2.mem ((c.tc : Thread Cert.Reference8Ideal.nD Cert.Reference8Ideal.τ).loc Cert.Reference8Ideal.main_v43) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal_pre_finite9 [hKernel9Ideal : Cert.Kernel9Ideal.Facts] [hReference9Ideal : Cert.Reference9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite9 m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v45) = v0 c
          ∧ r.2.mem ((c.tc : Thread Cert.Reference9Ideal.nD Cert.Reference9Ideal.τ).loc Cert.Reference9Ideal.main_v49) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v12) = v0 c
          ∧ r.2.mem ((c.tc : Thread Cert.Reference10Ideal.nD Cert.Reference10Ideal.τ).loc Cert.Reference10Ideal.main_v16) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v1) = v0 c
          ∧ r.2.mem ((c.tc : Thread Cert.Reference11Ideal.nD Cert.Reference11Ideal.τ).loc Cert.Reference11Ideal.main_v14) = v1 c
          ∧ r.2.mem ((c.tc : Thread Cert.Reference11Ideal.nD Cert.Reference11Ideal.τ).loc Cert.Reference11Ideal.main_v18) = v2 c
          ∧ r.2.mem ((c.tc : Thread Cert.Reference11Ideal.nD Cert.Reference11Ideal.τ).loc Cert.Reference11Ideal.main_v22) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_finite : Cert.Pre_finite.Facts) (hPre_finite8 : Cert.Pre_finite8.Facts) (hPre_finite9 : Cert.Pre_finite9.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite8 (hKernel8Ideal := hKernel8Ideal) (hPre_finite8 := hPre_finite8)
    ∧ quiescent_Reference8Ideal (hReference8Ideal := hReference8Ideal)
    ∧ quiescent_Reference8Ideal_pre_finite8 (hReference8Ideal := hReference8Ideal) (hPre_finite8 := hPre_finite8)
    ∧ quiescent_Kernel9 (hKernel9 := hKernel9)
    ∧ quiescent_Kernel9Ideal (hKernel9Ideal := hKernel9Ideal)
    ∧ quiescent_Kernel9Ideal_pre_finite9 (hKernel9Ideal := hKernel9Ideal) (hPre_finite9 := hPre_finite9)
    ∧ quiescent_Reference9Ideal (hReference9Ideal := hReference9Ideal)
    ∧ quiescent_Reference9Ideal_pre_finite9 (hReference9Ideal := hReference9Ideal) (hPre_finite9 := hPre_finite9)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite8 (hKernel8Ideal := hKernel8Ideal) (hReference8Ideal := hReference8Ideal) (hPre_finite8 := hPre_finite8)
    ∧ preserves_Kernel9_Kernel9Ideal
    ∧ algebraic_Kernel9Ideal_Reference9Ideal_pre_finite9 (hKernel9Ideal := hKernel9Ideal) (hReference9Ideal := hReference9Ideal) (hPre_finite9 := hPre_finite9)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Pre_finite.lean ====
abbrev S8320x7168 : Shape := ⟨2, ![8320, 7168]⟩
abbrev S8320x128 : Shape := ⟨2, ![8320, 128]⟩
abbrev S128x512 : Shape := ⟨2, ![128, 512]⟩
abbrev S1x512 : Shape := ⟨2, ![1, 512]⟩
abbrev S8320x1024 : Shape := ⟨2, ![8320, 1024]⟩
abbrev S_ : Shape := ⟨0, ![]⟩

class Facts : Prop where
  bitsLt_bf16_f32 : FTy.bits .bf16 < FTy.bits .f32
  bcast_S_S8320x7168 : S_.BroadcastsInDim S8320x7168 (![] : Fin 0 → Fin S8320x7168.rank)
  reducesTo_S8320x7168_S_d0_1 : S8320x7168.ReducesTo [0, 1] S_
  h_S_ : 0 < S_.numel
  bcast_S_S8320x128 : S_.BroadcastsInDim S8320x128 (![] : Fin 0 → Fin S8320x128.rank)
  reducesTo_S8320x128_S_d0_1 : S8320x128.ReducesTo [0, 1] S_
  bcast_S_S128x512 : S_.BroadcastsInDim S128x512 (![] : Fin 0 → Fin S128x512.rank)
  reducesTo_S128x512_S_d0_1 : S128x512.ReducesTo [0, 1] S_
  bcast_S_S1x512 : S_.BroadcastsInDim S1x512 (![] : Fin 0 → Fin S1x512.rank)
  reducesTo_S1x512_S_d0_1 : S1x512.ReducesTo [0, 1] S_
  bcast_S_S8320x1024 : S_.BroadcastsInDim S8320x1024 (![] : Fin 0 → Fin S8320x1024.rank)
  reducesTo_S8320x1024_S_d0_1 : S8320x1024.ReducesTo [0, 1] S_

variable [Facts]

def fn_part1 {F : FTy → Type} [FloatOps F] (main_arg4 : FVec F S8320x1024 .bf16) (main_v16 : IVec S_ 1) (main_v17 : FVec F S1x512 .f32) : IVec S_ 1 :=
  let main_cst_4 : FVec F S_ .f32 := constant S_ .f32 0x7F800000#32
  let main_v18 : FVec F S1x512 .f32 := broadcastInDim S1x512 ![] bcast_S_S1x512 main_cst_4
  let main_v19 : IVec S1x512 1 := cmpf .olt main_v17 main_v18
  let main_c_5 : IVec S_ 1 := constantI S_ 1 1#1
  let main_v20 : IVec S_ 1 := (fun x v => Host.reduce IntOp.andi x v reducesTo_S1x512_S_d0_1 h_S_) main_v19 main_c_5
  let main_v21 : IVec S_ 1 := andi main_v16 main_v20
  let main_v22 : FVec F S8320x1024 .f32 := (extf .f32 · bitsLt_bf16_f32) main_arg4
  let main_v23 : FVec F S8320x1024 .f32 := Host.absf main_v22
  let main_cst_6 : FVec F S_ .f32 := constant S_ .f32 0x7F800000#32
  let main_v24 : FVec F S8320x1024 .f32 := broadcastInDim S8320x1024 ![] bcast_S_S8320x1024 main_cst_6
  let main_v25 : IVec S8320x1024 1 := cmpf .olt main_v23 main_v24
  let main_c_7 : IVec S_ 1 := constantI S_ 1 1#1
  let main_v26 : IVec S_ 1 := (fun x v => Host.reduce IntOp.andi x v reducesTo_S8320x1024_S_d0_1 h_S_) main_v25 main_c_7
  let main_v27 : IVec S_ 1 := andi main_v21 main_v26
  main_v27

def fn {F : FTy → Type} [FloatOps F] (main_arg0 : FVec F S8320x7168 .bf16) (main_arg1 : FVec F S8320x128 .bf16) (main_arg2 : FVec F S128x512 .bf16) (main_arg3 : FVec F S1x512 .f32) (main_arg4 : FVec F S8320x1024 .bf16) (main_arg5 : FVec F S8320x7168 .bf16) : IVec S_ 1 :=
  let main_v0 : FVec F S8320x7168 .f32 := (extf .f32 · bitsLt_bf16_f32) main_arg0
  let main_v1 : FVec F S8320x7168 .f32 := Host.absf main_v0
  let main_cst : FVec F S_ .f32 := constant S_ .f32 0x7F800000#32
  let main_v2 : FVec F S8320x7168 .f32 := broadcastInDim S8320x7168 ![] bcast_S_S8320x7168 main_cst
  let main_v3 : IVec S8320x7168 1 := cmpf .olt main_v1 main_v2
  let main_c : IVec S_ 1 := constantI S_ 1 1#1
  let main_v4 : IVec S_ 1 := (fun x v => Host.reduce IntOp.andi x v reducesTo_S8320x7168_S_d0_1 h_S_) main_v3 main_c
  let main_v5 : FVec F S8320x128 .f32 := (extf .f32 · bitsLt_bf16_f32) main_arg1
  let main_v6 : FVec F S8320x128 .f32 := Host.absf main_v5
  let main_cst_0 : FVec F S_ .f32 := constant S_ .f32 0x7F800000#32
  let main_v7 : FVec F S8320x128 .f32 := broadcastInDim S8320x128 ![] bcast_S_S8320x128 main_cst_0
  let main_v8 : IVec S8320x128 1 := cmpf .olt main_v6 main_v7
  let main_c_1 : IVec S_ 1 := constantI S_ 1 1#1
  let main_v9 : IVec S_ 1 := (fun x v => Host.reduce IntOp.andi x v reducesTo_S8320x128_S_d0_1 h_S_) main_v8 main_c_1
  let main_v10 : IVec S_ 1 := andi main_v4 main_v9
  let main_v11 : FVec F S128x512 .f32 := (extf .f32 · bitsLt_bf16_f32) main_arg2
  let main_v12 : FVec F S128x512 .f32 := Host.absf main_v11
  let main_cst_2 : FVec F S_ .f32 := constant S_ .f32 0x7F800000#32
  let main_v13 : FVec F S128x512 .f32 := broadcastInDim S128x512 ![] bcast_S_S128x512 main_cst_2
  let main_v14 : IVec S128x512 1 := cmpf .olt main_v12 main_v13
  let main_c_3 : IVec S_ 1 := constantI S_ 1 1#1
  let main_v15 : IVec S_ 1 := (fun x v => Host.reduce IntOp.andi x v reducesTo_S128x512_S_d0_1 h_S_) main_v14 main_c_3
  let main_v16 : IVec S_ 1 := andi main_v10 main_v15
  let main_v17 : FVec F S1x512 .f32 := Host.absf main_arg3
  fn_part1 (F := F) main_arg4 main_v16 main_v17
-- ==== Pre_finite8.lean ====
abbrev S8320x5632 : Shape := ⟨2, ![8320, 5632]⟩
abbrev S5632x1024 : Shape := ⟨2, ![5632, 1024]⟩
abbrev S8320x1024 : Shape := ⟨2, ![8320, 1024]⟩
abbrev S1x1024 : Shape := ⟨2, ![1, 1024]⟩
abbrev S_ : Shape := ⟨0, ![]⟩

class Facts : Prop where
  bitsLt_bf16_f32 : FTy.bits .bf16 < FTy.bits .f32
  bcast_S_S8320x5632 : S_.BroadcastsInDim S8320x5632 (![] : Fin 0 → Fin S8320x5632.rank)
  reducesTo_S8320x5632_S_d0_1 : S8320x5632.ReducesTo [0, 1] S_
  h_S_ : 0 < S_.numel
  bcast_S_S5632x1024 : S_.BroadcastsInDim S5632x1024 (![] : Fin 0 → Fin S5632x1024.rank)
  reducesTo_S5632x1024_S_d0_1 : S5632x1024.ReducesTo [0, 1] S_
  bcast_S_S8320x1024 : S_.BroadcastsInDim S8320x1024 (![] : Fin 0 → Fin S8320x1024.rank)
  reducesTo_S8320x1024_S_d0_1 : S8320x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v15 : IVec S_ 1) (main_v16 : FVec F S1x1024 .f32) (main_cst_4 : FVec F S_ .f32) : IVec S_ 1 :=
  let main_v17 : FVec F S1x1024 .f32 := broadcastInDim S1x1024 ![] bcast_S_S1x1024 main_cst_4
  let main_v18 : IVec S1x1024 1 := cmpf .olt main_v16 main_v17
  let main_c_5 : IVec S_ 1 := constantI S_ 1 1#1
  let main_v19 : IVec S_ 1 := (fun x v => Host.reduce IntOp.andi x v reducesTo_S1x1024_S_d0_1 h_S_) main_v18 main_c_5
  let main_v20 : IVec S_ 1 := andi main_v15 main_v19
  main_v20

def fn {F : FTy → Type} [FloatOps F] (main_arg0 : FVec F S8320x5632 .bf16) (main_arg1 : FVec F S5632x1024 .bf16) (main_arg2 : FVec F S8320x1024 .f32) (main_arg3 : FVec F S1x1024 .f32) (main_arg4 : FVec F S8320x1024 .f32) : IVec S_ 1 :=
  let main_v0 : FVec F S8320x5632 .f32 := (extf .f32 · bitsLt_bf16_f32) main_arg0
  let main_v1 : FVec F S8320x5632 .f32 := Host.absf main_v0
  let main_cst : FVec F S_ .f32 := constant S_ .f32 0x7F800000#32
  let main_v2 : FVec F S8320x5632 .f32 := broadcastInDim S8320x5632 ![] bcast_S_S8320x5632 main_cst
  let main_v3 : IVec S8320x5632 1 := cmpf .olt main_v1 main_v2
  let main_c : IVec S_ 1 := constantI S_ 1 1#1
  let main_v4 : IVec S_ 1 := (fun x v => Host.reduce IntOp.andi x v reducesTo_S8320x5632_S_d0_1 h_S_) main_v3 main_c
  let main_v5 : FVec F S5632x1024 .f32 := (extf .f32 · bitsLt_bf16_f32) main_arg1
  let main_v6 : FVec F S5632x1024 .f32 := Host.absf main_v5
  let main_cst_0 : FVec F S_ .f32 := constant S_ .f32 0x7F800000#32
  let main_v7 : FVec F S5632x1024 .f32 := broadcastInDim S5632x1024 ![] bcast_S_S5632x1024 main_cst_0
  let main_v8 : IVec S5632x1024 1 := cmpf .olt main_v6 main_v7
  let main_c_1 : IVec S_ 1 := constantI S_ 1 1#1
  let main_v9 : IVec S_ 1 := (fun x v => Host.reduce IntOp.andi x v reducesTo_S5632x1024_S_d0_1 h_S_) main_v8 main_c_1
  let main_v10 : IVec S_ 1 := andi main_v4 main_v9
  let main_v11 : FVec F S8320x1024 .f32 := Host.absf main_arg2
  let main_cst_2 : FVec F S_ .f32 := constant S_ .f32 0x7F800000#32
  let main_v12 : FVec F S8320x1024 .f32 := broadcastInDim S8320x1024 ![] bcast_S_S8320x1024 main_cst_2
  let main_v13 : IVec S8320x1024 1 := cmpf .olt main_v11 main_v12
  let main_c_3 : IVec S_ 1 := constantI S_ 1 1#1
  let main_v14 : IVec S_ 1 := (fun x v => Host.reduce IntOp.andi x v reducesTo_S8320x1024_S_d0_1 h_S_) main_v13 main_c_3
  let main_v15 : IVec S_ 1 := andi main_v10 main_v14
  let main_v16 : FVec F S1x1024 .f32 := Host.absf main_arg3
  let main_cst_4 : FVec F S_ .f32 := constant S_ .f32 0x7F800000#32
  fn_part1 (F := F) main_v15 main_v16 main_cst_4
-- ==== Pre_finite9.lean ====
abbrev S8320x7168 : Shape := ⟨2, ![8320, 7168]⟩
abbrev S7168x1024 : Shape := ⟨2, ![7168, 1024]⟩
abbrev S8320x1024 : Shape := ⟨2, ![8320, 1024]⟩
abbrev S1x1024 : Shape := ⟨2, ![1, 1024]⟩
abbrev S8320x128 : Shape := ⟨2, ![8320, 128]⟩
abbrev S128x1024 : Shape := ⟨2, ![128, 1024]⟩
abbrev S_ : Shape := ⟨0, ![]⟩

class Facts : Prop where
  bitsLt_bf16_f32 : FTy.bits .bf16 < FTy.bits .f32
  bcast_S_S8320x7168 : S_.BroadcastsInDim S8320x7168 (![] : Fin 0 → Fin S8320x7168.rank)
  reducesTo_S8320x7168_S_d0_1 : S8320x7168.ReducesTo [0, 1] S_
  h_S_ : 0 < S_.numel
  bcast_S_S7168x1024 : S_.BroadcastsInDim S7168x1024 (![] : Fin 0 → Fin S7168x1024.rank)
  reducesTo_S7168x1024_S_d0_1 : S7168x1024.ReducesTo [0, 1] S_
  bcast_S_S8320x1024 : S_.BroadcastsInDim S8320x1024 (![] : Fin 0 → Fin S8320x1024.rank)
  reducesTo_S8320x1024_S_d0_1 : S8320x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S8320x128 : S_.BroadcastsInDim S8320x128 (![] : Fin 0 → Fin S8320x128.rank)
  reducesTo_S8320x128_S_d0_1 : S8320x128.ReducesTo [0, 1] S_
  bcast_S_S128x1024 : S_.BroadcastsInDim S128x1024 (![] : Fin 0 → Fin S128x1024.rank)
  reducesTo_S128x1024_S_d0_1 : S128x1024.ReducesTo [0, 1] S_

variable [Facts]

def fn_part1 {F : FTy → Type} [FloatOps F] (main_arg5 : FVec F S8320x128 .bf16) (main_arg6 : FVec F S128x1024 .bf16) (main_v15 : IVec S_ 1) (main_v16 : FVec F S1x1024 .f32) (main_cst_4 : FVec F S_ .f32) : IVec S_ 1 :=
  let main_v17 : FVec F S1x1024 .f32 := broadcastInDim S1x1024 ![] bcast_S_S1x1024 main_cst_4
  let main_v18 : IVec S1x1024 1 := cmpf .olt main_v16 main_v17
  let main_c_5 : IVec S_ 1 := constantI S_ 1 1#1
  let main_v19 : IVec S_ 1 := (fun x v => Host.reduce IntOp.andi x v reducesTo_S1x1024_S_d0_1 h_S_) main_v18 main_c_5
  let main_v20 : IVec S_ 1 := andi main_v15 main_v19
  let main_v21 : FVec F S8320x128 .f32 := (extf .f32 · bitsLt_bf16_f32) main_arg5
  let main_v22 : FVec F S8320x128 .f32 := Host.absf main_v21
  let main_cst_6 : FVec F S_ .f32 := constant S_ .f32 0x7F800000#32
  let main_v23 : FVec F S8320x128 .f32 := broadcastInDim S8320x128 ![] bcast_S_S8320x128 main_cst_6
  let main_v24 : IVec S8320x128 1 := cmpf .olt main_v22 main_v23
  let main_c_7 : IVec S_ 1 := constantI S_ 1 1#1
  let main_v25 : IVec S_ 1 := (fun x v => Host.reduce IntOp.andi x v reducesTo_S8320x128_S_d0_1 h_S_) main_v24 main_c_7
  let main_v26 : IVec S_ 1 := andi main_v20 main_v25
  let main_v27 : FVec F S128x1024 .f32 := (extf .f32 · bitsLt_bf16_f32) main_arg6
  let main_v28 : FVec F S128x1024 .f32 := Host.absf main_v27
  let main_cst_8 : FVec F S_ .f32 := constant S_ .f32 0x7F800000#32
  let main_v29 : FVec F S128x1024 .f32 := broadcastInDim S128x1024 ![] bcast_S_S128x1024 main_cst_8
  let main_v30 : IVec S128x1024 1 := cmpf .olt main_v28 main_v29
  let main_c_9 : IVec S_ 1 := constantI S_ 1 1#1
  let main_v31 : IVec S_ 1 := (fun x v => Host.reduce IntOp.andi x v reducesTo_S128x1024_S_d0_1 h_S_) main_v30 main_c_9
  let main_v32 : IVec S_ 1 := andi main_v26 main_v31
  main_v32

def fn {F : FTy → Type} [FloatOps F] (main_arg0 : FVec F S8320x7168 .bf16) (main_arg1 : FVec F S7168x1024 .bf16) (main_arg2 : FVec F S8320x1024 .f32) (main_arg3 : FVec F S1x1024 .f32) (main_arg4 : FVec F S8320x1024 .f32) (main_arg5 : FVec F S8320x128 .bf16) (main_arg6 : FVec F S128x1024 .bf16) : IVec S_ 1 :=
  let main_v0 : FVec F S8320x7168 .f32 := (extf .f32 · bitsLt_bf16_f32) main_arg0
  let main_v1 : FVec F S8320x7168 .f32 := Host.absf main_v0
  let main_cst : FVec F S_ .f32 := constant S_ .f32 0x7F800000#32
  let main_v2 : FVec F S8320x7168 .f32 := broadcastInDim S8320x7168 ![] bcast_S_S8320x7168 main_cst
  let main_v3 : IVec S8320x7168 1 := cmpf .olt main_v1 main_v2
  let main_c : IVec S_ 1 := constantI S_ 1 1#1
  let main_v4 : IVec S_ 1 := (fun x v => Host.reduce IntOp.andi x v reducesTo_S8320x7168_S_d0_1 h_S_) main_v3 main_c
  let main_v5 : FVec F S7168x1024 .f32 := (extf .f32 · bitsLt_bf16_f32) main_arg1
  let main_v6 : FVec F S7168x1024 .f32 := Host.absf main_v5
  let main_cst_0 : FVec F S_ .f32 := constant S_ .f32 0x7F800000#32
  let main_v7 : FVec F S7168x1024 .f32 := broadcastInDim S7168x1024 ![] bcast_S_S7168x1024 main_cst_0
  let main_v8 : IVec S7168x1024 1 := cmpf .olt main_v6 main_v7
  let main_c_1 : IVec S_ 1 := constantI S_ 1 1#1
  let main_v9 : IVec S_ 1 := (fun x v => Host.reduce IntOp.andi x v reducesTo_S7168x1024_S_d0_1 h_S_) main_v8 main_c_1
  let main_v10 : IVec S_ 1 := andi main_v4 main_v9
  let main_v11 : FVec F S8320x1024 .f32 := Host.absf main_arg2
  let main_cst_2 : FVec F S_ .f32 := constant S_ .f32 0x7F800000#32
  let main_v12 : FVec F S8320x1024 .f32 := broadcastInDim S8320x1024 ![] bcast_S_S8320x1024 main_cst_2
  let main_v13 : IVec S8320x1024 1 := cmpf .olt main_v11 main_v12
  let main_c_3 : IVec S_ 1 := constantI S_ 1 1#1
  let main_v14 : IVec S_ 1 := (fun x v => Host.reduce IntOp.andi x v reducesTo_S8320x1024_S_d0_1 h_S_) main_v13 main_c_3
  let main_v15 : IVec S_ 1 := andi main_v10 main_v14
  let main_v16 : FVec F S1x1024 .f32 := Host.absf main_arg3
  let main_cst_4 : FVec F S_ .f32 := constant S_ .f32 0x7F800000#32
  fn_part1 (F := F) main_arg5 main_arg6 main_v15 main_v16 main_cst_4
-- ==== Kernel.lean ====
abbrev S8320x7168 : Shape := ⟨2, ![8320, 7168]⟩
abbrev S8320x128 : Shape := ⟨2, ![8320, 128]⟩
abbrev S128x512 : Shape := ⟨2, ![128, 512]⟩
abbrev S1x512 : Shape := ⟨2, ![1, 512]⟩
abbrev S8320x1024 : Shape := ⟨2, ![8320, 1024]⟩
abbrev S8320x512 : Shape := ⟨2, ![8320, 512]⟩
abbrev S_ : Shape := ⟨0, ![]⟩
abbrev S8320x4x128 : Shape := ⟨3, ![8320, 4, 128]⟩
abbrev S4x8320x128 : Shape := ⟨3, ![4, 8320, 128]⟩
abbrev S8320x4x256 : Shape := ⟨3, ![8320, 4, 256]⟩
abbrev S4x8320x256 : Shape := ⟨3, ![4, 8320, 256]⟩
abbrev S4x65x128x128 : Shape := ⟨4, ![4, 65, 128, 128]⟩
abbrev S4x65x1x128 : Shape := ⟨4, ![4, 65, 1, 128]⟩
abbrev S4x65x128 : Shape := ⟨3, ![4, 65, 128]⟩
abbrev S8320 : Shape := ⟨1, ![8320]⟩
abbrev S1x8320 : Shape := ⟨2, ![1, 8320]⟩
abbrev S65 : Shape := ⟨1, ![65]⟩
abbrev S65x1 : Shape := ⟨2, ![65, 1]⟩
abbrev S65x8320 : Shape := ⟨2, ![65, 8320]⟩
abbrev S65x8320x1 : Shape := ⟨3, ![65, 8320, 1]⟩
abbrev S4x1x8320x128 : Shape := ⟨4, ![4, 1, 8320, 128]⟩
abbrev S4x65x8320x128 : Shape := ⟨4, ![4, 65, 8320, 128]⟩
abbrev S4x256x65x128 : Shape := ⟨4, ![4, 256, 65, 128]⟩
abbrev S4x65x256x128 : Shape := ⟨4, ![4, 65, 256, 128]⟩
abbrev S65x4x256x128 : Shape := ⟨4, ![65, 4, 256, 128]⟩
abbrev S65x1024x128 : Shape := ⟨3, ![65, 1024, 128]⟩
abbrev S8x512 : Shape := ⟨2, ![8, 512]⟩
abbrev S128x1024 : Shape := ⟨2, ![128, 1024]⟩
abbrev S128x128 : Shape := ⟨2, ![128, 128]⟩
abbrev S1x1024x128 : Shape := ⟨3, ![1, 1024, 128]⟩
abbrev S128x2048 : Shape := ⟨2, ![128, 2048]⟩
abbrev S1024x128 : Shape := ⟨2, ![1024, 128]⟩
abbrev S1x128 : Shape := ⟨2, ![1, 128]⟩
abbrev S128x256 : Shape := ⟨2, ![128, 256]⟩
abbrev S1x256x128 : Shape := ⟨3, ![1, 256, 128]⟩
abbrev S256x128 : Shape := ⟨2, ![256, 128]⟩
abbrev S128 : Shape := ⟨1, ![128]⟩
abbrev S16x8x512 : Shape := ⟨3, ![16, 8, 512]⟩

abbrev nBuf : Space → Nat
  | .hbm => 86
  | .vmem => 21
  | .smem => 0
  | _ => 0

abbrev bufTy : (tb : Table) → Fin (tcTables nBuf tb) → BufTy
  | .hbm, ⟨0, _⟩ => ⟨S8320x7168, .bf16⟩
  | .hbm, ⟨1, _⟩ => ⟨S8320x128, .bf16⟩
  | .hbm, ⟨2, _⟩ => ⟨S128x512, .bf16⟩
  | .hbm, ⟨3, _⟩ => ⟨S1x512, .f32⟩
  | .hbm, ⟨4, _⟩ => ⟨S8320x1024, .bf16⟩
  | .hbm, ⟨5, _⟩ => ⟨S8320x7168, .bf16⟩
  | .hbm, ⟨6, _⟩ => ⟨S8320x7168, .f32⟩
  | .hbm, ⟨7, _⟩ => ⟨S8320x128, .f32⟩
  | .hbm, ⟨8, _⟩ => ⟨S128x512, .f32⟩
  | .hbm, ⟨9, _⟩ => ⟨S8320x512, .f32⟩
  | .hbm, ⟨10, _⟩ => ⟨S8320x512, .f32⟩
  | .hbm, ⟨11, _⟩ => ⟨S8320x512, .f32⟩
  | .hbm, ⟨12, _⟩ => ⟨S8320x512, .f32⟩
  | .hbm, ⟨13, _⟩ => ⟨S_, .f32⟩
  | .hbm, ⟨14, _⟩ => ⟨S8320x512, .f32⟩
  | .hbm, ⟨15, _⟩ => ⟨S8320x512, .f32⟩
  | .hbm, ⟨16, _⟩ => ⟨S8320x512, .f32⟩
  | .hbm, ⟨17, _⟩ => ⟨S8320x512, .f32⟩
  | .hbm, ⟨18, _⟩ => ⟨S8320x512, .i1⟩
  | .hbm, ⟨19, _⟩ => ⟨S8320x512, .f32⟩
  | .hbm, ⟨20, _⟩ => ⟨S8320x512, .f32⟩
  | .hbm, ⟨21, _⟩ => ⟨S8320x512, .f32⟩
  | .hbm, ⟨22, _⟩ => ⟨S8320x512, .f32⟩
  | .hbm, ⟨23, _⟩ => ⟨S8320x512, .f32⟩
  | .hbm, ⟨24, _⟩ => ⟨S8320x512, .f32⟩
  | .hbm, ⟨25, _⟩ => ⟨S8320x512, .f32⟩
  | .hbm, ⟨26, _⟩ => ⟨S8320x512, .f32⟩
  | .hbm, ⟨27, _⟩ => ⟨S8320x512, .f32⟩
  | .hbm, ⟨28, _⟩ => ⟨S_, .f32⟩
  | .hbm, ⟨29, _⟩ => ⟨S8320x512, .f32⟩
  | .hbm, ⟨30, _⟩ => ⟨S8320x512, .f32⟩
  | .hbm, ⟨31, _⟩ => ⟨S_, .f32⟩
  | .hbm, ⟨32, _⟩ => ⟨S_, .f32⟩
  | .hbm, ⟨33, _⟩ => ⟨S8320x512, .f32⟩
  | .hbm, ⟨34, _⟩ => ⟨S8320x512, .f32⟩
  | .hbm, ⟨35, _⟩ => ⟨S8320x4x128, .f32⟩
  | .hbm, ⟨36, _⟩ => ⟨S4x8320x128, .f32⟩
  | .hbm, ⟨37, _⟩ => ⟨S8320x1024, .f32⟩
  | .hbm, ⟨38, _⟩ => ⟨S8320x4x256, .f32⟩
  | .hbm, ⟨39, _⟩ => ⟨S4x8320x256, .f32⟩
  | .hbm, ⟨40, _⟩ => ⟨S8320x4x128, .f32⟩
  | .hbm, ⟨41, _⟩ => ⟨S4x8320x128, .f32⟩
  | .hbm, ⟨42, _⟩ => ⟨S8320x512, .f32⟩
  | .hbm, ⟨43, _⟩ => ⟨S8320x4x128, .f32⟩
  | .hbm, ⟨44, _⟩ => ⟨S4x8320x128, .f32⟩
  | .hbm, ⟨45, _⟩ => ⟨S4x65x128x128, .f32⟩
  | .hbm, ⟨46, _⟩ => ⟨S4x65x1x128, .f32⟩
  | .hbm, ⟨47, _⟩ => ⟨S4x65x128, .f32⟩
  | .hbm, ⟨48, _⟩ => ⟨S8320, .i32⟩
  | .hbm, ⟨49, _⟩ => ⟨S1x8320, .i32⟩
  | .hbm, ⟨50, _⟩ => ⟨S65, .i32⟩
  | .hbm, ⟨51, _⟩ => ⟨S65x1, .i32⟩
  | .hbm, ⟨52, _⟩ => ⟨S_, .i32⟩
  | .hbm, ⟨53, _⟩ => ⟨S65x1, .i32⟩
  | .hbm, ⟨54, _⟩ => ⟨S65x1, .i32⟩
  | .hbm, ⟨55, _⟩ => ⟨S65x8320, .i32⟩
  | .hbm, ⟨56, _⟩ => ⟨S65x8320, .i32⟩
  | .hbm, ⟨57, _⟩ => ⟨S65x8320, .i1⟩
  | .hbm, ⟨58, _⟩ => ⟨S65x8320x1, .i1⟩
  | .hbm, ⟨59, _⟩ => ⟨S4x65x1x128, .f32⟩
  | .hbm, ⟨60, _⟩ => ⟨S4x1x8320x128, .f32⟩
  | .hbm, ⟨61, _⟩ => ⟨S4x65x8320x128, .f32⟩
  | .hbm, ⟨62, _⟩ => ⟨S4x65x8320x128, .f32⟩
  | .hbm, ⟨63, _⟩ => ⟨S4x65x8320x128, .f32⟩
  | .hbm, ⟨64, _⟩ => ⟨S_, .f32⟩
  | .hbm, ⟨65, _⟩ => ⟨S_, .f32⟩
  | .hbm, ⟨66, _⟩ => ⟨S4x65x8320x128, .i1⟩
  | .hbm, ⟨67, _⟩ => ⟨S4x65x8320x128, .f32⟩
  | .hbm, ⟨68, _⟩ => ⟨S4x65x8320x128, .f32⟩
  | .hbm, ⟨69, _⟩ => ⟨S4x65x8320x128, .f32⟩
  | .hbm, ⟨70, _⟩ => ⟨S_, .f32⟩
  | .hbm, ⟨71, _⟩ => ⟨S_, .f32⟩
  | .hbm, ⟨72, _⟩ => ⟨S4x65x8320x128, .i1⟩
  | .hbm, ⟨73, _⟩ => ⟨S4x65x8320x128, .f32⟩
  | .hbm, ⟨74, _⟩ => ⟨S4x65x8320x128, .f32⟩
  | .hbm, ⟨75, _⟩ => ⟨S4x1x8320x128, .f32⟩
  | .hbm, ⟨76, _⟩ => ⟨S4x65x8320x128, .f32⟩
  | .hbm, ⟨77, _⟩ => ⟨S4x65x8320x128, .f32⟩
  | .hbm, ⟨78, _⟩ => ⟨S4x256x65x128, .f32⟩
  | .hbm, ⟨79, _⟩ => ⟨S4x65x256x128, .f32⟩
  | .hbm, ⟨80, _⟩ => ⟨S65x4x256x128, .f32⟩
  | .hbm, ⟨81, _⟩ => ⟨S65x1024x128, .f32⟩
  | .hbm, ⟨82, _⟩ => ⟨S8320x7168, .bf16⟩
  | .hbm, ⟨83, _⟩ => ⟨S8320x128, .bf16⟩
  | .hbm, ⟨84, _⟩ => ⟨S128x512, .f32⟩
  | .hbm, ⟨85, _⟩ => ⟨S8x512, .f32⟩
  | .local _ .vmem, ⟨0, _⟩ => ⟨S128x1024, .bf16⟩
  | .local _ .vmem, ⟨1, _⟩ => ⟨S128x1024, .bf16⟩
  | .local _ .vmem, ⟨2, _⟩ => ⟨S128x1024, .bf16⟩
  | .local _ .vmem, ⟨3, _⟩ => ⟨S128x1024, .bf16⟩
  | .local _ .vmem, ⟨4, _⟩ => ⟨S128x128, .bf16⟩
  | .local _ .vmem, ⟨5, _⟩ => ⟨S128x128, .bf16⟩
  | .local _ .vmem, ⟨6, _⟩ => ⟨S128x512, .bf16⟩
  | .local _ .vmem, ⟨7, _⟩ => ⟨S1x512, .f32⟩
  | .local _ .vmem, ⟨8, _⟩ => ⟨S128x1024, .bf16⟩
  | .local _ .vmem, ⟨9, _⟩ => ⟨S128x1024, .bf16⟩
  | .local _ .vmem, ⟨10, _⟩ => ⟨S1x1024x128, .f32⟩
  | .local _ .vmem, ⟨11, _⟩ => ⟨S1x1024x128, .f32⟩
  | .local _ .vmem, ⟨12, _⟩ => ⟨S128x2048, .bf16⟩
  | .local _ .vmem, ⟨13, _⟩ => ⟨S128x2048, .bf16⟩
  | .local _ .vmem, ⟨14, _⟩ => ⟨S128x128, .bf16⟩
  | .local _ .vmem, ⟨15, _⟩ => ⟨S128x128, .bf16⟩
  | .local _ .vmem, ⟨16, _⟩ => ⟨S128x512, .f32⟩
  | .local _ .vmem, ⟨17, _⟩ => ⟨S8x512, .f32⟩
  | .local _ .vmem, ⟨18, _⟩ => ⟨S1024x128, .f32⟩
  | .local _ .vmem, ⟨19, _⟩ => ⟨S128x512, .f32⟩
  | .local _ .vmem, ⟨20, _⟩ => ⟨S128x512, .f32⟩
  | _, _ => ⟨S8320x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_v0 : Ref sig .tc := ⟨.hbm, 12, rfl⟩
abbrev main_call0_call0_cst : Ref sig .tc := ⟨.hbm, 13, rfl⟩
abbrev main_call0_call0_v0 : Ref sig .tc := ⟨.hbm, 14, rfl⟩
abbrev main_call0_call0_v1 : Ref sig .tc := ⟨.hbm, 15, rfl⟩
abbrev main_call0_call0_v2 : Ref sig .tc := ⟨.hbm, 16, rfl⟩
abbrev main_call0_call0_v3 : Ref sig .tc := ⟨.hbm, 17, rfl⟩
abbrev main_call0_call0_v4 : Ref sig .tc := ⟨.hbm, 18, rfl⟩
abbrev main_call0_call0_v5 : Ref sig .tc := ⟨.hbm, 19, rfl⟩
abbrev main_call0_call0_v6 : Ref sig .tc := ⟨.hbm, 20, rfl⟩
abbrev main_call0_call0_v7 : Ref sig .tc := ⟨.hbm, 21, rfl⟩
abbrev main_call0_call0_v8 : Ref sig .tc := ⟨.hbm, 22, rfl⟩
abbrev main_call0_call0_v9 : Ref sig .tc := ⟨.hbm, 23, rfl⟩
abbrev main_call0_call0_v10 : Ref sig .tc := ⟨.hbm, 24, rfl⟩
abbrev main_call0_call0_v11 : Ref sig .tc := ⟨.hbm, 25, rfl⟩
abbrev main_call0_v1 : Ref sig .tc := ⟨.hbm, 26, rfl⟩
abbrev main_v6 : Ref sig .tc := ⟨.hbm, 27, rfl⟩
abbrev main_cst : Ref sig .tc := ⟨.hbm, 28, rfl⟩
abbrev main_v7 : Ref sig .tc := ⟨.hbm, 29, rfl⟩
abbrev main_v8 : Ref sig .tc := ⟨.hbm, 30, rfl⟩
abbrev main_call1_call0_cst : Ref sig .tc := ⟨.hbm, 31, rfl⟩
abbrev main_call1_call0_v0 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_c : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_0 : Ref sig .tc := ⟨.hbm, 64, rfl⟩
abbrev main_call2_v0 : Ref sig .tc := ⟨.hbm, 65, rfl⟩
abbrev main_call2_v1 : Ref sig .tc := ⟨.hbm, 66, rfl⟩
abbrev main_call2_v2 : Ref sig .tc := ⟨.hbm, 67, rfl⟩
abbrev main_v39 : Ref sig .tc := ⟨.hbm, 68, rfl⟩
abbrev main_v40 : Ref sig .tc := ⟨.hbm, 69, rfl⟩
abbrev main_cst_1 : Ref sig .tc := ⟨.hbm, 70, rfl⟩
abbrev main_call3_v0 : Ref sig .tc := ⟨.hbm, 71, rfl⟩
abbrev main_call3_v1 : Ref sig .tc := ⟨.hbm, 72, rfl⟩
abbrev main_call3_v2 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49_0 : Ref sig .tc := ⟨.hbm, 82, rfl⟩
abbrev main_v49_1 : Ref sig .tc := ⟨.hbm, 83, rfl⟩
abbrev main_v49_2 : Ref sig .tc := ⟨.hbm, 84, rfl⟩
abbrev main_v49_3 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c64_i32 : BitVec 32 := 64#32
  let v0 : BitVec 32 := Scalar.subi c64_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.subi c64_i32 arg0
  let c1_i32 : BitVec 32 := 1#32
  let c0_i32 : BitVec 32 := 0#32
  ![v0.toNat, c1_i32.toNat]

def cc0_transform_2 (i : grid0.Coords) : Fin 2 → Nat :=
  let arg0 : BitVec 32 := BitVec.ofNat 32 (i 0).val
  let c64_i32 : BitVec 32 := 64#32
  let v0 : BitVec 32 := Scalar.subi c64_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c64_i32 : BitVec 32 := 64#32
  let v0 : BitVec 32 := Scalar.subi c64_i32 arg0
  let c0_i32 : BitVec 32 := 0#32
  let c0_i32_0 : BitVec 32 := 0#32
  ![v0.toNat, c0_i32.toNat]

def cc0_transform_6 (i : grid0.Coords) : Fin 3 → Nat :=
  let arg0 : BitVec 32 := BitVec.ofNat 32 (i 0).val
  let c64_i32 : BitVec 32 := 64#32
  let v0 : BitVec 32 := Scalar.subi c64_i32 arg0
  let c0_i32 : BitVec 32 := 0#32
  let c0_i32_0 : BitVec 32 := 0#32
  let c0_i32_1 : BitVec 32 := 0#32
  ![v0.toNat, c0_i32.toNat, c0_i32_0.toNat]

def cc0_transform_8 (i : grid0.Coords) : Fin 2 → Nat :=
  let arg0 : BitVec 32 := BitVec.ofNat 32 (i 0).val
  let c64_i32 : BitVec 32 := 64#32
  let v0 : BitVec 32 := Scalar.subi c64_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c64_i32 : BitVec 32 := 64#32
  let v0 : BitVec 32 := Scalar.subi c64_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S128x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S8320x7168 : Shape := ⟨2, ![8320, 7168]⟩
abbrev S8320x128 : Shape := ⟨2, ![8320, 128]⟩
abbrev S128x512 : Shape := ⟨2, ![128, 512]⟩
abbrev S1x512 : Shape := ⟨2, ![1, 512]⟩
abbrev S8320x1024 : Shape := ⟨2, ![8320, 1024]⟩
abbrev S8320x512 : Shape := ⟨2, ![8320, 512]⟩
abbrev S8x512 : Shape := ⟨2, ![8, 512]⟩
abbrev S1x8x512 : Shape := ⟨3, ![1, 8, 512]⟩
abbrev S1040x8x512 : Shape := ⟨3, ![1040, 8, 512]⟩
abbrev S_ : Shape := ⟨0, ![]⟩
abbrev S8320x4x128 : Shape := ⟨3, ![8320, 4, 128]⟩
abbrev S4x8320x128 : Shape := ⟨3, ![4, 8320, 128]⟩
abbrev S8320x4x256 : Shape := ⟨3, ![8320, 4, 256]⟩
abbrev S4x8320x256 : Shape := ⟨3, ![4, 8320, 256]⟩
abbrev S8320x8320 : Shape := ⟨2, ![8320, 8320]⟩
abbrev S8320x8320x1 : Shape := ⟨3, ![8320, 8320, 1]⟩
abbrev S4x8320x1x128 : Shape := ⟨4, ![4, 8320, 1, 128]⟩
abbrev S4x1x8320x128 : Shape := ⟨4, ![4, 1, 8320, 128]⟩
abbrev S4x8320x8320x128 : Shape := ⟨4, ![4, 8320, 8320, 128]⟩
abbrev S4x8320x8320 : Shape := ⟨3, ![4, 8320, 8320]⟩
abbrev S4x256x8320 : Shape := ⟨3, ![4, 256, 8320]⟩
abbrev S512x128 : Shape := ⟨2, ![512, 128]⟩
abbrev S8320x2048 : Shape := ⟨2, ![8320, 2048]⟩
abbrev S8320x5120 : Shape := ⟨2, ![8320, 5120]⟩

abbrev nBuf : Space → Nat
  | .hbm => 200
  | .vmem => 0
  | .smem => 0
  | _ => 0

abbrev hbmTy0_0 (i : Nat) : BufTy := match i % 128 with
  | 0 => ⟨S8320x7168, .bf16⟩
  | 1 => ⟨S8320x128, .bf16⟩
  | 2 => ⟨S128x512, .bf16⟩
  | 3 => ⟨S1x512, .f32⟩
  | 4 => ⟨S8320x1024, .bf16⟩
  | 5 => ⟨S8320x7168, .bf16⟩
  | 6 => ⟨S8320x7168, .f32⟩
  | 7 => ⟨S8320x512, .f32⟩
  | 8 => ⟨S8320x512, .f32⟩
  | 9 => ⟨S8320x1024, .f32⟩
  | 10 => ⟨S8320x128, .f32⟩
  | 11 => ⟨S128x512, .f32⟩
  | 12 => ⟨S8x512, .f32⟩
  | 13 => ⟨S1x8x512, .f32⟩
  | 14 => ⟨S1040x8x512, .f32⟩
  | 15 => ⟨S8320x512, .f32⟩
  | 16 => ⟨S8320x512, .f32⟩
  | 17 => ⟨S8320x512, .f32⟩
  | 18 => ⟨S8320x512, .f32⟩
  | 19 => ⟨S_, .f32⟩
  | 20 => ⟨S8320x512, .f32⟩
  | 21 => ⟨S8320x512, .f32⟩
  | 22 => ⟨S8320x512, .f32⟩
  | 23 => ⟨S8320x512, .f32⟩
  | 24 => ⟨S8320x512, .i1⟩
  | 25 => ⟨S8320x512, .f32⟩
  | 26 => ⟨S8320x512, .f32⟩
  | 27 => ⟨S8320x512, .f32⟩
  | 28 => ⟨S8320x512, .f32⟩
  | 29 => ⟨S8320x512, .f32⟩
  | 30 => ⟨S8320x512, .f32⟩
  | 31 => ⟨S8320x512, .f32⟩
  | 32 => ⟨S8320x512, .f32⟩
  | 33 => ⟨S_, .f32⟩
  | 34 => ⟨S8320x512, .f32⟩
  | 35 => ⟨S8320x512, .i1⟩
  | 36 => ⟨S_, .f32⟩
  | 37 => ⟨S8320x512, .f32⟩
  | 38 => ⟨S8320x512, .f32⟩
  | 39 => ⟨S_, .f32⟩
  | 40 => ⟨S8320x512, .f32⟩
  | 41 => ⟨S8320x512, .i1⟩
  | 42 => ⟨S_, .f32⟩
  | 43 => ⟨S8320x512, .f32⟩
  | 44 => ⟨S8320x512, .f32⟩
  | 45 => ⟨S8320x512, .f32⟩
  | 46 => ⟨S8320x512, .f32⟩
  | 47 => ⟨S_, .f32⟩
  | 48 => ⟨S_, .f32⟩
  | 49 => ⟨S_, .i1⟩
  | 50 => ⟨S_, .f32⟩
  | 51 => ⟨S_, .f32⟩
  | 52 => ⟨S_, .f32⟩
  | 53 => ⟨S_, .f32⟩
  | 54 => ⟨S8320x512, .f32⟩
  | 55 => ⟨S8320x512, .i1⟩
  | 56 => ⟨S_, .f32⟩
  | 57 => ⟨S8320x512, .f32⟩
  | 58 => ⟨S8320x512, .f32⟩
  | 59 => ⟨S8320x512, .f32⟩
  | 60 => ⟨S8320x512, .f32⟩
  | 61 => ⟨S8320x512, .f32⟩
  | 62 => ⟨S_, .f32⟩
  | 63 => ⟨S8320x512, .f32⟩
  | 64 => ⟨S8320x512, .f32⟩
  | 65 => ⟨S8320x512, .f32⟩
  | 66 => ⟨S_, .f32⟩
  | 67 => ⟨S8320x512, .f32⟩
  | 68 => ⟨S8320x512, .f32⟩
  | 69 => ⟨S_, .f32⟩
  | 70 => ⟨S_, .f32⟩
  | 71 => ⟨S8320x512, .f32⟩
  | 72 => ⟨S8320x4x128, .f32⟩
  | 73 => ⟨S4x8320x128, .f32⟩
  | 74 => ⟨S_, .f32⟩
  | 75 => ⟨S4x8320x128, .f32⟩
  | 76 => ⟨S4x8320x128, .f32⟩
  | 77 => ⟨S8320x4x128, .f32⟩
  | 78 => ⟨S4x8320x128, .f32⟩
  | 79 => ⟨S8320x4x256, .f32⟩
  | 80 => ⟨S4x8320x256, .f32⟩
  | 81 => ⟨S8320x4x128, .f32⟩
  | 82 => ⟨S4x8320x128, .f32⟩
  | 83 => ⟨S_, .i1⟩
  | 84 => ⟨S8320x8320, .i1⟩
  | 85 => ⟨S8320x8320, .i32⟩
  | 86 => ⟨S_, .i32⟩
  | 87 => ⟨S8320x8320, .i32⟩
  | 88 => ⟨S8320x8320, .i32⟩
  | 89 => ⟨S8320x8320, .i32⟩
  | 90 => ⟨S8320x8320, .i1⟩
  | 91 => ⟨S_, .i1⟩
  | 92 => ⟨S8320x8320, .i1⟩
  | 93 => ⟨S8320x8320, .i1⟩
  | 94 => ⟨S8320x8320x1, .i1⟩
  | 95 => ⟨S4x8320x1x128, .f32⟩
  | 96 => ⟨S4x1x8320x128, .f32⟩
  | 97 => ⟨S4x8320x8320x128, .f32⟩
  | 98 => ⟨S4x8320x8320x128, .f32⟩
  | 99 => ⟨S4x8320x8320x128, .f32⟩
  | 100 => ⟨S_, .f32⟩
  | 101 => ⟨S_, .f32⟩
  | 102 => ⟨S4x8320x8320x128, .i1⟩
  | 103 => ⟨S4x8320x8320x128, .f32⟩
  | 104 => ⟨S4x8320x8320x128, .f32⟩
  | 105 => ⟨S_, .f32⟩
  | 106 => ⟨S4x8320x8320x128, .f32⟩
  | 107 => ⟨S4x8320x8320x128, .f32⟩
  | 108 => ⟨S_, .f32⟩
  | 109 => ⟨S_, .f32⟩
  | 110 => ⟨S4x8320x8320x128, .i1⟩
  | 111 => ⟨S4x8320x8320x128, .f32⟩
  | 112 => ⟨S4x8320x8320x128, .f32⟩
  | 113 => ⟨S_, .f32⟩
  | 114 => ⟨S4x8320x8320x128, .f32⟩
  | 115 => ⟨S4x8320x1x128, .f32⟩
  | 116 => ⟨S4x1x8320x128, .f32⟩
  | 117 => ⟨S4x8320x8320x128, .f32⟩
  | 118 => ⟨S4x8320x8320x128, .f32⟩
  | 119 => ⟨S4x8320x8320x128, .f32⟩
  | 120 => ⟨S4x8320x8320x128, .f32⟩
  | 121 => ⟨S_, .f32⟩
  | 122 => ⟨S4x8320x8320, .f32⟩
  | 123 => ⟨S4x8320x256, .f32⟩
  | 124 => ⟨S8320x1024, .f32⟩
  | 125 => ⟨S8320x4x256, .f32⟩
  | 126 => ⟨S4x8320x256, .f32⟩
  | 127 => ⟨S4x256x8320, .f32⟩
  | _ => ⟨S8320x7168, .bf16⟩

abbrev hbmTy0_1 (i : Nat) : BufTy := match i % 128 with
  | 0 => ⟨S4x8320x256, .f32⟩
  | 1 => ⟨S4x8320x8320, .f32⟩
  | 2 => ⟨S4x8320x8320x128, .f32⟩
  | 3 => ⟨S4x8320x8320x128, .f32⟩
  | 4 => ⟨S4x8320x8320x128, .f32⟩
  | 5 => ⟨S4x8320x8320x128, .f32⟩
  | 6 => ⟨S4x8320x8320x128, .f32⟩
  | 7 => ⟨S_, .f32⟩
  | 8 => ⟨S4x8320x128, .f32⟩
  | 9 => ⟨S4x1x8320x128, .f32⟩
  | 10 => ⟨S4x8320x8320x128, .f32⟩
  | 11 => ⟨S4x8320x8320x128, .f32⟩
  | 12 => ⟨S_, .f32⟩
  | 13 => ⟨S4x8320x128, .f32⟩
  | 14 => ⟨S4x8320x1x128, .f32⟩
  | 15 => ⟨S_, .f32⟩
  | 16 => ⟨S4x8320x128, .f32⟩
  | 17 => ⟨S_, .f32⟩
  | 18 => ⟨S4x8320x128, .f32⟩
  | 19 => ⟨S_, .f32⟩
  | 20 => ⟨S4x8320x8320x128, .f32⟩
  | 21 => ⟨S4x8320x8320x128, .f32⟩
  | 22 => ⟨S4x8320x8320x128, .f32⟩
  | 23 => ⟨S_, .f32⟩
  | 24 => ⟨S4x8320x8320x128, .f32⟩
  | 25 => ⟨S4x8320x8320x128, .f32⟩
  | 26 => ⟨S_, .f32⟩
  | 27 => ⟨S4x8320x128, .f32⟩
  | 28 => ⟨S4x8320x1x128, .f32⟩
  | 29 => ⟨S4x8320x8320x128, .f32⟩
  | 30 => ⟨S_, .f32⟩
  | 31 => ⟨S4x8320x128, .f32⟩
  | 32 => ⟨S4x1x8320x128, .f32⟩
  | 33 => ⟨S_, .f32⟩
  | 34 => ⟨S4x8320x128, .f32⟩
  | 35 => ⟨S_, .f32⟩
  | 36 => ⟨S4x8320x128, .f32⟩
  | 37 => ⟨S4x8320x128, .f32⟩
  | 38 => ⟨S8320x4x128, .f32⟩
  | 39 => ⟨S8320x512, .f32⟩
  | 40 => ⟨S8320x4x256, .f32⟩
  | 41 => ⟨S8320x1024, .f32⟩
  | 42 => ⟨S8320x4x128, .f32⟩
  | 43 => ⟨S8320x512, .f32⟩
  | 44 => ⟨S_, .f32⟩
  | 45 => ⟨S4x8320x128, .f32⟩
  | 46 => ⟨S4x8320x128, .f32⟩
  | 47 => ⟨S8320x4x128, .f32⟩
  | 48 => ⟨S8320x512, .f32⟩
  | 49 => ⟨S_, .f32⟩
  | 50 => ⟨S_, .f32⟩
  | 51 => ⟨S8320x512, .f32⟩
  | 52 => ⟨S_, .f32⟩
  | 53 => ⟨S8320x512, .f32⟩
  | 54 => ⟨S8320x512, .f32⟩
  | 55 => ⟨S8320x512, .f32⟩
  | 56 => ⟨S8320x512, .f32⟩
  | 57 => ⟨S8320x512, .f32⟩
  | 58 => ⟨S512x128, .f32⟩
  | 59 => ⟨S128x512, .f32⟩
  | 60 => ⟨S8320x128, .f32⟩
  | 61 => ⟨S1040x8x512, .f32⟩
  | 62 => ⟨S_, .f32⟩
  | 63 => ⟨S8x512, .f32⟩
  | 64 => ⟨S1x8x512, .f32⟩
  | 65 => ⟨S_, .f32⟩
  | 66 => ⟨S8x512, .f32⟩
  | 67 => ⟨S8320x2048, .f32⟩
  | 68 => ⟨S8320x2048, .bf16⟩
  | 69 => ⟨S8320x5120, .bf16⟩
  | 70 => ⟨S8320x7168, .bf16⟩
  | 71 => ⟨S8320x128, .bf16⟩
  | _ => ⟨S8320x7168, .bf16⟩

abbrev hbmTy (i : Nat) : BufTy := match i / 128 with
  | 0 => hbmTy0_0 i
  | 1 => hbmTy0_1 i
  | _ => ⟨S8320x7168, .bf16⟩

abbrev bufTy : (tb : Table) → Fin (tcTables nBuf tb) → BufTy
  | .hbm, ⟨i, _⟩ => hbmTy i
  | _, _ => ⟨S8320x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_call0_v0 : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_v1_0 : Ref sig .tc := ⟨.hbm, 32, rfl⟩
abbrev main_call0_call0_cst_0 : Ref sig .tc := ⟨.hbm, 33, rfl⟩
abbrev main_call0_call0_v13 : Ref sig .tc := ⟨.hbm, 34, rfl⟩
abbrev main_call0_call0_v14 : Ref sig .tc := ⟨.hbm, 35, rfl⟩
abbrev main_call0_call0_cst_1 : Ref sig .tc := ⟨.hbm, 36, rfl⟩
abbrev main_call0_call0_v15 : Ref sig .tc := ⟨.hbm, 37, rfl⟩
abbrev main_call0_call0_v16 : Ref sig .tc := ⟨.hbm, 38, rfl⟩
abbrev main_call0_call0_cst_2 : Ref sig .tc := ⟨.hbm, 39, rfl⟩
abbrev main_call0_call0_v17 : Ref sig .tc := ⟨.hbm, 40, rfl⟩
abbrev main_call0_call0_v18 : Ref sig .tc := ⟨.hbm, 41, rfl⟩
abbrev main_call0_call0_cst_3 : Ref sig .tc := ⟨.hbm, 42, rfl⟩
abbrev main_call0_call0_v19 : Ref sig .tc := ⟨.hbm, 43, rfl⟩
abbrev main_call0_call0_v20 : Ref sig .tc := ⟨.hbm, 44, rfl⟩
abbrev main_call0_call0_v21 : Ref sig .tc := ⟨.hbm, 45, rfl⟩
abbrev main_v12_1 : Ref sig .tc := ⟨.hbm, 46, rfl⟩
abbrev main_call0_call0_cst_4 : Ref sig .tc := ⟨.hbm, 47, rfl⟩
abbrev main_call0_call0_cst_5 : Ref sig .tc := ⟨.hbm, 48, rfl⟩
abbrev main_call0_call0_v23 : Ref sig .tc := ⟨.hbm, 49, rfl⟩
abbrev main_call0_call0_cst_6 : Ref sig .tc := ⟨.hbm, 50, rfl⟩
abbrev main_call0_call0_cst_7 : Ref sig .tc := ⟨.hbm, 51, rfl⟩
abbrev main_call0_call0_v24 : Ref sig .tc := ⟨.hbm, 52, rfl⟩
abbrev main_call0_call0_cst_8 : Ref sig .tc := ⟨.hbm, 53, rfl⟩
abbrev main_call0_call0_v25 : Ref sig .tc := ⟨.hbm, 54, rfl⟩
abbrev main_call0_call0_v26 : Ref sig .tc := ⟨.hbm, 55, rfl⟩
abbrev main_call0_call0_cst_9 : Ref sig .tc := ⟨.hbm, 56, rfl⟩
abbrev main_call0_call0_v27 : Ref sig .tc := ⟨.hbm, 57, rfl⟩
abbrev main_call0_call0_v28 : Ref sig .tc := ⟨.hbm, 58, rfl⟩
abbrev main_call0_call0_v29 : Ref sig .tc := ⟨.hbm, 59, rfl⟩
abbrev main_call0_call0_v30 : Ref sig .tc := ⟨.hbm, 60, rfl⟩
abbrev main_call0_call0_v31 : Ref sig .tc := ⟨.hbm, 61, rfl⟩
abbrev main_call0_call0_cst_10 : Ref sig .tc := ⟨.hbm, 62, rfl⟩
abbrev main_call0_call0_v32 : Ref sig .tc := ⟨.hbm, 63, rfl⟩
abbrev main_v12_2 : Ref sig .tc := ⟨.hbm, 64, rfl⟩
abbrev main_v12_0 : Ref sig .tc := ⟨.hbm, 65, rfl⟩
abbrev main_cst : Ref sig .tc := ⟨.hbm, 66, rfl⟩
abbrev main_v13 : Ref sig .tc := ⟨.hbm, 67, rfl⟩
abbrev main_v14 : Ref sig .tc := ⟨.hbm, 68, rfl⟩
abbrev main_call1_call0_cst : Ref sig .tc := ⟨.hbm, 69, rfl⟩
abbrev main_call1_call0_v0 : Ref sig .tc := ⟨.hbm, 70, rfl⟩
abbrev main_v15 : Ref sig .tc := ⟨.hbm, 71, rfl⟩
abbrev main_v16 : Ref sig .tc := ⟨.hbm, 72, rfl⟩
abbrev main_v17 : Ref sig .tc := ⟨.hbm, 73, rfl⟩
abbrev main_cst_0 : Ref sig .tc := ⟨.hbm, 74, rfl⟩
abbrev main_v18 : Ref sig .tc := ⟨.hbm, 75, rfl⟩
abbrev main_v19 : Ref sig .tc := ⟨.hbm, 76, rfl⟩
abbrev main_v20 : Ref sig .tc := ⟨.hbm, 77, rfl⟩
abbrev main_v21 : Ref sig .tc := ⟨.hbm, 78, rfl⟩
abbrev main_v22 : Ref sig .tc := ⟨.hbm, 79, rfl⟩
abbrev main_v23 : Ref sig .tc := ⟨.hbm, 80, rfl⟩
abbrev main_v24 : Ref sig .tc := ⟨.hbm, 81, rfl⟩
abbrev main_v25 : Ref sig .tc := ⟨.hbm, 82, rfl⟩
abbrev main_c : Ref sig .tc := ⟨.hbm, 83, rfl⟩
abbrev main_v26 : Ref sig .tc := ⟨.hbm, 84, rfl⟩
abbrev main_call2_v0 : Ref sig .tc := ⟨.hbm, 85, rfl⟩
abbrev main_call2_c : Ref sig .tc := ⟨.hbm, 86, rfl⟩
abbrev main_call2_v1 : Ref sig .tc := ⟨.hbm, 87, rfl⟩
abbrev main_call2_v2 : Ref sig .tc := ⟨.hbm, 88, rfl⟩
abbrev main_call2_v3 : Ref sig .tc := ⟨.hbm, 89, rfl⟩
abbrev main_call2_v4 : Ref sig .tc := ⟨.hbm, 90, rfl⟩
abbrev main_call2_c_0 : Ref sig .tc := ⟨.hbm, 91, rfl⟩
abbrev main_call2_v5 : Ref sig .tc := ⟨.hbm, 92, rfl⟩
abbrev main_v27 : Ref sig .tc := ⟨.hbm, 93, rfl⟩
abbrev main_v28 : Ref sig .tc := ⟨.hbm, 94, rfl⟩
abbrev main_v29 : Ref sig .tc := ⟨.hbm, 95, rfl⟩
abbrev main_v30 : Ref sig .tc := ⟨.hbm, 96, rfl⟩
abbrev main_v31 : Ref sig .tc := ⟨.hbm, 97, rfl⟩
abbrev main_v32 : Ref sig .tc := ⟨.hbm, 98, rfl⟩
abbrev main_v33 : Ref sig .tc := ⟨.hbm, 99, rfl⟩
abbrev main_cst_1 : Ref sig .tc := ⟨.hbm, 100, rfl⟩
abbrev main_call3_v0 : Ref sig .tc := ⟨.hbm, 101, rfl⟩
abbrev main_v34_1 : Ref sig .tc := ⟨.hbm, 102, rfl⟩
abbrev main_call3_v2 : Ref sig .tc := ⟨.hbm, 103, rfl⟩
abbrev main_v34_0 : Ref sig .tc := ⟨.hbm, 104, rfl⟩
abbrev main_call3_cst : Ref sig .tc := ⟨.hbm, 105, rfl⟩
abbrev main_v34_2 : Ref sig .tc := ⟨.hbm, 106, rfl⟩
abbrev main_v35 : Ref sig .tc := ⟨.hbm, 107, rfl⟩
abbrev main_cst_2 : Ref sig .tc := ⟨.hbm, 108, rfl⟩
abbrev main_call4_v0 : Ref sig .tc := ⟨.hbm, 109, rfl⟩
abbrev main_v36_1 : Ref sig .tc := ⟨.hbm, 110, rfl⟩
abbrev main_call4_v2 : Ref sig .tc := ⟨.hbm, 111, rfl⟩
abbrev main_v36_0 : Ref sig .tc := ⟨.hbm, 112, rfl⟩
abbrev main_call4_cst : Ref sig .tc := ⟨.hbm, 113, rfl⟩
abbrev main_v36_2 : Ref sig .tc := ⟨.hbm, 114, rfl⟩
abbrev main_v37 : Ref sig .tc := ⟨.hbm, 115, rfl⟩
abbrev main_v38 : Ref sig .tc := ⟨.hbm, 116, rfl⟩
abbrev main_v39 : Ref sig .tc := ⟨.hbm, 117, rfl⟩
abbrev main_v40 : Ref sig .tc := ⟨.hbm, 118, rfl⟩
abbrev main_v41 : Ref sig .tc := ⟨.hbm, 119, rfl⟩
abbrev main_v42 : Ref sig .tc := ⟨.hbm, 120, rfl⟩
abbrev main_cst_3 : Ref sig .tc := ⟨.hbm, 121, rfl⟩
abbrev main_v43 : Ref sig .tc := ⟨.hbm, 122, rfl⟩
abbrev main_v44 : Ref sig .tc := ⟨.hbm, 123, rfl⟩
abbrev main_v45 : Ref sig .tc := ⟨.hbm, 124, rfl⟩
abbrev main_v46 : Ref sig .tc := ⟨.hbm, 125, rfl⟩
abbrev main_v47 : Ref sig .tc := ⟨.hbm, 126, rfl⟩
abbrev main_v48 : Ref sig .tc := ⟨.hbm, 127, rfl⟩
abbrev main_v49 : Ref sig .tc := ⟨.hbm, 128, rfl⟩
abbrev main_v50 : Ref sig .tc := ⟨.hbm, 129, rfl⟩
abbrev main_v51 : Ref sig .tc := ⟨.hbm, 130, rfl⟩
abbrev main_v52 : Ref sig .tc := ⟨.hbm, 131, rfl⟩
abbrev main_v53 : Ref sig .tc := ⟨.hbm, 132, rfl⟩
abbrev main_v54 : Ref sig .tc := ⟨.hbm, 133, rfl⟩
abbrev main_v55 : Ref sig .tc := ⟨.hbm, 134, rfl⟩
abbrev main_cst_4 : Ref sig .tc := ⟨.hbm, 135, rfl⟩
abbrev main_v56 : Ref sig .tc := ⟨.hbm, 136, rfl⟩
abbrev main_v57 : Ref sig .tc := ⟨.hbm, 137, rfl⟩
abbrev main_v58 : Ref sig .tc := ⟨.hbm, 138, rfl⟩
abbrev main_v59 : Ref sig .tc := ⟨.hbm, 139, rfl⟩
abbrev main_cst_5 : Ref sig .tc := ⟨.hbm, 140, rfl⟩
abbrev main_v60 : Ref sig .tc := ⟨.hbm, 141, rfl⟩
abbrev main_v61 : Ref sig .tc := ⟨.hbm, 142, rfl⟩
abbrev main_cst_6 : Ref sig .tc := ⟨.hbm, 143, rfl⟩
abbrev main_v62 : Ref sig .tc := ⟨.hbm, 144, rfl⟩
abbrev main_cst_7 : Ref sig .tc := ⟨.hbm, 145, rfl⟩
abbrev main_v63 : Ref sig .tc := ⟨.hbm, 146, rfl⟩
abbrev main_call5_cst : Ref sig .tc := ⟨.hbm, 147, rfl⟩
abbrev main_call5_v0 : Ref sig .tc := ⟨.hbm, 148, rfl⟩
abbrev main_v64 : Ref sig .tc := ⟨.hbm, 149, rfl⟩
abbrev main_v65 : Ref sig .tc := ⟨.hbm, 150, rfl⟩
abbrev main_call6_cst : Ref sig .tc := ⟨.hbm, 151, rfl⟩
abbrev main_call6_v0 : Ref sig .tc := ⟨.hbm, 152, rfl⟩
abbrev main_v66 : Ref sig .tc := ⟨.hbm, 153, rfl⟩
abbrev main_cst_8 : Ref sig .tc := ⟨.hbm, 154, rfl⟩
abbrev main_v67 : Ref sig .tc := ⟨.hbm, 155, rfl⟩
abbrev main_v68 : Ref sig .tc := ⟨.hbm, 156, rfl⟩
abbrev main_v69 : Ref sig .tc := ⟨.hbm, 157, rfl⟩
abbrev main_cst_9 : Ref sig .tc := ⟨.hbm, 158, rfl⟩
abbrev main_v70 : Ref sig .tc := ⟨.hbm, 159, rfl⟩
abbrev main_v71 : Ref sig .tc := ⟨.hbm, 160, rfl⟩
abbrev main_cst_10 : Ref sig .tc := ⟨.hbm, 161, rfl⟩
abbrev main_v72 : Ref sig .tc := ⟨.hbm, 162, rfl⟩
abbrev main_cst_11 : Ref sig .tc := ⟨.hbm, 163, rfl⟩
abbrev main_v73 : Ref sig .tc := ⟨.hbm, 164, rfl⟩
abbrev main_v74 : Ref sig .tc := ⟨.hbm, 165, rfl⟩
abbrev main_v75 : Ref sig .tc := ⟨.hbm, 166, rfl⟩
abbrev main_v76 : Ref sig .tc := ⟨.hbm, 167, rfl⟩
abbrev main_v77 : Ref sig .tc := ⟨.hbm, 168, rfl⟩
abbrev main_v78 : Ref sig .tc := ⟨.hbm, 169, rfl⟩
abbrev main_v79 : Ref sig .tc := ⟨.hbm, 170, rfl⟩
abbrev main_v80 : Ref sig .tc := ⟨.hbm, 171, rfl⟩
abbrev main_cst_12 : Ref sig .tc := ⟨.hbm, 172, rfl⟩
abbrev main_v81 : Ref sig .tc := ⟨.hbm, 173, rfl⟩
abbrev main_v82 : Ref sig .tc := ⟨.hbm, 174, rfl⟩
abbrev main_v83 : Ref sig .tc := ⟨.hbm, 175, rfl⟩
abbrev main_v84 : Ref sig .tc := ⟨.hbm, 176, rfl⟩
abbrev main_call7_call0_cst : Ref sig .tc := ⟨.hbm, 177, rfl⟩
abbrev main_call7_call0_v0 : Ref sig .tc := ⟨.hbm, 178, rfl⟩
abbrev main_v85 : Ref sig .tc := ⟨.hbm, 179, rfl⟩
abbrev main_cst_13 : Ref sig .tc := ⟨.hbm, 180, rfl⟩
abbrev main_v86 : Ref sig .tc := ⟨.hbm, 181, rfl⟩
abbrev main_v87 : Ref sig .tc := ⟨.hbm, 182, rfl⟩
abbrev main_call8_v0 : Ref sig .tc := ⟨.hbm, 183, rfl⟩
abbrev main_call8_v1 : Ref sig .tc := ⟨.hbm, 184, rfl⟩
abbrev main_v88 : Ref sig .tc := ⟨.hbm, 185, rfl⟩
abbrev main_v89 : Ref sig .tc := ⟨.hbm, 186, rfl⟩
abbrev main_v90 : Ref sig .tc := ⟨.hbm, 187, rfl⟩
abbrev main_v91 : Ref sig .tc := ⟨.hbm, 188, rfl⟩
abbrev main_v92 : Ref sig .tc := ⟨.hbm, 189, rfl⟩
abbrev main_cst_14 : Ref sig .tc := ⟨.hbm, 190, rfl⟩
abbrev main_v93 : Ref sig .tc := ⟨.hbm, 191, rfl⟩
abbrev main_v94 : Ref sig .tc := ⟨.hbm, 192, rfl⟩
abbrev main_cst_15 : Ref sig .tc := ⟨.hbm, 193, rfl⟩
abbrev main_v95 : Ref sig .tc := ⟨.hbm, 194, rfl⟩
abbrev main_v96 : Ref sig .tc := ⟨.hbm, 195, rfl⟩
abbrev main_v97 : Ref sig .tc := ⟨.hbm, 196, rfl⟩
abbrev main_v98 : Ref sig .tc := ⟨.hbm, 197, rfl⟩
abbrev main_v99 : Ref sig .tc := ⟨.hbm, 198, rfl⟩
abbrev main_v100 : Ref sig .tc := ⟨.hbm, 199, rfl⟩

abbrev nD : Nat := 1
abbrev τ : Topo := Topo.v7x

variable {F : FTy → Type} [FloatOps F]
-- ==== Kernel2.lean ====
abbrev S8320x7168 : Shape := ⟨2, ![8320, 7168]⟩
abbrev S8320x1024 : Shape := ⟨2, ![8320, 1024]⟩
abbrev S7168x1024 : Shape := ⟨2, ![7168, 1024]⟩
abbrev S1664x1024 : Shape := ⟨2, ![1664, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8320x7168, .bf16⟩
  | .hbm, ⟨1, _⟩ => ⟨S8320x1024, .bf16⟩
  | .hbm, ⟨2, _⟩ => ⟨S7168x1024, .bf16⟩
  | .local _ .vmem, ⟨0, _⟩ => ⟨S1664x1024, .bf16⟩
  | .local _ .vmem, ⟨1, _⟩ => ⟨S1664x1024, .bf16⟩
  | .local _ .vmem, ⟨2, _⟩ => ⟨S1664x1024, .bf16⟩
  | .local _ .vmem, ⟨3, _⟩ => ⟨S1664x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8320x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![7, 5], ![false, false]⟩

def k0_cond2 (i : grid0.Coords) : BitVec 1 :=
  let arg1 : BitVec 32 := BitVec.ofNat 32 (i 1).val
  let c4_i32 : BitVec 32 := 4#32
  let v11 : BitVec 1 := Scalar.cmpi .eq arg1 c4_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1664x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference2Ideal.lean ====
abbrev S8320x7168 : Shape := ⟨2, ![8320, 7168]⟩
abbrev S8320x1024 : Shape := ⟨2, ![8320, 1024]⟩
abbrev S_ : Shape := ⟨0, ![]⟩
abbrev S7168x1024 : Shape := ⟨2, ![7168, 1024]⟩
abbrev S1024x7168 : Shape := ⟨2, ![1024, 7168]⟩

abbrev nBuf : Space → Nat
  | .hbm => 12
  | .vmem => 0
  | .smem => 0
  | _ => 0

abbrev bufTy : (tb : Table) → Fin (tcTables nBuf tb) → BufTy
  | .hbm, ⟨0, _⟩ => ⟨S8320x7168, .bf16⟩
  | .hbm, ⟨1, _⟩ => ⟨S8320x1024, .bf16⟩
  | .hbm, ⟨2, _⟩ => ⟨S_, .f32⟩
  | .hbm, ⟨3, _⟩ => ⟨S7168x1024, .f32⟩
  | .hbm, ⟨4, _⟩ => ⟨S8320x1024, .f32⟩
  | .hbm, ⟨5, _⟩ => ⟨S1024x7168, .f32⟩
  | .hbm, ⟨6, _⟩ => ⟨S8320x7168, .f32⟩
  | .hbm, ⟨7, _⟩ => ⟨S8320x7168, .f32⟩
  | .hbm, ⟨8, _⟩ => ⟨S7168x1024, .f32⟩
  | .hbm, ⟨9, _⟩ => ⟨S1024x7168, .f32⟩
  | .hbm, ⟨10, _⟩ => ⟨S7168x1024, .f32⟩
  | .hbm, ⟨11, _⟩ => ⟨S7168x1024, .bf16⟩
  | _, _ => ⟨S8320x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel3.lean ====
abbrev S8320x5632 : Shape := ⟨2, ![8320, 5632]⟩
abbrev S8320x1024 : Shape := ⟨2, ![8320, 1024]⟩
abbrev S5632x1024 : Shape := ⟨2, ![5632, 1024]⟩
abbrev S1664x1408 : Shape := ⟨2, ![1664, 1408]⟩
abbrev S1664x1024 : Shape := ⟨2, ![1664, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8320x5632, .bf16⟩
  | .hbm, ⟨1, _⟩ => ⟨S8320x1024, .bf16⟩
  | .hbm, ⟨2, _⟩ => ⟨S5632x1024, .bf16⟩
  | .local _ .vmem, ⟨0, _⟩ => ⟨S1664x1408, .bf16⟩
  | .local _ .vmem, ⟨1, _⟩ => ⟨S1664x1408, .bf16⟩
  | .local _ .vmem, ⟨2, _⟩ => ⟨S1664x1024, .bf16⟩
  | .local _ .vmem, ⟨3, _⟩ => ⟨S1664x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8320x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 5], ![false, false]⟩

def k0_cond2 (i : grid0.Coords) : BitVec 1 :=
  let arg1 : BitVec 32 := BitVec.ofNat 32 (i 1).val
  let c4_i32 : BitVec 32 := 4#32
  let v11 : BitVec 1 := Scalar.cmpi .eq arg1 c4_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1664x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1664x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S8320x5632 : Shape := ⟨2, ![8320, 5632]⟩
abbrev S8320x1024 : Shape := ⟨2, ![8320, 1024]⟩
abbrev S_ : Shape := ⟨0, ![]⟩
abbrev S5632x1024 : Shape := ⟨2, ![5632, 1024]⟩
abbrev S1024x5632 : Shape := ⟨2, ![1024, 5632]⟩

abbrev nBuf : Space → Nat
  | .hbm => 12
  | .vmem => 0
  | .smem => 0
  | _ => 0

abbrev bufTy : (tb : Table) → Fin (tcTables nBuf tb) → BufTy
  | .hbm, ⟨0, _⟩ => ⟨S8320x5632, .bf16⟩
  | .hbm, ⟨1, _⟩ => ⟨S8320x1024, .bf16⟩
  | .hbm, ⟨2, _⟩ => ⟨S_, .f32⟩
  | .hbm, ⟨3, _⟩ => ⟨S5632x1024, .f32⟩
  | .hbm, ⟨4, _⟩ => ⟨S8320x1024, .f32⟩
  | .hbm, ⟨5, _⟩ => ⟨S1024x5632, .f32⟩
  | .hbm, ⟨6, _⟩ => ⟨S8320x5632, .f32⟩
  | .hbm, ⟨7, _⟩ => ⟨S8320x5632, .f32⟩
  | .hbm, ⟨8, _⟩ => ⟨S5632x1024, .f32⟩
  | .hbm, ⟨9, _⟩ => ⟨S1024x5632, .f32⟩
  | .hbm, ⟨10, _⟩ => ⟨S5632x1024, .f32⟩
  | .hbm, ⟨11, _⟩ => ⟨S5632x1024, .bf16⟩
  | _, _ => ⟨S8320x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel4.lean ====
abbrev S8320x2816 : Shape := ⟨2, ![8320, 2816]⟩
abbrev S8320x1024 : Shape := ⟨2, ![8320, 1024]⟩
abbrev S2816x1024 : Shape := ⟨2, ![2816, 1024]⟩
abbrev S1664x1408 : Shape := ⟨2, ![1664, 1408]⟩
abbrev S1664x1024 : Shape := ⟨2, ![1664, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8320x2816, .bf16⟩
  | .hbm, ⟨1, _⟩ => ⟨S8320x1024, .f32⟩
  | .hbm, ⟨2, _⟩ => ⟨S2816x1024, .bf16⟩
  | .local _ .vmem, ⟨0, _⟩ => ⟨S1664x1408, .bf16⟩
  | .local _ .vmem, ⟨1, _⟩ => ⟨S1664x1408, .bf16⟩
  | .local _ .vmem, ⟨2, _⟩ => ⟨S1664x1024, .f32⟩
  | .local _ .vmem, ⟨3, _⟩ => ⟨S1664x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8320x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 5], ![false, false]⟩

def k0_cond2 (i : grid0.Coords) : BitVec 1 :=
  let arg1 : BitVec 32 := BitVec.ofNat 32 (i 1).val
  let c4_i32 : BitVec 32 := 4#32
  let v12 : BitVec 1 := Scalar.cmpi .eq arg1 c4_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1664x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1664x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference4Ideal.lean ====
abbrev S8320x2816 : Shape := ⟨2, ![8320, 2816]⟩
abbrev S8320x1024 : Shape := ⟨2, ![8320, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8320x2816, .bf16⟩
  | .hbm, ⟨1, _⟩ => ⟨S8320x1024, .f32⟩
  | .hbm, ⟨2, _⟩ => ⟨S_, .f32⟩
  | .hbm, ⟨3, _⟩ => ⟨S2816x1024, .f32⟩
  | .hbm, ⟨4, _⟩ => ⟨S8320x2816, .f32⟩
  | .hbm, ⟨5, _⟩ => ⟨S8320x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | _, _ => ⟨S8320x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S8320x1024 : Shape := ⟨2, ![8320, 1024]⟩
abbrev S1024x1024 : Shape := ⟨2, ![1024, 1024]⟩
abbrev S1664x1024 : Shape := ⟨2, ![1664, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8320x1024, .bf16⟩
  | .hbm, ⟨1, _⟩ => ⟨S8320x1024, .f32⟩
  | .hbm, ⟨2, _⟩ => ⟨S1024x1024, .bf16⟩
  | .local _ .vmem, ⟨0, _⟩ => ⟨S1664x1024, .bf16⟩
  | .local _ .vmem, ⟨1, _⟩ => ⟨S1664x1024, .bf16⟩
  | .local _ .vmem, ⟨2, _⟩ => ⟨S1664x1024, .f32⟩
  | .local _ .vmem, ⟨3, _⟩ => ⟨S1664x1024, .f32⟩
  | .local _ .vmem, ⟨4, _⟩ => ⟨S1024x1024, .bf16⟩
  | .local _ .vmem, ⟨5, _⟩ => ⟨S1024x1024, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 5], ![false, false]⟩

def k0_cond2 (i : grid0.Coords) : BitVec 1 :=
  let arg1 : BitVec 32 := BitVec.ofNat 32 (i 1).val
  let c4_i32 : BitVec 32 := 4#32
  let v12 : BitVec 1 := Scalar.cmpi .eq arg1 c4_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1664x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference5Ideal.lean ====
abbrev S8320x1024 : Shape := ⟨2, ![8320, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S8320x1024, .f32⟩
  | .hbm, ⟨2, _⟩ => ⟨S_, .f32⟩
  | .hbm, ⟨3, _⟩ => ⟨S1024x1024, .f32⟩
  | .hbm, ⟨4, _⟩ => ⟨S8320x1024, .f32⟩
  | .hbm, ⟨5, _⟩ => ⟨S8320x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S8320x1024 : Shape := ⟨2, ![8320, 1024]⟩
abbrev S1024x1024 : Shape := ⟨2, ![1024, 1024]⟩
abbrev S1664x1024 : Shape := ⟨2, ![1664, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8320x1024, .bf16⟩
  | .hbm, ⟨1, _⟩ => ⟨S8320x1024, .bf16⟩
  | .hbm, ⟨2, _⟩ => ⟨S1024x1024, .bf16⟩
  | .local _ .vmem, ⟨0, _⟩ => ⟨S1664x1024, .bf16⟩
  | .local _ .vmem, ⟨1, _⟩ => ⟨S1664x1024, .bf16⟩
  | .local _ .vmem, ⟨2, _⟩ => ⟨S1664x1024, .bf16⟩
  | .local _ .vmem, ⟨3, _⟩ => ⟨S1664x1024, .bf16⟩
  | .local _ .vmem, ⟨4, _⟩ => ⟨S1024x1024, .bf16⟩
  | .local _ .vmem, ⟨5, _⟩ => ⟨S1024x1024, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 5], ![false, false]⟩

def k0_cond2 (i : grid0.Coords) : BitVec 1 :=
  let arg1 : BitVec 32 := BitVec.ofNat 32 (i 1).val
  let c4_i32 : BitVec 32 := 4#32
  let v11 : BitVec 1 := Scalar.cmpi .eq arg1 c4_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1664x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference6Ideal.lean ====
abbrev S8320x1024 : Shape := ⟨2, ![8320, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S8320x1024, .bf16⟩
  | .hbm, ⟨2, _⟩ => ⟨S_, .f32⟩
  | .hbm, ⟨3, _⟩ => ⟨S1024x1024, .f32⟩
  | .hbm, ⟨4, _⟩ => ⟨S8320x1024, .f32⟩
  | .hbm, ⟨5, _⟩ => ⟨S8320x1024, .f32⟩
  | .hbm, ⟨6, _⟩ => ⟨S8320x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S8320x128 : Shape := ⟨2, ![8320, 128]⟩
abbrev S8320x1024 : Shape := ⟨2, ![8320, 1024]⟩
abbrev S128x1024 : Shape := ⟨2, ![128, 1024]⟩
abbrev S1664x128 : Shape := ⟨2, ![1664, 128]⟩
abbrev S1664x1024 : Shape := ⟨2, ![1664, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8320x128, .bf16⟩
  | .hbm, ⟨1, _⟩ => ⟨S8320x1024, .bf16⟩
  | .hbm, ⟨2, _⟩ => ⟨S128x1024, .bf16⟩
  | .local _ .vmem, ⟨0, _⟩ => ⟨S1664x128, .bf16⟩
  | .local _ .vmem, ⟨1, _⟩ => ⟨S1664x128, .bf16⟩
  | .local _ .vmem, ⟨2, _⟩ => ⟨S1664x1024, .bf16⟩
  | .local _ .vmem, ⟨3, _⟩ => ⟨S1664x1024, .bf16⟩
  | .local _ .vmem, ⟨4, _⟩ => ⟨S128x1024, .bf16⟩
  | .local _ .vmem, ⟨5, _⟩ => ⟨S128x1024, .f32⟩
  | _, _ => ⟨S8320x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 5], ![false, false]⟩

def k0_cond2 (i : grid0.Coords) : BitVec 1 :=
  let arg1 : BitVec 32 := BitVec.ofNat 32 (i 1).val
  let c4_i32 : BitVec 32 := 4#32
  let v11 : BitVec 1 := Scalar.cmpi .eq arg1 c4_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1664x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1664x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference7Ideal.lean ====
abbrev S8320x128 : Shape := ⟨2, ![8320, 128]⟩
abbrev S8320x1024 : Shape := ⟨2, ![8320, 1024]⟩
abbrev S_ : Shape := ⟨0, ![]⟩
abbrev S128x1024 : Shape := ⟨2, ![128, 1024]⟩
abbrev S1024x128 : Shape := ⟨2, ![1024, 128]⟩

abbrev nBuf : Space → Nat
  | .hbm => 12
  | .vmem => 0
  | .smem => 0
  | _ => 0

abbrev bufTy : (tb : Table) → Fin (tcTables nBuf tb) → BufTy
  | .hbm, ⟨0, _⟩ => ⟨S8320x128, .bf16⟩
  | .hbm, ⟨1, _⟩ => ⟨S8320x1024, .bf16⟩
  | .hbm, ⟨2, _⟩ => ⟨S_, .f32⟩
  | .hbm, ⟨3, _⟩ => ⟨S128x1024, .f32⟩
  | .hbm, ⟨4, _⟩ => ⟨S8320x1024, .f32⟩
  | .hbm, ⟨5, _⟩ => ⟨S1024x128, .f32⟩
  | .hbm, ⟨6, _⟩ => ⟨S8320x128, .f32⟩
  | .hbm, ⟨7, _⟩ => ⟨S8320x128, .f32⟩
  | .hbm, ⟨8, _⟩ => ⟨S128x1024, .f32⟩
  | .hbm, ⟨9, _⟩ => ⟨S1024x128, .f32⟩
  | .hbm, ⟨10, _⟩ => ⟨S128x1024, .f32⟩
  | .hbm, ⟨11, _⟩ => ⟨S128x1024, .bf16⟩
  | _, _ => ⟨S8320x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel8.lean ====
abbrev S8320x5632 : Shape := ⟨2, ![8320, 5632]⟩
abbrev S5632x1024 : Shape := ⟨2, ![5632, 1024]⟩
abbrev S8320x1024 : Shape := ⟨2, ![8320, 1024]⟩
abbrev S1x1024 : Shape := ⟨2, ![1, 1024]⟩
abbrev S8x1024 : Shape := ⟨2, ![8, 1024]⟩
abbrev S640x5632 : Shape := ⟨2, ![640, 5632]⟩
abbrev S640x1024 : Shape := ⟨2, ![640, 1024]⟩
abbrev S32x1024 : Shape := ⟨2, ![32, 1024]⟩
abbrev S32 : Shape := ⟨1, ![32]⟩
abbrev S32x1 : Shape := ⟨2, ![32, 1]⟩
abbrev S4x8x1024 : Shape := ⟨3, ![4, 8, 1024]⟩

abbrev nBuf : Space → Nat
  | .hbm => 7
  | .vmem => 12
  | .smem => 0
  | _ => 0

abbrev bufTy : (tb : Table) → Fin (tcTables nBuf tb) → BufTy
  | .hbm, ⟨0, _⟩ => ⟨S8320x5632, .bf16⟩
  | .hbm, ⟨1, _⟩ => ⟨S5632x1024, .bf16⟩
  | .hbm, ⟨2, _⟩ => ⟨S8320x1024, .f32⟩
  | .hbm, ⟨3, _⟩ => ⟨S1x1024, .f32⟩
  | .hbm, ⟨4, _⟩ => ⟨S8320x1024, .f32⟩
  | .hbm, ⟨5, _⟩ => ⟨S8320x1024, .f32⟩
  | .hbm, ⟨6, _⟩ => ⟨S8x1024, .f32⟩
  | .local _ .vmem, ⟨0, _⟩ => ⟨S640x5632, .bf16⟩
  | .local _ .vmem, ⟨1, _⟩ => ⟨S640x5632, .bf16⟩
  | .local _ .vmem, ⟨2, _⟩ => ⟨S5632x1024, .bf16⟩
  | .local _ .vmem, ⟨3, _⟩ => ⟨S640x1024, .f32⟩
  | .local _ .vmem, ⟨4, _⟩ => ⟨S640x1024, .f32⟩
  | .local _ .vmem, ⟨5, _⟩ => ⟨S1x1024, .f32⟩
  | .local _ .vmem, ⟨6, _⟩ => ⟨S640x1024, .f32⟩
  | .local _ .vmem, ⟨7, _⟩ => ⟨S640x1024, .f32⟩
  | .local _ .vmem, ⟨8, _⟩ => ⟨S640x1024, .f32⟩
  | .local _ .vmem, ⟨9, _⟩ => ⟨S640x1024, .f32⟩
  | .local _ .vmem, ⟨10, _⟩ => ⟨S8x1024, .f32⟩
  | .local _ .vmem, ⟨11, _⟩ => ⟨S640x1024, .f32⟩
  | _, _ => ⟨S8320x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![13], ![false]⟩

@[reducible] def k0_t1_loop : Scf.Loop 32 :=
  let c0_i32_6 : BitVec 32 := 0#32
  let c20_i32 : BitVec 32 := 20#32
  let v9 : BitVec 32 := Scalar.addi c0_i32_6 c20_i32
  let c1_i32 : BitVec 32 := 1#32
  ⟨c0_i32_6, v9, c1_i32⟩
def k0_mult1 (k0_t1 : Fin k0_t1_loop.trips) : BitVec 32 :=
  let c0_i32_6 : BitVec 32 := 0#32
  let c1_i32 : BitVec 32 := 1#32
  let arg9 : BitVec 32 := Scf.iv c0_i32_6 c1_i32 k0_t1
  let c32_i32 : BitVec 32 := 32#32
  let v10 : BitVec 32 := Scalar.muli arg9 c32_i32
  v10
def k0_off1 (k0_t1 : Fin k0_t1_loop.trips) : Fin 2 → Nat :=
  let c0_i32_6 : BitVec 32 := 0#32
  let c1_i32 : BitVec 32 := 1#32
  let arg9 : BitVec 32 := Scf.iv c0_i32_6 c1_i32 k0_t1
  let c32_i32 : BitVec 32 := 32#32
  let v10 : BitVec 32 := Scalar.muli arg9 c32_i32
  let v11 : BitVec 32 := v10
  let v12 : Index := Scalar.indexCast v11
  let c0_8 : Index := 0#32
  ![v12.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S640x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S640x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S640x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference8Ideal.lean ====
abbrev S8320x5632 : Shape := ⟨2, ![8320, 5632]⟩
abbrev S5632x1024 : Shape := ⟨2, ![5632, 1024]⟩
abbrev S8320x1024 : Shape := ⟨2, ![8320, 1024]⟩
abbrev S1x1024 : Shape := ⟨2, ![1, 1024]⟩
abbrev S8x1024 : Shape := ⟨2, ![8, 1024]⟩
abbrev S1x8x1024 : Shape := ⟨3, ![1, 8, 1024]⟩
abbrev S1040x8x1024 : Shape := ⟨3, ![1040, 8, 1024]⟩
abbrev S_ : Shape := ⟨0, ![]⟩
abbrev S8320 : Shape := ⟨1, ![8320]⟩
abbrev S8320x1 : Shape := ⟨2, ![8320, 1]⟩
abbrev S1024x5632 : Shape := ⟨2, ![1024, 5632]⟩

abbrev nBuf : Space → Nat
  | .hbm => 58
  | .vmem => 0
  | .smem => 0
  | _ => 0

abbrev bufTy : (tb : Table) → Fin (tcTables nBuf tb) → BufTy
  | .hbm, ⟨0, _⟩ => ⟨S8320x5632, .bf16⟩
  | .hbm, ⟨1, _⟩ => ⟨S5632x1024, .bf16⟩
  | .hbm, ⟨2, _⟩ => ⟨S8320x1024, .f32⟩
  | .hbm, ⟨3, _⟩ => ⟨S1x1024, .f32⟩
  | .hbm, ⟨4, _⟩ => ⟨S8320x1024, .f32⟩
  | .hbm, ⟨5, _⟩ => ⟨S8x1024, .f32⟩
  | .hbm, ⟨6, _⟩ => ⟨S1x8x1024, .f32⟩
  | .hbm, ⟨7, _⟩ => ⟨S1040x8x1024, .f32⟩
  | .hbm, ⟨8, _⟩ => ⟨S8320x1024, .f32⟩
  | .hbm, ⟨9, _⟩ => ⟨S8320x1024, .f32⟩
  | .hbm, ⟨10, _⟩ => ⟨S_, .f32⟩
  | .hbm, ⟨11, _⟩ => ⟨S8320, .f32⟩
  | .hbm, ⟨12, _⟩ => ⟨S8320x1, .f32⟩
  | .hbm, ⟨13, _⟩ => ⟨S_, .f32⟩
  | .hbm, ⟨14, _⟩ => ⟨S8320x1, .f32⟩
  | .hbm, ⟨15, _⟩ => ⟨S8320x1, .f32⟩
  | .hbm, ⟨16, _⟩ => ⟨S_, .f32⟩
  | .hbm, ⟨17, _⟩ => ⟨S8320x1, .f32⟩
  | .hbm, ⟨18, _⟩ => ⟨S8320x1, .f32⟩
  | .hbm, ⟨19, _⟩ => ⟨S8320x1, .f32⟩
  | .hbm, ⟨20, _⟩ => ⟨S8320x1, .f32⟩
  | .hbm, ⟨21, _⟩ => ⟨S_, .f32⟩
  | .hbm, ⟨22, _⟩ => ⟨S8320x1, .f32⟩
  | .hbm, ⟨23, _⟩ => ⟨S8320x1, .f32⟩
  | .hbm, ⟨24, _⟩ => ⟨S8320x1024, .f32⟩
  | .hbm, ⟨25, _⟩ => ⟨S8320x1024, .f32⟩
  | .hbm, ⟨26, _⟩ => ⟨S8320x1024, .f32⟩
  | .hbm, ⟨27, _⟩ => ⟨S5632x1024, .f32⟩
  | .hbm, ⟨28, _⟩ => ⟨S1024x5632, .f32⟩
  | .hbm, ⟨29, _⟩ => ⟨S8320x5632, .f32⟩
  | .hbm, ⟨30, _⟩ => ⟨S8320x5632, .f32⟩
  | .hbm, ⟨31, _⟩ => ⟨S8320x1024, .f32⟩
  | .hbm, ⟨32, _⟩ => ⟨S8320x1024, .f32⟩
  | .hbm, ⟨33, _⟩ => ⟨S8320x1024, .f32⟩
  | .hbm, ⟨34, _⟩ => ⟨S8320x1024, .f32⟩
  | .hbm, ⟨35, _⟩ => ⟨S_, .f32⟩
  | .hbm, ⟨36, _⟩ => ⟨S8320, .f32⟩
  | .hbm, ⟨37, _⟩ => ⟨S8320x1, .f32⟩
  | .hbm, ⟨38, _⟩ => ⟨S8320x1024, .f32⟩
  | .hbm, ⟨39, _⟩ => ⟨S8320x1024, .f32⟩
  | .hbm, ⟨40, _⟩ => ⟨S8320x1024, .f32⟩
  | .hbm, ⟨41, _⟩ => ⟨S8320x1, .f32⟩
  | .hbm, ⟨42, _⟩ => ⟨S_, .f32⟩
  | .hbm, ⟨43, _⟩ => ⟨S8320x1, .f32⟩
  | .hbm, ⟨44, _⟩ => ⟨S8320x1, .f32⟩
  | .hbm, ⟨45, _⟩ => ⟨S_, .f32⟩
  | .hbm, ⟨46, _⟩ => ⟨S8320, .f32⟩
  | .hbm, ⟨47, _⟩ => ⟨S8320x1024, .f32⟩
  | .hbm, ⟨48, _⟩ => ⟨S8320x1024, .f32⟩
  | .hbm, ⟨49, _⟩ => ⟨S8320x1024, .f32⟩
  | .hbm, ⟨50, _⟩ => ⟨S8320x1024, .f32⟩
  | .hbm, ⟨51, _⟩ => ⟨S8320x1024, .f32⟩
  | .hbm, ⟨52, _⟩ => ⟨S1040x8x1024, .f32⟩
  | .hbm, ⟨53, _⟩ => ⟨S_, .f32⟩
  | .hbm, ⟨54, _⟩ => ⟨S8x1024, .f32⟩
  | .hbm, ⟨55, _⟩ => ⟨S1x8x1024, .f32⟩
  | .hbm, ⟨56, _⟩ => ⟨S_, .f32⟩
  | .hbm, ⟨57, _⟩ => ⟨S8x1024, .f32⟩
  | _, _ => ⟨S8320x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_4 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_6 : Ref sig .tc := ⟨.hbm, 53, rfl⟩
abbrev main_v41 : Ref sig .tc := ⟨.hbm, 54, rfl⟩
abbrev main_v42 : Ref sig .tc := ⟨.hbm, 55, rfl⟩
abbrev main_cst_7 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== Kernel9.lean ====
abbrev S8320x7168 : Shape := ⟨2, ![8320, 7168]⟩
abbrev S7168x1024 : Shape := ⟨2, ![7168, 1024]⟩
abbrev S8320x1024 : Shape := ⟨2, ![8320, 1024]⟩
abbrev S1x1024 : Shape := ⟨2, ![1, 1024]⟩
abbrev S8320x128 : Shape := ⟨2, ![8320, 128]⟩
abbrev S128x1024 : Shape := ⟨2, ![128, 1024]⟩
abbrev S8x1024 : Shape := ⟨2, ![8, 1024]⟩
abbrev S640x7168 : Shape := ⟨2, ![640, 7168]⟩
abbrev S640x1024 : Shape := ⟨2, ![640, 1024]⟩
abbrev S640x128 : Shape := ⟨2, ![640, 128]⟩
abbrev S32x1024 : Shape := ⟨2, ![32, 1024]⟩
abbrev S32 : Shape := ⟨1, ![32]⟩
abbrev S32x1 : Shape := ⟨2, ![32, 1]⟩
abbrev S4x8x1024 : Shape := ⟨3, ![4, 8, 1024]⟩

abbrev nBuf : Space → Nat
  | .hbm => 9
  | .vmem => 15
  | .smem => 0
  | _ => 0

abbrev bufTy : (tb : Table) → Fin (tcTables nBuf tb) → BufTy
  | .hbm, ⟨0, _⟩ => ⟨S8320x7168, .bf16⟩
  | .hbm, ⟨1, _⟩ => ⟨S7168x1024, .bf16⟩
  | .hbm, ⟨2, _⟩ => ⟨S8320x1024, .f32⟩
  | .hbm, ⟨3, _⟩ => ⟨S1x1024, .f32⟩
  | .hbm, ⟨4, _⟩ => ⟨S8320x1024, .f32⟩
  | .hbm, ⟨5, _⟩ => ⟨S8320x128, .bf16⟩
  | .hbm, ⟨6, _⟩ => ⟨S128x1024, .bf16⟩
  | .hbm, ⟨7, _⟩ => ⟨S8320x1024, .f32⟩
  | .hbm, ⟨8, _⟩ => ⟨S8x1024, .f32⟩
  | .local _ .vmem, ⟨0, _⟩ => ⟨S640x7168, .bf16⟩
  | .local _ .vmem, ⟨1, _⟩ => ⟨S640x7168, .bf16⟩
  | .local _ .vmem, ⟨2, _⟩ => ⟨S7168x1024, .bf16⟩
  | .local _ .vmem, ⟨3, _⟩ => ⟨S640x1024, .f32⟩
  | .local _ .vmem, ⟨4, _⟩ => ⟨S640x1024, .f32⟩
  | .local _ .vmem, ⟨5, _⟩ => ⟨S1x1024, .f32⟩
  | .local _ .vmem, ⟨6, _⟩ => ⟨S640x1024, .f32⟩
  | .local _ .vmem, ⟨7, _⟩ => ⟨S640x1024, .f32⟩
  | .local _ .vmem, ⟨8, _⟩ => ⟨S640x128, .bf16⟩
  | .local _ .vmem, ⟨9, _⟩ => ⟨S640x128, .bf16⟩
  | .local _ .vmem, ⟨10, _⟩ => ⟨S128x1024, .bf16⟩
  | .local _ .vmem, ⟨11, _⟩ => ⟨S640x1024, .f32⟩
  | .local _ .vmem, ⟨12, _⟩ => ⟨S640x1024, .f32⟩
  | .local _ .vmem, ⟨13, _⟩ => ⟨S8x1024, .f32⟩
  | .local _ .vmem, ⟨14, _⟩ => ⟨S640x1024, .f32⟩
  | _, _ => ⟨S8320x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![13], ![false]⟩

@[reducible] def k0_t1_loop : Scf.Loop 32 :=
  let c0_i32_15 : BitVec 32 := 0#32
  let c20_i32 : BitVec 32 := 20#32
  let v17 : BitVec 32 := Scalar.addi c0_i32_15 c20_i32
  let c1_i32 : BitVec 32 := 1#32
  ⟨c0_i32_15, v17, c1_i32⟩
def k0_mult1 (k0_t1 : Fin k0_t1_loop.trips) : BitVec 32 :=
  let c0_i32_15 : BitVec 32 := 0#32
  let c1_i32 : BitVec 32 := 1#32
  let arg11 : BitVec 32 := Scf.iv c0_i32_15 c1_i32 k0_t1
  let c32_i32 : BitVec 32 := 32#32
  let v18 : BitVec 32 := Scalar.muli arg11 c32_i32
  v18
def k0_off1 (k0_t1 : Fin k0_t1_loop.trips) : Fin 2 → Nat :=
  let c0_i32_15 : BitVec 32 := 0#32
  let c1_i32 : BitVec 32 := 1#32
  let arg11 : BitVec 32 := Scf.iv c0_i32_15 c1_i32 k0_t1
  let c32_i32 : BitVec 32 := 32#32
  let v18 : BitVec 32 := Scalar.muli arg11 c32_i32
  let v19 : BitVec 32 := v18
  let v20 : Index := Scalar.indexCast v19
  let c0_17 : Index := 0#32
  ![v20.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S640x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S7168x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S640x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S640x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S640x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference9Ideal.lean ====
abbrev S8320x7168 : Shape := ⟨2, ![8320, 7168]⟩
abbrev S7168x1024 : Shape := ⟨2, ![7168, 1024]⟩
abbrev S8320x1024 : Shape := ⟨2, ![8320, 1024]⟩
abbrev S1x1024 : Shape := ⟨2, ![1, 1024]⟩
abbrev S8320x128 : Shape := ⟨2, ![8320, 128]⟩
abbrev S128x1024 : Shape := ⟨2, ![128, 1024]⟩
abbrev S8x1024 : Shape := ⟨2, ![8, 1024]⟩
abbrev S1x8x1024 : Shape := ⟨3, ![1, 8, 1024]⟩
abbrev S1040x8x1024 : Shape := ⟨3, ![1040, 8, 1024]⟩
abbrev S_ : Shape := ⟨0, ![]⟩
abbrev S8320 : Shape := ⟨1, ![8320]⟩
abbrev S8320x1 : Shape := ⟨2, ![8320, 1]⟩
abbrev S1024x7168 : Shape := ⟨2, ![1024, 7168]⟩
abbrev S1024x128 : Shape := ⟨2, ![1024, 128]⟩

abbrev nBuf : Space → Nat
  | .hbm => 66
  | .vmem => 0
  | .smem => 0
  | _ => 0

abbrev bufTy : (tb : Table) → Fin (tcTables nBuf tb) → BufTy
  | .hbm, ⟨0, _⟩ => ⟨S8320x7168, .bf16⟩
  | .hbm, ⟨1, _⟩ => ⟨S7168x1024, .bf16⟩
  | .hbm, ⟨2, _⟩ => ⟨S8320x1024, .f32⟩
  | .hbm, ⟨3, _⟩ => ⟨S1x1024, .f32⟩
  | .hbm, ⟨4, _⟩ => ⟨S8320x1024, .f32⟩
  | .hbm, ⟨5, _⟩ => ⟨S8320x128, .bf16⟩
  | .hbm, ⟨6, _⟩ => ⟨S128x1024, .bf16⟩
  | .hbm, ⟨7, _⟩ => ⟨S8x1024, .f32⟩
  | .hbm, ⟨8, _⟩ => ⟨S1x8x1024, .f32⟩
  | .hbm, ⟨9, _⟩ => ⟨S1040x8x1024, .f32⟩
  | .hbm, ⟨10, _⟩ => ⟨S8320x1024, .f32⟩
  | .hbm, ⟨11, _⟩ => ⟨S8320x1024, .f32⟩
  | .hbm, ⟨12, _⟩ => ⟨S_, .f32⟩
  | .hbm, ⟨13, _⟩ => ⟨S8320, .f32⟩
  | .hbm, ⟨14, _⟩ => ⟨S8320x1, .f32⟩
  | .hbm, ⟨15, _⟩ => ⟨S_, .f32⟩
  | .hbm, ⟨16, _⟩ => ⟨S8320x1, .f32⟩
  | .hbm, ⟨17, _⟩ => ⟨S8320x1, .f32⟩
  | .hbm, ⟨18, _⟩ => ⟨S_, .f32⟩
  | .hbm, ⟨19, _⟩ => ⟨S8320x1, .f32⟩
  | .hbm, ⟨20, _⟩ => ⟨S8320x1, .f32⟩
  | .hbm, ⟨21, _⟩ => ⟨S8320x1, .f32⟩
  | .hbm, ⟨22, _⟩ => ⟨S8320x1, .f32⟩
  | .hbm, ⟨23, _⟩ => ⟨S_, .f32⟩
  | .hbm, ⟨24, _⟩ => ⟨S8320x1, .f32⟩
  | .hbm, ⟨25, _⟩ => ⟨S8320x1, .f32⟩
  | .hbm, ⟨26, _⟩ => ⟨S8320x1024, .f32⟩
  | .hbm, ⟨27, _⟩ => ⟨S8320x1024, .f32⟩
  | .hbm, ⟨28, _⟩ => ⟨S8320x1024, .f32⟩
  | .hbm, ⟨29, _⟩ => ⟨S7168x1024, .f32⟩
  | .hbm, ⟨30, _⟩ => ⟨S1024x7168, .f32⟩
  | .hbm, ⟨31, _⟩ => ⟨S8320x7168, .f32⟩
  | .hbm, ⟨32, _⟩ => ⟨S128x1024, .f32⟩
  | .hbm, ⟨33, _⟩ => ⟨S1024x128, .f32⟩
  | .hbm, ⟨34, _⟩ => ⟨S8320x128, .f32⟩
  | .hbm, ⟨35, _⟩ => ⟨S8320x7168, .f32⟩
  | .hbm, ⟨36, _⟩ => ⟨S8320x128, .f32⟩
  | .hbm, ⟨37, _⟩ => ⟨S8320x1024, .f32⟩
  | .hbm, ⟨38, _⟩ => ⟨S8320x1024, .f32⟩
  | .hbm, ⟨39, _⟩ => ⟨S8320x1024, .f32⟩
  | .hbm, ⟨40, _⟩ => ⟨S8320x1024, .f32⟩
  | .hbm, ⟨41, _⟩ => ⟨S8320x1024, .f32⟩
  | .hbm, ⟨42, _⟩ => ⟨S8320x1024, .f32⟩
  | .hbm, ⟨43, _⟩ => ⟨S_, .f32⟩
  | .hbm, ⟨44, _⟩ => ⟨S8320, .f32⟩
  | .hbm, ⟨45, _⟩ => ⟨S8320x1, .f32⟩
  | .hbm, ⟨46, _⟩ => ⟨S8320x1024, .f32⟩
  | .hbm, ⟨47, _⟩ => ⟨S8320x1024, .f32⟩
  | .hbm, ⟨48, _⟩ => ⟨S8320x1024, .f32⟩
  | .hbm, ⟨49, _⟩ => ⟨S8320x1, .f32⟩
  | .hbm, ⟨50, _⟩ => ⟨S_, .f32⟩
  | .hbm, ⟨51, _⟩ => ⟨S8320x1, .f32⟩
  | .hbm, ⟨52, _⟩ => ⟨S8320x1, .f32⟩
  | .hbm, ⟨53, _⟩ => ⟨S_, .f32⟩
  | .hbm, ⟨54, _⟩ => ⟨S8320, .f32⟩
  | .hbm, ⟨55, _⟩ => ⟨S8320x1024, .f32⟩
  | .hbm, ⟨56, _⟩ => ⟨S8320x1024, .f32⟩
  | .hbm, ⟨57, _⟩ => ⟨S8320x1024, .f32⟩
  | .hbm, ⟨58, _⟩ => ⟨S8320x1024, .f32⟩
  | .hbm, ⟨59, _⟩ => ⟨S8320x1024, .f32⟩
  | .hbm, ⟨60, _⟩ => ⟨S1040x8x1024, .f32⟩
  | .hbm, ⟨61, _⟩ => ⟨S_, .f32⟩
  | .hbm, ⟨62, _⟩ => ⟨S8x1024, .f32⟩
  | .hbm, ⟨63, _⟩ => ⟨S1x8x1024, .f32⟩
  | .hbm, ⟨64, _⟩ => ⟨S_, .f32⟩
  | .hbm, ⟨65, _⟩ => ⟨S8x1024, .f32⟩
  | _, _ => ⟨S8320x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_4 : Ref sig .tc := ⟨.hbm, 50, rfl⟩
abbrev main_v38 : Ref sig .tc := ⟨.hbm, 51, rfl⟩
abbrev main_v39 : Ref sig .tc := ⟨.hbm, 52, rfl⟩
abbrev main_cst_5 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_6 : Ref sig .tc := ⟨.hbm, 61, rfl⟩
abbrev main_v47 : Ref sig .tc := ⟨.hbm, 62, rfl⟩
abbrev main_v48 : Ref sig .tc := ⟨.hbm, 63, rfl⟩
abbrev main_cst_7 : Ref sig .tc := ⟨.hbm, 64, rfl⟩
abbrev main_v49 : Ref sig .tc := ⟨.hbm, 65, rfl⟩

abbrev nD : Nat := 1
abbrev τ : Topo := Topo.v7x

variable {F : FTy → Type} [FloatOps F]
-- ==== Kernel10.lean ====
abbrev S8320x1024 : Shape := ⟨2, ![8320, 1024]⟩
abbrev S1x1024 : Shape := ⟨2, ![1, 1024]⟩
abbrev S5632x1024 : Shape := ⟨2, ![5632, 1024]⟩
abbrev S8320x5632 : Shape := ⟨2, ![8320, 5632]⟩
abbrev S1664x1024 : Shape := ⟨2, ![1664, 1024]⟩
abbrev S512x1024 : Shape := ⟨2, ![512, 1024]⟩
abbrev S1664x512 : Shape := ⟨2, ![1664, 512]⟩
abbrev S32x1024 : Shape := ⟨2, ![32, 1024]⟩
abbrev S32 : Shape := ⟨1, ![32]⟩
abbrev S32x1 : Shape := ⟨2, ![32, 1]⟩

abbrev nBuf : Space → Nat
  | .hbm => 5
  | .vmem => 9
  | .smem => 0
  | _ => 0

abbrev bufTy : (tb : Table) → Fin (tcTables nBuf tb) → BufTy
  | .hbm, ⟨0, _⟩ => ⟨S8320x1024, .f32⟩
  | .hbm, ⟨1, _⟩ => ⟨S1x1024, .f32⟩
  | .hbm, ⟨2, _⟩ => ⟨S5632x1024, .bf16⟩
  | .hbm, ⟨3, _⟩ => ⟨S8320x1024, .bf16⟩
  | .hbm, ⟨4, _⟩ => ⟨S8320x5632, .bf16⟩
  | .local _ .vmem, ⟨0, _⟩ => ⟨S1664x1024, .f32⟩
  | .local _ .vmem, ⟨1, _⟩ => ⟨S1664x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S1664x1024, .bf16⟩
  | .local _ .vmem, ⟨6, _⟩ => ⟨S1664x1024, .bf16⟩
  | .local _ .vmem, ⟨7, _⟩ => ⟨S1664x512, .bf16⟩
  | .local _ .vmem, ⟨8, _⟩ => ⟨S1664x512, .bf16⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![5, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_6 : BitVec 32 := 0#32
  let c52_i32 : BitVec 32 := 52#32
  let v9 : BitVec 32 := Scalar.addi c0_i32_6 c52_i32
  let c1_i32 : BitVec 32 := 1#32
  ⟨c0_i32_6, v9, c1_i32⟩
def k0_mult1 (k0_t1 : Fin k0_t1_loop.trips) : BitVec 32 :=
  let c0_i32_6 : BitVec 32 := 0#32
  let c1_i32 : BitVec 32 := 1#32
  let arg7 : BitVec 32 := Scf.iv c0_i32_6 c1_i32 k0_t1
  let c32_i32 : BitVec 32 := 32#32
  let v10 : BitVec 32 := Scalar.muli arg7 c32_i32
  v10
def k0_off1 (k0_t1 : Fin k0_t1_loop.trips) : Fin 2 → Nat :=
  let c0_i32_6 : BitVec 32 := 0#32
  let c1_i32 : BitVec 32 := 1#32
  let arg7 : BitVec 32 := Scf.iv c0_i32_6 c1_i32 k0_t1
  let c32_i32 : BitVec 32 := 32#32
  let v10 : BitVec 32 := Scalar.muli arg7 c32_i32
  let v11 : BitVec 32 := v10
  let v12 : Index := Scalar.indexCast v11
  let c0_8 : Index := 0#32
  ![v12.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1664x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1664x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1664x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference10Ideal.lean ====
abbrev S8320x1024 : Shape := ⟨2, ![8320, 1024]⟩
abbrev S1x1024 : Shape := ⟨2, ![1, 1024]⟩
abbrev S5632x1024 : Shape := ⟨2, ![5632, 1024]⟩
abbrev S_ : Shape := ⟨0, ![]⟩
abbrev S8320 : Shape := ⟨1, ![8320]⟩
abbrev S8320x1 : Shape := ⟨2, ![8320, 1]⟩
abbrev S1024x5632 : Shape := ⟨2, ![1024, 5632]⟩
abbrev S8320x5632 : Shape := ⟨2, ![8320, 5632]⟩

abbrev nBuf : Space → Nat
  | .hbm => 23
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S1x1024, .f32⟩
  | .hbm, ⟨2, _⟩ => ⟨S5632x1024, .bf16⟩
  | .hbm, ⟨3, _⟩ => ⟨S8320x1024, .f32⟩
  | .hbm, ⟨4, _⟩ => ⟨S_, .f32⟩
  | .hbm, ⟨5, _⟩ => ⟨S8320, .f32⟩
  | .hbm, ⟨6, _⟩ => ⟨S8320x1, .f32⟩
  | .hbm, ⟨7, _⟩ => ⟨S_, .f32⟩
  | .hbm, ⟨8, _⟩ => ⟨S8320x1, .f32⟩
  | .hbm, ⟨9, _⟩ => ⟨S8320x1, .f32⟩
  | .hbm, ⟨10, _⟩ => ⟨S_, .f32⟩
  | .hbm, ⟨11, _⟩ => ⟨S8320x1, .f32⟩
  | .hbm, ⟨12, _⟩ => ⟨S8320x1, .f32⟩
  | .hbm, ⟨13, _⟩ => ⟨S8320x1, .f32⟩
  | .hbm, ⟨14, _⟩ => ⟨S8320x1024, .f32⟩
  | .hbm, ⟨15, _⟩ => ⟨S8320x1024, .f32⟩
  | .hbm, ⟨16, _⟩ => ⟨S8320x1024, .f32⟩
  | .hbm, ⟨17, _⟩ => ⟨S8320x1024, .f32⟩
  | .hbm, ⟨18, _⟩ => ⟨S8320x1024, .bf16⟩
  | .hbm, ⟨19, _⟩ => ⟨S5632x1024, .f32⟩
  | .hbm, ⟨20, _⟩ => ⟨S1024x5632, .f32⟩
  | .hbm, ⟨21, _⟩ => ⟨S8320x5632, .f32⟩
  | .hbm, ⟨22, _⟩ => ⟨S8320x5632, .bf16⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel11.lean ====
abbrev S8192x1024 : Shape := ⟨2, ![8192, 1024]⟩
abbrev S16x1024 : Shape := ⟨2, ![16, 1024]⟩
abbrev S1x1024 : Shape := ⟨2, ![1, 1024]⟩
abbrev S7168x1024 : Shape := ⟨2, ![7168, 1024]⟩
abbrev S128x1024 : Shape := ⟨2, ![128, 1024]⟩
abbrev S8320x1024 : Shape := ⟨2, ![8320, 1024]⟩
abbrev S8320x7168 : Shape := ⟨2, ![8320, 7168]⟩
abbrev S8320x128 : Shape := ⟨2, ![8320, 128]⟩
abbrev S1664x1024 : Shape := ⟨2, ![1664, 1024]⟩
abbrev S1024x1024 : Shape := ⟨2, ![1024, 1024]⟩
abbrev S1664x128 : Shape := ⟨2, ![1664, 128]⟩
abbrev S32x1024 : Shape := ⟨2, ![32, 1024]⟩
abbrev S32x1 : Shape := ⟨2, ![32, 1]⟩
abbrev S32 : Shape := ⟨1, ![32]⟩

abbrev nBuf : Space → Nat
  | .hbm => 9
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S16x1024, .f32⟩
  | .hbm, ⟨2, _⟩ => ⟨S1x1024, .f32⟩
  | .hbm, ⟨3, _⟩ => ⟨S7168x1024, .bf16⟩
  | .hbm, ⟨4, _⟩ => ⟨S128x1024, .bf16⟩
  | .hbm, ⟨5, _⟩ => ⟨S8320x1024, .f32⟩
  | .hbm, ⟨6, _⟩ => ⟨S8320x1024, .bf16⟩
  | .hbm, ⟨7, _⟩ => ⟨S8320x7168, .bf16⟩
  | .hbm, ⟨8, _⟩ => ⟨S8320x128, .bf16⟩
  | .local _ .vmem, ⟨0, _⟩ => ⟨S1664x1024, .f32⟩
  | .local _ .vmem, ⟨1, _⟩ => ⟨S1664x1024, .f32⟩
  | .local _ .vmem, ⟨2, _⟩ => ⟨S16x1024, .f32⟩
  | .local _ .vmem, ⟨3, _⟩ => ⟨S16x1024, .f32⟩
  | .local _ .vmem, ⟨4, _⟩ => ⟨S16x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S128x1024, .bf16⟩
  | .local _ .vmem, ⟨9, _⟩ => ⟨S1664x1024, .f32⟩
  | .local _ .vmem, ⟨10, _⟩ => ⟨S1664x1024, .f32⟩
  | .local _ .vmem, ⟨11, _⟩ => ⟨S1664x1024, .bf16⟩
  | .local _ .vmem, ⟨12, _⟩ => ⟨S1664x1024, .bf16⟩
  | .local _ .vmem, ⟨13, _⟩ => ⟨S1664x1024, .bf16⟩
  | .local _ .vmem, ⟨14, _⟩ => ⟨S1664x1024, .bf16⟩
  | .local _ .vmem, ⟨15, _⟩ => ⟨S1664x128, .bf16⟩
  | .local _ .vmem, ⟨16, _⟩ => ⟨S1664x128, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![5, 7], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c1_i32 : BitVec 32 := 1#32
  let c51_i32 : BitVec 32 := 51#32
  let v42 : BitVec 32 := Scalar.addi c1_i32 c51_i32
  let c1_i32_24 : BitVec 32 := 1#32
  ⟨c1_i32, v42, c1_i32_24⟩
def k0_mult1 (k0_t1 : Fin k0_t1_loop.trips) : BitVec 32 :=
  let c1_i32 : BitVec 32 := 1#32
  let c1_i32_24 : BitVec 32 := 1#32
  let arg12 : BitVec 32 := Scf.iv c1_i32 c1_i32_24 k0_t1
  let c32_i32 : BitVec 32 := 32#32
  let v49 : BitVec 32 := Scalar.muli arg12 c32_i32
  v49
def k0_mult2 (k0_t1 : Fin k0_t1_loop.trips) : BitVec 32 :=
  let c1_i32 : BitVec 32 := 1#32
  let c1_i32_24 : BitVec 32 := 1#32
  let arg12 : BitVec 32 := Scf.iv c1_i32 c1_i32_24 k0_t1
  let c32_i32 : BitVec 32 := 32#32
  let v49 : BitVec 32 := Scalar.muli arg12 c32_i32
  let v50 : BitVec 32 := v49
  let c16_i32 : BitVec 32 := 16#32
  let v51 : BitVec 32 := Scalar.subi v50 c16_i32
  v51
def k0_off1 (k0_t1 : Fin k0_t1_loop.trips) : Fin 2 → Nat :=
  let c1_i32 : BitVec 32 := 1#32
  let c1_i32_24 : BitVec 32 := 1#32
  let arg12 : BitVec 32 := Scf.iv c1_i32 c1_i32_24 k0_t1
  let c32_i32 : BitVec 32 := 32#32
  let v49 : BitVec 32 := Scalar.muli arg12 c32_i32
  let v50 : BitVec 32 := v49
  let c16_i32 : BitVec 32 := 16#32
  let v51 : BitVec 32 := Scalar.subi v50 c16_i32
  let v52 : BitVec 32 := v51
  let v53 : Index := Scalar.indexCast v52
  let c0_33 : Index := 0#32
  ![v53.toNat, 0]
def k0_off2 (k0_t1 : Fin k0_t1_loop.trips) : Fin 2 → Nat :=
  let c1_i32 : BitVec 32 := 1#32
  let c1_i32_24 : BitVec 32 := 1#32
  let arg12 : BitVec 32 := Scf.iv c1_i32 c1_i32_24 k0_t1
  let c32_i32 : BitVec 32 := 32#32
  let v49 : BitVec 32 := Scalar.muli arg12 c32_i32
  let v50 : BitVec 32 := v49
  let v66 : Index := Scalar.indexCast v50
  let c0_37 : Index := 0#32
  ![v66.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c104_i32 : BitVec 32 := 104#32
  let v0 : BitVec 32 := Scalar.muli arg0 c104_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1664x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1664x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1664x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1664x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1664x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference11Ideal.lean ====
abbrev S8192x1024 : Shape := ⟨2, ![8192, 1024]⟩
abbrev S16x1024 : Shape := ⟨2, ![16, 1024]⟩
abbrev S1x1024 : Shape := ⟨2, ![1, 1024]⟩
abbrev S7168x1024 : Shape := ⟨2, ![7168, 1024]⟩
abbrev S128x1024 : Shape := ⟨2, ![128, 1024]⟩
abbrev S8208x1024 : Shape := ⟨2, ![8208, 1024]⟩
abbrev S_ : Shape := ⟨0, ![]⟩
abbrev S8320x1024 : Shape := ⟨2, ![8320, 1024]⟩
abbrev S8320 : Shape := ⟨1, ![8320]⟩
abbrev S8320x1 : Shape := ⟨2, ![8320, 1]⟩
abbrev S1024x7168 : Shape := ⟨2, ![1024, 7168]⟩
abbrev S8320x7168 : Shape := ⟨2, ![8320, 7168]⟩
abbrev S1024x128 : Shape := ⟨2, ![1024, 128]⟩
abbrev S8320x128 : Shape := ⟨2, ![8320, 128]⟩

abbrev nBuf : Space → Nat
  | .hbm => 33
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S16x1024, .f32⟩
  | .hbm, ⟨2, _⟩ => ⟨S1x1024, .f32⟩
  | .hbm, ⟨3, _⟩ => ⟨S7168x1024, .bf16⟩
  | .hbm, ⟨4, _⟩ => ⟨S128x1024, .bf16⟩
  | .hbm, ⟨5, _⟩ => ⟨S8208x1024, .f32⟩
  | .hbm, ⟨6, _⟩ => ⟨S_, .i32⟩
  | .hbm, ⟨7, _⟩ => ⟨S_, .f32⟩
  | .hbm, ⟨8, _⟩ => ⟨S8320x1024, .f32⟩
  | .hbm, ⟨9, _⟩ => ⟨S8320x1024, .f32⟩
  | .hbm, ⟨10, _⟩ => ⟨S_, .f32⟩
  | .hbm, ⟨11, _⟩ => ⟨S8320, .f32⟩
  | .hbm, ⟨12, _⟩ => ⟨S8320x1, .f32⟩
  | .hbm, ⟨13, _⟩ => ⟨S_, .f32⟩
  | .hbm, ⟨14, _⟩ => ⟨S8320x1, .f32⟩
  | .hbm, ⟨15, _⟩ => ⟨S8320x1, .f32⟩
  | .hbm, ⟨16, _⟩ => ⟨S_, .f32⟩
  | .hbm, ⟨17, _⟩ => ⟨S8320x1, .f32⟩
  | .hbm, ⟨18, _⟩ => ⟨S8320x1, .f32⟩
  | .hbm, ⟨19, _⟩ => ⟨S8320x1, .f32⟩
  | .hbm, ⟨20, _⟩ => ⟨S8320x1024, .f32⟩
  | .hbm, ⟨21, _⟩ => ⟨S8320x1024, .f32⟩
  | .hbm, ⟨22, _⟩ => ⟨S8320x1024, .f32⟩
  | .hbm, ⟨23, _⟩ => ⟨S8320x1024, .f32⟩
  | .hbm, ⟨24, _⟩ => ⟨S8320x1024, .bf16⟩
  | .hbm, ⟨25, _⟩ => ⟨S7168x1024, .f32⟩
  | .hbm, ⟨26, _⟩ => ⟨S1024x7168, .f32⟩
  | .hbm, ⟨27, _⟩ => ⟨S8320x7168, .f32⟩
  | .hbm, ⟨28, _⟩ => ⟨S8320x7168, .bf16⟩
  | .hbm, ⟨29, _⟩ => ⟨S128x1024, .f32⟩
  | .hbm, ⟨30, _⟩ => ⟨S1024x128, .f32⟩
  | .hbm, ⟨31, _⟩ => ⟨S8320x128, .f32⟩
  | .hbm, ⟨32, _⟩ => ⟨S8320x128, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]
-- ==== Proof.Coe.lean ====
/- Arrays of real numbers read as arrays of extended reals, and the kernel's operations on them. -/
module

public import Idealize.ShloMosaic.Lib.MatmulPlain
public import Idealize.ShloMosaic.Lib.ValueLayout
public import Idealize.ShloMosaic.Lib.IdealHost
public import Idealize.ShloMosaic.Lib.Pipeline.Value
public import Idealize.ShloMosaic.Lib.ValueIdx

@[expose] public section

noncomputable section

namespace Cert.Gla

open Idealize.ShloMosaic Idealize.ShloMosaic.ValueIdx
open scoped BigOperators

/-- A table of real numbers as an array. -/
def up {a b : ℕ} {φ : FTy} (r : Fin a → Fin b → ℝ) : FVec Ideal ⟨2, ![a, b]⟩ φ := fun i => ((r (i 0) (i 1) : ℝ) : EReal)

/-- The same in each of the two formats. -/
abbrev uf {a b : ℕ} (r : Fin a → Fin b → ℝ) : FVec Ideal ⟨2, ![a, b]⟩ .f32 := up r
abbrev ub {a b : ℕ} (r : Fin a → Fin b → ℝ) : FVec Ideal ⟨2, ![a, b]⟩ .bf16 := up r

variable {a b n m : ℕ} {φ ψ : FTy}

theorem up_ix2 (r : Fin a → Fin b → ℝ) (i : Fin a) (j : Fin b) : (up r : FVec Ideal ⟨2, ![a, b]⟩ φ) (ix2 i j) = ((r i j : ℝ) : EReal) := rfl

theorem ext2 {α : Type} {f g : (⟨2, ![a, b]⟩ : Shape).Idx → α} (h : ∀ i j, f (ix2 i j) = g (ix2 i j)) : f = g :=
  funext fun i => by rw [eq_ix2 i]; exact h _ _

theorem up_congr {r s : Fin a → Fin b → ℝ} (h : ∀ i j, r i j = s i j) : (up r : FVec Ideal ⟨2, ![a, b]⟩ φ) = up s := by
  rw [show r = s from funext fun i => funext fun j => h i j]

/-- A finite array is a table of real numbers. -/
theorem eq_up {f : FVec Ideal ⟨2, ![a, b]⟩ φ} (h : ∀ i, (f i : EReal) ≠ ⊤ ∧ (f i : EReal) ≠ ⊥) :
    f = up fun i j => EReal.toReal (f (ix2 i j)) :=
  ext2 fun i j => (EReal.coe_toReal (h _).1 (h _).2).symm

theorem coe_sum {ι : Type*} (s : Finset ι) (f : ι → ℝ) : ((∑ i ∈ s, f i : ℝ) : EReal) = ∑ i ∈ s, ((f i : ℝ) : EReal) :=
  map_sum (⟨⟨(fun r : ℝ => (r : EReal)), EReal.coe_zero⟩, EReal.coe_add⟩ : ℝ →+ EReal) f s

theorem addf_up (r s : Fin a → Fin b → ℝ) : addf (up (φ := φ) r) (up s) = up fun i j => r i j + s i j :=
  funext fun _ => (EReal.coe_add _ _).symm
theorem subf_up (r s : Fin a → Fin b → ℝ) : subf (up (φ := φ) r) (up s) = up fun i j => r i j - s i j :=
  funext fun _ => (EReal.coe_sub _ _).symm
theorem mulf_up (r s : Fin a → Fin b → ℝ) : mulf (up (φ := φ) r) (up s) = up fun i j => r i j * s i j :=
  funext fun _ => (EReal.coe_mul _ _).symm
theorem exp_up (r : Fin a → Fin b → ℝ) : exp (up (φ := φ) r) = up fun i j => Real.exp (r i j) := rfl
theorem tanh_up (r : Fin a → Fin b → ℝ) : tanh (up (φ := φ) r) = up fun i j => Real.tanh (r i j) := rfl
theorem log_up (r : Fin a → Fin b → ℝ) (h : ∀ i j, 0 < r i j) : log (up (φ := φ) r) = up fun i j => Real.log (r i j) :=
  funext fun i => by
    show Ideal.log ((r (i 0) (i 1) : ℝ) : EReal) = _
    unfold Ideal.log
    exact if_neg (not_le.mpr (h _ _))
theorem minimumf_up (r s : Fin a → Fin b → ℝ) : minimumf (up (φ := φ) r) (up s) = up fun i j => min (r i j) (s i j) :=
  funext fun _ => (EReal.coe_strictMono.monotone.map_min).symm
theorem absf_up (r : Fin a → Fin b → ℝ) : absf (up (φ := φ) r) = up fun i j => |r i j| := by
  funext i
  show max ((r (i 0) (i 1) : ℝ) : EReal) (-((r (i 0) (i 1) : ℝ) : EReal)) = _
  rw [← EReal.coe_neg]
  exact (EReal.coe_strictMono.monotone.map_max).symm
theorem truncf_up (r : Fin a → Fin b → ℝ) (h : ψ.bits < φ.bits) : truncf ψ (up (φ := φ) r) h = up r := rfl
theorem extf_up (r : Fin a → Fin b → ℝ) (h : φ.bits < ψ.bits) : extf ψ (up (φ := φ) r) h = up r := rfl
theorem broadcast_up (x : ℝ) : (broadcast (⟨2, ![a, b]⟩ : Shape) ((x : ℝ) : EReal) : FVec Ideal ⟨2, ![a, b]⟩ φ) = up fun _ _ => x := rfl

theorem zero_up : (broadcast (⟨2, ![a, b]⟩ : Shape) (Scalar.ofBits (F := Ideal) .f32 0x00000000#32) : FVec Ideal ⟨2, ![a, b]⟩ .f32) = up fun _ _ => 0 :=
  funext fun _ => Ideal.ofBits_zero_f32
theorem one_up : (broadcast (⟨2, ![a, b]⟩ : Shape) (Scalar.ofBits (F := Ideal) .f32 0x3F800000#32) : FVec Ideal ⟨2, ![a, b]⟩ .f32) = up fun _ _ => 1 :=
  funext fun _ => Ideal.ofBits_one_f32
theorem ofBits_sixteenth : Ideal.ofBits .f32 0x3D800000#32 = (((1 : ℝ) / 16 : ℝ) : EReal) := by
  simp [Ideal.ofBits, Ideal.ieee, -EReal.coe_mul]; norm_num
theorem ofBits_half : Ideal.ofBits .f32 0x3F000000#32 = (((1 : ℝ) / 2 : ℝ) : EReal) := by
  simp [Ideal.ofBits, Ideal.ieee, -EReal.coe_mul]; norm_num
theorem ofBits_sixteen : Ideal.ofBits .f32 0x41800000#32 = ((16 : ℝ) : EReal) := by
  simp [Ideal.ofBits, Ideal.ieee, -EReal.coe_mul]; norm_num
theorem sixteenth_up : (broadcast (⟨2, ![a, b]⟩ : Shape) (Scalar.ofBits (F := Ideal) .f32 0x3D800000#32) : FVec Ideal ⟨2, ![a, b]⟩ .f32) = up fun _ _ => 1 / 16 :=
  funext fun _ => ofBits_sixteenth
theorem half_up : (broadcast (⟨2, ![a, b]⟩ : Shape) (Scalar.ofBits (F := Ideal) .f32 0x3F000000#32) : FVec Ideal ⟨2, ![a, b]⟩ .f32) = up fun _ _ => 1 / 2 :=
  funext fun _ => ofBits_half

/-- The kernel's scale of the queries. -/
def sc : ℝ := EReal.toReal (Ideal.ofBits .f32 0x3DB504F3#32)
theorem ofBits_sc : Ideal.ofBits .f32 0x3DB504F3#32 = ((sc : ℝ) : EReal) := by
  refine (EReal.coe_toReal ?_ ?_).symm <;> simp [Ideal.ofBits, Ideal.ieee, -EReal.coe_mul]
theorem sc_up : (broadcast (⟨2, ![a, b]⟩ : Shape) (Scalar.ofBits (F := Ideal) .f32 0x3DB504F3#32) : FVec Ideal ⟨2, ![a, b]⟩ .f32) = up fun _ _ => sc :=
  funext fun _ => ofBits_sc

theorem row_up (r : Fin 1 → Fin b → ℝ) (h : (⟨2, ![1, b]⟩ : Shape).Broadcasts ⟨2, ![a, b]⟩) :
    broadcastTo ⟨2, ![a, b]⟩ (up (φ := φ) r) h = up fun _ j => r 0 j :=
  ext2 fun i j => broadcastTo_1b_ab_apply _ h i j

theorem cols_up (r : Fin a → Fin n → ℝ) (o : ℕ) (ho : o + b ≤ n) (h : (⟨2, ![a, n]⟩ : Shape).Slices ![0, o] ⟨2, ![a, b]⟩) :
    extractStridedSlice ⟨2, ![a, b]⟩ ![0, o] (up (φ := φ) r) h = up fun i j => r i ⟨o + j, by omega⟩ :=
  ext2 fun i j => slice2_axis1_apply o _ h i j _ rfl

theorem pair_up (r : Fin a → Fin n → ℝ) (s : Fin a → Fin n → ℝ) (h : Shape.Concatenates [⟨2, ![a, n]⟩, ⟨2, ![a, n]⟩] ⟨2, ![a, m]⟩ 1) (hm : m = n + n) :
    concatenate ⟨2, ![a, m]⟩ 1 [⟨⟨2, ![a, n]⟩, up (φ := φ) r⟩, ⟨⟨2, ![a, n]⟩, up (φ := φ) s⟩] h
      = (up fun i j => if hj : (j : ℕ) < n then r i ⟨j, hj⟩ else s i ⟨j - n, by omega⟩ : FVec Ideal ⟨2, ![a, m]⟩ φ) := by
  refine ext2 fun i j => ?_
  rw [up_ix2]
  split_ifs with hj
  · exact concatenate_pair_apply_left 1 _ _ h (ix2 i j) rfl (ix2 i ⟨j, hj⟩) fun c => match c with | ⟨0, _⟩ => rfl | ⟨1, _⟩ => rfl
  · refine concatenate_pair_apply_right 1 _ _ h (ix2 i j) rfl rfl (ix2 i ⟨j - n, by omega⟩) (fun c hc => ?_) ?_
    · match c with
      | ⟨0, _⟩ => rfl
      | ⟨1, _⟩ => exact absurd rfl hc
    · show (j : ℕ) - n + n = j
      omega

theorem mm_up (prec : Option ContractPrecision) (l : Fin a → Fin n → ℝ) (r : Fin n → Fin b → ℝ) :
    FloatOps.matmul (DotDims.plain a n b) prec (up (φ := φ) l) (up (φ := ψ) r) (constant (F := Ideal) ⟨2, ![a, b]⟩ .f32 0x00000000#32)
      = up fun i j => ∑ k, l i k * r k j := by
  refine ext2 fun i j => ?_
  rw [Ideal.matmul_plain_apply, up_ix2, coe_sum, constant_apply, Ideal.ofBits_zero_f32, zero_add]
  exact Finset.sum_congr rfl fun k _ => (EReal.coe_mul _ _).symm

theorem mmr_up (prec : Option ContractPrecision) (l : Fin a → Fin n → ℝ) (r : Fin b → Fin n → ℝ) :
    FloatOps.matmul (DotDims.transposedRhs a n b) prec (up (φ := φ) l) (up (φ := ψ) r) (constant (F := Ideal) ⟨2, ![a, b]⟩ .f32 0x00000000#32)
      = up fun i j => ∑ k, l i k * r j k := by
  refine ext2 fun i j => ?_
  rw [Ideal.matmul_transposedRhs_apply, up_ix2, coe_sum, constant_apply, Ideal.ofBits_zero_f32, zero_add]
  exact Finset.sum_congr rfl fun k _ => (EReal.coe_mul _ _).symm

/-- Both operands contracted over their rows. -/
theorem mml_apply (prec : Option ContractPrecision) (wf : DotDims.WF ⟨2, ![n, a]⟩ ⟨2, ![n, b]⟩ ⟨2, ![a, b]⟩ [0] [0] [1] [1] [] [])
    (l : FVec Ideal ⟨2, ![n, a]⟩ φ) (r : FVec Ideal ⟨2, ![n, b]⟩ ψ) (acc : FVec Ideal ⟨2, ![a, b]⟩ .f32) (i : Fin a) (j : Fin b) :
    FloatOps.matmul (DotDims.mk [0] [0] [1] [1] [] [] wf : DotDims ⟨2, ![n, a]⟩ ⟨2, ![n, b]⟩ ⟨2, ![a, b]⟩) prec l r acc (ix2 i j)
      = acc (ix2 i j) + ∑ k : Fin n, l (ix2 k i) * r (ix2 k j) := by
  have hr : (DotDims.mk [0] [0] [1] [1] [] [] wf : DotDims ⟨2, ![n, a]⟩ ⟨2, ![n, b]⟩ ⟨2, ![a, b]⟩).contr.rank = 1 := rfl
  rw [Ideal.matmul_apply, ← Equiv.sum_comp (contrEquiv1 _ n hr rfl).symm]
  refine congrArg (acc (ix2 i j) + ·) (Finset.sum_congr rfl fun k _ => ?_)
  have hk := contrEquiv1_symm_val _ n hr rfl k
  congr 1
  · refine congrArg l (funext fun c => Fin.ext ?_)
    match c with
    | ⟨0, _⟩ => exact hk
    | ⟨1, _⟩ => rfl
  · refine congrArg r (funext fun c => Fin.ext ?_)
    match c with
    | ⟨0, _⟩ => exact hk
    | ⟨1, _⟩ => rfl

theorem mml_up (prec : Option ContractPrecision) (wf : DotDims.WF ⟨2, ![n, a]⟩ ⟨2, ![n, b]⟩ ⟨2, ![a, b]⟩ [0] [0] [1] [1] [] [])
    (l : Fin n → Fin a → ℝ) (r : Fin n → Fin b → ℝ) :
    FloatOps.matmul (DotDims.mk [0] [0] [1] [1] [] [] wf : DotDims ⟨2, ![n, a]⟩ ⟨2, ![n, b]⟩ ⟨2, ![a, b]⟩) prec (up (φ := φ) l) (up (φ := ψ) r)
        (constant (F := Ideal) ⟨2, ![a, b]⟩ .f32 0x00000000#32)
      = up fun i j => ∑ k, l k i * r k j := by
  refine ext2 fun i j => ?_
  rw [mml_apply, up_ix2, coe_sum, constant_apply, Ideal.ofBits_zero_f32, zero_add]
  exact Finset.sum_congr rfl fun k _ => (EReal.coe_mul _ _).symm

/-- The sum of the rows, as one row. -/
theorem rowsum_up (r : Fin n → Fin b → ℝ) (h : (⟨2, ![n, b]⟩ : Shape).Reduces [0] ⟨1, ![b]⟩) (hφ : FKind.Formats .f32)
    (hacc : (0x00000000#32 : BitVec 32) = FKind.add.neutral .f32 hφ) (h' : (⟨1, ![b]⟩ : Shape).ShapeCasts ⟨2, ![1, b]⟩) :
    shapeCast ⟨2, ![1, b]⟩ (multiReduction .add [0] ⟨1, ![b]⟩ (up (φ := .f32) r) 0x00000000#32 h hφ hacc) h'
      = (up fun _ j => ∑ k, r k j : FVec Ideal ⟨2, ![1, b]⟩ .f32) := by
  refine ext2 fun i j => ?_
  rw [up_ix2, coe_sum]
  refine (shapeCast_a_1a_apply _ h' i j).trans ?_
  rw [Ideal.multiReduction_add_single]
  refine Finset.sum_congr rfl fun k _ => ?_
  show _ = (up (φ := .f32) r) (ix2 k j)
  refine congrArg _ (funext fun c => Fin.ext ?_)
  match c with
  | ⟨0, _⟩ => rfl
  | ⟨1, _⟩ => rfl

end Cert.Gla

end
-- ==== Proof.Payloads.lean ====
/- The kernel's named values on arrays of real numbers: each is the table the formula gives. The four heads use the same
   operations, so the first head's values are stated and the others are the same functions. -/
module

public import proofs.«01_k».proof.Proof.Coe
public import proofs.«01_k».proof.Proof.Gen.KernelIdeal.Skeleton

@[expose] public section

set_option maxRecDepth 20000

noncomputable section

namespace Cert.Gla

open Idealize.ShloMosaic Idealize.ShloMosaic.ValueIdx Cert.KernelIdeal Cert.KernelIdeal.Gen
open scoped BigOperators

variable [hF : Cert.KernelIdeal.Facts]

theorem word_toInt (n : ℕ) (h : n < 128) : (BitVec.ofNat 32 n).toInt = n := by
  rw [BitVec.toInt_eq_toNat_of_lt (by rw [BitVec.toNat_ofNat]; omega), BitVec.toNat_ofNat, Nat.mod_eq_of_lt (by omega)]

theorem mask_ge (i j : Fin 128) : (cmpi .sge (iota .tc S128x128 32 [0] iota_S128x128_d0_w32) (iota .tc S128x128 32 [1] iota_S128x128_d1_w32) : IVec S128x128 1) (ix2 i j)
    = BitVec.ofBool (decide (j ≤ i)) := by
  show BitVec.ofBool (decide ((BitVec.ofNat 32 (0 * 128 + (j : ℕ))).toInt ≤ (BitVec.ofNat 32 (0 * 128 + (i : ℕ))).toInt)) = _
  rw [word_toInt _ (by omega), word_toInt _ (by omega)]
  exact congrArg BitVec.ofBool (decide_eq_decide.mpr (by rw [Fin.le_def]; omega))

theorem mask_le (i j : Fin 128) : (cmpi .sle (iota .tc S128x128 32 [0] iota_S128x128_d0_w32) (iota .tc S128x128 32 [1] iota_S128x128_d1_w32) : IVec S128x128 1) (ix2 i j)
    = BitVec.ofBool (decide (i ≤ j)) := by
  show BitVec.ofBool (decide ((BitVec.ofNat 32 (0 * 128 + (i : ℕ))).toInt ≤ (BitVec.ofNat 32 (0 * 128 + (j : ℕ))).toInt)) = _
  rw [word_toInt _ (by omega), word_toInt _ (by omega)]
  exact congrArg BitVec.ofBool (decide_eq_decide.mpr (by rw [Fin.le_def]; omega))

theorem bit_int (p : Prop) [Decidable p] : ((((BitVec.ofBool (decide p)).setWidth 32).toInt : ℝ) : EReal) = (((if p then 1 else 0 : ℝ)) : EReal) := by
  by_cases h : p <;> simp [h]

theorem lower_up : (sitofp .f32 (extui 32 (cmpi .sge (iota .tc S128x128 32 [0] iota_S128x128_d0_w32) (iota .tc S128x128 32 [1] iota_S128x128_d1_w32)) natLt_1_32) : FVec Ideal S128x128 .f32)
    = up fun i j => if j ≤ i then 1 else 0 := by
  refine ext2 fun i j => ?_
  rw [sitofp_apply, extui_apply, mask_ge, up_ix2]
  exact bit_int _

theorem upper_up : k0_pay109 (F := Ideal) = up fun i j => if i ≤ j then 1 else 0 := by
  refine ext2 fun i j => ?_
  unfold k0_pay109
  dsimp only
  rw [sitofp_apply, extui_apply, mask_le, up_ix2]
  exact bit_int _

theorem causal_up (r : Fin 128 → Fin 128 → ℝ) :
    select k0_pay6 (up (φ := .f32) r) (up fun _ _ => 0) = (up fun i j => if j ≤ i then r i j else 0 : FVec Ideal S128x128 .f32) := by
  refine ext2 fun i j => ?_
  unfold k0_pay6
  dsimp only
  rw [select_apply, mask_ge, up_ix2, up_ix2, up_ix2]
  by_cases h : j ≤ i
  · simp [h, select_one]
  · simp [h, select_zero]

theorem mm_a (l : Fin 128 → Fin 128 → ℝ) (r : Fin 128 → Fin 512 → ℝ) {φ ψ : FTy} :
    matmul dot_S128x128_S128x512_S128x512_1_0_0_1_n_n none (up (φ := φ) l) (up (φ := ψ) r) (constant (F := Ideal) S128x512 .f32 0x00000000#32)
      = up fun i j => ∑ k, l i k * r k j := mm_up none l r
theorem mm_b (l : Fin 128 → Fin 128 → ℝ) (r : Fin 128 → Fin 1024 → ℝ) {φ ψ : FTy} :
    matmul dot_S128x128_S128x1024_S128x1024_1_0_0_1_n_n none (up (φ := φ) l) (up (φ := ψ) r) (constant (F := Ideal) S128x1024 .f32 0x00000000#32)
      = up fun i j => ∑ k, l i k * r k j := mm_up none l r
theorem mm_c (l r : Fin 128 → Fin 128 → ℝ) {φ ψ : FTy} :
    matmul dot_S128x128_S128x128_S128x128_1_1_0_0_n_n none (up (φ := φ) l) (up (φ := ψ) r) (constant (F := Ideal) S128x128 .f32 0x00000000#32)
      = up fun i j => ∑ k, l i k * r j k := mmr_up none l r
theorem mm_d (l r : Fin 128 → Fin 256 → ℝ) {φ ψ : FTy} :
    matmul dot_S128x256_S128x256_S128x128_1_1_0_0_n_n none (up (φ := φ) l) (up (φ := ψ) r) (constant (F := Ideal) S128x128 .f32 0x00000000#32)
      = up fun i j => ∑ k, l i k * r j k := mmr_up none l r
theorem mm_e (l : Fin 128 → Fin 256 → ℝ) (r : Fin 256 → Fin 128 → ℝ) {φ ψ : FTy} :
    matmul dot_S128x256_S256x128_S128x128_1_0_0_1_n_n none (up (φ := φ) l) (up (φ := ψ) r) (constant (F := Ideal) S128x128 .f32 0x00000000#32)
      = up fun i j => ∑ k, l i k * r k j := mm_up none l r
theorem mm_f (l r : Fin 128 → Fin 128 → ℝ) {φ ψ : FTy} :
    matmul dot_S128x128_S128x128_S128x128_1_0_0_1_n_n none (up (φ := φ) l) (up (φ := ψ) r) (constant (F := Ideal) S128x128 .f32 0x00000000#32)
      = up fun i j => ∑ k, l i k * r k j := mm_up none l r
theorem mm_g (l r : Fin 128 → Fin 128 → ℝ) {φ ψ : FTy} :
    matmul dot_S128x128_S128x128_S128x128_0_0_1_1_n_n none (up (φ := φ) l) (up (φ := ψ) r) (constant (F := Ideal) S128x128 .f32 0x00000000#32)
      = up fun i j => ∑ k, l k i * r k j := mml_up none _ l r
theorem mm_h (l : Fin 128 → Fin 128 → ℝ) (r : Fin 128 → Fin 256 → ℝ) {φ ψ : FTy} :
    matmul dot_S128x128_S128x256_S128x256_0_0_1_1_n_n none (up (φ := φ) l) (up (φ := ψ) r) (constant (F := Ideal) S128x256 .f32 0x00000000#32)
      = up fun i j => ∑ k, l k i * r k j := mml_up none _ l r
theorem mm_i (l : Fin 128 → Fin 128 → ℝ) (r : Fin 256 → Fin 128 → ℝ) {φ ψ : FTy} :
    matmul dot_S128x128_S256x128_S128x256_1_1_0_0_n_n none (up (φ := φ) l) (up (φ := ψ) r) (constant (F := Ideal) S128x256 .f32 0x00000000#32)
      = up fun i j => ∑ k, l i k * r j k := mmr_up none l r
theorem mm_j (l : Fin 128 → Fin 256 → ℝ) (r : Fin 128 → Fin 128 → ℝ) {φ ψ : FTy} :
    matmul dot_S128x256_S128x128_S256x128_0_0_1_1_n_n none (up (φ := φ) l) (up (φ := ψ) r) (constant (F := Ideal) S256x128 .f32 0x00000000#32)
      = up fun i j => ∑ k, l k i * r k j := mml_up none _ l r
theorem mm_k (l r : Fin 128 → Fin 512 → ℝ) {φ ψ : FTy} :
    matmul dot_S128x512_S128x512_S128x128_1_1_0_0_n_n none (up (φ := φ) l) (up (φ := ψ) r) (constant (F := Ideal) S128x128 .f32 0x00000000#32)
      = up fun i j => ∑ k, l i k * r j k := mmr_up none l r
theorem mm_l (l : Fin 128 → Fin 128 → ℝ) (r : Fin 128 → Fin 512 → ℝ) {φ ψ : FTy} :
    matmul dot_S128x128_S128x512_S128x512_0_0_1_1_n_n none (up (φ := φ) l) (up (φ := ψ) r) (constant (F := Ideal) S128x512 .f32 0x00000000#32)
      = up fun i j => ∑ k, l k i * r k j := mml_up none _ l r

/-- The log decay's scalar function: the logarithm of the logistic function. -/
def ls (z : ℝ) : ℝ := min z 0 - Real.log (1 + Real.exp (0 - |z|))

/-- The derivative of `ls`. -/
def dls (z : ℝ) : ℝ := 1 / 2 * Real.tanh (1 / 2 * (0 - z)) + 1 / 2

/-- The two-halves product with a triangular matrix is the running sum. -/
theorem tri_up (M : Fin 128 → Fin 128 → ℝ) (r : Fin 128 → Fin 512 → ℝ) :
    (let x : FVec Ideal S128x512 .f32 := up r
     let h : FVec Ideal S128x512 .bf16 := truncf .bf16 x bitsLt_bf16_f32
     let l : FVec Ideal S128x512 .bf16 := truncf .bf16 (subf x (extf .f32 h bitsLt_bf16_f32)) bitsLt_bf16_f32
     let p := matmul dot_S128x128_S128x1024_S128x1024_1_0_0_1_n_n none (truncf .bf16 (up (φ := .f32) M) bitsLt_bf16_f32)
       (concatenate S128x1024 1 [⟨S128x512, h⟩, ⟨S128x512, l⟩] concatenates_S128x512_S128x512_S128x1024_d1) (constant (F := Ideal) S128x1024 .f32 0x00000000#32)
     addf (extractStridedSlice S128x512 ![0, 0] p slices_S128x1024_o0_0_S128x512) (extractStridedSlice S128x512 ![0, 512] p slices_S128x1024_o0_512_S128x512))
      = up fun i j => ∑ k, M i k * r k j := by
  dsimp only
  rw [truncf_up, truncf_up, extf_up, subf_up, truncf_up, pair_up (n := 512) (m := 1024) _ _ _ rfl, mm_b]
  rw [cols_up _ 0 (by norm_num), cols_up _ 512 (by norm_num), addf_up]
  refine up_congr fun i j => ?_
  dsimp only
  have h1 : ∀ k : Fin 128, (if hj : 0 + (j : ℕ) < 512 then r k ⟨0 + j, hj⟩ else r k ⟨0 + j - 512, by omega⟩ - r k ⟨0 + j - 512, by omega⟩) = r k j := by
    intro k
    rw [dif_pos (by omega)]
    exact congrArg (r k) (Fin.ext (Nat.zero_add _))
  have h2 : ∀ k : Fin 128, (if hj : 512 + (j : ℕ) < 512 then r k ⟨512 + j, hj⟩ else r k ⟨512 + j - 512, by omega⟩ - r k ⟨512 + j - 512, by omega⟩) = 0 := by
    intro k
    rw [dif_neg (by omega), sub_self]
  simp only [h1, h2, mul_zero, Finset.sum_const_zero, add_zero]

theorem pay5_up (x : Fin 128 → Fin 128 → ℝ) (w : Fin 128 → Fin 512 → ℝ) (β : Fin 1 → Fin 512 → ℝ) :
    k0_pay5 (F := Ideal) (ub x) (ub w) (uf β) = up fun i j => (∑ k, x i k * w k j) + β 0 j := by
  unfold k0_pay5
  dsimp only
  rw [mm_a, row_up, addf_up]

theorem pay7_up (x : Fin 128 → Fin 128 → ℝ) (w : Fin 128 → Fin 512 → ℝ) (β : Fin 1 → Fin 512 → ℝ) :
    k0_pay7 (F := Ideal) (ub x) (ub w) (uf β)
      = up fun i j => ∑ k : Fin 128, (if k ≤ i then 1 else 0) * (ls ((∑ u, x k u * w u j) + β 0 j) * (1 / 16)) := by
  unfold k0_pay7
  dsimp only
  rw [pay5_up, zero_up, minimumf_up, absf_up, subf_up, exp_up, one_up, addf_up, log_up _ fun i j => by positivity, subf_up, sixteenth_up, mulf_up, lower_up,
    shapeCast_self]
  exact tri_up _ _

section Head
variable (bb : Fin 128 → Fin 128 → ℝ) (mm ll : Fin 1 → Fin 128 → ℝ) (q k : Fin 128 → Fin 128 → ℝ) (v g : Fin 128 → Fin 256 → ℝ)

theorem pay8_up : k0_pay8 (F := Ideal) (ub q) = up fun i x => q i x * sc := by
  unfold k0_pay8; dsimp only; rw [extf_up, sc_up, mulf_up]
theorem pay9_up : k0_pay9 (F := Ideal) (ub k) = up k := rfl
theorem pay10_up : k0_pay10 (F := Ideal) (uf bb) (uf mm) = up fun i x => Real.exp (bb i x - mm 0 x) := by
  unfold k0_pay10; dsimp only; rw [row_up, subf_up, exp_up]
theorem pay11_up : k0_pay11 (F := Ideal) (uf bb) (uf mm) = up fun i x => Real.exp (mm 0 x - bb i x) := by
  unfold k0_pay11; dsimp only; rw [row_up, subf_up, exp_up]
theorem pay12_up : k0_pay12 (F := Ideal) (uf bb) = up fun i x => Real.exp (bb i x) := rfl
theorem pay13_up : k0_pay13 (F := Ideal) (uf bb) (uf ll) = up fun i x => Real.exp (ll 0 x - bb i x) := by
  unfold k0_pay13; dsimp only; rw [row_up, subf_up, exp_up]
theorem pay14_up : k0_pay14 (F := Ideal) (uf ll) = up fun i x => Real.exp (ll i x) := rfl
theorem pay15_up : k0_pay15 (F := Ideal) (uf bb) (uf mm) (ub q) = up fun i x => q i x * sc * Real.exp (bb i x - mm 0 x) := by
  unfold k0_pay15; dsimp only; rw [pay8_up, pay10_up, mulf_up, truncf_up]
theorem pay16_up : k0_pay16 (F := Ideal) (uf bb) (uf mm) (ub k) = up fun i x => k i x * Real.exp (mm 0 x - bb i x) := by
  unfold k0_pay16; dsimp only; rw [pay9_up, pay11_up, mulf_up, truncf_up]
theorem pay17_up : k0_pay17 (F := Ideal) (uf bb) (ub q) = up fun i x => q i x * sc * Real.exp (bb i x) := by
  unfold k0_pay17; dsimp only; rw [pay8_up, pay12_up, mulf_up, truncf_up]
theorem pay18_up : k0_pay18 (F := Ideal) (uf bb) (uf ll) (ub k) = up fun i x => k i x * Real.exp (ll 0 x - bb i x) := by
  unfold k0_pay18; dsimp only; rw [pay9_up, pay13_up, mulf_up, truncf_up]
theorem pay22_up : k0_pay22 (F := Ideal) k0_pay6 (uf bb) (uf mm) (ub q) (ub k)
    = up fun i j => if j ≤ i then ∑ x, q i x * sc * Real.exp (bb i x - mm 0 x) * (k j x * Real.exp (mm 0 x - bb j x)) else 0 := by
  unfold k0_pay22; dsimp only; rw [pay15_up, pay16_up, mm_c, zero_up, causal_up, truncf_up]
theorem pay23_up : k0_pay23 (F := Ideal) k0_pay6 (ub v) (ub g) = up fun i j => if j ≤ i then ∑ y, g i y * v j y else 0 := by
  unfold k0_pay23; dsimp only; rw [mm_d, zero_up, causal_up, truncf_up]
theorem pay24_up (e : Fin 128 → Fin 128 → ℝ) (d : Fin 256 → Fin 128 → ℝ) :
    k0_pay24 (F := Ideal) (ub v) (uf e) (ub d) = up fun i x => (∑ y, v i y * d y x) * e i x := by
  unfold k0_pay24; dsimp only; rw [mm_e, mulf_up]
theorem pay25_up (e e' kt : Fin 128 → Fin 128 → ℝ) (d : Fin 256 → Fin 128 → ℝ) :
    k0_pay25 (F := Ideal) k0_pay6 (ub v) (ub g) (uf e) (uf e') (ub kt) (ub d)
      = up fun i x => (∑ j, (if j ≤ i then ∑ y, g i y * v j y else 0) * kt j x) * e i x + (∑ y, g i y * d y x) * e' i x := by
  unfold k0_pay25; dsimp only; rw [mm_e, mulf_up, pay23_up, mm_f, mulf_up, addf_up]
theorem pay26_up (e e' qt : Fin 128 → Fin 128 → ℝ) (d : Fin 256 → Fin 128 → ℝ) :
    k0_pay26 (F := Ideal) k0_pay6 (ub v) (ub g) (uf e) (uf e') (ub qt) (ub d)
      = up fun j x => (∑ i, (if j ≤ i then ∑ y, g i y * v j y else 0) * qt i x) * e j x + (∑ y, v j y * d y x) * e' j x := by
  unfold k0_pay26; dsimp only; rw [pay23_up, mm_g, mulf_up, pay24_up, addf_up]
theorem pay27_up (kg A : Fin 128 → Fin 128 → ℝ) (d : Fin 256 → Fin 128 → ℝ) :
    k0_pay27 (F := Ideal) (ub g) (ub kg) (ub d) (ub A) = up fun j y => (∑ i, A i j * g i y) + ∑ x, kg j x * d y x := by
  unfold k0_pay27; dsimp only; rw [mm_h, mm_i, addf_up]
theorem pay28_up (e : Fin 128 → Fin 128 → ℝ) (el : Fin 1 → Fin 128 → ℝ) (s d d' : Fin 256 → Fin 128 → ℝ) :
    k0_pay28 (F := Ideal) (uf k) (ub v) (uf e) (uf el) (uf s) (uf d) (ub d')
      = up fun i x => (∑ j, k j x * ((∑ y, v j y * d' y x) * e j x)) + (∑ y, s y x * d y x) * el i x := by
  unfold k0_pay28; dsimp only
  rw [pay24_up, mulf_up, mulf_up]
  exact (congrArg₂ addf (rowsum_up _ _ _ _ _) (congrArg (fun x => mulf x (uf el)) (rowsum_up _ _ _ _ _))).trans (by rw [mulf_up, addf_up])
theorem pay29_up (q' k' e e' e2 e3 qt kt : Fin 128 → Fin 128 → ℝ) (s d : Fin 256 → Fin 128 → ℝ) :
    k0_pay29 (F := Ideal) k0_pay6 (uf q') (uf k') (ub v) (ub g) (uf e) (uf e') (uf e2) (uf e3) (ub qt) (ub kt) (ub s) (ub d)
      = up fun i x => q' i x * ((∑ j, (if j ≤ i then ∑ y, g i y * v j y else 0) * kt j x) * e i x + (∑ y, g i y * s y x) * e2 i x)
          - k' i x * ((∑ j, (if i ≤ j then ∑ y, g j y * v i y else 0) * qt j x) * e' i x + (∑ y, v i y * d y x) * e3 i x) := by
  unfold k0_pay29; dsimp only
  rw [pay25_up, pay26_up, mulf_up, mulf_up, subf_up, shapeCast_self]
theorem pay30_up (el : Fin 1 → Fin 128 → ℝ) (qg : Fin 128 → Fin 128 → ℝ) (d : Fin 256 → Fin 128 → ℝ) :
    k0_pay30 (F := Ideal) (ub g) (uf el) (ub qg) (uf d) = up fun y x => d y x * el 0 x + ∑ i, g i y * qg i x := by
  unfold k0_pay30; dsimp only
  rw [row_up, mulf_up, mm_j, addf_up, shapeCast_self]
theorem pay31_up (e e' kt : Fin 128 → Fin 128 → ℝ) (d : Fin 256 → Fin 128 → ℝ) :
    k0_pay31 (F := Ideal) k0_pay6 (ub v) (ub g) (uf e) (uf e') (ub kt) (ub d)
      = up fun i x => ((∑ j, (if j ≤ i then ∑ y, g i y * v j y else 0) * kt j x) * e i x + (∑ y, g i y * d y x) * e' i x) * sc := by
  unfold k0_pay31; dsimp only
  rw [pay25_up, sc_up, mulf_up, truncf_up]

end Head

theorem pay1_up (z : Fin 128 → Fin 512 → ℝ) (s : Fin 8 → Fin 512 → ℝ) :
    k0_pay1 (F := Ideal) (ub z) (uf s) = up fun i j => s i j + ∑ p : Fin 16, z ⟨8 * p + i, by omega⟩ j := by
  unfold k0_pay1; dsimp only
  rw [shapeCast_self, extf_up]
  refine ext2 fun i j => ?_
  rw [up_ix2, EReal.coe_add, coe_sum]
  refine congrArg _ ((Ideal.multiReduction_add_single _ _ _ _ _ _).trans (Finset.sum_congr rfl fun p _ => ?_))
  refine shapeCast_apply _ _ _ (ix2 (⟨8 * p + i, by have := p.isLt; have : S16x8x512.size 0 = 16 := rfl; omega⟩ : Fin 128) j) ?_
  rw [Shape.rowMajor_val_two, Shape.rowMajor_val_three]
  show (8 * (p : ℕ) + i) * 512 + j = ((p : ℕ) * 8 + i) * 512 + j
  ring

end Cert.Gla

end
-- ==== Proof.Sums.lean ====
/-
  The arithmetic of gated linear attention's gradient over the reals, for one head. `q`, `k` (rows by key column), `v`, `g`
  (rows by value column; `g` is the gradient of the output) and the log decay `la` are functions of the row; `cum la n` is
  the sum of the log decays of the rows before `n`. `DQ`, `DK`, `DV`, `DLA` are the gradients as sums over pairs of rows;
  `ST` and `DS` are the states at a chunk's start, summed from the left and from the right. Each lemma splits one gradient
  at the chunk of 128 rows that the kernel works on.
-/
module

public import Mathlib.Analysis.SpecialFunctions.Exp
public import Mathlib.Algebra.BigOperators.Intervals

@[expose] public section

noncomputable section

namespace Cert.Gla

open Finset

/-- The sum of the first `n` log decays of column `x`. -/
def cum (la : ℕ → Fin 128 → ℝ) (n : ℕ) (x : Fin 128) : ℝ := ∑ s ∈ range n, la s x

/-- The running sum inside chunk `c`. -/
def loc (la : ℕ → Fin 128 → ℝ) (c i : ℕ) (x : Fin 128) : ℝ := ∑ s ∈ range (i + 1), la (128 * c + s) x

theorem loc_eq (la : ℕ → Fin 128 → ℝ) (c i : ℕ) (x : Fin 128) :
    loc la c i x = cum la (128 * c + i + 1) x - cum la (128 * c) x := by
  have h := sum_range_add (fun s => la s x) (128 * c) (i + 1)
  unfold loc cum
  rw [show 128 * c + i + 1 = 128 * c + (i + 1) from rfl]
  linarith

variable (q k : ℕ → Fin 128 → ℝ) (v g : ℕ → Fin 256 → ℝ) (la : ℕ → Fin 128 → ℝ)

def G (t s : ℕ) : ℝ := ∑ y : Fin 256, g t y * v s y

/-- The decay from row `s` to row `t`. -/
def dec (t s : ℕ) (x : Fin 128) : ℝ := Real.exp (cum la (t + 1) x - cum la (s + 1) x)

def A (t s : ℕ) : ℝ := ∑ x : Fin 128, q t x * k s x * dec la t s x

def DQ (t : ℕ) (x : Fin 128) : ℝ := ∑ s ∈ range (t + 1), G v g t s * dec la t s x * k s x

def DK (s : ℕ) (x : Fin 128) : ℝ := ∑ t ∈ Ico s 8320, q t x * (G v g t s * dec la t s x)

def DV (s : ℕ) (y : Fin 256) : ℝ := ∑ t ∈ Ico s 8320, g t y * A q k la t s

def DB (t : ℕ) (x : Fin 128) : ℝ := q t x * DQ k v g la t x - k t x * DK q v g la t x

def DLA (s : ℕ) (x : Fin 128) : ℝ := ∑ t ∈ Ico s 8320, DB q k v g la t x

/-- The state at the start of chunk `c`. -/
def ST (c : ℕ) (y : Fin 256) (x : Fin 128) : ℝ :=
  ∑ s ∈ range (128 * c), k s x * Real.exp (cum la (128 * c) x - cum la (s + 1) x) * v s y

/-- The gradient of the state at the start of chunk `c`. -/
def DS (c : ℕ) (y : Fin 256) (x : Fin 128) : ℝ :=
  ∑ t ∈ Ico (128 * c) 8320, g t y * (q t x * Real.exp (cum la (t + 1) x - cum la (128 * c) x))

theorem sum_chunk (f : ℕ → ℝ) (c : ℕ) (hc : c < 65) :
    ∑ t ∈ Ico (128 * c) 8320, f t = ∑ i : Fin 128, f (128 * c + i) + ∑ t ∈ Ico (128 * (c + 1)) 8320, f t := by
  rw [← sum_Ico_consecutive f (show 128 * c ≤ 128 * (c + 1) by omega) (by omega), sum_Ico_eq_sum_range f (128 * c) (128 * (c + 1)),
    show 128 * (c + 1) - 128 * c = 128 by omega, ← Fin.sum_univ_eq_sum_range (fun i => f (128 * c + i))]

theorem sum_before (f : ℕ → ℝ) (c : ℕ) :
    ∑ t ∈ range (128 * (c + 1)), f t = ∑ t ∈ range (128 * c), f t + ∑ i : Fin 128, f (128 * c + i) := by
  rw [show 128 * (c + 1) = 128 * c + 128 from by ring, sum_range_add, ← Fin.sum_univ_eq_sum_range (fun i => f (128 * c + i))]

theorem sum_upto (f : ℕ → ℝ) (c : ℕ) (i : Fin 128) :
    ∑ s ∈ range (128 * c + i + 1), f s = ∑ s ∈ range (128 * c), f s + ∑ j : Fin 128, if j ≤ i then f (128 * c + j) else 0 := by
  rw [show 128 * c + i + 1 = 128 * c + (i + 1) from rfl, sum_range_add]
  congr 1
  have e : (∑ j : Fin 128, if j ≤ i then f (128 * c + j) else 0) = ∑ j : Fin 128, (fun n : ℕ => if n ≤ (i : ℕ) then f (128 * c + n) else 0) j :=
    sum_congr rfl fun j _ => rfl
  rw [e, Fin.sum_univ_eq_sum_range (fun n : ℕ => if n ≤ (i : ℕ) then f (128 * c + n) else 0) 128, ← sum_filter]
  refine sum_congr (Finset.ext fun n => ?_) fun _ _ => rfl
  simp only [mem_range, mem_filter]
  have := i.isLt
  omega

theorem sum_from (f : ℕ → ℝ) (c : ℕ) (hc : c < 65) (j : Fin 128) :
    ∑ t ∈ Ico (128 * c + j) 8320, f t
      = (∑ i : Fin 128, if j ≤ i then f (128 * c + i) else 0) + ∑ t ∈ Ico (128 * (c + 1)) 8320, f t := by
  have := j.isLt
  rw [← sum_Ico_consecutive f (show 128 * c + j ≤ 128 * (c + 1) by omega) (by omega)]
  congr 1
  have e : (∑ i : Fin 128, if j ≤ i then f (128 * c + i) else 0) = ∑ i : Fin 128, (fun n : ℕ => if (j : ℕ) ≤ n then f (128 * c + n) else 0) i :=
    sum_congr rfl fun i _ => rfl
  rw [e, Fin.sum_univ_eq_sum_range (fun n : ℕ => if (j : ℕ) ≤ n then f (128 * c + n) else 0) 128, ← sum_filter]
  refine sum_bij (fun t _ => t - 128 * c) ?_ ?_ ?_ ?_
  · intro t ht; simp only [mem_Ico, mem_filter, mem_range] at *; omega
  · intro t ht t' ht' h; simp only [mem_Ico] at *; omega
  · intro n hn; simp only [mem_Ico, mem_filter, mem_range] at *; exact ⟨128 * c + n, by omega, by omega⟩
  · intro t ht; simp only [mem_Ico] at *; congr 1; omega

/-- The state's gradient, one chunk to the left. -/
theorem ds_step (c : ℕ) (hc : c < 65) (y : Fin 256) (x : Fin 128) :
    DS q g la c y x = DS q g la (c + 1) y x * Real.exp (loc la c 127 x)
      + ∑ i : Fin 128, g (128 * c + i) y * (q (128 * c + i) x * Real.exp (loc la c i x)) := by
  unfold DS
  rw [sum_chunk _ c hc, add_comm, sum_mul]
  congr 1
  · refine sum_congr rfl fun t _ => ?_
    rw [loc_eq, show 128 * c + 127 + 1 = 128 * (c + 1) by ring, mul_assoc, mul_assoc, ← Real.exp_add]
    ring_nf
  · refine sum_congr rfl fun i _ => ?_
    rw [loc_eq]

theorem ds_end (y : Fin 256) (x : Fin 128) : DS q g la 65 y x = 0 := by
  unfold DS
  rw [show 128 * 65 = 8320 by norm_num, Ico_self, sum_empty]

/-- The gradient of `q` in chunk `c`; `M` is any number, the kernel's the running sum in the chunk's middle. -/
theorem dq_chunk (c : ℕ) (i : Fin 128) (x : Fin 128) (M : ℝ) :
    (∑ j : Fin 128, (if j ≤ i then G v g (128 * c + i) (128 * c + j) else 0) * (k (128 * c + j) x * Real.exp (M - loc la c j x)))
        * Real.exp (loc la c i x - M)
      + (∑ y : Fin 256, g (128 * c + i) y * ST k v la c y x) * Real.exp (loc la c i x)
    = DQ k v g la (128 * c + i) x := by
  unfold DQ
  rw [sum_upto, add_comm, sum_mul, sum_mul]
  congr 1
  · unfold ST G
    simp only [mul_sum, sum_mul]
    rw [sum_comm]
    refine sum_congr rfl fun s _ => sum_congr rfl fun y _ => ?_
    unfold dec
    rw [loc_eq, show cum la (128 * c + i + 1) x - cum la (s + 1) x = (cum la (128 * c) x - cum la (s + 1) x) + (cum la (128 * c + i + 1) x - cum la (128 * c) x) by ring,
      Real.exp_add]
    ring
  · refine sum_congr rfl fun j _ => ?_
    split_ifs with h
    · unfold dec
      rw [loc_eq, loc_eq, show cum la (128 * c + i + 1) x - cum la (128 * c + j + 1) x
        = (M - (cum la (128 * c + j + 1) x - cum la (128 * c) x)) + ((cum la (128 * c + i + 1) x - cum la (128 * c) x) - M) by ring, Real.exp_add]
      ring
    · simp

/-- The part of the gradient of `k` that comes from later chunks. -/
theorem dk_inter (c : ℕ) (j : Fin 128) (x : Fin 128) :
    (∑ y : Fin 256, v (128 * c + j) y * DS q g la (c + 1) y x) * Real.exp (loc la c 127 x - loc la c j x)
    = ∑ t ∈ Ico (128 * (c + 1)) 8320, q t x * (G v g t (128 * c + j) * dec la t (128 * c + j) x) := by
  unfold DS G
  simp only [mul_sum, sum_mul]
  rw [sum_comm]
  refine sum_congr rfl fun t _ => sum_congr rfl fun y _ => ?_
  unfold dec
  rw [loc_eq, loc_eq, show 128 * c + 127 + 1 = 128 * (c + 1) by ring,
    show cum la (t + 1) x - cum la (128 * c + j + 1) x = (cum la (t + 1) x - cum la (128 * (c + 1)) x)
      + ((cum la (128 * (c + 1)) x - cum la (128 * c) x) - (cum la (128 * c + j + 1) x - cum la (128 * c) x)) by ring, Real.exp_add]
  ring

/-- The gradient of `k` in chunk `c`. -/
theorem dk_chunk (c : ℕ) (hc : c < 65) (j : Fin 128) (x : Fin 128) (M : ℝ) :
    (∑ i : Fin 128, (if j ≤ i then G v g (128 * c + i) (128 * c + j) else 0) * (q (128 * c + i) x * Real.exp (loc la c i x - M)))
        * Real.exp (M - loc la c j x)
      + (∑ y : Fin 256, v (128 * c + j) y * DS q g la (c + 1) y x) * Real.exp (loc la c 127 x - loc la c j x)
    = DK q v g la (128 * c + j) x := by
  unfold DK
  rw [sum_from _ c hc, dk_inter, sum_mul]
  congr 1
  refine sum_congr rfl fun i _ => ?_
  split_ifs with h
  · unfold dec
    rw [loc_eq, loc_eq, show cum la (128 * c + i + 1) x - cum la (128 * c + j + 1) x
      = (M - (cum la (128 * c + j + 1) x - cum la (128 * c) x)) + ((cum la (128 * c + i + 1) x - cum la (128 * c) x) - M) by ring, Real.exp_add]
    ring
  · simp

/-- The gradient of `v` in chunk `c`; `M` as in `dq_chunk`. -/
theorem dv_chunk (c : ℕ) (hc : c < 65) (j : Fin 128) (y : Fin 256) (M : Fin 128 → ℝ) :
    (∑ i : Fin 128, (if j ≤ i then ∑ x : Fin 128, q (128 * c + i) x * Real.exp (loc la c i x - M x) * (k (128 * c + j) x * Real.exp (M x - loc la c j x)) else 0)
        * g (128 * c + i) y)
      + ∑ x : Fin 128, k (128 * c + j) x * Real.exp (loc la c 127 x - loc la c j x) * DS q g la (c + 1) y x
    = DV q k g la (128 * c + j) y := by
  unfold DV
  rw [sum_from _ c hc]
  congr 1
  · refine sum_congr rfl fun i _ => ?_
    split_ifs with h
    · rw [mul_comm]
      congr 1
      unfold A
      refine sum_congr rfl fun x _ => ?_
      unfold dec
      rw [loc_eq, loc_eq, show cum la (128 * c + i + 1) x - cum la (128 * c + j + 1) x
        = (M x - (cum la (128 * c + j + 1) x - cum la (128 * c) x)) + ((cum la (128 * c + i + 1) x - cum la (128 * c) x) - M x) by ring, Real.exp_add]
      ring
    · simp
  · unfold DS A
    simp only [mul_sum]
    rw [sum_comm]
    refine sum_congr rfl fun t _ => sum_congr rfl fun x _ => ?_
    unfold dec
    rw [loc_eq, loc_eq, show 128 * c + 127 + 1 = 128 * (c + 1) by ring,
      show cum la (t + 1) x - cum la (128 * c + j + 1) x = (cum la (t + 1) x - cum la (128 * (c + 1)) x)
        + ((cum la (128 * (c + 1)) x - cum la (128 * c) x) - (cum la (128 * c + j + 1) x - cum la (128 * c) x)) by ring, Real.exp_add]
    ring

/-- What the pair of rows `t` after `s` gives to both gradients' products. -/
def pair (t s : ℕ) (x : Fin 128) : ℝ := q t x * (G v g t s * dec la t s x) * k s x

theorem db_tail (e : ℕ) (he : e ≤ 8320) (x : Fin 128) :
    ∑ t ∈ Ico e 8320, DB q k v g la t x = ∑ s ∈ range e, ∑ t ∈ Ico e 8320, pair q k v g la t s x := by
  have h1 : ∑ t ∈ Ico e 8320, q t x * DQ k v g la t x
      = ∑ t ∈ Ico e 8320, ∑ s ∈ range e, pair q k v g la t s x + ∑ t ∈ Ico e 8320, ∑ s ∈ Ico e (t + 1), pair q k v g la t s x := by
    rw [← sum_add_distrib]
    refine sum_congr rfl fun t ht => ?_
    have := (mem_Ico.mp ht).1
    unfold DQ
    rw [mul_sum, range_eq_Ico, range_eq_Ico, sum_Ico_consecutive _ (Nat.zero_le _) (by omega)]
    refine sum_congr rfl fun s _ => ?_
    unfold pair
    ring
  have h2 : ∑ s ∈ Ico e 8320, k s x * DK q v g la s x = ∑ t ∈ Ico e 8320, ∑ s ∈ Ico e (t + 1), pair q k v g la t s x := by
    rw [← sum_Ico_Ico_comm e 8320 (fun s t => pair q k v g la t s x)]
    refine sum_congr rfl fun s _ => ?_
    unfold DK
    rw [mul_sum]
    refine sum_congr rfl fun t _ => ?_
    unfold pair
    ring
  unfold DB
  rw [sum_sub_distrib, h1, h2, add_sub_cancel_right, sum_comm]

/-- What the later chunks give to the log decays' gradient. -/
theorem dlast_chunk (c : ℕ) (hc : c < 65) (x : Fin 128) :
    (∑ j : Fin 128, k (128 * c + j) x * ((∑ y : Fin 256, v (128 * c + j) y * DS q g la (c + 1) y x) * Real.exp (loc la c 127 x - loc la c j x)))
      + (∑ y : Fin 256, ST k v la c y x * DS q g la (c + 1) y x) * Real.exp (loc la c 127 x)
    = ∑ t ∈ Ico (128 * (c + 1)) 8320, DB q k v g la t x := by
  rw [db_tail q k v g la _ (by omega), sum_before, add_comm]
  congr 1
  · have e : (∑ y : Fin 256, ST k v la c y x * DS q g la (c + 1) y x) * Real.exp (loc la c 127 x)
        = ∑ y : Fin 256, ∑ s ∈ range (128 * c), ∑ t ∈ Ico (128 * (c + 1)) 8320, q t x * (g t y * v s y * dec la t s x) * k s x := by
      rw [sum_mul]
      refine sum_congr rfl fun y _ => ?_
      unfold ST DS
      rw [sum_mul, sum_mul]
      refine sum_congr rfl fun s _ => ?_
      rw [mul_sum, sum_mul]
      refine sum_congr rfl fun t _ => ?_
      unfold dec
      rw [loc_eq, show 128 * c + 127 + 1 = 128 * (c + 1) by ring,
        show cum la (t + 1) x - cum la (s + 1) x = (cum la (128 * c) x - cum la (s + 1) x)
          + (cum la (t + 1) x - cum la (128 * (c + 1)) x) + (cum la (128 * (c + 1)) x - cum la (128 * c) x) by ring, Real.exp_add, Real.exp_add]
      ring
    rw [e, sum_comm]
    refine sum_congr rfl fun s _ => ?_
    rw [sum_comm]
    refine sum_congr rfl fun t _ => ?_
    unfold pair G
    simp only [sum_mul, mul_sum]
  · refine sum_congr rfl fun j _ => ?_
    rw [dk_inter, mul_sum]
    refine sum_congr rfl fun t _ => ?_
    unfold pair
    ring

/-- The log decays' gradient in chunk `c`. -/
theorem dla_chunk (c : ℕ) (hc : c < 65) (i : Fin 128) (x : Fin 128) :
    (∑ j : Fin 128, if i ≤ j then DB q k v g la (128 * c + j) x else 0)
      + ((∑ j : Fin 128, k (128 * c + j) x * ((∑ y : Fin 256, v (128 * c + j) y * DS q g la (c + 1) y x) * Real.exp (loc la c 127 x - loc la c j x)))
      + (∑ y : Fin 256, ST k v la c y x * DS q g la (c + 1) y x) * Real.exp (loc la c 127 x))
    = DLA q k v g la (128 * c + i) x := by
  rw [dlast_chunk q k v g la c hc, DLA, sum_from _ c hc]

end Cert.Gla

end
-- ==== Proof.Chunk.lean ====
/- One grid point of the kernel: what its loads read when the blocks are tables of real numbers, and the tables its stores
   write, named after the whole problem's gradients. `Pm` is the projection (queries, keys, values by column), `Am` and `Wm`
   the low-rank decay factors, `Bm` the decay bias, `Gm` the gradient of the output; rows are rows of the whole problem. -/
module

public import proofs.«01_k».proof.Proof.Payloads
public import proofs.«01_k».proof.Proof.Sums
public import Idealize.ShloMosaic.Lib.Pipeline.ValueKit
public import Idealize.ShloMosaic.Lib.Pipeline.Value

@[expose] public section

set_option maxRecDepth 20000

noncomputable section

namespace Cert.Gla

open Idealize.ShloMosaic Idealize.ShloMosaic.ValueIdx Cert.KernelIdeal Cert.KernelIdeal.Gen
open scoped BigOperators

/-! ## Loads -/

section Loads
variable {a b m n : ℕ}

theorem ld_full_f (r : Fin a → Fin b → ℝ) (inb) :
    View.ld (Val := Elt Ideal) (S := ⟨2, ![a, b]⟩) (e' := .f32) (uf r) (Rect.unit ![0, 0] (no_index ![a, b]) inb) = uf r :=
  View.ld_unit_zero (S := ⟨2, ![a, b]⟩) (funext fun c => match c with | ⟨0, _⟩ => rfl | ⟨1, _⟩ => rfl) inb _
theorem ld_full_b (r : Fin a → Fin b → ℝ) (inb) :
    View.ld (Val := Elt Ideal) (S := ⟨2, ![a, b]⟩) (e' := .bf16) (ub r) (Rect.unit ![0, 0] (no_index ![a, b]) inb) = ub r :=
  View.ld_unit_zero (S := ⟨2, ![a, b]⟩) (funext fun c => match c with | ⟨0, _⟩ => rfl | ⟨1, _⟩ => rfl) inb _

theorem ld_cols_f (r : Fin a → Fin b → ℝ) (o : ℕ) (inb) (ho : o + n ≤ b) :
    View.ld (Val := Elt Ideal) (S := ⟨2, ![a, b]⟩) (e' := .f32) (uf r) (Rect.unit ![0, o] (no_index ![a, n]) inb) = uf fun i (j : Fin n) => r i ⟨o + j, by omega⟩ := by
  refine ext2 fun i j => ?_
  show ((r _ _ : ℝ) : EReal) = ((r _ _ : ℝ) : EReal)
  congr 2
  · exact Fin.ext (show 0 + 1 * (i : ℕ) = i by omega)
  · exact Fin.ext (show o + 1 * (j : ℕ) = o + j by omega)
theorem ld_cols_b (r : Fin a → Fin b → ℝ) (o : ℕ) (inb) (ho : o + n ≤ b) :
    View.ld (Val := Elt Ideal) (S := ⟨2, ![a, b]⟩) (e' := .bf16) (ub r) (Rect.unit ![0, o] (no_index ![a, n]) inb) = ub fun i (j : Fin n) => r i ⟨o + j, by omega⟩ := by
  refine ext2 fun i j => ?_
  show ((r _ _ : ℝ) : EReal) = ((r _ _ : ℝ) : EReal)
  congr 2
  · exact Fin.ext (show 0 + 1 * (i : ℕ) = i by omega)
  · exact Fin.ext (show o + 1 * (j : ℕ) = o + j by omega)
theorem ld_row_f (r : Fin a → Fin b → ℝ) (p o : ℕ) (inb) (hp : p < a) (ho : o + n ≤ b) :
    View.ld (Val := Elt Ideal) (S := ⟨2, ![a, b]⟩) (e' := .f32) (uf r) (Rect.unit ![p, o] (no_index ![1, n]) inb)
      = uf fun (_ : Fin 1) (j : Fin n) => r ⟨p, hp⟩ ⟨o + j, by omega⟩ := by
  refine ext2 fun i j => ?_
  show ((r _ _ : ℝ) : EReal) = ((r _ _ : ℝ) : EReal)
  congr 2
  · exact Fin.ext (show p + 1 * (i : ℕ) = p by omega)
  · exact Fin.ext (show o + 1 * (j : ℕ) = o + j by omega)

/-- Four heads' tables of 256 rows stacked. -/
def stack (f : ℕ → Fin 256 → Fin 128 → ℝ) (i : Fin 1024) (j : Fin 128) : ℝ := f (i / 256) ⟨i % 256, Nat.mod_lt _ (by norm_num)⟩ j

theorem stack_at (f : ℕ → Fin 256 → Fin 128 → ℝ) (h : ℕ) (y : Fin 256) (x : Fin 128) (i : Fin 1024) (hi : (i : ℕ) = 256 * h + y) :
    stack f i x = f h y x := by
  unfold stack
  have h1 : (i : ℕ) / 256 = h := by omega
  rw [h1]
  congr 1
  exact Fin.ext (show (i : ℕ) % 256 = y by omega)

theorem ld_stack (f : ℕ → Fin 256 → Fin 128 → ℝ) (o h : ℕ) (e : o = 256 * h) (hh : h < 4) (inb) :
    View.ld (Val := Elt Ideal) (S := ⟨2, ![1024, 128]⟩) (e' := .f32) (uf (stack f)) (Rect.unit ![o, 0] (no_index ![256, 128]) inb) = uf (f h) := by
  refine ext2 fun i j => ?_
  have hj : ∀ (y : Fin 128) (i' : Fin 1024), (y : ℕ) = j → (i' : ℕ) = o + i → stack f i' y = f h i j := by
    intro y i' hy hi
    obtain rfl : y = j := Fin.ext hy
    exact stack_at f h i y i' (by omega)
  exact congrArg (fun r : ℝ => (r : EReal)) (hj _ _ (show 0 + 1 * (j : ℕ) = j by omega) (show o + 1 * (i : ℕ) = o + i by omega))

/-- The states' block. -/
def up3 (r : Fin 1024 → Fin 128 → ℝ) : FVec Ideal ⟨3, ![1, 1024, 128]⟩ .f32 := fun i => ((r (i 1) (i 2) : ℝ) : EReal)

theorem ld_up3 (f : ℕ → Fin 256 → Fin 128 → ℝ) (o h : ℕ) (e : o = 256 * h) (hh : h < 4) (inb) (hs : (⟨3, ![1, 256, 128]⟩ : Shape).ShapeCasts ⟨2, ![256, 128]⟩) :
    shapeCast (no_index ⟨2, ![256, 128]⟩) (View.ld (Val := Elt Ideal) (S := ⟨3, ![1, 1024, 128]⟩) (e' := .f32) (up3 (stack f)) (Rect.unit ![0, o, 0] (no_index ![1, 256, 128]) inb)) hs
      = uf (f h) := by
  refine ext2 fun i j => ?_
  refine (shapeCast_1ab_ab_apply _ hs i j).trans ?_
  have hj : ∀ (y : Fin 128) (i' : Fin 1024), (y : ℕ) = j → (i' : ℕ) = o + i → stack f i' y = f h i j := by
    intro y i' hy hi
    obtain rfl : y = j := Fin.ext hy
    exact stack_at f h i y i' (by omega)
  exact congrArg (fun r : ℝ => (r : EReal)) (hj _ _ (show 0 + 1 * (j : ℕ) = j by omega) (show o + 1 * (i : ℕ) = o + i by omega))

/-- A list of one piece that covers its whole buffer. -/
theorem canon_whole {a b : ℕ} {e : EltTy} (inb) (f : (⟨2, ![a, b]⟩ : Shape).Idx → Elt Ideal e) :
    View.canon (Val := Elt Ideal) (s := ⟨2, ![a, b]⟩) (e := e) [⟨Rect.unit (s := ⟨2, ![a, b]⟩) ![0, 0] (no_index ![a, b]) inb, f⟩] = f :=
  View.canon_unit_zero (funext fun c => match c with | ⟨0, _⟩ => rfl | ⟨1, _⟩ => rfl) inb f

theorem readCov_ld {a b : ℕ} {e : EltTy} {κ sp} (v : View sig κ sp ⟨2, ![a, b]⟩ e) (L) (B : Rect ⟨2, ![a, b]⟩) :
    v.readCov (Val := Elt Ideal) L B.toLoadRect = View.ld (View.canon L) B := View.readCov_eq_canon' v L B.toLoadRect

theorem canon_last {a b : ℕ} {e : EltTy} (inb) (f : (⟨2, ![a, b]⟩ : Shape).Idx → Elt Ideal e) (L : List (View.Piece (Elt Ideal) ⟨2, ![a, b]⟩ e)) :
    View.canon (⟨Rect.unit (s := ⟨2, ![a, b]⟩) ![0, 0] (no_index ![a, b]) inb, f⟩ :: L) = f :=
  View.canon_cons_unit_zero (funext fun c => match c with | ⟨0, _⟩ => rfl | ⟨1, _⟩ => rfl) inb f L

/-- Rows below a piece are read from the pieces before it. -/
theorem ld_skip (p o : ℕ) (inb inb') (f : (Rect.unit (s := ⟨2, ![1024, 128]⟩) ![p, 0] ![256, 128] inb).shape.Idx → Elt Ideal .f32)
    (L : List (View.Piece (Elt Ideal) ⟨2, ![1024, 128]⟩ .f32)) (h : p + 256 ≤ o) :
    View.ld (View.canon (⟨Rect.unit (s := ⟨2, ![1024, 128]⟩) ![p, 0] (no_index ![256, 128]) inb, f⟩ :: L)) (Rect.unit ![o, 0] (no_index ![256, 128]) inb')
      = View.ld (View.canon L) (Rect.unit ![o, 0] ![256, 128] inb') := by
  funext x
  refine View.canon_cons_of_not_mem _ _ fun hm => ?_
  rw [Rect.mem_set_unit] at hm
  have h0 := (hm 0).2
  have e : o + 1 * ((x 0 : Fin 256) : ℕ) < p + 256 := h0
  omega

/-- The newest pieces decide where they cover, whatever lies below them. -/
theorem canon_prefix {S : Shape} {e : EltTy} (G : S.Idx → Elt Ideal e) (L' : List (View.Piece (Elt Ideal) S e)) :
    ∀ (L : List (View.Piece (Elt Ideal) S e)) (_ : ∀ p ∈ L, ∀ x : p.1.shape.Idx, p.2 x = G (p.1.emb x)) (y : S.Idx)
      (_ : ∃ p ∈ L, y ∈ p.1.set), View.canon (L ++ L') y = G y
  | [], _, _, hy => by obtain ⟨p, hp, _⟩ := hy; simp at hp
  | p :: L, hL, y, hy => by
    by_cases hm : y ∈ p.1.set
    · obtain ⟨x, rfl⟩ := p.1.exists_idx_of_mem hm
      rw [show p.1.idx x = p.1.emb x from rfl, List.cons_append, View.canon_cons_emb]
      exact hL p (by simp) x
    · rw [List.cons_append, View.canon_cons_of_not_mem _ _ hm]
      refine canon_prefix G L' L (fun q hq => hL q (List.mem_cons_of_mem _ hq)) y ?_
      obtain ⟨q, hq, hy⟩ := hy
      rcases List.mem_cons.mp hq with rfl | hq
      · exact absurd hy hm
      · exact ⟨q, hq, hy⟩

end Loads

/-! ## The step's tables -/

section Tables
variable (Pm Am Wm Gm : ℕ → ℕ → ℝ) (Bm : ℕ → ℝ)

/-- The decay logits, the log decays, and the heads' scaled queries, keys, values and output gradients. -/
def zz (t j : ℕ) : ℝ := (∑ u : Fin 128, Am t u * Wm u j) + Bm j
def lad (h t : ℕ) (x : Fin 128) : ℝ := ls (zz Am Wm Bm t (128 * h + x)) * (1 / 16)
def qq (h t : ℕ) (x : Fin 128) : ℝ := Pm t (128 * h + x) * sc
def kk (h t : ℕ) (x : Fin 128) : ℝ := Pm t (512 + 128 * h + x)
def vv (h t : ℕ) (y : Fin 256) : ℝ := Pm t (1024 + (256 * h + y))
def gg (h t : ℕ) (y : Fin 256) : ℝ := Gm t (256 * h + y)

/-- The running sum of the log decays inside chunk `c`. -/
def bl (c : ℕ) (i : Fin 128) (j : ℕ) : ℝ := ∑ k : Fin 128, (if k ≤ i then (1:ℝ) else 0) * (ls ((∑ u : Fin 128, Am (128 * c + k) u * Wm u j) + Bm j) * (1 / 16))

theorem bl_eq (c h : ℕ) (i x : Fin 128) : bl Am Wm Bm c i (128 * h + x) = loc (lad Am Wm Bm h) c i x := by
  have e := Fin.sum_univ_eq_sum_range (fun s => if s ≤ (i : ℕ) then lad Am Wm Bm h (128 * c + s) x else 0) 128
  have e2 : bl Am Wm Bm c i (128 * h + x) = ∑ k : Fin 128, if (k : ℕ) ≤ i then lad Am Wm Bm h (128 * c + k) x else 0 :=
    Finset.sum_congr rfl fun k _ => by
      by_cases hk : k ≤ i
      · rw [if_pos hk, if_pos (Fin.le_def.mp hk), one_mul]; rfl
      · rw [if_neg hk, if_neg (fun q => hk (Fin.le_def.mpr q)), zero_mul]
  rw [e2, e, loc, ← Finset.sum_filter]
  refine Finset.sum_congr (Finset.ext fun s => ?_) fun _ _ => rfl
  rw [Finset.mem_filter, Finset.mem_range, Finset.mem_range]
  omega

abbrev ST' (h c : ℕ) (y : Fin 256) (x : Fin 128) : ℝ := ST (kk Pm h) (vv Pm h) (lad Am Wm Bm h) c y x
abbrev DS' (h c : ℕ) (y : Fin 256) (x : Fin 128) : ℝ := DS (qq Pm h) (gg Gm h) (lad Am Wm Bm h) c y x
abbrev DQ' (h t : ℕ) (x : Fin 128) : ℝ := DQ (kk Pm h) (vv Pm h) (gg Gm h) (lad Am Wm Bm h) t x
abbrev DK' (h t : ℕ) (x : Fin 128) : ℝ := DK (qq Pm h) (vv Pm h) (gg Gm h) (lad Am Wm Bm h) t x
abbrev DV' (h t : ℕ) (y : Fin 256) : ℝ := DV (qq Pm h) (kk Pm h) (gg Gm h) (lad Am Wm Bm h) t y
abbrev DB' (h t : ℕ) (x : Fin 128) : ℝ := DB (qq Pm h) (kk Pm h) (vv Pm h) (gg Gm h) (lad Am Wm Bm h) t x
abbrev DLA' (h t : ℕ) (x : Fin 128) : ℝ := DLA (qq Pm h) (kk Pm h) (vv Pm h) (gg Gm h) (lad Am Wm Bm h) t x

variable (c h : ℕ)

theorem fin_dq (i x M : Fin 128) :
    (∑ j : Fin 128, (if j ≤ i then ∑ y, gg Gm h (128 * c + i) y * vv Pm h (128 * c + j) y else 0)
          * (kk Pm h (128 * c + j) x * Real.exp (bl Am Wm Bm c M (128 * h + x) - bl Am Wm Bm c j (128 * h + x))))
        * Real.exp (bl Am Wm Bm c i (128 * h + x) - bl Am Wm Bm c M (128 * h + x))
      + (∑ y, gg Gm h (128 * c + i) y * ST' Pm Am Wm Bm h c y x) * Real.exp (bl Am Wm Bm c i (128 * h + x))
    = DQ' Pm Am Wm Gm Bm h (128 * c + i) x := by
  simp only [bl_eq]
  exact dq_chunk _ _ _ _ c i x _

theorem fin_dk (hc : c < 65) (j x M : Fin 128) :
    (∑ i : Fin 128, (if j ≤ i then ∑ y, gg Gm h (128 * c + i) y * vv Pm h (128 * c + j) y else 0)
          * (qq Pm h (128 * c + i) x * Real.exp (bl Am Wm Bm c i (128 * h + x) - bl Am Wm Bm c M (128 * h + x))))
        * Real.exp (bl Am Wm Bm c M (128 * h + x) - bl Am Wm Bm c j (128 * h + x))
      + (∑ y, vv Pm h (128 * c + j) y * DS' Pm Am Wm Gm Bm h (c + 1) y x) * Real.exp (bl Am Wm Bm c 127 (128 * h + x) - bl Am Wm Bm c j (128 * h + x))
    = DK' Pm Am Wm Gm Bm h (128 * c + j) x := by
  simp only [bl_eq]
  exact dk_chunk _ _ _ _ c hc j x _

theorem fin_db (hc : c < 65) (i x M : Fin 128) :
    qq Pm h (128 * c + i) x * ((∑ j : Fin 128, (if j ≤ i then ∑ y, gg Gm h (128 * c + i) y * vv Pm h (128 * c + j) y else 0)
          * (kk Pm h (128 * c + j) x * Real.exp (bl Am Wm Bm c M (128 * h + x) - bl Am Wm Bm c j (128 * h + x))))
        * Real.exp (bl Am Wm Bm c i (128 * h + x) - bl Am Wm Bm c M (128 * h + x))
      + (∑ y, gg Gm h (128 * c + i) y * ST' Pm Am Wm Bm h c y x) * Real.exp (bl Am Wm Bm c i (128 * h + x)))
    - kk Pm h (128 * c + i) x * ((∑ j : Fin 128, (if i ≤ j then ∑ y, gg Gm h (128 * c + j) y * vv Pm h (128 * c + i) y else 0)
          * (qq Pm h (128 * c + j) x * Real.exp (bl Am Wm Bm c j (128 * h + x) - bl Am Wm Bm c M (128 * h + x))))
        * Real.exp (bl Am Wm Bm c M (128 * h + x) - bl Am Wm Bm c i (128 * h + x))
      + (∑ y, vv Pm h (128 * c + i) y * DS' Pm Am Wm Gm Bm h (c + 1) y x) * Real.exp (bl Am Wm Bm c 127 (128 * h + x) - bl Am Wm Bm c i (128 * h + x)))
    = DB' Pm Am Wm Gm Bm h (128 * c + i) x := by
  rw [fin_dq, fin_dk Pm Am Wm Gm Bm c h hc]
  rfl

theorem fin_dv (hc : c < 65) (j : Fin 128) (y : Fin 256) (M : Fin 128) :
    (∑ i : Fin 128, (if j ≤ i then ∑ x : Fin 128, qq Pm h (128 * c + i) x * Real.exp (bl Am Wm Bm c i (128 * h + x) - bl Am Wm Bm c M (128 * h + x))
            * (kk Pm h (128 * c + j) x * Real.exp (bl Am Wm Bm c M (128 * h + x) - bl Am Wm Bm c j (128 * h + x))) else 0)
        * gg Gm h (128 * c + i) y)
      + ∑ x : Fin 128, kk Pm h (128 * c + j) x * Real.exp (bl Am Wm Bm c 127 (128 * h + x) - bl Am Wm Bm c j (128 * h + x)) * DS' Pm Am Wm Gm Bm h (c + 1) y x
    = DV' Pm Am Wm Gm Bm h (128 * c + j) y := by
  simp only [bl_eq]
  exact dv_chunk _ _ _ _ c hc j y _

theorem fin_ds (hc : c < 65) (y : Fin 256) (x : Fin 128) :
    DS' Pm Am Wm Gm Bm h (c + 1) y x * Real.exp (bl Am Wm Bm c 127 (128 * h + x))
      + ∑ i : Fin 128, gg Gm h (128 * c + i) y * (qq Pm h (128 * c + i) x * Real.exp (bl Am Wm Bm c i (128 * h + x)))
    = DS' Pm Am Wm Gm Bm h c y x := by
  simp only [bl_eq]
  exact (ds_step _ _ _ c hc y x).symm

theorem fin_last (hc : c < 65) (x : Fin 128) :
    (∑ j : Fin 128, kk Pm h (128 * c + j) x * ((∑ y, vv Pm h (128 * c + j) y * DS' Pm Am Wm Gm Bm h (c + 1) y x)
          * Real.exp (bl Am Wm Bm c 127 (128 * h + x) - bl Am Wm Bm c j (128 * h + x))))
      + (∑ y, ST' Pm Am Wm Bm h c y x * DS' Pm Am Wm Gm Bm h (c + 1) y x) * Real.exp (bl Am Wm Bm c 127 (128 * h + x))
    = ∑ t ∈ Finset.Ico (128 * (c + 1)) 8320, DB' Pm Am Wm Gm Bm h t x := by
  simp only [bl_eq]
  exact dlast_chunk _ _ _ _ _ c hc x

/-- What later chunks add to the decay gradient, as the kernel reads it. -/
def last (c j : ℕ) : ℝ := ∑ t ∈ Finset.Ico (128 * (c + 1)) 8320, DB' Pm Am Wm Gm Bm (j / 128) t ⟨j % 128, Nat.mod_lt _ (by norm_num)⟩
/-- The gradients of the running sum, of the logits, and of the low-rank input, by column. -/
def dbt (t j : ℕ) : ℝ := DB' Pm Am Wm Gm Bm (j / 128) t ⟨j % 128, Nat.mod_lt _ (by norm_num)⟩
def dzt (t j : ℕ) : ℝ := DLA' Pm Am Wm Gm Bm (j / 128) t ⟨j % 128, Nat.mod_lt _ (by norm_num)⟩ * (1 / 16) * dls (zz Am Wm Bm t j)
def dat (t u : ℕ) : ℝ := ∑ j : Fin 512, dzt Pm Am Wm Gm Bm t j * Wm u j

theorem dbt_at (h t : ℕ) (x : Fin 128) : dbt Pm Am Wm Gm Bm t (128 * h + x) = DB' Pm Am Wm Gm Bm h t x := by
  have h1 : (128 * h + (x : ℕ)) / 128 = h := by omega
  have h2 : (⟨(128 * h + (x : ℕ)) % 128, Nat.mod_lt _ (by norm_num)⟩ : Fin 128) = x := Fin.ext (show (128 * h + (x : ℕ)) % 128 = x by omega)
  unfold dbt
  rw [h1, h2]

/-- The gradient of the projection, by column. -/
def dpt (t j : ℕ) : ℝ :=
  if j < 512 then DQ' Pm Am Wm Gm Bm (j / 128) t ⟨j % 128, Nat.mod_lt _ (by norm_num)⟩ * sc
  else if j < 1024 then DK' Pm Am Wm Gm Bm ((j - 512) / 128) t ⟨(j - 512) % 128, Nat.mod_lt _ (by norm_num)⟩
  else DV' Pm Am Wm Gm Bm ((j - 1024) / 256) t ⟨(j - 1024) % 256, Nat.mod_lt _ (by norm_num)⟩

theorem dpt_q (o t : ℕ) (ho : o = 128 * h) (hh : h < 4) (x : Fin 128) : dpt Pm Am Wm Gm Bm t (o + x) = DQ' Pm Am Wm Gm Bm h t x * sc := by
  have h1 : (o + (x : ℕ)) / 128 = h := by omega
  have h2 : (⟨(o + (x : ℕ)) % 128, Nat.mod_lt _ (by norm_num)⟩ : Fin 128) = x := Fin.ext (show (o + (x : ℕ)) % 128 = x by omega)
  unfold dpt
  rw [if_pos (by omega), h1, h2]
theorem dpt_k (o t : ℕ) (ho : o = 512 + 128 * h) (hh : h < 4) (x : Fin 128) : dpt Pm Am Wm Gm Bm t (o + x) = DK' Pm Am Wm Gm Bm h t x := by
  have h1 : (o + (x : ℕ) - 512) / 128 = h := by omega
  have h2 : (⟨(o + (x : ℕ) - 512) % 128, Nat.mod_lt _ (by norm_num)⟩ : Fin 128) = x := Fin.ext (show (o + (x : ℕ) - 512) % 128 = x by omega)
  unfold dpt
  rw [if_neg (by omega), if_pos (by omega), h1, h2]
theorem dpt_v (o t : ℕ) (ho : o = 1024 + 256 * h) (hh : h < 4) (x : Fin 256) : dpt Pm Am Wm Gm Bm t (o + x) = DV' Pm Am Wm Gm Bm h t x := by
  have h1 : (o + (x : ℕ) - 1024) / 256 = h := by omega
  have h2 : (⟨(o + (x : ℕ) - 1024) % 256, Nat.mod_lt _ (by norm_num)⟩ : Fin 256) = x := Fin.ext (show (o + (x : ℕ) - 1024) % 256 = x by omega)
  unfold dpt
  rw [if_neg (by omega), if_neg (by omega), h1, h2]

/-! ## The gradients of the logits from the pieces -/

variable [hF : Cert.KernelIdeal.Facts]

theorem pay5_zz (c : ℕ) : k0_pay5 (F := Ideal) (ub fun i j => Am (128 * c + i) j) (ub fun i j => Wm i j) (uf fun _ j => Bm j)
    = uf fun (i : Fin 128) (j : Fin 512) => zz Am Wm Bm (128 * c + i) j := pay5_up _ _ _

theorem pay7_bl (c : ℕ) : k0_pay7 (F := Ideal) (ub fun i j => Am (128 * c + i) j) (ub fun i j => Wm i j) (uf fun _ j => Bm j)
    = uf fun (i : Fin 128) (j : Fin 512) => bl Am Wm Bm c i j := pay7_up _ _ _

theorem cat_up (L : ℕ → ℝ) (d : ℕ → FVec Ideal S1x128 .f32) (hd : ∀ h, h < 4 → d h = uf fun _ x => L (128 * h + x)) :
    concatenate S1x512 1 [⟨S1x128, d 0⟩, ⟨S1x128, d 1⟩, ⟨S1x128, d 2⟩, ⟨S1x128, d 3⟩] concatenates_S1x128_S1x128_S1x128_S1x128_S1x512_d1
      = (uf fun _ j => L j : FVec Ideal S1x512 .f32) := by
  refine ext2 fun i j => ?_
  have key : ∀ (k : ℕ) (hk : k < 4) (pre : ℕ) (hp : pre = 128 * k) (hj : 128 * k ≤ (j : ℕ) ∧ (j : ℕ) < 128 * k + 128),
      d k (ValueIdx.ix2 (0 : Fin 1) ⟨(j : ℕ) - 128 * k, by omega⟩) = uf (a := 1) (b := 512) (fun _ j => L j) (ValueIdx.ix2 i j) := by
    intro k hk pre hp hj
    rw [hd k hk]
    show ((L (128 * k + ((j : ℕ) - 128 * k)) : ℝ) : EReal) = ((L j : ℝ) : EReal)
    rw [Nat.add_sub_cancel' hj.1]
  have cat : ∀ (k : ℕ) (hk : k < 4) (hx : [(⟨S1x128, d 0⟩ : (s : Shape) × (s.Idx → Ideal .f32)), ⟨S1x128, d 1⟩, ⟨S1x128, d 2⟩, ⟨S1x128, d 3⟩][k]'hk = ⟨S1x128, d k⟩)
      (hp : (List.map (fun s : Shape => if h : s.rank = S1x512.rank then s.size (Fin.cast h.symm 1) else 0)
        (List.map (fun x => x.fst) (List.take k [(⟨S1x128, d 0⟩ : (s : Shape) × (s.Idx → Ideal .f32)), ⟨S1x128, d 1⟩, ⟨S1x128, d 2⟩, ⟨S1x128, d 3⟩]))).sum = 128 * k)
      (hj : 128 * k ≤ (j : ℕ) ∧ (j : ℕ) < 128 * k + 128),
      concatenate S1x512 1 [⟨S1x128, d 0⟩, ⟨S1x128, d 1⟩, ⟨S1x128, d 2⟩, ⟨S1x128, d 3⟩] concatenates_S1x128_S1x128_S1x128_S1x128_S1x512_d1 (ValueIdx.ix2 i j)
        = uf (a := 1) (b := 512) (fun _ j => L j) (ValueIdx.ix2 i j) := by
    intro k hk hx hp hj
    refine (concatenate_apply_piece (t := S1x512) 1 [(⟨S1x128, d 0⟩ : (s : Shape) × (s.Idx → Ideal .f32)), ⟨S1x128, d 1⟩, ⟨S1x128, d 2⟩, ⟨S1x128, d 3⟩] _ (ValueIdx.ix2 i j) k hk S1x128 (d k) hx rfl (128 * k) hp (ValueIdx.ix2 (0 : Fin 1) ⟨(j : ℕ) - 128 * k, by omega⟩) ?_ ?_).trans (key k hk _ rfl hj)
    · intro b hb
      match b with
      | ⟨0, _⟩ => show 0 = (i : ℕ); omega
      | ⟨1, _⟩ => exact absurd rfl hb
    · show 128 * k + ((j : ℕ) - 128 * k) = j
      omega
  by_cases h1 : (j : ℕ) < 128
  · exact cat 0 (by norm_num) rfl rfl (by omega)
  by_cases h2 : (j : ℕ) < 256
  · exact cat 1 (by norm_num) rfl rfl (by omega)
  by_cases h3 : (j : ℕ) < 384
  · exact cat 2 (by norm_num) rfl rfl (by omega)
  · exact cat 3 (by norm_num) rfl rfl (by omega)

theorem last_at (c h : ℕ) (x : Fin 128) : last Pm Am Wm Gm Bm c (128 * h + x) = ∑ t ∈ Finset.Ico (128 * (c + 1)) 8320, DB' Pm Am Wm Gm Bm h t x := by
  have h1 : (128 * h + (x : ℕ)) / 128 = h := by omega
  have h2 : (⟨(128 * h + (x : ℕ)) % 128, Nat.mod_lt _ (by norm_num)⟩ : Fin 128) = x := Fin.ext (show (128 * h + (x : ℕ)) % 128 = x by omega)
  unfold last
  rw [h1, h2]

/-- A head's sum over the later chunks, as the kernel computes it. -/
abbrev tail (c h : ℕ) : FVec Ideal S1x128 .f32 := uf fun _ x => ∑ t ∈ Finset.Ico (128 * (c + 1)) 8320, DB' Pm Am Wm Gm Bm h t x

theorem pay110_dz (c : ℕ) (hc : c < 65) :
    k0_pay110 (F := Ideal) (uf fun (i : Fin 128) (j : Fin 512) => zz Am Wm Bm (128 * c + i) j) (tail Pm Am Wm Gm Bm c 0) (tail Pm Am Wm Gm Bm c 1)
        (tail Pm Am Wm Gm Bm c 2) (tail Pm Am Wm Gm Bm c 3) k0_pay109 (uf fun (i : Fin 128) (j : Fin 512) => dbt Pm Am Wm Gm Bm (128 * c + i) j)
      = ub fun (i : Fin 128) (j : Fin 512) => dzt Pm Am Wm Gm Bm (128 * c + i) j := by
  unfold k0_pay110
  dsimp only
  rw [upper_up, tri_up, cat_up (last Pm Am Wm Gm Bm c) (tail Pm Am Wm Gm Bm c) (fun h _ => up_congr fun _ x => (last_at Pm Am Wm Gm Bm c h x).symm),
    row_up, addf_up, sixteenth_up, mulf_up, zero_up, subf_up, half_up, mulf_up, tanh_up, mulf_up, addf_up, mulf_up, truncf_up]
  refine up_congr fun i j => ?_
  have e : (∑ k : Fin 128, (if i ≤ k then (1:ℝ) else 0) * dbt Pm Am Wm Gm Bm (128 * c + k) j) + last Pm Am Wm Gm Bm c j
      = DLA' Pm Am Wm Gm Bm ((j : ℕ) / 128) (128 * c + i) ⟨(j : ℕ) % 128, Nat.mod_lt _ (by norm_num)⟩ := by
    show _ = DLA _ _ _ _ _ _ _
    rw [← dla_chunk _ _ _ _ _ c hc i, dlast_chunk _ _ _ _ _ c hc]
    refine congrArg₂ (· + ·) (Finset.sum_congr rfl fun k _ => ?_) rfl
    by_cases hk : i ≤ k
    · rw [if_pos hk, if_pos hk, one_mul]; rfl
    · rw [if_neg hk, if_neg hk, zero_mul]
  rw [e]
  rfl

theorem pay111_da (c : ℕ) (hc : c < 65) :
    k0_pay111 (F := Ideal) (uf fun (i : Fin 128) (j : Fin 512) => zz Am Wm Bm (128 * c + i) j) (tail Pm Am Wm Gm Bm c 0) (tail Pm Am Wm Gm Bm c 1)
        (tail Pm Am Wm Gm Bm c 2) (tail Pm Am Wm Gm Bm c 3) k0_pay109 (uf fun (i : Fin 128) (j : Fin 512) => dbt Pm Am Wm Gm Bm (128 * c + i) j)
        (ub fun (i : Fin 128) (j : Fin 512) => Wm i j)
      = ub fun (i u : Fin 128) => dat Pm Am Wm Gm Bm (128 * c + i) u := by
  unfold k0_pay111
  dsimp only
  rw [pay110_dz Pm Am Wm Gm Bm c hc, mm_k, truncf_up]
  rfl

theorem pay112_dw (c : ℕ) (hc : c < 65) (s : Fin 128 → Fin 512 → ℝ) :
    k0_pay112 (F := Ideal) (uf fun (i : Fin 128) (j : Fin 512) => zz Am Wm Bm (128 * c + i) j) (tail Pm Am Wm Gm Bm c 0) (tail Pm Am Wm Gm Bm c 1)
        (tail Pm Am Wm Gm Bm c 2) (tail Pm Am Wm Gm Bm c 3) k0_pay109 (uf fun (i : Fin 128) (j : Fin 512) => dbt Pm Am Wm Gm Bm (128 * c + i) j)
        (uf s) (ub fun (i j : Fin 128) => Am (128 * c + i) j)
      = uf fun (u : Fin 128) (j : Fin 512) => s u j + ∑ i : Fin 128, Am (128 * c + i) u * dzt Pm Am Wm Gm Bm (128 * c + i) j := by
  unfold k0_pay112
  dsimp only
  rw [pay110_dz Pm Am Wm Gm Bm c hc, shapeCast_self, mm_l, addf_up]

theorem pay1_db (c : ℕ) (hc : c < 65) (s : Fin 8 → Fin 512 → ℝ) :
    k0_pay1 (F := Ideal) (k0_pay110 (uf fun (i : Fin 128) (j : Fin 512) => zz Am Wm Bm (128 * c + i) j) (tail Pm Am Wm Gm Bm c 0) (tail Pm Am Wm Gm Bm c 1)
        (tail Pm Am Wm Gm Bm c 2) (tail Pm Am Wm Gm Bm c 3) k0_pay109 (uf fun (i : Fin 128) (j : Fin 512) => dbt Pm Am Wm Gm Bm (128 * c + i) j)) (uf s)
      = uf fun (r : Fin 8) (j : Fin 512) => s r j + ∑ p : Fin 16, dzt Pm Am Wm Gm Bm (128 * c + (8 * (p : ℕ) + r)) j := by
  rw [pay110_dz Pm Am Wm Gm Bm c hc, pay1_up]

theorem pay111_of (c : ℕ) (hc : c < 65) (z : FVec Ideal S128x512 .f32) (d0 d1 d2 d3 : FVec Ideal S1x128 .f32) (LA : Vec Ideal S128x512 .f32)
    (hz : z = uf fun (i : Fin 128) (j : Fin 512) => zz Am Wm Bm (128 * c + i) j) (h0 : d0 = tail Pm Am Wm Gm Bm c 0) (h1 : d1 = tail Pm Am Wm Gm Bm c 1)
    (h2 : d2 = tail Pm Am Wm Gm Bm c 2) (h3 : d3 = tail Pm Am Wm Gm Bm c 3) (hL : LA = uf fun (i : Fin 128) (j : Fin 512) => dbt Pm Am Wm Gm Bm (128 * c + i) j) (w : Vec Ideal S128x512 .bf16) (hw : w = ub fun (i : Fin 128) (j : Fin 512) => Wm i j) :
    k0_pay111 (F := Ideal) z d0 d1 d2 d3 k0_pay109 LA w = ub fun (i u : Fin 128) => dat Pm Am Wm Gm Bm (128 * c + i) u := by
  subst hz h0 h1 h2 h3 hL hw
  exact pay111_da Pm Am Wm Gm Bm c hc

theorem pay112_of (c : ℕ) (hc : c < 65) (z : FVec Ideal S128x512 .f32) (d0 d1 d2 d3 : FVec Ideal S1x128 .f32) (LA : Vec Ideal S128x512 .f32)
    (hz : z = uf fun (i : Fin 128) (j : Fin 512) => zz Am Wm Bm (128 * c + i) j) (h0 : d0 = tail Pm Am Wm Gm Bm c 0) (h1 : d1 = tail Pm Am Wm Gm Bm c 1)
    (h2 : d2 = tail Pm Am Wm Gm Bm c 2) (h3 : d3 = tail Pm Am Wm Gm Bm c 3) (hL : LA = uf fun (i : Fin 128) (j : Fin 512) => dbt Pm Am Wm Gm Bm (128 * c + i) j) (o : Vec Ideal S128x512 .f32) (w : Vec Ideal S128x128 .bf16) (s : Fin 128 → Fin 512 → ℝ) (ho : o = uf s)
    (hw : w = ub fun (i j : Fin 128) => Am (128 * c + i) j) :
    k0_pay112 (F := Ideal) z d0 d1 d2 d3 k0_pay109 LA o w
      = uf fun (u : Fin 128) (j : Fin 512) => s u j + ∑ i : Fin 128, Am (128 * c + i) u * dzt Pm Am Wm Gm Bm (128 * c + i) j := by
  subst hz h0 h1 h2 h3 hL hw ho
  exact pay112_dw Pm Am Wm Gm Bm c hc s

theorem pay1_of (c : ℕ) (hc : c < 65) (z : FVec Ideal S128x512 .f32) (d0 d1 d2 d3 : FVec Ideal S1x128 .f32) (LA : Vec Ideal S128x512 .f32)
    (hz : z = uf fun (i : Fin 128) (j : Fin 512) => zz Am Wm Bm (128 * c + i) j) (h0 : d0 = tail Pm Am Wm Gm Bm c 0) (h1 : d1 = tail Pm Am Wm Gm Bm c 1)
    (h2 : d2 = tail Pm Am Wm Gm Bm c 2) (h3 : d3 = tail Pm Am Wm Gm Bm c 3) (hL : LA = uf fun (i : Fin 128) (j : Fin 512) => dbt Pm Am Wm Gm Bm (128 * c + i) j) (o : Vec Ideal S8x512 .f32) (s : Fin 8 → Fin 512 → ℝ) (ho : o = uf s) :
    k0_pay1 (F := Ideal) (k0_pay110 z d0 d1 d2 d3 k0_pay109 LA) o
      = uf fun (r : Fin 8) (j : Fin 512) => s r j + ∑ p : Fin 16, dzt Pm Am Wm Gm Bm (128 * c + (8 * (p : ℕ) + r)) j := by
  subst hz h0 h1 h2 h3 hL ho
  exact pay1_db Pm Am Wm Gm Bm c hc s

theorem pay2_ds : k0_pay2 (F := Ideal) = uf (stack fun h y x => DS' Pm Am Wm Gm Bm h 65 y x) := by
  unfold k0_pay2
  dsimp only
  rw [zero_up, shapeCast_self]
  exact up_congr fun i j => (ds_end _ _ _ _ _).symm
theorem pay3_zero : k0_pay3 (F := Ideal) = uf fun (_ : Fin 128) (_ : Fin 512) => 0 := zero_up
theorem pay4_zero : k0_pay4 (F := Ideal) = uf fun (_ : Fin 8) (_ : Fin 512) => 0 := zero_up

/-! ## The heads' row sums -/

theorem pay52_eq (k v e el s d) : k0_pay52 (F := Ideal) k v e el s d = k0_pay28 k v e el (k0_pay45 s) d (k0_pay46 d) := rfl
theorem pay78_eq (b l k v el s d) : k0_pay78 (F := Ideal) el (k0_pay76 b l k v d) (k0_pay77 s d) = k0_pay28 k v (k0_pay64 b l) el (k0_pay69 s) d (k0_pay70 d) := rfl
theorem pay103_up (el : Fin 1 → Fin 128 → ℝ) (k dk : Fin 128 → Fin 128 → ℝ) (s d : Fin 256 → Fin 128 → ℝ) :
    k0_pay103 (F := Ideal) (uf k) (uf el) (uf s) (uf d) (uf dk) = up fun i x => (∑ j, k j x * dk j x) + (∑ y, s y x * d y x) * el i x := by
  unfold k0_pay103; dsimp only
  rw [mulf_up, mulf_up]
  exact (congrArg₂ addf (rowsum_up _ _ _ _ _) (congrArg (fun x => mulf x (uf el)) (rowsum_up _ _ _ _ _))).trans (by rw [mulf_up, addf_up])

end Tables

end Cert.Gla

end
-- ==== Proof.PieceA.lean ====
/- What the kernel leaves at a grid point (the first point, the last chunk), as the problem's gradients. -/
module

public import proofs.«01_k».proof.Proof.Chunk
public import proofs.«01_k».proof.Proof.Gen.KernelIdeal.Frame
public import Idealize.ShloMosaic.Lib.Tactic

@[expose] public section

set_option maxRecDepth 20000

noncomputable section

namespace Cert.Gla

open Idealize.ShloMosaic Idealize.ShloMosaic.TcCoe Idealize.SL.Sem Cert.KernelIdeal Cert.KernelIdeal.Gen
open scoped BigOperators

variable [hF : Cert.KernelIdeal.Facts]
variable (Pm Am Wm Gm : ℕ → ℕ → ℝ) (Bm : ℕ → ℝ)

variable (d : Dev nD) (i : grid0.Coords) (arg1 : Memref sig .tc .vmem S128x1024 .bf16) (harg1 : arg1.IsWhole)
  (arg2 : Memref sig .tc .vmem S128x1024 .bf16) (harg2 : arg2.IsWhole) (arg3 : Memref sig .tc .vmem S128x128 .bf16) (harg3 : arg3.IsWhole)
  (arg4 : Memref sig .tc .vmem S128x512 .bf16) (harg4 : arg4.IsWhole) (arg5 : Memref sig .tc .vmem S1x512 .f32) (harg5 : arg5.IsWhole)
  (arg6 : Memref sig .tc .vmem S128x1024 .bf16) (harg6 : arg6.IsWhole) (arg7 : Memref sig .tc .vmem S1x1024x128 .f32) (harg7 : arg7.IsWhole)
  (arg9 : Memref sig .tc .vmem S128x2048 .bf16) (harg9 : arg9.IsWhole) (arg10 : Memref sig .tc .vmem S128x128 .bf16) (harg10 : arg10.IsWhole)
  (arg11 : Memref sig .tc .vmem S128x512 .f32) (harg11 : arg11.IsWhole) (arg12 : Memref sig .tc .vmem S8x512 .f32) (harg12 : arg12.IsWhole)
  (arg13 : Memref sig .tc .vmem S1024x128 .f32) (harg13 : arg13.IsWhole) (arg14 : Memref sig .tc .vmem S128x512 .f32) (harg14 : arg14.IsWhole)
  (arg15 : Memref sig .tc .vmem S128x512 .f32) (harg15 : arg15.IsWhole) (hc0 : cond0_0 i)

/-- The gradient of the projection. -/
theorem out7_A :
    out0_A_7 (F := Ideal) d i arg1 harg1 arg2 harg2 arg3 harg3 arg4 harg4 arg5 harg5 arg6 harg6 arg7 harg7 arg9 harg9 arg10 harg10 arg11 harg11 arg12 harg12 arg13 harg13 arg14 harg14 arg15 harg15 hc0
      (ub fun i j => Pm (128 * 64 + i) j) (ub fun i j => Pm (128 * 64 + i) (1024 + j)) (ub fun i j => Am (128 * 64 + i) j) (ub fun i j => Wm i j) (uf fun _ j => Bm j)
      (ub fun i j => Gm (128 * 64 + i) j) (up3 (stack fun h y x => ST' Pm Am Wm Bm h 64 y x))
      = ub fun (i : Fin 128) (j : Fin 2048) => dpt Pm Am Wm Gm Bm (128 * 64 + i) j := by
  unfold out0_A_7
  rw [View.read_writes_eq_canon _ _ _ (cover0_A_7 d i arg1 harg1 arg2 harg2 arg3 harg3 arg4 harg4 arg5 harg5 arg6 harg6 arg7 harg7 arg9 harg9 arg10 harg10 arg11 harg11 arg12 harg12 arg13 harg13 arg14 harg14 arg15 harg15 hc0 _ _ _ _ _ _ _)]
  funext y
  refine View.canon_apply_of_pieces (Val := Elt Ideal) (e := .bf16) (fun y => (ub fun (i : Fin 128) (j : Fin 2048) => dpt Pm Am Wm Gm Bm (128 * 64 + i) j) y) _ ?_ y (cover0_A_7 d i arg1 harg1 arg2 harg2 arg3 harg3 arg4 harg4 arg5 harg5 arg6 harg6 arg7 harg7 arg9 harg9 arg10 harg10 arg11 harg11 arg12 harg12 arg13 harg13 arg14 harg14 arg15 harg15 hc0 _ _ _ _ _ _ _ y)
  clear y
  unfold kernelRun0_A
  dsimp only
  simp only [List.forall_mem_cons, List.not_mem_nil, false_implies, implies_true, and_true]
  refine ⟨?_, ?_, ?_, ?_, ?_, ?_, ?_, ?_, ?_, ?_, ?_, ?_⟩
  intro x
  refine (congrFun (?_ : _ = ub fun (i : Fin 128) (x : Fin 256) => DV' Pm Am Wm Gm Bm 3 (128 * 64 + i) x) x).trans
    ((congrFun (up_congr fun i x => (dpt_v Pm Am Wm Gm Bm 3 1792 (128 * 64 + i) rfl (by norm_num) x).symm) x).trans
      (congrFun (ld_cols_b (fun (i : Fin 128) (j : Fin 2048) => dpt Pm Am Wm Gm Bm (128 * 64 + i) j) 1792 _ (by norm_num)) x).symm)
  rotate_left
  intro x
  refine (congrFun (?_ : _ = ub fun (i : Fin 128) (x : Fin 128) => DK' Pm Am Wm Gm Bm 3 (128 * 64 + i) x) x).trans
    ((congrFun (up_congr fun i x => (dpt_k Pm Am Wm Gm Bm 3 896 (128 * 64 + i) rfl (by norm_num) x).symm) x).trans
      (congrFun (ld_cols_b (fun (i : Fin 128) (j : Fin 2048) => dpt Pm Am Wm Gm Bm (128 * 64 + i) j) 896 _ (by norm_num)) x).symm)
  rotate_left
  intro x
  refine (congrFun (?_ : _ = ub fun (i : Fin 128) (x : Fin 128) => DQ' Pm Am Wm Gm Bm 3 (128 * 64 + i) x * sc) x).trans
    ((congrFun (up_congr fun i x => (dpt_q Pm Am Wm Gm Bm 3 384 (128 * 64 + i) rfl (by norm_num) x).symm) x).trans
      (congrFun (ld_cols_b (fun (i : Fin 128) (j : Fin 2048) => dpt Pm Am Wm Gm Bm (128 * 64 + i) j) 384 _ (by norm_num)) x).symm)
  rotate_left
  intro x
  refine (congrFun (?_ : _ = ub fun (i : Fin 128) (x : Fin 256) => DV' Pm Am Wm Gm Bm 2 (128 * 64 + i) x) x).trans
    ((congrFun (up_congr fun i x => (dpt_v Pm Am Wm Gm Bm 2 1536 (128 * 64 + i) rfl (by norm_num) x).symm) x).trans
      (congrFun (ld_cols_b (fun (i : Fin 128) (j : Fin 2048) => dpt Pm Am Wm Gm Bm (128 * 64 + i) j) 1536 _ (by norm_num)) x).symm)
  rotate_left
  intro x
  refine (congrFun (?_ : _ = ub fun (i : Fin 128) (x : Fin 128) => DK' Pm Am Wm Gm Bm 2 (128 * 64 + i) x) x).trans
    ((congrFun (up_congr fun i x => (dpt_k Pm Am Wm Gm Bm 2 768 (128 * 64 + i) rfl (by norm_num) x).symm) x).trans
      (congrFun (ld_cols_b (fun (i : Fin 128) (j : Fin 2048) => dpt Pm Am Wm Gm Bm (128 * 64 + i) j) 768 _ (by norm_num)) x).symm)
  rotate_left
  intro x
  refine (congrFun (?_ : _ = ub fun (i : Fin 128) (x : Fin 128) => DQ' Pm Am Wm Gm Bm 2 (128 * 64 + i) x * sc) x).trans
    ((congrFun (up_congr fun i x => (dpt_q Pm Am Wm Gm Bm 2 256 (128 * 64 + i) rfl (by norm_num) x).symm) x).trans
      (congrFun (ld_cols_b (fun (i : Fin 128) (j : Fin 2048) => dpt Pm Am Wm Gm Bm (128 * 64 + i) j) 256 _ (by norm_num)) x).symm)
  rotate_left
  intro x
  refine (congrFun (?_ : _ = ub fun (i : Fin 128) (x : Fin 256) => DV' Pm Am Wm Gm Bm 1 (128 * 64 + i) x) x).trans
    ((congrFun (up_congr fun i x => (dpt_v Pm Am Wm Gm Bm 1 1280 (128 * 64 + i) rfl (by norm_num) x).symm) x).trans
      (congrFun (ld_cols_b (fun (i : Fin 128) (j : Fin 2048) => dpt Pm Am Wm Gm Bm (128 * 64 + i) j) 1280 _ (by norm_num)) x).symm)
  rotate_left
  intro x
  refine (congrFun (?_ : _ = ub fun (i : Fin 128) (x : Fin 128) => DK' Pm Am Wm Gm Bm 1 (128 * 64 + i) x) x).trans
    ((congrFun (up_congr fun i x => (dpt_k Pm Am Wm Gm Bm 1 640 (128 * 64 + i) rfl (by norm_num) x).symm) x).trans
      (congrFun (ld_cols_b (fun (i : Fin 128) (j : Fin 2048) => dpt Pm Am Wm Gm Bm (128 * 64 + i) j) 640 _ (by norm_num)) x).symm)
  rotate_left
  intro x
  refine (congrFun (?_ : _ = ub fun (i : Fin 128) (x : Fin 128) => DQ' Pm Am Wm Gm Bm 1 (128 * 64 + i) x * sc) x).trans
    ((congrFun (up_congr fun i x => (dpt_q Pm Am Wm Gm Bm 1 128 (128 * 64 + i) rfl (by norm_num) x).symm) x).trans
      (congrFun (ld_cols_b (fun (i : Fin 128) (j : Fin 2048) => dpt Pm Am Wm Gm Bm (128 * 64 + i) j) 128 _ (by norm_num)) x).symm)
  rotate_left
  intro x
  refine (congrFun (?_ : _ = ub fun (i : Fin 128) (x : Fin 256) => DV' Pm Am Wm Gm Bm 0 (128 * 64 + i) x) x).trans
    ((congrFun (up_congr fun i x => (dpt_v Pm Am Wm Gm Bm 0 1024 (128 * 64 + i) rfl (by norm_num) x).symm) x).trans
      (congrFun (ld_cols_b (fun (i : Fin 128) (j : Fin 2048) => dpt Pm Am Wm Gm Bm (128 * 64 + i) j) 1024 _ (by norm_num)) x).symm)
  rotate_left
  intro x
  refine (congrFun (?_ : _ = ub fun (i : Fin 128) (x : Fin 128) => DK' Pm Am Wm Gm Bm 0 (128 * 64 + i) x) x).trans
    ((congrFun (up_congr fun i x => (dpt_k Pm Am Wm Gm Bm 0 512 (128 * 64 + i) rfl (by norm_num) x).symm) x).trans
      (congrFun (ld_cols_b (fun (i : Fin 128) (j : Fin 2048) => dpt Pm Am Wm Gm Bm (128 * 64 + i) j) 512 _ (by norm_num)) x).symm)
  rotate_left
  intro x
  refine (congrFun (?_ : _ = ub fun (i : Fin 128) (x : Fin 128) => DQ' Pm Am Wm Gm Bm 0 (128 * 64 + i) x * sc) x).trans
    ((congrFun (up_congr fun i x => (dpt_q Pm Am Wm Gm Bm 0 0 (128 * 64 + i) rfl (by norm_num) x).symm) x).trans
      (congrFun (ld_cols_b (fun (i : Fin 128) (j : Fin 2048) => dpt Pm Am Wm Gm Bm (128 * 64 + i) j) 0 _ (by norm_num)) x).symm)
  rotate_left
  iterate 12
    sl_unfold_words
    simp (config := {decide := true}) only [View.readAt_eq_ld, harg1.read_unread, harg2.read_unread, harg3.read_unread, harg4.read_unread, harg5.read_unread, harg6.read_unread,
      harg7.read_unread, readCov_ld, canon_whole, ld_skip, pay2_ds Pm Am Wm Gm Bm, pay3_zero, pay4_zero, ld_full_b, ld_full_f, pay7_bl]
    simp (config := {decide := true}) only [ld_cols_b, ld_cols_f, ld_row_f, ld_stack _ 0 0 rfl (by norm_num), ld_up3 _ 0 0 rfl (by norm_num), ld_stack _ 256 1 rfl (by norm_num), ld_up3 _ 256 1 rfl (by norm_num), ld_stack _ 512 2 rfl (by norm_num), ld_up3 _ 512 2 rfl (by norm_num), ld_stack _ 768 3 rfl (by norm_num), ld_up3 _ 768 3 rfl (by norm_num),
      k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay104, k0_pay105, k0_pay106, k0_pay107, k0_pay108,
      pay52_eq, pay78_eq, pay28_up, pay103_up, extf_up, truncf_up, sc_up, zero_up, mulf_up, subf_up, addf_up, exp_up, row_up, causal_up, mm_c, mm_d, mm_e, mm_f, mm_g, mm_h, mm_i, mm_j, shapeCast_self]
    rotate_left
  exact up_congr fun i x => fin_dv Pm Am Wm Gm Bm 64 3 (by norm_num) i x 64
  exact up_congr fun i x => fin_dk Pm Am Wm Gm Bm 64 3 (by norm_num) i x 64
  exact up_congr fun i x => congrArg (· * sc) (fin_dq Pm Am Wm Gm Bm 64 3 i x 64)
  exact up_congr fun i x => fin_dv Pm Am Wm Gm Bm 64 2 (by norm_num) i x 64
  exact up_congr fun i x => fin_dk Pm Am Wm Gm Bm 64 2 (by norm_num) i x 64
  exact up_congr fun i x => congrArg (· * sc) (fin_dq Pm Am Wm Gm Bm 64 2 i x 64)
  exact up_congr fun i x => fin_dv Pm Am Wm Gm Bm 64 1 (by norm_num) i x 64
  exact up_congr fun i x => fin_dk Pm Am Wm Gm Bm 64 1 (by norm_num) i x 64
  exact up_congr fun i x => congrArg (· * sc) (fin_dq Pm Am Wm Gm Bm 64 1 i x 64)
  exact up_congr fun i x => fin_dv Pm Am Wm Gm Bm 64 0 (by norm_num) i x 64
  exact up_congr fun i x => fin_dk Pm Am Wm Gm Bm 64 0 (by norm_num) i x 64
  exact up_congr fun i x => congrArg (· * sc) (fin_dq Pm Am Wm Gm Bm 64 0 i x 64)

/-- The state gradient handed to the earlier chunks. -/
theorem sout_A :
    sout0_A_0 (F := Ideal) d i arg1 harg1 arg2 harg2 arg3 harg3 arg4 harg4 arg5 harg5 arg6 harg6 arg7 harg7 arg9 harg9 arg10 harg10 arg11 harg11 arg12 harg12 arg13 harg13 arg14 harg14 arg15 harg15 hc0
      (ub fun i j => Pm (128 * 64 + i) j) (ub fun i j => Pm (128 * 64 + i) (1024 + j)) (ub fun i j => Am (128 * 64 + i) j) (ub fun i j => Wm i j) (uf fun _ j => Bm j)
      (ub fun i j => Gm (128 * 64 + i) j) (up3 (stack fun h y x => ST' Pm Am Wm Bm h 64 y x))
      = uf (stack fun h y x => DS' Pm Am Wm Gm Bm h 64 y x) := by
  unfold sout0_A_0
  rw [View.read_writes_eq_canon _ _ _ (scover0_A_0 d i arg1 harg1 arg2 harg2 arg3 harg3 arg4 harg4 arg5 harg5 arg6 harg6 arg7 harg7 arg9 harg9 arg10 harg10 arg11 harg11 arg12 harg12 arg13 harg13 arg14 harg14 arg15 harg15 hc0 _ _ _ _ _ _ _)]
  funext y
  unfold kernelRun0_A
  dsimp only
  refine canon_prefix (e := .f32) (fun y => (uf (stack fun h y x => DS' Pm Am Wm Gm Bm h 64 y x)) y) [_] [_, _, _, _] ?_ y (View.cover_of_tiledL (s := S1024x128) _ S256x128.size (by sl_kernel_rfl) y)
  clear y
  simp only [List.forall_mem_cons, List.not_mem_nil, false_implies, implies_true, and_true]
  refine ⟨?_, ?_, ?_, ?_⟩
  intro x
  refine (congrFun (?_ : _ = uf fun (y : Fin 256) (x : Fin 128) => DS' Pm Am Wm Gm Bm 3 64 y x) x).trans
    ((congrFun (up_congr fun _ _ => rfl) x).trans
      (congrFun (ld_stack (fun h y x => DS' Pm Am Wm Gm Bm h 64 y x) 768 3 rfl (by norm_num) _) x).symm)
  rotate_left
  intro x
  refine (congrFun (?_ : _ = uf fun (y : Fin 256) (x : Fin 128) => DS' Pm Am Wm Gm Bm 2 64 y x) x).trans
    ((congrFun (up_congr fun _ _ => rfl) x).trans
      (congrFun (ld_stack (fun h y x => DS' Pm Am Wm Gm Bm h 64 y x) 512 2 rfl (by norm_num) _) x).symm)
  rotate_left
  intro x
  refine (congrFun (?_ : _ = uf fun (y : Fin 256) (x : Fin 128) => DS' Pm Am Wm Gm Bm 1 64 y x) x).trans
    ((congrFun (up_congr fun _ _ => rfl) x).trans
      (congrFun (ld_stack (fun h y x => DS' Pm Am Wm Gm Bm h 64 y x) 256 1 rfl (by norm_num) _) x).symm)
  rotate_left
  intro x
  refine (congrFun (?_ : _ = uf fun (y : Fin 256) (x : Fin 128) => DS' Pm Am Wm Gm Bm 0 64 y x) x).trans
    ((congrFun (up_congr fun _ _ => rfl) x).trans
      (congrFun (ld_stack (fun h y x => DS' Pm Am Wm Gm Bm h 64 y x) 0 0 rfl (by norm_num) _) x).symm)
  rotate_left
  iterate 4
    sl_unfold_words
    simp (config := {decide := true}) only [View.readAt_eq_ld, harg1.read_unread, harg2.read_unread, harg3.read_unread, harg4.read_unread, harg5.read_unread, harg6.read_unread,
      harg7.read_unread, readCov_ld, canon_whole, ld_skip, pay2_ds Pm Am Wm Gm Bm, pay3_zero, pay4_zero, ld_full_b, ld_full_f, pay7_bl]
    simp (config := {decide := true}) only [ld_cols_b, ld_cols_f, ld_row_f, ld_stack _ 0 0 rfl (by norm_num), ld_up3 _ 0 0 rfl (by norm_num), ld_stack _ 256 1 rfl (by norm_num), ld_up3 _ 256 1 rfl (by norm_num), ld_stack _ 512 2 rfl (by norm_num), ld_up3 _ 512 2 rfl (by norm_num), ld_stack _ 768 3 rfl (by norm_num), ld_up3 _ 768 3 rfl (by norm_num),
      k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay104, k0_pay105, k0_pay106, k0_pay107, k0_pay108,
      pay52_eq, pay78_eq, pay28_up, pay103_up, extf_up, truncf_up, sc_up, zero_up, mulf_up, subf_up, addf_up, exp_up, row_up, causal_up, mm_c, mm_d, mm_e, mm_f, mm_g, mm_h, mm_i, mm_j, shapeCast_self]
    rotate_left
  exact up_congr fun i x => fin_ds Pm Am Wm Gm Bm 64 3 (by norm_num) i x
  exact up_congr fun i x => fin_ds Pm Am Wm Gm Bm 64 2 (by norm_num) i x
  exact up_congr fun i x => fin_ds Pm Am Wm Gm Bm 64 1 (by norm_num) i x
  exact up_congr fun i x => fin_ds Pm Am Wm Gm Bm 64 0 (by norm_num) i x

set_option maxHeartbeats 1600000 in
/-- The gradient of the low-rank input, and, up to this point, the gradients of the decay factor and of the bias by row modulo eight. -/
theorem outs_A :
    (out0_A_8 (F := Ideal) d i arg1 harg1 arg2 harg2 arg3 harg3 arg4 harg4 arg5 harg5 arg6 harg6 arg7 harg7 arg9 harg9 arg10 harg10 arg11 harg11 arg12 harg12 arg13 harg13 arg14 harg14 arg15 harg15 hc0
      (ub fun i j => Pm (128 * 64 + i) j) (ub fun i j => Pm (128 * 64 + i) (1024 + j)) (ub fun i j => Am (128 * 64 + i) j) (ub fun i j => Wm i j) (uf fun _ j => Bm j)
      (ub fun i j => Gm (128 * 64 + i) j) (up3 (stack fun h y x => ST' Pm Am Wm Bm h 64 y x))
      = ub fun (i u : Fin 128) => dat Pm Am Wm Gm Bm (128 * 64 + i) u) ∧
    (out0_A_9 (F := Ideal) d i arg1 harg1 arg2 harg2 arg3 harg3 arg4 harg4 arg5 harg5 arg6 harg6 arg7 harg7 arg9 harg9 arg10 harg10 arg11 harg11 arg12 harg12 arg13 harg13 arg14 harg14 arg15 harg15 hc0
      (ub fun i j => Pm (128 * 64 + i) j) (ub fun i j => Pm (128 * 64 + i) (1024 + j)) (ub fun i j => Am (128 * 64 + i) j) (ub fun i j => Wm i j) (uf fun _ j => Bm j)
      (ub fun i j => Gm (128 * 64 + i) j) (up3 (stack fun h y x => ST' Pm Am Wm Bm h 64 y x))
      = uf fun (u : Fin 128) (j : Fin 512) => 0 + ∑ i : Fin 128, Am (128 * 64 + i) u * dzt Pm Am Wm Gm Bm (128 * 64 + i) j) ∧
    (out0_A_10 (F := Ideal) d i arg1 harg1 arg2 harg2 arg3 harg3 arg4 harg4 arg5 harg5 arg6 harg6 arg7 harg7 arg9 harg9 arg10 harg10 arg11 harg11 arg12 harg12 arg13 harg13 arg14 harg14 arg15 harg15 hc0
      (ub fun i j => Pm (128 * 64 + i) j) (ub fun i j => Pm (128 * 64 + i) (1024 + j)) (ub fun i j => Am (128 * 64 + i) j) (ub fun i j => Wm i j) (uf fun _ j => Bm j)
      (ub fun i j => Gm (128 * 64 + i) j) (up3 (stack fun h y x => ST' Pm Am Wm Bm h 64 y x))
      = uf fun (r : Fin 8) (j : Fin 512) => 0 + ∑ p : Fin 16, dzt Pm Am Wm Gm Bm (128 * 64 + (8 * (p : ℕ) + r)) j) := by
  refine ⟨?_, ?_, ?_⟩
  all_goals
    first
    | unfold out0_A_8
      rw [View.read_writes_eq_canon _ _ _ (cover0_A_8 d i arg1 harg1 arg2 harg2 arg3 harg3 arg4 harg4 arg5 harg5 arg6 harg6 arg7 harg7 arg9 harg9 arg10 harg10 arg11 harg11 arg12 harg12 arg13 harg13 arg14 harg14 arg15 harg15 hc0 _ _ _ _ _ _ _)]
    | unfold out0_A_9
      rw [View.read_writes_eq_canon _ _ _ (cover0_A_9 d i arg1 harg1 arg2 harg2 arg3 harg3 arg4 harg4 arg5 harg5 arg6 harg6 arg7 harg7 arg9 harg9 arg10 harg10 arg11 harg11 arg12 harg12 arg13 harg13 arg14 harg14 arg15 harg15 hc0 _ _ _ _ _ _ _)]
    | unfold out0_A_10
      rw [View.read_writes_eq_canon _ _ _ (cover0_A_10 d i arg1 harg1 arg2 harg2 arg3 harg3 arg4 harg4 arg5 harg5 arg6 harg6 arg7 harg7 arg9 harg9 arg10 harg10 arg11 harg11 arg12 harg12 arg13 harg13 arg14 harg14 arg15 harg15 hc0 _ _ _ _ _ _ _)]
    unfold kernelRun0_A
    dsimp only
    first
    | refine (canon_whole _ _).trans ?_
      refine pay111_of Pm Am Wm Gm Bm 64 (by norm_num) _ _ _ _ _ _ ?_ ?_ ?_ ?_ ?_ ?_ _ ?_
    | refine (canon_last _ _ _).trans ?_
      refine pay112_of Pm Am Wm Gm Bm 64 (by norm_num) _ _ _ _ _ _ ?_ ?_ ?_ ?_ ?_ ?_ _ _ (fun u j => 0) ?_ ?_
    | refine (canon_last _ _ _).trans ?_
      refine pay1_of Pm Am Wm Gm Bm 64 (by norm_num) _ _ _ _ _ _ ?_ ?_ ?_ ?_ ?_ ?_ _ (fun r j => 0) ?_
    · sl_unfold_words
      simp (config := {decide := true}) only [View.readAt_eq_ld, harg1.read_unread, harg2.read_unread, harg3.read_unread, harg4.read_unread, harg5.read_unread, harg6.read_unread,
        harg7.read_unread, readCov_ld, canon_whole, ld_skip, pay2_ds Pm Am Wm Gm Bm, pay3_zero, pay4_zero, ld_full_b, ld_full_f, pay5_zz]
    iterate 4
      sl_unfold_words
      simp (config := {decide := true}) only [View.readAt_eq_ld, harg1.read_unread, harg2.read_unread, harg3.read_unread, harg4.read_unread, harg5.read_unread, harg6.read_unread,
        harg7.read_unread, readCov_ld, canon_whole, ld_skip, pay2_ds Pm Am Wm Gm Bm, pay3_zero, pay4_zero, ld_full_b, ld_full_f, pay7_bl]
      simp (config := {decide := true}) only [ld_cols_b, ld_cols_f, ld_row_f, ld_stack _ 0 0 rfl (by norm_num), ld_up3 _ 0 0 rfl (by norm_num), ld_stack _ 256 1 rfl (by norm_num), ld_up3 _ 256 1 rfl (by norm_num), ld_stack _ 512 2 rfl (by norm_num), ld_up3 _ 512 2 rfl (by norm_num), ld_stack _ 768 3 rfl (by norm_num), ld_up3 _ 768 3 rfl (by norm_num),
        k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay104, k0_pay105, k0_pay106, k0_pay107, k0_pay108,
        pay52_eq, pay78_eq, pay28_up, pay103_up, extf_up, truncf_up, sc_up, zero_up, mulf_up, subf_up, addf_up, exp_up, row_up, causal_up, mm_c, mm_d, mm_e, mm_f, mm_g, mm_h, mm_i, mm_j, shapeCast_self]
      rotate_left
    rotate_right 4
    exact up_congr fun _ x => fin_last Pm Am Wm Gm Bm 64 0 (by norm_num) x
    exact up_congr fun _ x => fin_last Pm Am Wm Gm Bm 64 1 (by norm_num) x
    exact up_congr fun _ x => fin_last Pm Am Wm Gm Bm 64 2 (by norm_num) x
    exact up_congr fun _ x => fin_last Pm Am Wm Gm Bm 64 3 (by norm_num) x
    · sl_unfold_words
      simp (config := {decide := true}) only [View.readAt_eq_ld, harg1.read_unread, harg2.read_unread, harg3.read_unread, harg4.read_unread, harg5.read_unread, harg6.read_unread,
        harg7.read_unread, readCov_ld, canon_whole, ld_skip, pay2_ds Pm Am Wm Gm Bm, pay3_zero, pay4_zero, ld_full_b, ld_full_f, pay7_bl]
      refine (View.ld_unit_zero (funext fun c => match c with | ⟨0, _⟩ => rfl | ⟨1, _⟩ => rfl) _ _).trans ?_
      funext y
      refine View.canon_apply_of_pieces (Val := Elt Ideal) (e := .f32) (fun y => (uf fun (i : Fin 128) (j : Fin 512) => dbt Pm Am Wm Gm Bm (128 * 64 + i) j) y) _ ?_ y
        (View.cover_of_tiledL (s := S128x512) _ S128x128.size (by sl_kernel_rfl) y)
      clear y
      simp only [List.forall_mem_cons, List.not_mem_nil, false_implies, implies_true, and_true]
      refine ⟨?_, ?_, ?_, ?_⟩
      intro x
      refine (congrFun (?_ : _ = uf fun (i : Fin 128) (x : Fin 128) => DB' Pm Am Wm Gm Bm 3 (128 * 64 + i) x) x).trans
        ((congrFun (up_congr fun i x => (dbt_at Pm Am Wm Gm Bm 3 (128 * 64 + i) x).symm) x).trans
          (congrFun (ld_cols_f (fun (i : Fin 128) (j : Fin 512) => dbt Pm Am Wm Gm Bm (128 * 64 + i) j) 384 _ (by norm_num)) x).symm)
      rotate_left
      intro x
      refine (congrFun (?_ : _ = uf fun (i : Fin 128) (x : Fin 128) => DB' Pm Am Wm Gm Bm 2 (128 * 64 + i) x) x).trans
        ((congrFun (up_congr fun i x => (dbt_at Pm Am Wm Gm Bm 2 (128 * 64 + i) x).symm) x).trans
          (congrFun (ld_cols_f (fun (i : Fin 128) (j : Fin 512) => dbt Pm Am Wm Gm Bm (128 * 64 + i) j) 256 _ (by norm_num)) x).symm)
      rotate_left
      intro x
      refine (congrFun (?_ : _ = uf fun (i : Fin 128) (x : Fin 128) => DB' Pm Am Wm Gm Bm 1 (128 * 64 + i) x) x).trans
        ((congrFun (up_congr fun i x => (dbt_at Pm Am Wm Gm Bm 1 (128 * 64 + i) x).symm) x).trans
          (congrFun (ld_cols_f (fun (i : Fin 128) (j : Fin 512) => dbt Pm Am Wm Gm Bm (128 * 64 + i) j) 128 _ (by norm_num)) x).symm)
      rotate_left
      intro x
      refine (congrFun (?_ : _ = uf fun (i : Fin 128) (x : Fin 128) => DB' Pm Am Wm Gm Bm 0 (128 * 64 + i) x) x).trans
        ((congrFun (up_congr fun i x => (dbt_at Pm Am Wm Gm Bm 0 (128 * 64 + i) x).symm) x).trans
          (congrFun (ld_cols_f (fun (i : Fin 128) (j : Fin 512) => dbt Pm Am Wm Gm Bm (128 * 64 + i) j) 0 _ (by norm_num)) x).symm)
      rotate_left
      iterate 4
        simp (config := {decide := true}) only [ld_cols_b, ld_cols_f, ld_row_f, ld_stack _ 0 0 rfl (by norm_num), ld_up3 _ 0 0 rfl (by norm_num), ld_stack _ 256 1 rfl (by norm_num), ld_up3 _ 256 1 rfl (by norm_num), ld_stack _ 512 2 rfl (by norm_num), ld_up3 _ 512 2 rfl (by norm_num), ld_stack _ 768 3 rfl (by norm_num), ld_up3 _ 768 3 rfl (by norm_num),
        k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay104, k0_pay105, k0_pay106, k0_pay107, k0_pay108,
        pay52_eq, pay78_eq, pay28_up, pay103_up, extf_up, truncf_up, sc_up, zero_up, mulf_up, subf_up, addf_up, exp_up, row_up, causal_up, mm_c, mm_d, mm_e, mm_f, mm_g, mm_h, mm_i, mm_j, shapeCast_self]
        rotate_left
      exact up_congr fun i x => fin_db Pm Am Wm Gm Bm 64 3 (by norm_num) i x 64
      exact up_congr fun i x => fin_db Pm Am Wm Gm Bm 64 2 (by norm_num) i x 64
      exact up_congr fun i x => fin_db Pm Am Wm Gm Bm 64 1 (by norm_num) i x 64
      exact up_congr fun i x => fin_db Pm Am Wm Gm Bm 64 0 (by norm_num) i x 64
    all_goals
      sl_unfold_words
      simp (config := {decide := true}) only [View.readAt_eq_ld, harg1.read_unread, harg2.read_unread, harg3.read_unread, harg4.read_unread, harg5.read_unread, harg6.read_unread,
        harg7.read_unread, readCov_ld, canon_whole, ld_skip, pay2_ds Pm Am Wm Gm Bm, pay3_zero, pay4_zero, ld_full_b, ld_full_f, pay7_bl]

end Cert.Gla

end
-- ==== Proof.PieceB.lean ====
/- What the kernel leaves at a grid point (every point but the first), as the problem's gradients. -/
module

public import proofs.«01_k».proof.Proof.Chunk
public import proofs.«01_k».proof.Proof.Gen.KernelIdeal.Frame
public import Idealize.ShloMosaic.Lib.Tactic

@[expose] public section

set_option maxRecDepth 20000

noncomputable section

namespace Cert.Gla

open Idealize.ShloMosaic Idealize.ShloMosaic.TcCoe Idealize.SL.Sem Cert.KernelIdeal Cert.KernelIdeal.Gen
open scoped BigOperators

variable [hF : Cert.KernelIdeal.Facts]
variable (Pm Am Wm Gm : ℕ → ℕ → ℝ) (Bm : ℕ → ℝ)

variable (d : Dev nD) (i : grid0.Coords) (arg1 : Memref sig .tc .vmem S128x1024 .bf16) (harg1 : arg1.IsWhole)
  (arg2 : Memref sig .tc .vmem S128x1024 .bf16) (harg2 : arg2.IsWhole) (arg3 : Memref sig .tc .vmem S128x128 .bf16) (harg3 : arg3.IsWhole)
  (arg4 : Memref sig .tc .vmem S128x512 .bf16) (harg4 : arg4.IsWhole) (arg5 : Memref sig .tc .vmem S1x512 .f32) (harg5 : arg5.IsWhole)
  (arg6 : Memref sig .tc .vmem S128x1024 .bf16) (harg6 : arg6.IsWhole) (arg7 : Memref sig .tc .vmem S1x1024x128 .f32) (harg7 : arg7.IsWhole)
  (arg9 : Memref sig .tc .vmem S128x2048 .bf16) (harg9 : arg9.IsWhole) (arg10 : Memref sig .tc .vmem S128x128 .bf16) (harg10 : arg10.IsWhole)
  (arg11 : Memref sig .tc .vmem S128x512 .f32) (harg11 : arg11.IsWhole) (arg12 : Memref sig .tc .vmem S8x512 .f32) (harg12 : arg12.IsWhole)
  (arg13 : Memref sig .tc .vmem S1024x128 .f32) (harg13 : arg13.IsWhole) (arg14 : Memref sig .tc .vmem S128x512 .f32) (harg14 : arg14.IsWhole)
  (arg15 : Memref sig .tc .vmem S128x512 .f32) (harg15 : arg15.IsWhole) (hc0 : ¬cond0_0 i)

/-- The gradient of the projection. -/
theorem out7_B (n : ℕ) (hn : n < 65) (o9 : Fin 128 → Fin 512 → ℝ) (o10 : Fin 8 → Fin 512 → ℝ) :
    out0_B_7 (F := Ideal) d i arg1 harg1 arg2 harg2 arg3 harg3 arg4 harg4 arg5 harg5 arg6 harg6 arg7 harg7 arg9 harg9 arg10 harg10 arg11 harg11 arg12 harg12 arg13 harg13 arg14 harg14 arg15 harg15 hc0
      (ub fun i j => Pm (128 * n + i) j) (ub fun i j => Pm (128 * n + i) (1024 + j)) (ub fun i j => Am (128 * n + i) j) (ub fun i j => Wm i j) (uf fun _ j => Bm j)
      (ub fun i j => Gm (128 * n + i) j) (up3 (stack fun h y x => ST' Pm Am Wm Bm h n y x)) (uf o9) (uf o10) (uf (stack fun h y x => DS' Pm Am Wm Gm Bm h (n + 1) y x))
      = ub fun (i : Fin 128) (j : Fin 2048) => dpt Pm Am Wm Gm Bm (128 * n + i) j := by
  unfold out0_B_7
  rw [View.read_writes_eq_canon _ _ _ (cover0_B_7 d i arg1 harg1 arg2 harg2 arg3 harg3 arg4 harg4 arg5 harg5 arg6 harg6 arg7 harg7 arg9 harg9 arg10 harg10 arg11 harg11 arg12 harg12 arg13 harg13 arg14 harg14 arg15 harg15 hc0 _ _ _ _ _ _ _ _ _ _)]
  funext y
  refine View.canon_apply_of_pieces (Val := Elt Ideal) (e := .bf16) (fun y => (ub fun (i : Fin 128) (j : Fin 2048) => dpt Pm Am Wm Gm Bm (128 * n + i) j) y) _ ?_ y (cover0_B_7 d i arg1 harg1 arg2 harg2 arg3 harg3 arg4 harg4 arg5 harg5 arg6 harg6 arg7 harg7 arg9 harg9 arg10 harg10 arg11 harg11 arg12 harg12 arg13 harg13 arg14 harg14 arg15 harg15 hc0 _ _ _ _ _ _ _ _ _ _ y)
  clear y
  unfold kernelRun0_B
  dsimp only
  simp only [List.forall_mem_cons, List.not_mem_nil, false_implies, implies_true, and_true]
  refine ⟨?_, ?_, ?_, ?_, ?_, ?_, ?_, ?_, ?_, ?_, ?_, ?_⟩
  intro x
  refine (congrFun (?_ : _ = ub fun (i : Fin 128) (x : Fin 256) => DV' Pm Am Wm Gm Bm 3 (128 * n + i) x) x).trans
    ((congrFun (up_congr fun i x => (dpt_v Pm Am Wm Gm Bm 3 1792 (128 * n + i) rfl (by norm_num) x).symm) x).trans
      (congrFun (ld_cols_b (fun (i : Fin 128) (j : Fin 2048) => dpt Pm Am Wm Gm Bm (128 * n + i) j) 1792 _ (by norm_num)) x).symm)
  rotate_left
  intro x
  refine (congrFun (?_ : _ = ub fun (i : Fin 128) (x : Fin 128) => DK' Pm Am Wm Gm Bm 3 (128 * n + i) x) x).trans
    ((congrFun (up_congr fun i x => (dpt_k Pm Am Wm Gm Bm 3 896 (128 * n + i) rfl (by norm_num) x).symm) x).trans
      (congrFun (ld_cols_b (fun (i : Fin 128) (j : Fin 2048) => dpt Pm Am Wm Gm Bm (128 * n + i) j) 896 _ (by norm_num)) x).symm)
  rotate_left
  intro x
  refine (congrFun (?_ : _ = ub fun (i : Fin 128) (x : Fin 128) => DQ' Pm Am Wm Gm Bm 3 (128 * n + i) x * sc) x).trans
    ((congrFun (up_congr fun i x => (dpt_q Pm Am Wm Gm Bm 3 384 (128 * n + i) rfl (by norm_num) x).symm) x).trans
      (congrFun (ld_cols_b (fun (i : Fin 128) (j : Fin 2048) => dpt Pm Am Wm Gm Bm (128 * n + i) j) 384 _ (by norm_num)) x).symm)
  rotate_left
  intro x
  refine (congrFun (?_ : _ = ub fun (i : Fin 128) (x : Fin 256) => DV' Pm Am Wm Gm Bm 2 (128 * n + i) x) x).trans
    ((congrFun (up_congr fun i x => (dpt_v Pm Am Wm Gm Bm 2 1536 (128 * n + i) rfl (by norm_num) x).symm) x).trans
      (congrFun (ld_cols_b (fun (i : Fin 128) (j : Fin 2048) => dpt Pm Am Wm Gm Bm (128 * n + i) j) 1536 _ (by norm_num)) x).symm)
  rotate_left
  intro x
  refine (congrFun (?_ : _ = ub fun (i : Fin 128) (x : Fin 128) => DK' Pm Am Wm Gm Bm 2 (128 * n + i) x) x).trans
    ((congrFun (up_congr fun i x => (dpt_k Pm Am Wm Gm Bm 2 768 (128 * n + i) rfl (by norm_num) x).symm) x).trans
      (congrFun (ld_cols_b (fun (i : Fin 128) (j : Fin 2048) => dpt Pm Am Wm Gm Bm (128 * n + i) j) 768 _ (by norm_num)) x).symm)
  rotate_left
  intro x
  refine (congrFun (?_ : _ = ub fun (i : Fin 128) (x : Fin 128) => DQ' Pm Am Wm Gm Bm 2 (128 * n + i) x * sc) x).trans
    ((congrFun (up_congr fun i x => (dpt_q Pm Am Wm Gm Bm 2 256 (128 * n + i) rfl (by norm_num) x).symm) x).trans
      (congrFun (ld_cols_b (fun (i : Fin 128) (j : Fin 2048) => dpt Pm Am Wm Gm Bm (128 * n + i) j) 256 _ (by norm_num)) x).symm)
  rotate_left
  intro x
  refine (congrFun (?_ : _ = ub fun (i : Fin 128) (x : Fin 256) => DV' Pm Am Wm Gm Bm 1 (128 * n + i) x) x).trans
    ((congrFun (up_congr fun i x => (dpt_v Pm Am Wm Gm Bm 1 1280 (128 * n + i) rfl (by norm_num) x).symm) x).trans
      (congrFun (ld_cols_b (fun (i : Fin 128) (j : Fin 2048) => dpt Pm Am Wm Gm Bm (128 * n + i) j) 1280 _ (by norm_num)) x).symm)
  rotate_left
  intro x
  refine (congrFun (?_ : _ = ub fun (i : Fin 128) (x : Fin 128) => DK' Pm Am Wm Gm Bm 1 (128 * n + i) x) x).trans
    ((congrFun (up_congr fun i x => (dpt_k Pm Am Wm Gm Bm 1 640 (128 * n + i) rfl (by norm_num) x).symm) x).trans
      (congrFun (ld_cols_b (fun (i : Fin 128) (j : Fin 2048) => dpt Pm Am Wm Gm Bm (128 * n + i) j) 640 _ (by norm_num)) x).symm)
  rotate_left
  intro x
  refine (congrFun (?_ : _ = ub fun (i : Fin 128) (x : Fin 128) => DQ' Pm Am Wm Gm Bm 1 (128 * n + i) x * sc) x).trans
    ((congrFun (up_congr fun i x => (dpt_q Pm Am Wm Gm Bm 1 128 (128 * n + i) rfl (by norm_num) x).symm) x).trans
      (congrFun (ld_cols_b (fun (i : Fin 128) (j : Fin 2048) => dpt Pm Am Wm Gm Bm (128 * n + i) j) 128 _ (by norm_num)) x).symm)
  rotate_left
  intro x
  refine (congrFun (?_ : _ = ub fun (i : Fin 128) (x : Fin 256) => DV' Pm Am Wm Gm Bm 0 (128 * n + i) x) x).trans
    ((congrFun (up_congr fun i x => (dpt_v Pm Am Wm Gm Bm 0 1024 (128 * n + i) rfl (by norm_num) x).symm) x).trans
      (congrFun (ld_cols_b (fun (i : Fin 128) (j : Fin 2048) => dpt Pm Am Wm Gm Bm (128 * n + i) j) 1024 _ (by norm_num)) x).symm)
  rotate_left
  intro x
  refine (congrFun (?_ : _ = ub fun (i : Fin 128) (x : Fin 128) => DK' Pm Am Wm Gm Bm 0 (128 * n + i) x) x).trans
    ((congrFun (up_congr fun i x => (dpt_k Pm Am Wm Gm Bm 0 512 (128 * n + i) rfl (by norm_num) x).symm) x).trans
      (congrFun (ld_cols_b (fun (i : Fin 128) (j : Fin 2048) => dpt Pm Am Wm Gm Bm (128 * n + i) j) 512 _ (by norm_num)) x).symm)
  rotate_left
  intro x
  refine (congrFun (?_ : _ = ub fun (i : Fin 128) (x : Fin 128) => DQ' Pm Am Wm Gm Bm 0 (128 * n + i) x * sc) x).trans
    ((congrFun (up_congr fun i x => (dpt_q Pm Am Wm Gm Bm 0 0 (128 * n + i) rfl (by norm_num) x).symm) x).trans
      (congrFun (ld_cols_b (fun (i : Fin 128) (j : Fin 2048) => dpt Pm Am Wm Gm Bm (128 * n + i) j) 0 _ (by norm_num)) x).symm)
  rotate_left
  iterate 12
    sl_unfold_words
    simp only [View.readAt_eq_ld, harg1.read_unread, harg2.read_unread, harg3.read_unread, harg4.read_unread, harg5.read_unread, harg6.read_unread,
      harg7.read_unread, harg11.read_unread, harg12.read_unread, harg13.read_unread, readCov_ld, canon_whole, ld_full_b, ld_full_f, pay7_bl]
    simp (config := {decide := true}) only [ld_cols_b, ld_cols_f, ld_row_f, ld_stack _ 0 0 rfl (by norm_num), ld_up3 _ 0 0 rfl (by norm_num), ld_stack _ 256 1 rfl (by norm_num), ld_up3 _ 256 1 rfl (by norm_num), ld_stack _ 512 2 rfl (by norm_num), ld_up3 _ 512 2 rfl (by norm_num), ld_stack _ 768 3 rfl (by norm_num), ld_up3 _ 768 3 rfl (by norm_num),
      k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay104, k0_pay105, k0_pay106, k0_pay107, k0_pay108,
      pay52_eq, pay78_eq, pay28_up, pay103_up, extf_up, truncf_up, sc_up, zero_up, mulf_up, subf_up, addf_up, exp_up, row_up, causal_up, mm_c, mm_d, mm_e, mm_f, mm_g, mm_h, mm_i, mm_j, shapeCast_self]
    rotate_left
  exact up_congr fun i x => fin_dv Pm Am Wm Gm Bm n 3 hn i x 64
  exact up_congr fun i x => fin_dk Pm Am Wm Gm Bm n 3 hn i x 64
  exact up_congr fun i x => congrArg (· * sc) (fin_dq Pm Am Wm Gm Bm n 3 i x 64)
  exact up_congr fun i x => fin_dv Pm Am Wm Gm Bm n 2 hn i x 64
  exact up_congr fun i x => fin_dk Pm Am Wm Gm Bm n 2 hn i x 64
  exact up_congr fun i x => congrArg (· * sc) (fin_dq Pm Am Wm Gm Bm n 2 i x 64)
  exact up_congr fun i x => fin_dv Pm Am Wm Gm Bm n 1 hn i x 64
  exact up_congr fun i x => fin_dk Pm Am Wm Gm Bm n 1 hn i x 64
  exact up_congr fun i x => congrArg (· * sc) (fin_dq Pm Am Wm Gm Bm n 1 i x 64)
  exact up_congr fun i x => fin_dv Pm Am Wm Gm Bm n 0 hn i x 64
  exact up_congr fun i x => fin_dk Pm Am Wm Gm Bm n 0 hn i x 64
  exact up_congr fun i x => congrArg (· * sc) (fin_dq Pm Am Wm Gm Bm n 0 i x 64)

/-- The state gradient handed to the earlier chunks. -/
theorem sout_B (n : ℕ) (hn : n < 65) (o9 : Fin 128 → Fin 512 → ℝ) (o10 : Fin 8 → Fin 512 → ℝ) :
    sout0_B_0 (F := Ideal) d i arg1 harg1 arg2 harg2 arg3 harg3 arg4 harg4 arg5 harg5 arg6 harg6 arg7 harg7 arg9 harg9 arg10 harg10 arg11 harg11 arg12 harg12 arg13 harg13 arg14 harg14 arg15 harg15 hc0
      (ub fun i j => Pm (128 * n + i) j) (ub fun i j => Pm (128 * n + i) (1024 + j)) (ub fun i j => Am (128 * n + i) j) (ub fun i j => Wm i j) (uf fun _ j => Bm j)
      (ub fun i j => Gm (128 * n + i) j) (up3 (stack fun h y x => ST' Pm Am Wm Bm h n y x)) (uf o9) (uf o10) (uf (stack fun h y x => DS' Pm Am Wm Gm Bm h (n + 1) y x))
      = uf (stack fun h y x => DS' Pm Am Wm Gm Bm h n y x) := by
  unfold sout0_B_0
  rw [View.read_writes_eq_canon _ _ _ (scover0_B_0 d i arg1 harg1 arg2 harg2 arg3 harg3 arg4 harg4 arg5 harg5 arg6 harg6 arg7 harg7 arg9 harg9 arg10 harg10 arg11 harg11 arg12 harg12 arg13 harg13 arg14 harg14 arg15 harg15 hc0 _ _ _ _ _ _ _ _ _ _)]
  funext y
  refine View.canon_apply_of_pieces (Val := Elt Ideal) (e := .f32) (fun y => (uf (stack fun h y x => DS' Pm Am Wm Gm Bm h n y x)) y) _ ?_ y (scover0_B_0 d i arg1 harg1 arg2 harg2 arg3 harg3 arg4 harg4 arg5 harg5 arg6 harg6 arg7 harg7 arg9 harg9 arg10 harg10 arg11 harg11 arg12 harg12 arg13 harg13 arg14 harg14 arg15 harg15 hc0 _ _ _ _ _ _ _ _ _ _ y)
  clear y
  unfold kernelRun0_B
  dsimp only
  simp only [List.forall_mem_cons, List.not_mem_nil, false_implies, implies_true, and_true]
  refine ⟨?_, ?_, ?_, ?_⟩
  intro x
  refine (congrFun (?_ : _ = uf fun (y : Fin 256) (x : Fin 128) => DS' Pm Am Wm Gm Bm 3 n y x) x).trans
    ((congrFun (up_congr fun _ _ => rfl) x).trans
      (congrFun (ld_stack (fun h y x => DS' Pm Am Wm Gm Bm h n y x) 768 3 rfl (by norm_num) _) x).symm)
  rotate_left
  intro x
  refine (congrFun (?_ : _ = uf fun (y : Fin 256) (x : Fin 128) => DS' Pm Am Wm Gm Bm 2 n y x) x).trans
    ((congrFun (up_congr fun _ _ => rfl) x).trans
      (congrFun (ld_stack (fun h y x => DS' Pm Am Wm Gm Bm h n y x) 512 2 rfl (by norm_num) _) x).symm)
  rotate_left
  intro x
  refine (congrFun (?_ : _ = uf fun (y : Fin 256) (x : Fin 128) => DS' Pm Am Wm Gm Bm 1 n y x) x).trans
    ((congrFun (up_congr fun _ _ => rfl) x).trans
      (congrFun (ld_stack (fun h y x => DS' Pm Am Wm Gm Bm h n y x) 256 1 rfl (by norm_num) _) x).symm)
  rotate_left
  intro x
  refine (congrFun (?_ : _ = uf fun (y : Fin 256) (x : Fin 128) => DS' Pm Am Wm Gm Bm 0 n y x) x).trans
    ((congrFun (up_congr fun _ _ => rfl) x).trans
      (congrFun (ld_stack (fun h y x => DS' Pm Am Wm Gm Bm h n y x) 0 0 rfl (by norm_num) _) x).symm)
  rotate_left
  iterate 4
    sl_unfold_words
    simp only [View.readAt_eq_ld, harg1.read_unread, harg2.read_unread, harg3.read_unread, harg4.read_unread, harg5.read_unread, harg6.read_unread,
      harg7.read_unread, harg11.read_unread, harg12.read_unread, harg13.read_unread, readCov_ld, canon_whole, ld_full_b, ld_full_f, pay7_bl]
    simp (config := {decide := true}) only [ld_cols_b, ld_cols_f, ld_row_f, ld_stack _ 0 0 rfl (by norm_num), ld_up3 _ 0 0 rfl (by norm_num), ld_stack _ 256 1 rfl (by norm_num), ld_up3 _ 256 1 rfl (by norm_num), ld_stack _ 512 2 rfl (by norm_num), ld_up3 _ 512 2 rfl (by norm_num), ld_stack _ 768 3 rfl (by norm_num), ld_up3 _ 768 3 rfl (by norm_num),
      k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay104, k0_pay105, k0_pay106, k0_pay107, k0_pay108,
      pay52_eq, pay78_eq, pay28_up, pay103_up, extf_up, truncf_up, sc_up, zero_up, mulf_up, subf_up, addf_up, exp_up, row_up, causal_up, mm_c, mm_d, mm_e, mm_f, mm_g, mm_h, mm_i, mm_j, shapeCast_self]
    rotate_left
  exact up_congr fun i x => fin_ds Pm Am Wm Gm Bm n 3 hn i x
  exact up_congr fun i x => fin_ds Pm Am Wm Gm Bm n 2 hn i x
  exact up_congr fun i x => fin_ds Pm Am Wm Gm Bm n 1 hn i x
  exact up_congr fun i x => fin_ds Pm Am Wm Gm Bm n 0 hn i x

set_option maxHeartbeats 1600000 in
/-- The gradient of the low-rank input, and, up to this point, the gradients of the decay factor and of the bias by row modulo eight. -/
theorem outs_B (n : ℕ) (hn : n < 65) (o9 : Fin 128 → Fin 512 → ℝ) (o10 : Fin 8 → Fin 512 → ℝ) :
    (out0_B_8 (F := Ideal) d i arg1 harg1 arg2 harg2 arg3 harg3 arg4 harg4 arg5 harg5 arg6 harg6 arg7 harg7 arg9 harg9 arg10 harg10 arg11 harg11 arg12 harg12 arg13 harg13 arg14 harg14 arg15 harg15 hc0
      (ub fun i j => Pm (128 * n + i) j) (ub fun i j => Pm (128 * n + i) (1024 + j)) (ub fun i j => Am (128 * n + i) j) (ub fun i j => Wm i j) (uf fun _ j => Bm j)
      (ub fun i j => Gm (128 * n + i) j) (up3 (stack fun h y x => ST' Pm Am Wm Bm h n y x)) (uf o9) (uf o10) (uf (stack fun h y x => DS' Pm Am Wm Gm Bm h (n + 1) y x))
      = ub fun (i u : Fin 128) => dat Pm Am Wm Gm Bm (128 * n + i) u) ∧
    (out0_B_9 (F := Ideal) d i arg1 harg1 arg2 harg2 arg3 harg3 arg4 harg4 arg5 harg5 arg6 harg6 arg7 harg7 arg9 harg9 arg10 harg10 arg11 harg11 arg12 harg12 arg13 harg13 arg14 harg14 arg15 harg15 hc0
      (ub fun i j => Pm (128 * n + i) j) (ub fun i j => Pm (128 * n + i) (1024 + j)) (ub fun i j => Am (128 * n + i) j) (ub fun i j => Wm i j) (uf fun _ j => Bm j)
      (ub fun i j => Gm (128 * n + i) j) (up3 (stack fun h y x => ST' Pm Am Wm Bm h n y x)) (uf o9) (uf o10) (uf (stack fun h y x => DS' Pm Am Wm Gm Bm h (n + 1) y x))
      = uf fun (u : Fin 128) (j : Fin 512) => o9 u j + ∑ i : Fin 128, Am (128 * n + i) u * dzt Pm Am Wm Gm Bm (128 * n + i) j) ∧
    (out0_B_10 (F := Ideal) d i arg1 harg1 arg2 harg2 arg3 harg3 arg4 harg4 arg5 harg5 arg6 harg6 arg7 harg7 arg9 harg9 arg10 harg10 arg11 harg11 arg12 harg12 arg13 harg13 arg14 harg14 arg15 harg15 hc0
      (ub fun i j => Pm (128 * n + i) j) (ub fun i j => Pm (128 * n + i) (1024 + j)) (ub fun i j => Am (128 * n + i) j) (ub fun i j => Wm i j) (uf fun _ j => Bm j)
      (ub fun i j => Gm (128 * n + i) j) (up3 (stack fun h y x => ST' Pm Am Wm Bm h n y x)) (uf o9) (uf o10) (uf (stack fun h y x => DS' Pm Am Wm Gm Bm h (n + 1) y x))
      = uf fun (r : Fin 8) (j : Fin 512) => o10 r j + ∑ p : Fin 16, dzt Pm Am Wm Gm Bm (128 * n + (8 * (p : ℕ) + r)) j) := by
  refine ⟨?_, ?_, ?_⟩
  all_goals
    first
    | unfold out0_B_8
      rw [View.read_writes_eq_canon _ _ _ (cover0_B_8 d i arg1 harg1 arg2 harg2 arg3 harg3 arg4 harg4 arg5 harg5 arg6 harg6 arg7 harg7 arg9 harg9 arg10 harg10 arg11 harg11 arg12 harg12 arg13 harg13 arg14 harg14 arg15 harg15 hc0 _ _ _ _ _ _ _ _ _ _)]
    | unfold out0_B_9
      rw [View.read_writes_eq_canon _ _ _ (cover0_B_9 d i arg1 harg1 arg2 harg2 arg3 harg3 arg4 harg4 arg5 harg5 arg6 harg6 arg7 harg7 arg9 harg9 arg10 harg10 arg11 harg11 arg12 harg12 arg13 harg13 arg14 harg14 arg15 harg15 hc0 _ _ _ _ _ _ _ _ _ _)]
    | unfold out0_B_10
      rw [View.read_writes_eq_canon _ _ _ (cover0_B_10 d i arg1 harg1 arg2 harg2 arg3 harg3 arg4 harg4 arg5 harg5 arg6 harg6 arg7 harg7 arg9 harg9 arg10 harg10 arg11 harg11 arg12 harg12 arg13 harg13 arg14 harg14 arg15 harg15 hc0 _ _ _ _ _ _ _ _ _ _)]
    unfold kernelRun0_B
    dsimp only
    first
    | refine (canon_whole _ _).trans ?_
      refine pay111_of Pm Am Wm Gm Bm n hn _ _ _ _ _ _ ?_ ?_ ?_ ?_ ?_ ?_ _ ?_
    | refine (canon_whole _ _).trans ?_
      refine pay112_of Pm Am Wm Gm Bm n hn _ _ _ _ _ _ ?_ ?_ ?_ ?_ ?_ ?_ _ _ (fun u j => o9 u j) ?_ ?_
    | refine (canon_whole _ _).trans ?_
      refine pay1_of Pm Am Wm Gm Bm n hn _ _ _ _ _ _ ?_ ?_ ?_ ?_ ?_ ?_ _ (fun r j => o10 r j) ?_
    · sl_unfold_words
      simp only [View.readAt_eq_ld, harg1.read_unread, harg2.read_unread, harg3.read_unread, harg4.read_unread, harg5.read_unread, harg6.read_unread,
        harg7.read_unread, harg11.read_unread, harg12.read_unread, harg13.read_unread, readCov_ld, canon_whole, ld_full_b, ld_full_f, pay5_zz]
    iterate 4
      sl_unfold_words
      simp only [View.readAt_eq_ld, harg1.read_unread, harg2.read_unread, harg3.read_unread, harg4.read_unread, harg5.read_unread, harg6.read_unread,
        harg7.read_unread, harg11.read_unread, harg12.read_unread, harg13.read_unread, readCov_ld, canon_whole, ld_full_b, ld_full_f, pay7_bl]
      simp (config := {decide := true}) only [ld_cols_b, ld_cols_f, ld_row_f, ld_stack _ 0 0 rfl (by norm_num), ld_up3 _ 0 0 rfl (by norm_num), ld_stack _ 256 1 rfl (by norm_num), ld_up3 _ 256 1 rfl (by norm_num), ld_stack _ 512 2 rfl (by norm_num), ld_up3 _ 512 2 rfl (by norm_num), ld_stack _ 768 3 rfl (by norm_num), ld_up3 _ 768 3 rfl (by norm_num),
        k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay104, k0_pay105, k0_pay106, k0_pay107, k0_pay108,
        pay52_eq, pay78_eq, pay28_up, pay103_up, extf_up, truncf_up, sc_up, zero_up, mulf_up, subf_up, addf_up, exp_up, row_up, causal_up, mm_c, mm_d, mm_e, mm_f, mm_g, mm_h, mm_i, mm_j, shapeCast_self]
      rotate_left
    rotate_right 4
    exact up_congr fun _ x => fin_last Pm Am Wm Gm Bm n 0 hn x
    exact up_congr fun _ x => fin_last Pm Am Wm Gm Bm n 1 hn x
    exact up_congr fun _ x => fin_last Pm Am Wm Gm Bm n 2 hn x
    exact up_congr fun _ x => fin_last Pm Am Wm Gm Bm n 3 hn x
    · sl_unfold_words
      simp only [View.readAt_eq_ld, harg1.read_unread, harg2.read_unread, harg3.read_unread, harg4.read_unread, harg5.read_unread, harg6.read_unread,
        harg7.read_unread, harg11.read_unread, harg12.read_unread, harg13.read_unread, readCov_ld, canon_whole, ld_full_b, ld_full_f, pay7_bl]
      refine (View.ld_unit_zero (funext fun c => match c with | ⟨0, _⟩ => rfl | ⟨1, _⟩ => rfl) _ _).trans ?_
      funext y
      refine View.canon_apply_of_pieces (Val := Elt Ideal) (e := .f32) (fun y => (uf fun (i : Fin 128) (j : Fin 512) => dbt Pm Am Wm Gm Bm (128 * n + i) j) y) _ ?_ y
        (View.cover_of_tiledL (s := S128x512) _ S128x128.size (by sl_kernel_rfl) y)
      clear y
      simp only [List.forall_mem_cons, List.not_mem_nil, false_implies, implies_true, and_true]
      refine ⟨?_, ?_, ?_, ?_⟩
      intro x
      refine (congrFun (?_ : _ = uf fun (i : Fin 128) (x : Fin 128) => DB' Pm Am Wm Gm Bm 3 (128 * n + i) x) x).trans
        ((congrFun (up_congr fun i x => (dbt_at Pm Am Wm Gm Bm 3 (128 * n + i) x).symm) x).trans
          (congrFun (ld_cols_f (fun (i : Fin 128) (j : Fin 512) => dbt Pm Am Wm Gm Bm (128 * n + i) j) 384 _ (by norm_num)) x).symm)
      rotate_left
      intro x
      refine (congrFun (?_ : _ = uf fun (i : Fin 128) (x : Fin 128) => DB' Pm Am Wm Gm Bm 2 (128 * n + i) x) x).trans
        ((congrFun (up_congr fun i x => (dbt_at Pm Am Wm Gm Bm 2 (128 * n + i) x).symm) x).trans
          (congrFun (ld_cols_f (fun (i : Fin 128) (j : Fin 512) => dbt Pm Am Wm Gm Bm (128 * n + i) j) 256 _ (by norm_num)) x).symm)
      rotate_left
      intro x
      refine (congrFun (?_ : _ = uf fun (i : Fin 128) (x : Fin 128) => DB' Pm Am Wm Gm Bm 1 (128 * n + i) x) x).trans
        ((congrFun (up_congr fun i x => (dbt_at Pm Am Wm Gm Bm 1 (128 * n + i) x).symm) x).trans
          (congrFun (ld_cols_f (fun (i : Fin 128) (j : Fin 512) => dbt Pm Am Wm Gm Bm (128 * n + i) j) 128 _ (by norm_num)) x).symm)
      rotate_left
      intro x
      refine (congrFun (?_ : _ = uf fun (i : Fin 128) (x : Fin 128) => DB' Pm Am Wm Gm Bm 0 (128 * n + i) x) x).trans
        ((congrFun (up_congr fun i x => (dbt_at Pm Am Wm Gm Bm 0 (128 * n + i) x).symm) x).trans
          (congrFun (ld_cols_f (fun (i : Fin 128) (j : Fin 512) => dbt Pm Am Wm Gm Bm (128 * n + i) j) 0 _ (by norm_num)) x).symm)
      rotate_left
      iterate 4
        simp (config := {decide := true}) only [ld_cols_b, ld_cols_f, ld_row_f, ld_stack _ 0 0 rfl (by norm_num), ld_up3 _ 0 0 rfl (by norm_num), ld_stack _ 256 1 rfl (by norm_num), ld_up3 _ 256 1 rfl (by norm_num), ld_stack _ 512 2 rfl (by norm_num), ld_up3 _ 512 2 rfl (by norm_num), ld_stack _ 768 3 rfl (by norm_num), ld_up3 _ 768 3 rfl (by norm_num),
        k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay104, k0_pay105, k0_pay106, k0_pay107, k0_pay108,
        pay52_eq, pay78_eq, pay28_up, pay103_up, extf_up, truncf_up, sc_up, zero_up, mulf_up, subf_up, addf_up, exp_up, row_up, causal_up, mm_c, mm_d, mm_e, mm_f, mm_g, mm_h, mm_i, mm_j, shapeCast_self]
        rotate_left
      exact up_congr fun i x => fin_db Pm Am Wm Gm Bm n 3 hn i x 64
      exact up_congr fun i x => fin_db Pm Am Wm Gm Bm n 2 hn i x 64
      exact up_congr fun i x => fin_db Pm Am Wm Gm Bm n 1 hn i x 64
      exact up_congr fun i x => fin_db Pm Am Wm Gm Bm n 0 hn i x 64
    all_goals
      sl_unfold_words
      simp only [View.readAt_eq_ld, harg1.read_unread, harg2.read_unread, harg3.read_unread, harg4.read_unread, harg5.read_unread, harg6.read_unread,
        harg7.read_unread, harg11.read_unread, harg12.read_unread, harg13.read_unread, readCov_ld, canon_whole, ld_full_b, ld_full_f, pay7_bl]

end Cert.Gla

end
-- ==== Proof.Grid.lean ====
/- What the kernel leaves at every grid point, by induction on the point; the last chunk comes first. -/
module

public import proofs.«01_k».proof.Proof.PieceA
public import proofs.«01_k».proof.Proof.PieceB

@[expose] public section

set_option maxRecDepth 20000

noncomputable section

namespace Cert.Gla

open Idealize.ShloMosaic Idealize.ShloMosaic.TcCoe Idealize.SL.Sem Cert.KernelIdeal Cert.KernelIdeal.Gen
open scoped BigOperators

variable [hF : Cert.KernelIdeal.Facts]
variable (Pm Am Wm Gm : ℕ → ℕ → ℝ) (Bm : ℕ → ℝ)
variable (m : (ℓ : Loc nD τ sig) → Buf (Elt Ideal) ℓ)

/-- The seven blocks a grid point reads, as tables; point `t` works on chunk `64 - t`. -/
def Blocks (d : Dev nD) : Prop := ∀ t : Fin cfg0.N,
  (iblk m d 0 t : Vec Ideal S128x1024 .bf16) = (ub fun i j => Pm (128 * (64 - t.val) + i) j) ∧
  (iblk m d 1 t : Vec Ideal S128x1024 .bf16) = (ub fun i j => Pm (128 * (64 - t.val) + i) (1024 + j)) ∧
  (iblk m d 2 t : Vec Ideal S128x128 .bf16) = (ub fun i j => Am (128 * (64 - t.val) + i) j) ∧
  (iblk m d 3 t : Vec Ideal S128x512 .bf16) = (ub fun i j => Wm i j) ∧
  (iblk m d 4 t : Vec Ideal S1x512 .f32) = (uf fun _ j => Bm j) ∧
  (iblk m d 5 t : Vec Ideal S128x1024 .bf16) = (ub fun i j => Gm (128 * (64 - t.val) + i) j) ∧
  (iblk m d 6 t : Vec Ideal S1x1024x128 .f32) = (up3 (stack fun h y x => ST' Pm Am Wm Bm h (64 - t.val) y x))

/-- The weight gradient gathered up to a point. -/
def w9 (n : ℕ) (u : Fin 128) (j : Fin 512) : ℝ := ∑ p ∈ Finset.range (n + 1), ∑ i : Fin 128, Am (128 * (64 - p) + i) u * dzt Pm Am Wm Gm Bm (128 * (64 - p) + i) j

/-- The bias gradient gathered up to a point, per row modulo eight. -/
def b10 (n : ℕ) (r : Fin 8) (j : Fin 512) : ℝ := ∑ p ∈ Finset.range (n + 1), ∑ q : Fin 16, dzt Pm Am Wm Gm Bm (128 * (64 - p) + (8 * q + r)) j

/-- What a point leaves. -/
def left (n : ℕ) : Vec Ideal S128x2048 .bf16 × Vec Ideal S128x128 .bf16 × Vec Ideal S128x512 .f32 × Vec Ideal S8x512 .f32 × Vec Ideal S1024x128 .f32 :=
  (ub fun (i : Fin 128) (j : Fin 2048) => dpt Pm Am Wm Gm Bm (128 * (64 - n) + i) j,
   ub fun (i u : Fin 128) => dat Pm Am Wm Gm Bm (128 * (64 - n) + i) u,
   uf (w9 Pm Am Wm Gm Bm n), uf (b10 Pm Am Wm Gm Bm n),
   uf (stack fun h y x => DS' Pm Am Wm Gm Bm h (64 - n) y x))

theorem point (d : Dev nD) (hb : Blocks Pm Am Wm Gm Bm m d) : ∀ (n : ℕ) (hn : n < cfg0.N),
    outsAt0 (F := Ideal) m d n hn = left Pm Am Wm Gm Bm n
  | 0, hn => by
    obtain ⟨h0, h1, h2, h3, h4, h5, h6⟩ := hb ⟨0, hn⟩
    refine (outsAt0_A m d ⟨0, hn⟩ rfl).trans ?_
    rw [h0, h1, h2, h3, h4, h5, h6]
    unfold left
    refine congrArg₂ Prod.mk (out7_A Pm Am Wm Gm Bm ..) (congrArg₂ Prod.mk (outs_A Pm Am Wm Gm Bm ..).1 (congrArg₂ Prod.mk ?_ (congrArg₂ Prod.mk ?_ (sout_A Pm Am Wm Gm Bm ..))))
    · refine (outs_A Pm Am Wm Gm Bm ..).2.1.trans (congrArg uf ?_)
      funext u j
      simp [w9]
    · refine (outs_A Pm Am Wm Gm Bm ..).2.2.trans (congrArg uf ?_)
      funext u j
      simp [b10]
  | n + 1, hn => by
    have hN : cfg0.N = 65 := N_0
    have hB : ¬(⟨n + 1, hn⟩ : Fin cfg0.N).val % 65 = 0 := by dsimp only; omega
    obtain ⟨h0, h1, h2, h3, h4, h5, h6⟩ := hb ⟨n + 1, hn⟩
    have hp := point d hb n (Nat.lt_of_succ_lt hn)
    have hs : 64 - n = (64 - (n + 1)) + 1 := by omega
    have hlt : 64 - (n + 1) < 65 := by omega
    refine (outsAt0_B m d ⟨n + 1, hn⟩ hB).trans ?_
    rw [h0, h1, h2, h3, h4, h5, h6]
    have hp' : outsAt0 (F := Ideal) m d ((⟨n + 1, hn⟩ : Fin cfg0.N).val - 1) (Nat.lt_of_le_of_lt (Nat.sub_le _ _) hn) = left Pm Am Wm Gm Bm n := hp
    rw [hp']
    unfold left
    dsimp only
    rw [hs]
    refine congrArg₂ Prod.mk (out7_B Pm Am Wm Gm Bm (hn := hlt) ..) (congrArg₂ Prod.mk (outs_B Pm Am Wm Gm Bm (hn := hlt) ..).1 (congrArg₂ Prod.mk ?_ (congrArg₂ Prod.mk ?_ (sout_B Pm Am Wm Gm Bm (hn := hlt) ..))))
    · refine (outs_B Pm Am Wm Gm Bm (hn := hlt) ..).2.1.trans (congrArg uf ?_)
      funext u j
      simp only [w9]
      rw [Finset.sum_range_succ _ (n + 1)]
    · refine (outs_B Pm Am Wm Gm Bm (hn := hlt) ..).2.2.trans (congrArg uf ?_)
      funext u j
      simp only [b10]
      rw [Finset.sum_range_succ _ (n + 1)]

end Cert.Gla
-- ==== Proof.Arrays.lean ====
/- The blocks a grid point reads, from the arrays; and the four result arrays, from what the points leave. -/
module

public import proofs.«01_k».proof.Proof.Grid
public import proofs.«01_k».proof.Proof.Gen.KernelIdeal.Value
public import Idealize.ShloMosaic.Lib.Pipeline.ValueKit.Geometry
public import Idealize.ShloMosaic.Lib.StableHlo.RunRead

@[expose] public section

set_option maxRecDepth 20000

noncomputable section

namespace Cert.Gla

open Idealize.ShloMosaic Idealize.ShloMosaic.TcCoe Idealize.SL.Sem Cert.KernelIdeal Cert.KernelIdeal.Gen Cert.KernelIdeal.Value
open scoped BigOperators

variable [hF : Cert.KernelIdeal.Facts]
variable (Pm Am Wm Gm : ℕ → ℕ → ℝ) (Bm : ℕ → ℝ)
variable (m : (ℓ : Loc nD τ sig) → Buf (Elt Ideal) ℓ)

theorem ixA : ∀ t : Fin cfg0.N, win0_0.index t = ![64 - t.val, 0] := (by decide +kernel : ∀ t : Fin grid0.N, win0_0.index t = ![64 - t.val, 0])
theorem ixB : ∀ t : Fin cfg0.N, win0_1.index t = ![64 - t.val, 1] := (by decide +kernel : ∀ t : Fin grid0.N, win0_1.index t = ![64 - t.val, 1])
theorem ixC : ∀ t : Fin cfg0.N, win0_2.index t = ![64 - t.val, 0] := (by decide +kernel : ∀ t : Fin grid0.N, win0_2.index t = ![64 - t.val, 0])
theorem ixD : ∀ t : Fin cfg0.N, win0_3.index t = ![0, 0] := (by decide +kernel : ∀ t : Fin grid0.N, win0_3.index t = ![0, 0])
theorem ixE : ∀ t : Fin cfg0.N, win0_4.index t = ![0, 0] := (by decide +kernel : ∀ t : Fin grid0.N, win0_4.index t = ![0, 0])
theorem ixF : ∀ t : Fin cfg0.N, win0_5.index t = ![64 - t.val, 0] := (by decide +kernel : ∀ t : Fin grid0.N, win0_5.index t = ![64 - t.val, 0])
theorem ixG : ∀ t : Fin cfg0.N, win0_6.index t = ![64 - t.val, 0, 0] := (by decide +kernel : ∀ t : Fin grid0.N, win0_6.index t = ![64 - t.val, 0, 0])
theorem ixH : ∀ t : Fin cfg0.N, win0_7.index t = ![64 - t.val, 0] := (by decide +kernel : ∀ t : Fin grid0.N, win0_7.index t = ![64 - t.val, 0])
theorem ixI : ∀ t : Fin cfg0.N, win0_8.index t = ![64 - t.val, 0] := (by decide +kernel : ∀ t : Fin grid0.N, win0_8.index t = ![64 - t.val, 0])

/-- The arrays the kernel is launched on, as tables, with the chunk states the host lines before it leave. -/
structure Launched (d : Dev nD) : Prop where
  a0 : (m ((d : Thread nD τ).loc main_arg0) : Vec Ideal S8320x7168 .bf16) = ub fun i j => Pm i j
  a1 : (m ((d : Thread nD τ).loc main_arg1) : Vec Ideal S8320x128 .bf16) = ub fun i j => Am i j
  a2 : (m ((d : Thread nD τ).loc main_arg2) : Vec Ideal S128x512 .bf16) = ub fun i j => Wm i j
  a3 : (m ((d : Thread nD τ).loc main_arg3) : Vec Ideal S1x512 .f32) = uf fun _ j => Bm j
  a4 : (m ((d : Thread nD τ).loc main_arg4) : Vec Ideal S8320x1024 .bf16) = ub fun i j => Gm i j
  st : ∀ (c : Fin 65) (y : Fin 1024) (x : Fin 128), (V m d main_v48 : Vec Ideal S65x1024x128 .f32) (ValueIdx.ix3 c y x)
    = ((stack (fun h y x => ST' Pm Am Wm Bm h c y x) y x : ℝ) : EReal)

variable {Pm Am Wm Gm Bm m}

theorem Launched.b0 {d : Dev nD} (h : Launched Pm Am Wm Gm Bm m d) (t : Fin cfg0.N) :
    (iblk m d 0 t : Vec Ideal S128x1024 .bf16) = ub fun i j => Pm (128 * (64 - t.val) + i) j := by
  have ht : t.val < 65 := (N_0 : cfg0.N = 65) ▸ t.isLt
  refine ext2 fun i j => ?_
  have hy : (((cfg0.win 0).blk t).view.emb (ValueIdx.ix2 i j) : S8320x7168.Idx) = ValueIdx.ix2 (⟨128 * (64 - t.val) + i.val, by have := i.isLt; have h2 : i.val < 128 := this; omega⟩ : Fin 8320) (⟨j.val, by have := j.isLt; have h2 : j.val < 1024 := this; omega⟩ : Fin 7168) := by
    funext a
    apply Fin.ext
    match a with
    | ⟨0, _⟩ =>
      have e : win0_0.index t 0 = 64 - t.val := by rw [ixA]; rfl
      show win0_0.index t 0 * 128 + 1 * i.val = 128 * (64 - t.val) + i.val
      rw [e]; omega
    | ⟨1, _⟩ =>
      have e : win0_0.index t 1 = 0 := by rw [ixA]; rfl
      show win0_0.index t 1 * 1024 + 1 * j.val = j.val
      rw [e]; omega
  show (V m d main_arg0 : Vec Ideal S8320x7168 .bf16) (((cfg0.win 0).blk t).view.emb (ValueIdx.ix2 i j)) = _
  rw [hy, V_main_arg0 m d, h.a0]
  rfl

theorem Launched.b1 {d : Dev nD} (h : Launched Pm Am Wm Gm Bm m d) (t : Fin cfg0.N) :
    (iblk m d 1 t : Vec Ideal S128x1024 .bf16) = ub fun i j => Pm (128 * (64 - t.val) + i) (1024 + j) := by
  have ht : t.val < 65 := (N_0 : cfg0.N = 65) ▸ t.isLt
  refine ext2 fun i j => ?_
  have hy : (((cfg0.win 1).blk t).view.emb (ValueIdx.ix2 i j) : S8320x7168.Idx) = ValueIdx.ix2 (⟨128 * (64 - t.val) + i.val, by have := i.isLt; have h2 : i.val < 128 := this; omega⟩ : Fin 8320) (⟨1024 + j.val, by have := j.isLt; have h2 : j.val < 1024 := this; omega⟩ : Fin 7168) := by
    funext a
    apply Fin.ext
    match a with
    | ⟨0, _⟩ =>
      have e : win0_1.index t 0 = 64 - t.val := by rw [ixB]; rfl
      show win0_1.index t 0 * 128 + 1 * i.val = 128 * (64 - t.val) + i.val
      rw [e]; omega
    | ⟨1, _⟩ =>
      have e : win0_1.index t 1 = 1 := by rw [ixB]; rfl
      show win0_1.index t 1 * 1024 + 1 * j.val = 1024 + j.val
      rw [e]; omega
  show (V m d main_arg0 : Vec Ideal S8320x7168 .bf16) (((cfg0.win 1).blk t).view.emb (ValueIdx.ix2 i j)) = _
  rw [hy, V_main_arg0 m d, h.a0]
  rfl

theorem Launched.b2 {d : Dev nD} (h : Launched Pm Am Wm Gm Bm m d) (t : Fin cfg0.N) :
    (iblk m d 2 t : Vec Ideal S128x128 .bf16) = ub fun i j => Am (128 * (64 - t.val) + i) j := by
  have ht : t.val < 65 := (N_0 : cfg0.N = 65) ▸ t.isLt
  refine ext2 fun i j => ?_
  have hy : (((cfg0.win 2).blk t).view.emb (ValueIdx.ix2 i j) : S8320x128.Idx) = ValueIdx.ix2 (⟨128 * (64 - t.val) + i.val, by have := i.isLt; have h2 : i.val < 128 := this; omega⟩ : Fin 8320) (j : Fin 128) := by
    funext a
    apply Fin.ext
    match a with
    | ⟨0, _⟩ =>
      have e : win0_2.index t 0 = 64 - t.val := by rw [ixC]; rfl
      show win0_2.index t 0 * 128 + 1 * i.val = 128 * (64 - t.val) + i.val
      rw [e]; omega
    | ⟨1, _⟩ =>
      have e : win0_2.index t 1 = 0 := by rw [ixC]; rfl
      show win0_2.index t 1 * 128 + 1 * j.val = j.val
      rw [e]; omega
  show (V m d main_arg1 : Vec Ideal S8320x128 .bf16) (((cfg0.win 2).blk t).view.emb (ValueIdx.ix2 i j)) = _
  rw [hy, V_main_arg1 m d, h.a1]
  rfl

theorem Launched.b3 {d : Dev nD} (h : Launched Pm Am Wm Gm Bm m d) (t : Fin cfg0.N) :
    (iblk m d 3 t : Vec Ideal S128x512 .bf16) = ub fun i j => Wm i j := by
  have ht : t.val < 65 := (N_0 : cfg0.N = 65) ▸ t.isLt
  refine ext2 fun i j => ?_
  have hy : (((cfg0.win 3).blk t).view.emb (ValueIdx.ix2 i j) : S128x512.Idx) = ValueIdx.ix2 (i : Fin 128) (j : Fin 512) := by
    funext a
    apply Fin.ext
    match a with
    | ⟨0, _⟩ =>
      have e : win0_3.index t 0 = 0 := by rw [ixD]; rfl
      show win0_3.index t 0 * 128 + 1 * i.val = i.val
      rw [e]; omega
    | ⟨1, _⟩ =>
      have e : win0_3.index t 1 = 0 := by rw [ixD]; rfl
      show win0_3.index t 1 * 512 + 1 * j.val = j.val
      rw [e]; omega
  show (V m d main_arg2 : Vec Ideal S128x512 .bf16) (((cfg0.win 3).blk t).view.emb (ValueIdx.ix2 i j)) = _
  rw [hy, V_main_arg2 m d, h.a2]

theorem Launched.b4 {d : Dev nD} (h : Launched Pm Am Wm Gm Bm m d) (t : Fin cfg0.N) :
    (iblk m d 4 t : Vec Ideal S1x512 .f32) = uf fun _ j => Bm j := by
  have ht : t.val < 65 := (N_0 : cfg0.N = 65) ▸ t.isLt
  refine ext2 fun i j => ?_
  have hy : (((cfg0.win 4).blk t).view.emb (ValueIdx.ix2 i j) : S1x512.Idx) = ValueIdx.ix2 (i : Fin 1) (j : Fin 512) := by
    funext a
    apply Fin.ext
    match a with
    | ⟨0, _⟩ =>
      have e : win0_4.index t 0 = 0 := by rw [ixE]; rfl
      show win0_4.index t 0 * 1 + 1 * i.val = i.val
      rw [e]; omega
    | ⟨1, _⟩ =>
      have e : win0_4.index t 1 = 0 := by rw [ixE]; rfl
      show win0_4.index t 1 * 512 + 1 * j.val = j.val
      rw [e]; omega
  show (V m d main_arg3 : Vec Ideal S1x512 .f32) (((cfg0.win 4).blk t).view.emb (ValueIdx.ix2 i j)) = _
  rw [hy, V_main_arg3 m d, h.a3]

theorem Launched.b5 {d : Dev nD} (h : Launched Pm Am Wm Gm Bm m d) (t : Fin cfg0.N) :
    (iblk m d 5 t : Vec Ideal S128x1024 .bf16) = ub fun i j => Gm (128 * (64 - t.val) + i) j := by
  have ht : t.val < 65 := (N_0 : cfg0.N = 65) ▸ t.isLt
  refine ext2 fun i j => ?_
  have hy : (((cfg0.win 5).blk t).view.emb (ValueIdx.ix2 i j) : S8320x1024.Idx) = ValueIdx.ix2 (⟨128 * (64 - t.val) + i.val, by have := i.isLt; have h2 : i.val < 128 := this; omega⟩ : Fin 8320) (j : Fin 1024) := by
    funext a
    apply Fin.ext
    match a with
    | ⟨0, _⟩ =>
      have e : win0_5.index t 0 = 64 - t.val := by rw [ixF]; rfl
      show win0_5.index t 0 * 128 + 1 * i.val = 128 * (64 - t.val) + i.val
      rw [e]; omega
    | ⟨1, _⟩ =>
      have e : win0_5.index t 1 = 0 := by rw [ixF]; rfl
      show win0_5.index t 1 * 1024 + 1 * j.val = j.val
      rw [e]; omega
  show (V m d main_arg4 : Vec Ideal S8320x1024 .bf16) (((cfg0.win 5).blk t).view.emb (ValueIdx.ix2 i j)) = _
  rw [hy, V_main_arg4 m d, h.a4]
  rfl

theorem Launched.b6 {d : Dev nD} (h : Launched Pm Am Wm Gm Bm m d) (t : Fin cfg0.N) :
    (iblk m d 6 t : Vec Ideal S1x1024x128 .f32) = up3 (stack fun h y x => ST' Pm Am Wm Bm h (64 - t.val) y x) := by
  have ht : t.val < 65 := (N_0 : cfg0.N = 65) ▸ t.isLt
  funext y
  obtain ⟨i, j, k, rfl⟩ : ∃ (i : Fin 1) (j : Fin 1024) (k : Fin 128), y = ValueIdx.ix3 i j k := ⟨y 0, y 1, y 2, ValueIdx.eq_ix3 y⟩
  have hy : (((cfg0.win 6).blk t).view.emb (ValueIdx.ix3 i j k) : S65x1024x128.Idx) = ValueIdx.ix3 (⟨64 - t.val, by omega⟩ : Fin 65) j k := by
    funext a
    apply Fin.ext
    match a with
    | ⟨0, _⟩ =>
      have e : win0_6.index t 0 = 64 - t.val := by rw [ixG]; rfl
      show win0_6.index t 0 * 1 + 1 * i.val = 64 - t.val
      rw [e]; omega
    | ⟨1, _⟩ =>
      have e : win0_6.index t 1 = 0 := by rw [ixG]; rfl
      show win0_6.index t 1 * 1024 + 1 * j.val = j.val
      rw [e]; omega
    | ⟨2, _⟩ =>
      have e : win0_6.index t 2 = 0 := by rw [ixG]; rfl
      show win0_6.index t 2 * 128 + 1 * k.val = k.val
      rw [e]; omega
  show (V m d main_v48 : Vec Ideal S65x1024x128 .f32) (((cfg0.win 6).blk t).view.emb (ValueIdx.ix3 i j k)) = _
  rw [hy, h.st]
  rfl

theorem Launched.blocks {d : Dev nD} (h : Launched Pm Am Wm Gm Bm m d) : Blocks Pm Am Wm Gm Bm m d :=
  fun t => ⟨h.b0 t, h.b1 t, h.b2 t, h.b3 t, h.b4 t, h.b5 t, h.b6 t⟩

theorem sum_rev (f : ℕ → ℝ) : ∀ n, ∑ p ∈ Finset.range (n + 1), ∑ i : Fin 128, f (128 * (n - p) + i) = ∑ t ∈ Finset.range (128 * (n + 1)), f t
  | 0 => by simp [Fin.sum_univ_eq_sum_range (fun i => f i)]
  | n + 1 => by
    rw [Finset.sum_range_succ', sum_before f (n + 1), ← sum_rev f n]
    congr 1
    refine Finset.sum_congr rfl fun p _ => ?_
    rw [show n + 1 - (p + 1) = n - p by omega]

theorem sum_rev16 (f : ℕ → ℝ) : ∀ n, ∑ p ∈ Finset.range (n + 1), ∑ q : Fin 16, f (16 * (n - p) + q) = ∑ t ∈ Finset.range (16 * (n + 1)), f t
  | 0 => by simp [Fin.sum_univ_eq_sum_range (fun i => f i)]
  | n + 1 => by
    rw [Finset.sum_range_succ', show 16 * (n + 1 + 1) = 16 * (n + 1) + 16 by ring, Finset.sum_range_add f (16 * (n + 1)) 16, ← sum_rev16 f n, ← Fin.sum_univ_eq_sum_range (fun i => f (16 * (n + 1) + i))]
    congr 1
    refine Finset.sum_congr rfl fun p _ => ?_
    rw [show n + 1 - (p + 1) = n - p by omega]

/-- The whole weight gradient, and the whole bias gradient per row modulo eight. -/
def dwt (Pm Am Wm Gm : ℕ → ℕ → ℝ) (Bm : ℕ → ℝ) (u j : ℕ) : ℝ := ∑ t ∈ Finset.range 8320, Am t u * dzt Pm Am Wm Gm Bm t j
def dbi (Pm Am Wm Gm : ℕ → ℕ → ℝ) (Bm : ℕ → ℝ) (r j : ℕ) : ℝ := ∑ k ∈ Finset.range 1040, dzt Pm Am Wm Gm Bm (8 * k + r) j

theorem w9_end (u : Fin 128) (j : Fin 512) : w9 Pm Am Wm Gm Bm 64 u j = dwt Pm Am Wm Gm Bm u j :=
  sum_rev (fun t => Am t u * dzt Pm Am Wm Gm Bm t j) 64

theorem b10_end (r : Fin 8) (j : Fin 512) : b10 Pm Am Wm Gm Bm 64 r j = dbi Pm Am Wm Gm Bm r j := by
  refine Eq.trans ?_ (sum_rev16 (fun k => dzt Pm Am Wm Gm Bm (8 * k + r) j) 64)
  refine Finset.sum_congr rfl fun p _ => Finset.sum_congr rfl fun q _ => ?_
  show dzt Pm Am Wm Gm Bm _ _ = dzt Pm Am Wm Gm Bm _ _
  rw [show 128 * (64 - p) + (8 * (q : ℕ) + r) = 8 * (16 * (64 - p) + q) + r by ring]

theorem final9 {d : Dev nD} (h : Launched Pm Am Wm Gm Bm m d) :
    ((dats m 0 d).arrAt 9 cfg0.N : Vec Ideal S128x512 .f32) = uf fun u j => dwt Pm Am Wm Gm Bm u j := by
  refine (dats m 0 d).arrAt_eq_of_covers 9 _ (by decide +kernel) fun t hf y => ?_
  have ht : t.val % 65 = 64 := (flush0_9 t).mp hf
  have hN : t.val < 65 := (N_0 : cfg0.N = 65) ▸ t.isLt
  have h64 : t.val = 64 := by omega
  blk_simp
  rw [after0_9, point Pm Am Wm Gm Bm m d h.blocks]
  obtain ⟨i, j, rfl⟩ : ∃ (i : Fin 128) (j : Fin 512), y = ValueIdx.ix2 i j := ⟨y 0, y 1, ValueIdx.eq_ix2 y⟩
  have e0 : win0_9.index t 0 = 0 := by rw [show win0_9.index t = ![0, 0] from (by decide +kernel : ∀ t : Fin grid0.N, win0_9.index t = ![0, 0]) t]; rfl
  have e1 : win0_9.index t 1 = 0 := by rw [show win0_9.index t = ![0, 0] from (by decide +kernel : ∀ t : Fin grid0.N, win0_9.index t = ![0, 0]) t]; rfl
  have hy : (((cfg0.win 9).blk t).view.emb (ValueIdx.ix2 i j) : S128x512.Idx) = ValueIdx.ix2 i j := by
    funext a
    apply Fin.ext
    match a with
    | ⟨0, _⟩ =>
      show win0_9.index t 0 * 128 + 1 * i.val = i.val
      rw [e0]; omega
    | ⟨1, _⟩ =>
      show win0_9.index t 1 * 512 + 1 * j.val = j.val
      rw [e1]; omega
  show (left Pm Am Wm Gm Bm t.val).2.2.1 (ValueIdx.ix2 i j) = (uf fun (u : Fin 128) (j : Fin 512) => dwt Pm Am Wm Gm Bm u j) (((cfg0.win 9).blk t).view.emb (ValueIdx.ix2 i j) : S128x512.Idx)
  rw [hy, h64]
  show ((w9 Pm Am Wm Gm Bm 64 i j : ℝ) : EReal) = ((dwt Pm Am Wm Gm Bm i j : ℝ) : EReal)
  rw [w9_end]

theorem final10 {d : Dev nD} (h : Launched Pm Am Wm Gm Bm m d) :
    ((dats m 0 d).arrAt 10 cfg0.N : Vec Ideal S8x512 .f32) = uf fun r j => dbi Pm Am Wm Gm Bm r j := by
  refine (dats m 0 d).arrAt_eq_of_covers 10 _ (by decide +kernel) fun t hf y => ?_
  have ht : t.val % 65 = 64 := (flush0_10 t).mp hf
  have hN : t.val < 65 := (N_0 : cfg0.N = 65) ▸ t.isLt
  have h64 : t.val = 64 := by omega
  blk_simp
  rw [after0_10, point Pm Am Wm Gm Bm m d h.blocks]
  obtain ⟨i, j, rfl⟩ : ∃ (i : Fin 8) (j : Fin 512), y = ValueIdx.ix2 i j := ⟨y 0, y 1, ValueIdx.eq_ix2 y⟩
  have e0 : win0_10.index t 0 = 0 := by rw [show win0_10.index t = ![0, 0] from (by decide +kernel : ∀ t : Fin grid0.N, win0_10.index t = ![0, 0]) t]; rfl
  have e1 : win0_10.index t 1 = 0 := by rw [show win0_10.index t = ![0, 0] from (by decide +kernel : ∀ t : Fin grid0.N, win0_10.index t = ![0, 0]) t]; rfl
  have hy : (((cfg0.win 10).blk t).view.emb (ValueIdx.ix2 i j) : S8x512.Idx) = ValueIdx.ix2 i j := by
    funext a
    apply Fin.ext
    match a with
    | ⟨0, _⟩ =>
      show win0_10.index t 0 * 8 + 1 * i.val = i.val
      rw [e0]; omega
    | ⟨1, _⟩ =>
      show win0_10.index t 1 * 512 + 1 * j.val = j.val
      rw [e1]; omega
  show (left Pm Am Wm Gm Bm t.val).2.2.2.1 (ValueIdx.ix2 i j) = (uf fun (u : Fin 8) (j : Fin 512) => dbi Pm Am Wm Gm Bm u j) (((cfg0.win 10).blk t).view.emb (ValueIdx.ix2 i j) : S8x512.Idx)
  rw [hy, h64]
  show ((b10 Pm Am Wm Gm Bm 64 i j : ℝ) : EReal) = ((dbi Pm Am Wm Gm Bm i j : ℝ) : EReal)
  rw [b10_end]

theorem final8 {d : Dev nD} (h : Launched Pm Am Wm Gm Bm m d) :
    ((dats m 0 d).arrAt 8 cfg0.N : Vec Ideal S8320x128 .bf16) = ub fun i u => dat Pm Am Wm Gm Bm i u := by
  refine (dats m 0 d).arrAt_eq_of_covers 8 _ (by decide +kernel) fun t hf y => ?_
  have hN : t.val < 65 := (N_0 : cfg0.N = 65) ▸ t.isLt
  blk_simp
  rw [after0_8, point Pm Am Wm Gm Bm m d h.blocks]
  obtain ⟨i, j, rfl⟩ : ∃ (i : Fin 128) (j : Fin 128), y = ValueIdx.ix2 i j := ⟨y 0, y 1, ValueIdx.eq_ix2 y⟩
  have hy : (((cfg0.win 8).blk t).view.emb (ValueIdx.ix2 i j) : S8320x128.Idx) = ValueIdx.ix2 (⟨128 * (64 - t.val) + i.val, by omega⟩ : Fin 8320) j := by
    funext a
    apply Fin.ext
    match a with
    | ⟨0, _⟩ =>
      have e : win0_8.index t 0 = 64 - t.val := by rw [ixI]; rfl
      show win0_8.index t 0 * 128 + 1 * i.val = 128 * (64 - t.val) + i.val
      rw [e]; omega
    | ⟨1, _⟩ =>
      have e : win0_8.index t 1 = 0 := by rw [ixI]; rfl
      show win0_8.index t 1 * 128 + 1 * j.val = j.val
      rw [e]; omega
  show (left Pm Am Wm Gm Bm t.val).2.1 (ValueIdx.ix2 i j) = (ub fun (i : Fin 8320) (u : Fin 128) => dat Pm Am Wm Gm Bm i u) (((cfg0.win 8).blk t).view.emb (ValueIdx.ix2 i j) : S8320x128.Idx)
  rw [hy]
  rfl

theorem xs7 : ∀ (t : Fin cfg0.N) a, win0_7.xsize (grid0.coords t) a = S128x2048.size a :=
  (by decide +kernel : ∀ (t : Fin grid0.N) a, win0_7.xsize (grid0.coords t) a = S128x2048.size a)

theorem V_out (d : Dev nD) : V m d main_v49_0 = m ((d : Thread nD τ).loc main_arg5) := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_reads_simp
  rfl

theorem final7 {d : Dev nD} (h : Launched Pm Am Wm Gm Bm m d) (i : Fin 8320) (j : Fin 7168) :
    ((dats m 0 d).arrAt 7 cfg0.N : Vec Ideal S8320x7168 .bf16) (ValueIdx.ix2 i j)
      = if (j : ℕ) < 2048 then ((dpt Pm Am Wm Gm Bm i j : ℝ) : EReal) else (m ((d : Thread nD τ).loc main_arg5) : Vec Ideal S8320x7168 .bf16) (ValueIdx.ix2 i j) := by
  split
  · rename_i hj
    have hi := i.isLt
    obtain ⟨t, ht⟩ : ∃ t : Fin cfg0.N, t.val = 64 - (i : ℕ) / 128 := ⟨⟨64 - (i : ℕ) / 128, by have hN : cfg0.N = 65 := N_0; rw [hN]; omega⟩, rfl⟩
    obtain ⟨p, hp⟩ : ∃ p : Fin 128, p.val = (i : ℕ) % 128 := ⟨⟨(i : ℕ) % 128, Nat.mod_lt _ (by norm_num)⟩, rfl⟩
    obtain ⟨q, hq⟩ : ∃ q : Fin 2048, q.val = (j : ℕ) := ⟨⟨j, hj⟩, rfl⟩
    have hx := xs7 t
    let y : ((cfg0.win 7).xblock (cfg0.grid.coords t)).Idx := fun a => ⟨((ValueIdx.ix2 p q : S128x2048.Idx) a).val, lt_of_lt_of_eq ((ValueIdx.ix2 p q : S128x2048.Idx) a).isLt (hx a).symm⟩
    have hy : (((cfg0.win 7).blk t).view.emb y : S8320x7168.Idx) = ValueIdx.ix2 i j := by
      funext a
      apply Fin.ext
      match a with
      | ⟨0, _⟩ =>
        have e : win0_7.index t 0 = 64 - t.val := by rw [ixH]; rfl
        show win0_7.index t 0 * 128 + 1 * p.val = i.val
        rw [e]; omega
      | ⟨1, _⟩ =>
        have e : win0_7.index t 1 = 0 := by rw [ixH]; rfl
        show win0_7.index t 1 * 2048 + 1 * q.val = j.val
        rw [e]; omega
    have := (dats m 0 d).arrAt_emb_eq_flushed 7 disjoint7 t (flush0_7 _) y
    refine (congrArg ((dats m 0 d).arrAt 7 cfg0.N : Vec Ideal S8320x7168 .bf16) hy).symm.trans (this.trans ?_)
    rw [flushed7, point Pm Am Wm Gm Bm m d h.blocks]
    show ((dpt Pm Am Wm Gm Bm (128 * (64 - t.val) + p.val) q.val : ℝ) : EReal) = _
    rw [show 128 * (64 - t.val) + p.val = i by omega, hq]
  · rename_i hj
    refine (entry7 m d (ValueIdx.ix2 i j) fun t _ hm => ?_).trans ?_
    · have e : win0_7.index t 1 = 0 := by rw [ixH]; rfl
      have h2 := ((cfg0.win 7).emb_mem_blk_iff t (ValueIdx.ix2 i j)).mp hm (1 : Fin 2)
      have h3 : (j : ℕ) < win0_7.index t 1 * 2048 + win0_7.xsize (grid0.coords t) 1 := h2.2
      rw [e, xs7 t 1] at h3
      have h4 : (j : ℕ) < 0 * 2048 + 2048 := h3
      omega
    · show V m d main_v49_0 _ = _
      rw [V_out]

end Cert.Gla
-- ==== Proof.HostRead.lean ====
/- The host lines that compute the states at the chunks' starts, one operation at a time, each read at an index. -/
module

public import proofs.«01_k».proof.Proof.Gen.KernelIdeal
public import Idealize.ShloMosaic.Lib.Pipeline.Value
public import Idealize.ShloMosaic.Lib.ValueIdx
public import Idealize.ShloMosaic.PureOps.Ideal.Laws

@[expose] public section

noncomputable section

namespace Cert.Gla.Host

open Cert.KernelIdeal Cert.KernelIdeal.Gen Idealize.ShloMosaic Idealize.ShloMosaic.TcCoe Idealize.SL.Sem Idealize.ShloMosaic.StableHlo

variable {F : FTy → Type} [FloatOps F]
variable (x0 : (⟨S8320x7168, .bf16⟩ : BufTy).Contents (Elt F)) (x1 : (⟨S8320x128, .bf16⟩ : BufTy).Contents (Elt F)) (x2 : (⟨S128x512, .bf16⟩ : BufTy).Contents (Elt F)) (x3 : (⟨S1x512, .f32⟩ : BufTy).Contents (Elt F))

def val_main_v0 : (⟨S8320x7168, .f32⟩ : BufTy).Contents (Elt F) :=
  extf .f32 (x0) bitsLt_bf16_f32
theorem val_main_v0_apply (i : S8320x7168.Idx) :
    val_main_v0 (F := F) x0 i = FloatOps.extf .f32 bitsLt_bf16_f32 (x0 i) := rfl

def val_main_v1 : (⟨S8320x128, .f32⟩ : BufTy).Contents (Elt F) :=
  extf .f32 (x1) bitsLt_bf16_f32
theorem val_main_v1_apply (i : S8320x128.Idx) :
    val_main_v1 (F := F) x1 i = FloatOps.extf .f32 bitsLt_bf16_f32 (x1 i) := rfl

def val_main_v2 : (⟨S128x512, .f32⟩ : BufTy).Contents (Elt F) :=
  extf .f32 (x2) bitsLt_bf16_f32
theorem val_main_v2_apply (i : S128x512.Idx) :
    val_main_v2 (F := F) x2 i = FloatOps.extf .f32 bitsLt_bf16_f32 (x2 i) := rfl

def val_main_v3 : (⟨S8320x512, .f32⟩ : BufTy).Contents (Elt F) :=
  Host.dotGeneral dot_S8320x128_S128x512_S8320x512_1_0_0_1_n_n none (val_main_v1 (F := F) x1) (val_main_v2 (F := F) x2)
theorem lhs_main_v3_0 (i : S8320x512.Idx) (q : dot_S8320x128_S128x512_S8320x512_1_0_0_1_n_n.contr.Idx) :
    (dot_S8320x128_S128x512_S8320x512_1_0_0_1_n_n.lhsIdx i q 0).val = (i 0).val := by
  unfold DotDims.lhsIdx
  rw [dif_neg (show ¬(0 : Fin S8320x128.rank) ∈ dot_S8320x128_S128x512_S8320x512_1_0_0_1_n_n.lhsBatch by decide), dif_pos (show (0 : Fin S8320x128.rank) ∈ dot_S8320x128_S128x512_S8320x512_1_0_0_1_n_n.lhsNonContracting by decide)]
  rfl
theorem lhs_main_v3_1 (i : S8320x512.Idx) (q : dot_S8320x128_S128x512_S8320x512_1_0_0_1_n_n.contr.Idx) :
    (dot_S8320x128_S128x512_S8320x512_1_0_0_1_n_n.lhsIdx i q 1).val = (q ⟨0, by decide⟩).val :=
  dot_S8320x128_S128x512_S8320x512_1_0_0_1_n_n.lhsIdx_val_of_single rfl i q
theorem rhs_main_v3_0 (i : S8320x512.Idx) (q : dot_S8320x128_S128x512_S8320x512_1_0_0_1_n_n.contr.Idx) :
    (dot_S8320x128_S128x512_S8320x512_1_0_0_1_n_n.rhsIdx i q 0).val = (q ⟨0, by decide⟩).val :=
  dot_S8320x128_S128x512_S8320x512_1_0_0_1_n_n.rhsIdx_val_of_single rfl i q
theorem rhs_main_v3_1 (i : S8320x512.Idx) (q : dot_S8320x128_S128x512_S8320x512_1_0_0_1_n_n.contr.Idx) :
    (dot_S8320x128_S128x512_S8320x512_1_0_0_1_n_n.rhsIdx i q 1).val = (i 1).val := by
  unfold DotDims.rhsIdx
  rw [dif_neg (show ¬(1 : Fin S128x512.rank) ∈ dot_S8320x128_S128x512_S8320x512_1_0_0_1_n_n.rhsBatch by decide), dif_pos (show (1 : Fin S128x512.rank) ∈ dot_S8320x128_S128x512_S8320x512_1_0_0_1_n_n.rhsNonContracting by decide)]
  rfl
abbrev lidx_main_v3 (i : S8320x512.Idx) (k : Fin 128) : S8320x128.Idx := fun a => match a with
  | ⟨0, _⟩ => ⟨(i 0).val, (i 0).isLt⟩
  | ⟨1, _⟩ => ⟨k.val, k.isLt⟩
abbrev ridx_main_v3 (i : S8320x512.Idx) (k : Fin 128) : S128x512.Idx := fun a => match a with
  | ⟨0, _⟩ => ⟨k.val, k.isLt⟩
  | ⟨1, _⟩ => ⟨(i 1).val, (i 1).isLt⟩
theorem val_main_v3_apply (x1 : (⟨S8320x128, .bf16⟩ : BufTy).Contents (Elt Ideal)) (x2 : (⟨S128x512, .bf16⟩ : BufTy).Contents (Elt Ideal)) (i : S8320x512.Idx) :
    val_main_v3 (F := Ideal) x1 x2 i = ∑ k : Fin 128, (val_main_v1 (F := Ideal) x1) (lidx_main_v3 i k) * (val_main_v2 (F := Ideal) x2) (ridx_main_v3 i k) := by
  unfold val_main_v3
  generalize val_main_v1 (F := Ideal) x1 = y0
  generalize val_main_v2 (F := Ideal) x2 = y1
  simp only [Host.dotGeneral]
  rw [Ideal.dotGeneral_apply, ← Equiv.sum_comp (ValueIdx.contrEquiv1 dot_S8320x128_S128x512_S8320x512_1_0_0_1_n_n 128 rfl rfl).symm]
  refine Finset.sum_congr rfl fun k _ => ?_
  have hk := ValueIdx.contrEquiv1_symm_val dot_S8320x128_S128x512_S8320x512_1_0_0_1_n_n 128 rfl rfl k
  have el : dot_S8320x128_S128x512_S8320x512_1_0_0_1_n_n.lhsIdx i ((ValueIdx.contrEquiv1 dot_S8320x128_S128x512_S8320x512_1_0_0_1_n_n 128 rfl rfl).symm k) = lidx_main_v3 i k := funext fun a => Fin.ext (by
    match a with
    | ⟨0, _⟩ => exact lhs_main_v3_0 _ _
    | ⟨1, _⟩ => exact (lhs_main_v3_1 _ _).trans hk)
  have er : dot_S8320x128_S128x512_S8320x512_1_0_0_1_n_n.rhsIdx i ((ValueIdx.contrEquiv1 dot_S8320x128_S128x512_S8320x512_1_0_0_1_n_n 128 rfl rfl).symm k) = ridx_main_v3 i k := funext fun a => Fin.ext (by
    match a with
    | ⟨0, _⟩ => exact (rhs_main_v3_0 _ _).trans hk
    | ⟨1, _⟩ => exact rhs_main_v3_1 _ _)
  rw [el, er]

def val_main_v4 : (⟨S8320x512, .f32⟩ : BufTy).Contents (Elt F) :=
  broadcastInDim S8320x512 ![0, 1] bcast_S1x512_S8320x512_0_1 (x3)
abbrev idx_main_v4 (i : S8320x512.Idx) : S1x512.Idx := fun a => match a with
  | ⟨0, _⟩ => ⟨0, Nat.one_pos⟩
  | ⟨1, _⟩ => ⟨(i 1).val, (i 1).isLt⟩
theorem val_main_v4_apply (i : S8320x512.Idx) :
    val_main_v4 (F := F) x3 i = x3 (idx_main_v4 i) := by
  unfold val_main_v4
  exact broadcastInDim_apply _ bcast_S1x512_S8320x512_0_1 x3 i (idx_main_v4 i) (fun a => match a with
    | ⟨0, _⟩ => by show 0 = if (1 : Nat) = 1 then 0 else (i 0).val; rw [if_pos rfl]
    | ⟨1, _⟩ => by show (i 1).val = if (512 : Nat) = 1 then 0 else (i 1).val; rw [if_neg (by decide)])

def val_main_v5 : (⟨S8320x512, .f32⟩ : BufTy).Contents (Elt F) :=
  addf (val_main_v3 (F := F) x1 x2) (val_main_v4 (F := F) x3)
theorem val_main_v5_apply (i : S8320x512.Idx) :
    val_main_v5 (F := F) x1 x2 x3 i = FloatOps.addf (val_main_v3 (F := F) x1 x2 i) (val_main_v4 (F := F) x3 i) := rfl

def val_main_call0_v0 : (⟨S8320x512, .f32⟩ : BufTy).Contents (Elt F) :=
  Host.negf (val_main_v5 (F := F) x1 x2 x3)
theorem val_main_call0_v0_apply (i : S8320x512.Idx) :
    val_main_call0_v0 (F := F) x1 x2 x3 i = FloatOps.hostNegf (val_main_v5 (F := F) x1 x2 x3 i) := rfl

def val_main_call0_call0_cst : (⟨S_, .f32⟩ : BufTy).Contents (Elt F) :=
  constant S_ .f32 0x00000000#32
theorem val_main_call0_call0_cst_apply (i : S_.Idx) :
    val_main_call0_call0_cst (F := F) i = FloatOps.ofBits .f32 0x00000000#32 := rfl

def val_main_call0_call0_v0 : (⟨S8320x512, .f32⟩ : BufTy).Contents (Elt F) :=
  broadcastInDim S8320x512 ![] bcast_S_S8320x512 (val_main_call0_call0_cst (F := F))
abbrev idx_main_call0_call0_v0 (i : S8320x512.Idx) : S_.Idx := fun a => a.elim0
theorem val_main_call0_call0_v0_apply (i : S8320x512.Idx) :
    val_main_call0_call0_v0 (F := F) i = val_main_call0_call0_cst (F := F) (idx_main_call0_call0_v0 i) := by
  unfold val_main_call0_call0_v0
  generalize val_main_call0_call0_cst (F := F) = y
  exact broadcastInDim_apply _ bcast_S_S8320x512 y i (idx_main_call0_call0_v0 i) (fun a => a.elim0)

def val_main_call0_call0_v1 : (⟨S8320x512, .f32⟩ : BufTy).Contents (Elt F) :=
  maximumf (val_main_call0_v0 (F := F) x1 x2 x3) (val_main_call0_call0_v0 (F := F))
theorem val_main_call0_call0_v1_apply (i : S8320x512.Idx) :
    val_main_call0_call0_v1 (F := F) x1 x2 x3 i = FloatOps.maximumf (val_main_call0_v0 (F := F) x1 x2 x3 i) (val_main_call0_call0_v0 (F := F) i) := rfl

def val_main_call0_call0_v2 : (⟨S8320x512, .f32⟩ : BufTy).Contents (Elt F) :=
  broadcastInDim S8320x512 ![] bcast_S_S8320x512 (val_main_call0_call0_cst (F := F))
abbrev idx_main_call0_call0_v2 (i : S8320x512.Idx) : S_.Idx := fun a => a.elim0
theorem val_main_call0_call0_v2_apply (i : S8320x512.Idx) :
    val_main_call0_call0_v2 (F := F) i = val_main_call0_call0_cst (F := F) (idx_main_call0_call0_v2 i) := by
  unfold val_main_call0_call0_v2
  generalize val_main_call0_call0_cst (F := F) = y
  exact broadcastInDim_apply _ bcast_S_S8320x512 y i (idx_main_call0_call0_v2 i) (fun a => a.elim0)

def val_main_call0_call0_v3 : (⟨S8320x512, .f32⟩ : BufTy).Contents (Elt F) :=
  subf (val_main_call0_v0 (F := F) x1 x2 x3) (val_main_call0_call0_v2 (F := F))
theorem val_main_call0_call0_v3_apply (i : S8320x512.Idx) :
    val_main_call0_call0_v3 (F := F) x1 x2 x3 i = FloatOps.subf (val_main_call0_v0 (F := F) x1 x2 x3 i) (val_main_call0_call0_v2 (F := F) i) := rfl

def val_main_call0_call0_v4 : (⟨S8320x512, .i1⟩ : BufTy).Contents (Elt F) :=
  cmpf .une (val_main_call0_call0_v3 (F := F) x1 x2 x3) (val_main_call0_call0_v3 (F := F) x1 x2 x3)
theorem val_main_call0_call0_v4_apply (i : S8320x512.Idx) :
    val_main_call0_call0_v4 (F := F) x1 x2 x3 i = FloatOps.cmpf .une (val_main_call0_call0_v3 (F := F) x1 x2 x3 i) (val_main_call0_call0_v3 (F := F) x1 x2 x3 i) := rfl

def val_main_call0_call0_v5 : (⟨S8320x512, .f32⟩ : BufTy).Contents (Elt F) :=
  broadcastInDim S8320x512 ![] bcast_S_S8320x512 (val_main_call0_call0_cst (F := F))
abbrev idx_main_call0_call0_v5 (i : S8320x512.Idx) : S_.Idx := fun a => a.elim0
theorem val_main_call0_call0_v5_apply (i : S8320x512.Idx) :
    val_main_call0_call0_v5 (F := F) i = val_main_call0_call0_cst (F := F) (idx_main_call0_call0_v5 i) := by
  unfold val_main_call0_call0_v5
  generalize val_main_call0_call0_cst (F := F) = y
  exact broadcastInDim_apply _ bcast_S_S8320x512 y i (idx_main_call0_call0_v5 i) (fun a => a.elim0)

def val_main_call0_call0_v6 : (⟨S8320x512, .f32⟩ : BufTy).Contents (Elt F) :=
  addf (val_main_call0_v0 (F := F) x1 x2 x3) (val_main_call0_call0_v5 (F := F))
theorem val_main_call0_call0_v6_apply (i : S8320x512.Idx) :
    val_main_call0_call0_v6 (F := F) x1 x2 x3 i = FloatOps.addf (val_main_call0_v0 (F := F) x1 x2 x3 i) (val_main_call0_call0_v5 (F := F) i) := rfl

def val_main_call0_call0_v7 : (⟨S8320x512, .f32⟩ : BufTy).Contents (Elt F) :=
  Host.absf (val_main_call0_call0_v3 (F := F) x1 x2 x3)
theorem val_main_call0_call0_v7_apply (i : S8320x512.Idx) :
    val_main_call0_call0_v7 (F := F) x1 x2 x3 i = FloatOps.hostAbsf (val_main_call0_call0_v3 (F := F) x1 x2 x3 i) := rfl

def val_main_call0_call0_v8 : (⟨S8320x512, .f32⟩ : BufTy).Contents (Elt F) :=
  Host.negf (val_main_call0_call0_v7 (F := F) x1 x2 x3)
theorem val_main_call0_call0_v8_apply (i : S8320x512.Idx) :
    val_main_call0_call0_v8 (F := F) x1 x2 x3 i = FloatOps.hostNegf (val_main_call0_call0_v7 (F := F) x1 x2 x3 i) := rfl

def val_main_call0_call0_v9 : (⟨S8320x512, .f32⟩ : BufTy).Contents (Elt F) :=
  Host.exp (val_main_call0_call0_v8 (F := F) x1 x2 x3)
theorem val_main_call0_call0_v9_apply (i : S8320x512.Idx) :
    val_main_call0_call0_v9 (F := F) x1 x2 x3 i = FloatOps.hostUnary .exp (val_main_call0_call0_v8 (F := F) x1 x2 x3 i) := rfl

def val_main_call0_call0_v10 : (⟨S8320x512, .f32⟩ : BufTy).Contents (Elt F) :=
  Host.log1p (val_main_call0_call0_v9 (F := F) x1 x2 x3)
theorem val_main_call0_call0_v10_apply (i : S8320x512.Idx) :
    val_main_call0_call0_v10 (F := F) x1 x2 x3 i = FloatOps.hostUnary .log1p (val_main_call0_call0_v9 (F := F) x1 x2 x3 i) := rfl

def val_main_call0_call0_v11 : (⟨S8320x512, .f32⟩ : BufTy).Contents (Elt F) :=
  addf (val_main_call0_call0_v1 (F := F) x1 x2 x3) (val_main_call0_call0_v10 (F := F) x1 x2 x3)
theorem val_main_call0_call0_v11_apply (i : S8320x512.Idx) :
    val_main_call0_call0_v11 (F := F) x1 x2 x3 i = FloatOps.addf (val_main_call0_call0_v1 (F := F) x1 x2 x3 i) (val_main_call0_call0_v10 (F := F) x1 x2 x3 i) := rfl

def val_main_call0_v1 : (⟨S8320x512, .f32⟩ : BufTy).Contents (Elt F) :=
  select (val_main_call0_call0_v4 (F := F) x1 x2 x3) (val_main_call0_call0_v6 (F := F) x1 x2 x3) (val_main_call0_call0_v11 (F := F) x1 x2 x3)
theorem val_main_call0_v1_apply (i : S8320x512.Idx) :
    val_main_call0_v1 (F := F) x1 x2 x3 i = Scalar.select (val_main_call0_call0_v4 (F := F) x1 x2 x3 i) (val_main_call0_call0_v6 (F := F) x1 x2 x3 i) (val_main_call0_call0_v11 (F := F) x1 x2 x3 i) := rfl

def val_main_v6 : (⟨S8320x512, .f32⟩ : BufTy).Contents (Elt F) :=
  Host.negf (val_main_call0_v1 (F := F) x1 x2 x3)
theorem val_main_v6_apply (i : S8320x512.Idx) :
    val_main_v6 (F := F) x1 x2 x3 i = FloatOps.hostNegf (val_main_call0_v1 (F := F) x1 x2 x3 i) := rfl

def val_main_cst : (⟨S_, .f32⟩ : BufTy).Contents (Elt F) :=
  constant S_ .f32 0x41800000#32
theorem val_main_cst_apply (i : S_.Idx) :
    val_main_cst (F := F) i = FloatOps.ofBits .f32 0x41800000#32 := rfl

def val_main_v7 : (⟨S8320x512, .f32⟩ : BufTy).Contents (Elt F) :=
  broadcastInDim S8320x512 ![] bcast_S_S8320x512 (val_main_cst (F := F))
abbrev idx_main_v7 (i : S8320x512.Idx) : S_.Idx := fun a => a.elim0
theorem val_main_v7_apply (i : S8320x512.Idx) :
    val_main_v7 (F := F) i = val_main_cst (F := F) (idx_main_v7 i) := by
  unfold val_main_v7
  generalize val_main_cst (F := F) = y
  exact broadcastInDim_apply _ bcast_S_S8320x512 y i (idx_main_v7 i) (fun a => a.elim0)

def val_main_v8 : (⟨S8320x512, .f32⟩ : BufTy).Contents (Elt F) :=
  Host.divf (val_main_v6 (F := F) x1 x2 x3) (val_main_v7 (F := F))
theorem val_main_v8_apply (i : S8320x512.Idx) :
    val_main_v8 (F := F) x1 x2 x3 i = FloatOps.hostDivf (val_main_v6 (F := F) x1 x2 x3 i) (val_main_v7 (F := F) i) := rfl

def val_main_call1_call0_cst : (⟨S_, .f32⟩ : BufTy).Contents (Elt F) :=
  constant S_ .f32 0x00000000#32
theorem val_main_call1_call0_cst_apply (i : S_.Idx) :
    val_main_call1_call0_cst (F := F) i = FloatOps.ofBits .f32 0x00000000#32 := rfl

def val_main_call1_call0_v0 : (⟨S_, .f32⟩ : BufTy).Contents (Elt F) :=
  broadcastInDim S_ ![] bcast_S_S_ (val_main_call1_call0_cst (F := F))
abbrev idx_main_call1_call0_v0 (i : S_.Idx) : S_.Idx := fun a => a.elim0
theorem val_main_call1_call0_v0_apply (i : S_.Idx) :
    val_main_call1_call0_v0 (F := F) i = val_main_call1_call0_cst (F := F) (idx_main_call1_call0_v0 i) := by
  unfold val_main_call1_call0_v0
  generalize val_main_call1_call0_cst (F := F) = y
  exact broadcastInDim_apply _ bcast_S_S_ y i (idx_main_call1_call0_v0 i) (fun a => a.elim0)

def val_main_v9 : (⟨S8320x512, .f32⟩ : BufTy).Contents (Elt F) :=
  Host.reduceWindowAdd ![8320, 1] ![1, 1] ![8319, 0] ![0, 0] (val_main_v8 (F := F) x1 x2 x3) (val_main_call1_call0_v0 (F := F)) reduceWindows_S8320x512_S8320x512_w8320s1p8319_0_w1s1p0_0 h_S_

def val_main_v10 : (⟨S8320x512, .f32⟩ : BufTy).Contents (Elt F) :=
  extractStridedSlice S8320x512 ![0, 512] (val_main_v0 (F := F) x0) slices_S8320x7168_S8320x512_0_512
set_option backward.proofsInPublic true in
abbrev idx_main_v10 (i : S8320x512.Idx) : S8320x7168.Idx := fun a => match a with
  | ⟨0, _⟩ => ⟨(i 0).val, (i 0).isLt⟩
  | ⟨1, _⟩ => ⟨512 + (i 1).val, by have h1 : (i 1).val < 512 := (i 1).isLt; show 512 + (i 1).val < 7168; omega⟩
theorem val_main_v10_apply (i : S8320x512.Idx) :
    val_main_v10 (F := F) x0 i = val_main_v0 (F := F) x0 (idx_main_v10 i) := by
  unfold val_main_v10
  generalize val_main_v0 (F := F) x0 = y
  exact extractStridedSlice_apply ![0, 512] y slices_S8320x7168_S8320x512_0_512 i (idx_main_v10 i) (fun a => match a with
    | ⟨0, _⟩ => by show (i 0).val = 0 + (i 0).val; omega
    | ⟨1, _⟩ => by show 512 + (i 1).val = 512 + (i 1).val; omega)

def val_main_v11 : (⟨S8320x4x128, .f32⟩ : BufTy).Contents (Elt F) :=
  shapeCast _ (val_main_v10 (F := F) x0) shapeCasts_S8320x512_S8320x4x128
set_option backward.proofsInPublic true in
abbrev idx_main_v11 (i : S8320x4x128.Idx) : S8320x512.Idx := fun a => match a with
  | ⟨0, _⟩ => ⟨(((i 0).val * 4 + (i 1).val) * 128 + (i 2).val) / 512, by have h0 : (i 0).val < 8320 := (i 0).isLt; have h1 : (i 1).val < 4 := (i 1).isLt; have h2 : (i 2).val < 128 := (i 2).isLt; show (((i 0).val * 4 + (i 1).val) * 128 + (i 2).val) / 512 < 8320; omega⟩
  | ⟨1, _⟩ => ⟨(((i 0).val * 4 + (i 1).val) * 128 + (i 2).val) % 512, by have h0 : (i 0).val < 8320 := (i 0).isLt; have h1 : (i 1).val < 4 := (i 1).isLt; have h2 : (i 2).val < 128 := (i 2).isLt; show (((i 0).val * 4 + (i 1).val) * 128 + (i 2).val) % 512 < 512; omega⟩
theorem val_main_v11_apply (i : S8320x4x128.Idx) :
    val_main_v11 (F := F) x0 i = val_main_v10 (F := F) x0 (idx_main_v11 i) := by
  unfold val_main_v11
  generalize val_main_v10 (F := F) x0 = y
  exact shapeCast_apply y shapeCasts_S8320x512_S8320x4x128 i (idx_main_v11 i)
    (by rewrite [Shape.rowMajor_val_two, Shape.rowMajor_val_three]; have h0 : (i 0).val < 8320 := (i 0).isLt; have h1 : (i 1).val < 4 := (i 1).isLt; have h2 : (i 2).val < 128 := (i 2).isLt; show (((i 0).val * 4 + (i 1).val) * 128 + (i 2).val) / 512 * 512 + (((i 0).val * 4 + (i 1).val) * 128 + (i 2).val) % 512 = ((i 0).val * 4 + (i 1).val) * 128 + (i 2).val; omega)

def val_main_v12 : (⟨S4x8320x128, .f32⟩ : BufTy).Contents (Elt F) :=
  transpose S4x8320x128 [1, 0, 2] (val_main_v11 (F := F) x0) transposes_S8320x4x128_S4x8320x128_1_0_2
abbrev idx_main_v12 (i : S4x8320x128.Idx) : S8320x4x128.Idx := fun a => match a with
  | ⟨0, _⟩ => ⟨(i 1).val, (i 1).isLt⟩
  | ⟨1, _⟩ => ⟨(i 0).val, (i 0).isLt⟩
  | ⟨2, _⟩ => ⟨(i 2).val, (i 2).isLt⟩
theorem val_main_v12_apply (i : S4x8320x128.Idx) :
    val_main_v12 (F := F) x0 i = val_main_v11 (F := F) x0 (idx_main_v12 i) := by
  unfold val_main_v12
  generalize val_main_v11 (F := F) x0 = y
  exact transpose_apply [1, 0, 2] y transposes_S8320x4x128_S4x8320x128_1_0_2 i (idx_main_v12 i) (fun b => match b with
    | ⟨0, _⟩ => rfl
    | ⟨1, _⟩ => rfl
    | ⟨2, _⟩ => rfl)

def val_main_v13 : (⟨S8320x1024, .f32⟩ : BufTy).Contents (Elt F) :=
  extractStridedSlice S8320x1024 ![0, 1024] (val_main_v0 (F := F) x0) slices_S8320x7168_S8320x1024_0_1024
set_option backward.proofsInPublic true in
abbrev idx_main_v13 (i : S8320x1024.Idx) : S8320x7168.Idx := fun a => match a with
  | ⟨0, _⟩ => ⟨(i 0).val, (i 0).isLt⟩
  | ⟨1, _⟩ => ⟨1024 + (i 1).val, by have h1 : (i 1).val < 1024 := (i 1).isLt; show 1024 + (i 1).val < 7168; omega⟩
theorem val_main_v13_apply (i : S8320x1024.Idx) :
    val_main_v13 (F := F) x0 i = val_main_v0 (F := F) x0 (idx_main_v13 i) := by
  unfold val_main_v13
  generalize val_main_v0 (F := F) x0 = y
  exact extractStridedSlice_apply ![0, 1024] y slices_S8320x7168_S8320x1024_0_1024 i (idx_main_v13 i) (fun a => match a with
    | ⟨0, _⟩ => by show (i 0).val = 0 + (i 0).val; omega
    | ⟨1, _⟩ => by show 1024 + (i 1).val = 1024 + (i 1).val; omega)

def val_main_v14 : (⟨S8320x4x256, .f32⟩ : BufTy).Contents (Elt F) :=
  shapeCast _ (val_main_v13 (F := F) x0) shapeCasts_S8320x1024_S8320x4x256
set_option backward.proofsInPublic true in
abbrev idx_main_v14 (i : S8320x4x256.Idx) : S8320x1024.Idx := fun a => match a with
  | ⟨0, _⟩ => ⟨(((i 0).val * 4 + (i 1).val) * 256 + (i 2).val) / 1024, by have h0 : (i 0).val < 8320 := (i 0).isLt; have h1 : (i 1).val < 4 := (i 1).isLt; have h2 : (i 2).val < 256 := (i 2).isLt; show (((i 0).val * 4 + (i 1).val) * 256 + (i 2).val) / 1024 < 8320; omega⟩
  | ⟨1, _⟩ => ⟨(((i 0).val * 4 + (i 1).val) * 256 + (i 2).val) % 1024, by have h0 : (i 0).val < 8320 := (i 0).isLt; have h1 : (i 1).val < 4 := (i 1).isLt; have h2 : (i 2).val < 256 := (i 2).isLt; show (((i 0).val * 4 + (i 1).val) * 256 + (i 2).val) % 1024 < 1024; omega⟩
theorem val_main_v14_apply (i : S8320x4x256.Idx) :
    val_main_v14 (F := F) x0 i = val_main_v13 (F := F) x0 (idx_main_v14 i) := by
  unfold val_main_v14
  generalize val_main_v13 (F := F) x0 = y
  exact shapeCast_apply y shapeCasts_S8320x1024_S8320x4x256 i (idx_main_v14 i)
    (by rewrite [Shape.rowMajor_val_two, Shape.rowMajor_val_three]; have h0 : (i 0).val < 8320 := (i 0).isLt; have h1 : (i 1).val < 4 := (i 1).isLt; have h2 : (i 2).val < 256 := (i 2).isLt; show (((i 0).val * 4 + (i 1).val) * 256 + (i 2).val) / 1024 * 1024 + (((i 0).val * 4 + (i 1).val) * 256 + (i 2).val) % 1024 = ((i 0).val * 4 + (i 1).val) * 256 + (i 2).val; omega)

def val_main_v15 : (⟨S4x8320x256, .f32⟩ : BufTy).Contents (Elt F) :=
  transpose S4x8320x256 [1, 0, 2] (val_main_v14 (F := F) x0) transposes_S8320x4x256_S4x8320x256_1_0_2
abbrev idx_main_v15 (i : S4x8320x256.Idx) : S8320x4x256.Idx := fun a => match a with
  | ⟨0, _⟩ => ⟨(i 1).val, (i 1).isLt⟩
  | ⟨1, _⟩ => ⟨(i 0).val, (i 0).isLt⟩
  | ⟨2, _⟩ => ⟨(i 2).val, (i 2).isLt⟩
theorem val_main_v15_apply (i : S4x8320x256.Idx) :
    val_main_v15 (F := F) x0 i = val_main_v14 (F := F) x0 (idx_main_v15 i) := by
  unfold val_main_v15
  generalize val_main_v14 (F := F) x0 = y
  exact transpose_apply [1, 0, 2] y transposes_S8320x4x256_S4x8320x256_1_0_2 i (idx_main_v15 i) (fun b => match b with
    | ⟨0, _⟩ => rfl
    | ⟨1, _⟩ => rfl
    | ⟨2, _⟩ => rfl)

def val_main_v16 : (⟨S8320x4x128, .f32⟩ : BufTy).Contents (Elt F) :=
  shapeCast _ (val_main_v9 (F := F) x1 x2 x3) shapeCasts_S8320x512_S8320x4x128
set_option backward.proofsInPublic true in
abbrev idx_main_v16 (i : S8320x4x128.Idx) : S8320x512.Idx := fun a => match a with
  | ⟨0, _⟩ => ⟨(((i 0).val * 4 + (i 1).val) * 128 + (i 2).val) / 512, by have h0 : (i 0).val < 8320 := (i 0).isLt; have h1 : (i 1).val < 4 := (i 1).isLt; have h2 : (i 2).val < 128 := (i 2).isLt; show (((i 0).val * 4 + (i 1).val) * 128 + (i 2).val) / 512 < 8320; omega⟩
  | ⟨1, _⟩ => ⟨(((i 0).val * 4 + (i 1).val) * 128 + (i 2).val) % 512, by have h0 : (i 0).val < 8320 := (i 0).isLt; have h1 : (i 1).val < 4 := (i 1).isLt; have h2 : (i 2).val < 128 := (i 2).isLt; show (((i 0).val * 4 + (i 1).val) * 128 + (i 2).val) % 512 < 512; omega⟩
theorem val_main_v16_apply (i : S8320x4x128.Idx) :
    val_main_v16 (F := F) x1 x2 x3 i = val_main_v9 (F := F) x1 x2 x3 (idx_main_v16 i) := by
  unfold val_main_v16
  generalize val_main_v9 (F := F) x1 x2 x3 = y
  exact shapeCast_apply y shapeCasts_S8320x512_S8320x4x128 i (idx_main_v16 i)
    (by rewrite [Shape.rowMajor_val_two, Shape.rowMajor_val_three]; have h0 : (i 0).val < 8320 := (i 0).isLt; have h1 : (i 1).val < 4 := (i 1).isLt; have h2 : (i 2).val < 128 := (i 2).isLt; show (((i 0).val * 4 + (i 1).val) * 128 + (i 2).val) / 512 * 512 + (((i 0).val * 4 + (i 1).val) * 128 + (i 2).val) % 512 = ((i 0).val * 4 + (i 1).val) * 128 + (i 2).val; omega)

def val_main_v17 : (⟨S4x8320x128, .f32⟩ : BufTy).Contents (Elt F) :=
  transpose S4x8320x128 [1, 0, 2] (val_main_v16 (F := F) x1 x2 x3) transposes_S8320x4x128_S4x8320x128_1_0_2
abbrev idx_main_v17 (i : S4x8320x128.Idx) : S8320x4x128.Idx := fun a => match a with
  | ⟨0, _⟩ => ⟨(i 1).val, (i 1).isLt⟩
  | ⟨1, _⟩ => ⟨(i 0).val, (i 0).isLt⟩
  | ⟨2, _⟩ => ⟨(i 2).val, (i 2).isLt⟩
theorem val_main_v17_apply (i : S4x8320x128.Idx) :
    val_main_v17 (F := F) x1 x2 x3 i = val_main_v16 (F := F) x1 x2 x3 (idx_main_v17 i) := by
  unfold val_main_v17
  generalize val_main_v16 (F := F) x1 x2 x3 = y
  exact transpose_apply [1, 0, 2] y transposes_S8320x4x128_S4x8320x128_1_0_2 i (idx_main_v17 i) (fun b => match b with
    | ⟨0, _⟩ => rfl
    | ⟨1, _⟩ => rfl
    | ⟨2, _⟩ => rfl)

def val_main_v18 : (⟨S8320x512, .f32⟩ : BufTy).Contents (Elt F) :=
  subf (val_main_v9 (F := F) x1 x2 x3) (val_main_v8 (F := F) x1 x2 x3)
theorem val_main_v18_apply (i : S8320x512.Idx) :
    val_main_v18 (F := F) x1 x2 x3 i = FloatOps.subf (val_main_v9 (F := F) x1 x2 x3 i) (val_main_v8 (F := F) x1 x2 x3 i) := rfl

def val_main_v19 : (⟨S8320x4x128, .f32⟩ : BufTy).Contents (Elt F) :=
  shapeCast _ (val_main_v18 (F := F) x1 x2 x3) shapeCasts_S8320x512_S8320x4x128
set_option backward.proofsInPublic true in
abbrev idx_main_v19 (i : S8320x4x128.Idx) : S8320x512.Idx := fun a => match a with
  | ⟨0, _⟩ => ⟨(((i 0).val * 4 + (i 1).val) * 128 + (i 2).val) / 512, by have h0 : (i 0).val < 8320 := (i 0).isLt; have h1 : (i 1).val < 4 := (i 1).isLt; have h2 : (i 2).val < 128 := (i 2).isLt; show (((i 0).val * 4 + (i 1).val) * 128 + (i 2).val) / 512 < 8320; omega⟩
  | ⟨1, _⟩ => ⟨(((i 0).val * 4 + (i 1).val) * 128 + (i 2).val) % 512, by have h0 : (i 0).val < 8320 := (i 0).isLt; have h1 : (i 1).val < 4 := (i 1).isLt; have h2 : (i 2).val < 128 := (i 2).isLt; show (((i 0).val * 4 + (i 1).val) * 128 + (i 2).val) % 512 < 512; omega⟩
theorem val_main_v19_apply (i : S8320x4x128.Idx) :
    val_main_v19 (F := F) x1 x2 x3 i = val_main_v18 (F := F) x1 x2 x3 (idx_main_v19 i) := by
  unfold val_main_v19
  generalize val_main_v18 (F := F) x1 x2 x3 = y
  exact shapeCast_apply y shapeCasts_S8320x512_S8320x4x128 i (idx_main_v19 i)
    (by rewrite [Shape.rowMajor_val_two, Shape.rowMajor_val_three]; have h0 : (i 0).val < 8320 := (i 0).isLt; have h1 : (i 1).val < 4 := (i 1).isLt; have h2 : (i 2).val < 128 := (i 2).isLt; show (((i 0).val * 4 + (i 1).val) * 128 + (i 2).val) / 512 * 512 + (((i 0).val * 4 + (i 1).val) * 128 + (i 2).val) % 512 = ((i 0).val * 4 + (i 1).val) * 128 + (i 2).val; omega)

def val_main_v20 : (⟨S4x8320x128, .f32⟩ : BufTy).Contents (Elt F) :=
  transpose S4x8320x128 [1, 0, 2] (val_main_v19 (F := F) x1 x2 x3) transposes_S8320x4x128_S4x8320x128_1_0_2
abbrev idx_main_v20 (i : S4x8320x128.Idx) : S8320x4x128.Idx := fun a => match a with
  | ⟨0, _⟩ => ⟨(i 1).val, (i 1).isLt⟩
  | ⟨1, _⟩ => ⟨(i 0).val, (i 0).isLt⟩
  | ⟨2, _⟩ => ⟨(i 2).val, (i 2).isLt⟩
theorem val_main_v20_apply (i : S4x8320x128.Idx) :
    val_main_v20 (F := F) x1 x2 x3 i = val_main_v19 (F := F) x1 x2 x3 (idx_main_v20 i) := by
  unfold val_main_v20
  generalize val_main_v19 (F := F) x1 x2 x3 = y
  exact transpose_apply [1, 0, 2] y transposes_S8320x4x128_S4x8320x128_1_0_2 i (idx_main_v20 i) (fun b => match b with
    | ⟨0, _⟩ => rfl
    | ⟨1, _⟩ => rfl
    | ⟨2, _⟩ => rfl)

def val_main_v21 : (⟨S4x65x128x128, .f32⟩ : BufTy).Contents (Elt F) :=
  shapeCast _ (val_main_v20 (F := F) x1 x2 x3) shapeCasts_S4x8320x128_S4x65x128x128
set_option backward.proofsInPublic true in
abbrev idx_main_v21 (i : S4x65x128x128.Idx) : S4x8320x128.Idx := fun a => match a with
  | ⟨0, _⟩ => ⟨((((i 0).val * 65 + (i 1).val) * 128 + (i 2).val) * 128 + (i 3).val) / 1064960, by have h0 : (i 0).val < 4 := (i 0).isLt; have h1 : (i 1).val < 65 := (i 1).isLt; have h2 : (i 2).val < 128 := (i 2).isLt; have h3 : (i 3).val < 128 := (i 3).isLt; show ((((i 0).val * 65 + (i 1).val) * 128 + (i 2).val) * 128 + (i 3).val) / 1064960 < 4; omega⟩
  | ⟨1, _⟩ => ⟨((((i 0).val * 65 + (i 1).val) * 128 + (i 2).val) * 128 + (i 3).val) / 128 % 8320, by have h0 : (i 0).val < 4 := (i 0).isLt; have h1 : (i 1).val < 65 := (i 1).isLt; have h2 : (i 2).val < 128 := (i 2).isLt; have h3 : (i 3).val < 128 := (i 3).isLt; show ((((i 0).val * 65 + (i 1).val) * 128 + (i 2).val) * 128 + (i 3).val) / 128 % 8320 < 8320; omega⟩
  | ⟨2, _⟩ => ⟨((((i 0).val * 65 + (i 1).val) * 128 + (i 2).val) * 128 + (i 3).val) % 128, by have h0 : (i 0).val < 4 := (i 0).isLt; have h1 : (i 1).val < 65 := (i 1).isLt; have h2 : (i 2).val < 128 := (i 2).isLt; have h3 : (i 3).val < 128 := (i 3).isLt; show ((((i 0).val * 65 + (i 1).val) * 128 + (i 2).val) * 128 + (i 3).val) % 128 < 128; omega⟩
theorem val_main_v21_apply (i : S4x65x128x128.Idx) :
    val_main_v21 (F := F) x1 x2 x3 i = val_main_v20 (F := F) x1 x2 x3 (idx_main_v21 i) := by
  unfold val_main_v21
  generalize val_main_v20 (F := F) x1 x2 x3 = y
  exact shapeCast_apply y shapeCasts_S4x8320x128_S4x65x128x128 i (idx_main_v21 i)
    (by rewrite [Shape.rowMajor_val_three, Shape.rowMajor_val_four]; have h0 : (i 0).val < 4 := (i 0).isLt; have h1 : (i 1).val < 65 := (i 1).isLt; have h2 : (i 2).val < 128 := (i 2).isLt; have h3 : (i 3).val < 128 := (i 3).isLt; show (((((i 0).val * 65 + (i 1).val) * 128 + (i 2).val) * 128 + (i 3).val) / 1064960 * 8320 + ((((i 0).val * 65 + (i 1).val) * 128 + (i 2).val) * 128 + (i 3).val) / 128 % 8320) * 128 + ((((i 0).val * 65 + (i 1).val) * 128 + (i 2).val) * 128 + (i 3).val) % 128 = (((i 0).val * 65 + (i 1).val) * 128 + (i 2).val) * 128 + (i 3).val; omega)

def val_main_v22 : (⟨S4x65x1x128, .f32⟩ : BufTy).Contents (Elt F) :=
  extractStridedSlice S4x65x1x128 ![0, 0, 0, 0] (val_main_v21 (F := F) x1 x2 x3) slices_S4x65x128x128_S4x65x1x128_0_0_0_0
set_option backward.proofsInPublic true in
abbrev idx_main_v22 (i : S4x65x1x128.Idx) : S4x65x128x128.Idx := fun a => match a with
  | ⟨0, _⟩ => ⟨(i 0).val, (i 0).isLt⟩
  | ⟨1, _⟩ => ⟨(i 1).val, (i 1).isLt⟩
  | ⟨2, _⟩ => ⟨(i 2).val, by have h2 : (i 2).val < 1 := (i 2).isLt; show (i 2).val < 128; omega⟩
  | ⟨3, _⟩ => ⟨(i 3).val, (i 3).isLt⟩
theorem val_main_v22_apply (i : S4x65x1x128.Idx) :
    val_main_v22 (F := F) x1 x2 x3 i = val_main_v21 (F := F) x1 x2 x3 (idx_main_v22 i) := by
  unfold val_main_v22
  generalize val_main_v21 (F := F) x1 x2 x3 = y
  exact extractStridedSlice_apply ![0, 0, 0, 0] y slices_S4x65x128x128_S4x65x1x128_0_0_0_0 i (idx_main_v22 i) (fun a => match a with
    | ⟨0, _⟩ => by show (i 0).val = 0 + (i 0).val; omega
    | ⟨1, _⟩ => by show (i 1).val = 0 + (i 1).val; omega
    | ⟨2, _⟩ => by show (i 2).val = 0 + (i 2).val; omega
    | ⟨3, _⟩ => by show (i 3).val = 0 + (i 3).val; omega)

def val_main_v23 : (⟨S4x65x128, .f32⟩ : BufTy).Contents (Elt F) :=
  shapeCast _ (val_main_v22 (F := F) x1 x2 x3) shapeCasts_S4x65x1x128_S4x65x128
set_option backward.proofsInPublic true in
abbrev idx_main_v23 (i : S4x65x128.Idx) : S4x65x1x128.Idx := fun a => match a with
  | ⟨0, _⟩ => ⟨(((i 0).val * 65 + (i 1).val) * 128 + (i 2).val) / 8320, by have h0 : (i 0).val < 4 := (i 0).isLt; have h1 : (i 1).val < 65 := (i 1).isLt; have h2 : (i 2).val < 128 := (i 2).isLt; show (((i 0).val * 65 + (i 1).val) * 128 + (i 2).val) / 8320 < 4; omega⟩
  | ⟨1, _⟩ => ⟨(((i 0).val * 65 + (i 1).val) * 128 + (i 2).val) / 128 % 65, by have h0 : (i 0).val < 4 := (i 0).isLt; have h1 : (i 1).val < 65 := (i 1).isLt; have h2 : (i 2).val < 128 := (i 2).isLt; show (((i 0).val * 65 + (i 1).val) * 128 + (i 2).val) / 128 % 65 < 65; omega⟩
  | ⟨2, _⟩ => ⟨0, Nat.one_pos⟩
  | ⟨3, _⟩ => ⟨(((i 0).val * 65 + (i 1).val) * 128 + (i 2).val) % 128, by have h0 : (i 0).val < 4 := (i 0).isLt; have h1 : (i 1).val < 65 := (i 1).isLt; have h2 : (i 2).val < 128 := (i 2).isLt; show (((i 0).val * 65 + (i 1).val) * 128 + (i 2).val) % 128 < 128; omega⟩
theorem val_main_v23_apply (i : S4x65x128.Idx) :
    val_main_v23 (F := F) x1 x2 x3 i = val_main_v22 (F := F) x1 x2 x3 (idx_main_v23 i) := by
  unfold val_main_v23
  generalize val_main_v22 (F := F) x1 x2 x3 = y
  exact shapeCast_apply y shapeCasts_S4x65x1x128_S4x65x128 i (idx_main_v23 i)
    (by rewrite [Shape.rowMajor_val_four, Shape.rowMajor_val_three]; have h0 : (i 0).val < 4 := (i 0).isLt; have h1 : (i 1).val < 65 := (i 1).isLt; have h2 : (i 2).val < 128 := (i 2).isLt; show (((((i 0).val * 65 + (i 1).val) * 128 + (i 2).val) / 8320 * 65 + (((i 0).val * 65 + (i 1).val) * 128 + (i 2).val) / 128 % 65) * 1 + 0) * 128 + (((i 0).val * 65 + (i 1).val) * 128 + (i 2).val) % 128 = ((i 0).val * 65 + (i 1).val) * 128 + (i 2).val; omega)

def val_main_v24 : (⟨S8320, .i32⟩ : BufTy).Contents (Elt F) :=
  iotaInDim S8320 32 0
theorem val_main_v24_apply (i : S8320.Idx) :
    val_main_v24 (F := F) i = BitVec.ofNat 32 (i 0).val := rfl

def val_main_v25 : (⟨S1x8320, .i32⟩ : BufTy).Contents (Elt F) :=
  broadcastInDim S1x8320 ![1] bcast_S8320_S1x8320_1 (val_main_v24 (F := F))
abbrev idx_main_v25 (i : S1x8320.Idx) : S8320.Idx := fun a => match a with
  | ⟨0, _⟩ => ⟨(i 1).val, (i 1).isLt⟩
theorem val_main_v25_apply (i : S1x8320.Idx) :
    val_main_v25 (F := F) i = val_main_v24 (F := F) (idx_main_v25 i) := by
  unfold val_main_v25
  generalize val_main_v24 (F := F) = y
  exact broadcastInDim_apply _ bcast_S8320_S1x8320_1 y i (idx_main_v25 i) (fun a => match a with
    | ⟨0, _⟩ => by show (i 1).val = if (8320 : Nat) = 1 then 0 else (i 1).val; rw [if_neg (by decide)])

def val_main_v26 : (⟨S65, .i32⟩ : BufTy).Contents (Elt F) :=
  iotaInDim S65 32 0
theorem val_main_v26_apply (i : S65.Idx) :
    val_main_v26 (F := F) i = BitVec.ofNat 32 (i 0).val := rfl

def val_main_v27 : (⟨S65x1, .i32⟩ : BufTy).Contents (Elt F) :=
  broadcastInDim S65x1 ![0] bcast_S65_S65x1_0 (val_main_v26 (F := F))
abbrev idx_main_v27 (i : S65x1.Idx) : S65.Idx := fun a => match a with
  | ⟨0, _⟩ => ⟨(i 0).val, (i 0).isLt⟩
theorem val_main_v27_apply (i : S65x1.Idx) :
    val_main_v27 (F := F) i = val_main_v26 (F := F) (idx_main_v27 i) := by
  unfold val_main_v27
  generalize val_main_v26 (F := F) = y
  exact broadcastInDim_apply _ bcast_S65_S65x1_0 y i (idx_main_v27 i) (fun a => match a with
    | ⟨0, _⟩ => by show (i 0).val = if (65 : Nat) = 1 then 0 else (i 0).val; rw [if_neg (by decide)])

def val_main_c : (⟨S_, .i32⟩ : BufTy).Contents (Elt F) :=
  constantI S_ 32 128#32
theorem val_main_c_apply (i : S_.Idx) :
    val_main_c (F := F) i = 128#32 := rfl

def val_main_v28 : (⟨S65x1, .i32⟩ : BufTy).Contents (Elt F) :=
  broadcastInDim S65x1 ![] bcast_S_S65x1 (val_main_c (F := F))
abbrev idx_main_v28 (i : S65x1.Idx) : S_.Idx := fun a => a.elim0
theorem val_main_v28_apply (i : S65x1.Idx) :
    val_main_v28 (F := F) i = val_main_c (F := F) (idx_main_v28 i) := by
  unfold val_main_v28
  generalize val_main_c (F := F) = y
  exact broadcastInDim_apply _ bcast_S_S65x1 y i (idx_main_v28 i) (fun a => a.elim0)

def val_main_v29 : (⟨S65x1, .i32⟩ : BufTy).Contents (Elt F) :=
  muli (val_main_v28 (F := F)) (val_main_v27 (F := F))
theorem val_main_v29_apply (i : S65x1.Idx) :
    val_main_v29 (F := F) i = IntOp.muli (val_main_v28 (F := F) i) (val_main_v27 (F := F) i) := rfl

def val_main_v30 : (⟨S65x8320, .i32⟩ : BufTy).Contents (Elt F) :=
  broadcastInDim S65x8320 ![0, 1] bcast_S1x8320_S65x8320_0_1 (val_main_v25 (F := F))
abbrev idx_main_v30 (i : S65x8320.Idx) : S1x8320.Idx := fun a => match a with
  | ⟨0, _⟩ => ⟨0, Nat.one_pos⟩
  | ⟨1, _⟩ => ⟨(i 1).val, (i 1).isLt⟩
theorem val_main_v30_apply (i : S65x8320.Idx) :
    val_main_v30 (F := F) i = val_main_v25 (F := F) (idx_main_v30 i) := by
  unfold val_main_v30
  generalize val_main_v25 (F := F) = y
  exact broadcastInDim_apply _ bcast_S1x8320_S65x8320_0_1 y i (idx_main_v30 i) (fun a => match a with
    | ⟨0, _⟩ => by show 0 = if (1 : Nat) = 1 then 0 else (i 0).val; rw [if_pos rfl]
    | ⟨1, _⟩ => by show (i 1).val = if (8320 : Nat) = 1 then 0 else (i 1).val; rw [if_neg (by decide)])

def val_main_v31 : (⟨S65x8320, .i32⟩ : BufTy).Contents (Elt F) :=
  broadcastInDim S65x8320 ![0, 1] bcast_S65x1_S65x8320_0_1 (val_main_v29 (F := F))
abbrev idx_main_v31 (i : S65x8320.Idx) : S65x1.Idx := fun a => match a with
  | ⟨0, _⟩ => ⟨(i 0).val, (i 0).isLt⟩
  | ⟨1, _⟩ => ⟨0, Nat.one_pos⟩
theorem val_main_v31_apply (i : S65x8320.Idx) :
    val_main_v31 (F := F) i = val_main_v29 (F := F) (idx_main_v31 i) := by
  unfold val_main_v31
  generalize val_main_v29 (F := F) = y
  exact broadcastInDim_apply _ bcast_S65x1_S65x8320_0_1 y i (idx_main_v31 i) (fun a => match a with
    | ⟨0, _⟩ => by show (i 0).val = if (65 : Nat) = 1 then 0 else (i 0).val; rw [if_neg (by decide)]
    | ⟨1, _⟩ => by show 0 = if (1 : Nat) = 1 then 0 else (i 1).val; rw [if_pos rfl])

def val_main_v32 : (⟨S65x8320, .i1⟩ : BufTy).Contents (Elt F) :=
  cmpi .slt (val_main_v30 (F := F)) (val_main_v31 (F := F))
theorem val_main_v32_apply (i : S65x8320.Idx) :
    val_main_v32 (F := F) i = IntOp.cmpi .slt (val_main_v30 (F := F) i) (val_main_v31 (F := F) i) := rfl

def val_main_v33 : (⟨S65x8320x1, .i1⟩ : BufTy).Contents (Elt F) :=
  broadcastInDim S65x8320x1 ![0, 1] bcast_S65x8320_S65x8320x1_0_1 (val_main_v32 (F := F))
abbrev idx_main_v33 (i : S65x8320x1.Idx) : S65x8320.Idx := fun a => match a with
  | ⟨0, _⟩ => ⟨(i 0).val, (i 0).isLt⟩
  | ⟨1, _⟩ => ⟨(i 1).val, (i 1).isLt⟩
theorem val_main_v33_apply (i : S65x8320x1.Idx) :
    val_main_v33 (F := F) i = val_main_v32 (F := F) (idx_main_v33 i) := by
  unfold val_main_v33
  generalize val_main_v32 (F := F) = y
  exact broadcastInDim_apply _ bcast_S65x8320_S65x8320x1_0_1 y i (idx_main_v33 i) (fun a => match a with
    | ⟨0, _⟩ => by show (i 0).val = if (65 : Nat) = 1 then 0 else (i 0).val; rw [if_neg (by decide)]
    | ⟨1, _⟩ => by show (i 1).val = if (8320 : Nat) = 1 then 0 else (i 1).val; rw [if_neg (by decide)])

def val_main_v34 : (⟨S4x65x1x128, .f32⟩ : BufTy).Contents (Elt F) :=
  broadcastInDim S4x65x1x128 ![0, 1, 3] bcast_S4x65x128_S4x65x1x128_0_1_3 (val_main_v23 (F := F) x1 x2 x3)
abbrev idx_main_v34 (i : S4x65x1x128.Idx) : S4x65x128.Idx := fun a => match a with
  | ⟨0, _⟩ => ⟨(i 0).val, (i 0).isLt⟩
  | ⟨1, _⟩ => ⟨(i 1).val, (i 1).isLt⟩
  | ⟨2, _⟩ => ⟨(i 3).val, (i 3).isLt⟩
theorem val_main_v34_apply (i : S4x65x1x128.Idx) :
    val_main_v34 (F := F) x1 x2 x3 i = val_main_v23 (F := F) x1 x2 x3 (idx_main_v34 i) := by
  unfold val_main_v34
  generalize val_main_v23 (F := F) x1 x2 x3 = y
  exact broadcastInDim_apply _ bcast_S4x65x128_S4x65x1x128_0_1_3 y i (idx_main_v34 i) (fun a => match a with
    | ⟨0, _⟩ => by show (i 0).val = if (4 : Nat) = 1 then 0 else (i 0).val; rw [if_neg (by decide)]
    | ⟨1, _⟩ => by show (i 1).val = if (65 : Nat) = 1 then 0 else (i 1).val; rw [if_neg (by decide)]
    | ⟨2, _⟩ => by show (i 3).val = if (128 : Nat) = 1 then 0 else (i 3).val; rw [if_neg (by decide)])

def val_main_v35 : (⟨S4x1x8320x128, .f32⟩ : BufTy).Contents (Elt F) :=
  broadcastInDim S4x1x8320x128 ![0, 2, 3] bcast_S4x8320x128_S4x1x8320x128_0_2_3 (val_main_v17 (F := F) x1 x2 x3)
abbrev idx_main_v35 (i : S4x1x8320x128.Idx) : S4x8320x128.Idx := fun a => match a with
  | ⟨0, _⟩ => ⟨(i 0).val, (i 0).isLt⟩
  | ⟨1, _⟩ => ⟨(i 2).val, (i 2).isLt⟩
  | ⟨2, _⟩ => ⟨(i 3).val, (i 3).isLt⟩
theorem val_main_v35_apply (i : S4x1x8320x128.Idx) :
    val_main_v35 (F := F) x1 x2 x3 i = val_main_v17 (F := F) x1 x2 x3 (idx_main_v35 i) := by
  unfold val_main_v35
  generalize val_main_v17 (F := F) x1 x2 x3 = y
  exact broadcastInDim_apply _ bcast_S4x8320x128_S4x1x8320x128_0_2_3 y i (idx_main_v35 i) (fun a => match a with
    | ⟨0, _⟩ => by show (i 0).val = if (4 : Nat) = 1 then 0 else (i 0).val; rw [if_neg (by decide)]
    | ⟨1, _⟩ => by show (i 2).val = if (8320 : Nat) = 1 then 0 else (i 2).val; rw [if_neg (by decide)]
    | ⟨2, _⟩ => by show (i 3).val = if (128 : Nat) = 1 then 0 else (i 3).val; rw [if_neg (by decide)])

def val_main_v36 : (⟨S4x65x8320x128, .f32⟩ : BufTy).Contents (Elt F) :=
  broadcastInDim S4x65x8320x128 ![0, 1, 2, 3] bcast_S4x65x1x128_S4x65x8320x128_0_1_2_3 (val_main_v34 (F := F) x1 x2 x3)
abbrev idx_main_v36 (i : S4x65x8320x128.Idx) : S4x65x1x128.Idx := fun a => match a with
  | ⟨0, _⟩ => ⟨(i 0).val, (i 0).isLt⟩
  | ⟨1, _⟩ => ⟨(i 1).val, (i 1).isLt⟩
  | ⟨2, _⟩ => ⟨0, Nat.one_pos⟩
  | ⟨3, _⟩ => ⟨(i 3).val, (i 3).isLt⟩
theorem val_main_v36_apply (i : S4x65x8320x128.Idx) :
    val_main_v36 (F := F) x1 x2 x3 i = val_main_v34 (F := F) x1 x2 x3 (idx_main_v36 i) := by
  unfold val_main_v36
  generalize val_main_v34 (F := F) x1 x2 x3 = y
  exact broadcastInDim_apply _ bcast_S4x65x1x128_S4x65x8320x128_0_1_2_3 y i (idx_main_v36 i) (fun a => match a with
    | ⟨0, _⟩ => by show (i 0).val = if (4 : Nat) = 1 then 0 else (i 0).val; rw [if_neg (by decide)]
    | ⟨1, _⟩ => by show (i 1).val = if (65 : Nat) = 1 then 0 else (i 1).val; rw [if_neg (by decide)]
    | ⟨2, _⟩ => by show 0 = if (1 : Nat) = 1 then 0 else (i 2).val; rw [if_pos rfl]
    | ⟨3, _⟩ => by show (i 3).val = if (128 : Nat) = 1 then 0 else (i 3).val; rw [if_neg (by decide)])

def val_main_v37 : (⟨S4x65x8320x128, .f32⟩ : BufTy).Contents (Elt F) :=
  broadcastInDim S4x65x8320x128 ![0, 1, 2, 3] bcast_S4x1x8320x128_S4x65x8320x128_0_1_2_3 (val_main_v35 (F := F) x1 x2 x3)
abbrev idx_main_v37 (i : S4x65x8320x128.Idx) : S4x1x8320x128.Idx := fun a => match a with
  | ⟨0, _⟩ => ⟨(i 0).val, (i 0).isLt⟩
  | ⟨1, _⟩ => ⟨0, Nat.one_pos⟩
  | ⟨2, _⟩ => ⟨(i 2).val, (i 2).isLt⟩
  | ⟨3, _⟩ => ⟨(i 3).val, (i 3).isLt⟩
theorem val_main_v37_apply (i : S4x65x8320x128.Idx) :
    val_main_v37 (F := F) x1 x2 x3 i = val_main_v35 (F := F) x1 x2 x3 (idx_main_v37 i) := by
  unfold val_main_v37
  generalize val_main_v35 (F := F) x1 x2 x3 = y
  exact broadcastInDim_apply _ bcast_S4x1x8320x128_S4x65x8320x128_0_1_2_3 y i (idx_main_v37 i) (fun a => match a with
    | ⟨0, _⟩ => by show (i 0).val = if (4 : Nat) = 1 then 0 else (i 0).val; rw [if_neg (by decide)]
    | ⟨1, _⟩ => by show 0 = if (1 : Nat) = 1 then 0 else (i 1).val; rw [if_pos rfl]
    | ⟨2, _⟩ => by show (i 2).val = if (8320 : Nat) = 1 then 0 else (i 2).val; rw [if_neg (by decide)]
    | ⟨3, _⟩ => by show (i 3).val = if (128 : Nat) = 1 then 0 else (i 3).val; rw [if_neg (by decide)])

def val_main_v38 : (⟨S4x65x8320x128, .f32⟩ : BufTy).Contents (Elt F) :=
  subf (val_main_v36 (F := F) x1 x2 x3) (val_main_v37 (F := F) x1 x2 x3)
theorem val_main_v38_apply (i : S4x65x8320x128.Idx) :
    val_main_v38 (F := F) x1 x2 x3 i = FloatOps.subf (val_main_v36 (F := F) x1 x2 x3 i) (val_main_v37 (F := F) x1 x2 x3 i) := rfl

def val_main_cst_0 : (⟨S_, .f32⟩ : BufTy).Contents (Elt F) :=
  constant S_ .f32 0x00000000#32
theorem val_main_cst_0_apply (i : S_.Idx) :
    val_main_cst_0 (F := F) i = FloatOps.ofBits .f32 0x00000000#32 := rfl

def val_main_call2_v0 : (⟨S_, .f32⟩ : BufTy).Contents (Elt F) :=
  id (val_main_cst_0 (F := F))
theorem val_main_call2_v0_apply (i : S_.Idx) :
    val_main_call2_v0 (F := F) i = (val_main_cst_0 (F := F) i) := rfl

def val_main_call2_v1 : (⟨S4x65x8320x128, .i1⟩ : BufTy).Contents (Elt F) :=
  broadcastInDim S4x65x8320x128 ![1, 2, 3] bcast_S65x8320x1_S4x65x8320x128_1_2_3 (val_main_v33 (F := F))
abbrev idx_main_call2_v1 (i : S4x65x8320x128.Idx) : S65x8320x1.Idx := fun a => match a with
  | ⟨0, _⟩ => ⟨(i 1).val, (i 1).isLt⟩
  | ⟨1, _⟩ => ⟨(i 2).val, (i 2).isLt⟩
  | ⟨2, _⟩ => ⟨0, Nat.one_pos⟩
theorem val_main_call2_v1_apply (i : S4x65x8320x128.Idx) :
    val_main_call2_v1 (F := F) i = val_main_v33 (F := F) (idx_main_call2_v1 i) := by
  unfold val_main_call2_v1
  generalize val_main_v33 (F := F) = y
  exact broadcastInDim_apply _ bcast_S65x8320x1_S4x65x8320x128_1_2_3 y i (idx_main_call2_v1 i) (fun a => match a with
    | ⟨0, _⟩ => by show (i 1).val = if (65 : Nat) = 1 then 0 else (i 1).val; rw [if_neg (by decide)]
    | ⟨1, _⟩ => by show (i 2).val = if (8320 : Nat) = 1 then 0 else (i 2).val; rw [if_neg (by decide)]
    | ⟨2, _⟩ => by show 0 = if (1 : Nat) = 1 then 0 else (i 3).val; rw [if_pos rfl])

def val_main_call2_v2 : (⟨S4x65x8320x128, .f32⟩ : BufTy).Contents (Elt F) :=
  broadcastInDim S4x65x8320x128 ![] bcast_S_S4x65x8320x128 (val_main_call2_v0 (F := F))
abbrev idx_main_call2_v2 (i : S4x65x8320x128.Idx) : S_.Idx := fun a => a.elim0
theorem val_main_call2_v2_apply (i : S4x65x8320x128.Idx) :
    val_main_call2_v2 (F := F) i = val_main_call2_v0 (F := F) (idx_main_call2_v2 i) := by
  unfold val_main_call2_v2
  generalize val_main_call2_v0 (F := F) = y
  exact broadcastInDim_apply _ bcast_S_S4x65x8320x128 y i (idx_main_call2_v2 i) (fun a => a.elim0)

def val_main_v39 : (⟨S4x65x8320x128, .f32⟩ : BufTy).Contents (Elt F) :=
  select (val_main_call2_v1 (F := F)) (val_main_v38 (F := F) x1 x2 x3) (val_main_call2_v2 (F := F))
theorem val_main_v39_apply (i : S4x65x8320x128.Idx) :
    val_main_v39 (F := F) x1 x2 x3 i = Scalar.select (val_main_call2_v1 (F := F) i) (val_main_v38 (F := F) x1 x2 x3 i) (val_main_call2_v2 (F := F) i) := rfl

def val_main_v40 : (⟨S4x65x8320x128, .f32⟩ : BufTy).Contents (Elt F) :=
  Host.exp (val_main_v39 (F := F) x1 x2 x3)
theorem val_main_v40_apply (i : S4x65x8320x128.Idx) :
    val_main_v40 (F := F) x1 x2 x3 i = FloatOps.hostUnary .exp (val_main_v39 (F := F) x1 x2 x3 i) := rfl

def val_main_cst_1 : (⟨S_, .f32⟩ : BufTy).Contents (Elt F) :=
  constant S_ .f32 0x00000000#32
theorem val_main_cst_1_apply (i : S_.Idx) :
    val_main_cst_1 (F := F) i = FloatOps.ofBits .f32 0x00000000#32 := rfl

def val_main_call3_v0 : (⟨S_, .f32⟩ : BufTy).Contents (Elt F) :=
  id (val_main_cst_1 (F := F))
theorem val_main_call3_v0_apply (i : S_.Idx) :
    val_main_call3_v0 (F := F) i = (val_main_cst_1 (F := F) i) := rfl

def val_main_call3_v1 : (⟨S4x65x8320x128, .i1⟩ : BufTy).Contents (Elt F) :=
  broadcastInDim S4x65x8320x128 ![1, 2, 3] bcast_S65x8320x1_S4x65x8320x128_1_2_3 (val_main_v33 (F := F))
abbrev idx_main_call3_v1 (i : S4x65x8320x128.Idx) : S65x8320x1.Idx := fun a => match a with
  | ⟨0, _⟩ => ⟨(i 1).val, (i 1).isLt⟩
  | ⟨1, _⟩ => ⟨(i 2).val, (i 2).isLt⟩
  | ⟨2, _⟩ => ⟨0, Nat.one_pos⟩
theorem val_main_call3_v1_apply (i : S4x65x8320x128.Idx) :
    val_main_call3_v1 (F := F) i = val_main_v33 (F := F) (idx_main_call3_v1 i) := by
  unfold val_main_call3_v1
  generalize val_main_v33 (F := F) = y
  exact broadcastInDim_apply _ bcast_S65x8320x1_S4x65x8320x128_1_2_3 y i (idx_main_call3_v1 i) (fun a => match a with
    | ⟨0, _⟩ => by show (i 1).val = if (65 : Nat) = 1 then 0 else (i 1).val; rw [if_neg (by decide)]
    | ⟨1, _⟩ => by show (i 2).val = if (8320 : Nat) = 1 then 0 else (i 2).val; rw [if_neg (by decide)]
    | ⟨2, _⟩ => by show 0 = if (1 : Nat) = 1 then 0 else (i 3).val; rw [if_pos rfl])

def val_main_call3_v2 : (⟨S4x65x8320x128, .f32⟩ : BufTy).Contents (Elt F) :=
  broadcastInDim S4x65x8320x128 ![] bcast_S_S4x65x8320x128 (val_main_call3_v0 (F := F))
abbrev idx_main_call3_v2 (i : S4x65x8320x128.Idx) : S_.Idx := fun a => a.elim0
theorem val_main_call3_v2_apply (i : S4x65x8320x128.Idx) :
    val_main_call3_v2 (F := F) i = val_main_call3_v0 (F := F) (idx_main_call3_v2 i) := by
  unfold val_main_call3_v2
  generalize val_main_call3_v0 (F := F) = y
  exact broadcastInDim_apply _ bcast_S_S4x65x8320x128 y i (idx_main_call3_v2 i) (fun a => a.elim0)

def val_main_v41 : (⟨S4x65x8320x128, .f32⟩ : BufTy).Contents (Elt F) :=
  select (val_main_call3_v1 (F := F)) (val_main_v40 (F := F) x1 x2 x3) (val_main_call3_v2 (F := F))
theorem val_main_v41_apply (i : S4x65x8320x128.Idx) :
    val_main_v41 (F := F) x1 x2 x3 i = Scalar.select (val_main_call3_v1 (F := F) i) (val_main_v40 (F := F) x1 x2 x3 i) (val_main_call3_v2 (F := F) i) := rfl

def val_main_v42 : (⟨S4x1x8320x128, .f32⟩ : BufTy).Contents (Elt F) :=
  broadcastInDim S4x1x8320x128 ![0, 2, 3] bcast_S4x8320x128_S4x1x8320x128_0_2_3 (val_main_v12 (F := F) x0)
abbrev idx_main_v42 (i : S4x1x8320x128.Idx) : S4x8320x128.Idx := fun a => match a with
  | ⟨0, _⟩ => ⟨(i 0).val, (i 0).isLt⟩
  | ⟨1, _⟩ => ⟨(i 2).val, (i 2).isLt⟩
  | ⟨2, _⟩ => ⟨(i 3).val, (i 3).isLt⟩
theorem val_main_v42_apply (i : S4x1x8320x128.Idx) :
    val_main_v42 (F := F) x0 i = val_main_v12 (F := F) x0 (idx_main_v42 i) := by
  unfold val_main_v42
  generalize val_main_v12 (F := F) x0 = y
  exact broadcastInDim_apply _ bcast_S4x8320x128_S4x1x8320x128_0_2_3 y i (idx_main_v42 i) (fun a => match a with
    | ⟨0, _⟩ => by show (i 0).val = if (4 : Nat) = 1 then 0 else (i 0).val; rw [if_neg (by decide)]
    | ⟨1, _⟩ => by show (i 2).val = if (8320 : Nat) = 1 then 0 else (i 2).val; rw [if_neg (by decide)]
    | ⟨2, _⟩ => by show (i 3).val = if (128 : Nat) = 1 then 0 else (i 3).val; rw [if_neg (by decide)])

def val_main_v43 : (⟨S4x65x8320x128, .f32⟩ : BufTy).Contents (Elt F) :=
  broadcastInDim S4x65x8320x128 ![0, 1, 2, 3] bcast_S4x1x8320x128_S4x65x8320x128_0_1_2_3 (val_main_v42 (F := F) x0)
abbrev idx_main_v43 (i : S4x65x8320x128.Idx) : S4x1x8320x128.Idx := fun a => match a with
  | ⟨0, _⟩ => ⟨(i 0).val, (i 0).isLt⟩
  | ⟨1, _⟩ => ⟨0, Nat.one_pos⟩
  | ⟨2, _⟩ => ⟨(i 2).val, (i 2).isLt⟩
  | ⟨3, _⟩ => ⟨(i 3).val, (i 3).isLt⟩
theorem val_main_v43_apply (i : S4x65x8320x128.Idx) :
    val_main_v43 (F := F) x0 i = val_main_v42 (F := F) x0 (idx_main_v43 i) := by
  unfold val_main_v43
  generalize val_main_v42 (F := F) x0 = y
  exact broadcastInDim_apply _ bcast_S4x1x8320x128_S4x65x8320x128_0_1_2_3 y i (idx_main_v43 i) (fun a => match a with
    | ⟨0, _⟩ => by show (i 0).val = if (4 : Nat) = 1 then 0 else (i 0).val; rw [if_neg (by decide)]
    | ⟨1, _⟩ => by show 0 = if (1 : Nat) = 1 then 0 else (i 1).val; rw [if_pos rfl]
    | ⟨2, _⟩ => by show (i 2).val = if (8320 : Nat) = 1 then 0 else (i 2).val; rw [if_neg (by decide)]
    | ⟨3, _⟩ => by show (i 3).val = if (128 : Nat) = 1 then 0 else (i 3).val; rw [if_neg (by decide)])

def val_main_v44 : (⟨S4x65x8320x128, .f32⟩ : BufTy).Contents (Elt F) :=
  mulf (val_main_v43 (F := F) x0) (val_main_v41 (F := F) x1 x2 x3)
theorem val_main_v44_apply (i : S4x65x8320x128.Idx) :
    val_main_v44 (F := F) x0 x1 x2 x3 i = FloatOps.mulf (val_main_v43 (F := F) x0 i) (val_main_v41 (F := F) x1 x2 x3 i) := rfl

def val_main_v45 : (⟨S4x256x65x128, .f32⟩ : BufTy).Contents (Elt F) :=
  Host.dotGeneral dot_S4x8320x256_S4x65x8320x128_S4x256x65x128_1_2_2_13_0_0 none (val_main_v15 (F := F) x0) (val_main_v44 (F := F) x0 x1 x2 x3)
theorem lhs_main_v45_0 (i : S4x256x65x128.Idx) (q : dot_S4x8320x256_S4x65x8320x128_S4x256x65x128_1_2_2_13_0_0.contr.Idx) :
    (dot_S4x8320x256_S4x65x8320x128_S4x256x65x128_1_2_2_13_0_0.lhsIdx i q 0).val = (i 0).val := by
  unfold DotDims.lhsIdx
  rw [dif_pos (show (0 : Fin S4x8320x256.rank) ∈ dot_S4x8320x256_S4x65x8320x128_S4x256x65x128_1_2_2_13_0_0.lhsBatch by decide)]
  rfl
theorem lhs_main_v45_1 (i : S4x256x65x128.Idx) (q : dot_S4x8320x256_S4x65x8320x128_S4x256x65x128_1_2_2_13_0_0.contr.Idx) :
    (dot_S4x8320x256_S4x65x8320x128_S4x256x65x128_1_2_2_13_0_0.lhsIdx i q 1).val = (q ⟨0, by decide⟩).val :=
  dot_S4x8320x256_S4x65x8320x128_S4x256x65x128_1_2_2_13_0_0.lhsIdx_val_of_single rfl i q
theorem lhs_main_v45_2 (i : S4x256x65x128.Idx) (q : dot_S4x8320x256_S4x65x8320x128_S4x256x65x128_1_2_2_13_0_0.contr.Idx) :
    (dot_S4x8320x256_S4x65x8320x128_S4x256x65x128_1_2_2_13_0_0.lhsIdx i q 2).val = (i 1).val := by
  unfold DotDims.lhsIdx
  rw [dif_neg (show ¬(2 : Fin S4x8320x256.rank) ∈ dot_S4x8320x256_S4x65x8320x128_S4x256x65x128_1_2_2_13_0_0.lhsBatch by decide), dif_pos (show (2 : Fin S4x8320x256.rank) ∈ dot_S4x8320x256_S4x65x8320x128_S4x256x65x128_1_2_2_13_0_0.lhsNonContracting by decide)]
  rfl
theorem rhs_main_v45_0 (i : S4x256x65x128.Idx) (q : dot_S4x8320x256_S4x65x8320x128_S4x256x65x128_1_2_2_13_0_0.contr.Idx) :
    (dot_S4x8320x256_S4x65x8320x128_S4x256x65x128_1_2_2_13_0_0.rhsIdx i q 0).val = (i 0).val := by
  unfold DotDims.rhsIdx
  rw [dif_pos (show (0 : Fin S4x65x8320x128.rank) ∈ dot_S4x8320x256_S4x65x8320x128_S4x256x65x128_1_2_2_13_0_0.rhsBatch by decide)]
  rfl
theorem rhs_main_v45_1 (i : S4x256x65x128.Idx) (q : dot_S4x8320x256_S4x65x8320x128_S4x256x65x128_1_2_2_13_0_0.contr.Idx) :
    (dot_S4x8320x256_S4x65x8320x128_S4x256x65x128_1_2_2_13_0_0.rhsIdx i q 1).val = (i 2).val := by
  unfold DotDims.rhsIdx
  rw [dif_neg (show ¬(1 : Fin S4x65x8320x128.rank) ∈ dot_S4x8320x256_S4x65x8320x128_S4x256x65x128_1_2_2_13_0_0.rhsBatch by decide), dif_pos (show (1 : Fin S4x65x8320x128.rank) ∈ dot_S4x8320x256_S4x65x8320x128_S4x256x65x128_1_2_2_13_0_0.rhsNonContracting by decide)]
  rfl
theorem rhs_main_v45_2 (i : S4x256x65x128.Idx) (q : dot_S4x8320x256_S4x65x8320x128_S4x256x65x128_1_2_2_13_0_0.contr.Idx) :
    (dot_S4x8320x256_S4x65x8320x128_S4x256x65x128_1_2_2_13_0_0.rhsIdx i q 2).val = (q ⟨0, by decide⟩).val :=
  dot_S4x8320x256_S4x65x8320x128_S4x256x65x128_1_2_2_13_0_0.rhsIdx_val_of_single rfl i q
theorem rhs_main_v45_3 (i : S4x256x65x128.Idx) (q : dot_S4x8320x256_S4x65x8320x128_S4x256x65x128_1_2_2_13_0_0.contr.Idx) :
    (dot_S4x8320x256_S4x65x8320x128_S4x256x65x128_1_2_2_13_0_0.rhsIdx i q 3).val = (i 3).val := by
  unfold DotDims.rhsIdx
  rw [dif_neg (show ¬(3 : Fin S4x65x8320x128.rank) ∈ dot_S4x8320x256_S4x65x8320x128_S4x256x65x128_1_2_2_13_0_0.rhsBatch by decide), dif_pos (show (3 : Fin S4x65x8320x128.rank) ∈ dot_S4x8320x256_S4x65x8320x128_S4x256x65x128_1_2_2_13_0_0.rhsNonContracting by decide)]
  rfl
abbrev lidx_main_v45 (i : S4x256x65x128.Idx) (k : Fin 8320) : S4x8320x256.Idx := fun a => match a with
  | ⟨0, _⟩ => ⟨(i 0).val, (i 0).isLt⟩
  | ⟨1, _⟩ => ⟨k.val, k.isLt⟩
  | ⟨2, _⟩ => ⟨(i 1).val, (i 1).isLt⟩
abbrev ridx_main_v45 (i : S4x256x65x128.Idx) (k : Fin 8320) : S4x65x8320x128.Idx := fun a => match a with
  | ⟨0, _⟩ => ⟨(i 0).val, (i 0).isLt⟩
  | ⟨1, _⟩ => ⟨(i 2).val, (i 2).isLt⟩
  | ⟨2, _⟩ => ⟨k.val, k.isLt⟩
  | ⟨3, _⟩ => ⟨(i 3).val, (i 3).isLt⟩
theorem val_main_v45_apply (x0 : (⟨S8320x7168, .bf16⟩ : BufTy).Contents (Elt Ideal)) (x1 : (⟨S8320x128, .bf16⟩ : BufTy).Contents (Elt Ideal)) (x2 : (⟨S128x512, .bf16⟩ : BufTy).Contents (Elt Ideal)) (x3 : (⟨S1x512, .f32⟩ : BufTy).Contents (Elt Ideal)) (i : S4x256x65x128.Idx) :
    val_main_v45 (F := Ideal) x0 x1 x2 x3 i = ∑ k : Fin 8320, (val_main_v15 (F := Ideal) x0) (lidx_main_v45 i k) * (val_main_v44 (F := Ideal) x0 x1 x2 x3) (ridx_main_v45 i k) := by
  unfold val_main_v45
  generalize val_main_v15 (F := Ideal) x0 = y0
  generalize val_main_v44 (F := Ideal) x0 x1 x2 x3 = y1
  simp only [Host.dotGeneral]
  rw [Ideal.dotGeneral_apply, ← Equiv.sum_comp (ValueIdx.contrEquiv1 dot_S4x8320x256_S4x65x8320x128_S4x256x65x128_1_2_2_13_0_0 8320 rfl rfl).symm]
  refine Finset.sum_congr rfl fun k _ => ?_
  have hk := ValueIdx.contrEquiv1_symm_val dot_S4x8320x256_S4x65x8320x128_S4x256x65x128_1_2_2_13_0_0 8320 rfl rfl k
  have el : dot_S4x8320x256_S4x65x8320x128_S4x256x65x128_1_2_2_13_0_0.lhsIdx i ((ValueIdx.contrEquiv1 dot_S4x8320x256_S4x65x8320x128_S4x256x65x128_1_2_2_13_0_0 8320 rfl rfl).symm k) = lidx_main_v45 i k := funext fun a => Fin.ext (by
    match a with
    | ⟨0, _⟩ => exact lhs_main_v45_0 _ _
    | ⟨1, _⟩ => exact (lhs_main_v45_1 _ _).trans hk
    | ⟨2, _⟩ => exact lhs_main_v45_2 _ _)
  have er : dot_S4x8320x256_S4x65x8320x128_S4x256x65x128_1_2_2_13_0_0.rhsIdx i ((ValueIdx.contrEquiv1 dot_S4x8320x256_S4x65x8320x128_S4x256x65x128_1_2_2_13_0_0 8320 rfl rfl).symm k) = ridx_main_v45 i k := funext fun a => Fin.ext (by
    match a with
    | ⟨0, _⟩ => exact rhs_main_v45_0 _ _
    | ⟨1, _⟩ => exact rhs_main_v45_1 _ _
    | ⟨2, _⟩ => exact (rhs_main_v45_2 _ _).trans hk
    | ⟨3, _⟩ => exact rhs_main_v45_3 _ _)
  rw [el, er]

def val_main_v46 : (⟨S4x65x256x128, .f32⟩ : BufTy).Contents (Elt F) :=
  transpose S4x65x256x128 [0, 2, 1, 3] (val_main_v45 (F := F) x0 x1 x2 x3) transposes_S4x256x65x128_S4x65x256x128_0_2_1_3
abbrev idx_main_v46 (i : S4x65x256x128.Idx) : S4x256x65x128.Idx := fun a => match a with
  | ⟨0, _⟩ => ⟨(i 0).val, (i 0).isLt⟩
  | ⟨1, _⟩ => ⟨(i 2).val, (i 2).isLt⟩
  | ⟨2, _⟩ => ⟨(i 1).val, (i 1).isLt⟩
  | ⟨3, _⟩ => ⟨(i 3).val, (i 3).isLt⟩
theorem val_main_v46_apply (i : S4x65x256x128.Idx) :
    val_main_v46 (F := F) x0 x1 x2 x3 i = val_main_v45 (F := F) x0 x1 x2 x3 (idx_main_v46 i) := by
  unfold val_main_v46
  generalize val_main_v45 (F := F) x0 x1 x2 x3 = y
  exact transpose_apply [0, 2, 1, 3] y transposes_S4x256x65x128_S4x65x256x128_0_2_1_3 i (idx_main_v46 i) (fun b => match b with
    | ⟨0, _⟩ => rfl
    | ⟨1, _⟩ => rfl
    | ⟨2, _⟩ => rfl
    | ⟨3, _⟩ => rfl)

def val_main_v47 : (⟨S65x4x256x128, .f32⟩ : BufTy).Contents (Elt F) :=
  transpose S65x4x256x128 [1, 0, 2, 3] (val_main_v46 (F := F) x0 x1 x2 x3) transposes_S4x65x256x128_S65x4x256x128_1_0_2_3
abbrev idx_main_v47 (i : S65x4x256x128.Idx) : S4x65x256x128.Idx := fun a => match a with
  | ⟨0, _⟩ => ⟨(i 1).val, (i 1).isLt⟩
  | ⟨1, _⟩ => ⟨(i 0).val, (i 0).isLt⟩
  | ⟨2, _⟩ => ⟨(i 2).val, (i 2).isLt⟩
  | ⟨3, _⟩ => ⟨(i 3).val, (i 3).isLt⟩
theorem val_main_v47_apply (i : S65x4x256x128.Idx) :
    val_main_v47 (F := F) x0 x1 x2 x3 i = val_main_v46 (F := F) x0 x1 x2 x3 (idx_main_v47 i) := by
  unfold val_main_v47
  generalize val_main_v46 (F := F) x0 x1 x2 x3 = y
  exact transpose_apply [1, 0, 2, 3] y transposes_S4x65x256x128_S65x4x256x128_1_0_2_3 i (idx_main_v47 i) (fun b => match b with
    | ⟨0, _⟩ => rfl
    | ⟨1, _⟩ => rfl
    | ⟨2, _⟩ => rfl
    | ⟨3, _⟩ => rfl)

def val_main_v48 : (⟨S65x1024x128, .f32⟩ : BufTy).Contents (Elt F) :=
  shapeCast _ (val_main_v47 (F := F) x0 x1 x2 x3) shapeCasts_S65x4x256x128_S65x1024x128
set_option backward.proofsInPublic true in
abbrev idx_main_v48 (i : S65x1024x128.Idx) : S65x4x256x128.Idx := fun a => match a with
  | ⟨0, _⟩ => ⟨(((i 0).val * 1024 + (i 1).val) * 128 + (i 2).val) / 131072, by have h0 : (i 0).val < 65 := (i 0).isLt; have h1 : (i 1).val < 1024 := (i 1).isLt; have h2 : (i 2).val < 128 := (i 2).isLt; show (((i 0).val * 1024 + (i 1).val) * 128 + (i 2).val) / 131072 < 65; omega⟩
  | ⟨1, _⟩ => ⟨(((i 0).val * 1024 + (i 1).val) * 128 + (i 2).val) / 32768 % 4, by have h0 : (i 0).val < 65 := (i 0).isLt; have h1 : (i 1).val < 1024 := (i 1).isLt; have h2 : (i 2).val < 128 := (i 2).isLt; show (((i 0).val * 1024 + (i 1).val) * 128 + (i 2).val) / 32768 % 4 < 4; omega⟩
  | ⟨2, _⟩ => ⟨(((i 0).val * 1024 + (i 1).val) * 128 + (i 2).val) / 128 % 256, by have h0 : (i 0).val < 65 := (i 0).isLt; have h1 : (i 1).val < 1024 := (i 1).isLt; have h2 : (i 2).val < 128 := (i 2).isLt; show (((i 0).val * 1024 + (i 1).val) * 128 + (i 2).val) / 128 % 256 < 256; omega⟩
  | ⟨3, _⟩ => ⟨(((i 0).val * 1024 + (i 1).val) * 128 + (i 2).val) % 128, by have h0 : (i 0).val < 65 := (i 0).isLt; have h1 : (i 1).val < 1024 := (i 1).isLt; have h2 : (i 2).val < 128 := (i 2).isLt; show (((i 0).val * 1024 + (i 1).val) * 128 + (i 2).val) % 128 < 128; omega⟩
theorem val_main_v48_apply (i : S65x1024x128.Idx) :
    val_main_v48 (F := F) x0 x1 x2 x3 i = val_main_v47 (F := F) x0 x1 x2 x3 (idx_main_v48 i) := by
  unfold val_main_v48
  generalize val_main_v47 (F := F) x0 x1 x2 x3 = y
  exact shapeCast_apply y shapeCasts_S65x4x256x128_S65x1024x128 i (idx_main_v48 i)
    (by rewrite [Shape.rowMajor_val_four, Shape.rowMajor_val_three]; have h0 : (i 0).val < 65 := (i 0).isLt; have h1 : (i 1).val < 1024 := (i 1).isLt; have h2 : (i 2).val < 128 := (i 2).isLt; show (((((i 0).val * 1024 + (i 1).val) * 128 + (i 2).val) / 131072 * 4 + (((i 0).val * 1024 + (i 1).val) * 128 + (i 2).val) / 32768 % 4) * 256 + (((i 0).val * 1024 + (i 1).val) * 128 + (i 2).val) / 128 % 256) * 128 + (((i 0).val * 1024 + (i 1).val) * 128 + (i 2).val) % 128 = ((i 0).val * 1024 + (i 1).val) * 128 + (i 2).val; omega)

end Cert.Gla.Host
-- ==== Proof.Running.lean ====
/- The running sums along the rows of a table, forwards and backwards. -/
module

public import proofs.«01_k».proof.Proof.Coe
public import Idealize.ShloMosaic.Lib.Routing.OpsOne

@[expose] public section

noncomputable section

namespace Cert.Gla

open Idealize.ShloMosaic Idealize.ShloMosaic.ValueIdx
open scoped BigOperators

theorem foldl_plus {α : Type} (g : α → EReal) : ∀ (l : List α) (v : EReal), l.foldl (fun r n => r + g n) v = v + (l.map g).sum
  | [], v => by simp
  | a :: l, v => by simp [foldl_plus g l, add_assoc]

theorem window_sum {R C lo hi : ℕ} (f : ℕ → ℕ → ℝ) (init : FVec Ideal ⟨0, ![]⟩ .f32) (hu : 0 < (⟨0, ![]⟩ : Shape).numel) (hi0 : init (Shape.Idx.first hu) = ((0 : ℝ) : EReal))
    (h : (⟨2, ![R, C]⟩ : Shape).ReduceWindows (![R, 1] : Fin 2 → ℕ) ![1, 1] ![lo, 0] ![hi, 0] ⟨2, ![R, C]⟩) (t : Fin R) (c : Fin C) :
    Host.reduceWindowAdd (F := Ideal) ![R, 1] ![1, 1] ![lo, 0] ![hi, 0] (uf fun (i : Fin R) (j : Fin C) => f i j) init h hu (ix2 t c)
      = ((∑ n ∈ Finset.range R, if lo ≤ t + n ∧ t + n - lo < R then f (t + n - lo) c else 0 : ℝ) : EReal) := by
  have hn : (⟨2, ![R, 1]⟩ : Shape).numel = R := (Shape.numel_rank2 _).trans (Nat.mul_one R)
  show Host.reduceWindow (α := EReal) (fun a b => a + b) ![R, 1] ![1, 1] ![lo, 0] ![hi, 0] (uf fun (i : Fin R) (j : Fin C) => f i j) (fun _ : (⟨0, ![]⟩ : Shape).Idx => init (Shape.Idx.first hu)) h hu (ix2 t c) = _
  unfold Host.reduceWindow
  dsimp only
  rw [foldl_plus, hi0, ← Fin.sum_univ_def, EReal.coe_zero, zero_add, coe_sum, ← Fin.sum_univ_eq_sum_range (fun n => ((if lo ≤ t + n ∧ t + n - lo < R then f (t + n - lo) c else 0 : ℝ) : EReal))]
  refine Fintype.sum_equiv (finCongr hn) _ _ fun n => ?_
  have hw0 : ((⟨2, ![R, 1]⟩ : Shape).rowMajor.symm n 0).val = n.val := by rw [Routing.symm_col]; rfl
  have hw1 : ((⟨2, ![R, 1]⟩ : Shape).rowMajor.symm n 1).val = 0 := by rw [Routing.symm_col]; rfl
  have hc := c.isLt
  show _ = ((if lo ≤ t + n.val ∧ t + n.val - lo < R then f (t + n.val - lo) c else 0 : ℝ) : EReal)
  split
  · next hin =>
    have h0 := hin 0
    change lo ≤ t.val * 1 + ((⟨2, ![R, 1]⟩ : Shape).rowMajor.symm n 0).val
      ∧ t.val * 1 + ((⟨2, ![R, 1]⟩ : Shape).rowMajor.symm n 0).val - lo < R at h0
    rw [hw0, Nat.mul_one] at h0
    rw [if_pos h0]
    show ((f (t.val * 1 + ((⟨2, ![R, 1]⟩ : Shape).rowMajor.symm n 0).val - lo) (c.val * 1 + ((⟨2, ![R, 1]⟩ : Shape).rowMajor.symm n 1).val - 0) : ℝ) : EReal) = _
    rw [hw0, hw1]
    simp
  · next hin =>
    rw [if_neg, EReal.coe_zero]
    rintro ⟨h1, h2⟩
    refine hin fun a => ?_
    match a with
    | ⟨0, _⟩ =>
      show lo ≤ t.val * 1 + ((⟨2, ![R, 1]⟩ : Shape).rowMajor.symm n 0).val
        ∧ t.val * 1 + ((⟨2, ![R, 1]⟩ : Shape).rowMajor.symm n 0).val - lo < R
      rw [hw0]
      omega
    | ⟨1, _⟩ =>
      show 0 ≤ c.val * 1 + ((⟨2, ![R, 1]⟩ : Shape).rowMajor.symm n 1).val ∧ c.val * 1 + ((⟨2, ![R, 1]⟩ : Shape).rowMajor.symm n 1).val - 0 < C
      rw [hw1]
      omega

theorem run_fwd (f : ℕ → ℝ) (R t : ℕ) (ht : t < R) :
    (∑ n ∈ Finset.range R, if R - 1 ≤ t + n ∧ t + n - (R - 1) < R then f (t + n - (R - 1)) else 0) = ∑ i ∈ Finset.range (t + 1), f i := by
  obtain ⟨k, rfl⟩ : ∃ k, R = k + (t + 1) := ⟨R - (t + 1), by omega⟩
  rw [Finset.sum_range_add, Finset.sum_eq_zero, zero_add]
  · refine Finset.sum_congr rfl fun i hi => ?_
    have := Finset.mem_range.mp hi
    rw [if_pos (by omega)]
    congr 1
    omega
  · intro i hi
    have := Finset.mem_range.mp hi
    rw [if_neg (by omega)]

theorem run_rev (f : ℕ → ℝ) (R t : ℕ) (ht : t < R) :
    (∑ n ∈ Finset.range R, if 0 ≤ t + n ∧ t + n - 0 < R then f (t + n - 0) else 0) = ∑ s ∈ Finset.Ico t R, f s := by
  obtain ⟨k, rfl⟩ : ∃ k, R = k + t := ⟨R - t, by omega⟩
  rw [Finset.sum_range_add, Finset.sum_Ico_eq_sum_range, Nat.add_sub_cancel]
  rw [Finset.sum_eq_zero (s := Finset.range t), add_zero]
  · refine Finset.sum_congr rfl fun i hi => ?_
    have := Finset.mem_range.mp hi
    rw [if_pos (by omega)]
    congr 1
  · intro i hi
    rw [if_neg (by omega)]

end Cert.Gla
-- ==== Proof.Scalars.lean ====
/- The scalar functions of the log decay, and the causal mask's bit. -/
module

public import proofs.«01_k».proof.Proof.Payloads

@[expose] public section

noncomputable section

namespace Cert.Gla

open Idealize.ShloMosaic
open scoped BigOperators

theorem selE (p : Prop) [Decidable p] (a b : ℝ) : Scalar.select (if p then 1#1 else 0#1) ((a : ℝ) : EReal) ((b : ℝ) : EReal) = ((if p then a else b : ℝ) : EReal) := by
  by_cases h : p <;> simp [Scalar.select, h]
theorem maskE (a b : ℕ) (ha : a < 2 ^ 31) (hb : b < 2 ^ 31) :
    Scalar.select (IntOp.cmpi .sge (IntOp.addi (BitVec.ofNat 32 a) 0#32) (BitVec.ofNat 32 b)) (1#1) (0#1) = if b ≤ a then 1#1 else 0#1 := by
  have e (n : ℕ) (h : n < 2 ^ 31) : (BitVec.ofNat 32 n).toInt = n := by
    rw [BitVec.toInt_eq_toNat_of_lt] <;> rw [BitVec.toNat_ofNat, Nat.mod_eq_of_lt (by omega)]
    omega
  have q : (BitVec.ofNat 32 b).sle (BitVec.ofNat 32 a) = decide (b ≤ a) := by
    rw [BitVec.sle, e a ha, e b hb]; simp
  simp only [IntOp.cmpi, IntOp.addi, BitVec.add_zero, q, Scalar.select]
  by_cases h : b ≤ a <;> simp [h]
theorem ofBits_zero : (FloatOps.ofBits (F := Ideal) .f32 0x00000000#32 : EReal) = ((0 : ℝ) : EReal) := by
  show Ideal.ofBits .f32 _ = _
  simp [Ideal.ofBits, Ideal.ieee]
theorem div16 (a : ℝ) : FloatOps.hostDivf (F := Ideal) (φ := .f32) ((a : ℝ) : EReal) ((16 : ℝ) : EReal) = ((a * (1 / 16) : ℝ) : EReal) := by
  show Ideal.div _ _ = _
  unfold Ideal.div
  rw [if_neg (by exact_mod_cast (by norm_num : (16 : ℝ) ≠ 0)), ← EReal.coe_inv, ← EReal.coe_mul]
  congr 2
  norm_num
theorem coe_max' (a b : ℝ) : ((max a b : ℝ) : EReal) = max ((a : ℝ) : EReal) ((b : ℝ) : EReal) :=
  EReal.coe_strictMono.monotone.map_max
theorem softplusE (z : ℝ) :
    Scalar.select (FloatOps.cmpf (F := Ideal) (φ := .f32) .une (FloatOps.subf (FloatOps.hostNegf ((z : ℝ) : EReal)) (FloatOps.ofBits .f32 0x00000000#32)) (FloatOps.subf (FloatOps.hostNegf ((z : ℝ) : EReal)) (FloatOps.ofBits .f32 0x00000000#32)))
      (FloatOps.addf (FloatOps.hostNegf ((z : ℝ) : EReal)) (FloatOps.ofBits .f32 0x00000000#32))
      (FloatOps.addf (FloatOps.maximumf (FloatOps.hostNegf ((z : ℝ) : EReal)) (FloatOps.ofBits .f32 0x00000000#32))
        (FloatOps.hostUnary (F := Ideal) (φ := .f32) .log1p (FloatOps.hostUnary .exp (FloatOps.hostNegf (FloatOps.hostAbsf (FloatOps.subf (FloatOps.hostNegf ((z : ℝ) : EReal)) (FloatOps.ofBits .f32 0x00000000#32)))))))
      = ((-ls z : ℝ) : EReal) := by
  have e0 : (FloatOps.subf (F := Ideal) (φ := .f32) (FloatOps.hostNegf ((z : ℝ) : EReal)) (FloatOps.ofBits .f32 0x00000000#32) : EReal) = ((-z : ℝ) : EReal) := by
    rw [ofBits_zero]
    show ((-z : ℝ) : EReal) - ((0 : ℝ) : EReal) = _
    rw [← EReal.coe_sub, sub_zero]
  rw [e0]
  have e1 : (FloatOps.cmpf (F := Ideal) (φ := .f32) .une (((-z : ℝ) : EReal)) (((-z : ℝ) : EReal)) : BitVec 1) = 0#1 := by
    show BitVec.ofBool (decide (((-z : ℝ) : EReal) ≠ ((-z : ℝ) : EReal))) = 0#1
    simp
  rw [e1, ofBits_zero]
  show (max ((-z : ℝ) : EReal) ((0 : ℝ) : EReal)) + Ideal.log (1 + Ideal.exp (-(max ((-z : ℝ) : EReal) (-((-z : ℝ) : EReal))))) = _
  have e2 : max ((-z : ℝ) : EReal) (-((-z : ℝ) : EReal)) = ((|z| : ℝ) : EReal) := by
    rw [← EReal.coe_neg, ← coe_max', neg_neg, max_comm]
    rfl
  have e3 : (1 : EReal) + Ideal.exp (-((|z| : ℝ) : EReal)) = ((1 + Real.exp (0 - |z|) : ℝ) : EReal) := by
    rw [zero_sub]
    rfl
  rw [e2, e3]
  have e4 : Ideal.log ((1 + Real.exp (0 - |z|) : ℝ) : EReal) = ((Real.log (1 + Real.exp (0 - |z|)) : ℝ) : EReal) := by
    have hp : ¬ (1 + Real.exp (0 - |z|) ≤ 0) := not_le.mpr (by positivity)
    show (if _ then _ else _) = _
    rw [if_neg hp]
  rw [e4, ← coe_max', ← EReal.coe_add]
  congr 1
  unfold ls
  have : max (-z) 0 = -min z 0 := by
    rcases le_total z 0 with h | h
    · rw [min_eq_left h, max_eq_left (by linarith)]
    · rw [min_eq_right h, max_eq_right (by linarith), neg_zero]
  rw [this]
  ring
/-- The logistic function of the opposite, from the logarithm of the logistic. -/
theorem dls_eq (z : ℝ) : Real.exp (-z + ls z) = dls z := by
  have hz := Real.exp_pos z
  have hl : Real.exp (ls z) = Real.exp z / (1 + Real.exp z) := by
    unfold ls
    rw [Real.exp_sub, Real.exp_log (by positivity)]
    rcases le_total z 0 with h | h
    · rw [min_eq_left h, abs_of_nonpos h, zero_sub, neg_neg]
    · rw [min_eq_right h, abs_of_nonneg h, zero_sub, Real.exp_neg, Real.exp_zero]
      field_simp
      ring
  rw [Real.exp_add, hl, Real.exp_neg]
  have ht : dls z = 1 / (1 + Real.exp z) := by
    unfold dls
    rw [Real.tanh_eq_sinh_div_cosh, Real.sinh_eq, Real.cosh_eq]
    have e : Real.exp z = Real.exp (1 / 2 * z) * Real.exp (1 / 2 * z) := by rw [← Real.exp_add]; congr 1; ring
    have p := Real.exp_pos (1 / 2 * z)
    have n1 : 1 / 2 * (0 - z) = -(1 / 2 * z) := by ring
    rw [n1, neg_neg, Real.exp_neg, e]
    field_simp
    ring
  rw [ht]
  field_simp

theorem residE (z : ℝ) :
    FloatOps.hostUnary (F := Ideal) (φ := .f32) .exp (FloatOps.subf
      (Scalar.select (FloatOps.cmpf (F := Ideal) (φ := .f32) .oeq (FloatOps.hostNegf ((z : ℝ) : EReal)) (FloatOps.ofBits .f32 0x7F800000#32)) (FloatOps.ofBits .f32 0x00000000#32) (FloatOps.hostNegf ((z : ℝ) : EReal)))
      (Scalar.select (FloatOps.cmpf (F := Ideal) (φ := .f32) .oeq ((-ls z : ℝ) : EReal) (FloatOps.ofBits .f32 0x7F800000#32)) (FloatOps.ofBits .f32 0x00000000#32) ((-ls z : ℝ) : EReal)))
      = ((dls z : ℝ) : EReal) := by
  have ht : (FloatOps.ofBits (F := Ideal) .f32 0x7F800000#32 : EReal) = ⊤ := by
    show Ideal.ofBits .f32 _ = _
    simp [Ideal.ofBits, Ideal.ieee]
  have hs (r : ℝ) (w : EReal) : Scalar.select (FloatOps.cmpf (F := Ideal) (φ := .f32) .oeq ((r : ℝ) : EReal) ⊤) w ((r : ℝ) : EReal) = ((r : ℝ) : EReal) := by
    show Scalar.select (BitVec.ofBool (decide (((r : ℝ) : EReal) = ⊤))) _ _ = _
    rw [decide_eq_false (EReal.coe_ne_top r)]
    rfl
  rw [ht]
  have e : (FloatOps.hostNegf (F := Ideal) (φ := .f32) ((z : ℝ) : EReal) : EReal) = ((-z : ℝ) : EReal) := rfl
  rw [e, hs, hs, ← dls_eq]
  show Ideal.exp (((-z : ℝ) : EReal) - ((-ls z : ℝ) : EReal)) = _
  rw [← EReal.coe_sub, sub_neg_eq_add]
  rfl

end Cert.Gla
-- ==== Proof.Ref.lean ====
/- The plain gradient, read step by step on tables of real numbers: `t_vN` is the table the reference's value `N` holds. -/
module

public import proofs.«01_k».proof.Proof.Chunk
public import proofs.«01_k».proof.Proof.Running
public import proofs.«01_k».proof.Proof.Scalars
public import proofs.«01_k».proof.Proof.Gen.ReferenceIdeal.Read

@[expose] public section

set_option maxRecDepth 20000

noncomputable section

namespace Cert.Gla

open Idealize.ShloMosaic Cert.ReferenceIdeal Cert.ReferenceIdeal.Gen Cert.ReferenceIdeal.Read
open scoped BigOperators

/-- A real-valued array of any shape. -/
def T {s : Shape} {φ : FTy} (f : s.Idx → ℝ) : FVec Ideal s φ := fun i => ((f i : ℝ) : EReal)

abbrev X0 (Pm : ℕ → ℕ → ℝ) : FVec Ideal S8320x7168 .bf16 := ub fun i j => Pm i j
abbrev X1 (Am : ℕ → ℕ → ℝ) : FVec Ideal S8320x128 .bf16 := ub fun i j => Am i j
abbrev X2 (Wm : ℕ → ℕ → ℝ) : FVec Ideal S128x512 .bf16 := ub fun i j => Wm i j
abbrev X3 (Bm : ℕ → ℝ) : FVec Ideal S1x512 .f32 := uf fun _ j => Bm j
abbrev X4 (Gm : ℕ → ℕ → ℝ) : FVec Ideal S8320x1024 .bf16 := ub fun i j => Gm i j

theorem cg2 (f : ℕ → ℕ → ℝ) {a b a' b' : ℕ} (ha : a = a') (hb : b = b') : ((f a b : ℝ) : EReal) = ((f a' b' : ℝ) : EReal) := by rw [ha, hb]
theorem cg3 (f : ℕ → ℕ → ℕ → ℝ) {a b c a' b' c' : ℕ} (ha : a = a') (hb : b = b') (hc : c = c') : ((f a b c : ℝ) : EReal) = ((f a' b' c' : ℝ) : EReal) := by rw [ha, hb, hc]
theorem one_sum (f : Fin 1 → ℝ) (r : ℝ) (h : f 0 = r := by rfl) : ((0 : ℝ) : EReal) + ∑ k : Fin 1, ((f k : ℝ) : EReal) = ((r : ℝ) : EReal) := by
  rw [EReal.coe_zero, zero_add, Fin.sum_univ_one, h]
theorem sumE (n : ℕ) (f : ℕ → ℝ) : ((0 : ℝ) : EReal) + ∑ k : Fin n, ((f k : ℝ) : EReal) = ((∑ k ∈ Finset.range n, f k : ℝ) : EReal) := by
  rw [EReal.coe_zero, zero_add, ← coe_sum, Finset.sum_range]
theorem dotE (n : ℕ) (f g : ℕ → ℝ) : ∑ k : Fin n, ((f k : ℝ) : EReal) * ((g k : ℝ) : EReal) = ((∑ k ∈ Finset.range n, f k * g k : ℝ) : EReal) := by
  rw [Finset.sum_range, coe_sum]
  rfl

variable (Pm Am Wm : ℕ → ℕ → ℝ) (Bm : ℕ → ℝ) (Gm : ℕ → ℕ → ℝ)

def t_v0 (i0 i1 : ℕ) : ℝ := Pm i0 i1
theorem r_v0 : val_main_v0 (F := Ideal) (X0 Pm) = T (s := S8320x7168) (φ := .f32) fun i => (t_v0 Pm) (i 0).val (i 1).val := by
  funext i
  rw [val_main_v0_apply]
  try rfl

def t_v1 (i0 i1 : ℕ) : ℝ := (t_v0 Pm) (i0) (i1)
theorem r_v1 : val_main_v1 (F := Ideal) (X0 Pm) = T (s := S8320x512) (φ := .f32) fun i => (t_v1 Pm) (i 0).val (i 1).val := by
  funext i
  rw [val_main_v1_apply, r_v0]
  try rfl

def t_v2 (i0 i1 : ℕ) : ℝ := (t_v0 Pm) (i0) (512 + i1)
theorem r_v2 : val_main_v2 (F := Ideal) (X0 Pm) = T (s := S8320x512) (φ := .f32) fun i => (t_v2 Pm) (i 0).val (i 1).val := by
  funext i
  rw [val_main_v2_apply, r_v0]
  try rfl

def t_v3 (i0 i1 : ℕ) : ℝ := (t_v0 Pm) (i0) (1024 + i1)
theorem r_v3 : val_main_v3 (F := Ideal) (X0 Pm) = T (s := S8320x1024) (φ := .f32) fun i => (t_v3 Pm) (i 0).val (i 1).val := by
  funext i
  rw [val_main_v3_apply, r_v0]
  try rfl

def t_v4 (i0 i1 : ℕ) : ℝ := Am i0 i1
theorem r_v4 : val_main_v4 (F := Ideal) (X1 Am) = T (s := S8320x128) (φ := .f32) fun i => (t_v4 Am) (i 0).val (i 1).val := by
  funext i
  rw [val_main_v4_apply]
  try rfl

def t_v5 (i0 i1 : ℕ) : ℝ := Wm i0 i1
theorem r_v5 : val_main_v5 (F := Ideal) (X2 Wm) = T (s := S128x512) (φ := .f32) fun i => (t_v5 Wm) (i 0).val (i 1).val := by
  funext i
  rw [val_main_v5_apply]
  try rfl

def t_v6 (i0 i1 : ℕ) : ℝ := (fun (_ j : ℕ) => Bm j) (0) (i1)
theorem r_v6 : val_main_v6 (F := Ideal) (X3 Bm) = T (s := S8x512) (φ := .f32) fun i => (t_v6 Bm) (i 0).val (i 1).val := by
  funext i
  rw [val_main_v6_apply]
  try rfl

def t_v7 (i0 i1 i2 : ℕ) : ℝ := (t_v6 Bm) (i1) (i2)
theorem r_v7 : val_main_v7 (F := Ideal) (X3 Bm) = T (s := S1x8x512) (φ := .f32) fun i => (t_v7 Bm) (i 0).val (i 1).val (i 2).val := by
  funext i
  rw [val_main_v7_apply, r_v6]
  try rfl

def t_v8 (i0 i1 i2 : ℕ) : ℝ := (t_v7 Bm) (0) (i1) (i2)
theorem r_v8 : val_main_v8 (F := Ideal) (X3 Bm) = T (s := S1040x8x512) (φ := .f32) fun i => (t_v8 Bm) (i 0).val (i 1).val (i 2).val := by
  funext i
  rw [val_main_v8_apply, r_v7]
  try rfl

def t_v9 (i0 i1 : ℕ) : ℝ := (t_v8 Bm) (i0/8) (i0%8) (i1)
theorem r_v9 : val_main_v9 (F := Ideal) (X3 Bm) = T (s := S8320x512) (φ := .f32) fun i => (t_v9 Bm) (i 0).val (i 1).val := by
  funext i
  rw [val_main_v9_apply, r_v8]
  have h0 : (i 0).val < 8320 := (i 0).isLt
  have h1 : (i 1).val < 512 := (i 1).isLt
  exact cg3 (t_v8 Bm) (show (((i 0).val * 512 + (i 1).val) / 4096 : ℕ) = (i 0).val/8 by omega) (show (((i 0).val * 512 + (i 1).val) / 512 % 8 : ℕ) = (i 0).val%8 by omega) (show (((i 0).val * 512 + (i 1).val) % 512 : ℕ) = (i 1).val by omega)

def t_v10 (i0 i1 : ℕ) : ℝ := ∑ k ∈ Finset.range 128, (t_v4 Am) (i0) (k) * (t_v5 Wm) (k) (i1)
theorem r_v10 : val_main_v10 (F := Ideal) (X1 Am) (X2 Wm) = T (s := S8320x512) (φ := .f32) fun i => (t_v10 Am Wm) (i 0).val (i 1).val := by
  funext i
  rw [val_main_v10_apply, r_v4, r_v5]
  exact dotE 128 (fun k => (t_v4 Am) ((i 0).val) (k)) fun k => (t_v5 Wm) (k) ((i 1).val)

def t_v11 (i0 i1 : ℕ) : ℝ := (t_v10 Am Wm) i0 i1 + (t_v9 Bm) i0 i1
theorem r_v11 : val_main_v11 (F := Ideal) (X1 Am) (X2 Wm) (X3 Bm) = T (s := S8320x512) (φ := .f32) fun i => (t_v11 Am Wm Bm) (i 0).val (i 1).val := by
  funext i
  rw [val_main_v11_apply, r_v10, r_v9]
  try rfl

def t_v12_0 (i0 i1 : ℕ) : ℝ := ls (t_v11 Am Wm Bm i0 i1)
def t_v12_1 (i0 i1 : ℕ) : ℝ := dls (t_v11 Am Wm Bm i0 i1)
theorem r_sp : val_main_call0_v1_0 (F := Ideal) (X1 Am) (X2 Wm) (X3 Bm) = T (s := S8320x512) (φ := .f32) fun i => -ls (t_v11 Am Wm Bm (i 0).val (i 1).val) := by
  funext i
  rw [val_main_call0_v1_0_apply, val_main_call0_call0_v4_apply, val_main_call0_call0_v6_apply, val_main_call0_call0_v11_apply, val_main_call0_call0_v1_apply, val_main_call0_call0_v10_apply, val_main_call0_call0_v9_apply, val_main_call0_call0_v8_apply, val_main_call0_call0_v7_apply, val_main_call0_call0_v3_apply, val_main_call0_v0_apply]
  rw [val_main_call0_call0_v2_apply, val_main_call0_call0_v5_apply, val_main_call0_call0_v0_apply, val_main_call0_call0_cst_apply, r_v11]
  exact softplusE _
theorem r_v12_0 : val_main_v12_0 (F := Ideal) (X1 Am) (X2 Wm) (X3 Bm) = T (s := S8320x512) (φ := .f32) fun i => t_v12_0 Am Wm Bm (i 0).val (i 1).val := by
  funext i
  rw [val_main_v12_0_apply, r_sp]
  show ((-(-ls _) : ℝ) : EReal) = ((ls _ : ℝ) : EReal)
  rw [neg_neg]
theorem r_v12_1 : val_main_v12_1 (F := Ideal) (X1 Am) (X2 Wm) (X3 Bm) = T (s := S8320x512) (φ := .f32) fun i => t_v12_1 Am Wm Bm (i 0).val (i 1).val := by
  funext i
  rw [val_main_v12_1_apply, val_main_call0_call0_v21_apply, val_main_call0_call0_v16_apply, val_main_call0_call0_v20_apply, val_main_call0_call0_v14_apply, val_main_call0_call0_v18_apply, val_main_call0_v0_apply, r_sp, r_v11,
    val_main_call0_call0_v13_apply, val_main_call0_call0_v15_apply, val_main_call0_call0_v17_apply, val_main_call0_call0_v19_apply, val_main_call0_call0_cst_0_apply, val_main_call0_call0_cst_1_apply, val_main_call0_call0_cst_2_apply, val_main_call0_call0_cst_3_apply]
  exact residE _

def t_cst : ℝ := 16
theorem r_cst : val_main_cst (F := Ideal)  = T (s := S_) (φ := .f32) fun i => t_cst := by
  funext i
  exact ofBits_sixteen

def t_v13 (i0 i1 : ℕ) : ℝ := t_cst
theorem r_v13 : val_main_v13 (F := Ideal)  = T (s := S8320x512) (φ := .f32) fun i => t_v13 (i 0).val (i 1).val := by
  funext i
  rw [val_main_v13_apply, r_cst]
  try rfl

def t_v14 (i0 i1 : ℕ) : ℝ := (t_v12_0 Am Wm Bm) i0 i1 * (1 / 16)
theorem r_v14 : val_main_v14 (F := Ideal) (X1 Am) (X2 Wm) (X3 Bm) = T (s := S8320x512) (φ := .f32) fun i => (t_v14 Am Wm Bm) (i 0).val (i 1).val := by
  funext i
  rw [val_main_v14_apply, r_v12_0, r_v13]
  exact div16 _

def t_call1_call0_cst : ℝ := 0
theorem r_call1_call0_cst : val_main_call1_call0_cst (F := Ideal)  = T (s := S_) (φ := .f32) fun i => t_call1_call0_cst := by
  funext i
  exact ofBits_zero

def t_call1_call0_v0 : ℝ := t_call1_call0_cst
theorem r_call1_call0_v0 : val_main_call1_call0_v0 (F := Ideal)  = T (s := S_) (φ := .f32) fun i => t_call1_call0_v0 := by
  funext i
  rw [val_main_call1_call0_v0_apply, r_call1_call0_cst]
  try rfl

def t_v15 (i0 i1 : ℕ) : ℝ := ∑ s ∈ Finset.range (i0 + 1), t_v14 Am Wm Bm s i1
theorem r_v15 : val_main_v15 (F := Ideal) (X1 Am) (X2 Wm) (X3 Bm) = T (s := S8320x512) (φ := .f32) fun i => t_v15 Am Wm Bm (i 0).val (i 1).val := by
  funext i
  obtain ⟨t, c, rfl⟩ : ∃ (t : Fin 8320) (c : Fin 512), i = ValueIdx.ix2 t c := ⟨i 0, i 1, ValueIdx.eq_ix2 i⟩
  unfold val_main_v15
  rw [r_v14]
  refine (window_sum (R := 8320) (C := 512) (lo := 8319) (hi := 0) (t_v14 Am Wm Bm) _ h_S_ ?_ _ t c).trans ?_
  · rw [r_call1_call0_v0]; rfl
  · exact congrArg _ (run_fwd (fun s => t_v14 Am Wm Bm s c) 8320 t.val t.isLt)

def t_v16 (i0 i1 i2 : ℕ) : ℝ := (t_v1 Pm) (i0) (128*i1+i2)
theorem r_v16 : val_main_v16 (F := Ideal) (X0 Pm) = T (s := S8320x4x128) (φ := .f32) fun i => (t_v16 Pm) (i 0).val (i 1).val (i 2).val := by
  funext i
  rw [val_main_v16_apply, r_v1]
  have h0 : (i 0).val < 8320 := (i 0).isLt
  have h1 : (i 1).val < 4 := (i 1).isLt
  have h2 : (i 2).val < 128 := (i 2).isLt
  exact cg2 (t_v1 Pm) (show ((((i 0).val * 4 + (i 1).val) * 128 + (i 2).val) / 512 : ℕ) = (i 0).val by omega) (show ((((i 0).val * 4 + (i 1).val) * 128 + (i 2).val) % 512 : ℕ) = 128*(i 1).val+(i 2).val by omega)

def t_v17 (i0 i1 i2 : ℕ) : ℝ := (t_v16 Pm) (i1) (i0) (i2)
theorem r_v17 : val_main_v17 (F := Ideal) (X0 Pm) = T (s := S4x8320x128) (φ := .f32) fun i => (t_v17 Pm) (i 0).val (i 1).val (i 2).val := by
  funext i
  rw [val_main_v17_apply, r_v16]
  try rfl

def t_cst_0 : ℝ := sc
theorem r_cst_0 : val_main_cst_0 (F := Ideal)  = T (s := S_) (φ := .f32) fun i => t_cst_0 := by
  funext i
  exact ofBits_sc

def t_v18 (i0 i1 i2 : ℕ) : ℝ := t_cst_0
theorem r_v18 : val_main_v18 (F := Ideal)  = T (s := S4x8320x128) (φ := .f32) fun i => t_v18 (i 0).val (i 1).val (i 2).val := by
  funext i
  rw [val_main_v18_apply, r_cst_0]
  try rfl

def t_v19 (i0 i1 i2 : ℕ) : ℝ := (t_v17 Pm) i0 i1 i2 * t_v18 i0 i1 i2
theorem r_v19 : val_main_v19 (F := Ideal) (X0 Pm) = T (s := S4x8320x128) (φ := .f32) fun i => (t_v19 Pm) (i 0).val (i 1).val (i 2).val := by
  funext i
  rw [val_main_v19_apply, r_v17, r_v18]
  try rfl

def t_v20 (i0 i1 i2 : ℕ) : ℝ := (t_v2 Pm) (i0) (128*i1+i2)
theorem r_v20 : val_main_v20 (F := Ideal) (X0 Pm) = T (s := S8320x4x128) (φ := .f32) fun i => (t_v20 Pm) (i 0).val (i 1).val (i 2).val := by
  funext i
  rw [val_main_v20_apply, r_v2]
  have h0 : (i 0).val < 8320 := (i 0).isLt
  have h1 : (i 1).val < 4 := (i 1).isLt
  have h2 : (i 2).val < 128 := (i 2).isLt
  exact cg2 (t_v2 Pm) (show ((((i 0).val * 4 + (i 1).val) * 128 + (i 2).val) / 512 : ℕ) = (i 0).val by omega) (show ((((i 0).val * 4 + (i 1).val) * 128 + (i 2).val) % 512 : ℕ) = 128*(i 1).val+(i 2).val by omega)

def t_v21 (i0 i1 i2 : ℕ) : ℝ := (t_v20 Pm) (i1) (i0) (i2)
theorem r_v21 : val_main_v21 (F := Ideal) (X0 Pm) = T (s := S4x8320x128) (φ := .f32) fun i => (t_v21 Pm) (i 0).val (i 1).val (i 2).val := by
  funext i
  rw [val_main_v21_apply, r_v20]
  try rfl

def t_v22 (i0 i1 i2 : ℕ) : ℝ := (t_v3 Pm) (i0) (256*i1+i2)
theorem r_v22 : val_main_v22 (F := Ideal) (X0 Pm) = T (s := S8320x4x256) (φ := .f32) fun i => (t_v22 Pm) (i 0).val (i 1).val (i 2).val := by
  funext i
  rw [val_main_v22_apply, r_v3]
  have h0 : (i 0).val < 8320 := (i 0).isLt
  have h1 : (i 1).val < 4 := (i 1).isLt
  have h2 : (i 2).val < 256 := (i 2).isLt
  exact cg2 (t_v3 Pm) (show ((((i 0).val * 4 + (i 1).val) * 256 + (i 2).val) / 1024 : ℕ) = (i 0).val by omega) (show ((((i 0).val * 4 + (i 1).val) * 256 + (i 2).val) % 1024 : ℕ) = 256*(i 1).val+(i 2).val by omega)

def t_v23 (i0 i1 i2 : ℕ) : ℝ := (t_v22 Pm) (i1) (i0) (i2)
theorem r_v23 : val_main_v23 (F := Ideal) (X0 Pm) = T (s := S4x8320x256) (φ := .f32) fun i => (t_v23 Pm) (i 0).val (i 1).val (i 2).val := by
  funext i
  rw [val_main_v23_apply, r_v22]
  try rfl

def t_v24 (i0 i1 i2 : ℕ) : ℝ := (t_v15 Am Wm Bm) (i0) (128*i1+i2)
theorem r_v24 : val_main_v24 (F := Ideal) (X1 Am) (X2 Wm) (X3 Bm) = T (s := S8320x4x128) (φ := .f32) fun i => (t_v24 Am Wm Bm) (i 0).val (i 1).val (i 2).val := by
  funext i
  rw [val_main_v24_apply, r_v15]
  have h0 : (i 0).val < 8320 := (i 0).isLt
  have h1 : (i 1).val < 4 := (i 1).isLt
  have h2 : (i 2).val < 128 := (i 2).isLt
  exact cg2 (t_v15 Am Wm Bm) (show ((((i 0).val * 4 + (i 1).val) * 128 + (i 2).val) / 512 : ℕ) = (i 0).val by omega) (show ((((i 0).val * 4 + (i 1).val) * 128 + (i 2).val) % 512 : ℕ) = 128*(i 1).val+(i 2).val by omega)

def t_v25 (i0 i1 i2 : ℕ) : ℝ := (t_v24 Am Wm Bm) (i1) (i0) (i2)
theorem r_v25 : val_main_v25 (F := Ideal) (X1 Am) (X2 Wm) (X3 Bm) = T (s := S4x8320x128) (φ := .f32) fun i => (t_v25 Am Wm Bm) (i 0).val (i 1).val (i 2).val := by
  funext i
  rw [val_main_v25_apply, r_v24]
  try rfl

theorem r_v28 : val_main_v28 (F := Ideal) = fun i : S8320x8320x1.Idx => if (i 1).val ≤ (i 0).val then 1#1 else 0#1 := by
  funext i
  rw [val_main_v28_apply, val_main_v27_apply, val_main_call2_v4_apply, val_main_call2_v2_apply, val_main_call2_v0_apply, val_main_call2_v1_apply, val_main_call2_c_apply, val_main_call2_v3_apply, val_main_v26_apply, val_main_c_apply, val_main_call2_v5_apply, val_main_call2_c_0_apply]
  exact maskE (i 0).val (i 1).val (lt_trans (i 0).isLt (by decide)) (lt_trans (i 1).isLt (by decide))
theorem r_v34_1 : val_main_v34_1 (F := Ideal) = fun i : S4x8320x8320x128.Idx => if (i 2).val ≤ (i 1).val then 1#1 else 0#1 := by
  funext i
  rw [val_main_v34_1_apply, r_v28]
theorem r_v36_1 : val_main_v36_1 (F := Ideal) = fun i : S4x8320x8320x128.Idx => if (i 2).val ≤ (i 1).val then 1#1 else 0#1 := by
  funext i
  rw [val_main_v36_1_apply, r_v28]

def t_v29 (i0 i1 i2 i3 : ℕ) : ℝ := (t_v25 Am Wm Bm) (i0) (i1) (i3)
theorem r_v29 : val_main_v29 (F := Ideal) (X1 Am) (X2 Wm) (X3 Bm) = T (s := S4x8320x1x128) (φ := .f32) fun i => (t_v29 Am Wm Bm) (i 0).val (i 1).val (i 2).val (i 3).val := by
  funext i
  rw [val_main_v29_apply, r_v25]
  try rfl

def t_v30 (i0 i1 i2 i3 : ℕ) : ℝ := (t_v25 Am Wm Bm) (i0) (i2) (i3)
theorem r_v30 : val_main_v30 (F := Ideal) (X1 Am) (X2 Wm) (X3 Bm) = T (s := S4x1x8320x128) (φ := .f32) fun i => (t_v30 Am Wm Bm) (i 0).val (i 1).val (i 2).val (i 3).val := by
  funext i
  rw [val_main_v30_apply, r_v25]
  try rfl

def t_v31 (i0 i1 i2 i3 : ℕ) : ℝ := (t_v29 Am Wm Bm) (i0) (i1) (0) (i3)
theorem r_v31 : val_main_v31 (F := Ideal) (X1 Am) (X2 Wm) (X3 Bm) = T (s := S4x8320x8320x128) (φ := .f32) fun i => (t_v31 Am Wm Bm) (i 0).val (i 1).val (i 2).val (i 3).val := by
  funext i
  rw [val_main_v31_apply, r_v29]
  try rfl

def t_v32 (i0 i1 i2 i3 : ℕ) : ℝ := (t_v30 Am Wm Bm) (i0) (0) (i2) (i3)
theorem r_v32 : val_main_v32 (F := Ideal) (X1 Am) (X2 Wm) (X3 Bm) = T (s := S4x8320x8320x128) (φ := .f32) fun i => (t_v32 Am Wm Bm) (i 0).val (i 1).val (i 2).val (i 3).val := by
  funext i
  rw [val_main_v32_apply, r_v30]
  try rfl

def t_v33 (i0 i1 i2 i3 : ℕ) : ℝ := (t_v31 Am Wm Bm) i0 i1 i2 i3 - (t_v32 Am Wm Bm) i0 i1 i2 i3
theorem r_v33 : val_main_v33 (F := Ideal) (X1 Am) (X2 Wm) (X3 Bm) = T (s := S4x8320x8320x128) (φ := .f32) fun i => (t_v33 Am Wm Bm) (i 0).val (i 1).val (i 2).val (i 3).val := by
  funext i
  rw [val_main_v33_apply, r_v31, r_v32]
  try rfl

def t_cst_1 : ℝ := 0
theorem r_cst_1 : val_main_cst_1 (F := Ideal)  = T (s := S_) (φ := .f32) fun i => t_cst_1 := by
  funext i
  exact ofBits_zero

def t_call3_v0 : ℝ := t_cst_1
theorem r_call3_v0 : val_main_call3_v0 (F := Ideal)  = T (s := S_) (φ := .f32) fun i => t_call3_v0 := by
  funext i
  rw [val_main_call3_v0_apply, r_cst_1]
  try rfl

def t_call3_v2 (i0 i1 i2 i3 : ℕ) : ℝ := t_call3_v0
theorem r_call3_v2 : val_main_call3_v2 (F := Ideal)  = T (s := S4x8320x8320x128) (φ := .f32) fun i => t_call3_v2 (i 0).val (i 1).val (i 2).val (i 3).val := by
  funext i
  rw [val_main_call3_v2_apply, r_call3_v0]
  try rfl

def t_v34_0 (i0 i1 i2 i3 : ℕ) : ℝ := if i2 ≤ i1 then (t_v33 Am Wm Bm) i0 i1 i2 i3 else t_call3_v2 i0 i1 i2 i3
theorem r_v34_0 : val_main_v34_0 (F := Ideal) (X1 Am) (X2 Wm) (X3 Bm) = T (s := S4x8320x8320x128) (φ := .f32) fun i => (t_v34_0 Am Wm Bm) (i 0).val (i 1).val (i 2).val (i 3).val := by
  funext i
  rw [val_main_v34_0_apply, r_v34_1, r_v33, r_call3_v2]
  exact selE _ _ _

def t_v35 (i0 i1 i2 i3 : ℕ) : ℝ := Real.exp ((t_v34_0 Am Wm Bm) i0 i1 i2 i3)
theorem r_v35 : val_main_v35 (F := Ideal) (X1 Am) (X2 Wm) (X3 Bm) = T (s := S4x8320x8320x128) (φ := .f32) fun i => (t_v35 Am Wm Bm) (i 0).val (i 1).val (i 2).val (i 3).val := by
  funext i
  rw [val_main_v35_apply, r_v34_0]
  try rfl

def t_cst_2 : ℝ := 0
theorem r_cst_2 : val_main_cst_2 (F := Ideal)  = T (s := S_) (φ := .f32) fun i => t_cst_2 := by
  funext i
  exact ofBits_zero

def t_call4_v0 : ℝ := t_cst_2
theorem r_call4_v0 : val_main_call4_v0 (F := Ideal)  = T (s := S_) (φ := .f32) fun i => t_call4_v0 := by
  funext i
  rw [val_main_call4_v0_apply, r_cst_2]
  try rfl

def t_call4_v2 (i0 i1 i2 i3 : ℕ) : ℝ := t_call4_v0
theorem r_call4_v2 : val_main_call4_v2 (F := Ideal)  = T (s := S4x8320x8320x128) (φ := .f32) fun i => t_call4_v2 (i 0).val (i 1).val (i 2).val (i 3).val := by
  funext i
  rw [val_main_call4_v2_apply, r_call4_v0]
  try rfl

def t_v36_0 (i0 i1 i2 i3 : ℕ) : ℝ := if i2 ≤ i1 then (t_v35 Am Wm Bm) i0 i1 i2 i3 else t_call4_v2 i0 i1 i2 i3
theorem r_v36_0 : val_main_v36_0 (F := Ideal) (X1 Am) (X2 Wm) (X3 Bm) = T (s := S4x8320x8320x128) (φ := .f32) fun i => (t_v36_0 Am Wm Bm) (i 0).val (i 1).val (i 2).val (i 3).val := by
  funext i
  rw [val_main_v36_0_apply, r_v36_1, r_v35, r_call4_v2]
  exact selE _ _ _

def t_v37 (i0 i1 i2 i3 : ℕ) : ℝ := (t_v19 Pm) (i0) (i1) (i3)
theorem r_v37 : val_main_v37 (F := Ideal) (X0 Pm) = T (s := S4x8320x1x128) (φ := .f32) fun i => (t_v37 Pm) (i 0).val (i 1).val (i 2).val (i 3).val := by
  funext i
  rw [val_main_v37_apply, r_v19]
  try rfl

def t_v38 (i0 i1 i2 i3 : ℕ) : ℝ := (t_v21 Pm) (i0) (i2) (i3)
theorem r_v38 : val_main_v38 (F := Ideal) (X0 Pm) = T (s := S4x1x8320x128) (φ := .f32) fun i => (t_v38 Pm) (i 0).val (i 1).val (i 2).val (i 3).val := by
  funext i
  rw [val_main_v38_apply, r_v21]
  try rfl

def t_v39 (i0 i1 i2 i3 : ℕ) : ℝ := (t_v37 Pm) (i0) (i1) (0) (i3)
theorem r_v39 : val_main_v39 (F := Ideal) (X0 Pm) = T (s := S4x8320x8320x128) (φ := .f32) fun i => (t_v39 Pm) (i 0).val (i 1).val (i 2).val (i 3).val := by
  funext i
  rw [val_main_v39_apply, r_v37]
  try rfl

def t_v40 (i0 i1 i2 i3 : ℕ) : ℝ := (t_v38 Pm) (i0) (0) (i2) (i3)
theorem r_v40 : val_main_v40 (F := Ideal) (X0 Pm) = T (s := S4x8320x8320x128) (φ := .f32) fun i => (t_v40 Pm) (i 0).val (i 1).val (i 2).val (i 3).val := by
  funext i
  rw [val_main_v40_apply, r_v38]
  try rfl

def t_v41 (i0 i1 i2 i3 : ℕ) : ℝ := (t_v39 Pm) i0 i1 i2 i3 * (t_v40 Pm) i0 i1 i2 i3
theorem r_v41 : val_main_v41 (F := Ideal) (X0 Pm) = T (s := S4x8320x8320x128) (φ := .f32) fun i => (t_v41 Pm) (i 0).val (i 1).val (i 2).val (i 3).val := by
  funext i
  rw [val_main_v41_apply, r_v39, r_v40]
  try rfl

def t_v42 (i0 i1 i2 i3 : ℕ) : ℝ := (t_v41 Pm) i0 i1 i2 i3 * (t_v36_0 Am Wm Bm) i0 i1 i2 i3
theorem r_v42 : val_main_v42 (F := Ideal) (X0 Pm) (X1 Am) (X2 Wm) (X3 Bm) = T (s := S4x8320x8320x128) (φ := .f32) fun i => (t_v42 Pm Am Wm Bm) (i 0).val (i 1).val (i 2).val (i 3).val := by
  funext i
  rw [val_main_v42_apply, r_v41, r_v36_0]
  try rfl

def t_cst_3 : ℝ := 0
theorem r_cst_3 : val_main_cst_3 (F := Ideal)  = T (s := S_) (φ := .f32) fun i => t_cst_3 := by
  funext i
  exact ofBits_zero

def t_v43 (i0 i1 i2 : ℕ) : ℝ := ∑ k ∈ Finset.range 128, (t_v42 Pm Am Wm Bm) (i0) (i1) (i2) (k)
theorem r_v43 : val_main_v43 (F := Ideal) (X0 Pm) (X1 Am) (X2 Wm) (X3 Bm) = T (s := S4x8320x8320) (φ := .f32) fun i => (t_v43 Pm Am Wm Bm) (i 0).val (i 1).val (i 2).val := by
  funext i
  rw [val_main_v43_apply, r_cst_3, r_v42]
  exact sumE 128 fun k => (t_v42 Pm Am Wm Bm) ((i 0).val) ((i 1).val) ((i 2).val) (k)

def t_v45 (i0 i1 : ℕ) : ℝ := Gm i0 i1
theorem r_v45 : val_main_v45 (F := Ideal) (X4 Gm) = T (s := S8320x1024) (φ := .f32) fun i => (t_v45 Gm) (i 0).val (i 1).val := by
  funext i
  rw [val_main_v45_apply]
  try rfl

def t_v46 (i0 i1 i2 : ℕ) : ℝ := (t_v45 Gm) (i0) (256*i1+i2)
theorem r_v46 : val_main_v46 (F := Ideal) (X4 Gm) = T (s := S8320x4x256) (φ := .f32) fun i => (t_v46 Gm) (i 0).val (i 1).val (i 2).val := by
  funext i
  rw [val_main_v46_apply, r_v45]
  have h0 : (i 0).val < 8320 := (i 0).isLt
  have h1 : (i 1).val < 4 := (i 1).isLt
  have h2 : (i 2).val < 256 := (i 2).isLt
  exact cg2 (t_v45 Gm) (show ((((i 0).val * 4 + (i 1).val) * 256 + (i 2).val) / 1024 : ℕ) = (i 0).val by omega) (show ((((i 0).val * 4 + (i 1).val) * 256 + (i 2).val) % 1024 : ℕ) = 256*(i 1).val+(i 2).val by omega)

def t_v47 (i0 i1 i2 : ℕ) : ℝ := (t_v46 Gm) (i1) (i0) (i2)
theorem r_v47 : val_main_v47 (F := Ideal) (X4 Gm) = T (s := S4x8320x256) (φ := .f32) fun i => (t_v47 Gm) (i 0).val (i 1).val (i 2).val := by
  funext i
  rw [val_main_v47_apply, r_v46]
  try rfl

def t_v48 (i0 i1 i2 : ℕ) : ℝ := ∑ k ∈ Finset.range 8320, (t_v47 Gm) (i0) (k) (i1) * (t_v43 Pm Am Wm Bm) (i0) (k) (i2)
theorem r_v48 : val_main_v48 (F := Ideal) (X0 Pm) (X1 Am) (X2 Wm) (X3 Bm) (X4 Gm) = T (s := S4x256x8320) (φ := .f32) fun i => (t_v48 Pm Am Wm Bm Gm) (i 0).val (i 1).val (i 2).val := by
  funext i
  rw [val_main_v48_apply, r_v47, r_v43]
  exact dotE 8320 (fun k => (t_v47 Gm) ((i 0).val) (k) ((i 1).val)) fun k => (t_v43 Pm Am Wm Bm) ((i 0).val) (k) ((i 2).val)

def t_v49 (i0 i1 i2 : ℕ) : ℝ := (t_v48 Pm Am Wm Bm Gm) (i0) (i2) (i1)
theorem r_v49 : val_main_v49 (F := Ideal) (X0 Pm) (X1 Am) (X2 Wm) (X3 Bm) (X4 Gm) = T (s := S4x8320x256) (φ := .f32) fun i => (t_v49 Pm Am Wm Bm Gm) (i 0).val (i 1).val (i 2).val := by
  funext i
  rw [val_main_v49_apply, r_v48]
  try rfl

def t_v50 (i0 i1 i2 : ℕ) : ℝ := ∑ k ∈ Finset.range 256, (t_v47 Gm) (i0) (i1) (k) * (t_v23 Pm) (i0) (i2) (k)
theorem r_v50 : val_main_v50 (F := Ideal) (X0 Pm) (X4 Gm) = T (s := S4x8320x8320) (φ := .f32) fun i => (t_v50 Pm Gm) (i 0).val (i 1).val (i 2).val := by
  funext i
  rw [val_main_v50_apply, r_v47, r_v23]
  exact dotE 256 (fun k => (t_v47 Gm) ((i 0).val) ((i 1).val) (k)) fun k => (t_v23 Pm) ((i 0).val) ((i 2).val) (k)

def t_v51 (i0 i1 i2 i3 : ℕ) : ℝ := (t_v50 Pm Gm) (i0) (i1) (i2)
theorem r_v51 : val_main_v51 (F := Ideal) (X0 Pm) (X4 Gm) = T (s := S4x8320x8320x128) (φ := .f32) fun i => (t_v51 Pm Gm) (i 0).val (i 1).val (i 2).val (i 3).val := by
  funext i
  rw [val_main_v51_apply, r_v50]
  try rfl

def t_v52 (i0 i1 i2 i3 : ℕ) : ℝ := (t_v41 Pm) i0 i1 i2 i3 * (t_v51 Pm Gm) i0 i1 i2 i3
theorem r_v52 : val_main_v52 (F := Ideal) (X0 Pm) (X4 Gm) = T (s := S4x8320x8320x128) (φ := .f32) fun i => (t_v52 Pm Gm) (i 0).val (i 1).val (i 2).val (i 3).val := by
  funext i
  rw [val_main_v52_apply, r_v41, r_v51]
  try rfl

def t_v53 (i0 i1 i2 i3 : ℕ) : ℝ := (t_v51 Pm Gm) i0 i1 i2 i3 * (t_v36_0 Am Wm Bm) i0 i1 i2 i3
theorem r_v53 : val_main_v53 (F := Ideal) (X0 Pm) (X1 Am) (X2 Wm) (X3 Bm) (X4 Gm) = T (s := S4x8320x8320x128) (φ := .f32) fun i => (t_v53 Pm Am Wm Bm Gm) (i 0).val (i 1).val (i 2).val (i 3).val := by
  funext i
  rw [val_main_v53_apply, r_v51, r_v36_0]
  try rfl

def t_v54 (i0 i1 i2 i3 : ℕ) : ℝ := (t_v37 Pm) (i0) (i1) (0) (i3)
theorem r_v54 : val_main_v54 (F := Ideal) (X0 Pm) = T (s := S4x8320x8320x128) (φ := .f32) fun i => (t_v54 Pm) (i 0).val (i 1).val (i 2).val (i 3).val := by
  funext i
  rw [val_main_v54_apply, r_v37]
  try rfl

def t_v55 (i0 i1 i2 i3 : ℕ) : ℝ := (t_v54 Pm) i0 i1 i2 i3 * (t_v53 Pm Am Wm Bm Gm) i0 i1 i2 i3
theorem r_v55 : val_main_v55 (F := Ideal) (X0 Pm) (X1 Am) (X2 Wm) (X3 Bm) (X4 Gm) = T (s := S4x8320x8320x128) (φ := .f32) fun i => (t_v55 Pm Am Wm Bm Gm) (i 0).val (i 1).val (i 2).val (i 3).val := by
  funext i
  rw [val_main_v55_apply, r_v54, r_v53]
  try rfl

def t_cst_4 : ℝ := 0
theorem r_cst_4 : val_main_cst_4 (F := Ideal)  = T (s := S_) (φ := .f32) fun i => t_cst_4 := by
  funext i
  exact ofBits_zero

def t_v56 (i0 i1 i2 : ℕ) : ℝ := ∑ k ∈ Finset.range 8320, (t_v55 Pm Am Wm Bm Gm) (i0) (k) (i1) (i2)
theorem r_v56 : val_main_v56 (F := Ideal) (X0 Pm) (X1 Am) (X2 Wm) (X3 Bm) (X4 Gm) = T (s := S4x8320x128) (φ := .f32) fun i => (t_v56 Pm Am Wm Bm Gm) (i 0).val (i 1).val (i 2).val := by
  funext i
  rw [val_main_v56_apply, r_cst_4, r_v55]
  exact sumE 8320 fun k => (t_v55 Pm Am Wm Bm Gm) ((i 0).val) (k) ((i 1).val) ((i 2).val)

def t_v57 (i0 i1 i2 i3 : ℕ) : ℝ := (t_v56 Pm Am Wm Bm Gm) (i0) (i2) (i3)
theorem r_v57 : val_main_v57 (F := Ideal) (X0 Pm) (X1 Am) (X2 Wm) (X3 Bm) (X4 Gm) = T (s := S4x1x8320x128) (φ := .f32) fun i => (t_v57 Pm Am Wm Bm Gm) (i 0).val (i 1).val (i 2).val (i 3).val := by
  funext i
  rw [val_main_v57_apply, r_v56]
  have h0 : (i 0).val < 4 := (i 0).isLt
  have h1 : (i 1).val < 1 := (i 1).isLt
  have h2 : (i 2).val < 8320 := (i 2).isLt
  have h3 : (i 3).val < 128 := (i 3).isLt
  exact cg3 (t_v56 Pm Am Wm Bm Gm) (show (((((i 0).val * 1 + (i 1).val) * 8320 + (i 2).val) * 128 + (i 3).val) / 1064960 : ℕ) = (i 0).val by omega) (show (((((i 0).val * 1 + (i 1).val) * 8320 + (i 2).val) * 128 + (i 3).val) / 128 % 8320 : ℕ) = (i 2).val by omega) (show (((((i 0).val * 1 + (i 1).val) * 8320 + (i 2).val) * 128 + (i 3).val) % 128 : ℕ) = (i 3).val by omega)

def t_v58 (i0 i1 i2 i3 : ℕ) : ℝ := (t_v38 Pm) (i0) (0) (i2) (i3)
theorem r_v58 : val_main_v58 (F := Ideal) (X0 Pm) = T (s := S4x8320x8320x128) (φ := .f32) fun i => (t_v58 Pm) (i 0).val (i 1).val (i 2).val (i 3).val := by
  funext i
  rw [val_main_v58_apply, r_v38]
  try rfl

def t_v59 (i0 i1 i2 i3 : ℕ) : ℝ := (t_v53 Pm Am Wm Bm Gm) i0 i1 i2 i3 * (t_v58 Pm) i0 i1 i2 i3
theorem r_v59 : val_main_v59 (F := Ideal) (X0 Pm) (X1 Am) (X2 Wm) (X3 Bm) (X4 Gm) = T (s := S4x8320x8320x128) (φ := .f32) fun i => (t_v59 Pm Am Wm Bm Gm) (i 0).val (i 1).val (i 2).val (i 3).val := by
  funext i
  rw [val_main_v59_apply, r_v53, r_v58]
  try rfl

def t_cst_5 : ℝ := 0
theorem r_cst_5 : val_main_cst_5 (F := Ideal)  = T (s := S_) (φ := .f32) fun i => t_cst_5 := by
  funext i
  exact ofBits_zero

def t_v60 (i0 i1 i2 : ℕ) : ℝ := ∑ k ∈ Finset.range 8320, (t_v59 Pm Am Wm Bm Gm) (i0) (i1) (k) (i2)
theorem r_v60 : val_main_v60 (F := Ideal) (X0 Pm) (X1 Am) (X2 Wm) (X3 Bm) (X4 Gm) = T (s := S4x8320x128) (φ := .f32) fun i => (t_v60 Pm Am Wm Bm Gm) (i 0).val (i 1).val (i 2).val := by
  funext i
  rw [val_main_v60_apply, r_cst_5, r_v59]
  exact sumE 8320 fun k => (t_v59 Pm Am Wm Bm Gm) ((i 0).val) ((i 1).val) (k) ((i 2).val)

def t_v61 (i0 i1 i2 i3 : ℕ) : ℝ := (t_v60 Pm Am Wm Bm Gm) (i0) (i1) (i3)
theorem r_v61 : val_main_v61 (F := Ideal) (X0 Pm) (X1 Am) (X2 Wm) (X3 Bm) (X4 Gm) = T (s := S4x8320x1x128) (φ := .f32) fun i => (t_v61 Pm Am Wm Bm Gm) (i 0).val (i 1).val (i 2).val (i 3).val := by
  funext i
  rw [val_main_v61_apply, r_v60]
  have h0 : (i 0).val < 4 := (i 0).isLt
  have h1 : (i 1).val < 8320 := (i 1).isLt
  have h2 : (i 2).val < 1 := (i 2).isLt
  have h3 : (i 3).val < 128 := (i 3).isLt
  exact cg3 (t_v60 Pm Am Wm Bm Gm) (show (((((i 0).val * 8320 + (i 1).val) * 1 + (i 2).val) * 128 + (i 3).val) / 1064960 : ℕ) = (i 0).val by omega) (show (((((i 0).val * 8320 + (i 1).val) * 1 + (i 2).val) * 128 + (i 3).val) / 128 % 8320 : ℕ) = (i 1).val by omega) (show (((((i 0).val * 8320 + (i 1).val) * 1 + (i 2).val) * 128 + (i 3).val) % 128 : ℕ) = (i 3).val by omega)

def t_cst_6 : ℝ := 0
theorem r_cst_6 : val_main_cst_6 (F := Ideal)  = T (s := S_) (φ := .f32) fun i => t_cst_6 := by
  funext i
  exact ofBits_zero

def t_v62 (i0 i1 i2 : ℕ) : ℝ := (t_v57 Pm Am Wm Bm Gm) (i0) 0 (i1) (i2)
theorem r_v62 : val_main_v62 (F := Ideal) (X0 Pm) (X1 Am) (X2 Wm) (X3 Bm) (X4 Gm) = T (s := S4x8320x128) (φ := .f32) fun i => (t_v62 Pm Am Wm Bm Gm) (i 0).val (i 1).val (i 2).val := by
  funext i
  rw [val_main_v62_apply, r_cst_6, r_v57]
  exact one_sum _ _

def t_cst_7 : ℝ := 0
theorem r_cst_7 : val_main_cst_7 (F := Ideal)  = T (s := S_) (φ := .f32) fun i => t_cst_7 := by
  funext i
  exact ofBits_zero

def t_v63 (i0 i1 i2 : ℕ) : ℝ := (t_v61 Pm Am Wm Bm Gm) (i0) (i1) 0 (i2)
theorem r_v63 : val_main_v63 (F := Ideal) (X0 Pm) (X1 Am) (X2 Wm) (X3 Bm) (X4 Gm) = T (s := S4x8320x128) (φ := .f32) fun i => (t_v63 Pm Am Wm Bm Gm) (i 0).val (i 1).val (i 2).val := by
  funext i
  rw [val_main_v63_apply, r_cst_7, r_v61]
  exact one_sum _ _

def t_call5_cst : ℝ := 0
theorem r_call5_cst : val_main_call5_cst (F := Ideal)  = T (s := S_) (φ := .f32) fun i => t_call5_cst := by
  funext i
  exact ofBits_zero

def t_call5_v0 (i0 i1 i2 i3 : ℕ) : ℝ := t_call5_cst
theorem r_call5_v0 : val_main_call5_v0 (F := Ideal)  = T (s := S4x8320x8320x128) (φ := .f32) fun i => t_call5_v0 (i 0).val (i 1).val (i 2).val (i 3).val := by
  funext i
  rw [val_main_call5_v0_apply, r_call5_cst]
  try rfl

def t_v64 (i0 i1 i2 i3 : ℕ) : ℝ := if i2 ≤ i1 then (t_v52 Pm Gm) i0 i1 i2 i3 else t_call5_v0 i0 i1 i2 i3
theorem r_v64 : val_main_v64 (F := Ideal) (X0 Pm) (X4 Gm) = T (s := S4x8320x8320x128) (φ := .f32) fun i => (t_v64 Pm Gm) (i 0).val (i 1).val (i 2).val (i 3).val := by
  funext i
  rw [val_main_v64_apply, r_v36_1, r_v52, r_call5_v0]
  exact selE _ _ _

def t_v65 (i0 i1 i2 i3 : ℕ) : ℝ := (t_v64 Pm Gm) i0 i1 i2 i3 * (t_v35 Am Wm Bm) i0 i1 i2 i3
theorem r_v65 : val_main_v65 (F := Ideal) (X0 Pm) (X1 Am) (X2 Wm) (X3 Bm) (X4 Gm) = T (s := S4x8320x8320x128) (φ := .f32) fun i => (t_v65 Pm Am Wm Bm Gm) (i 0).val (i 1).val (i 2).val (i 3).val := by
  funext i
  rw [val_main_v65_apply, r_v64, r_v35]
  try rfl

def t_call6_cst : ℝ := 0
theorem r_call6_cst : val_main_call6_cst (F := Ideal)  = T (s := S_) (φ := .f32) fun i => t_call6_cst := by
  funext i
  exact ofBits_zero

def t_call6_v0 (i0 i1 i2 i3 : ℕ) : ℝ := t_call6_cst
theorem r_call6_v0 : val_main_call6_v0 (F := Ideal)  = T (s := S4x8320x8320x128) (φ := .f32) fun i => t_call6_v0 (i 0).val (i 1).val (i 2).val (i 3).val := by
  funext i
  rw [val_main_call6_v0_apply, r_call6_cst]
  try rfl

def t_v66 (i0 i1 i2 i3 : ℕ) : ℝ := if i2 ≤ i1 then (t_v65 Pm Am Wm Bm Gm) i0 i1 i2 i3 else t_call6_v0 i0 i1 i2 i3
theorem r_v66 : val_main_v66 (F := Ideal) (X0 Pm) (X1 Am) (X2 Wm) (X3 Bm) (X4 Gm) = T (s := S4x8320x8320x128) (φ := .f32) fun i => (t_v66 Pm Am Wm Bm Gm) (i 0).val (i 1).val (i 2).val (i 3).val := by
  funext i
  rw [val_main_v66_apply, r_v34_1, r_v65, r_call6_v0]
  exact selE _ _ _

def t_cst_8 : ℝ := 0
theorem r_cst_8 : val_main_cst_8 (F := Ideal)  = T (s := S_) (φ := .f32) fun i => t_cst_8 := by
  funext i
  exact ofBits_zero

def t_v67 (i0 i1 i2 : ℕ) : ℝ := ∑ k ∈ Finset.range 8320, (t_v66 Pm Am Wm Bm Gm) (i0) (i1) (k) (i2)
theorem r_v67 : val_main_v67 (F := Ideal) (X0 Pm) (X1 Am) (X2 Wm) (X3 Bm) (X4 Gm) = T (s := S4x8320x128) (φ := .f32) fun i => (t_v67 Pm Am Wm Bm Gm) (i 0).val (i 1).val (i 2).val := by
  funext i
  rw [val_main_v67_apply, r_cst_8, r_v66]
  exact sumE 8320 fun k => (t_v66 Pm Am Wm Bm Gm) ((i 0).val) ((i 1).val) (k) ((i 2).val)

def t_v68 (i0 i1 i2 i3 : ℕ) : ℝ := (t_v67 Pm Am Wm Bm Gm) (i0) (i1) (i3)
theorem r_v68 : val_main_v68 (F := Ideal) (X0 Pm) (X1 Am) (X2 Wm) (X3 Bm) (X4 Gm) = T (s := S4x8320x1x128) (φ := .f32) fun i => (t_v68 Pm Am Wm Bm Gm) (i 0).val (i 1).val (i 2).val (i 3).val := by
  funext i
  rw [val_main_v68_apply, r_v67]
  have h0 : (i 0).val < 4 := (i 0).isLt
  have h1 : (i 1).val < 8320 := (i 1).isLt
  have h2 : (i 2).val < 1 := (i 2).isLt
  have h3 : (i 3).val < 128 := (i 3).isLt
  exact cg3 (t_v67 Pm Am Wm Bm Gm) (show (((((i 0).val * 8320 + (i 1).val) * 1 + (i 2).val) * 128 + (i 3).val) / 1064960 : ℕ) = (i 0).val by omega) (show (((((i 0).val * 8320 + (i 1).val) * 1 + (i 2).val) * 128 + (i 3).val) / 128 % 8320 : ℕ) = (i 1).val by omega) (show (((((i 0).val * 8320 + (i 1).val) * 1 + (i 2).val) * 128 + (i 3).val) % 128 : ℕ) = (i 3).val by omega)

def t_v69 (i0 i1 i2 i3 : ℕ) : ℝ := -((t_v66 Pm Am Wm Bm Gm) i0 i1 i2 i3)
theorem r_v69 : val_main_v69 (F := Ideal) (X0 Pm) (X1 Am) (X2 Wm) (X3 Bm) (X4 Gm) = T (s := S4x8320x8320x128) (φ := .f32) fun i => (t_v69 Pm Am Wm Bm Gm) (i 0).val (i 1).val (i 2).val (i 3).val := by
  funext i
  rw [val_main_v69_apply, r_v66]
  try rfl

def t_cst_9 : ℝ := 0
theorem r_cst_9 : val_main_cst_9 (F := Ideal)  = T (s := S_) (φ := .f32) fun i => t_cst_9 := by
  funext i
  exact ofBits_zero

def t_v70 (i0 i1 i2 : ℕ) : ℝ := ∑ k ∈ Finset.range 8320, (t_v69 Pm Am Wm Bm Gm) (i0) (k) (i1) (i2)
theorem r_v70 : val_main_v70 (F := Ideal) (X0 Pm) (X1 Am) (X2 Wm) (X3 Bm) (X4 Gm) = T (s := S4x8320x128) (φ := .f32) fun i => (t_v70 Pm Am Wm Bm Gm) (i 0).val (i 1).val (i 2).val := by
  funext i
  rw [val_main_v70_apply, r_cst_9, r_v69]
  exact sumE 8320 fun k => (t_v69 Pm Am Wm Bm Gm) ((i 0).val) (k) ((i 1).val) ((i 2).val)

def t_v71 (i0 i1 i2 i3 : ℕ) : ℝ := (t_v70 Pm Am Wm Bm Gm) (i0) (i2) (i3)
theorem r_v71 : val_main_v71 (F := Ideal) (X0 Pm) (X1 Am) (X2 Wm) (X3 Bm) (X4 Gm) = T (s := S4x1x8320x128) (φ := .f32) fun i => (t_v71 Pm Am Wm Bm Gm) (i 0).val (i 1).val (i 2).val (i 3).val := by
  funext i
  rw [val_main_v71_apply, r_v70]
  have h0 : (i 0).val < 4 := (i 0).isLt
  have h1 : (i 1).val < 1 := (i 1).isLt
  have h2 : (i 2).val < 8320 := (i 2).isLt
  have h3 : (i 3).val < 128 := (i 3).isLt
  exact cg3 (t_v70 Pm Am Wm Bm Gm) (show (((((i 0).val * 1 + (i 1).val) * 8320 + (i 2).val) * 128 + (i 3).val) / 1064960 : ℕ) = (i 0).val by omega) (show (((((i 0).val * 1 + (i 1).val) * 8320 + (i 2).val) * 128 + (i 3).val) / 128 % 8320 : ℕ) = (i 2).val by omega) (show (((((i 0).val * 1 + (i 1).val) * 8320 + (i 2).val) * 128 + (i 3).val) % 128 : ℕ) = (i 3).val by omega)

def t_cst_10 : ℝ := 0
theorem r_cst_10 : val_main_cst_10 (F := Ideal)  = T (s := S_) (φ := .f32) fun i => t_cst_10 := by
  funext i
  exact ofBits_zero

def t_v72 (i0 i1 i2 : ℕ) : ℝ := (t_v71 Pm Am Wm Bm Gm) (i0) 0 (i1) (i2)
theorem r_v72 : val_main_v72 (F := Ideal) (X0 Pm) (X1 Am) (X2 Wm) (X3 Bm) (X4 Gm) = T (s := S4x8320x128) (φ := .f32) fun i => (t_v72 Pm Am Wm Bm Gm) (i 0).val (i 1).val (i 2).val := by
  funext i
  rw [val_main_v72_apply, r_cst_10, r_v71]
  exact one_sum _ _

def t_cst_11 : ℝ := 0
theorem r_cst_11 : val_main_cst_11 (F := Ideal)  = T (s := S_) (φ := .f32) fun i => t_cst_11 := by
  funext i
  exact ofBits_zero

def t_v73 (i0 i1 i2 : ℕ) : ℝ := (t_v68 Pm Am Wm Bm Gm) (i0) (i1) 0 (i2)
theorem r_v73 : val_main_v73 (F := Ideal) (X0 Pm) (X1 Am) (X2 Wm) (X3 Bm) (X4 Gm) = T (s := S4x8320x128) (φ := .f32) fun i => (t_v73 Pm Am Wm Bm Gm) (i 0).val (i 1).val (i 2).val := by
  funext i
  rw [val_main_v73_apply, r_cst_11, r_v68]
  exact one_sum _ _

def t_v74 (i0 i1 i2 : ℕ) : ℝ := (t_v72 Pm Am Wm Bm Gm) i0 i1 i2 + (t_v73 Pm Am Wm Bm Gm) i0 i1 i2
theorem r_v74 : val_main_v74 (F := Ideal) (X0 Pm) (X1 Am) (X2 Wm) (X3 Bm) (X4 Gm) = T (s := S4x8320x128) (φ := .f32) fun i => (t_v74 Pm Am Wm Bm Gm) (i 0).val (i 1).val (i 2).val := by
  funext i
  rw [val_main_v74_apply, r_v72, r_v73]
  try rfl

def t_v75 (i0 i1 i2 : ℕ) : ℝ := (t_v74 Pm Am Wm Bm Gm) (i1) (i0) (i2)
theorem r_v75 : val_main_v75 (F := Ideal) (X0 Pm) (X1 Am) (X2 Wm) (X3 Bm) (X4 Gm) = T (s := S8320x4x128) (φ := .f32) fun i => (t_v75 Pm Am Wm Bm Gm) (i 0).val (i 1).val (i 2).val := by
  funext i
  rw [val_main_v75_apply, r_v74]
  try rfl

def t_v76 (i0 i1 : ℕ) : ℝ := (t_v75 Pm Am Wm Bm Gm) (i0) (i1/128) (i1%128)
theorem r_v76 : val_main_v76 (F := Ideal) (X0 Pm) (X1 Am) (X2 Wm) (X3 Bm) (X4 Gm) = T (s := S8320x512) (φ := .f32) fun i => (t_v76 Pm Am Wm Bm Gm) (i 0).val (i 1).val := by
  funext i
  rw [val_main_v76_apply, r_v75]
  have h0 : (i 0).val < 8320 := (i 0).isLt
  have h1 : (i 1).val < 512 := (i 1).isLt
  exact cg3 (t_v75 Pm Am Wm Bm Gm) (show (((i 0).val * 512 + (i 1).val) / 512 : ℕ) = (i 0).val by omega) (show (((i 0).val * 512 + (i 1).val) / 128 % 4 : ℕ) = (i 1).val/128 by omega) (show (((i 0).val * 512 + (i 1).val) % 128 : ℕ) = (i 1).val%128 by omega)

def t_v77 (i0 i1 i2 : ℕ) : ℝ := (t_v49 Pm Am Wm Bm Gm) (i1) (i0) (i2)
theorem r_v77 : val_main_v77 (F := Ideal) (X0 Pm) (X1 Am) (X2 Wm) (X3 Bm) (X4 Gm) = T (s := S8320x4x256) (φ := .f32) fun i => (t_v77 Pm Am Wm Bm Gm) (i 0).val (i 1).val (i 2).val := by
  funext i
  rw [val_main_v77_apply, r_v49]
  try rfl

def t_v78 (i0 i1 : ℕ) : ℝ := (t_v77 Pm Am Wm Bm Gm) (i0) (i1/256) (i1%256)
theorem r_v78 : val_main_v78 (F := Ideal) (X0 Pm) (X1 Am) (X2 Wm) (X3 Bm) (X4 Gm) = T (s := S8320x1024) (φ := .f32) fun i => (t_v78 Pm Am Wm Bm Gm) (i 0).val (i 1).val := by
  funext i
  rw [val_main_v78_apply, r_v77]
  have h0 : (i 0).val < 8320 := (i 0).isLt
  have h1 : (i 1).val < 1024 := (i 1).isLt
  exact cg3 (t_v77 Pm Am Wm Bm Gm) (show (((i 0).val * 1024 + (i 1).val) / 1024 : ℕ) = (i 0).val by omega) (show (((i 0).val * 1024 + (i 1).val) / 256 % 4 : ℕ) = (i 1).val/256 by omega) (show (((i 0).val * 1024 + (i 1).val) % 256 : ℕ) = (i 1).val%256 by omega)

def t_v79 (i0 i1 i2 : ℕ) : ℝ := (t_v62 Pm Am Wm Bm Gm) (i1) (i0) (i2)
theorem r_v79 : val_main_v79 (F := Ideal) (X0 Pm) (X1 Am) (X2 Wm) (X3 Bm) (X4 Gm) = T (s := S8320x4x128) (φ := .f32) fun i => (t_v79 Pm Am Wm Bm Gm) (i 0).val (i 1).val (i 2).val := by
  funext i
  rw [val_main_v79_apply, r_v62]
  try rfl

def t_v80 (i0 i1 : ℕ) : ℝ := (t_v79 Pm Am Wm Bm Gm) (i0) (i1/128) (i1%128)
theorem r_v80 : val_main_v80 (F := Ideal) (X0 Pm) (X1 Am) (X2 Wm) (X3 Bm) (X4 Gm) = T (s := S8320x512) (φ := .f32) fun i => (t_v80 Pm Am Wm Bm Gm) (i 0).val (i 1).val := by
  funext i
  rw [val_main_v80_apply, r_v79]
  have h0 : (i 0).val < 8320 := (i 0).isLt
  have h1 : (i 1).val < 512 := (i 1).isLt
  exact cg3 (t_v79 Pm Am Wm Bm Gm) (show (((i 0).val * 512 + (i 1).val) / 512 : ℕ) = (i 0).val by omega) (show (((i 0).val * 512 + (i 1).val) / 128 % 4 : ℕ) = (i 1).val/128 by omega) (show (((i 0).val * 512 + (i 1).val) % 128 : ℕ) = (i 1).val%128 by omega)

def t_cst_12 : ℝ := sc
theorem r_cst_12 : val_main_cst_12 (F := Ideal)  = T (s := S_) (φ := .f32) fun i => t_cst_12 := by
  funext i
  exact ofBits_sc

def t_v81 (i0 i1 i2 : ℕ) : ℝ := t_cst_12
theorem r_v81 : val_main_v81 (F := Ideal)  = T (s := S4x8320x128) (φ := .f32) fun i => t_v81 (i 0).val (i 1).val (i 2).val := by
  funext i
  rw [val_main_v81_apply, r_cst_12]
  try rfl

def t_v82 (i0 i1 i2 : ℕ) : ℝ := (t_v63 Pm Am Wm Bm Gm) i0 i1 i2 * t_v81 i0 i1 i2
theorem r_v82 : val_main_v82 (F := Ideal) (X0 Pm) (X1 Am) (X2 Wm) (X3 Bm) (X4 Gm) = T (s := S4x8320x128) (φ := .f32) fun i => (t_v82 Pm Am Wm Bm Gm) (i 0).val (i 1).val (i 2).val := by
  funext i
  rw [val_main_v82_apply, r_v63, r_v81]
  try rfl

def t_v83 (i0 i1 i2 : ℕ) : ℝ := (t_v82 Pm Am Wm Bm Gm) (i1) (i0) (i2)
theorem r_v83 : val_main_v83 (F := Ideal) (X0 Pm) (X1 Am) (X2 Wm) (X3 Bm) (X4 Gm) = T (s := S8320x4x128) (φ := .f32) fun i => (t_v83 Pm Am Wm Bm Gm) (i 0).val (i 1).val (i 2).val := by
  funext i
  rw [val_main_v83_apply, r_v82]
  try rfl

def t_v84 (i0 i1 : ℕ) : ℝ := (t_v83 Pm Am Wm Bm Gm) (i0) (i1/128) (i1%128)
theorem r_v84 : val_main_v84 (F := Ideal) (X0 Pm) (X1 Am) (X2 Wm) (X3 Bm) (X4 Gm) = T (s := S8320x512) (φ := .f32) fun i => (t_v84 Pm Am Wm Bm Gm) (i 0).val (i 1).val := by
  funext i
  rw [val_main_v84_apply, r_v83]
  have h0 : (i 0).val < 8320 := (i 0).isLt
  have h1 : (i 1).val < 512 := (i 1).isLt
  exact cg3 (t_v83 Pm Am Wm Bm Gm) (show (((i 0).val * 512 + (i 1).val) / 512 : ℕ) = (i 0).val by omega) (show (((i 0).val * 512 + (i 1).val) / 128 % 4 : ℕ) = (i 1).val/128 by omega) (show (((i 0).val * 512 + (i 1).val) % 128 : ℕ) = (i 1).val%128 by omega)

def t_call7_call0_cst : ℝ := 0
theorem r_call7_call0_cst : val_main_call7_call0_cst (F := Ideal)  = T (s := S_) (φ := .f32) fun i => t_call7_call0_cst := by
  funext i
  exact ofBits_zero

def t_call7_call0_v0 : ℝ := t_call7_call0_cst
theorem r_call7_call0_v0 : val_main_call7_call0_v0 (F := Ideal)  = T (s := S_) (φ := .f32) fun i => t_call7_call0_v0 := by
  funext i
  rw [val_main_call7_call0_v0_apply, r_call7_call0_cst]
  try rfl

def t_v85 (i0 i1 : ℕ) : ℝ := ∑ s ∈ Finset.Ico i0 8320, t_v76 Pm Am Wm Bm Gm s i1
theorem r_v85 : val_main_v85 (F := Ideal) (X0 Pm) (X1 Am) (X2 Wm) (X3 Bm) (X4 Gm) = T (s := S8320x512) (φ := .f32) fun i => t_v85 Pm Am Wm Bm Gm (i 0).val (i 1).val := by
  funext i
  obtain ⟨t, c, rfl⟩ : ∃ (t : Fin 8320) (c : Fin 512), i = ValueIdx.ix2 t c := ⟨i 0, i 1, ValueIdx.eq_ix2 i⟩
  unfold val_main_v85
  rw [r_v76]
  refine (window_sum (R := 8320) (C := 512) (lo := 0) (hi := 8319) (t_v76 Pm Am Wm Bm Gm) _ h_S_ ?_ _ t c).trans ?_
  · rw [r_call7_call0_v0]; rfl
  · exact congrArg _ (run_rev (fun s => t_v76 Pm Am Wm Bm Gm s c) 8320 t.val t.isLt)

def t_cst_13 : ℝ := 16
theorem r_cst_13 : val_main_cst_13 (F := Ideal)  = T (s := S_) (φ := .f32) fun i => t_cst_13 := by
  funext i
  exact ofBits_sixteen

def t_v86 (i0 i1 : ℕ) : ℝ := t_cst_13
theorem r_v86 : val_main_v86 (F := Ideal)  = T (s := S8320x512) (φ := .f32) fun i => t_v86 (i 0).val (i 1).val := by
  funext i
  rw [val_main_v86_apply, r_cst_13]
  try rfl

def t_v87 (i0 i1 : ℕ) : ℝ := (t_v85 Pm Am Wm Bm Gm) i0 i1 * (1 / 16)
theorem r_v87 : val_main_v87 (F := Ideal) (X0 Pm) (X1 Am) (X2 Wm) (X3 Bm) (X4 Gm) = T (s := S8320x512) (φ := .f32) fun i => (t_v87 Pm Am Wm Bm Gm) (i 0).val (i 1).val := by
  funext i
  rw [val_main_v87_apply, r_v85, r_v86]
  exact div16 _

def t_call8_v0 (i0 i1 : ℕ) : ℝ := -((t_v87 Pm Am Wm Bm Gm) i0 i1)
theorem r_call8_v0 : val_main_call8_v0 (F := Ideal) (X0 Pm) (X1 Am) (X2 Wm) (X3 Bm) (X4 Gm) = T (s := S8320x512) (φ := .f32) fun i => (t_call8_v0 Pm Am Wm Bm Gm) (i 0).val (i 1).val := by
  funext i
  rw [val_main_call8_v0_apply, r_v87]
  try rfl

def t_call8_v1 (i0 i1 : ℕ) : ℝ := (t_call8_v0 Pm Am Wm Bm Gm) i0 i1 * (t_v12_1 Am Wm Bm) i0 i1
theorem r_call8_v1 : val_main_call8_v1 (F := Ideal) (X0 Pm) (X1 Am) (X2 Wm) (X3 Bm) (X4 Gm) = T (s := S8320x512) (φ := .f32) fun i => (t_call8_v1 Pm Am Wm Bm Gm) (i 0).val (i 1).val := by
  funext i
  rw [val_main_call8_v1_apply, r_call8_v0, r_v12_1]
  try rfl

def t_v88 (i0 i1 : ℕ) : ℝ := -((t_call8_v1 Pm Am Wm Bm Gm) i0 i1)
theorem r_v88 : val_main_v88 (F := Ideal) (X0 Pm) (X1 Am) (X2 Wm) (X3 Bm) (X4 Gm) = T (s := S8320x512) (φ := .f32) fun i => (t_v88 Pm Am Wm Bm Gm) (i 0).val (i 1).val := by
  funext i
  rw [val_main_v88_apply, r_call8_v1]
  try rfl

def t_v89 (i0 i1 : ℕ) : ℝ := ∑ k ∈ Finset.range 8320, (t_v88 Pm Am Wm Bm Gm) (k) (i0) * (t_v4 Am) (k) (i1)
theorem r_v89 : val_main_v89 (F := Ideal) (X0 Pm) (X1 Am) (X2 Wm) (X3 Bm) (X4 Gm) = T (s := S512x128) (φ := .f32) fun i => (t_v89 Pm Am Wm Bm Gm) (i 0).val (i 1).val := by
  funext i
  rw [val_main_v89_apply, r_v88, r_v4]
  exact dotE 8320 (fun k => (t_v88 Pm Am Wm Bm Gm) (k) ((i 0).val)) fun k => (t_v4 Am) (k) ((i 1).val)

def t_v90 (i0 i1 : ℕ) : ℝ := (t_v89 Pm Am Wm Bm Gm) (i1) (i0)
theorem r_v90 : val_main_v90 (F := Ideal) (X0 Pm) (X1 Am) (X2 Wm) (X3 Bm) (X4 Gm) = T (s := S128x512) (φ := .f32) fun i => (t_v90 Pm Am Wm Bm Gm) (i 0).val (i 1).val := by
  funext i
  rw [val_main_v90_apply, r_v89]
  try rfl

def t_v91 (i0 i1 : ℕ) : ℝ := ∑ k ∈ Finset.range 512, (t_v88 Pm Am Wm Bm Gm) (i0) (k) * (t_v5 Wm) (i1) (k)
theorem r_v91 : val_main_v91 (F := Ideal) (X0 Pm) (X1 Am) (X2 Wm) (X3 Bm) (X4 Gm) = T (s := S8320x128) (φ := .f32) fun i => (t_v91 Pm Am Wm Bm Gm) (i 0).val (i 1).val := by
  funext i
  rw [val_main_v91_apply, r_v88, r_v5]
  exact dotE 512 (fun k => (t_v88 Pm Am Wm Bm Gm) ((i 0).val) (k)) fun k => (t_v5 Wm) ((i 1).val) (k)

def t_v92 (i0 i1 i2 : ℕ) : ℝ := (t_v88 Pm Am Wm Bm Gm) (8*i0+i1) (i2)
theorem r_v92 : val_main_v92 (F := Ideal) (X0 Pm) (X1 Am) (X2 Wm) (X3 Bm) (X4 Gm) = T (s := S1040x8x512) (φ := .f32) fun i => (t_v92 Pm Am Wm Bm Gm) (i 0).val (i 1).val (i 2).val := by
  funext i
  rw [val_main_v92_apply, r_v88]
  have h0 : (i 0).val < 1040 := (i 0).isLt
  have h1 : (i 1).val < 8 := (i 1).isLt
  have h2 : (i 2).val < 512 := (i 2).isLt
  exact cg2 (t_v88 Pm Am Wm Bm Gm) (show ((((i 0).val * 8 + (i 1).val) * 512 + (i 2).val) / 512 : ℕ) = 8*(i 0).val+(i 1).val by omega) (show ((((i 0).val * 8 + (i 1).val) * 512 + (i 2).val) % 512 : ℕ) = (i 2).val by omega)

def t_cst_14 : ℝ := 0
theorem r_cst_14 : val_main_cst_14 (F := Ideal)  = T (s := S_) (φ := .f32) fun i => t_cst_14 := by
  funext i
  exact ofBits_zero

def t_v93 (i0 i1 : ℕ) : ℝ := ∑ k ∈ Finset.range 1040, (t_v92 Pm Am Wm Bm Gm) (k) (i0) (i1)
theorem r_v93 : val_main_v93 (F := Ideal) (X0 Pm) (X1 Am) (X2 Wm) (X3 Bm) (X4 Gm) = T (s := S8x512) (φ := .f32) fun i => (t_v93 Pm Am Wm Bm Gm) (i 0).val (i 1).val := by
  funext i
  rw [val_main_v93_apply, r_cst_14, r_v92]
  exact sumE 1040 fun k => (t_v92 Pm Am Wm Bm Gm) (k) ((i 0).val) ((i 1).val)

def t_v94 (i0 i1 i2 : ℕ) : ℝ := (t_v93 Pm Am Wm Bm Gm) (i1) (i2)
theorem r_v94 : val_main_v94 (F := Ideal) (X0 Pm) (X1 Am) (X2 Wm) (X3 Bm) (X4 Gm) = T (s := S1x8x512) (φ := .f32) fun i => (t_v94 Pm Am Wm Bm Gm) (i 0).val (i 1).val (i 2).val := by
  funext i
  rw [val_main_v94_apply, r_v93]
  try rfl

def t_cst_15 : ℝ := 0
theorem r_cst_15 : val_main_cst_15 (F := Ideal)  = T (s := S_) (φ := .f32) fun i => t_cst_15 := by
  funext i
  exact ofBits_zero

def t_v95 (i0 i1 : ℕ) : ℝ := (t_v94 Pm Am Wm Bm Gm) 0 (i0) (i1)
theorem r_v95 : val_main_v95 (F := Ideal) (X0 Pm) (X1 Am) (X2 Wm) (X3 Bm) (X4 Gm) = T (s := S8x512) (φ := .f32) fun i => (t_v95 Pm Am Wm Bm Gm) (i 0).val (i 1).val := by
  funext i
  rw [val_main_v95_apply, r_cst_15, r_v94]
  exact one_sum _ _

def t_v100 (i0 i1 : ℕ) : ℝ := ((t_v91 Pm Am Wm Bm Gm) i0 i1)
theorem r_v100 : val_main_v100 (F := Ideal) (X0 Pm) (X1 Am) (X2 Wm) (X3 Bm) (X4 Gm) = T (s := S8320x128) (φ := .bf16) fun i => (t_v100 Pm Am Wm Bm Gm) (i 0).val (i 1).val := by
  funext i
  rw [val_main_v100_apply, r_v91]
  try rfl

end Cert.Gla
-- ==== Proof.Host.lean ====
/- The states at the chunks' starts, read step by step on tables of real numbers: `t_vN` is the table host value `N` holds. -/
module

public import proofs.«01_k».proof.Proof.HostRead
public import proofs.«01_k».proof.Proof.Ref
public import proofs.«01_k».proof.Proof.Arrays
public import Idealize.ShloMosaic.Lib.StableHlo.RunRead

@[expose] public section

set_option maxRecDepth 20000

noncomputable section

namespace Cert.Gla.Host

open Idealize.ShloMosaic Cert.KernelIdeal Cert.KernelIdeal.Gen
open scoped BigOperators

abbrev X0 (Pm : ℕ → ℕ → ℝ) : FVec Ideal S8320x7168 .bf16 := ub fun i j => Pm i j
abbrev X1 (Am : ℕ → ℕ → ℝ) : FVec Ideal S8320x128 .bf16 := ub fun i j => Am i j
abbrev X2 (Wm : ℕ → ℕ → ℝ) : FVec Ideal S128x512 .bf16 := ub fun i j => Wm i j
abbrev X3 (Bm : ℕ → ℝ) : FVec Ideal S1x512 .f32 := uf fun _ j => Bm j

theorem cg4 (f : ℕ → ℕ → ℕ → ℕ → ℝ) {a b c d a' b' c' d' : ℕ} (ha : a = a') (hb : b = b') (hc : c = c') (hd : d = d') : ((f a b c d : ℝ) : EReal) = ((f a' b' c' d' : ℝ) : EReal) := by rw [ha, hb, hc, hd]
theorem ltE (s c : ℕ) (hs : s < 2 ^ 31) (hc : c < 65) :
    IntOp.cmpi .slt (BitVec.ofNat 32 s) (IntOp.muli 128#32 (BitVec.ofNat 32 c)) = if s < 128 * c then 1#1 else 0#1 := by
  have e (n : ℕ) (h : n < 2 ^ 31) : (BitVec.ofNat 32 n).toInt = n := by
    rw [BitVec.toInt_eq_toNat_of_lt] <;> rw [BitVec.toNat_ofNat, Nat.mod_eq_of_lt (by omega)]
    omega
  have hm : (128#32 : BitVec 32) * BitVec.ofNat 32 c = BitVec.ofNat 32 (128 * c) := by
    rw [BitVec.ofNat_mul]
  have q : (BitVec.ofNat 32 s).slt (BitVec.ofNat 32 (128 * c)) = decide (s < 128 * c) := by
    rw [BitVec.slt, e s hs, e (128 * c) (by omega)]
    simp only [decide_eq_decide]
    exact_mod_cast Iff.rfl
  simp only [IntOp.cmpi, IntOp.muli, hm, q]
  by_cases h : s < 128 * c <;> simp [h]

def t_v0 (Pm : ℕ → ℕ → ℝ) (i0 i1 : ℕ) : ℝ := Pm i0 i1
theorem r_v0 (Pm : ℕ → ℕ → ℝ) : val_main_v0 (F := Ideal) (X0 Pm) = T (s := S8320x7168) (φ := .f32) fun i => (t_v0 Pm) (i 0).val (i 1).val := by
  funext i
  rw [val_main_v0_apply]
  try rfl

def t_v1 (Am : ℕ → ℕ → ℝ) (i0 i1 : ℕ) : ℝ := Am i0 i1
theorem r_v1 (Am : ℕ → ℕ → ℝ) : val_main_v1 (F := Ideal) (X1 Am) = T (s := S8320x128) (φ := .f32) fun i => (t_v1 Am) (i 0).val (i 1).val := by
  funext i
  rw [val_main_v1_apply]
  try rfl

def t_v2 (Wm : ℕ → ℕ → ℝ) (i0 i1 : ℕ) : ℝ := Wm i0 i1
theorem r_v2 (Wm : ℕ → ℕ → ℝ) : val_main_v2 (F := Ideal) (X2 Wm) = T (s := S128x512) (φ := .f32) fun i => (t_v2 Wm) (i 0).val (i 1).val := by
  funext i
  rw [val_main_v2_apply]
  try rfl

def t_v3 (Am : ℕ → ℕ → ℝ) (Wm : ℕ → ℕ → ℝ) (i0 i1 : ℕ) : ℝ := ∑ k ∈ Finset.range 128, (t_v1 Am) (i0) (k) * (t_v2 Wm) (k) (i1)
theorem r_v3 (Am : ℕ → ℕ → ℝ) (Wm : ℕ → ℕ → ℝ) : val_main_v3 (F := Ideal) (X1 Am) (X2 Wm) = T (s := S8320x512) (φ := .f32) fun i => (t_v3 Am Wm) (i 0).val (i 1).val := by
  funext i
  rw [val_main_v3_apply, r_v1, r_v2]
  exact dotE 128 (fun k => (t_v1 Am) ((i 0).val) (k)) fun k => (t_v2 Wm) (k) ((i 1).val)

def t_v4 (Bm : ℕ → ℝ) (i0 i1 : ℕ) : ℝ := (fun (_ j : ℕ) => Bm j) (0) (i1)
theorem r_v4 (Bm : ℕ → ℝ) : val_main_v4 (F := Ideal) (X3 Bm) = T (s := S8320x512) (φ := .f32) fun i => (t_v4 Bm) (i 0).val (i 1).val := by
  funext i
  rw [val_main_v4_apply]
  try rfl

def t_v5 (Am : ℕ → ℕ → ℝ) (Wm : ℕ → ℕ → ℝ) (Bm : ℕ → ℝ) (i0 i1 : ℕ) : ℝ := (t_v3 Am Wm) i0 i1 + (t_v4 Bm) i0 i1
theorem r_v5 (Am : ℕ → ℕ → ℝ) (Wm : ℕ → ℕ → ℝ) (Bm : ℕ → ℝ) : val_main_v5 (F := Ideal) (X1 Am) (X2 Wm) (X3 Bm) = T (s := S8320x512) (φ := .f32) fun i => (t_v5 Am Wm Bm) (i 0).val (i 1).val := by
  funext i
  rw [val_main_v5_apply, r_v3, r_v4]
  try rfl

def t_v6 (Am Wm : ℕ → ℕ → ℝ) (Bm : ℕ → ℝ) (i0 i1 : ℕ) : ℝ := ls (t_v5 Am Wm Bm i0 i1)
theorem r_v6 (Am Wm : ℕ → ℕ → ℝ) (Bm : ℕ → ℝ) : val_main_v6 (F := Ideal) (X1 Am) (X2 Wm) (X3 Bm) = T (s := S8320x512) (φ := .f32) fun i => t_v6 Am Wm Bm (i 0).val (i 1).val := by
  funext i
  rw [val_main_v6_apply, val_main_call0_v1_apply, val_main_call0_call0_v4_apply, val_main_call0_call0_v6_apply, val_main_call0_call0_v11_apply, val_main_call0_call0_v1_apply, val_main_call0_call0_v10_apply, val_main_call0_call0_v9_apply, val_main_call0_call0_v8_apply, val_main_call0_call0_v7_apply, val_main_call0_call0_v3_apply, val_main_call0_v0_apply]
  rw [val_main_call0_call0_v2_apply, val_main_call0_call0_v5_apply, val_main_call0_call0_v0_apply, val_main_call0_call0_cst_apply, r_v5]
  refine (congrArg (FloatOps.hostNegf (F := Ideal) (φ := .f32)) (softplusE _)).trans ?_
  show ((-(-ls _) : ℝ) : EReal) = ((ls _ : ℝ) : EReal)
  rw [neg_neg]

def t_cst : ℝ := 16
theorem r_cst : val_main_cst (F := Ideal)  = T (s := S_) (φ := .f32) fun i => t_cst := by
  funext i
  exact ofBits_sixteen

def t_v7 (i0 i1 : ℕ) : ℝ := t_cst
theorem r_v7 : val_main_v7 (F := Ideal)  = T (s := S8320x512) (φ := .f32) fun i => t_v7 (i 0).val (i 1).val := by
  funext i
  rw [val_main_v7_apply, r_cst]
  try rfl

def t_v8 (Am : ℕ → ℕ → ℝ) (Wm : ℕ → ℕ → ℝ) (Bm : ℕ → ℝ) (i0 i1 : ℕ) : ℝ := (t_v6 Am Wm Bm) i0 i1 * (1 / 16)
theorem r_v8 (Am : ℕ → ℕ → ℝ) (Wm : ℕ → ℕ → ℝ) (Bm : ℕ → ℝ) : val_main_v8 (F := Ideal) (X1 Am) (X2 Wm) (X3 Bm) = T (s := S8320x512) (φ := .f32) fun i => (t_v8 Am Wm Bm) (i 0).val (i 1).val := by
  funext i
  rw [val_main_v8_apply, r_v6, r_v7]
  exact div16 _

def t_call1_call0_cst : ℝ := 0
theorem r_call1_call0_cst : val_main_call1_call0_cst (F := Ideal)  = T (s := S_) (φ := .f32) fun i => t_call1_call0_cst := by
  funext i
  exact ofBits_zero

def t_call1_call0_v0 : ℝ := t_call1_call0_cst
theorem r_call1_call0_v0 : val_main_call1_call0_v0 (F := Ideal)  = T (s := S_) (φ := .f32) fun i => t_call1_call0_v0 := by
  funext i
  rw [val_main_call1_call0_v0_apply, r_call1_call0_cst]
  try rfl

def t_v9 (Am Wm : ℕ → ℕ → ℝ) (Bm : ℕ → ℝ) (i0 i1 : ℕ) : ℝ := ∑ s ∈ Finset.range (i0 + 1), t_v8 Am Wm Bm s i1
theorem r_v9 (Am Wm : ℕ → ℕ → ℝ) (Bm : ℕ → ℝ) : val_main_v9 (F := Ideal) (X1 Am) (X2 Wm) (X3 Bm) = T (s := S8320x512) (φ := .f32) fun i => t_v9 Am Wm Bm (i 0).val (i 1).val := by
  funext i
  obtain ⟨t, c, rfl⟩ : ∃ (t : Fin 8320) (c : Fin 512), i = ValueIdx.ix2 t c := ⟨i 0, i 1, ValueIdx.eq_ix2 i⟩
  unfold val_main_v9
  rw [r_v8]
  refine (window_sum (R := 8320) (C := 512) (lo := 8319) (hi := 0) (t_v8 Am Wm Bm) _ h_S_ ?_ _ t c).trans ?_
  · rw [r_call1_call0_v0]; rfl
  · exact congrArg _ (run_fwd (fun s => t_v8 Am Wm Bm s c) 8320 t.val t.isLt)

def t_v10 (Pm : ℕ → ℕ → ℝ) (i0 i1 : ℕ) : ℝ := (t_v0 Pm) (i0) (512 + i1)
theorem r_v10 (Pm : ℕ → ℕ → ℝ) : val_main_v10 (F := Ideal) (X0 Pm) = T (s := S8320x512) (φ := .f32) fun i => (t_v10 Pm) (i 0).val (i 1).val := by
  funext i
  rw [val_main_v10_apply, r_v0]
  try rfl

def t_v11 (Pm : ℕ → ℕ → ℝ) (i0 i1 i2 : ℕ) : ℝ := (t_v10 Pm) (i0) (128*i1+i2)
theorem r_v11 (Pm : ℕ → ℕ → ℝ) : val_main_v11 (F := Ideal) (X0 Pm) = T (s := S8320x4x128) (φ := .f32) fun i => (t_v11 Pm) (i 0).val (i 1).val (i 2).val := by
  funext i
  rw [val_main_v11_apply, r_v10]
  have h0 : (i 0).val < 8320 := (i 0).isLt
  have h1 : (i 1).val < 4 := (i 1).isLt
  have h2 : (i 2).val < 128 := (i 2).isLt
  exact cg2 (t_v10 Pm) (show ((((i 0).val * 4 + (i 1).val) * 128 + (i 2).val) / 512 : ℕ) = (i 0).val by omega) (show ((((i 0).val * 4 + (i 1).val) * 128 + (i 2).val) % 512 : ℕ) = 128*(i 1).val+(i 2).val by omega)

def t_v12 (Pm : ℕ → ℕ → ℝ) (i0 i1 i2 : ℕ) : ℝ := (t_v11 Pm) (i1) (i0) (i2)
theorem r_v12 (Pm : ℕ → ℕ → ℝ) : val_main_v12 (F := Ideal) (X0 Pm) = T (s := S4x8320x128) (φ := .f32) fun i => (t_v12 Pm) (i 0).val (i 1).val (i 2).val := by
  funext i
  rw [val_main_v12_apply, r_v11]
  try rfl

def t_v13 (Pm : ℕ → ℕ → ℝ) (i0 i1 : ℕ) : ℝ := (t_v0 Pm) (i0) (1024 + i1)
theorem r_v13 (Pm : ℕ → ℕ → ℝ) : val_main_v13 (F := Ideal) (X0 Pm) = T (s := S8320x1024) (φ := .f32) fun i => (t_v13 Pm) (i 0).val (i 1).val := by
  funext i
  rw [val_main_v13_apply, r_v0]
  try rfl

def t_v14 (Pm : ℕ → ℕ → ℝ) (i0 i1 i2 : ℕ) : ℝ := (t_v13 Pm) (i0) (256*i1+i2)
theorem r_v14 (Pm : ℕ → ℕ → ℝ) : val_main_v14 (F := Ideal) (X0 Pm) = T (s := S8320x4x256) (φ := .f32) fun i => (t_v14 Pm) (i 0).val (i 1).val (i 2).val := by
  funext i
  rw [val_main_v14_apply, r_v13]
  have h0 : (i 0).val < 8320 := (i 0).isLt
  have h1 : (i 1).val < 4 := (i 1).isLt
  have h2 : (i 2).val < 256 := (i 2).isLt
  exact cg2 (t_v13 Pm) (show ((((i 0).val * 4 + (i 1).val) * 256 + (i 2).val) / 1024 : ℕ) = (i 0).val by omega) (show ((((i 0).val * 4 + (i 1).val) * 256 + (i 2).val) % 1024 : ℕ) = 256*(i 1).val+(i 2).val by omega)

def t_v15 (Pm : ℕ → ℕ → ℝ) (i0 i1 i2 : ℕ) : ℝ := (t_v14 Pm) (i1) (i0) (i2)
theorem r_v15 (Pm : ℕ → ℕ → ℝ) : val_main_v15 (F := Ideal) (X0 Pm) = T (s := S4x8320x256) (φ := .f32) fun i => (t_v15 Pm) (i 0).val (i 1).val (i 2).val := by
  funext i
  rw [val_main_v15_apply, r_v14]
  try rfl

def t_v16 (Am : ℕ → ℕ → ℝ) (Wm : ℕ → ℕ → ℝ) (Bm : ℕ → ℝ) (i0 i1 i2 : ℕ) : ℝ := (t_v9 Am Wm Bm) (i0) (128*i1+i2)
theorem r_v16 (Am : ℕ → ℕ → ℝ) (Wm : ℕ → ℕ → ℝ) (Bm : ℕ → ℝ) : val_main_v16 (F := Ideal) (X1 Am) (X2 Wm) (X3 Bm) = T (s := S8320x4x128) (φ := .f32) fun i => (t_v16 Am Wm Bm) (i 0).val (i 1).val (i 2).val := by
  funext i
  rw [val_main_v16_apply, r_v9]
  have h0 : (i 0).val < 8320 := (i 0).isLt
  have h1 : (i 1).val < 4 := (i 1).isLt
  have h2 : (i 2).val < 128 := (i 2).isLt
  exact cg2 (t_v9 Am Wm Bm) (show ((((i 0).val * 4 + (i 1).val) * 128 + (i 2).val) / 512 : ℕ) = (i 0).val by omega) (show ((((i 0).val * 4 + (i 1).val) * 128 + (i 2).val) % 512 : ℕ) = 128*(i 1).val+(i 2).val by omega)

def t_v17 (Am : ℕ → ℕ → ℝ) (Wm : ℕ → ℕ → ℝ) (Bm : ℕ → ℝ) (i0 i1 i2 : ℕ) : ℝ := (t_v16 Am Wm Bm) (i1) (i0) (i2)
theorem r_v17 (Am : ℕ → ℕ → ℝ) (Wm : ℕ → ℕ → ℝ) (Bm : ℕ → ℝ) : val_main_v17 (F := Ideal) (X1 Am) (X2 Wm) (X3 Bm) = T (s := S4x8320x128) (φ := .f32) fun i => (t_v17 Am Wm Bm) (i 0).val (i 1).val (i 2).val := by
  funext i
  rw [val_main_v17_apply, r_v16]
  try rfl

def t_v18 (Am : ℕ → ℕ → ℝ) (Wm : ℕ → ℕ → ℝ) (Bm : ℕ → ℝ) (i0 i1 : ℕ) : ℝ := (t_v9 Am Wm Bm) i0 i1 - (t_v8 Am Wm Bm) i0 i1
theorem r_v18 (Am : ℕ → ℕ → ℝ) (Wm : ℕ → ℕ → ℝ) (Bm : ℕ → ℝ) : val_main_v18 (F := Ideal) (X1 Am) (X2 Wm) (X3 Bm) = T (s := S8320x512) (φ := .f32) fun i => (t_v18 Am Wm Bm) (i 0).val (i 1).val := by
  funext i
  rw [val_main_v18_apply, r_v9, r_v8]
  try rfl

def t_v19 (Am : ℕ → ℕ → ℝ) (Wm : ℕ → ℕ → ℝ) (Bm : ℕ → ℝ) (i0 i1 i2 : ℕ) : ℝ := (t_v18 Am Wm Bm) (i0) (128*i1+i2)
theorem r_v19 (Am : ℕ → ℕ → ℝ) (Wm : ℕ → ℕ → ℝ) (Bm : ℕ → ℝ) : val_main_v19 (F := Ideal) (X1 Am) (X2 Wm) (X3 Bm) = T (s := S8320x4x128) (φ := .f32) fun i => (t_v19 Am Wm Bm) (i 0).val (i 1).val (i 2).val := by
  funext i
  rw [val_main_v19_apply, r_v18]
  have h0 : (i 0).val < 8320 := (i 0).isLt
  have h1 : (i 1).val < 4 := (i 1).isLt
  have h2 : (i 2).val < 128 := (i 2).isLt
  exact cg2 (t_v18 Am Wm Bm) (show ((((i 0).val * 4 + (i 1).val) * 128 + (i 2).val) / 512 : ℕ) = (i 0).val by omega) (show ((((i 0).val * 4 + (i 1).val) * 128 + (i 2).val) % 512 : ℕ) = 128*(i 1).val+(i 2).val by omega)

def t_v20 (Am : ℕ → ℕ → ℝ) (Wm : ℕ → ℕ → ℝ) (Bm : ℕ → ℝ) (i0 i1 i2 : ℕ) : ℝ := (t_v19 Am Wm Bm) (i1) (i0) (i2)
theorem r_v20 (Am : ℕ → ℕ → ℝ) (Wm : ℕ → ℕ → ℝ) (Bm : ℕ → ℝ) : val_main_v20 (F := Ideal) (X1 Am) (X2 Wm) (X3 Bm) = T (s := S4x8320x128) (φ := .f32) fun i => (t_v20 Am Wm Bm) (i 0).val (i 1).val (i 2).val := by
  funext i
  rw [val_main_v20_apply, r_v19]
  try rfl

def t_v21 (Am : ℕ → ℕ → ℝ) (Wm : ℕ → ℕ → ℝ) (Bm : ℕ → ℝ) (i0 i1 i2 i3 : ℕ) : ℝ := (t_v20 Am Wm Bm) (i0) (128*i1+i2) (i3)
theorem r_v21 (Am : ℕ → ℕ → ℝ) (Wm : ℕ → ℕ → ℝ) (Bm : ℕ → ℝ) : val_main_v21 (F := Ideal) (X1 Am) (X2 Wm) (X3 Bm) = T (s := S4x65x128x128) (φ := .f32) fun i => (t_v21 Am Wm Bm) (i 0).val (i 1).val (i 2).val (i 3).val := by
  funext i
  rw [val_main_v21_apply, r_v20]
  have h0 : (i 0).val < 4 := (i 0).isLt
  have h1 : (i 1).val < 65 := (i 1).isLt
  have h2 : (i 2).val < 128 := (i 2).isLt
  have h3 : (i 3).val < 128 := (i 3).isLt
  exact cg3 (t_v20 Am Wm Bm) (show (((((i 0).val * 65 + (i 1).val) * 128 + (i 2).val) * 128 + (i 3).val) / 1064960 : ℕ) = (i 0).val by omega) (show (((((i 0).val * 65 + (i 1).val) * 128 + (i 2).val) * 128 + (i 3).val) / 128 % 8320 : ℕ) = 128*(i 1).val+(i 2).val by omega) (show (((((i 0).val * 65 + (i 1).val) * 128 + (i 2).val) * 128 + (i 3).val) % 128 : ℕ) = (i 3).val by omega)

def t_v22 (Am : ℕ → ℕ → ℝ) (Wm : ℕ → ℕ → ℝ) (Bm : ℕ → ℝ) (i0 i1 i2 i3 : ℕ) : ℝ := (t_v21 Am Wm Bm) (i0) (i1) (i2) (i3)
theorem r_v22 (Am : ℕ → ℕ → ℝ) (Wm : ℕ → ℕ → ℝ) (Bm : ℕ → ℝ) : val_main_v22 (F := Ideal) (X1 Am) (X2 Wm) (X3 Bm) = T (s := S4x65x1x128) (φ := .f32) fun i => (t_v22 Am Wm Bm) (i 0).val (i 1).val (i 2).val (i 3).val := by
  funext i
  rw [val_main_v22_apply, r_v21]
  try rfl

def t_v23 (Am : ℕ → ℕ → ℝ) (Wm : ℕ → ℕ → ℝ) (Bm : ℕ → ℝ) (i0 i1 i2 : ℕ) : ℝ := (t_v22 Am Wm Bm) (i0) (i1) (0) (i2)
theorem r_v23 (Am : ℕ → ℕ → ℝ) (Wm : ℕ → ℕ → ℝ) (Bm : ℕ → ℝ) : val_main_v23 (F := Ideal) (X1 Am) (X2 Wm) (X3 Bm) = T (s := S4x65x128) (φ := .f32) fun i => (t_v23 Am Wm Bm) (i 0).val (i 1).val (i 2).val := by
  funext i
  rw [val_main_v23_apply, r_v22]
  have h0 : (i 0).val < 4 := (i 0).isLt
  have h1 : (i 1).val < 65 := (i 1).isLt
  have h2 : (i 2).val < 128 := (i 2).isLt
  exact cg4 (t_v22 Am Wm Bm) (show ((((i 0).val * 65 + (i 1).val) * 128 + (i 2).val) / 8320 : ℕ) = (i 0).val by omega) (show ((((i 0).val * 65 + (i 1).val) * 128 + (i 2).val) / 128 % 65 : ℕ) = (i 1).val by omega) (show (0 : ℕ) = 0 by omega) (show ((((i 0).val * 65 + (i 1).val) * 128 + (i 2).val) % 128 : ℕ) = (i 2).val by omega)

theorem r_v33 : val_main_v33 (F := Ideal) = fun i : S65x8320x1.Idx => if (i 1).val < 128 * (i 0).val then 1#1 else 0#1 := by
  funext i
  rw [val_main_v33_apply, val_main_v32_apply, val_main_v30_apply, val_main_v25_apply, val_main_v24_apply, val_main_v31_apply, val_main_v29_apply, val_main_v28_apply, val_main_c_apply, val_main_v27_apply, val_main_v26_apply]
  exact ltE (i 1).val (i 0).val (lt_trans (i 1).isLt (by decide)) (i 0).isLt
theorem r_call2_v1 : val_main_call2_v1 (F := Ideal) = fun i : S4x65x8320x128.Idx => if (i 2).val < 128 * (i 1).val then 1#1 else 0#1 := by
  funext i
  rw [val_main_call2_v1_apply, r_v33]
theorem r_call3_v1 : val_main_call3_v1 (F := Ideal) = fun i : S4x65x8320x128.Idx => if (i 2).val < 128 * (i 1).val then 1#1 else 0#1 := by
  funext i
  rw [val_main_call3_v1_apply, r_v33]

def t_v34 (Am : ℕ → ℕ → ℝ) (Wm : ℕ → ℕ → ℝ) (Bm : ℕ → ℝ) (i0 i1 i2 i3 : ℕ) : ℝ := (t_v23 Am Wm Bm) (i0) (i1) (i3)
theorem r_v34 (Am : ℕ → ℕ → ℝ) (Wm : ℕ → ℕ → ℝ) (Bm : ℕ → ℝ) : val_main_v34 (F := Ideal) (X1 Am) (X2 Wm) (X3 Bm) = T (s := S4x65x1x128) (φ := .f32) fun i => (t_v34 Am Wm Bm) (i 0).val (i 1).val (i 2).val (i 3).val := by
  funext i
  rw [val_main_v34_apply, r_v23]
  try rfl

def t_v35 (Am : ℕ → ℕ → ℝ) (Wm : ℕ → ℕ → ℝ) (Bm : ℕ → ℝ) (i0 i1 i2 i3 : ℕ) : ℝ := (t_v17 Am Wm Bm) (i0) (i2) (i3)
theorem r_v35 (Am : ℕ → ℕ → ℝ) (Wm : ℕ → ℕ → ℝ) (Bm : ℕ → ℝ) : val_main_v35 (F := Ideal) (X1 Am) (X2 Wm) (X3 Bm) = T (s := S4x1x8320x128) (φ := .f32) fun i => (t_v35 Am Wm Bm) (i 0).val (i 1).val (i 2).val (i 3).val := by
  funext i
  rw [val_main_v35_apply, r_v17]
  try rfl

def t_v36 (Am : ℕ → ℕ → ℝ) (Wm : ℕ → ℕ → ℝ) (Bm : ℕ → ℝ) (i0 i1 i2 i3 : ℕ) : ℝ := (t_v34 Am Wm Bm) (i0) (i1) (0) (i3)
theorem r_v36 (Am : ℕ → ℕ → ℝ) (Wm : ℕ → ℕ → ℝ) (Bm : ℕ → ℝ) : val_main_v36 (F := Ideal) (X1 Am) (X2 Wm) (X3 Bm) = T (s := S4x65x8320x128) (φ := .f32) fun i => (t_v36 Am Wm Bm) (i 0).val (i 1).val (i 2).val (i 3).val := by
  funext i
  rw [val_main_v36_apply, r_v34]
  try rfl

def t_v37 (Am : ℕ → ℕ → ℝ) (Wm : ℕ → ℕ → ℝ) (Bm : ℕ → ℝ) (i0 i1 i2 i3 : ℕ) : ℝ := (t_v35 Am Wm Bm) (i0) (0) (i2) (i3)
theorem r_v37 (Am : ℕ → ℕ → ℝ) (Wm : ℕ → ℕ → ℝ) (Bm : ℕ → ℝ) : val_main_v37 (F := Ideal) (X1 Am) (X2 Wm) (X3 Bm) = T (s := S4x65x8320x128) (φ := .f32) fun i => (t_v37 Am Wm Bm) (i 0).val (i 1).val (i 2).val (i 3).val := by
  funext i
  rw [val_main_v37_apply, r_v35]
  try rfl

def t_v38 (Am : ℕ → ℕ → ℝ) (Wm : ℕ → ℕ → ℝ) (Bm : ℕ → ℝ) (i0 i1 i2 i3 : ℕ) : ℝ := (t_v36 Am Wm Bm) i0 i1 i2 i3 - (t_v37 Am Wm Bm) i0 i1 i2 i3
theorem r_v38 (Am : ℕ → ℕ → ℝ) (Wm : ℕ → ℕ → ℝ) (Bm : ℕ → ℝ) : val_main_v38 (F := Ideal) (X1 Am) (X2 Wm) (X3 Bm) = T (s := S4x65x8320x128) (φ := .f32) fun i => (t_v38 Am Wm Bm) (i 0).val (i 1).val (i 2).val (i 3).val := by
  funext i
  rw [val_main_v38_apply, r_v36, r_v37]
  try rfl

def t_cst_0 : ℝ := 0
theorem r_cst_0 : val_main_cst_0 (F := Ideal)  = T (s := S_) (φ := .f32) fun i => t_cst_0 := by
  funext i
  exact ofBits_zero

def t_call2_v0 : ℝ := t_cst_0
theorem r_call2_v0 : val_main_call2_v0 (F := Ideal)  = T (s := S_) (φ := .f32) fun i => t_call2_v0 := by
  funext i
  rw [val_main_call2_v0_apply, r_cst_0]
  try rfl

def t_call2_v2 (i0 i1 i2 i3 : ℕ) : ℝ := t_call2_v0
theorem r_call2_v2 : val_main_call2_v2 (F := Ideal)  = T (s := S4x65x8320x128) (φ := .f32) fun i => t_call2_v2 (i 0).val (i 1).val (i 2).val (i 3).val := by
  funext i
  rw [val_main_call2_v2_apply, r_call2_v0]
  try rfl

def t_v39 (Am : ℕ → ℕ → ℝ) (Wm : ℕ → ℕ → ℝ) (Bm : ℕ → ℝ) (i0 i1 i2 i3 : ℕ) : ℝ := if i2 < 128 * i1 then (t_v38 Am Wm Bm) i0 i1 i2 i3 else t_call2_v2 i0 i1 i2 i3
theorem r_v39 (Am : ℕ → ℕ → ℝ) (Wm : ℕ → ℕ → ℝ) (Bm : ℕ → ℝ) : val_main_v39 (F := Ideal) (X1 Am) (X2 Wm) (X3 Bm) = T (s := S4x65x8320x128) (φ := .f32) fun i => (t_v39 Am Wm Bm) (i 0).val (i 1).val (i 2).val (i 3).val := by
  funext i
  rw [val_main_v39_apply, r_call2_v1, r_v38, r_call2_v2]
  exact selE _ _ _

def t_v40 (Am : ℕ → ℕ → ℝ) (Wm : ℕ → ℕ → ℝ) (Bm : ℕ → ℝ) (i0 i1 i2 i3 : ℕ) : ℝ := Real.exp ((t_v39 Am Wm Bm) i0 i1 i2 i3)
theorem r_v40 (Am : ℕ → ℕ → ℝ) (Wm : ℕ → ℕ → ℝ) (Bm : ℕ → ℝ) : val_main_v40 (F := Ideal) (X1 Am) (X2 Wm) (X3 Bm) = T (s := S4x65x8320x128) (φ := .f32) fun i => (t_v40 Am Wm Bm) (i 0).val (i 1).val (i 2).val (i 3).val := by
  funext i
  rw [val_main_v40_apply, r_v39]
  try rfl

def t_cst_1 : ℝ := 0
theorem r_cst_1 : val_main_cst_1 (F := Ideal)  = T (s := S_) (φ := .f32) fun i => t_cst_1 := by
  funext i
  exact ofBits_zero

def t_call3_v0 : ℝ := t_cst_1
theorem r_call3_v0 : val_main_call3_v0 (F := Ideal)  = T (s := S_) (φ := .f32) fun i => t_call3_v0 := by
  funext i
  rw [val_main_call3_v0_apply, r_cst_1]
  try rfl

def t_call3_v2 (i0 i1 i2 i3 : ℕ) : ℝ := t_call3_v0
theorem r_call3_v2 : val_main_call3_v2 (F := Ideal)  = T (s := S4x65x8320x128) (φ := .f32) fun i => t_call3_v2 (i 0).val (i 1).val (i 2).val (i 3).val := by
  funext i
  rw [val_main_call3_v2_apply, r_call3_v0]
  try rfl

def t_v41 (Am : ℕ → ℕ → ℝ) (Wm : ℕ → ℕ → ℝ) (Bm : ℕ → ℝ) (i0 i1 i2 i3 : ℕ) : ℝ := if i2 < 128 * i1 then (t_v40 Am Wm Bm) i0 i1 i2 i3 else t_call3_v2 i0 i1 i2 i3
theorem r_v41 (Am : ℕ → ℕ → ℝ) (Wm : ℕ → ℕ → ℝ) (Bm : ℕ → ℝ) : val_main_v41 (F := Ideal) (X1 Am) (X2 Wm) (X3 Bm) = T (s := S4x65x8320x128) (φ := .f32) fun i => (t_v41 Am Wm Bm) (i 0).val (i 1).val (i 2).val (i 3).val := by
  funext i
  rw [val_main_v41_apply, r_call3_v1, r_v40, r_call3_v2]
  exact selE _ _ _

def t_v42 (Pm : ℕ → ℕ → ℝ) (i0 i1 i2 i3 : ℕ) : ℝ := (t_v12 Pm) (i0) (i2) (i3)
theorem r_v42 (Pm : ℕ → ℕ → ℝ) : val_main_v42 (F := Ideal) (X0 Pm) = T (s := S4x1x8320x128) (φ := .f32) fun i => (t_v42 Pm) (i 0).val (i 1).val (i 2).val (i 3).val := by
  funext i
  rw [val_main_v42_apply, r_v12]
  try rfl

def t_v43 (Pm : ℕ → ℕ → ℝ) (i0 i1 i2 i3 : ℕ) : ℝ := (t_v42 Pm) (i0) (0) (i2) (i3)
theorem r_v43 (Pm : ℕ → ℕ → ℝ) : val_main_v43 (F := Ideal) (X0 Pm) = T (s := S4x65x8320x128) (φ := .f32) fun i => (t_v43 Pm) (i 0).val (i 1).val (i 2).val (i 3).val := by
  funext i
  rw [val_main_v43_apply, r_v42]
  try rfl

def t_v44 (Pm : ℕ → ℕ → ℝ) (Am : ℕ → ℕ → ℝ) (Wm : ℕ → ℕ → ℝ) (Bm : ℕ → ℝ) (i0 i1 i2 i3 : ℕ) : ℝ := (t_v43 Pm) i0 i1 i2 i3 * (t_v41 Am Wm Bm) i0 i1 i2 i3
theorem r_v44 (Pm : ℕ → ℕ → ℝ) (Am : ℕ → ℕ → ℝ) (Wm : ℕ → ℕ → ℝ) (Bm : ℕ → ℝ) : val_main_v44 (F := Ideal) (X0 Pm) (X1 Am) (X2 Wm) (X3 Bm) = T (s := S4x65x8320x128) (φ := .f32) fun i => (t_v44 Pm Am Wm Bm) (i 0).val (i 1).val (i 2).val (i 3).val := by
  funext i
  rw [val_main_v44_apply, r_v43, r_v41]
  try rfl

def t_v45 (Pm : ℕ → ℕ → ℝ) (Am : ℕ → ℕ → ℝ) (Wm : ℕ → ℕ → ℝ) (Bm : ℕ → ℝ) (i0 i1 i2 i3 : ℕ) : ℝ := ∑ k ∈ Finset.range 8320, (t_v15 Pm) (i0) (k) (i1) * (t_v44 Pm Am Wm Bm) (i0) (i2) (k) (i3)
theorem r_v45 (Pm : ℕ → ℕ → ℝ) (Am : ℕ → ℕ → ℝ) (Wm : ℕ → ℕ → ℝ) (Bm : ℕ → ℝ) : val_main_v45 (F := Ideal) (X0 Pm) (X1 Am) (X2 Wm) (X3 Bm) = T (s := S4x256x65x128) (φ := .f32) fun i => (t_v45 Pm Am Wm Bm) (i 0).val (i 1).val (i 2).val (i 3).val := by
  funext i
  rw [val_main_v45_apply, r_v15, r_v44]
  exact dotE 8320 (fun k => (t_v15 Pm) ((i 0).val) (k) ((i 1).val)) fun k => (t_v44 Pm Am Wm Bm) ((i 0).val) ((i 2).val) (k) ((i 3).val)

def t_v46 (Pm : ℕ → ℕ → ℝ) (Am : ℕ → ℕ → ℝ) (Wm : ℕ → ℕ → ℝ) (Bm : ℕ → ℝ) (i0 i1 i2 i3 : ℕ) : ℝ := (t_v45 Pm Am Wm Bm) (i0) (i2) (i1) (i3)
theorem r_v46 (Pm : ℕ → ℕ → ℝ) (Am : ℕ → ℕ → ℝ) (Wm : ℕ → ℕ → ℝ) (Bm : ℕ → ℝ) : val_main_v46 (F := Ideal) (X0 Pm) (X1 Am) (X2 Wm) (X3 Bm) = T (s := S4x65x256x128) (φ := .f32) fun i => (t_v46 Pm Am Wm Bm) (i 0).val (i 1).val (i 2).val (i 3).val := by
  funext i
  rw [val_main_v46_apply, r_v45]
  try rfl

def t_v47 (Pm : ℕ → ℕ → ℝ) (Am : ℕ → ℕ → ℝ) (Wm : ℕ → ℕ → ℝ) (Bm : ℕ → ℝ) (i0 i1 i2 i3 : ℕ) : ℝ := (t_v46 Pm Am Wm Bm) (i1) (i0) (i2) (i3)
theorem r_v47 (Pm : ℕ → ℕ → ℝ) (Am : ℕ → ℕ → ℝ) (Wm : ℕ → ℕ → ℝ) (Bm : ℕ → ℝ) : val_main_v47 (F := Ideal) (X0 Pm) (X1 Am) (X2 Wm) (X3 Bm) = T (s := S65x4x256x128) (φ := .f32) fun i => (t_v47 Pm Am Wm Bm) (i 0).val (i 1).val (i 2).val (i 3).val := by
  funext i
  rw [val_main_v47_apply, r_v46]
  try rfl

def t_v48 (Pm : ℕ → ℕ → ℝ) (Am : ℕ → ℕ → ℝ) (Wm : ℕ → ℕ → ℝ) (Bm : ℕ → ℝ) (i0 i1 i2 : ℕ) : ℝ := (t_v47 Pm Am Wm Bm) (i0) (i1/256) (i1%256) (i2)
theorem r_v48 (Pm : ℕ → ℕ → ℝ) (Am : ℕ → ℕ → ℝ) (Wm : ℕ → ℕ → ℝ) (Bm : ℕ → ℝ) : val_main_v48 (F := Ideal) (X0 Pm) (X1 Am) (X2 Wm) (X3 Bm) = T (s := S65x1024x128) (φ := .f32) fun i => (t_v48 Pm Am Wm Bm) (i 0).val (i 1).val (i 2).val := by
  funext i
  rw [val_main_v48_apply, r_v47]
  have h0 : (i 0).val < 65 := (i 0).isLt
  have h1 : (i 1).val < 1024 := (i 1).isLt
  have h2 : (i 2).val < 128 := (i 2).isLt
  exact cg4 (t_v47 Pm Am Wm Bm) (show ((((i 0).val * 1024 + (i 1).val) * 128 + (i 2).val) / 131072 : ℕ) = (i 0).val by omega) (show ((((i 0).val * 1024 + (i 1).val) * 128 + (i 2).val) / 32768 % 4 : ℕ) = (i 1).val/256 by omega) (show ((((i 0).val * 1024 + (i 1).val) * 128 + (i 2).val) / 128 % 256 : ℕ) = (i 1).val%256 by omega) (show ((((i 0).val * 1024 + (i 1).val) * 128 + (i 2).val) % 128 : ℕ) = (i 2).val by omega)

variable (Pm Am Wm : ℕ → ℕ → ℝ) (Bm : ℕ → ℝ)
open Finset

theorem e5 (t j : ℕ) : t_v5 Am Wm Bm t j = zz Am Wm Bm t j := by
  show (∑ k ∈ range 128, Am t k * Wm k j) + Bm j = _
  unfold zz
  rw [Finset.sum_range]
theorem e17 (h t : ℕ) (x : Fin 128) : t_v17 Am Wm Bm h t x = cum (lad Am Wm Bm h) (t + 1) x := by
  show ∑ s ∈ range (t + 1), ls (t_v5 Am Wm Bm s (128 * h + x)) * (1 / 16) = _
  exact sum_congr rfl fun s _ => by rw [e5]; rfl
theorem e23 (h c : ℕ) (x : Fin 128) : t_v23 Am Wm Bm h c x = cum (lad Am Wm Bm h) (128 * c) x := by
  show t_v17 Am Wm Bm h (128 * c + 0) x - ls (t_v5 Am Wm Bm (128 * c + 0) (128 * h + x)) * (1 / 16) = _
  rw [e17, e5, Nat.add_zero]
  unfold cum
  rw [sum_range_succ]
  exact add_sub_cancel_right _ _
theorem e41 (h c s : ℕ) (x : Fin 128) : t_v41 Am Wm Bm h c s x
    = if s < 128 * c then Real.exp (cum (lad Am Wm Bm h) (128 * c) x - cum (lad Am Wm Bm h) (s + 1) x) else 0 := by
  show (if s < 128 * c then Real.exp (if s < 128 * c then t_v23 Am Wm Bm h c x - t_v17 Am Wm Bm h s x else 0) else 0) = _
  by_cases hs : s < 128 * c
  · rw [if_pos hs, if_pos hs, if_pos hs, e23, e17]
  · rw [if_neg hs, if_neg hs]
theorem e48 (c i : ℕ) (x : Fin 128) (hc : c < 65) : t_v48 Pm Am Wm Bm c i x = ST' Pm Am Wm Bm (i / 256) c ⟨i % 256, Nat.mod_lt _ (by norm_num)⟩ x := by
  show ∑ s ∈ range 8320, Pm s (1024 + (256 * (i / 256) + i % 256)) * (Pm s (512 + (128 * (i / 256) + x)) * t_v41 Am Wm Bm (i / 256) c s x) = _
  rw [sum_congr rfl fun s _ => by rw [e41, mul_ite, mul_zero, mul_ite, mul_zero], ← sum_filter]
  unfold ST' ST
  refine sum_congr (ext fun k => ?_) fun k _ => ?_
  · rw [mem_filter, mem_range, mem_range]
    omega
  · unfold kk vv
    rw [Nat.add_assoc]
    ring

section
open Cert.KernelIdeal.Value Idealize.ShloMosaic.TcCoe Idealize.SL.Sem Idealize.ShloMosaic.StableHlo
variable {m : (ℓ : Loc nD τ sig) → Buf (Elt Ideal) ℓ}

theorem V_st (d : Dev nD) :
    (V m d main_v48 : Vec Ideal S65x1024x128 .f32) = val_main_v48 (F := Ideal) (m ((d : Thread nD τ).loc main_arg0)) (m ((d : Thread nD τ).loc main_arg1)) (m ((d : Thread nD τ).loc main_arg2)) (m ((d : Thread nD τ).loc main_arg3)) := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_reads_simp
  rfl

/-- What the launch meets when the arguments are tables of real numbers. -/
theorem launched (Gm : ℕ → ℕ → ℝ) (d : Dev nD)
    (a0 : (m ((d : Thread nD τ).loc main_arg0) : Vec Ideal S8320x7168 .bf16) = X0 Pm)
    (a1 : (m ((d : Thread nD τ).loc main_arg1) : Vec Ideal S8320x128 .bf16) = X1 Am)
    (a2 : (m ((d : Thread nD τ).loc main_arg2) : Vec Ideal S128x512 .bf16) = X2 Wm)
    (a3 : (m ((d : Thread nD τ).loc main_arg3) : Vec Ideal S1x512 .f32) = X3 Bm)
    (a4 : (m ((d : Thread nD τ).loc main_arg4) : Vec Ideal S8320x1024 .bf16) = ub fun i j => Gm i j) : Launched Pm Am Wm Gm Bm m d where
  a0 := a0
  a1 := a1
  a2 := a2
  a3 := a3
  a4 := a4
  st c y x := by
    rw [V_st, a0, a1, a2, a3, r_v48]
    exact congrArg (fun r : ℝ => (r : EReal)) (e48 Pm Am Wm Bm c y x c.isLt)
end

end Cert.Gla.Host
-- ==== Proof.RefEnd.lean ====
/- The plain gradient's tables are the tables named in `Chunk`. -/
module

public import proofs.«01_k».proof.Proof.Ref
public import proofs.«01_k».proof.Proof.Arrays

@[expose] public section

set_option maxRecDepth 20000

noncomputable section

namespace Cert.Gla

open scoped BigOperators
open Finset

theorem from_sum (f : ℕ → ℝ) (s : ℕ) : (∑ k ∈ range 8320, if s ≤ k then f k else 0) = ∑ k ∈ Ico s 8320, f k := by
  rw [← sum_filter]
  refine sum_congr (ext fun k => ?_) fun _ _ => rfl
  rw [mem_filter, mem_range, mem_Ico]
  exact and_comm
theorem upto_sum (f : ℕ → ℝ) (t : ℕ) (ht : t < 8320) : (∑ k ∈ range 8320, if k ≤ t then f k else 0) = ∑ k ∈ range (t + 1), f k := by
  rw [← sum_filter]
  refine sum_congr (ext fun k => ?_) fun _ _ => rfl
  rw [mem_filter, mem_range, mem_range]
  omega

variable (Pm Am Wm Gm : ℕ → ℕ → ℝ) (Bm : ℕ → ℝ)

theorem e11 (t j : ℕ) : t_v11 Am Wm Bm t j = zz Am Wm Bm t j := by
  show (∑ k ∈ range 128, Am t k * Wm k j) + Bm j = _
  unfold zz
  rw [Finset.sum_range]
theorem e25 (h t : ℕ) (x : Fin 128) : t_v25 Am Wm Bm h t x = cum (lad Am Wm Bm h) (t + 1) x := by
  show ∑ s ∈ range (t + 1), ls (t_v11 Am Wm Bm s (128 * h + x)) * (1 / 16) = _
  exact sum_congr rfl fun s _ => by rw [e11]; rfl
theorem e35 (h t s : ℕ) (x : Fin 128) (hs : s ≤ t) : t_v35 Am Wm Bm h t s x = dec (lad Am Wm Bm h) t s x := by
  show Real.exp (if s ≤ t then t_v25 Am Wm Bm h t x - t_v25 Am Wm Bm h s x else 0) = _
  rw [if_pos hs, e25, e25]
  rfl
theorem e36 (h t s : ℕ) (x : Fin 128) : t_v36_0 Am Wm Bm h t s x = if s ≤ t then dec (lad Am Wm Bm h) t s x else 0 := by
  show (if s ≤ t then t_v35 Am Wm Bm h t s x else 0) = _
  by_cases hs : s ≤ t
  · rw [if_pos hs, if_pos hs, e35 _ _ _ _ _ _ _ hs]
  · rw [if_neg hs, if_neg hs]
theorem e41 (h t s : ℕ) (x : Fin 128) : t_v41 Pm h t s x = qq Pm h t x * kk Pm h s x := by
  show Pm t (128 * h + x) * sc * Pm s (512 + (128 * h + x)) = _
  unfold qq kk
  rw [← Nat.add_assoc]
theorem e43 (h t s : ℕ) : t_v43 Pm Am Wm Bm h t s = if s ≤ t then A (qq Pm h) (kk Pm h) (lad Am Wm Bm h) t s else 0 := by
  show ∑ k ∈ range 128, t_v41 Pm h t s k * t_v36_0 Am Wm Bm h t s k = _
  rw [Finset.sum_range, sum_congr rfl fun x _ => by rw [e41, e36]]
  by_cases hs : s ≤ t
  · simp only [if_pos hs]
    rfl
  · simp only [if_neg hs, mul_zero, sum_const_zero]
theorem e50 (h t s : ℕ) : t_v50 Pm Gm h t s = G (vv Pm h) (gg Gm h) t s := by
  show ∑ k ∈ range 256, Gm t (256 * h + k) * Pm s (1024 + (256 * h + k)) = _
  rw [Finset.sum_range]
  rfl
theorem e49 (h s : ℕ) (y : Fin 256) : t_v49 Pm Am Wm Bm Gm h s y = DV' Pm Am Wm Gm Bm h s y := by
  show ∑ k ∈ range 8320, gg Gm h k y * t_v43 Pm Am Wm Bm h k s = _
  rw [sum_congr rfl fun k _ => by rw [e43, mul_ite, mul_zero], from_sum]
  rfl
theorem e62 (h s : ℕ) (x : Fin 128) : t_v62 Pm Am Wm Bm Gm h s x = DK' Pm Am Wm Gm Bm h s x := by
  show ∑ k ∈ range 8320, qq Pm h k x * (t_v50 Pm Gm h k s * t_v36_0 Am Wm Bm h k s x) = _
  rw [sum_congr rfl fun k _ => by rw [e50, e36, mul_ite, mul_zero, mul_ite, mul_zero], from_sum]
  rfl
theorem e63 (h t : ℕ) (x : Fin 128) (ht : t < 8320) : t_v63 Pm Am Wm Bm Gm h t x = DQ' Pm Am Wm Gm Bm h t x := by
  show ∑ k ∈ range 8320, t_v50 Pm Gm h t k * t_v36_0 Am Wm Bm h t k x * Pm k (512 + (128 * h + x)) = _
  rw [sum_congr rfl fun k _ => by rw [e50, e36, mul_ite, mul_zero, ite_mul, zero_mul], upto_sum _ _ ht]
  refine sum_congr rfl fun k _ => ?_
  unfold kk
  rw [← Nat.add_assoc]
theorem e66 (h t s : ℕ) (x : Fin 128) : t_v66 Pm Am Wm Bm Gm h t s x
    = if s ≤ t then qq Pm h t x * kk Pm h s x * G (vv Pm h) (gg Gm h) t s * dec (lad Am Wm Bm h) t s x else 0 := by
  show (if s ≤ t then (if s ≤ t then t_v41 Pm h t s x * t_v50 Pm Gm h t s else 0) * t_v35 Am Wm Bm h t s x else 0) = _
  by_cases hs : s ≤ t
  · rw [if_pos hs, if_pos hs, if_pos hs, e41, e50, e35 _ _ _ _ _ _ _ hs]
  · rw [if_neg hs, if_neg hs]
theorem e74 (h t : ℕ) (x : Fin 128) (ht : t < 8320) : t_v74 Pm Am Wm Bm Gm h t x = DB' Pm Am Wm Gm Bm h t x := by
  show ∑ k ∈ range 8320, -t_v66 Pm Am Wm Bm Gm h k t x + ∑ k ∈ range 8320, t_v66 Pm Am Wm Bm Gm h t k x = _
  rw [sum_neg_distrib, sum_congr rfl fun k _ => e66 Pm Am Wm Gm Bm h k t x, sum_congr rfl fun k _ => e66 Pm Am Wm Gm Bm h t k x, from_sum, upto_sum _ _ ht]
  unfold DB' DB DQ DK
  rw [mul_sum, mul_sum, add_comm, sub_eq_add_neg]
  refine congrArg₂ (· + ·) (sum_congr rfl fun k _ => by ring) (congrArg Neg.neg (sum_congr rfl fun k _ => by ring))
theorem e76 (t j : ℕ) (ht : t < 8320) : t_v76 Pm Am Wm Bm Gm t j = dbt Pm Am Wm Gm Bm t j :=
  e74 Pm Am Wm Gm Bm (j / 128) t ⟨j % 128, Nat.mod_lt _ (by norm_num)⟩ ht
theorem e88 (t j : ℕ) : t_v88 Pm Am Wm Bm Gm t j = dzt Pm Am Wm Gm Bm t j := by
  show -(-((∑ s ∈ Ico t 8320, t_v76 Pm Am Wm Bm Gm s j) * (1 / 16)) * dls (t_v11 Am Wm Bm t j)) = _
  rw [e11, neg_mul, neg_neg, sum_congr rfl fun s hs => e76 Pm Am Wm Gm Bm s j (mem_Ico.mp hs).2]
  rfl

theorem e100 (t u : ℕ) : t_v100 Pm Am Wm Bm Gm t u = dat Pm Am Wm Gm Bm t u := by
  show ∑ k ∈ range 512, t_v88 Pm Am Wm Bm Gm t k * Wm u k = _
  rw [Finset.sum_range, sum_congr rfl fun k _ => by rw [e88]]
  rfl
theorem e90 (u j : ℕ) : t_v90 Pm Am Wm Bm Gm u j = dwt Pm Am Wm Gm Bm u j := by
  show ∑ k ∈ range 8320, t_v88 Pm Am Wm Bm Gm k j * Am k u = _
  exact sum_congr rfl fun k _ => by rw [e88, mul_comm]
theorem e95 (r j : ℕ) : t_v95 Pm Am Wm Bm Gm r j = dbi Pm Am Wm Gm Bm r j := by
  show ∑ k ∈ range 1040, t_v88 Pm Am Wm Bm Gm (8 * k + r) j = _
  exact sum_congr rfl fun k _ => e88 Pm Am Wm Gm Bm (8 * k + r) j
theorem e84 (t j : ℕ) (ht : t < 8320) (hj : j < 512) : t_v84 Pm Am Wm Bm Gm t j = dpt Pm Am Wm Gm Bm t j := by
  unfold dpt
  rw [if_pos hj, ← e63 Pm Am Wm Gm Bm _ _ _ ht]
  rfl
theorem e80 (t j : ℕ) (hj : j < 512) : t_v80 Pm Am Wm Bm Gm t j = dpt Pm Am Wm Gm Bm t (512 + j) := by
  unfold dpt
  rw [if_neg (by omega), if_pos (by omega), ← e62]
  simp only [Nat.add_sub_cancel_left]
  rfl
theorem e78 (t j : ℕ) : t_v78 Pm Am Wm Bm Gm t j = dpt Pm Am Wm Gm Bm t (1024 + j) := by
  unfold dpt
  rw [if_neg (by omega), if_neg (by omega), ← e49]
  simp only [Nat.add_sub_cancel_left]
  rfl

section
open Idealize.ShloMosaic Cert.ReferenceIdeal Cert.ReferenceIdeal.Gen Cert.ReferenceIdeal.Read

theorem ref_da : val_main_v100 (F := Ideal) (X0 Pm) (X1 Am) (X2 Wm) (X3 Bm) (X4 Gm) = ub fun (i : Fin 8320) (u : Fin 128) => dat Pm Am Wm Gm Bm i u :=
  (r_v100 Pm Am Wm Bm Gm).trans (funext fun i => congrArg _ (e100 Pm Am Wm Gm Bm _ _))
theorem ref_dw : val_main_v90 (F := Ideal) (X0 Pm) (X1 Am) (X2 Wm) (X3 Bm) (X4 Gm) = uf fun (u : Fin 128) (j : Fin 512) => dwt Pm Am Wm Gm Bm u j :=
  (r_v90 Pm Am Wm Bm Gm).trans (funext fun i => congrArg _ (e90 Pm Am Wm Gm Bm _ _))
theorem ref_db : val_main_v95 (F := Ideal) (X0 Pm) (X1 Am) (X2 Wm) (X3 Bm) (X4 Gm) = uf fun (u : Fin 8) (j : Fin 512) => dbi Pm Am Wm Gm Bm u j :=
  (r_v95 Pm Am Wm Bm Gm).trans (funext fun i => congrArg _ (e95 Pm Am Wm Gm Bm _ _))

section Cat
variable (x1 x2 : S8320x512.Idx → EReal) (x3 : S8320x1024.Idx → EReal)
  (h : Shape.Concatenates (([⟨S8320x512, x1⟩, ⟨S8320x512, x2⟩, ⟨S8320x1024, x3⟩] : List ((s : Shape) × (s.Idx → EReal))).map (·.1)) S8320x2048 1) (i : Fin 8320) (j : Fin 2048)

theorem cat_a (h1 : (j : ℕ) < 512) : concatenate S8320x2048 1 [⟨S8320x512, x1⟩, ⟨S8320x512, x2⟩, ⟨S8320x1024, x3⟩] h (ValueIdx.ix2 i j) = x1 (ValueIdx.ix2 i ⟨j, h1⟩) :=
  concatenate_apply_piece 1 [⟨S8320x512, x1⟩, ⟨S8320x512, x2⟩, ⟨S8320x1024, x3⟩] h (ValueIdx.ix2 i j) 0 (show 0 < 3 by norm_num) S8320x512 x1 rfl rfl 0 rfl (ValueIdx.ix2 i ⟨j, h1⟩)
    (fun b hb => match b with
      | ⟨0, _⟩ => rfl
      | ⟨1, _⟩ => absurd rfl hb) (Nat.zero_add _)
theorem cat_b (h1 : 512 ≤ (j : ℕ)) (h2 : (j : ℕ) < 1024) : concatenate S8320x2048 1 [⟨S8320x512, x1⟩, ⟨S8320x512, x2⟩, ⟨S8320x1024, x3⟩] h (ValueIdx.ix2 i j) = x2 (ValueIdx.ix2 i ⟨j - 512, by omega⟩) :=
  concatenate_apply_piece 1 [⟨S8320x512, x1⟩, ⟨S8320x512, x2⟩, ⟨S8320x1024, x3⟩] h (ValueIdx.ix2 i j) 1 (show 1 < 3 by norm_num) S8320x512 x2 rfl rfl 512 rfl (ValueIdx.ix2 i ⟨j - 512, by omega⟩)
    (fun b hb => match b with
      | ⟨0, _⟩ => rfl
      | ⟨1, _⟩ => absurd rfl hb) (show 512 + ((j : ℕ) - 512) = (j : ℕ) from Nat.add_sub_cancel' h1)
theorem cat_c (h1 : 1024 ≤ (j : ℕ)) : concatenate S8320x2048 1 [⟨S8320x512, x1⟩, ⟨S8320x512, x2⟩, ⟨S8320x1024, x3⟩] h (ValueIdx.ix2 i j) = x3 (ValueIdx.ix2 i ⟨j - 1024, by omega⟩) :=
  concatenate_apply_piece 1 [⟨S8320x512, x1⟩, ⟨S8320x512, x2⟩, ⟨S8320x1024, x3⟩] h (ValueIdx.ix2 i j) 2 (show 2 < 3 by norm_num) S8320x1024 x3 rfl rfl 1024 rfl (ValueIdx.ix2 i ⟨j - 1024, by omega⟩)
    (fun b hb => match b with
      | ⟨0, _⟩ => rfl
      | ⟨1, _⟩ => absurd rfl hb) (show 1024 + ((j : ℕ) - 1024) = (j : ℕ) from Nat.add_sub_cancel' h1)
end Cat

theorem ref_dp (i : Fin 8320) (j : Fin 2048) :
    val_main_v96 (F := Ideal) (X0 Pm) (X1 Am) (X2 Wm) (X3 Bm) (X4 Gm) (ValueIdx.ix2 i j) = ((dpt Pm Am Wm Gm Bm i j : ℝ) : EReal) := by
  unfold val_main_v96
  rw [r_v84, r_v80, r_v78]
  by_cases h1 : (j : ℕ) < 512
  · refine (cat_a _ _ _ _ i j h1).trans ?_
    exact congrArg (fun r : ℝ => (r : EReal)) (e84 Pm Am Wm Gm Bm i j i.isLt h1)
  · by_cases h2 : (j : ℕ) < 1024
    · refine (cat_b _ _ _ _ i j (by omega) h2).trans ?_
      refine congrArg (fun r : ℝ => (r : EReal)) ((e80 Pm Am Wm Gm Bm i (j - 512) (by omega)).trans ?_)
      rw [show 512 + ((j : ℕ) - 512) = j by omega]
    · refine (cat_c _ _ _ _ i j (by omega)).trans ?_
      refine congrArg (fun r : ℝ => (r : EReal)) ((e78 Pm Am Wm Gm Bm i (j - 1024)).trans ?_)
      rw [show 1024 + ((j : ℕ) - 1024) = j by omega]

section Pair
variable (x1 : S8320x2048.Idx → EReal) (x2 : S8320x5120.Idx → EReal) (h : Shape.Concatenates [S8320x2048, S8320x5120] S8320x7168 1) (i : Fin 8320) (j : Fin 7168)

theorem pair_a (hj : (j : ℕ) < 2048) : concatenate S8320x7168 1 [⟨S8320x2048, x1⟩, ⟨S8320x5120, x2⟩] h (ValueIdx.ix2 i j) = x1 (ValueIdx.ix2 i ⟨j, hj⟩) :=
  concatenate_pair_apply_left (s₁ := S8320x2048) (s₂ := S8320x5120) (t := S8320x7168) 1 x1 x2 h (ValueIdx.ix2 i j) rfl (ValueIdx.ix2 i ⟨j, hj⟩) fun b => match b with
    | ⟨0, _⟩ => rfl
    | ⟨1, _⟩ => rfl
theorem pair_b (hj : 2048 ≤ (j : ℕ)) : concatenate S8320x7168 1 [⟨S8320x2048, x1⟩, ⟨S8320x5120, x2⟩] h (ValueIdx.ix2 i j) = x2 (ValueIdx.ix2 i ⟨j - 2048, by omega⟩) :=
  concatenate_pair_apply_right (s₁ := S8320x2048) (s₂ := S8320x5120) (t := S8320x7168) 1 x1 x2 h (ValueIdx.ix2 i j) rfl rfl (ValueIdx.ix2 i ⟨j - 2048, by omega⟩)
    (fun b hb => match b with
      | ⟨0, _⟩ => rfl
      | ⟨1, _⟩ => absurd rfl hb) (show (j : ℕ) - 2048 + 2048 = (j : ℕ) from Nat.sub_add_cancel hj)
end Pair

theorem ref_dproj (x5 : FVec Ideal S8320x7168 .bf16) (i : Fin 8320) (j : Fin 7168) :
    val_main_v99 (F := Ideal) (X0 Pm) (X1 Am) (X2 Wm) (X3 Bm) (X4 Gm) x5 (ValueIdx.ix2 i j) = if (j : ℕ) < 2048 then ((dpt Pm Am Wm Gm Bm i j : ℝ) : EReal) else x5 (ValueIdx.ix2 i j) := by
  unfold val_main_v99
  by_cases h : (j : ℕ) < 2048
  · rw [if_pos h]
    refine (pair_a _ _ _ i j h).trans ?_
    rw [val_main_v97_apply]
    exact ref_dp Pm Am Wm Gm Bm i ⟨j, h⟩
  · rw [if_neg h]
    refine (pair_b _ _ _ i j (by omega)).trans ?_
    rw [val_main_v98_apply]
    exact congrArg x5 (funext fun a => Fin.ext (match a with
      | ⟨0, _⟩ => rfl
      | ⟨1, _⟩ => (show 2048 + ((j : ℕ) - 2048) = (j : ℕ) by omega)))
end

end Cert.Gla
-- ==== Proof.Finite.lean ====
/- The precondition read: every entry of the first five arguments is a real number. -/
module

public import proofs.«01_k».proof.Pre_finite
public import proofs.«01_k».proof.Proof.Coe
public import Idealize.ShloMosaic.Lib.ReduceAll

@[expose] public section

noncomputable section

namespace Cert.Gla.Finite

open Idealize.ShloMosaic Cert.Gla
open Cert.Pre_finite Cert.Pre_finite.Facts

instance : Subsingleton (⟨0, ![]⟩ : Shape).Idx := ⟨fun _ _ => funext fun i => i.elim0⟩

theorem ofBits_top : (FloatOps.ofBits (F := Ideal) .f32 0x7F800000#32 : EReal) = ⊤ := by
  show Ideal.ofBits .f32 _ = _
  simp [Ideal.ofBits, Ideal.ieee]

/-- A number whose absolute value is below infinity is a real number. -/
theorem real_of_lt (x : EReal) (h : (FloatOps.cmpf (F := Ideal) (φ := .f32) .olt (FloatOps.hostAbsf x) (FloatOps.ofBits .f32 0x7F800000#32) : BitVec 1) = 1#1) :
    x ≠ ⊤ ∧ x ≠ ⊥ := by
  rw [ofBits_top] at h
  have h' : BitVec.ofBool (decide (max x (-x) < (⊤ : EReal))) = 1#1 := h
  have h2 : max x (-x) < ⊤ := by
    by_contra q
    rw [decide_eq_false q] at h'
    exact absurd h' (by decide)
  constructor
  · rintro rfl
    simp at h2
  · rintro rfl
    simp at h2

/-- A matrix's entries as a table over the natural numbers, zero outside. -/
def tab {a b : ℕ} (f : (⟨2, ![a, b]⟩ : Shape).Idx → EReal) (i j : ℕ) : ℝ :=
  if h : i < a ∧ j < b then EReal.toReal (f (ValueIdx.ix2 ⟨i, h.1⟩ ⟨j, h.2⟩)) else 0

theorem eq_tab {a b : ℕ} {φ : FTy} {f : FVec Ideal ⟨2, ![a, b]⟩ φ} (h : ∀ i, (f i : EReal) ≠ ⊤ ∧ (f i : EReal) ≠ ⊥) :
    f = up fun (i : Fin a) (j : Fin b) => tab (a := a) (b := b) f i j := by
  rw [eq_up h]
  refine congrArg (up (φ := φ)) (funext fun i => funext fun j => ?_)
  rw [tab, dif_pos ⟨i.isLt, j.isLt⟩, ← eq_up h]

theorem andi_split {a b : IVec (⟨0, ![]⟩ : Shape) 1} (h : andi a b = fun _ => 1#1) : a = (fun _ => 1#1) ∧ b = fun _ => 1#1 :=
  ⟨funext fun i => (IntOp.andi_eq_one.1 (congrFun h i)).1, funext fun i => (IntOp.andi_eq_one.1 (congrFun h i)).2⟩

theorem finite [Cert.Pre_finite.Facts] (x0 : FVec Ideal Cert.Pre_finite.S8320x7168 .bf16) (x1 : FVec Ideal Cert.Pre_finite.S8320x128 .bf16) (x2 : FVec Ideal Cert.Pre_finite.S128x512 .bf16)
    (x3 : FVec Ideal Cert.Pre_finite.S1x512 .f32) (x4 : FVec Ideal Cert.Pre_finite.S8320x1024 .bf16) (x5 : FVec Ideal Cert.Pre_finite.S8320x7168 .bf16)
    (h : Cert.Pre_finite.fn (F := Ideal) x0 x1 x2 x3 x4 x5 = fun _ => 1#1) :
    (∀ i, (x0 i : EReal) ≠ ⊤ ∧ (x0 i : EReal) ≠ ⊥) ∧ (∀ i, (x1 i : EReal) ≠ ⊤ ∧ (x1 i : EReal) ≠ ⊥) ∧ (∀ i, (x2 i : EReal) ≠ ⊤ ∧ (x2 i : EReal) ≠ ⊥)
      ∧ (∀ i, (x3 i : EReal) ≠ ⊤ ∧ (x3 i : EReal) ≠ ⊥) ∧ ∀ i, (x4 i : EReal) ≠ ⊤ ∧ (x4 i : EReal) ≠ ⊥ := by
  unfold Cert.Pre_finite.fn Cert.Pre_finite.fn_part1 at h
  obtain ⟨h, e4⟩ := andi_split h
  obtain ⟨h, e3⟩ := andi_split h
  obtain ⟨h, e2⟩ := andi_split h
  obtain ⟨e0, e1⟩ := andi_split h
  have j : (⟨0, ![]⟩ : Shape).Idx := Shape.Idx.first h_S_
  exact ⟨fun i => real_of_lt _ (Host.reduce_andi_all _ _ _ _ j (congrFun e0 j) i), fun i => real_of_lt _ (Host.reduce_andi_all _ _ _ _ j (congrFun e1 j) i),
    fun i => real_of_lt _ (Host.reduce_andi_all _ _ _ _ j (congrFun e2 j) i), fun i => real_of_lt _ (Host.reduce_andi_all _ _ _ _ j (congrFun e3 j) i),
    fun i => real_of_lt _ (Host.reduce_andi_all _ _ _ _ j (congrFun e4 j) i)⟩

end Cert.Gla.Finite
-- ==== Proof.Attention.lean ====
/- The gated linear attention's gradients: the launch's results are the reference's. -/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_finite
public import proofs.«01_k».proof.Proof.Arrays
public import proofs.«01_k».proof.Proof.Host
public import proofs.«01_k».proof.Proof.RefEnd
public import proofs.«01_k».proof.Proof.Finite

@[expose] public section

noncomputable section

namespace Cert.Gla

open Idealize.ShloMosaic Idealize.ShloMosaic.TcCoe Idealize.SL.Sem

theorem congr5 {A B C D E R : Type*} (f : A → B → C → D → E → R) {a a' : A} {b b' : B} {c c' : C} {d d' : D} {e e' : E}
    (h0 : a = a') (h1 : b = b') (h2 : c = c') (h3 : d = d') (h4 : e = e') : f a b c d e = f a' b' c' d' e' := by
  subst h0 h1 h2 h3 h4; rfl

theorem ref_frame : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

theorem algebraic : Cert.algebraic_KernelIdeal_ReferenceIdeal_pre_finite := by
  intro m ρ m' ρ' hpre hagree
  refine ⟨_, _, _, _, Cert.KernelIdeal.Value.run_blocks (F := Ideal) m ρ, ?_⟩
  refine (θ_run Cert.ReferenceIdeal.defs _ _).mono (fun _ h c => ?_) (Cert.ReferenceIdeal.Value.run (F := Ideal) m' ρ')
  obtain ⟨h0, h1, h2, h3, h4⟩ := Finite.finite _ _ _ _ _ _ (hpre c)
  have a0 := Finite.eq_tab h0
  have a1 := Finite.eq_tab h1
  have a2 := Finite.eq_tab h2
  have a3 := Finite.eq_tab h3
  have a4 := Finite.eq_tab h4
  set Pm := Finite.tab (m ((c.tc : Thread Cert.KernelIdeal.nD Cert.KernelIdeal.τ).loc Cert.KernelIdeal.main_arg0))
  set Am := Finite.tab (m ((c.tc : Thread Cert.KernelIdeal.nD Cert.KernelIdeal.τ).loc Cert.KernelIdeal.main_arg1))
  set Wm := Finite.tab (m ((c.tc : Thread Cert.KernelIdeal.nD Cert.KernelIdeal.τ).loc Cert.KernelIdeal.main_arg2))
  set Cm := Finite.tab (m ((c.tc : Thread Cert.KernelIdeal.nD Cert.KernelIdeal.τ).loc Cert.KernelIdeal.main_arg3))
  set Gm := Finite.tab (m ((c.tc : Thread Cert.KernelIdeal.nD Cert.KernelIdeal.τ).loc Cert.KernelIdeal.main_arg4))
  have a3' : (m ((c.tc : Thread Cert.KernelIdeal.nD Cert.KernelIdeal.τ).loc Cert.KernelIdeal.main_arg3) : Vec Ideal Cert.KernelIdeal.S1x512 .f32) = uf fun _ j => Cm 0 j :=
    a3.trans (congrArg (up (φ := .f32)) (funext fun i => funext fun j => by rw [show (i : ℕ) = 0 from by omega]))
  have L := Host.launched Pm Am Wm (Cm 0) Gm c a0 a1 a2 a3' a4
  obtain ⟨b0, b1, b2, b3, b4, b5⟩ := hagree c
  have e0 := b0.trans a0
  have e1 := b1.trans a1
  have e2 := b2.trans a2
  have e3 := b3.trans a3'
  have e4 := b4.trans a4
  obtain ⟨r0, r1, r2, r3, k⟩ := h c
  refine ⟨r0.trans ?_, r1.trans ?_, r2.trans ?_, r3.trans ?_, k⟩
  · refine (Cert.ReferenceIdeal.Read.val_main_v99_eq (StableHlo.launchContents m' c)).trans ?_
    show Cert.ReferenceIdeal.Read.val_main_v99 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) = _
    rw [e0, e1, e2, e3, e4, b5]
    funext y
    obtain ⟨i, j, rfl⟩ : ∃ (i : Fin 8320) (j : Fin 7168), y = ValueIdx.ix2 i j := ⟨y 0, y 1, ValueIdx.eq_ix2 y⟩
    exact (ref_dproj Pm Am Wm Gm (Cm 0) _ i j).trans (final7 L i j).symm
  · refine (Cert.ReferenceIdeal.Read.val_main_v100_eq (StableHlo.launchContents m' c)).trans ?_
    refine (congr5 (Cert.ReferenceIdeal.Read.val_main_v100 (F := Ideal)) e0 e1 e2 e3 e4).trans ?_
    exact (ref_da Pm Am Wm Gm (Cm 0)).trans (final8 L).symm
  · refine (Cert.ReferenceIdeal.Read.val_main_v90_eq (StableHlo.launchContents m' c)).trans ?_
    refine (congr5 (Cert.ReferenceIdeal.Read.val_main_v90 (F := Ideal)) e0 e1 e2 e3 e4).trans ?_
    exact (ref_dw Pm Am Wm Gm (Cm 0)).trans (final9 L).symm
  · refine (Cert.ReferenceIdeal.Read.val_main_v95_eq (StableHlo.launchContents m' c)).trans ?_
    refine (congr5 (Cert.ReferenceIdeal.Read.val_main_v95 (F := Ideal)) e0 e1 e2 e3 e4).trans ?_
    exact (ref_db Pm Am Wm Gm (Cm 0)).trans (final10 L).symm

end Cert.Gla

end
-- ==== Proof.Tiles.lean ====
/- A product over the rows gathered row tile by row tile is the product over all the rows. -/
module

public import proofs.«01_k».proof.Proof.Chunk

@[expose] public section

noncomputable section

namespace Cert.Tiles

open Idealize.ShloMosaic
open scoped BigOperators

variable {a b A B : ℕ}

/-- Row `k`'s part of entry `(i, j)` of the product of two arrays contracted over their rows. -/
def term (X : (⟨2, ![8320, A]⟩ : Shape).Idx → EReal) (Y : (⟨2, ![8320, B]⟩ : Shape).Idx → EReal) (i j k : ℕ) : EReal :=
  if h : k < 8320 ∧ i < A ∧ j < B then X (ValueIdx.ix2 ⟨k, h.1⟩ ⟨i, h.2.1⟩) * Y (ValueIdx.ix2 ⟨k, h.1⟩ ⟨j, h.2.2⟩) else 0

theorem term_of (X : (⟨2, ![8320, A]⟩ : Shape).Idx → EReal) (Y : (⟨2, ![8320, B]⟩ : Shape).Idx → EReal) {i j k : ℕ} (hk : k < 8320) (hi : i < A) (hj : j < B) :
    term X Y i j k = X (ValueIdx.ix2 ⟨k, hk⟩ ⟨i, hi⟩) * Y (ValueIdx.ix2 ⟨k, hk⟩ ⟨j, hj⟩) := dif_pos ⟨hk, hi, hj⟩

/-- The parts of the first `n` rows. -/
def upto (X : (⟨2, ![8320, A]⟩ : Shape).Idx → EReal) (Y : (⟨2, ![8320, B]⟩ : Shape).Idx → EReal) (i j n : ℕ) : EReal :=
  ∑ k ∈ Finset.range n, term X Y i j k

theorem upto_step (X : (⟨2, ![8320, A]⟩ : Shape).Idx → EReal) (Y : (⟨2, ![8320, B]⟩ : Shape).Idx → EReal) (i j n p : ℕ) :
    upto X Y i j (n + p) = upto X Y i j n + ∑ k : Fin p, term X Y i j (n + k) := by
  unfold upto
  rw [Finset.sum_range_add, Finset.sum_range fun k => term X Y i j (n + k)]

theorem upto_zero (X : (⟨2, ![8320, A]⟩ : Shape).Idx → EReal) (Y : (⟨2, ![8320, B]⟩ : Shape).Idx → EReal) (i j : ℕ) : upto X Y i j 0 = 0 := Finset.sum_range_zero _

/-- An array gathered five row tiles at a time, started at zero. -/
theorem gather (X : (⟨2, ![8320, A]⟩ : Shape).Idx → EReal) (Y : (⟨2, ![8320, B]⟩ : Shape).Idx → EReal) (c N : ℕ)
    (s : ∀ n, n < N → (⟨2, ![a, b]⟩ : Shape).Idx → EReal) (f : ∀ n, n < N → ((⟨2, ![a, b]⟩ : Shape).Idx → EReal) → (⟨2, ![a, b]⟩ : Shape).Idx → EReal) (z : (⟨2, ![a, b]⟩ : Shape).Idx → EReal)
    (hz : ∀ y, z y = 0) (h0 : ∀ n hn, n % 5 = 0 → s n hn = f n hn z) (h1 : ∀ n hn, ¬(n + 1) % 5 = 0 → s (n + 1) hn = f (n + 1) hn (s n (Nat.lt_of_succ_lt hn)))
    (tile : ∀ n hn v (i : Fin a) (j : Fin b), f n hn v (ValueIdx.ix2 i j) = v (ValueIdx.ix2 i j) + ∑ k : Fin 1664, term X Y (c * (n / 5) + i) j (1664 * (n % 5) + k)) :
    ∀ n hn (i : Fin a) (j : Fin b), s n hn (ValueIdx.ix2 i j) = upto X Y (c * (n / 5) + i) j (1664 * (n % 5 + 1)) := by
  intro n
  induction n with
  | zero =>
    intro hn i j
    rw [h0 0 hn rfl, tile, hz, Nat.mul_add, Nat.mul_one, upto_step]
    exact congrArg (· + _) (upto_zero ..).symm
  | succ n ih =>
    intro hn i j
    rw [Nat.mul_add, Nat.mul_one, upto_step]
    by_cases h : (n + 1) % 5 = 0
    · rw [h0 _ hn h, tile, hz, h]
      exact congrArg (· + _) (upto_zero ..).symm
    · rw [h1 n hn h, tile, ih, show n / 5 = (n + 1) / 5 from by omega, show n % 5 + 1 = (n + 1) % 5 from by omega]

theorem ext2i {f g : (⟨2, ![a, b]⟩ : Shape).Idx} (h0 : (f 0).val = (g 0).val) (h1 : (f 1).val = (g 1).val) : f = g :=
  funext fun c => Fin.ext (match c with | ⟨0, _⟩ => h0 | ⟨1, _⟩ => h1)

theorem upto_all (X : (⟨2, ![8320, A]⟩ : Shape).Idx → EReal) (Y : (⟨2, ![8320, B]⟩ : Shape).Idx → EReal) (i : Fin A) (j : Fin B) :
    upto X Y i j 8320 = ∑ k : Fin 8320, X (ValueIdx.ix2 k i) * Y (ValueIdx.ix2 k j) := by
  unfold upto
  rw [Finset.sum_range]
  exact Finset.sum_congr rfl fun k _ => term_of X Y k.isLt i.isLt j.isLt

theorem ld_whole {e : EltTy} (X : (⟨2, ![a, b]⟩ : Shape).Idx → Elt Ideal e) (inb) :
    View.ld (Val := Elt Ideal) (S := ⟨2, ![a, b]⟩) (e' := e) X (Rect.unit ![0, 0] (no_index ![a, b]) inb) = X :=
  View.ld_unit_zero (S := ⟨2, ![a, b]⟩) (funext fun c => match c with | ⟨0, _⟩ => rfl | ⟨1, _⟩ => rfl) inb X

/-- A buffer read whole after it was written whole. -/
theorem readCov_whole {e : EltTy} {sig : RefSig} {κ sp} (v : View sig κ sp ⟨2, ![a, b]⟩ e) (f : (⟨2, ![a, b]⟩ : Shape).Idx → Elt Ideal e) (inb inb') :
    v.readCov (Val := Elt Ideal) [⟨Rect.unit (s := ⟨2, ![a, b]⟩) ![0, 0] ![a, b] inb, f⟩] (Rect.unit (s := ⟨2, ![a, b]⟩) ![0, 0] ![a, b] inb').toLoadRect = f :=
  (View.readCov_eq_canon' v _ _).trans ((congrArg (fun g => View.ld g _) (Cert.Gla.canon_whole inb f)).trans (ld_whole f inb'))

theorem zero_apply (h : (⟨2, ![a, b]⟩ : Shape).ShapeCasts ⟨2, ![a, b]⟩) (y : (⟨2, ![a, b]⟩ : Shape).Idx) :
    shapeCast ⟨2, ![a, b]⟩ (broadcast (⟨2, ![a, b]⟩ : Shape) (Scalar.ofBits (F := Ideal) .f32 0x00000000#32) : FVec Ideal ⟨2, ![a, b]⟩ .f32) h y = (0 : EReal) := by
  rw [shapeCast_self]
  exact Ideal.ofBits_zero_f32

end Cert.Tiles

end
-- ==== Proof.Weights2.lean ====
/- The weight gradient `wgrad_in`: the launch's result is the reference's. -/
module

public import proofs.«01_k».proof.Defs
public import proofs.«01_k».proof.Proof.Tiles
public import proofs.«01_k».proof.Proof.Gen.Kernel2Ideal.Value
public import proofs.«01_k».proof.Proof.Gen.Reference2Ideal.Run
public import proofs.«01_k».proof.Proof.Gen.Reference2Ideal.Read
public import Idealize.ShloMosaic.Lib.Pipeline.ValueKit.Geometry

@[expose] public section

set_option maxRecDepth 20000

noncomputable section

namespace Cert.Weights2

open Idealize.ShloMosaic Idealize.ShloMosaic.TcCoe Idealize.SL.Sem Cert.Tiles Cert.Gla Cert.Kernel2Ideal Cert.Kernel2Ideal.Gen Cert.Kernel2Ideal.Value
open scoped BigOperators

section
variable [hF : Cert.Kernel2Ideal.Facts]

theorem pay2_apply (v : Vec Ideal S1024x1024 .f32) (x : Vec Ideal S1664x1024 .bf16) (y : Vec Ideal S1664x1024 .bf16) (i : Fin 1024) (j : Fin 1024) :
    k0_pay2 (F := Ideal) v x y (ValueIdx.ix2 i j) = v (ValueIdx.ix2 i j) + ∑ k : Fin 1664, x (ValueIdx.ix2 k i) * y (ValueIdx.ix2 k j) := by
  unfold k0_pay2
  rw [shapeCast_self]
  refine congrArg (v (ValueIdx.ix2 i j) + ·) ((mml_apply none _ _ _ _ i j).trans ?_)
  exact (congrArg (· + _) Ideal.ofBits_zero_f32).trans (zero_add _)

section
variable (d : Dev nD) (i : grid0.Coords) (arg2 : Memref sig .tc .vmem S1664x1024 .bf16) (harg2 : arg2.IsWhole) (arg3 : Memref sig .tc .vmem S1664x1024 .bf16) (harg3 : arg3.IsWhole)
  (arg4 : Memref sig .tc .vmem S1024x1024 .bf16) (harg4 : arg4.IsWhole) (arg5 : Memref sig .tc .vmem S1024x1024 .f32) (harg5 : arg5.IsWhole)
  (x0 : Vec Ideal S1664x1024 .bf16) (x1 : Vec Ideal S1664x1024 .bf16) (xs0 : Vec Ideal S1024x1024 .f32)

theorem sout_A (hc0 : cond0_0 i) (hc1 : ¬cond0_1 i) :
    sout0_A_0 (F := Ideal) d i arg2 harg2 arg3 harg3 arg4 harg4 arg5 harg5 hc0 hc1 x0 x1 = k0_pay2 (k0_pay1 (F := Ideal)) x0 x1 := by
  unfold sout0_A_0
  rw [View.read_writes_eq_canon _ _ _ (scover0_A_0 d i arg2 harg2 arg3 harg3 arg4 harg4 arg5 harg5 hc0 hc1 x0 x1)]
  unfold kernelRun0_A
  dsimp only
  refine (canon_last _ _ _).trans ?_
  sl_unfold_words
  simp (config := {decide := true}) only [View.readAt_eq_ld, harg2.read_unread, harg3.read_unread, harg5.read_unread, ld_whole]
  exact congrArg (k0_pay2 · x0 x1) (readCov_whole _ _ _ _)

theorem sout_B (hc0 : ¬cond0_0 i) (hc1 : ¬cond0_1 i) :
    sout0_B_0 (F := Ideal) d i arg2 harg2 arg3 harg3 arg4 harg4 arg5 harg5 hc0 hc1 x0 x1 xs0 = k0_pay2 xs0 x0 x1 := by
  unfold sout0_B_0
  rw [View.read_writes_eq_canon _ _ _ (scover0_B_0 d i arg2 harg2 arg3 harg3 arg4 harg4 arg5 harg5 hc0 hc1 x0 x1 xs0)]
  unfold kernelRun0_B
  dsimp only
  refine (canon_last _ _ _).trans ?_
  sl_unfold_words
  simp (config := {decide := true}) only [View.readAt_eq_ld, harg2.read_unread, harg3.read_unread, harg5.read_unread, ld_whole]

theorem sout_C (hc0 : ¬cond0_0 i) (hc1 : cond0_1 i) :
    sout0_C_0 (F := Ideal) d i arg2 harg2 arg3 harg3 arg4 harg4 arg5 harg5 hc0 hc1 x0 x1 xs0 = k0_pay2 xs0 x0 x1 := by
  unfold sout0_C_0
  rw [View.read_writes_eq_canon _ _ _ (scover0_C_0 d i arg2 harg2 arg3 harg3 arg4 harg4 arg5 harg5 hc0 hc1 x0 x1 xs0)]
  unfold kernelRun0_C
  dsimp only
  refine (canon_last _ _ _).trans ?_
  sl_unfold_words
  simp (config := {decide := true}) only [View.readAt_eq_ld, harg2.read_unread, harg3.read_unread, harg5.read_unread, ld_whole]

theorem out_C (hc0 : ¬cond0_0 i) (hc1 : cond0_1 i) :
    out0_C_2 (F := Ideal) d i arg2 harg2 arg3 harg3 arg4 harg4 arg5 harg5 hc0 hc1 x0 x1 xs0 = k0_pay3 (k0_pay2 xs0 x0 x1) := by
  unfold out0_C_2
  rw [View.read_writes_eq_canon _ _ _ (cover0_C_2 d i arg2 harg2 arg3 harg3 arg4 harg4 arg5 harg5 hc0 hc1 x0 x1 xs0)]
  unfold kernelRun0_C
  dsimp only
  refine (canon_last _ _ _).trans ?_
  sl_unfold_words
  simp (config := {decide := true}) only [View.readAt_eq_ld, harg2.read_unread, harg3.read_unread, harg5.read_unread, ld_whole]
  exact congrArg k0_pay3 (readCov_whole _ _ _ _)

end

theorem ix0 : ∀ t : Fin cfg0.N, win0_0.index t = ![t.val % 5, t.val / 5] := (by decide +kernel : ∀ t : Fin grid0.N, win0_0.index t = ![t.val % 5, t.val / 5])
theorem ix1 : ∀ t : Fin cfg0.N, win0_1.index t = ![t.val % 5, 0] := (by decide +kernel : ∀ t : Fin grid0.N, win0_1.index t = ![t.val % 5, 0])
theorem ix2 : ∀ t : Fin cfg0.N, win0_2.index t = ![t.val / 5, 0] := (by decide +kernel : ∀ t : Fin grid0.N, win0_2.index t = ![t.val / 5, 0])

variable (m : (ℓ : Loc nD τ sig) → Buf (Elt Ideal) ℓ) (d : Dev nD)

/-- The two arrays the kernel is launched on. -/
abbrev X0 : S8320x7168.Idx → EReal := (m ((d : Thread nD τ).loc main_arg0) : Vec Ideal S8320x7168 .bf16)
abbrev X1 : S8320x1024.Idx → EReal := (m ((d : Thread nD τ).loc main_arg1) : Vec Ideal S8320x1024 .bf16)

theorem blk0 (t : Fin cfg0.N) (k : Fin 1664) (i : Fin 1024) (hk : 1664 * (t.val % 5) + k.val < 8320) (hi : 1024 * (t.val / 5) + i.val < 7168) :
    (iblk m d 0 t : Vec Ideal S1664x1024 .bf16) (ValueIdx.ix2 k i) = X0 m d (ValueIdx.ix2 ⟨1664 * (t.val % 5) + k.val, hk⟩ ⟨1024 * (t.val / 5) + i.val, hi⟩) := by
  refine congrArg (X0 m d) (?_ : (((cfg0.win 0).blk t).view.emb (ValueIdx.ix2 k i) : S8320x7168.Idx) = _)
  have e0 : win0_0.index t 0 = t.val % 5 := congrFun (ix0 t) 0
  have e1 : win0_0.index t 1 = t.val / 5 := congrFun (ix0 t) 1
  refine ext2i (?_ : win0_0.index t 0 * 1664 + 1 * k.val = 1664 * (t.val % 5) + k.val) (?_ : win0_0.index t 1 * 1024 + 1 * i.val = 1024 * (t.val / 5) + i.val)
  · rw [e0]; omega
  · rw [e1]; omega

theorem blk1 (t : Fin cfg0.N) (k : Fin 1664) (j : Fin 1024) (hk : 1664 * (t.val % 5) + k.val < 8320) :
    (iblk m d 1 t : Vec Ideal S1664x1024 .bf16) (ValueIdx.ix2 k j) = X1 m d (ValueIdx.ix2 ⟨1664 * (t.val % 5) + k.val, hk⟩ j) := by
  refine congrArg (X1 m d) (?_ : (((cfg0.win 1).blk t).view.emb (ValueIdx.ix2 k j) : S8320x1024.Idx) = _)
  have e0 : win0_1.index t 0 = t.val % 5 := congrFun (ix1 t) 0
  have e1 : win0_1.index t 1 = 0 := congrFun (ix1 t) 1
  refine ext2i (?_ : win0_1.index t 0 * 1664 + 1 * k.val = 1664 * (t.val % 5) + k.val) (?_ : win0_1.index t 1 * 1024 + 1 * j.val = j.val)
  · rw [e0]; omega
  · rw [e1]; omega

/-- One row tile more. -/
theorem tile (t : Fin cfg0.N) (v : Vec Ideal S1024x1024 .f32) (i : Fin 1024) (j : Fin 1024) :
    k0_pay2 (F := Ideal) v (iblk m d 0 t) (iblk m d 1 t) (ValueIdx.ix2 i j) = v (ValueIdx.ix2 i j) + ∑ k : Fin 1664, term (X0 m d) (X1 m d) (1024 * (t.val / 5) + i) j (1664 * (t.val % 5) + k) := by
  have hN : t.val < 35 := (N_0 : cfg0.N = 35) ▸ t.isLt
  rw [pay2_apply]
  refine congrArg _ (Finset.sum_congr rfl fun k _ => ?_)
  rw [term_of _ _ (show 1664 * (t.val % 5) + k.val < 8320 by omega) (show 1024 * (t.val / 5) + i.val < 7168 by omega) j.isLt]
  exact congrArg₂ (· * ·) (blk0 m d t k i (by omega) (by omega)) (blk1 m d t k j (by omega))

theorem acc : ∀ (n : ℕ) (hn : n < cfg0.N) (i : Fin 1024) (j : Fin 1024),
    (outsAt0 (F := Ideal) m d n hn).2 (ValueIdx.ix2 i j) = upto (X0 m d) (X1 m d) (1024 * (n / 5) + i) j (1664 * (n % 5 + 1)) := by
  refine gather (a := 1024) (b := 1024) (X0 m d) (X1 m d) 1024 cfg0.N (fun n hn => (outsAt0 (F := Ideal) m d n hn).2) (fun n hn v => k0_pay2 v (iblk m d 0 ⟨n, hn⟩) (iblk m d 1 ⟨n, hn⟩)) (k0_pay1 (F := Ideal))
    (fun y => zero_apply _ y) (fun n hn h => ?_) (fun n hn h => ?_) (fun n hn v i j => ?_)
  rotate_right
  · exact tile m d ⟨n, hn⟩ v i j
  · refine (congrArg Prod.snd (outsAt0_A m d ⟨n, hn⟩ h (by show ¬n % 5 = 4; omega))).trans ?_
    dsimp only
    rw [sout_A]
    try rfl
  · by_cases h1 : (n + 1) % 5 = 4
    · refine (congrArg Prod.snd (outsAt0_C m d ⟨n + 1, hn⟩ h h1)).trans ?_
      dsimp only
      rw [sout_C]
      try rfl
    · refine (congrArg Prod.snd (outsAt0_B m d ⟨n + 1, hn⟩ h h1)).trans ?_
      dsimp only
      rw [sout_B]
      try rfl

theorem at0 (t : Fin cfg0.N) (i : ℕ) : win0_2.index t 0 * 1024 + i = 1024 * (t.val / 5) + i := by
  rw [congrFun (ix2 t) 0]; show t.val / 5 * _ + i = _; omega
theorem at1 (t : Fin cfg0.N) (j : ℕ) : win0_2.index t 1 * 1024 + j = j := by
  rw [congrFun (ix2 t) 1]; exact Nat.zero_add _

/-- The array the launch leaves. -/
theorem result : ((dats m 0 d).arrAt 2 cfg0.N : Vec Ideal S7168x1024 .bf16) = fun y => upto (X0 m d) (X1 m d) (y 0).val (y 1).val 8320 := by
  refine (dats m 0 d).arrAt_eq_of_covers 2 _ (by decide +kernel) fun t hf y => ?_
  have hN : t.val < 35 := (N_0 : cfg0.N = 35) ▸ t.isLt
  have hm : t.val % 5 = 4 := (flush0_2 t).mp hf
  blk_simp
  rw [after0_2]
  obtain ⟨i, j, rfl⟩ : ∃ (i : Fin 1024) (j : Fin 1024), y = ValueIdx.ix2 i j := ⟨y 0, y 1, ValueIdx.eq_ix2 y⟩
  have hz : ¬ t.val % 5 = 0 := by omega
  have h := acc m d t.val t.isLt i j
  rw [outsAt0_C m d t hz hm] at h ⊢
  dsimp only at h ⊢
  rw [sout_C] at h
  rw [out_C]
  refine h.trans ?_
  show _ = upto (X0 m d) (X1 m d) (win0_2.index t 0 * 1024 + i.val) (win0_2.index t 1 * 1024 + j.val) 8320
  rw [at0, at1, hm]
end

section
open Cert.Reference2Ideal.Read
variable [hR : Cert.Reference2Ideal.Facts]

theorem reference (x0 : S8320x7168.Idx → EReal) (x1 : S8320x1024.Idx → EReal) (i : Fin 7168) (j : Fin 1024) :
    val_main_v8 (F := Ideal) x0 x1 (ValueIdx.ix2 i j) = upto x0 x1 i j 8320 := by
  rw [upto_all]
  refine (val_main_v8_apply ..).trans ?_
  refine ((val_main_v7_apply ..).trans ((val_main_v6_apply ..).trans (val_main_v5_apply ..))).trans (Finset.sum_congr rfl fun k _ => ?_)
  exact congrArg₂ (· * ·) (congrArg x0 (ValueIdx.eq_ix2 _)) (congrArg x1 (ValueIdx.eq_ix2 _))

theorem ref_frame : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)
end

theorem algebraic [hF : Cert.Kernel2Ideal.Facts] [hR : Cert.Reference2Ideal.Facts] : Cert.algebraic_Kernel2Ideal_Reference2Ideal := by
  intro m ρ m' ρ' _ hagree
  refine ⟨_, Cert.Kernel2Ideal.Value.run_blocks (F := Ideal) m ρ, ?_⟩
  refine (θ_run Cert.Reference2Ideal.defs _ _).mono (fun _ h c => ?_) (Cert.Reference2Ideal.Value.run (F := Ideal) m' ρ')
  obtain ⟨b0, b1⟩ := hagree c
  refine ⟨(h c).1.trans ?_, (h c).2⟩
  refine (Cert.Reference2Ideal.Read.val_main_v8_eq _ _).trans ?_
  rw [b0, b1]
  funext y
  obtain ⟨i, j, rfl⟩ : ∃ (i : Fin 7168) (j : Fin 1024), y = ValueIdx.ix2 i j := ⟨y 0, y 1, ValueIdx.eq_ix2 y⟩
  exact (reference _ _ i j).trans (congrFun (result m c) (ValueIdx.ix2 i j)).symm

end Cert.Weights2

end
-- ==== Proof.Weights3.lean ====
/- The weight gradient `wgrad_up`: the launch's result is the reference's. -/
module

public import proofs.«01_k».proof.Defs
public import proofs.«01_k».proof.Proof.Tiles
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pipeline.ValueKit.Geometry

@[expose] public section

set_option maxRecDepth 20000

noncomputable section

namespace Cert.Weights3

open Idealize.ShloMosaic Idealize.ShloMosaic.TcCoe Idealize.SL.Sem Cert.Tiles Cert.Gla Cert.Kernel3Ideal Cert.Kernel3Ideal.Gen Cert.Kernel3Ideal.Value
open scoped BigOperators

section
variable [hF : Cert.Kernel3Ideal.Facts]

theorem pay2_apply (v : Vec Ideal S1408x1024 .f32) (x : Vec Ideal S1664x1408 .bf16) (y : Vec Ideal S1664x1024 .bf16) (i : Fin 1408) (j : Fin 1024) :
    k0_pay2 (F := Ideal) v x y (ValueIdx.ix2 i j) = v (ValueIdx.ix2 i j) + ∑ k : Fin 1664, x (ValueIdx.ix2 k i) * y (ValueIdx.ix2 k j) := by
  unfold k0_pay2
  rw [shapeCast_self]
  refine congrArg (v (ValueIdx.ix2 i j) + ·) ((mml_apply none _ _ _ _ i j).trans ?_)
  exact (congrArg (· + _) Ideal.ofBits_zero_f32).trans (zero_add _)

section
variable (d : Dev nD) (i : grid0.Coords) (arg2 : Memref sig .tc .vmem S1664x1408 .bf16) (harg2 : arg2.IsWhole) (arg3 : Memref sig .tc .vmem S1664x1024 .bf16) (harg3 : arg3.IsWhole)
  (arg4 : Memref sig .tc .vmem S1408x1024 .bf16) (harg4 : arg4.IsWhole) (arg5 : Memref sig .tc .vmem S1408x1024 .f32) (harg5 : arg5.IsWhole)
  (x0 : Vec Ideal S1664x1408 .bf16) (x1 : Vec Ideal S1664x1024 .bf16) (xs0 : Vec Ideal S1408x1024 .f32)

theorem sout_A (hc0 : cond0_0 i) (hc1 : ¬cond0_1 i) :
    sout0_A_0 (F := Ideal) d i arg2 harg2 arg3 harg3 arg4 harg4 arg5 harg5 hc0 hc1 x0 x1 = k0_pay2 (k0_pay1 (F := Ideal)) x0 x1 := by
  unfold sout0_A_0
  rw [View.read_writes_eq_canon _ _ _ (scover0_A_0 d i arg2 harg2 arg3 harg3 arg4 harg4 arg5 harg5 hc0 hc1 x0 x1)]
  unfold kernelRun0_A
  dsimp only
  refine (canon_last _ _ _).trans ?_
  sl_unfold_words
  simp (config := {decide := true}) only [View.readAt_eq_ld, harg2.read_unread, harg3.read_unread, harg5.read_unread, ld_whole]
  exact congrArg (k0_pay2 · x0 x1) (readCov_whole _ _ _ _)

theorem sout_B (hc0 : ¬cond0_0 i) (hc1 : ¬cond0_1 i) :
    sout0_B_0 (F := Ideal) d i arg2 harg2 arg3 harg3 arg4 harg4 arg5 harg5 hc0 hc1 x0 x1 xs0 = k0_pay2 xs0 x0 x1 := by
  unfold sout0_B_0
  rw [View.read_writes_eq_canon _ _ _ (scover0_B_0 d i arg2 harg2 arg3 harg3 arg4 harg4 arg5 harg5 hc0 hc1 x0 x1 xs0)]
  unfold kernelRun0_B
  dsimp only
  refine (canon_last _ _ _).trans ?_
  sl_unfold_words
  simp (config := {decide := true}) only [View.readAt_eq_ld, harg2.read_unread, harg3.read_unread, harg5.read_unread, ld_whole]

theorem sout_C (hc0 : ¬cond0_0 i) (hc1 : cond0_1 i) :
    sout0_C_0 (F := Ideal) d i arg2 harg2 arg3 harg3 arg4 harg4 arg5 harg5 hc0 hc1 x0 x1 xs0 = k0_pay2 xs0 x0 x1 := by
  unfold sout0_C_0
  rw [View.read_writes_eq_canon _ _ _ (scover0_C_0 d i arg2 harg2 arg3 harg3 arg4 harg4 arg5 harg5 hc0 hc1 x0 x1 xs0)]
  unfold kernelRun0_C
  dsimp only
  refine (canon_last _ _ _).trans ?_
  sl_unfold_words
  simp (config := {decide := true}) only [View.readAt_eq_ld, harg2.read_unread, harg3.read_unread, harg5.read_unread, ld_whole]

theorem out_C (hc0 : ¬cond0_0 i) (hc1 : cond0_1 i) :
    out0_C_2 (F := Ideal) d i arg2 harg2 arg3 harg3 arg4 harg4 arg5 harg5 hc0 hc1 x0 x1 xs0 = k0_pay3 (k0_pay2 xs0 x0 x1) := by
  unfold out0_C_2
  rw [View.read_writes_eq_canon _ _ _ (cover0_C_2 d i arg2 harg2 arg3 harg3 arg4 harg4 arg5 harg5 hc0 hc1 x0 x1 xs0)]
  unfold kernelRun0_C
  dsimp only
  refine (canon_last _ _ _).trans ?_
  sl_unfold_words
  simp (config := {decide := true}) only [View.readAt_eq_ld, harg2.read_unread, harg3.read_unread, harg5.read_unread, ld_whole]
  exact congrArg k0_pay3 (readCov_whole _ _ _ _)

end

theorem ix0 : ∀ t : Fin cfg0.N, win0_0.index t = ![t.val % 5, t.val / 5] := (by decide +kernel : ∀ t : Fin grid0.N, win0_0.index t = ![t.val % 5, t.val / 5])
theorem ix1 : ∀ t : Fin cfg0.N, win0_1.index t = ![t.val % 5, 0] := (by decide +kernel : ∀ t : Fin grid0.N, win0_1.index t = ![t.val % 5, 0])
theorem ix2 : ∀ t : Fin cfg0.N, win0_2.index t = ![t.val / 5, 0] := (by decide +kernel : ∀ t : Fin grid0.N, win0_2.index t = ![t.val / 5, 0])

variable (m : (ℓ : Loc nD τ sig) → Buf (Elt Ideal) ℓ) (d : Dev nD)

/-- The two arrays the kernel is launched on. -/
abbrev X0 : S8320x5632.Idx → EReal := (m ((d : Thread nD τ).loc main_arg0) : Vec Ideal S8320x5632 .bf16)
abbrev X1 : S8320x1024.Idx → EReal := (m ((d : Thread nD τ).loc main_arg1) : Vec Ideal S8320x1024 .bf16)

theorem blk0 (t : Fin cfg0.N) (k : Fin 1664) (i : Fin 1408) (hk : 1664 * (t.val % 5) + k.val < 8320) (hi : 1408 * (t.val / 5) + i.val < 5632) :
    (iblk m d 0 t : Vec Ideal S1664x1408 .bf16) (ValueIdx.ix2 k i) = X0 m d (ValueIdx.ix2 ⟨1664 * (t.val % 5) + k.val, hk⟩ ⟨1408 * (t.val / 5) + i.val, hi⟩) := by
  refine congrArg (X0 m d) (?_ : (((cfg0.win 0).blk t).view.emb (ValueIdx.ix2 k i) : S8320x5632.Idx) = _)
  have e0 : win0_0.index t 0 = t.val % 5 := congrFun (ix0 t) 0
  have e1 : win0_0.index t 1 = t.val / 5 := congrFun (ix0 t) 1
  refine ext2i (?_ : win0_0.index t 0 * 1664 + 1 * k.val = 1664 * (t.val % 5) + k.val) (?_ : win0_0.index t 1 * 1408 + 1 * i.val = 1408 * (t.val / 5) + i.val)
  · rw [e0]; omega
  · rw [e1]; omega

theorem blk1 (t : Fin cfg0.N) (k : Fin 1664) (j : Fin 1024) (hk : 1664 * (t.val % 5) + k.val < 8320) :
    (iblk m d 1 t : Vec Ideal S1664x1024 .bf16) (ValueIdx.ix2 k j) = X1 m d (ValueIdx.ix2 ⟨1664 * (t.val % 5) + k.val, hk⟩ j) := by
  refine congrArg (X1 m d) (?_ : (((cfg0.win 1).blk t).view.emb (ValueIdx.ix2 k j) : S8320x1024.Idx) = _)
  have e0 : win0_1.index t 0 = t.val % 5 := congrFun (ix1 t) 0
  have e1 : win0_1.index t 1 = 0 := congrFun (ix1 t) 1
  refine ext2i (?_ : win0_1.index t 0 * 1664 + 1 * k.val = 1664 * (t.val % 5) + k.val) (?_ : win0_1.index t 1 * 1024 + 1 * j.val = j.val)
  · rw [e0]; omega
  · rw [e1]; omega

/-- One row tile more. -/
theorem tile (t : Fin cfg0.N) (v : Vec Ideal S1408x1024 .f32) (i : Fin 1408) (j : Fin 1024) :
    k0_pay2 (F := Ideal) v (iblk m d 0 t) (iblk m d 1 t) (ValueIdx.ix2 i j) = v (ValueIdx.ix2 i j) + ∑ k : Fin 1664, term (X0 m d) (X1 m d) (1408 * (t.val / 5) + i) j (1664 * (t.val % 5) + k) := by
  have hN : t.val < 20 := (N_0 : cfg0.N = 20) ▸ t.isLt
  rw [pay2_apply]
  refine congrArg _ (Finset.sum_congr rfl fun k _ => ?_)
  rw [term_of _ _ (show 1664 * (t.val % 5) + k.val < 8320 by omega) (show 1408 * (t.val / 5) + i.val < 5632 by omega) j.isLt]
  exact congrArg₂ (· * ·) (blk0 m d t k i (by omega) (by omega)) (blk1 m d t k j (by omega))

theorem acc : ∀ (n : ℕ) (hn : n < cfg0.N) (i : Fin 1408) (j : Fin 1024),
    (outsAt0 (F := Ideal) m d n hn).2 (ValueIdx.ix2 i j) = upto (X0 m d) (X1 m d) (1408 * (n / 5) + i) j (1664 * (n % 5 + 1)) := by
  refine gather (a := 1408) (b := 1024) (X0 m d) (X1 m d) 1408 cfg0.N (fun n hn => (outsAt0 (F := Ideal) m d n hn).2) (fun n hn v => k0_pay2 v (iblk m d 0 ⟨n, hn⟩) (iblk m d 1 ⟨n, hn⟩)) (k0_pay1 (F := Ideal))
    (fun y => zero_apply _ y) (fun n hn h => ?_) (fun n hn h => ?_) (fun n hn v i j => ?_)
  rotate_right
  · exact tile m d ⟨n, hn⟩ v i j
  · refine (congrArg Prod.snd (outsAt0_A m d ⟨n, hn⟩ h (by show ¬n % 5 = 4; omega))).trans ?_
    dsimp only
    rw [sout_A]
    try rfl
  · by_cases h1 : (n + 1) % 5 = 4
    · refine (congrArg Prod.snd (outsAt0_C m d ⟨n + 1, hn⟩ h h1)).trans ?_
      dsimp only
      rw [sout_C]
      try rfl
    · refine (congrArg Prod.snd (outsAt0_B m d ⟨n + 1, hn⟩ h h1)).trans ?_
      dsimp only
      rw [sout_B]
      try rfl

theorem at0 (t : Fin cfg0.N) (i : ℕ) : win0_2.index t 0 * 1408 + i = 1408 * (t.val / 5) + i := by
  rw [congrFun (ix2 t) 0]; show t.val / 5 * _ + i = _; omega
theorem at1 (t : Fin cfg0.N) (j : ℕ) : win0_2.index t 1 * 1024 + j = j := by
  rw [congrFun (ix2 t) 1]; exact Nat.zero_add _

/-- The array the launch leaves. -/
theorem result : ((dats m 0 d).arrAt 2 cfg0.N : Vec Ideal S5632x1024 .bf16) = fun y => upto (X0 m d) (X1 m d) (y 0).val (y 1).val 8320 := by
  refine (dats m 0 d).arrAt_eq_of_covers 2 _ (by decide +kernel) fun t hf y => ?_
  have hN : t.val < 20 := (N_0 : cfg0.N = 20) ▸ t.isLt
  have hm : t.val % 5 = 4 := (flush0_2 t).mp hf
  blk_simp
  rw [after0_2]
  obtain ⟨i, j, rfl⟩ : ∃ (i : Fin 1408) (j : Fin 1024), y = ValueIdx.ix2 i j := ⟨y 0, y 1, ValueIdx.eq_ix2 y⟩
  have hz : ¬ t.val % 5 = 0 := by omega
  have h := acc m d t.val t.isLt i j
  rw [outsAt0_C m d t hz hm] at h ⊢
  dsimp only at h ⊢
  rw [sout_C] at h
  rw [out_C]
  refine h.trans ?_
  show _ = upto (X0 m d) (X1 m d) (win0_2.index t 0 * 1408 + i.val) (win0_2.index t 1 * 1024 + j.val) 8320
  rw [at0, at1, hm]
end

section
open Cert.Reference3Ideal.Read
variable [hR : Cert.Reference3Ideal.Facts]

theorem reference (x0 : S8320x5632.Idx → EReal) (x1 : S8320x1024.Idx → EReal) (i : Fin 5632) (j : Fin 1024) :
    val_main_v8 (F := Ideal) x0 x1 (ValueIdx.ix2 i j) = upto x0 x1 i j 8320 := by
  rw [upto_all]
  refine (val_main_v8_apply ..).trans ?_
  refine ((val_main_v7_apply ..).trans ((val_main_v6_apply ..).trans (val_main_v5_apply ..))).trans (Finset.sum_congr rfl fun k _ => ?_)
  exact congrArg₂ (· * ·) (congrArg x0 (ValueIdx.eq_ix2 _)) (congrArg x1 (ValueIdx.eq_ix2 _))

theorem ref_frame : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)
end

theorem algebraic [hF : Cert.Kernel3Ideal.Facts] [hR : Cert.Reference3Ideal.Facts] : Cert.algebraic_Kernel3Ideal_Reference3Ideal := by
  intro m ρ m' ρ' _ hagree
  refine ⟨_, Cert.Kernel3Ideal.Value.run_blocks (F := Ideal) m ρ, ?_⟩
  refine (θ_run Cert.Reference3Ideal.defs _ _).mono (fun _ h c => ?_) (Cert.Reference3Ideal.Value.run (F := Ideal) m' ρ')
  obtain ⟨b0, b1⟩ := hagree c
  refine ⟨(h c).1.trans ?_, (h c).2⟩
  refine (Cert.Reference3Ideal.Read.val_main_v8_eq _ _).trans ?_
  rw [b0, b1]
  funext y
  obtain ⟨i, j, rfl⟩ : ∃ (i : Fin 5632) (j : Fin 1024), y = ValueIdx.ix2 i j := ⟨y 0, y 1, ValueIdx.eq_ix2 y⟩
  exact (reference _ _ i j).trans (congrFun (result m c) (ValueIdx.ix2 i j)).symm

end Cert.Weights3

end
-- ==== Proof.Weights4.lean ====
/- The weight gradient `wgrad_down`: the launch's result is the reference's. -/
module

public import proofs.«01_k».proof.Defs
public import proofs.«01_k».proof.Proof.Tiles
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pipeline.ValueKit.Geometry

@[expose] public section

set_option maxRecDepth 20000

noncomputable section

namespace Cert.Weights4

open Idealize.ShloMosaic Idealize.ShloMosaic.TcCoe Idealize.SL.Sem Cert.Tiles Cert.Gla Cert.Kernel4Ideal Cert.Kernel4Ideal.Gen Cert.Kernel4Ideal.Value
open scoped BigOperators

section
variable [hF : Cert.Kernel4Ideal.Facts]

theorem pay2_apply (v : Vec Ideal S1408x1024 .f32) (x : Vec Ideal S1664x1408 .bf16) (y : Vec Ideal S1664x1024 .f32) (i : Fin 1408) (j : Fin 1024) :
    k0_pay2 (F := Ideal) v x y (ValueIdx.ix2 i j) = v (ValueIdx.ix2 i j) + ∑ k : Fin 1664, x (ValueIdx.ix2 k i) * y (ValueIdx.ix2 k j) := by
  unfold k0_pay2
  rw [shapeCast_self]
  refine congrArg (v (ValueIdx.ix2 i j) + ·) ((mml_apply none _ _ _ _ i j).trans ?_)
  exact (congrArg (· + _) Ideal.ofBits_zero_f32).trans (zero_add _)

section
variable (d : Dev nD) (i : grid0.Coords) (arg2 : Memref sig .tc .vmem S1664x1408 .bf16) (harg2 : arg2.IsWhole) (arg3 : Memref sig .tc .vmem S1664x1024 .f32) (harg3 : arg3.IsWhole)
  (arg4 : Memref sig .tc .vmem S1408x1024 .bf16) (harg4 : arg4.IsWhole) (arg5 : Memref sig .tc .vmem S1408x1024 .f32) (harg5 : arg5.IsWhole)
  (x0 : Vec Ideal S1664x1408 .bf16) (x1 : Vec Ideal S1664x1024 .f32) (xs0 : Vec Ideal S1408x1024 .f32)

theorem sout_A (hc0 : cond0_0 i) (hc1 : ¬cond0_1 i) :
    sout0_A_0 (F := Ideal) d i arg2 harg2 arg3 harg3 arg4 harg4 arg5 harg5 hc0 hc1 x0 x1 = k0_pay2 (k0_pay1 (F := Ideal)) x0 x1 := by
  unfold sout0_A_0
  rw [View.read_writes_eq_canon _ _ _ (scover0_A_0 d i arg2 harg2 arg3 harg3 arg4 harg4 arg5 harg5 hc0 hc1 x0 x1)]
  unfold kernelRun0_A
  dsimp only
  refine (canon_last _ _ _).trans ?_
  sl_unfold_words
  simp (config := {decide := true}) only [View.readAt_eq_ld, harg2.read_unread, harg3.read_unread, harg5.read_unread, ld_whole]
  exact congrArg (k0_pay2 · x0 x1) (readCov_whole _ _ _ _)

theorem sout_B (hc0 : ¬cond0_0 i) (hc1 : ¬cond0_1 i) :
    sout0_B_0 (F := Ideal) d i arg2 harg2 arg3 harg3 arg4 harg4 arg5 harg5 hc0 hc1 x0 x1 xs0 = k0_pay2 xs0 x0 x1 := by
  unfold sout0_B_0
  rw [View.read_writes_eq_canon _ _ _ (scover0_B_0 d i arg2 harg2 arg3 harg3 arg4 harg4 arg5 harg5 hc0 hc1 x0 x1 xs0)]
  unfold kernelRun0_B
  dsimp only
  refine (canon_last _ _ _).trans ?_
  sl_unfold_words
  simp (config := {decide := true}) only [View.readAt_eq_ld, harg2.read_unread, harg3.read_unread, harg5.read_unread, ld_whole]

theorem sout_C (hc0 : ¬cond0_0 i) (hc1 : cond0_1 i) :
    sout0_C_0 (F := Ideal) d i arg2 harg2 arg3 harg3 arg4 harg4 arg5 harg5 hc0 hc1 x0 x1 xs0 = k0_pay2 xs0 x0 x1 := by
  unfold sout0_C_0
  rw [View.read_writes_eq_canon _ _ _ (scover0_C_0 d i arg2 harg2 arg3 harg3 arg4 harg4 arg5 harg5 hc0 hc1 x0 x1 xs0)]
  unfold kernelRun0_C
  dsimp only
  refine (canon_last _ _ _).trans ?_
  sl_unfold_words
  simp (config := {decide := true}) only [View.readAt_eq_ld, harg2.read_unread, harg3.read_unread, harg5.read_unread, ld_whole]

theorem out_C (hc0 : ¬cond0_0 i) (hc1 : cond0_1 i) :
    out0_C_2 (F := Ideal) d i arg2 harg2 arg3 harg3 arg4 harg4 arg5 harg5 hc0 hc1 x0 x1 xs0 = k0_pay3 (k0_pay2 xs0 x0 x1) := by
  unfold out0_C_2
  rw [View.read_writes_eq_canon _ _ _ (cover0_C_2 d i arg2 harg2 arg3 harg3 arg4 harg4 arg5 harg5 hc0 hc1 x0 x1 xs0)]
  unfold kernelRun0_C
  dsimp only
  refine (canon_last _ _ _).trans ?_
  sl_unfold_words
  simp (config := {decide := true}) only [View.readAt_eq_ld, harg2.read_unread, harg3.read_unread, harg5.read_unread, ld_whole]
  exact congrArg k0_pay3 (readCov_whole _ _ _ _)

end

theorem ix0 : ∀ t : Fin cfg0.N, win0_0.index t = ![t.val % 5, t.val / 5] := (by decide +kernel : ∀ t : Fin grid0.N, win0_0.index t = ![t.val % 5, t.val / 5])
theorem ix1 : ∀ t : Fin cfg0.N, win0_1.index t = ![t.val % 5, 0] := (by decide +kernel : ∀ t : Fin grid0.N, win0_1.index t = ![t.val % 5, 0])
theorem ix2 : ∀ t : Fin cfg0.N, win0_2.index t = ![t.val / 5, 0] := (by decide +kernel : ∀ t : Fin grid0.N, win0_2.index t = ![t.val / 5, 0])

variable (m : (ℓ : Loc nD τ sig) → Buf (Elt Ideal) ℓ) (d : Dev nD)

/-- The two arrays the kernel is launched on. -/
abbrev X0 : S8320x2816.Idx → EReal := (m ((d : Thread nD τ).loc main_arg0) : Vec Ideal S8320x2816 .bf16)
abbrev X1 : S8320x1024.Idx → EReal := (m ((d : Thread nD τ).loc main_arg1) : Vec Ideal S8320x1024 .f32)

theorem blk0 (t : Fin cfg0.N) (k : Fin 1664) (i : Fin 1408) (hk : 1664 * (t.val % 5) + k.val < 8320) (hi : 1408 * (t.val / 5) + i.val < 2816) :
    (iblk m d 0 t : Vec Ideal S1664x1408 .bf16) (ValueIdx.ix2 k i) = X0 m d (ValueIdx.ix2 ⟨1664 * (t.val % 5) + k.val, hk⟩ ⟨1408 * (t.val / 5) + i.val, hi⟩) := by
  refine congrArg (X0 m d) (?_ : (((cfg0.win 0).blk t).view.emb (ValueIdx.ix2 k i) : S8320x2816.Idx) = _)
  have e0 : win0_0.index t 0 = t.val % 5 := congrFun (ix0 t) 0
  have e1 : win0_0.index t 1 = t.val / 5 := congrFun (ix0 t) 1
  refine ext2i (?_ : win0_0.index t 0 * 1664 + 1 * k.val = 1664 * (t.val % 5) + k.val) (?_ : win0_0.index t 1 * 1408 + 1 * i.val = 1408 * (t.val / 5) + i.val)
  · rw [e0]; omega
  · rw [e1]; omega

theorem blk1 (t : Fin cfg0.N) (k : Fin 1664) (j : Fin 1024) (hk : 1664 * (t.val % 5) + k.val < 8320) :
    (iblk m d 1 t : Vec Ideal S1664x1024 .f32) (ValueIdx.ix2 k j) = X1 m d (ValueIdx.ix2 ⟨1664 * (t.val % 5) + k.val, hk⟩ j) := by
  refine congrArg (X1 m d) (?_ : (((cfg0.win 1).blk t).view.emb (ValueIdx.ix2 k j) : S8320x1024.Idx) = _)
  have e0 : win0_1.index t 0 = t.val % 5 := congrFun (ix1 t) 0
  have e1 : win0_1.index t 1 = 0 := congrFun (ix1 t) 1
  refine ext2i (?_ : win0_1.index t 0 * 1664 + 1 * k.val = 1664 * (t.val % 5) + k.val) (?_ : win0_1.index t 1 * 1024 + 1 * j.val = j.val)
  · rw [e0]; omega
  · rw [e1]; omega

/-- One row tile more. -/
theorem tile (t : Fin cfg0.N) (v : Vec Ideal S1408x1024 .f32) (i : Fin 1408) (j : Fin 1024) :
    k0_pay2 (F := Ideal) v (iblk m d 0 t) (iblk m d 1 t) (ValueIdx.ix2 i j) = v (ValueIdx.ix2 i j) + ∑ k : Fin 1664, term (X0 m d) (X1 m d) (1408 * (t.val / 5) + i) j (1664 * (t.val % 5) + k) := by
  have hN : t.val < 10 := (N_0 : cfg0.N = 10) ▸ t.isLt
  rw [pay2_apply]
  refine congrArg _ (Finset.sum_congr rfl fun k _ => ?_)
  rw [term_of _ _ (show 1664 * (t.val % 5) + k.val < 8320 by omega) (show 1408 * (t.val / 5) + i.val < 2816 by omega) j.isLt]
  exact congrArg₂ (· * ·) (blk0 m d t k i (by omega) (by omega)) (blk1 m d t k j (by omega))

theorem acc : ∀ (n : ℕ) (hn : n < cfg0.N) (i : Fin 1408) (j : Fin 1024),
    (outsAt0 (F := Ideal) m d n hn).2 (ValueIdx.ix2 i j) = upto (X0 m d) (X1 m d) (1408 * (n / 5) + i) j (1664 * (n % 5 + 1)) := by
  refine gather (a := 1408) (b := 1024) (X0 m d) (X1 m d) 1408 cfg0.N (fun n hn => (outsAt0 (F := Ideal) m d n hn).2) (fun n hn v => k0_pay2 v (iblk m d 0 ⟨n, hn⟩) (iblk m d 1 ⟨n, hn⟩)) (k0_pay1 (F := Ideal))
    (fun y => zero_apply _ y) (fun n hn h => ?_) (fun n hn h => ?_) (fun n hn v i j => ?_)
  rotate_right
  · exact tile m d ⟨n, hn⟩ v i j
  · refine (congrArg Prod.snd (outsAt0_A m d ⟨n, hn⟩ h (by show ¬n % 5 = 4; omega))).trans ?_
    dsimp only
    rw [sout_A]
    try rfl
  · by_cases h1 : (n + 1) % 5 = 4
    · refine (congrArg Prod.snd (outsAt0_C m d ⟨n + 1, hn⟩ h h1)).trans ?_
      dsimp only
      rw [sout_C]
      try rfl
    · refine (congrArg Prod.snd (outsAt0_B m d ⟨n + 1, hn⟩ h h1)).trans ?_
      dsimp only
      rw [sout_B]
      try rfl

theorem at0 (t : Fin cfg0.N) (i : ℕ) : win0_2.index t 0 * 1408 + i = 1408 * (t.val / 5) + i := by
  rw [congrFun (ix2 t) 0]; show t.val / 5 * _ + i = _; omega
theorem at1 (t : Fin cfg0.N) (j : ℕ) : win0_2.index t 1 * 1024 + j = j := by
  rw [congrFun (ix2 t) 1]; exact Nat.zero_add _

/-- The array the launch leaves. -/
theorem result : ((dats m 0 d).arrAt 2 cfg0.N : Vec Ideal S2816x1024 .bf16) = fun y => upto (X0 m d) (X1 m d) (y 0).val (y 1).val 8320 := by
  refine (dats m 0 d).arrAt_eq_of_covers 2 _ (by decide +kernel) fun t hf y => ?_
  have hN : t.val < 10 := (N_0 : cfg0.N = 10) ▸ t.isLt
  have hm : t.val % 5 = 4 := (flush0_2 t).mp hf
  blk_simp
  rw [after0_2]
  obtain ⟨i, j, rfl⟩ : ∃ (i : Fin 1408) (j : Fin 1024), y = ValueIdx.ix2 i j := ⟨y 0, y 1, ValueIdx.eq_ix2 y⟩
  have hz : ¬ t.val % 5 = 0 := by omega
  have h := acc m d t.val t.isLt i j
  rw [outsAt0_C m d t hz hm] at h ⊢
  dsimp only at h ⊢
  rw [sout_C] at h
  rw [out_C]
  refine h.trans ?_
  show _ = upto (X0 m d) (X1 m d) (win0_2.index t 0 * 1408 + i.val) (win0_2.index t 1 * 1024 + j.val) 8320
  rw [at0, at1, hm]
end

section
open Cert.Reference4Ideal.Read
variable [hR : Cert.Reference4Ideal.Facts]

theorem reference (x0 : S8320x2816.Idx → EReal) (x1 : S8320x1024.Idx → EReal) (i : Fin 2816) (j : Fin 1024) :
    val_main_v5 (F := Ideal) x0 x1 (ValueIdx.ix2 i j) = upto x0 x1 i j 8320 := by
  rw [upto_all]
  refine (val_main_v5_apply ..).trans ((val_main_v4_apply ..).trans ((val_main_v3_apply ..).trans (Finset.sum_congr rfl fun k _ => ?_)))
  exact (mul_comm _ _).trans (congrArg₂ (· * ·) (congrArg x0 (ValueIdx.eq_ix2 _)) (congrArg x1 (ValueIdx.eq_ix2 _)))

theorem ref_frame : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)
end

theorem algebraic [hF : Cert.Kernel4Ideal.Facts] [hR : Cert.Reference4Ideal.Facts] : Cert.algebraic_Kernel4Ideal_Reference4Ideal := by
  intro m ρ m' ρ' _ hagree
  refine ⟨_, Cert.Kernel4Ideal.Value.run_blocks (F := Ideal) m ρ, ?_⟩
  refine (θ_run Cert.Reference4Ideal.defs _ _).mono (fun _ h c => ?_) (Cert.Reference4Ideal.Value.run (F := Ideal) m' ρ')
  obtain ⟨b0, b1⟩ := hagree c
  refine ⟨(h c).1.trans ?_, (h c).2⟩
  refine (Cert.Reference4Ideal.Read.val_main_v5_eq _ _).trans ?_
  rw [b0, b1]
  funext y
  obtain ⟨i, j, rfl⟩ : ∃ (i : Fin 2816) (j : Fin 1024), y = ValueIdx.ix2 i j := ⟨y 0, y 1, ValueIdx.eq_ix2 y⟩
  exact (reference _ _ i j).trans (congrFun (result m c) (ValueIdx.ix2 i j)).symm

end Cert.Weights4

end
-- ==== Proof.Weights5.lean ====
/- The weight gradient `wgrad_out`: the launch's result is the reference's. -/
module

public import proofs.«01_k».proof.Defs
public import proofs.«01_k».proof.Proof.Tiles
public import proofs.«01_k».proof.Proof.Gen.Kernel5Ideal.Value
public import proofs.«01_k».proof.Proof.Gen.Reference5Ideal.Run
public import proofs.«01_k».proof.Proof.Gen.Reference5Ideal.Read
public import Idealize.ShloMosaic.Lib.Pipeline.ValueKit.Geometry

@[expose] public section

set_option maxRecDepth 20000

noncomputable section

namespace Cert.Weights5

open Idealize.ShloMosaic Idealize.ShloMosaic.TcCoe Idealize.SL.Sem Cert.Tiles Cert.Gla Cert.Kernel5Ideal Cert.Kernel5Ideal.Gen Cert.Kernel5Ideal.Value
open scoped BigOperators

section
variable [hF : Cert.Kernel5Ideal.Facts]

theorem pay2_apply (v : Vec Ideal S1024x1024 .f32) (x : Vec Ideal S1664x1024 .bf16) (y : Vec Ideal S1664x1024 .f32) (i : Fin 1024) (j : Fin 1024) :
    k0_pay2 (F := Ideal) v x y (ValueIdx.ix2 i j) = v (ValueIdx.ix2 i j) + ∑ k : Fin 1664, x (ValueIdx.ix2 k i) * y (ValueIdx.ix2 k j) := by
  unfold k0_pay2
  rw [shapeCast_self]
  refine congrArg (v (ValueIdx.ix2 i j) + ·) ((mml_apply none _ _ _ _ i j).trans ?_)
  exact (congrArg (· + _) Ideal.ofBits_zero_f32).trans (zero_add _)

section
variable (d : Dev nD) (i : grid0.Coords) (arg2 : Memref sig .tc .vmem S1664x1024 .bf16) (harg2 : arg2.IsWhole) (arg3 : Memref sig .tc .vmem S1664x1024 .f32) (harg3 : arg3.IsWhole)
  (arg4 : Memref sig .tc .vmem S1024x1024 .bf16) (harg4 : arg4.IsWhole) (arg5 : Memref sig .tc .vmem S1024x1024 .f32) (harg5 : arg5.IsWhole)
  (x0 : Vec Ideal S1664x1024 .bf16) (x1 : Vec Ideal S1664x1024 .f32) (xs0 : Vec Ideal S1024x1024 .f32)

theorem sout_A (hc0 : cond0_0 i) (hc1 : ¬cond0_1 i) :
    sout0_A_0 (F := Ideal) d i arg2 harg2 arg3 harg3 arg4 harg4 arg5 harg5 hc0 hc1 x0 x1 = k0_pay2 (k0_pay1 (F := Ideal)) x0 x1 := by
  unfold sout0_A_0
  rw [View.read_writes_eq_canon _ _ _ (scover0_A_0 d i arg2 harg2 arg3 harg3 arg4 harg4 arg5 harg5 hc0 hc1 x0 x1)]
  unfold kernelRun0_A
  dsimp only
  refine (canon_last _ _ _).trans ?_
  sl_unfold_words
  simp (config := {decide := true}) only [View.readAt_eq_ld, harg2.read_unread, harg3.read_unread, harg5.read_unread, ld_whole]
  exact congrArg (k0_pay2 · x0 x1) (readCov_whole _ _ _ _)

theorem sout_B (hc0 : ¬cond0_0 i) (hc1 : ¬cond0_1 i) :
    sout0_B_0 (F := Ideal) d i arg2 harg2 arg3 harg3 arg4 harg4 arg5 harg5 hc0 hc1 x0 x1 xs0 = k0_pay2 xs0 x0 x1 := by
  unfold sout0_B_0
  rw [View.read_writes_eq_canon _ _ _ (scover0_B_0 d i arg2 harg2 arg3 harg3 arg4 harg4 arg5 harg5 hc0 hc1 x0 x1 xs0)]
  unfold kernelRun0_B
  dsimp only
  refine (canon_last _ _ _).trans ?_
  sl_unfold_words
  simp (config := {decide := true}) only [View.readAt_eq_ld, harg2.read_unread, harg3.read_unread, harg5.read_unread, ld_whole]

theorem sout_C (hc0 : ¬cond0_0 i) (hc1 : cond0_1 i) :
    sout0_C_0 (F := Ideal) d i arg2 harg2 arg3 harg3 arg4 harg4 arg5 harg5 hc0 hc1 x0 x1 xs0 = k0_pay2 xs0 x0 x1 := by
  unfold sout0_C_0
  rw [View.read_writes_eq_canon _ _ _ (scover0_C_0 d i arg2 harg2 arg3 harg3 arg4 harg4 arg5 harg5 hc0 hc1 x0 x1 xs0)]
  unfold kernelRun0_C
  dsimp only
  refine (canon_last _ _ _).trans ?_
  sl_unfold_words
  simp (config := {decide := true}) only [View.readAt_eq_ld, harg2.read_unread, harg3.read_unread, harg5.read_unread, ld_whole]

theorem out_C (hc0 : ¬cond0_0 i) (hc1 : cond0_1 i) :
    out0_C_2 (F := Ideal) d i arg2 harg2 arg3 harg3 arg4 harg4 arg5 harg5 hc0 hc1 x0 x1 xs0 = k0_pay3 (k0_pay2 xs0 x0 x1) := by
  unfold out0_C_2
  rw [View.read_writes_eq_canon _ _ _ (cover0_C_2 d i arg2 harg2 arg3 harg3 arg4 harg4 arg5 harg5 hc0 hc1 x0 x1 xs0)]
  unfold kernelRun0_C
  dsimp only
  refine (canon_last _ _ _).trans ?_
  sl_unfold_words
  simp (config := {decide := true}) only [View.readAt_eq_ld, harg2.read_unread, harg3.read_unread, harg5.read_unread, ld_whole]
  exact congrArg k0_pay3 (readCov_whole _ _ _ _)

end

theorem ix0 : ∀ t : Fin cfg0.N, win0_0.index t = ![t.val % 5, t.val / 5] := (by decide +kernel : ∀ t : Fin grid0.N, win0_0.index t = ![t.val % 5, t.val / 5])
theorem ix1 : ∀ t : Fin cfg0.N, win0_1.index t = ![t.val % 5, 0] := (by decide +kernel : ∀ t : Fin grid0.N, win0_1.index t = ![t.val % 5, 0])
theorem ix2 : ∀ t : Fin cfg0.N, win0_2.index t = ![t.val / 5, 0] := (by decide +kernel : ∀ t : Fin grid0.N, win0_2.index t = ![t.val / 5, 0])

variable (m : (ℓ : Loc nD τ sig) → Buf (Elt Ideal) ℓ) (d : Dev nD)

/-- The two arrays the kernel is launched on. -/
abbrev X0 : S8320x1024.Idx → EReal := (m ((d : Thread nD τ).loc main_arg0) : Vec Ideal S8320x1024 .bf16)
abbrev X1 : S8320x1024.Idx → EReal := (m ((d : Thread nD τ).loc main_arg1) : Vec Ideal S8320x1024 .f32)

theorem blk0 (t : Fin cfg0.N) (k : Fin 1664) (i : Fin 1024) (hk : 1664 * (t.val % 5) + k.val < 8320) (hi : 1024 * (t.val / 5) + i.val < 1024) :
    (iblk m d 0 t : Vec Ideal S1664x1024 .bf16) (ValueIdx.ix2 k i) = X0 m d (ValueIdx.ix2 ⟨1664 * (t.val % 5) + k.val, hk⟩ ⟨1024 * (t.val / 5) + i.val, hi⟩) := by
  refine congrArg (X0 m d) (?_ : (((cfg0.win 0).blk t).view.emb (ValueIdx.ix2 k i) : S8320x1024.Idx) = _)
  have e0 : win0_0.index t 0 = t.val % 5 := congrFun (ix0 t) 0
  have e1 : win0_0.index t 1 = t.val / 5 := congrFun (ix0 t) 1
  refine ext2i (?_ : win0_0.index t 0 * 1664 + 1 * k.val = 1664 * (t.val % 5) + k.val) (?_ : win0_0.index t 1 * 1024 + 1 * i.val = 1024 * (t.val / 5) + i.val)
  · rw [e0]; omega
  · rw [e1]; omega

theorem blk1 (t : Fin cfg0.N) (k : Fin 1664) (j : Fin 1024) (hk : 1664 * (t.val % 5) + k.val < 8320) :
    (iblk m d 1 t : Vec Ideal S1664x1024 .f32) (ValueIdx.ix2 k j) = X1 m d (ValueIdx.ix2 ⟨1664 * (t.val % 5) + k.val, hk⟩ j) := by
  refine congrArg (X1 m d) (?_ : (((cfg0.win 1).blk t).view.emb (ValueIdx.ix2 k j) : S8320x1024.Idx) = _)
  have e0 : win0_1.index t 0 = t.val % 5 := congrFun (ix1 t) 0
  have e1 : win0_1.index t 1 = 0 := congrFun (ix1 t) 1
  refine ext2i (?_ : win0_1.index t 0 * 1664 + 1 * k.val = 1664 * (t.val % 5) + k.val) (?_ : win0_1.index t 1 * 1024 + 1 * j.val = j.val)
  · rw [e0]; omega
  · rw [e1]; omega

/-- One row tile more. -/
theorem tile (t : Fin cfg0.N) (v : Vec Ideal S1024x1024 .f32) (i : Fin 1024) (j : Fin 1024) :
    k0_pay2 (F := Ideal) v (iblk m d 0 t) (iblk m d 1 t) (ValueIdx.ix2 i j) = v (ValueIdx.ix2 i j) + ∑ k : Fin 1664, term (X0 m d) (X1 m d) (1024 * (t.val / 5) + i) j (1664 * (t.val % 5) + k) := by
  have hN : t.val < 5 := (N_0 : cfg0.N = 5) ▸ t.isLt
  rw [pay2_apply]
  refine congrArg _ (Finset.sum_congr rfl fun k _ => ?_)
  rw [term_of _ _ (show 1664 * (t.val % 5) + k.val < 8320 by omega) (show 1024 * (t.val / 5) + i.val < 1024 by omega) j.isLt]
  exact congrArg₂ (· * ·) (blk0 m d t k i (by omega) (by omega)) (blk1 m d t k j (by omega))

theorem acc : ∀ (n : ℕ) (hn : n < cfg0.N) (i : Fin 1024) (j : Fin 1024),
    (outsAt0 (F := Ideal) m d n hn).2 (ValueIdx.ix2 i j) = upto (X0 m d) (X1 m d) (1024 * (n / 5) + i) j (1664 * (n % 5 + 1)) := by
  refine gather (a := 1024) (b := 1024) (X0 m d) (X1 m d) 1024 cfg0.N (fun n hn => (outsAt0 (F := Ideal) m d n hn).2) (fun n hn v => k0_pay2 v (iblk m d 0 ⟨n, hn⟩) (iblk m d 1 ⟨n, hn⟩)) (k0_pay1 (F := Ideal))
    (fun y => zero_apply _ y) (fun n hn h => ?_) (fun n hn h => ?_) (fun n hn v i j => ?_)
  rotate_right
  · exact tile m d ⟨n, hn⟩ v i j
  · refine (congrArg Prod.snd (outsAt0_A m d ⟨n, hn⟩ h (by show ¬n % 5 = 4; omega))).trans ?_
    dsimp only
    rw [sout_A]
    try rfl
  · by_cases h1 : (n + 1) % 5 = 4
    · refine (congrArg Prod.snd (outsAt0_C m d ⟨n + 1, hn⟩ h h1)).trans ?_
      dsimp only
      rw [sout_C]
      try rfl
    · refine (congrArg Prod.snd (outsAt0_B m d ⟨n + 1, hn⟩ h h1)).trans ?_
      dsimp only
      rw [sout_B]
      try rfl

theorem at0 (t : Fin cfg0.N) (i : ℕ) : win0_2.index t 0 * 1024 + i = 1024 * (t.val / 5) + i := by
  rw [congrFun (ix2 t) 0]; show t.val / 5 * _ + i = _; omega
theorem at1 (t : Fin cfg0.N) (j : ℕ) : win0_2.index t 1 * 1024 + j = j := by
  rw [congrFun (ix2 t) 1]; exact Nat.zero_add _

/-- The array the launch leaves. -/
theorem result : ((dats m 0 d).arrAt 2 cfg0.N : Vec Ideal S1024x1024 .bf16) = fun y => upto (X0 m d) (X1 m d) (y 0).val (y 1).val 8320 := by
  refine (dats m 0 d).arrAt_eq_of_covers 2 _ (by decide +kernel) fun t hf y => ?_
  have hN : t.val < 5 := (N_0 : cfg0.N = 5) ▸ t.isLt
  have hm : t.val % 5 = 4 := (flush0_2 t).mp hf
  blk_simp
  rw [after0_2]
  obtain ⟨i, j, rfl⟩ : ∃ (i : Fin 1024) (j : Fin 1024), y = ValueIdx.ix2 i j := ⟨y 0, y 1, ValueIdx.eq_ix2 y⟩
  have hz : ¬ t.val % 5 = 0 := by omega
  have h := acc m d t.val t.isLt i j
  rw [outsAt0_C m d t hz hm] at h ⊢
  dsimp only at h ⊢
  rw [sout_C] at h
  rw [out_C]
  refine h.trans ?_
  show _ = upto (X0 m d) (X1 m d) (win0_2.index t 0 * 1024 + i.val) (win0_2.index t 1 * 1024 + j.val) 8320
  rw [at0, at1, hm]
end

section
open Cert.Reference5Ideal.Read
variable [hR : Cert.Reference5Ideal.Facts]

theorem reference (x0 : S8320x1024.Idx → EReal) (x1 : S8320x1024.Idx → EReal) (i : Fin 1024) (j : Fin 1024) :
    val_main_v5 (F := Ideal) x0 x1 (ValueIdx.ix2 i j) = upto x0 x1 i j 8320 := by
  rw [upto_all]
  refine (val_main_v5_apply ..).trans ((val_main_v4_apply ..).trans ((val_main_v3_apply ..).trans (Finset.sum_congr rfl fun k _ => ?_)))
  exact (mul_comm _ _).trans (congrArg₂ (· * ·) (congrArg x0 (ValueIdx.eq_ix2 _)) (congrArg x1 (ValueIdx.eq_ix2 _)))

theorem ref_frame : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)
end

theorem algebraic [hF : Cert.Kernel5Ideal.Facts] [hR : Cert.Reference5Ideal.Facts] : Cert.algebraic_Kernel5Ideal_Reference5Ideal := by
  intro m ρ m' ρ' _ hagree
  refine ⟨_, Cert.Kernel5Ideal.Value.run_blocks (F := Ideal) m ρ, ?_⟩
  refine (θ_run Cert.Reference5Ideal.defs _ _).mono (fun _ h c => ?_) (Cert.Reference5Ideal.Value.run (F := Ideal) m' ρ')
  obtain ⟨b0, b1⟩ := hagree c
  refine ⟨(h c).1.trans ?_, (h c).2⟩
  refine (Cert.Reference5Ideal.Read.val_main_v5_eq _ _).trans ?_
  rw [b0, b1]
  funext y
  obtain ⟨i, j, rfl⟩ : ∃ (i : Fin 1024) (j : Fin 1024), y = ValueIdx.ix2 i j := ⟨y 0, y 1, ValueIdx.eq_ix2 y⟩
  exact (reference _ _ i j).trans (congrFun (result m c) (ValueIdx.ix2 i j)).symm

end Cert.Weights5

end
-- ==== Proof.Weights6.lean ====
/- The weight gradient `wgrad_gla_o`: the launch's result is the reference's. -/
module

public import proofs.«01_k».proof.Defs
public import proofs.«01_k».proof.Proof.Tiles
public import proofs.«01_k».proof.Proof.Gen.Kernel6Ideal.Value
public import proofs.«01_k».proof.Proof.Gen.Reference6Ideal.Run
public import proofs.«01_k».proof.Proof.Gen.Reference6Ideal.Read
public import Idealize.ShloMosaic.Lib.Pipeline.ValueKit.Geometry

@[expose] public section

set_option maxRecDepth 20000

noncomputable section

namespace Cert.Weights6

open Idealize.ShloMosaic Idealize.ShloMosaic.TcCoe Idealize.SL.Sem Cert.Tiles Cert.Gla Cert.Kernel6Ideal Cert.Kernel6Ideal.Gen Cert.Kernel6Ideal.Value
open scoped BigOperators

section
variable [hF : Cert.Kernel6Ideal.Facts]

theorem pay2_apply (v : Vec Ideal S1024x1024 .f32) (x : Vec Ideal S1664x1024 .bf16) (y : Vec Ideal S1664x1024 .bf16) (i : Fin 1024) (j : Fin 1024) :
    k0_pay2 (F := Ideal) v x y (ValueIdx.ix2 i j) = v (ValueIdx.ix2 i j) + ∑ k : Fin 1664, x (ValueIdx.ix2 k i) * y (ValueIdx.ix2 k j) := by
  unfold k0_pay2
  rw [shapeCast_self]
  refine congrArg (v (ValueIdx.ix2 i j) + ·) ((mml_apply none _ _ _ _ i j).trans ?_)
  exact (congrArg (· + _) Ideal.ofBits_zero_f32).trans (zero_add _)

section
variable (d : Dev nD) (i : grid0.Coords) (arg2 : Memref sig .tc .vmem S1664x1024 .bf16) (harg2 : arg2.IsWhole) (arg3 : Memref sig .tc .vmem S1664x1024 .bf16) (harg3 : arg3.IsWhole)
  (arg4 : Memref sig .tc .vmem S1024x1024 .bf16) (harg4 : arg4.IsWhole) (arg5 : Memref sig .tc .vmem S1024x1024 .f32) (harg5 : arg5.IsWhole)
  (x0 : Vec Ideal S1664x1024 .bf16) (x1 : Vec Ideal S1664x1024 .bf16) (xs0 : Vec Ideal S1024x1024 .f32)

theorem sout_A (hc0 : cond0_0 i) (hc1 : ¬cond0_1 i) :
    sout0_A_0 (F := Ideal) d i arg2 harg2 arg3 harg3 arg4 harg4 arg5 harg5 hc0 hc1 x0 x1 = k0_pay2 (k0_pay1 (F := Ideal)) x0 x1 := by
  unfold sout0_A_0
  rw [View.read_writes_eq_canon _ _ _ (scover0_A_0 d i arg2 harg2 arg3 harg3 arg4 harg4 arg5 harg5 hc0 hc1 x0 x1)]
  unfold kernelRun0_A
  dsimp only
  refine (canon_last _ _ _).trans ?_
  sl_unfold_words
  simp (config := {decide := true}) only [View.readAt_eq_ld, harg2.read_unread, harg3.read_unread, harg5.read_unread, ld_whole]
  exact congrArg (k0_pay2 · x0 x1) (readCov_whole _ _ _ _)

theorem sout_B (hc0 : ¬cond0_0 i) (hc1 : ¬cond0_1 i) :
    sout0_B_0 (F := Ideal) d i arg2 harg2 arg3 harg3 arg4 harg4 arg5 harg5 hc0 hc1 x0 x1 xs0 = k0_pay2 xs0 x0 x1 := by
  unfold sout0_B_0
  rw [View.read_writes_eq_canon _ _ _ (scover0_B_0 d i arg2 harg2 arg3 harg3 arg4 harg4 arg5 harg5 hc0 hc1 x0 x1 xs0)]
  unfold kernelRun0_B
  dsimp only
  refine (canon_last _ _ _).trans ?_
  sl_unfold_words
  simp (config := {decide := true}) only [View.readAt_eq_ld, harg2.read_unread, harg3.read_unread, harg5.read_unread, ld_whole]

theorem sout_C (hc0 : ¬cond0_0 i) (hc1 : cond0_1 i) :
    sout0_C_0 (F := Ideal) d i arg2 harg2 arg3 harg3 arg4 harg4 arg5 harg5 hc0 hc1 x0 x1 xs0 = k0_pay2 xs0 x0 x1 := by
  unfold sout0_C_0
  rw [View.read_writes_eq_canon _ _ _ (scover0_C_0 d i arg2 harg2 arg3 harg3 arg4 harg4 arg5 harg5 hc0 hc1 x0 x1 xs0)]
  unfold kernelRun0_C
  dsimp only
  refine (canon_last _ _ _).trans ?_
  sl_unfold_words
  simp (config := {decide := true}) only [View.readAt_eq_ld, harg2.read_unread, harg3.read_unread, harg5.read_unread, ld_whole]

theorem out_C (hc0 : ¬cond0_0 i) (hc1 : cond0_1 i) :
    out0_C_2 (F := Ideal) d i arg2 harg2 arg3 harg3 arg4 harg4 arg5 harg5 hc0 hc1 x0 x1 xs0 = k0_pay3 (k0_pay2 xs0 x0 x1) := by
  unfold out0_C_2
  rw [View.read_writes_eq_canon _ _ _ (cover0_C_2 d i arg2 harg2 arg3 harg3 arg4 harg4 arg5 harg5 hc0 hc1 x0 x1 xs0)]
  unfold kernelRun0_C
  dsimp only
  refine (canon_last _ _ _).trans ?_
  sl_unfold_words
  simp (config := {decide := true}) only [View.readAt_eq_ld, harg2.read_unread, harg3.read_unread, harg5.read_unread, ld_whole]
  exact congrArg k0_pay3 (readCov_whole _ _ _ _)

end

theorem ix0 : ∀ t : Fin cfg0.N, win0_0.index t = ![t.val % 5, t.val / 5] := (by decide +kernel : ∀ t : Fin grid0.N, win0_0.index t = ![t.val % 5, t.val / 5])
theorem ix1 : ∀ t : Fin cfg0.N, win0_1.index t = ![t.val % 5, 0] := (by decide +kernel : ∀ t : Fin grid0.N, win0_1.index t = ![t.val % 5, 0])
theorem ix2 : ∀ t : Fin cfg0.N, win0_2.index t = ![t.val / 5, 0] := (by decide +kernel : ∀ t : Fin grid0.N, win0_2.index t = ![t.val / 5, 0])

variable (m : (ℓ : Loc nD τ sig) → Buf (Elt Ideal) ℓ) (d : Dev nD)

/-- The two arrays the kernel is launched on. -/
abbrev X0 : S8320x1024.Idx → EReal := (m ((d : Thread nD τ).loc main_arg0) : Vec Ideal S8320x1024 .bf16)
abbrev X1 : S8320x1024.Idx → EReal := (m ((d : Thread nD τ).loc main_arg1) : Vec Ideal S8320x1024 .bf16)

theorem blk0 (t : Fin cfg0.N) (k : Fin 1664) (i : Fin 1024) (hk : 1664 * (t.val % 5) + k.val < 8320) (hi : 1024 * (t.val / 5) + i.val < 1024) :
    (iblk m d 0 t : Vec Ideal S1664x1024 .bf16) (ValueIdx.ix2 k i) = X0 m d (ValueIdx.ix2 ⟨1664 * (t.val % 5) + k.val, hk⟩ ⟨1024 * (t.val / 5) + i.val, hi⟩) := by
  refine congrArg (X0 m d) (?_ : (((cfg0.win 0).blk t).view.emb (ValueIdx.ix2 k i) : S8320x1024.Idx) = _)
  have e0 : win0_0.index t 0 = t.val % 5 := congrFun (ix0 t) 0
  have e1 : win0_0.index t 1 = t.val / 5 := congrFun (ix0 t) 1
  refine ext2i (?_ : win0_0.index t 0 * 1664 + 1 * k.val = 1664 * (t.val % 5) + k.val) (?_ : win0_0.index t 1 * 1024 + 1 * i.val = 1024 * (t.val / 5) + i.val)
  · rw [e0]; omega
  · rw [e1]; omega

theorem blk1 (t : Fin cfg0.N) (k : Fin 1664) (j : Fin 1024) (hk : 1664 * (t.val % 5) + k.val < 8320) :
    (iblk m d 1 t : Vec Ideal S1664x1024 .bf16) (ValueIdx.ix2 k j) = X1 m d (ValueIdx.ix2 ⟨1664 * (t.val % 5) + k.val, hk⟩ j) := by
  refine congrArg (X1 m d) (?_ : (((cfg0.win 1).blk t).view.emb (ValueIdx.ix2 k j) : S8320x1024.Idx) = _)
  have e0 : win0_1.index t 0 = t.val % 5 := congrFun (ix1 t) 0
  have e1 : win0_1.index t 1 = 0 := congrFun (ix1 t) 1
  refine ext2i (?_ : win0_1.index t 0 * 1664 + 1 * k.val = 1664 * (t.val % 5) + k.val) (?_ : win0_1.index t 1 * 1024 + 1 * j.val = j.val)
  · rw [e0]; omega
  · rw [e1]; omega

/-- One row tile more. -/
theorem tile (t : Fin cfg0.N) (v : Vec Ideal S1024x1024 .f32) (i : Fin 1024) (j : Fin 1024) :
    k0_pay2 (F := Ideal) v (iblk m d 0 t) (iblk m d 1 t) (ValueIdx.ix2 i j) = v (ValueIdx.ix2 i j) + ∑ k : Fin 1664, term (X0 m d) (X1 m d) (1024 * (t.val / 5) + i) j (1664 * (t.val % 5) + k) := by
  have hN : t.val < 5 := (N_0 : cfg0.N = 5) ▸ t.isLt
  rw [pay2_apply]
  refine congrArg _ (Finset.sum_congr rfl fun k _ => ?_)
  rw [term_of _ _ (show 1664 * (t.val % 5) + k.val < 8320 by omega) (show 1024 * (t.val / 5) + i.val < 1024 by omega) j.isLt]
  exact congrArg₂ (· * ·) (blk0 m d t k i (by omega) (by omega)) (blk1 m d t k j (by omega))

theorem acc : ∀ (n : ℕ) (hn : n < cfg0.N) (i : Fin 1024) (j : Fin 1024),
    (outsAt0 (F := Ideal) m d n hn).2 (ValueIdx.ix2 i j) = upto (X0 m d) (X1 m d) (1024 * (n / 5) + i) j (1664 * (n % 5 + 1)) := by
  refine gather (a := 1024) (b := 1024) (X0 m d) (X1 m d) 1024 cfg0.N (fun n hn => (outsAt0 (F := Ideal) m d n hn).2) (fun n hn v => k0_pay2 v (iblk m d 0 ⟨n, hn⟩) (iblk m d 1 ⟨n, hn⟩)) (k0_pay1 (F := Ideal))
    (fun y => zero_apply _ y) (fun n hn h => ?_) (fun n hn h => ?_) (fun n hn v i j => ?_)
  rotate_right
  · exact tile m d ⟨n, hn⟩ v i j
  · refine (congrArg Prod.snd (outsAt0_A m d ⟨n, hn⟩ h (by show ¬n % 5 = 4; omega))).trans ?_
    dsimp only
    rw [sout_A]
    try rfl
  · by_cases h1 : (n + 1) % 5 = 4
    · refine (congrArg Prod.snd (outsAt0_C m d ⟨n + 1, hn⟩ h h1)).trans ?_
      dsimp only
      rw [sout_C]
      try rfl
    · refine (congrArg Prod.snd (outsAt0_B m d ⟨n + 1, hn⟩ h h1)).trans ?_
      dsimp only
      rw [sout_B]
      try rfl

theorem at0 (t : Fin cfg0.N) (i : ℕ) : win0_2.index t 0 * 1024 + i = 1024 * (t.val / 5) + i := by
  rw [congrFun (ix2 t) 0]; show t.val / 5 * _ + i = _; omega
theorem at1 (t : Fin cfg0.N) (j : ℕ) : win0_2.index t 1 * 1024 + j = j := by
  rw [congrFun (ix2 t) 1]; exact Nat.zero_add _

/-- The array the launch leaves. -/
theorem result : ((dats m 0 d).arrAt 2 cfg0.N : Vec Ideal S1024x1024 .bf16) = fun y => upto (X0 m d) (X1 m d) (y 0).val (y 1).val 8320 := by
  refine (dats m 0 d).arrAt_eq_of_covers 2 _ (by decide +kernel) fun t hf y => ?_
  have hN : t.val < 5 := (N_0 : cfg0.N = 5) ▸ t.isLt
  have hm : t.val % 5 = 4 := (flush0_2 t).mp hf
  blk_simp
  rw [after0_2]
  obtain ⟨i, j, rfl⟩ : ∃ (i : Fin 1024) (j : Fin 1024), y = ValueIdx.ix2 i j := ⟨y 0, y 1, ValueIdx.eq_ix2 y⟩
  have hz : ¬ t.val % 5 = 0 := by omega
  have h := acc m d t.val t.isLt i j
  rw [outsAt0_C m d t hz hm] at h ⊢
  dsimp only at h ⊢
  rw [sout_C] at h
  rw [out_C]
  refine h.trans ?_
  show _ = upto (X0 m d) (X1 m d) (win0_2.index t 0 * 1024 + i.val) (win0_2.index t 1 * 1024 + j.val) 8320
  rw [at0, at1, hm]
end

section
open Cert.Reference6Ideal.Read
variable [hR : Cert.Reference6Ideal.Facts]

theorem reference (x0 : S8320x1024.Idx → EReal) (x1 : S8320x1024.Idx → EReal) (i : Fin 1024) (j : Fin 1024) :
    val_main_v6 (F := Ideal) x0 x1 (ValueIdx.ix2 i j) = upto x0 x1 i j 8320 := by
  rw [upto_all]
  refine (val_main_v6_apply ..).trans ((val_main_v5_apply ..).trans ((val_main_v4_apply ..).trans (Finset.sum_congr rfl fun k _ => ?_)))
  exact (mul_comm _ _).trans (congrArg₂ (· * ·) (congrArg x0 (ValueIdx.eq_ix2 _)) (congrArg x1 (ValueIdx.eq_ix2 _)))

theorem ref_frame : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)
end

theorem algebraic [hF : Cert.Kernel6Ideal.Facts] [hR : Cert.Reference6Ideal.Facts] : Cert.algebraic_Kernel6Ideal_Reference6Ideal := by
  intro m ρ m' ρ' _ hagree
  refine ⟨_, Cert.Kernel6Ideal.Value.run_blocks (F := Ideal) m ρ, ?_⟩
  refine (θ_run Cert.Reference6Ideal.defs _ _).mono (fun _ h c => ?_) (Cert.Reference6Ideal.Value.run (F := Ideal) m' ρ')
  obtain ⟨b0, b1⟩ := hagree c
  refine ⟨(h c).1.trans ?_, (h c).2⟩
  refine (Cert.Reference6Ideal.Read.val_main_v6_eq _ _).trans ?_
  rw [b0, b1]
  funext y
  obtain ⟨i, j, rfl⟩ : ∃ (i : Fin 1024) (j : Fin 1024), y = ValueIdx.ix2 i j := ⟨y 0, y 1, ValueIdx.eq_ix2 y⟩
  exact (reference _ _ i j).trans (congrFun (result m c) (ValueIdx.ix2 i j)).symm

end Cert.Weights6

end
-- ==== Proof.Weights7.lean ====
/- The weight gradient `wgrad_alr`: the launch's result is the reference's. -/
module

public import proofs.«01_k».proof.Defs
public import proofs.«01_k».proof.Proof.Tiles
public import proofs.«01_k».proof.Proof.Gen.Kernel7Ideal.Value
public import proofs.«01_k».proof.Proof.Gen.Reference7Ideal.Run
public import proofs.«01_k».proof.Proof.Gen.Reference7Ideal.Read
public import Idealize.ShloMosaic.Lib.Pipeline.ValueKit.Geometry

@[expose] public section

set_option maxRecDepth 20000

noncomputable section

namespace Cert.Weights7

open Idealize.ShloMosaic Idealize.ShloMosaic.TcCoe Idealize.SL.Sem Cert.Tiles Cert.Gla Cert.Kernel7Ideal Cert.Kernel7Ideal.Gen Cert.Kernel7Ideal.Value
open scoped BigOperators

section
variable [hF : Cert.Kernel7Ideal.Facts]

theorem pay2_apply (v : Vec Ideal S128x1024 .f32) (x : Vec Ideal S1664x128 .bf16) (y : Vec Ideal S1664x1024 .bf16) (i : Fin 128) (j : Fin 1024) :
    k0_pay2 (F := Ideal) v x y (ValueIdx.ix2 i j) = v (ValueIdx.ix2 i j) + ∑ k : Fin 1664, x (ValueIdx.ix2 k i) * y (ValueIdx.ix2 k j) := by
  unfold k0_pay2
  rw [shapeCast_self]
  refine congrArg (v (ValueIdx.ix2 i j) + ·) ((mml_apply none _ _ _ _ i j).trans ?_)
  exact (congrArg (· + _) Ideal.ofBits_zero_f32).trans (zero_add _)

section
variable (d : Dev nD) (i : grid0.Coords) (arg2 : Memref sig .tc .vmem S1664x128 .bf16) (harg2 : arg2.IsWhole) (arg3 : Memref sig .tc .vmem S1664x1024 .bf16) (harg3 : arg3.IsWhole)
  (arg4 : Memref sig .tc .vmem S128x1024 .bf16) (harg4 : arg4.IsWhole) (arg5 : Memref sig .tc .vmem S128x1024 .f32) (harg5 : arg5.IsWhole)
  (x0 : Vec Ideal S1664x128 .bf16) (x1 : Vec Ideal S1664x1024 .bf16) (xs0 : Vec Ideal S128x1024 .f32)

theorem sout_A (hc0 : cond0_0 i) (hc1 : ¬cond0_1 i) :
    sout0_A_0 (F := Ideal) d i arg2 harg2 arg3 harg3 arg4 harg4 arg5 harg5 hc0 hc1 x0 x1 = k0_pay2 (k0_pay1 (F := Ideal)) x0 x1 := by
  unfold sout0_A_0
  rw [View.read_writes_eq_canon _ _ _ (scover0_A_0 d i arg2 harg2 arg3 harg3 arg4 harg4 arg5 harg5 hc0 hc1 x0 x1)]
  unfold kernelRun0_A
  dsimp only
  refine (canon_last _ _ _).trans ?_
  sl_unfold_words
  simp (config := {decide := true}) only [View.readAt_eq_ld, harg2.read_unread, harg3.read_unread, harg5.read_unread, ld_whole]
  exact congrArg (k0_pay2 · x0 x1) (readCov_whole _ _ _ _)

theorem sout_B (hc0 : ¬cond0_0 i) (hc1 : ¬cond0_1 i) :
    sout0_B_0 (F := Ideal) d i arg2 harg2 arg3 harg3 arg4 harg4 arg5 harg5 hc0 hc1 x0 x1 xs0 = k0_pay2 xs0 x0 x1 := by
  unfold sout0_B_0
  rw [View.read_writes_eq_canon _ _ _ (scover0_B_0 d i arg2 harg2 arg3 harg3 arg4 harg4 arg5 harg5 hc0 hc1 x0 x1 xs0)]
  unfold kernelRun0_B
  dsimp only
  refine (canon_last _ _ _).trans ?_
  sl_unfold_words
  simp (config := {decide := true}) only [View.readAt_eq_ld, harg2.read_unread, harg3.read_unread, harg5.read_unread, ld_whole]

theorem sout_C (hc0 : ¬cond0_0 i) (hc1 : cond0_1 i) :
    sout0_C_0 (F := Ideal) d i arg2 harg2 arg3 harg3 arg4 harg4 arg5 harg5 hc0 hc1 x0 x1 xs0 = k0_pay2 xs0 x0 x1 := by
  unfold sout0_C_0
  rw [View.read_writes_eq_canon _ _ _ (scover0_C_0 d i arg2 harg2 arg3 harg3 arg4 harg4 arg5 harg5 hc0 hc1 x0 x1 xs0)]
  unfold kernelRun0_C
  dsimp only
  refine (canon_last _ _ _).trans ?_
  sl_unfold_words
  simp (config := {decide := true}) only [View.readAt_eq_ld, harg2.read_unread, harg3.read_unread, harg5.read_unread, ld_whole]

theorem out_C (hc0 : ¬cond0_0 i) (hc1 : cond0_1 i) :
    out0_C_2 (F := Ideal) d i arg2 harg2 arg3 harg3 arg4 harg4 arg5 harg5 hc0 hc1 x0 x1 xs0 = k0_pay3 (k0_pay2 xs0 x0 x1) := by
  unfold out0_C_2
  rw [View.read_writes_eq_canon _ _ _ (cover0_C_2 d i arg2 harg2 arg3 harg3 arg4 harg4 arg5 harg5 hc0 hc1 x0 x1 xs0)]
  unfold kernelRun0_C
  dsimp only
  refine (canon_last _ _ _).trans ?_
  sl_unfold_words
  simp (config := {decide := true}) only [View.readAt_eq_ld, harg2.read_unread, harg3.read_unread, harg5.read_unread, ld_whole]
  exact congrArg k0_pay3 (readCov_whole _ _ _ _)

end

theorem ix0 : ∀ t : Fin cfg0.N, win0_0.index t = ![t.val % 5, t.val / 5] := (by decide +kernel : ∀ t : Fin grid0.N, win0_0.index t = ![t.val % 5, t.val / 5])
theorem ix1 : ∀ t : Fin cfg0.N, win0_1.index t = ![t.val % 5, 0] := (by decide +kernel : ∀ t : Fin grid0.N, win0_1.index t = ![t.val % 5, 0])
theorem ix2 : ∀ t : Fin cfg0.N, win0_2.index t = ![t.val / 5, 0] := (by decide +kernel : ∀ t : Fin grid0.N, win0_2.index t = ![t.val / 5, 0])

variable (m : (ℓ : Loc nD τ sig) → Buf (Elt Ideal) ℓ) (d : Dev nD)

/-- The two arrays the kernel is launched on. -/
abbrev X0 : S8320x128.Idx → EReal := (m ((d : Thread nD τ).loc main_arg0) : Vec Ideal S8320x128 .bf16)
abbrev X1 : S8320x1024.Idx → EReal := (m ((d : Thread nD τ).loc main_arg1) : Vec Ideal S8320x1024 .bf16)

theorem blk0 (t : Fin cfg0.N) (k : Fin 1664) (i : Fin 128) (hk : 1664 * (t.val % 5) + k.val < 8320) (hi : 128 * (t.val / 5) + i.val < 128) :
    (iblk m d 0 t : Vec Ideal S1664x128 .bf16) (ValueIdx.ix2 k i) = X0 m d (ValueIdx.ix2 ⟨1664 * (t.val % 5) + k.val, hk⟩ ⟨128 * (t.val / 5) + i.val, hi⟩) := by
  refine congrArg (X0 m d) (?_ : (((cfg0.win 0).blk t).view.emb (ValueIdx.ix2 k i) : S8320x128.Idx) = _)
  have e0 : win0_0.index t 0 = t.val % 5 := congrFun (ix0 t) 0
  have e1 : win0_0.index t 1 = t.val / 5 := congrFun (ix0 t) 1
  refine ext2i (?_ : win0_0.index t 0 * 1664 + 1 * k.val = 1664 * (t.val % 5) + k.val) (?_ : win0_0.index t 1 * 128 + 1 * i.val = 128 * (t.val / 5) + i.val)
  · rw [e0]; omega
  · rw [e1]; omega

theorem blk1 (t : Fin cfg0.N) (k : Fin 1664) (j : Fin 1024) (hk : 1664 * (t.val % 5) + k.val < 8320) :
    (iblk m d 1 t : Vec Ideal S1664x1024 .bf16) (ValueIdx.ix2 k j) = X1 m d (ValueIdx.ix2 ⟨1664 * (t.val % 5) + k.val, hk⟩ j) := by
  refine congrArg (X1 m d) (?_ : (((cfg0.win 1).blk t).view.emb (ValueIdx.ix2 k j) : S8320x1024.Idx) = _)
  have e0 : win0_1.index t 0 = t.val % 5 := congrFun (ix1 t) 0
  have e1 : win0_1.index t 1 = 0 := congrFun (ix1 t) 1
  refine ext2i (?_ : win0_1.index t 0 * 1664 + 1 * k.val = 1664 * (t.val % 5) + k.val) (?_ : win0_1.index t 1 * 1024 + 1 * j.val = j.val)
  · rw [e0]; omega
  · rw [e1]; omega

/-- One row tile more. -/
theorem tile (t : Fin cfg0.N) (v : Vec Ideal S128x1024 .f32) (i : Fin 128) (j : Fin 1024) :
    k0_pay2 (F := Ideal) v (iblk m d 0 t) (iblk m d 1 t) (ValueIdx.ix2 i j) = v (ValueIdx.ix2 i j) + ∑ k : Fin 1664, term (X0 m d) (X1 m d) (128 * (t.val / 5) + i) j (1664 * (t.val % 5) + k) := by
  have hN : t.val < 5 := (N_0 : cfg0.N = 5) ▸ t.isLt
  rw [pay2_apply]
  refine congrArg _ (Finset.sum_congr rfl fun k _ => ?_)
  rw [term_of _ _ (show 1664 * (t.val % 5) + k.val < 8320 by omega) (show 128 * (t.val / 5) + i.val < 128 by omega) j.isLt]
  exact congrArg₂ (· * ·) (blk0 m d t k i (by omega) (by omega)) (blk1 m d t k j (by omega))

theorem acc : ∀ (n : ℕ) (hn : n < cfg0.N) (i : Fin 128) (j : Fin 1024),
    (outsAt0 (F := Ideal) m d n hn).2 (ValueIdx.ix2 i j) = upto (X0 m d) (X1 m d) (128 * (n / 5) + i) j (1664 * (n % 5 + 1)) := by
  refine gather (a := 128) (b := 1024) (X0 m d) (X1 m d) 128 cfg0.N (fun n hn => (outsAt0 (F := Ideal) m d n hn).2) (fun n hn v => k0_pay2 v (iblk m d 0 ⟨n, hn⟩) (iblk m d 1 ⟨n, hn⟩)) (k0_pay1 (F := Ideal))
    (fun y => zero_apply _ y) (fun n hn h => ?_) (fun n hn h => ?_) (fun n hn v i j => ?_)
  rotate_right
  · exact tile m d ⟨n, hn⟩ v i j
  · refine (congrArg Prod.snd (outsAt0_A m d ⟨n, hn⟩ h (by show ¬n % 5 = 4; omega))).trans ?_
    dsimp only
    rw [sout_A]
    try rfl
  · by_cases h1 : (n + 1) % 5 = 4
    · refine (congrArg Prod.snd (outsAt0_C m d ⟨n + 1, hn⟩ h h1)).trans ?_
      dsimp only
      rw [sout_C]
      try rfl
    · refine (congrArg Prod.snd (outsAt0_B m d ⟨n + 1, hn⟩ h h1)).trans ?_
      dsimp only
      rw [sout_B]
      try rfl

theorem at0 (t : Fin cfg0.N) (i : ℕ) : win0_2.index t 0 * 128 + i = 128 * (t.val / 5) + i := by
  rw [congrFun (ix2 t) 0]; show t.val / 5 * _ + i = _; omega
theorem at1 (t : Fin cfg0.N) (j : ℕ) : win0_2.index t 1 * 1024 + j = j := by
  rw [congrFun (ix2 t) 1]; exact Nat.zero_add _

/-- The array the launch leaves. -/
theorem result : ((dats m 0 d).arrAt 2 cfg0.N : Vec Ideal S128x1024 .bf16) = fun y => upto (X0 m d) (X1 m d) (y 0).val (y 1).val 8320 := by
  refine (dats m 0 d).arrAt_eq_of_covers 2 _ (by decide +kernel) fun t hf y => ?_
  have hN : t.val < 5 := (N_0 : cfg0.N = 5) ▸ t.isLt
  have hm : t.val % 5 = 4 := (flush0_2 t).mp hf
  blk_simp
  rw [after0_2]
  obtain ⟨i, j, rfl⟩ : ∃ (i : Fin 128) (j : Fin 1024), y = ValueIdx.ix2 i j := ⟨y 0, y 1, ValueIdx.eq_ix2 y⟩
  have hz : ¬ t.val % 5 = 0 := by omega
  have h := acc m d t.val t.isLt i j
  rw [outsAt0_C m d t hz hm] at h ⊢
  dsimp only at h ⊢
  rw [sout_C] at h
  rw [out_C]
  refine h.trans ?_
  show _ = upto (X0 m d) (X1 m d) (win0_2.index t 0 * 128 + i.val) (win0_2.index t 1 * 1024 + j.val) 8320
  rw [at0, at1, hm]
end

section
open Cert.Reference7Ideal.Read
variable [hR : Cert.Reference7Ideal.Facts]

theorem reference (x0 : S8320x128.Idx → EReal) (x1 : S8320x1024.Idx → EReal) (i : Fin 128) (j : Fin 1024) :
    val_main_v8 (F := Ideal) x0 x1 (ValueIdx.ix2 i j) = upto x0 x1 i j 8320 := by
  rw [upto_all]
  refine (val_main_v8_apply ..).trans ?_
  refine ((val_main_v7_apply ..).trans ((val_main_v6_apply ..).trans (val_main_v5_apply ..))).trans (Finset.sum_congr rfl fun k _ => ?_)
  exact congrArg₂ (· * ·) (congrArg x0 (ValueIdx.eq_ix2 _)) (congrArg x1 (ValueIdx.eq_ix2 _))

theorem ref_frame : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)
end

theorem algebraic [hF : Cert.Kernel7Ideal.Facts] [hR : Cert.Reference7Ideal.Facts] : Cert.algebraic_Kernel7Ideal_Reference7Ideal := by
  intro m ρ m' ρ' _ hagree
  refine ⟨_, Cert.Kernel7Ideal.Value.run_blocks (F := Ideal) m ρ, ?_⟩
  refine (θ_run Cert.Reference7Ideal.defs _ _).mono (fun _ h c => ?_) (Cert.Reference7Ideal.Value.run (F := Ideal) m' ρ')
  obtain ⟨b0, b1⟩ := hagree c
  refine ⟨(h c).1.trans ?_, (h c).2⟩
  refine (Cert.Reference7Ideal.Read.val_main_v8_eq _ _).trans ?_
  rw [b0, b1]
  funext y
  obtain ⟨i, j, rfl⟩ : ∃ (i : Fin 128) (j : Fin 1024), y = ValueIdx.ix2 i j := ⟨y 0, y 1, ValueIdx.eq_ix2 y⟩
  exact (reference _ _ i j).trans (congrFun (result m c) (ValueIdx.ix2 i j)).symm

end Cert.Weights7

end
-- ==== Proof.Rows.lean ====
/- Thirty-two rows at a time: the pieces a row loop writes, and the running total beside them. -/
module

public import proofs.«01_k».proof.Proof.Tiles
public import Idealize.ShloMosaic.Lib.Pipeline.Value

@[expose] public section

noncomputable section

namespace Cert.Rows

open Idealize.ShloMosaic

abbrev S640x1024 : Shape := ⟨2, ![640, 1024]⟩
abbrev S32x1024 : Shape := ⟨2, ![32, 1024]⟩
abbrev S8x1024 : Shape := ⟨2, ![8, 1024]⟩

variable {F : FTy → Type} [FloatOps F]

theorem zz : (![0, 0] : Fin 2 → ℕ) = fun _ => 0 := funext fun c => match c with | ⟨0, _⟩ => rfl | ⟨1, _⟩ => rfl

/-- The `k`-th 32 rows of a block of 640. -/
def rows (k : ℕ) (X : Vec F S640x1024 .f32) : Vec F S32x1024 .f32 :=
  fun x => X (ValueIdx.ix2 ⟨(32 * k + (x 0).val) % 640, Nat.mod_lt _ (by decide)⟩ (x 1))

theorem emb_at {off : Fin 2 → ℕ} (inb : ∀ a, off a + S32x1024.size a ≤ S640x1024.size a) {k : ℕ} (e : off = ![32 * k, 0]) (x : S32x1024.Idx) (hk : 32 * k + (x 0).val < 640) :
    ((Rect.unit (s := S640x1024) off S32x1024.size inb).emb x : S640x1024.Idx) = ValueIdx.ix2 ⟨32 * k + (x 0).val, hk⟩ (x 1) := by
  subst e
  funext a
  apply Fin.ext
  match a with
  | ⟨0, _⟩ => show 32 * k + 1 * (x 0).val = 32 * k + (x 0).val; omega
  | ⟨1, _⟩ => show 0 + 1 * (x 1).val = (x 1).val; omega

theorem ld_rows {off : Fin 2 → ℕ} (X : Vec F S640x1024 .f32) (inb : ∀ a, off a + S32x1024.size a ≤ S640x1024.size a) {k : ℕ} (e : off = ![32 * k, 0]) (hk : k < 20) :
    View.ld (Val := Elt F) (S := S640x1024) (e' := .f32) X (Rect.unit (s := S640x1024) off S32x1024.size inb) = rows k X := by
  funext x
  have h0 : (x 0).val < 32 := (x 0).isLt
  refine congrArg X ((emb_at inb e x (by omega)).trans ?_)
  exact congrArg (fun q => ValueIdx.ix2 q (x 1)) (Fin.ext (Nat.mod_eq_of_lt (by omega)).symm)

theorem at_group (P : ℕ → Vec F S32x1024 .f32) {off : Fin 2 → ℕ} (k : ℕ) (x : S32x1024.Idx) (inb : ∀ a, off a + S32x1024.size a ≤ S640x1024.size a) (e : off = ![32 * k, 0]) :
    P k x = (fun y : S640x1024.Idx => P ((y 0).val / 32) (ValueIdx.ix2 ⟨(y 0).val % 32, Nat.mod_lt _ (by decide)⟩ (y 1))) ((Rect.unit (s := S640x1024) off S32x1024.size inb).emb x) := by
  have h0 : (x 0).val < 32 := (x 0).isLt
  have hk : 32 * k + (x 0).val < 640 := by
    have := inb 0
    subst e
    have : 32 * k + 32 ≤ 640 := this
    omega
  rw [emb_at inb e x hk]
  have e1 : (32 * k + (x 0).val) / 32 = k := by omega
  have e2 : (32 * k + (x 0).val) % 32 = (x 0).val := by omega
  show P k x = P ((32 * k + (x 0).val) / 32) (ValueIdx.ix2 ⟨(32 * k + (x 0).val) % 32, _⟩ (x 1))
  rw [e1]
  refine congrArg (P k) ((ValueIdx.eq_ix2 x).trans ?_)
  exact congrArg (fun q => ValueIdx.ix2 q (x 1)) (Fin.ext e2.symm)

/-- After `k` groups: the pieces agree with `G` and fill the first `32 k` rows; the running total is `A k`. -/
def Groups {sig : RefSig} {κ sp} (v : View sig κ sp S8x1024 .f32) (G : Vec F S640x1024 .f32) (A : ℕ → Vec F S8x1024 .f32) (G7 : BufTy.Contents (Elt F) v.ty) (k : ℕ)
    (L : List (View.Piece (Elt F) S640x1024 .f32) × List (View.Piece (Elt F) S8x1024 .f32)) : Prop :=
  (∀ p ∈ L.1, ∀ x : p.1.shape.Idx, p.2 x = G (p.1.emb x)) ∧ (∀ y : S640x1024.Idx, (y 0).val < 32 * k → ∃ p ∈ L.1, y ∈ p.1.set)
    ∧ v.read (Elt F) (v.writes (Elt F) G7 L.2) = A k

theorem unit_mem {S : Shape} {off : Fin S.rank → ℕ} (hz : off = fun _ => 0) (inb : ∀ a, off a + S.size a ≤ S.size a) (y : S.Idx) : y ∈ (Rect.unit (s := S) off S.size inb).set := by
  subst hz
  exact Rect.mem_set_unit.mpr fun a => ⟨Nat.zero_le _, by rw [Nat.zero_add]; exact (y a).isLt⟩

theorem whole_last {S : Shape} {e : EltTy} {sig : RefSig} {κ sp} {v : View sig κ sp S e} {off : Fin S.rank → ℕ} (hz : off = fun _ => 0) (inb : ∀ a, off a + S.size a ≤ S.size a) (f : v.ty.Contents (Elt F))
    (w : S.Idx → Elt F e) {L : List (View.Piece (Elt F) S e)} : v.read (Elt F) (v.writes (Elt F) f (⟨Rect.unit (s := S) off S.size inb, w⟩ :: L)) = w := by
  rw [View.read_writes_eq_canon _ _ _ fun y => ⟨_, List.mem_cons_self .., unit_mem hz inb y⟩]
  exact View.canon_cons_unit_zero hz inb w L

theorem rd_whole {S : Shape} {e : EltTy} {sig : RefSig} {κ sp} {m : Memref sig κ sp S e} {off : Fin S.rank → ℕ} (hz : off = fun _ => 0) (inb : ∀ a, off a + S.size a ≤ S.size a) (h : m.IsWhole)
    {x : S.Idx → Elt F e} : m.view.readAt (Elt F) (Rect.unit (s := S) off S.size inb) (h.unread x) = x :=
  (congrArg (View.ld · _) (h.read_unread x)).trans (View.ld_unit_zero hz inb x)

theorem Groups.succ {sig : RefSig} {κ sp} {v : View sig κ sp S8x1024 .f32} {G : Vec F S640x1024 .f32} {A : ℕ → Vec F S8x1024 .f32} {G7 : BufTy.Contents (Elt F) v.ty} {k : ℕ}
    {L L' : List (View.Piece (Elt F) S640x1024 .f32) × List (View.Piece (Elt F) S8x1024 .f32)} (h : Groups v G A G7 k L) {off : Fin 2 → ℕ} {inb : ∀ a, off a + S32x1024.size a ≤ S640x1024.size a} {inb'} {P : Vec F S32x1024 .f32} {Q : Vec F S8x1024 .f32}
    (e : L' = ([(⟨Rect.unit (s := S640x1024) off S32x1024.size inb, P⟩ : View.Piece (Elt F) S640x1024 .f32)] ++ L.1, [(⟨Rect.unit (s := S8x1024) ![0, 0] S8x1024.size inb', Q⟩ : View.Piece (Elt F) S8x1024 .f32)] ++ L.2)) (ho : off = ![32 * k, 0])
    (hP : ∀ x : S32x1024.Idx, P x = G ((Rect.unit (s := S640x1024) off S32x1024.size inb).emb x)) (hQ : Q = A (k + 1)) : Groups v G A G7 (k + 1) L' := by
  subst e
  refine ⟨fun p hp => ?_, fun y hy => ?_, ?_⟩
  · rcases List.mem_cons.mp hp with rfl | hp
    · exact hP
    · exact h.1 p hp
  · by_cases hl : (y 0).val < 32 * k
    · obtain ⟨p, hp, hy⟩ := h.2.1 y hl
      exact ⟨p, List.mem_cons_of_mem _ hp, hy⟩
    · refine ⟨_, List.mem_cons_self .., ?_⟩
      subst ho
      show y ∈ (Rect.unit (s := S640x1024) ![32 * k, 0] S32x1024.size inb).set
      refine (Rect.mem_set_unit (inb := inb)).mpr fun a => ?_
      match a with
      | ⟨0, _⟩ => exact ⟨by show 32 * k ≤ (y 0).val; omega, by show (y 0).val < 32 * k + 32; omega⟩
      | ⟨1, _⟩ => exact ⟨Nat.zero_le _, by show (y 1).val < 0 + 1024; rw [Nat.zero_add]; exact (y 1).isLt⟩
  · exact (whole_last zz _ _ _).trans hQ

end Cert.Rows

end
-- ==== Proof.Norm.lean ====
/- The scaling of a row by its root mean square, the gradient through it row by row, and the running sum of the gain's gradient. -/
module

public import proofs.«01_k».proof.Proof.Rows
public import proofs.«01_k».proof.Proof.Coe
public import proofs.«01_k».proof.Proof.Gen.Kernel8Ideal.Skeleton
public import Idealize.ShloMosaic.Lib.ValueLayoutCasts

@[expose] public section

set_option maxRecDepth 16384

noncomputable section

namespace Cert.Norm

open Cert.Kernel8Ideal Cert.Kernel8Ideal.Gen
open Cert.Rows hiding S640x1024 S32x1024 S8x1024
open Idealize.ShloMosaic
open scoped BigOperators

/-- The width of a row and the small number added to the mean square, as the programs write them. -/
abbrev wid : EReal := Ideal.ofBits .f32 0x44800000#32
abbrev small : EReal := Ideal.ofBits .f32 0x358637BD#32

theorem wid_eq : wid = ((1024 : ℝ) : EReal) := by
  simp [wid, Ideal.ofBits, Ideal.ieee, -EReal.coe_mul]; norm_num
theorem small_eq : ∃ e : ℝ, 0 < e ∧ small = (e : EReal) := by
  refine ⟨EReal.toReal small, ?_, (EReal.coe_toReal ?_ ?_).symm⟩
  · simp [small, Ideal.ofBits, Ideal.ieee, -EReal.coe_mul]
  · simp [small, Ideal.ofBits, Ideal.ieee, -EReal.coe_mul]
  · simp [small, Ideal.ofBits, Ideal.ieee, -EReal.coe_mul]
theorem neg_half : Ideal.ofBits .f32 0xBF000000#32 = (((-1 : ℝ) / 2 : ℝ) : EReal) := by
  simp [Ideal.ofBits, Ideal.ieee, -EReal.coe_mul]; norm_num

/-- The mean square of a row, with the small number added. -/
def ms (x : Fin 1024 → EReal) : EReal := Ideal.div (∑ k, x k * x k) wid + small
/-- The factor the row is scaled by. -/
def rs (x : Fin 1024 → EReal) : EReal := Ideal.rsqrt (ms x)

/-- The gradient as the kernel writes it: row `x`, gradient `u` of the scaled row, gain `w`, the residual's gradient `z`. -/
def dhK (x u w : Fin 1024 → EReal) (z : EReal) (j : Fin 1024) : EReal :=
  z + rs x * (u j * w j - (x j * rs x) * Ideal.div (∑ k, (u k * w k) * (x k * rs x)) wid)

/-- The factor of the row in the gradient through the mean square. -/
def cf (x u w : Fin 1024 → EReal) : EReal :=
  Ideal.div ((∑ k, x k * (u k * w k)) * (Ideal.ofBits .f32 0xBF000000#32 * Ideal.div (rs x) (ms x))) wid

/-- The gradient as differentiation writes it. -/
def dhR (x u w : Fin 1024 → EReal) (z : EReal) (j : Fin 1024) : EReal :=
  z + (u j * w j) * rs x + x j * cf x u w + cf x u w * x j

theorem dh_eq (x u w : Fin 1024 → ℝ) (z : EReal) (j : Fin 1024) :
    dhK (fun k => (x k : EReal)) (fun k => (u k : EReal)) (fun k => (w k : EReal)) z j
      = dhR (fun k => (x k : EReal)) (fun k => (u k : EReal)) (fun k => (w k : EReal)) z j := by
  obtain ⟨e, he, hs⟩ := small_eq
  set M : ℝ := (∑ k, x k * x k) * (1 / 1024) + e with hM
  have hp : 0 < M := by
    have : 0 ≤ ∑ k, x k * x k := Finset.sum_nonneg fun k _ => mul_self_nonneg _
    positivity
  have hms : ms (fun k => (x k : EReal)) = (M : EReal) := by
    unfold ms
    rw [hs, wid_eq, Ideal.div_coe (by norm_num)]
    simp only [← EReal.coe_mul, ← Cert.Gla.coe_sum, ← EReal.coe_add]
    rfl
  set r : ℝ := (Real.sqrt M)⁻¹ with hr
  have hrs : rs (fun k => (x k : EReal)) = (r : EReal) := by
    unfold rs
    rw [hms, Ideal.rsqrt_coe, if_neg (not_lt.2 hp.le), if_neg hp.ne']
  have hrr : r * r = 1 / M := by
    rw [hr, ← mul_inv, Real.mul_self_sqrt hp.le, one_div]
  unfold dhK dhR cf
  rw [hrs, hms, neg_half, wid_eq, Ideal.div_coe hp.ne', Ideal.div_coe (by norm_num), Ideal.div_coe (by norm_num)]
  simp only [← EReal.coe_mul, ← Cert.Gla.coe_sum, ← EReal.coe_sub]
  rw [add_assoc, add_assoc]
  simp only [← EReal.coe_add]
  refine congrArg (fun q : ℝ => z + (q : EReal)) ?_
  have h1 : ∑ k, u k * w k * (x k * r) = (∑ k, x k * (u k * w k)) * r := by
    rw [Finset.sum_mul]
    exact Finset.sum_congr rfl fun k _ => by ring
  rw [h1]
  linear_combination (-(x j * (∑ k, x k * (u k * w k)) * r / 1024)) * hrr

/-- The part of row `n` in the gain's gradient. -/
def part (H U : ℕ → Fin 1024 → EReal) (j : Fin 1024) (n : ℕ) : EReal := U n j * (H n j * rs (H n))

/-- The parts of the rows `8 a + p` for `a < n`. -/
def upto (H U : ℕ → Fin 1024 → EReal) (p : ℕ) (j : Fin 1024) (n : ℕ) : EReal := ∑ a ∈ Finset.range n, part H U j (8 * a + p)

theorem upto_step (H U : ℕ → Fin 1024 → EReal) (p : ℕ) (j : Fin 1024) (n q : ℕ) :
    upto H U p j (n + q) = upto H U p j n + ∑ a : Fin q, part H U j (8 * (n + a) + p) := by
  unfold upto
  rw [Finset.sum_range_add, Finset.sum_range fun k => part H U j (8 * (n + k) + p)]

theorem upto_all (H U : ℕ → Fin 1024 → EReal) (p : ℕ) (j : Fin 1024) (n : ℕ) : upto H U p j n = ∑ a : Fin n, part H U j (8 * a.val + p) :=
  Finset.sum_range _

/-- The rows of an array. -/
def row {a : ℕ} (X : (⟨2, ![a, 1024]⟩ : Shape).Idx → EReal) (p : Fin a) : Fin 1024 → EReal := fun k => X (ValueIdx.ix2 p k)

theorem sum_row (X : FVec Ideal S32x1024 .f32) (p : Fin 32) (i : S32.Idx) (hi : (i 0).val = p.val) :
    multiReduction .add [1] S32 X 0x00000000#32 reduces_S32x1024_S32 (.inl rfl) rfl i = ∑ k, (X (ValueIdx.ix2 p k) : EReal) := by
  refine (Ideal.multiReduction_add_single _ _ _ _ _ _).trans (Finset.sum_congr rfl fun k _ => congrArg X (funext fun c => Fin.ext ?_))
  match c with
  | ⟨0, _⟩ => exact hi
  | ⟨1, _⟩ => rfl

theorem col (v : FVec Ideal S32 .f32) (p : Fin 32) (u : Fin 1) : shapeCast S32x1 v shapeCasts_S32_S32x1 (ValueIdx.ix2 p u) = v (ValueIdx.ix1 p) :=
  ValueIdx.shapeCast_a_a1_apply _ _ _ _

theorem spread (v : FVec Ideal S32x1 .f32) (p : Fin 32) (j : Fin 1024) : broadcastTo S32x1024 v broadcasts_S32x1_S32x1024 (ValueIdx.ix2 p j) = v (ValueIdx.ix2 p 0) :=
  broadcastTo_apply _ _ _ _ fun c => match c with | ⟨0, _⟩ => rfl | ⟨1, _⟩ => rfl

theorem pay3_apply (X : FVec Ideal S32x1024 .f32) (p : Fin 32) (u : Fin 1) : (k0_pay3 (F := Ideal) X (ValueIdx.ix2 p u) : EReal) = rs (row X p) := by
  show Ideal.rsqrt (Ideal.div (shapeCast S32x1 _ shapeCasts_S32_S32x1 (ValueIdx.ix2 p u)) wid + small) = _
  rw [col, sum_row _ p _ rfl]
  rfl

theorem pay4_apply (X : FVec Ideal S32x1024 .f32) (p : Fin 32) (j : Fin 1024) :
    (k0_pay4 (F := Ideal) X (ValueIdx.ix2 p j) : EReal) = row X p j * rs (row X p) := by
  show X (ValueIdx.ix2 p j) * broadcastTo S32x1024 (k0_pay3 (F := Ideal) X) broadcasts_S32x1_S32x1024 (ValueIdx.ix2 p j) = _
  rw [spread, pay3_apply]
  rfl

theorem pay5_apply (X U : FVec Ideal S32x1024 .f32) (V : FVec Ideal S8x1024 .f32) (p : Fin 8) (j : Fin 1024) :
    (k0_pay5 (F := Ideal) X U V (ValueIdx.ix2 p j) : EReal)
      = V (ValueIdx.ix2 p j) + ∑ q : Fin 4, row U ⟨8 * q + p, by omega⟩ j * (row X ⟨8 * q + p, by omega⟩ j * rs (row X ⟨8 * q + p, by omega⟩)) := by
  unfold k0_pay5
  rw [shapeCast_self]
  refine congrArg (V (ValueIdx.ix2 p j) + ·) ?_
  refine (Ideal.multiReduction_add_single _ _ _ _ _ _).trans (Finset.sum_congr rfl fun q _ => ?_)
  rw [← pay4_apply]
  refine shapeCast_apply _ _ _ (ValueIdx.ix2 ⟨8 * q.val + p.val, by have := q.isLt; have : q.val < 4 := q.isLt; omega⟩ j) ?_
  rw [Shape.rowMajor_val_two, Shape.rowMajor_val_three]
  show (8 * q.val + p.val) * 1024 + j.val = (q.val * 8 + p.val) * 1024 + j.val
  omega

theorem pay6_apply (X U : FVec Ideal S32x1024 .f32) (g : FVec Ideal S1x1024 .f32) (Z : FVec Ideal S32x1024 .f32) (p : Fin 32) (j : Fin 1024) :
    (k0_pay6 (F := Ideal) X U g Z (ValueIdx.ix2 p j) : EReal) = dhK (row X p) (row U p) (row g 0) (Z (ValueIdx.ix2 p j)) j := by
  have hA : ∀ k : Fin 1024, broadcastTo S32x1024 g broadcasts_S1x1024_S32x1024 (ValueIdx.ix2 p k) = row g 0 k := fun k => ValueIdx.broadcastTo_1b_ab_apply _ _ _ _
  show Z (ValueIdx.ix2 p j) + broadcastTo S32x1024 (k0_pay3 (F := Ideal) X) broadcasts_S32x1_S32x1024 (ValueIdx.ix2 p j)
      * (U (ValueIdx.ix2 p j) * broadcastTo S32x1024 g broadcasts_S1x1024_S32x1024 (ValueIdx.ix2 p j)
        - k0_pay4 (F := Ideal) X (ValueIdx.ix2 p j) * broadcastTo S32x1024 (_ : FVec Ideal S32x1 .f32) broadcasts_S32x1_S32x1024 (ValueIdx.ix2 p j)) = _
  rw [spread, spread, pay3_apply, pay4_apply, hA]
  show Z (ValueIdx.ix2 p j) + rs (row X p) * (row U p j * row g 0 j - row X p j * rs (row X p) * Ideal.div (shapeCast S32x1 _ shapeCasts_S32_S32x1 (ValueIdx.ix2 p 0)) wid) = _
  rw [col, sum_row _ p _ rfl]
  unfold dhK
  refine congrArg (fun q => Z (ValueIdx.ix2 p j) + rs (row X p) * (row U p j * row g 0 j - row X p j * rs (row X p) * Ideal.div q wid)) (Finset.sum_congr rfl fun k _ => ?_)
  show U (ValueIdx.ix2 p k) * broadcastTo S32x1024 g broadcasts_S1x1024_S32x1024 (ValueIdx.ix2 p k) * k0_pay4 (F := Ideal) X (ValueIdx.ix2 p k) = _
  rw [hA, pay4_apply]
  rfl

/-- One group of 32 rows added to the running sum. -/
theorem group_upto (H U : ℕ → Fin 1024 → EReal) (n : ℕ) (X Y : FVec Ideal S32x1024 .f32) (V : FVec Ideal S8x1024 .f32)
    (hX : ∀ r, row X r = H (8 * n + r)) (hY : ∀ r, row Y r = U (8 * n + r)) (p : Fin 8) (j : Fin 1024) (hV : (V (ValueIdx.ix2 p j) : EReal) = upto H U p j n) :
    (k0_pay5 (F := Ideal) X Y V (ValueIdx.ix2 p j) : EReal) = upto H U p j (n + 4) := by
  rw [pay5_apply, upto_step, hV]
  refine congrArg (upto H U p j n + ·) (Finset.sum_congr rfl fun q _ => ?_)
  rw [hX, hY]
  have e : 8 * n + (8 * q.val + p.val) = 8 * (n + q.val) + p.val := by omega
  show U (8 * n + (8 * q.val + p.val)) j * (H (8 * n + (8 * q.val + p.val)) j * rs (H (8 * n + (8 * q.val + p.val)))) = _
  rw [e]
  rfl

/-- A row of the group holding it. -/
theorem rows_row (X : FVec Ideal S640x1024 .f32) (n : ℕ) (r : Fin 32) : row (rows (F := Ideal) n X) r = row X ⟨(32 * n + r) % 640, Nat.mod_lt _ (by norm_num)⟩ := rfl

theorem rows_div (X : FVec Ideal S640x1024 .f32) (p : Fin 640) : row (rows (F := Ideal) (p.val / 32) X) ⟨p.val % 32, Nat.mod_lt _ (by norm_num)⟩ = row X p := by
  rw [rows_row]
  refine congrArg (row X) (Fin.ext ?_)
  show (32 * (p.val / 32) + p.val % 32) % 640 = p.val
  rw [Nat.div_add_mod]
  exact Nat.mod_eq_of_lt p.isLt

/-- Row numbers, read over the natural numbers. -/
def at' (n : ℕ) : Fin 8320 := ⟨n % 8320, Nat.mod_lt _ (by norm_num)⟩
theorem at_val (i : Fin 8320) : at' i.val = i := Fin.ext (Nat.mod_eq_of_lt i.isLt)
/-- Column numbers likewise. -/
def cl (n : ℕ) : Fin 1024 := ⟨n % 1024, Nat.mod_lt _ (by norm_num)⟩
theorem cl_val (i : Fin 1024) : cl i.val = i := Fin.ext (Nat.mod_eq_of_lt i.isLt)

/-- The rows of a product of two arrays. -/
def prod {a q : ℕ} (Y : (⟨2, ![a, q]⟩ : Shape).Idx → EReal) (W : (⟨2, ![q, 1024]⟩ : Shape).Idx → EReal) (p : Fin a) (j : Fin 1024) : EReal :=
  ∑ k : Fin q, Y (ValueIdx.ix2 p k) * W (ValueIdx.ix2 k j)

/-- Neither infinite. -/
abbrev Real' (x : EReal) : Prop := x ≠ ⊤ ∧ x ≠ ⊥

theorem real_add {x y : EReal} (hx : Real' x) (hy : Real' y) : Real' (x + y) := by
  rw [← EReal.coe_toReal hx.1 hx.2, ← EReal.coe_toReal hy.1 hy.2, ← EReal.coe_add]
  exact ⟨EReal.coe_ne_top _, EReal.coe_ne_bot _⟩

theorem real_prod {a q : ℕ} {Y : (⟨2, ![a, q]⟩ : Shape).Idx → EReal} {W : (⟨2, ![q, 1024]⟩ : Shape).Idx → EReal} (hY : ∀ i, Real' (Y i)) (hW : ∀ i, Real' (W i))
    (p : Fin a) (j : Fin 1024) : Real' (prod Y W p j) := by
  have e : prod Y W p j = ((∑ k : Fin q, (Y (ValueIdx.ix2 p k)).toReal * (W (ValueIdx.ix2 k j)).toReal : ℝ) : EReal) := by
    rw [Cert.Gla.coe_sum]
    refine Finset.sum_congr rfl fun k _ => ?_
    rw [EReal.coe_mul, EReal.coe_toReal (hY _).1 (hY _).2, EReal.coe_toReal (hW _).1 (hW _).2]
  rw [e]
  exact ⟨EReal.coe_ne_top _, EReal.coe_ne_bot _⟩

theorem dh_real {x u w : Fin 1024 → EReal} (hx : ∀ k, Real' (x k)) (hu : ∀ k, Real' (u k)) (hw : ∀ k, Real' (w k)) (z : EReal) (j : Fin 1024) :
    dhK x u w z j = dhR x u w z j := by
  have h := dh_eq (fun k => (x k).toReal) (fun k => (u k).toReal) (fun k => (w k).toReal) z j
  simp only [EReal.coe_toReal (hx _).1 (hx _).2, EReal.coe_toReal (hu _).1 (hu _).2, EReal.coe_toReal (hw _).1 (hw _).2] at h
  exact h

/-- A block's product is the rows of the product. -/
theorem mm_row {a q : ℕ} {φ ψ : FTy} (Y : FVec Ideal ⟨2, ![a, q]⟩ φ) (W : FVec Ideal ⟨2, ![q, 1024]⟩ ψ) (p : Fin a) (j : Fin 1024) :
    (FloatOps.matmul (DotDims.plain a q 1024) none Y W (constant (F := Ideal) ⟨2, ![a, 1024]⟩ .f32 0x00000000#32) (ValueIdx.ix2 p j) : EReal) = prod Y W p j := by
  rw [Ideal.matmul_plain_apply]
  exact (congrArg (· + _) Ideal.ofBits_zero_f32).trans (zero_add _)

end Cert.Norm

end
-- ==== Proof.Dgrad8.lean ====
/- The backward call `up_dgrad`: what one grid point leaves, and the launch. -/
module

public import proofs.«01_k».proof.Proof.Rows
public import proofs.«01_k».proof.Proof.Gen.Kernel8Ideal.Frame.Runs
public import Idealize.ShloMosaic.Lib.Pipeline.Value

@[expose] public section

set_option maxRecDepth 16384

noncomputable section

namespace Cert.Dgrad8

open Cert.Kernel8Ideal Cert.Kernel8Ideal.Gen
open Cert.Rows hiding S640x1024 S32x1024 S8x1024
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem off_eq : ∀ k : Fin k0_t1_loop.trips, k0_off1 k = ![32 * k.val, 0] := by decide +kernel

/-- The first result's block: 32 rows at a time. -/
def dhBlock (h du : Vec F S640x1024 .f32) (g : Vec F S1x1024 .f32) (dres : Vec F S640x1024 .f32) : Vec F S640x1024 .f32 :=
  fun y => k0_pay6 (rows ((y 0).val / 32) h) (rows ((y 0).val / 32) du) g (rows ((y 0).val / 32) dres) (ValueIdx.ix2 ⟨(y 0).val % 32, Nat.mod_lt _ (by decide)⟩ (y 1))

/-- The second result after `n` groups of 32 rows, from `v`. -/
def dgLoop (h du : Vec F S640x1024 .f32) (v : Vec F S8x1024 .f32) : ℕ → Vec F S8x1024 .f32
  | 0 => v
  | n + 1 => k0_pay5 (rows n h) (rows n du) (dgLoop h du v n)

section
variable (c : Dev nD) (𝒱 : Variants) (bd : Option 𝒱.V) (i : grid0.Coords) (arg1 : Memref sig .tc .vmem S640x5632 .bf16) (harg1 : arg1.IsWhole) (arg2 : Memref sig .tc .vmem S5632x1024 .bf16) (harg2 : arg2.IsWhole) (arg3 : Memref sig .tc .vmem S640x1024 .f32) (harg3 : arg3.IsWhole) (arg4 : Memref sig .tc .vmem S1x1024 .f32) (harg4 : arg4.IsWhole) (arg5 : Memref sig .tc .vmem S640x1024 .f32) (harg5 : arg5.IsWhole) (arg6 : Memref sig .tc .vmem S640x1024 .f32) (harg6 : arg6.IsWhole) (arg7 : Memref sig .tc .vmem S8x1024 .f32) (harg7 : arg7.IsWhole) (arg8 : Memref sig .tc .vmem S640x1024 .f32) (harg8 : arg8.IsWhole)

theorem trip (X3 : BufTy.Contents (Elt F) arg3.view.ty) (X4 : BufTy.Contents (Elt F) arg4.view.ty) (X5 : BufTy.Contents (Elt F) arg5.view.ty) (X8 : BufTy.Contents (Elt F) arg8.view.ty) (k : Fin k0_t1_loop.trips) (f6 : BufTy.Contents (Elt F) arg6.view.ty) (f7 : BufTy.Contents (Elt F) arg7.view.ty) :
    tripL_k0_t1 (F := F) 𝒱 c bd i arg1 harg1 arg2 harg2 arg3 harg3 arg4 harg4 arg5 harg5 arg6 harg6 arg7 harg7 arg8 harg8 X3 X4 X5 X8 k f6 f7
      = ([⟨Rect.unit (s := S640x1024) (k0_off1 k) S32x1024.size (k0_off1_inb k), k0_pay6 (View.ld (arg3.view.read (Elt F) X3) (Rect.unit (s := S640x1024) (k0_off1 k) S32x1024.size (k0_off1_inb k))) (View.ld (arg8.view.read (Elt F) X8) (Rect.unit (s := S640x1024) (k0_off1 k) S32x1024.size (k0_off1_inb k))) (View.ld (arg4.view.read (Elt F) X4) (Rect.unit (s := S1x1024) ![0, 0] S1x1024.size inb_S1x1024_S1x1024_0_0)) (View.ld (arg5.view.read (Elt F) X5) (Rect.unit (s := S640x1024) (k0_off1 k) S32x1024.size (k0_off1_inb k)))⟩],
        [⟨Rect.unit (s := S8x1024) ![0, 0] S8x1024.size inb_S8x1024_S8x1024_0_0, k0_pay5 (View.ld (arg3.view.read (Elt F) X3) (Rect.unit (s := S640x1024) (k0_off1 k) S32x1024.size (k0_off1_inb k))) (View.ld (arg8.view.read (Elt F) X8) (Rect.unit (s := S640x1024) (k0_off1 k) S32x1024.size (k0_off1_inb k))) (View.ld (arg7.view.read (Elt F) f7) (Rect.unit (s := S8x1024) ![0, 0] S8x1024.size inb_S8x1024_S8x1024_0_0))⟩]) := by
  unfold tripL_k0_t1 trip_k0_t1
  rfl

variable {X3 : BufTy.Contents (Elt F) arg3.view.ty} {X4 : BufTy.Contents (Elt F) arg4.view.ty} {X5 : BufTy.Contents (Elt F) arg5.view.ty} {X8 : BufTy.Contents (Elt F) arg8.view.ty}
  {h du dres : Vec F S640x1024 .f32} {gn : Vec F S1x1024 .f32}
  (e3 : arg3.view.read (Elt F) X3 = h) (e4 : arg4.view.read (Elt F) X4 = gn) (e5 : arg5.view.read (Elt F) X5 = dres) (e8 : arg8.view.read (Elt F) X8 = du)
  (G6 : BufTy.Contents (Elt F) arg6.view.ty) (G7 : BufTy.Contents (Elt F) arg7.view.ty)

include e3 e4 e5 e8 in
/-- The groups of rows before the `k`-th. -/
theorem groups : ∀ k : ℕ, k ≤ k0_t1_loop.trips →
    Groups arg7.view (dhBlock h du gn dres) (dgLoop h du (arg7.view.read (Elt F) G7)) G7 k (pb_k0_t1 (F := F) 𝒱 c bd i arg1 harg1 arg2 harg2 arg3 harg3 arg4 harg4 arg5 harg5 arg6 harg6 arg7 harg7 arg8 harg8 X3 X4 X5 X8 G6 G7 k)
  | 0, _ => ⟨fun _ hp => absurd hp List.not_mem_nil, fun y hy => absurd hy (Nat.not_lt_zero _), rfl⟩
  | k + 1, hk => by
    have ih := groups k (Nat.le_of_succ_le hk)
    have e := pb_k0_t1_succ (F := F) 𝒱 c bd i arg1 harg1 arg2 harg2 arg3 harg3 arg4 harg4 arg5 harg5 arg6 harg6 arg7 harg7 arg8 harg8 X3 X4 X5 X8 G6 G7 ⟨k, hk⟩
    rw [trip] at e
    refine Groups.succ ih e (off_eq ⟨k, hk⟩) (fun x => ?_) ?_
    · have h0 : (x 0).val < 32 := (x 0).isLt
      have h20 : k < 20 := hk
      unfold dhBlock
      rw [e3, e4, e5, e8, ld_rows _ _ (off_eq ⟨k, hk⟩) h20, ld_rows _ _ (off_eq ⟨k, hk⟩) h20, ld_rows _ _ (off_eq ⟨k, hk⟩) h20, View.ld_unit_zero zz]
      exact at_group (fun q => k0_pay6 (rows q h) (rows q du) gn (rows q dres)) k x _ (off_eq ⟨k, hk⟩)
    · have h20 : k < 20 := hk
      rw [e3, e8, ih.2.2, ld_rows _ _ (off_eq ⟨k, hk⟩) h20, ld_rows _ _ (off_eq ⟨k, hk⟩) h20, View.ld_unit_zero zz]
      rfl

include e3 e4 e5 e8 in
theorem loop_dh {k : ℕ} (hk : k = k0_t1_loop.trips) : arg6.view.read (Elt F) (arg6.view.writes (Elt F) G6 (pb_k0_t1 (F := F) 𝒱 c bd i arg1 harg1 arg2 harg2 arg3 harg3 arg4 harg4 arg5 harg5 arg6 harg6 arg7 harg7 arg8 harg8 X3 X4 X5 X8 G6 G7 k).1) = dhBlock h du gn dres := by
  have hg := groups c 𝒱 bd i arg1 harg1 arg2 harg2 arg3 harg3 arg4 harg4 arg5 harg5 arg6 harg6 arg7 harg7 arg8 harg8 e3 e4 e5 e8 G6 G7 k hk.le
  have hc : ∀ y : S640x1024.Idx, ∃ pc ∈ (pb_k0_t1 (F := F) 𝒱 c bd i arg1 harg1 arg2 harg2 arg3 harg3 arg4 harg4 arg5 harg5 arg6 harg6 arg7 harg7 arg8 harg8 X3 X4 X5 X8 G6 G7 k).1, y ∈ pc.1.set := fun y => hg.2.1 y (by subst hk; exact (y 0).isLt)
  rw [View.read_writes_eq_canon _ _ _ hc]
  exact funext fun y => View.canon_apply_of_pieces _ _ hg.1 y (hc y)

include e3 e4 e5 e8 in
theorem loop_dg {k : ℕ} (hk : k = k0_t1_loop.trips) : arg7.view.read (Elt F) (arg7.view.writes (Elt F) G7 (pb_k0_t1 (F := F) 𝒱 c bd i arg1 harg1 arg2 harg2 arg3 harg3 arg4 harg4 arg5 harg5 arg6 harg6 arg7 harg7 arg8 harg8 X3 X4 X5 X8 G6 G7 k).2) = dgLoop h du (arg7.view.read (Elt F) G7) 20 := by
  have hg := groups c 𝒱 bd i arg1 harg1 arg2 harg2 arg3 harg3 arg4 harg4 arg5 harg5 arg6 harg6 arg7 harg7 arg8 harg8 e3 e4 e5 e8 G6 G7 k hk.le
  subst hk
  exact hg.2.2

set_option maxHeartbeats 1000000 in
/-- One grid point, the first: the block of the first result at `dhBlock`, the second result at `dgLoop` of what it held. -/
theorem run_A (hc : cond0_0 i) (x0 : Vec F S640x5632 .bf16) (x1 : Vec F S5632x1024 .bf16) (x2 : Vec F S640x1024 .f32) (x3 : Vec F S1x1024 .f32) (x4 : Vec F S640x1024 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (dhBlock x2 (k0_pay2 x0 x1) x3 x4) ∗ owns (c : Thread nD τ) arg7 fullShare (dgLoop x2 (k0_pay2 x0 x1) (k0_pay1 (F := F)) 20) ∗ (∃ d, owns (c : Thread nD τ) arg8 fullShare d)) -∗ K ⟨⟩))
      ⊢ wp frame (wpE (defs₀ (F := F)) Variants.none c none) E (cc0_up_dgrad i arg1 harg1 arg2 harg2 arg3 harg3 arg4 harg4 arg5 harg5 arg6 harg6 arg7 harg7 arg8 harg8) K := by
  simp only [cc0_up_dgrad_eq_skeleton]; unfold cc0_up_dgrad_skel
  unfold owns
  iintro ⟨⟨%f0, %hf0, H0⟩, ⟨%f1, %hf1, H1⟩, ⟨%f2, %hf2, H2⟩, ⟨%f3, %hf3, H3⟩, ⟨%f4, %hf4, H4⟩, ⟨%d6, %f6, -, H6⟩, ⟨%d7, %f7, -, H7⟩, ⟨%ds0, %fs0, -, HS0⟩, Hk⟩
  obtain rfl := harg1.eq_unread hf0; obtain rfl := harg2.eq_unread hf1; obtain rfl := harg3.eq_unread hf2; obtain rfl := harg4.eq_unread hf3; obtain rfl := harg5.eq_unread hf4
  sl_exec (disch := first | sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H6]
  · iexists _; isplitr
    swap; · iexact H6
    ipureintro
    exact loop_dh c Variants.none none i arg1 harg1 arg2 harg2 arg3 harg3 arg4 harg4 arg5 harg5 arg6 harg6 arg7 harg7 arg8 harg8 (harg3.read_unread _) (harg4.read_unread _) (harg5.read_unread _) ((whole_last zz _ _ _).trans (congrArg₂ k0_pay2 (rd_whole zz _ harg1) (rd_whole zz _ harg2))) _ _ rfl
  isplitl [H7]
  · iexists _; isplitr
    swap; · iexact H7
    ipureintro
    rw [View.writes_append]
    exact (loop_dg c Variants.none none i arg1 harg1 arg2 harg2 arg3 harg3 arg4 harg4 arg5 harg5 arg6 harg6 arg7 harg7 arg8 harg8 (harg3.read_unread _) (harg4.read_unread _) (harg5.read_unread _) ((whole_last zz _ _ _).trans (congrArg₂ k0_pay2 (rd_whole zz _ harg1) (rd_whole zz _ harg2))) _ _ rfl).trans (congrArg (dgLoop _ _ · 20) (whole_last zz _ _ _))
  iexists _, _; isplitr; swap; · iexact HS0
  ipureintro; rfl

set_option maxHeartbeats 1000000 in
/-- One grid point, a later one: the block of the first result at `dhBlock`, the second result at `dgLoop` of what it held. -/
theorem run_B (hc : ¬cond0_0 i) (x0 : Vec F S640x5632 .bf16) (x1 : Vec F S5632x1024 .bf16) (x2 : Vec F S640x1024 .f32) (x3 : Vec F S1x1024 .f32) (x4 : Vec F S640x1024 .f32) (xo : Vec F S8x1024 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xo ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (dhBlock x2 (k0_pay2 x0 x1) x3 x4) ∗ owns (c : Thread nD τ) arg7 fullShare (dgLoop x2 (k0_pay2 x0 x1) xo 20) ∗ (∃ d, owns (c : Thread nD τ) arg8 fullShare d)) -∗ K ⟨⟩))
      ⊢ wp frame (wpE (defs₀ (F := F)) Variants.none c none) E (cc0_up_dgrad i arg1 harg1 arg2 harg2 arg3 harg3 arg4 harg4 arg5 harg5 arg6 harg6 arg7 harg7 arg8 harg8) K := by
  simp only [cc0_up_dgrad_eq_skeleton]; unfold cc0_up_dgrad_skel
  unfold owns
  iintro ⟨⟨%f0, %hf0, H0⟩, ⟨%f1, %hf1, H1⟩, ⟨%f2, %hf2, H2⟩, ⟨%f3, %hf3, H3⟩, ⟨%f4, %hf4, H4⟩, ⟨%d6, %f6, -, H6⟩, ⟨%f7, %hf7, H7⟩, ⟨%ds0, %fs0, -, HS0⟩, Hk⟩
  obtain rfl := harg1.eq_unread hf0; obtain rfl := harg2.eq_unread hf1; obtain rfl := harg3.eq_unread hf2; obtain rfl := harg4.eq_unread hf3; obtain rfl := harg5.eq_unread hf4; obtain rfl := harg7.eq_unread hf7
  sl_exec (disch := first | sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H6]
  · iexists _; isplitr
    swap; · iexact H6
    ipureintro
    exact loop_dh c Variants.none none i arg1 harg1 arg2 harg2 arg3 harg3 arg4 harg4 arg5 harg5 arg6 harg6 arg7 harg7 arg8 harg8 (harg3.read_unread _) (harg4.read_unread _) (harg5.read_unread _) ((whole_last zz _ _ _).trans (congrArg₂ k0_pay2 (rd_whole zz _ harg1) (rd_whole zz _ harg2))) _ _ rfl
  isplitl [H7]
  · iexists _; isplitr
    swap; · iexact H7
    ipureintro
    skip
    exact (loop_dg c Variants.none none i arg1 harg1 arg2 harg2 arg3 harg3 arg4 harg4 arg5 harg5 arg6 harg6 arg7 harg7 arg8 harg8 (harg3.read_unread _) (harg4.read_unread _) (harg5.read_unread _) ((whole_last zz _ _ _).trans (congrArg₂ k0_pay2 (rd_whole zz _ harg1) (rd_whole zz _ harg2))) _ _ rfl).trans (congrArg (dgLoop _ _ · 20) (harg7.read_unread _))
  iexists _, _; isplitr; swap; · iexact HS0
  ipureintro; rfl
end

variable (m : (ℓ : Loc nD τ sig) → Buf (Elt F) ℓ) (ρ : Dev nD → PrngReg)

/-- The rows' product with the weights, at point `t`. -/
def duAt (c : Dev nD) (t : Fin cfg0.N) : Vec F S640x1024 .f32 := k0_pay2 (iblk m c 0 t) (iblk m c 1 t)

/-- The second result after point `n`. -/
def dgAcc (c : Dev nD) : (n : ℕ) → n < cfg0.N → Vec F S8x1024 .f32
  | 0, hn => dgLoop (iblk m c 2 ⟨0, hn⟩) (duAt m c ⟨0, hn⟩) k0_pay1 20
  | n + 1, hn => dgLoop (iblk m c 2 ⟨n + 1, hn⟩) (duAt m c ⟨n + 1, hn⟩) (dgAcc c n (Nat.lt_of_succ_lt hn)) 20

theorem dgAcc_A (c : Dev nD) (t : Fin cfg0.N) (h0 : t.val % 13 = 0) : dgAcc m c t.val t.isLt = dgLoop (iblk m c 2 t) (k0_pay2 (iblk m c 0 t) (iblk m c 1 t)) k0_pay1 20 := by
  obtain ⟨n, hn⟩ := t
  have hN : n < 13 := lt_of_lt_of_eq hn (show cfg0.N = 13 from N_0)
  cases n with
  | zero => exact rfl
  | succ n => exact absurd (show (n + 1) % 13 = 0 from h0) (by omega)

theorem dgAcc_B (c : Dev nD) (t : Fin cfg0.N) (h0 : ¬t.val % 13 = 0) :
    dgAcc m c t.val t.isLt = dgLoop (iblk m c 2 t) (k0_pay2 (iblk m c 0 t) (iblk m c 1 t)) (dgAcc m c (t.val - 1) (Nat.lt_of_le_of_lt (Nat.sub_le _ _) t.isLt)) 20 := by
  obtain ⟨n, hn⟩ := t
  cases n with
  | zero => exact absurd (Nat.zero_mod 13) h0
  | succ n => exact rfl

/-- What each window's buffer holds after a point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => dhBlock (iblk m c 2 t) (k0_pay2 (iblk m c 0 t) (iblk m c 1 t)) (iblk m c 3 t) (iblk m c 4 t)
    | ⟨6, _⟩ => dgAcc m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = dhBlock (iblk m c 2 t) (k0_pay2 (iblk m c 0 t) (iblk m c 1 t)) (iblk m c 3 t) (iblk m c 4 t) := by dsimp only [dats]
theorem after0_6 (c : Dev nD) (t : Fin cfg0.N) : (dats m 0 c).after 6 t = dgAcc m c t.val t.isLt := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

theorem before_dg (c : Dev nD) (t : Fin cfg0.N) (h0 : ¬t.val % 13 = 0) (d) :
    (dats m 0 c).before 6 t d = dgAcc m c (t.val - 1) (Nat.lt_of_le_of_lt (Nat.sub_le _ _) t.isLt) := by
  have hN : t.val < 13 := lt_of_lt_of_eq t.isLt (show cfg0.N = 13 from N_0)
  rw [Dat.before_out_kept _ 6 rfl t (by omega) (Bool.eq_false_iff.mpr fun h => by have := (flush0_6 _).mp h; dsimp only at this; omega)
    (fun _ => rfl) (fun _ _ => rfl)]
  dsimp only [dats]

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, PhiA0_eq]
  by_cases h0 : t.val % 13 = 0
  · rw [dgAcc_A m c t h0]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
    iapply (run_A c (grid0.coords t) _ _ _ _ _ _ _ _ _ _ _ _ _ _ _ _ ((hcond0_0 t).mpr h0) (iblk m c 0 t) (iblk m c 1 t) (iblk m c 2 t) (iblk m c 3 t) (iblk m c 4 t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    iintro ⟨H0, H1, H2, H3, H4, H5, H6, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [dgAcc_B m c t h0]
    simp only [before_dg m c t h0]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
    iapply (run_B c (grid0.coords t) _ _ _ _ _ _ _ _ _ _ _ _ _ _ _ _ (fun h => h0 ((hcond0_0 t).mp h)) (iblk m c 0 t) (iblk m c 1 t) (iblk m c 2 t) (iblk m c 3 t) (iblk m c 4 t) _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [HS0]; · iexact HS0
    iintro ⟨H0, H1, H2, H3, H4, H5, H6, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch, with every counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

/-- The run with both result arrays named. -/
theorem run_blocks : θ_run defs (onTc (τ := τ) (main (F := F))) ⟨m, fun _ => 0, ρ⟩ fun r => ∀ c : Dev nD,
      r.2.mem ((c : Thread nD τ).loc main_v0_0) = (dats m 0 c).arrAt 5 cfg0.N
      ∧ r.2.mem ((c : Thread nD τ).loc main_v0_1) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1 5, (h c).1 6, ((h c).1 0).trans (((dats m 0 c).arrAt_in 0 rfl _).trans ((A_eq m c 0).trans (V_main_arg0 m c))), ((h c).1 1).trans (((dats m 0 c).arrAt_in 1 rfl _).trans ((A_eq m c 1).trans (V_main_arg1 m c))), ((h c).1 2).trans (((dats m 0 c).arrAt_in 2 rfl _).trans ((A_eq m c 2).trans (V_main_arg2 m c))), ((h c).1 3).trans (((dats m 0 c).arrAt_in 3 rfl _).trans ((A_eq m c 3).trans (V_main_arg3 m c))), ((h c).1 4).trans (((dats m 0 c).arrAt_in 4 rfl _).trans ((A_eq m c 4).trans (V_main_arg4 m c)))⟩)
    (run_main m ρ)

end Cert.Dgrad8

end
-- ==== Proof.Norm8.lean ====
/- The gradient `up_dgrad`: the launch's two results are the reference's. -/
module

public import proofs.«01_k».proof.Defs
public import proofs.«01_k».proof.Proof.Norm
public import proofs.«01_k».proof.Proof.Finite
public import proofs.«01_k».proof.Proof.Dgrad8
public import proofs.«01_k».proof.Proof.Gen.Kernel8
public import proofs.«01_k».proof.Proof.Gen.Reference8Ideal.Run
public import proofs.«01_k».proof.Proof.Gen.Reference8Ideal.Read
public import proofs.«01_k».proof.Proof.Gen.Pre_finite8
public import Idealize.ShloMosaic.Lib.Pipeline.ValueKit.Geometry

@[expose] public section

set_option maxRecDepth 20000

noncomputable section

namespace Cert.Norm8

open Idealize.ShloMosaic Idealize.ShloMosaic.TcCoe Idealize.SL.Sem Cert.Norm
open scoped BigOperators

section
open Cert.Kernel8Ideal Cert.Kernel8Ideal.Gen Cert.Dgrad8

theorem ix0 : ∀ t : Fin cfg0.N, win0_0.index t = ![t.val, 0] := (by decide +kernel : ∀ t : Fin grid0.N, win0_0.index t = ![t.val, 0])
theorem ix1 : ∀ t : Fin cfg0.N, win0_1.index t = ![0, 0] := (by decide +kernel : ∀ t : Fin grid0.N, win0_1.index t = ![0, 0])
theorem ix2 : ∀ t : Fin cfg0.N, win0_2.index t = ![t.val, 0] := (by decide +kernel : ∀ t : Fin grid0.N, win0_2.index t = ![t.val, 0])
theorem ix3 : ∀ t : Fin cfg0.N, win0_3.index t = ![0, 0] := (by decide +kernel : ∀ t : Fin grid0.N, win0_3.index t = ![0, 0])
theorem ix4 : ∀ t : Fin cfg0.N, win0_4.index t = ![t.val, 0] := (by decide +kernel : ∀ t : Fin grid0.N, win0_4.index t = ![t.val, 0])
theorem ix5 : ∀ t : Fin cfg0.N, win0_5.index t = ![t.val, 0] := (by decide +kernel : ∀ t : Fin grid0.N, win0_5.index t = ![t.val, 0])
theorem ix6 : ∀ t : Fin cfg0.N, win0_6.index t = ![0, 0] := (by decide +kernel : ∀ t : Fin grid0.N, win0_6.index t = ![0, 0])

variable (m : (ℓ : Loc nD τ sig) → Buf (Elt Ideal) ℓ) (d : Dev nD)

/-- The arrays the kernel is launched on. -/
abbrev X0 : S8320x5632.Idx → EReal := (m ((d : Thread nD τ).loc main_arg0) : Vec Ideal S8320x5632 .bf16)
abbrev X1 : S5632x1024.Idx → EReal := (m ((d : Thread nD τ).loc main_arg1) : Vec Ideal S5632x1024 .bf16)
abbrev X2 : S8320x1024.Idx → EReal := (m ((d : Thread nD τ).loc main_arg2) : Vec Ideal S8320x1024 .f32)
abbrev X3 : S1x1024.Idx → EReal := (m ((d : Thread nD τ).loc main_arg3) : Vec Ideal S1x1024 .f32)
abbrev X4 : S8320x1024.Idx → EReal := (m ((d : Thread nD τ).loc main_arg4) : Vec Ideal S8320x1024 .f32)

theorem blk0 (t : Fin cfg0.N) (p : Fin 640) (k : Fin 5632) :
    (iblk m d 0 t : Vec Ideal S640x5632 .bf16) (ValueIdx.ix2 p k) = X0 m d (ValueIdx.ix2 (at' (640 * t.val + p.val)) k) := by
  have hN : t.val < 13 := (N_0 : cfg0.N = 13) ▸ t.isLt
  refine congrArg (X0 m d) (?_ : (((cfg0.win 0).blk t).view.emb (ValueIdx.ix2 p k) : S8320x5632.Idx) = _)
  funext a
  apply Fin.ext
  match a with
  | ⟨0, _⟩ =>
    have e : win0_0.index t 0 = t.val := by rw [ix0]; rfl
    show win0_0.index t 0 * 640 + 1 * p.val = (640 * t.val + p.val) % 8320
    rw [e]; omega
  | ⟨1, _⟩ =>
    have e : win0_0.index t 1 = 0 := by rw [ix0]; rfl
    show win0_0.index t 1 * 5632 + 1 * k.val = k.val
    rw [e]; omega

theorem blk2 (t : Fin cfg0.N) (p : Fin 640) (k : Fin 1024) :
    (iblk m d 2 t : Vec Ideal S640x1024 .f32) (ValueIdx.ix2 p k) = X2 m d (ValueIdx.ix2 (at' (640 * t.val + p.val)) k) := by
  have hN : t.val < 13 := (N_0 : cfg0.N = 13) ▸ t.isLt
  refine congrArg (X2 m d) (?_ : (((cfg0.win 2).blk t).view.emb (ValueIdx.ix2 p k) : S8320x1024.Idx) = _)
  funext a
  apply Fin.ext
  match a with
  | ⟨0, _⟩ =>
    have e : win0_2.index t 0 = t.val := by rw [ix2]; rfl
    show win0_2.index t 0 * 640 + 1 * p.val = (640 * t.val + p.val) % 8320
    rw [e]; omega
  | ⟨1, _⟩ =>
    have e : win0_2.index t 1 = 0 := by rw [ix2]; rfl
    show win0_2.index t 1 * 1024 + 1 * k.val = k.val
    rw [e]; omega

theorem blk4 (t : Fin cfg0.N) (p : Fin 640) (k : Fin 1024) :
    (iblk m d 4 t : Vec Ideal S640x1024 .f32) (ValueIdx.ix2 p k) = X4 m d (ValueIdx.ix2 (at' (640 * t.val + p.val)) k) := by
  have hN : t.val < 13 := (N_0 : cfg0.N = 13) ▸ t.isLt
  refine congrArg (X4 m d) (?_ : (((cfg0.win 4).blk t).view.emb (ValueIdx.ix2 p k) : S8320x1024.Idx) = _)
  funext a
  apply Fin.ext
  match a with
  | ⟨0, _⟩ =>
    have e : win0_4.index t 0 = t.val := by rw [ix4]; rfl
    show win0_4.index t 0 * 640 + 1 * p.val = (640 * t.val + p.val) % 8320
    rw [e]; omega
  | ⟨1, _⟩ =>
    have e : win0_4.index t 1 = 0 := by rw [ix4]; rfl
    show win0_4.index t 1 * 1024 + 1 * k.val = k.val
    rw [e]; omega

theorem blk1 (t : Fin cfg0.N) : (iblk m d 1 t : Vec Ideal S5632x1024 .bf16) = X1 m d := by
  funext y
  refine congrArg (X1 m d) (?_ : (((cfg0.win 1).blk t).view.emb y : S5632x1024.Idx) = y)
  funext a
  apply Fin.ext
  match a with
  | ⟨0, _⟩ =>
    have e : win0_1.index t 0 = 0 := by rw [ix1]; rfl
    show win0_1.index t 0 * 5632 + 1 * (y 0).val = (y 0).val
    rw [e]; omega
  | ⟨1, _⟩ =>
    have e : win0_1.index t 1 = 0 := by rw [ix1]; rfl
    show win0_1.index t 1 * 1024 + 1 * (y 1).val = (y 1).val
    rw [e]; omega

theorem blk3 (t : Fin cfg0.N) : (iblk m d 3 t : Vec Ideal S1x1024 .f32) = X3 m d := by
  funext y
  refine congrArg (X3 m d) (?_ : (((cfg0.win 3).blk t).view.emb y : S1x1024.Idx) = y)
  funext a
  apply Fin.ext
  match a with
  | ⟨0, _⟩ =>
    have e : win0_3.index t 0 = 0 := by rw [ix3]; rfl
    show win0_3.index t 0 * 1 + 1 * (y 0).val = (y 0).val
    rw [e]; omega
  | ⟨1, _⟩ =>
    have e : win0_3.index t 1 = 0 := by rw [ix3]; rfl
    show win0_3.index t 1 * 1024 + 1 * (y 1).val = (y 1).val
    rw [e]; omega

/-- The gradient of the scaled rows. -/
def DU (i : Fin 8320) (j : Fin 1024) : EReal := prod (X0 m d) (X1 m d) i j
/-- The rows and the gradients of the scaled rows, over the natural numbers. -/
abbrev HN (n : ℕ) : Fin 1024 → EReal := row (X2 m d) (at' n)
abbrev UN (n : ℕ) : Fin 1024 → EReal := DU m d (at' n)

theorem h_row (t : Fin cfg0.N) (p : Fin 640) : row (iblk m d 2 t : Vec Ideal S640x1024 .f32) p = HN m d (640 * t.val + p.val) := funext fun k => blk2 m d t p k

theorem pay2_apply (Y : Vec Ideal S640x5632 .bf16) (W : Vec Ideal S5632x1024 .bf16) (p : Fin 640) (j : Fin 1024) :
    (k0_pay2 (F := Ideal) Y W (ValueIdx.ix2 p j) : EReal) = prod Y W p j := by
  unfold k0_pay2
  rw [shapeCast_self]
  exact mm_row Y W p j

theorem du_row (t : Fin cfg0.N) (p : Fin 640) : row (duAt m d t) p = UN m d (640 * t.val + p.val) := by
  funext j
  refine (pay2_apply _ _ p j).trans ?_
  rw [blk1]
  exact Finset.sum_congr rfl fun k _ => congrArg (fun z : EReal => z * X1 m d (ValueIdx.ix2 k j)) (blk0 m d t p k)

/-- The groups of one point. -/
theorem loop (t : Fin cfg0.N) (v : Vec Ideal S8x1024 .f32) (p : Fin 8) (j : Fin 1024) (hv : (v (ValueIdx.ix2 p j) : EReal) = upto (HN m d) (UN m d) p j (80 * t.val)) :
    ∀ n, n ≤ 20 → (dgLoop (iblk m d 2 t) (duAt m d t) v n (ValueIdx.ix2 p j) : EReal) = upto (HN m d) (UN m d) p j (80 * t.val + 4 * n)
  | 0, _ => hv
  | n + 1, hn => by
    have e : ∀ r : Fin 32, (32 * n + r.val) % 640 = 32 * n + r.val := fun r => Nat.mod_eq_of_lt (by omega)
    refine (group_upto (HN m d) (UN m d) (80 * t.val + 4 * n) (Cert.Rows.rows (F := Ideal) n (iblk m d 2 t)) (Cert.Rows.rows (F := Ideal) n (duAt m d t)) _ (fun r => ?_) (fun r => ?_) p j (loop t v p j hv n (by omega))).trans ?_
    · rw [rows_row, h_row]
      show HN m d (640 * t.val + (32 * n + r.val) % 640) = _
      rw [e, show 640 * t.val + (32 * n + r.val) = 8 * (80 * t.val + 4 * n) + r.val from by ring]
    · rw [rows_row, du_row]
      show UN m d (640 * t.val + (32 * n + r.val) % 640) = _
      rw [e, show 640 * t.val + (32 * n + r.val) = 8 * (80 * t.val + 4 * n) + r.val from by ring]
    · rw [show 80 * t.val + 4 * (n + 1) = 80 * t.val + 4 * n + 4 from by ring]

theorem acc : ∀ (n : ℕ) (hn : n < cfg0.N) (p : Fin 8) (j : Fin 1024), (dgAcc m d n hn (ValueIdx.ix2 p j) : EReal) = upto (HN m d) (UN m d) p j (80 * (n + 1))
  | 0, hn, p, j => loop m d ⟨0, hn⟩ _ p j (Ideal.ofBits_zero_f32.trans (Finset.sum_range_zero _).symm) 20 le_rfl
  | n + 1, hn, p, j => loop m d ⟨n + 1, hn⟩ _ p j (acc n (Nat.lt_of_succ_lt hn) p j) 20 le_rfl

/-- The entries of the first result. -/
def DH (n j : ℕ) : EReal := dhK (HN m d n) (UN m d n) (row (X3 m d) 0) (X4 m d (ValueIdx.ix2 (at' n) (cl j))) (cl j)

theorem block (t : Fin cfg0.N) (p : Fin 640) (j : Fin 1024) :
    (dhBlock (iblk m d 2 t) (duAt m d t) (iblk m d 3 t) (iblk m d 4 t) (ValueIdx.ix2 p j) : EReal) = DH m d (640 * t.val + p.val) j := by
  refine (pay6_apply (Cert.Rows.rows (F := Ideal) (p.val / 32) (iblk m d 2 t)) (Cert.Rows.rows (F := Ideal) (p.val / 32) (duAt m d t)) (iblk m d 3 t) (Cert.Rows.rows (F := Ideal) (p.val / 32) (iblk m d 4 t)) ⟨p.val % 32, Nat.mod_lt _ (by norm_num)⟩ j).trans ?_
  rw [rows_div, rows_div, h_row, du_row, blk3]
  unfold DH
  rw [cl_val]
  refine congrArg (fun z => dhK (HN m d (640 * t.val + p.val)) (UN m d (640 * t.val + p.val)) (row (X3 m d) 0) z j) ?_
  exact (congrFun (rows_div (iblk m d 4 t : Vec Ideal S640x1024 .f32) p) j).trans (blk4 m d t p j)

theorem result_dh : ((dats m 0 d).arrAt 5 cfg0.N : Vec Ideal S8320x1024 .f32) = fun y => DH m d (y 0).val (y 1).val := by
  refine (dats m 0 d).arrAt_eq_of_covers 5 _ (by decide +kernel) fun t hf y => ?_
  blk_simp
  rw [after0_5]
  obtain ⟨p, j, rfl⟩ : ∃ (p : Fin 640) (j : Fin 1024), y = ValueIdx.ix2 p j := ⟨y 0, y 1, ValueIdx.eq_ix2 y⟩
  refine (block m d t p j).trans ?_
  show _ = DH m d (win0_5.index t 0 * 640 + p.val) (win0_5.index t 1 * 1024 + j.val)
  have e0 : win0_5.index t 0 = t.val := by rw [ix5]; rfl
  have e1 : win0_5.index t 1 = 0 := by rw [ix5]; rfl
  rw [e0, e1, Nat.mul_comm, Nat.zero_mul, Nat.zero_add]

theorem result_dg : ((dats m 0 d).arrAt 6 cfg0.N : Vec Ideal S8x1024 .f32) = fun y => upto (HN m d) (UN m d) (y 0).val (cl (y 1).val) 1040 := by
  refine (dats m 0 d).arrAt_eq_of_covers 6 _ (by decide +kernel) fun t hf y => ?_
  have hN : t.val < 13 := (N_0 : cfg0.N = 13) ▸ t.isLt
  have hm : t.val % 13 = 12 := (flush0_6 t).mp hf
  blk_simp
  rw [after0_6]
  obtain ⟨p, j, rfl⟩ : ∃ (p : Fin 8) (j : Fin 1024), y = ValueIdx.ix2 p j := ⟨y 0, y 1, ValueIdx.eq_ix2 y⟩
  refine (acc m d t.val t.isLt p j).trans ?_
  show _ = upto (HN m d) (UN m d) (win0_6.index t 0 * 8 + p.val) (cl (win0_6.index t 1 * 1024 + j.val)) 1040
  have e0 : win0_6.index t 0 = 0 := by rw [ix6]; rfl
  have e1 : win0_6.index t 1 = 0 := by rw [ix6]; rfl
  simp only [e0, e1, Nat.zero_mul, Nat.zero_add]
  rw [cl_val, show 80 * (t.val + 1) = 1040 from by omega]
end

section
open Cert.Reference8Ideal Cert.Reference8Ideal.Read
variable (x0 : S8320x5632.Idx → EReal) (x1 : S5632x1024.Idx → EReal) (x2 : S8320x1024.Idx → EReal) (x3 : S1x1024.Idx → EReal) (x4 : S8320x1024.Idx → EReal)

/-- The gradient of the scaled rows, of the reference's arguments. -/
def DR (x0 : S8320x5632.Idx → EReal) (x1 : S5632x1024.Idx → EReal) (i : Fin 8320) (j : Fin 1024) : EReal := prod x0 x1 i j

theorem r_du (i : S8320x1024.Idx) : val_main_v22 (F := Ideal) x0 x1 i = DR x0 x1 (i 0) (i 1) := by
  unfold DR prod
  refine (val_main_v22_apply ..).trans (Finset.sum_congr rfl fun k _ => congrArg₂ (· * ·) (congrArg x0 (ValueIdx.eq_ix2 _)) ((val_main_v19_apply ..).trans (congrArg x1 (ValueIdx.eq_ix2 _))))

theorem r_gain (i : S8320x1024.Idx) : val_main_v3 (F := Ideal) x3 i = row x3 0 (i 1) := by
  rw [val_main_v3_apply, val_main_v2_apply, val_main_v1_apply, val_main_v0_apply]
  refine congrArg x3 (funext fun a => Fin.ext ?_)
  have h0 : (i 0).val < 8320 := (i 0).isLt
  have h1 : (i 1).val < 1024 := (i 1).isLt
  match a with
  | ⟨0, _⟩ => rfl
  | ⟨1, _⟩ =>
    show ((i 0).val * 1024 + (i 1).val) % 1024 = (i 1).val
    omega

theorem r_ms (i : S8320x1.Idx) : val_main_v10 (F := Ideal) x2 i = ms (row x2 (i 0)) := by
  rw [val_main_v10_apply, val_main_v8_apply, val_main_v6_apply, val_main_v5_apply, val_main_v7_apply, val_main_v9_apply]
  refine congrArg (fun s => Ideal.div s wid + small) ((congrArg (· + _) Ideal.ofBits_zero_f32).trans ((zero_add _).trans (Finset.sum_congr rfl fun k _ => congrArg (fun y => x2 y * x2 y) (ValueIdx.eq_ix2 _))))

theorem r_rs (i : S8320x1.Idx) : val_main_v11 (F := Ideal) x2 i = rs (row x2 (i 0)) :=
  (val_main_v11_apply ..).trans (congrArg Ideal.rsqrt (r_ms x2 i))

theorem r_uw (i : S8320x1024.Idx) : val_main_v24 (F := Ideal) x0 x1 x3 i = DR x0 x1 (i 0) (i 1) * row x3 0 (i 1) := by
  rw [val_main_v24_apply, r_du, r_gain]; rfl

theorem r_cf (i : S8320x1024.Idx) : val_main_v35 (F := Ideal) x0 x1 x2 x3 i = cf (row x2 (i 0)) (DR x0 x1 (i 0)) (row x3 0) := by
  rw [val_main_v35_apply, val_main_v34_apply]
  refine (congrArg (· + _) Ideal.ofBits_zero_f32).trans ((zero_add _).trans ?_)
  rw [Fin.sum_univ_one, val_main_v33_apply, val_main_v31_apply, val_main_v27_apply, val_main_v26_apply, val_main_v14_apply, val_main_v12_apply, val_main_v13_apply, val_main_v32_apply, r_rs, r_ms]
  refine congrArg (fun s => Ideal.div (s * (Ideal.ofBits .f32 0xBF000000#32 * Ideal.div (rs (row x2 (i 0))) (ms (row x2 (i 0))))) wid) ((congrArg (· + _) Ideal.ofBits_zero_f32).trans ((zero_add _).trans (Finset.sum_congr rfl fun k _ => ?_)))
  have e : idx_main_v26 (idx_main_v27 (idx_main_v34 (idx_main_v35 i) 0)) k = ValueIdx.ix2 (i 0) k := by
    funext a
    apply Fin.ext
    match a with
    | ⟨0, _⟩ =>
      show (i 0).val * 1 + 0 = (i 0).val
      omega
    | ⟨1, _⟩ => rfl
  rw [val_main_v25_apply, r_uw, e]
  rfl

theorem r_dh (i : Fin 8320) (j : Fin 1024) :
    val_main_v39 (F := Ideal) x0 x1 x2 x3 x4 (ValueIdx.ix2 i j) = dhR (row x2 i) (DR x0 x1 i) (row x3 0) (x4 (ValueIdx.ix2 i j)) j := by
  rw [val_main_v39_apply, val_main_v37_apply, val_main_v30_apply, val_main_v29_apply, val_main_v28_apply, val_main_v36_apply, val_main_v38_apply, r_cf, r_uw, r_rs]
  rfl

theorem r_dg (p : Fin 8) (j : Fin 1024) :
    val_main_v43 (F := Ideal) x0 x1 x2 (ValueIdx.ix2 p j) = upto (fun n => row x2 (at' n)) (fun n => DR x0 x1 (at' n)) p j 1040 := by
  rw [upto_all]
  refine (val_main_v43_apply ..).trans ((congrArg (· + _) Ideal.ofBits_zero_f32).trans ((zero_add _).trans ?_))
  rw [Fin.sum_univ_one, val_main_v42_apply]
  refine (val_main_v41_apply ..).trans ((congrArg (· + _) Ideal.ofBits_zero_f32).trans ((zero_add _).trans (Finset.sum_congr rfl fun k _ => ?_)))
  have e : idx_main_v40 (idx_main_v41 (idx_main_v42 (idx_main_v43 (ValueIdx.ix2 p j) 0)) k) = ValueIdx.ix2 (at' (8 * k.val + p.val)) j := by
    funext a
    apply Fin.ext
    match a with
    | ⟨0, _⟩ =>
      show ((k.val * 8 + p.val) * 1024 + j.val) / 1024 = (8 * k.val + p.val) % 8320
      omega
    | ⟨1, _⟩ =>
      show ((k.val * 8 + p.val) * 1024 + j.val) % 1024 = j.val
      omega
  rw [val_main_v40_apply, e, val_main_v23_apply, r_du, val_main_v16_apply, val_main_v15_apply, r_rs]
  exact mul_comm _ _

theorem ref_frame : Cert.quiescent_Reference8Ideal := fun m ρ _ =>
  (θ_run Cert.Reference8Ideal.defs _ _).mono (fun r h => ⟨fun c => (h c).2.2, sem_eq_zero_of_no_sems (by decide) r.2⟩)
    (Cert.Reference8Ideal.Value.run (F := Ideal) m ρ)
end

section
open Cert.Pre_finite8 Cert.Pre_finite8.Facts Cert.Gla.Finite
theorem finite (x0 : FVec Ideal S8320x5632 .bf16) (x1 : FVec Ideal S5632x1024 .bf16) (x2 : FVec Ideal S8320x1024 .f32) (x3 : FVec Ideal S1x1024 .f32) (x4 : FVec Ideal S8320x1024 .f32)
    (h : Cert.Pre_finite8.fn (F := Ideal) x0 x1 x2 x3 x4 = fun _ => 1#1) :
    (∀ i, Real' (x0 i)) ∧ (∀ i, Real' (x1 i)) ∧ (∀ i, Real' (x2 i)) ∧ (∀ i, Real' (x3 i)) := by
  unfold Cert.Pre_finite8.fn Cert.Pre_finite8.fn_part1 at h
  obtain ⟨h, e3⟩ := andi_split h
  obtain ⟨h, e2⟩ := andi_split h
  obtain ⟨e0, e1⟩ := andi_split h
  have j : (⟨0, ![]⟩ : Shape).Idx := Shape.Idx.first h_S_
  exact ⟨fun i => real_of_lt _ (Host.reduce_andi_all _ _ _ _ j (congrFun e0 j) i),
    fun i => real_of_lt _ (Host.reduce_andi_all _ _ _ _ j (congrFun e1 j) i),
    fun i => real_of_lt _ (Host.reduce_andi_all _ _ _ _ j (congrFun e2 j) i),
    fun i => real_of_lt _ (Host.reduce_andi_all _ _ _ _ j (congrFun e3 j) i)⟩
end

section
variable {F : FTy → Type} [FloatOps F]
theorem bodies : @Cert.Kernel8Ideal.defs₀ F _ _ = @Cert.Kernel8.defs₀ F _ _ := by
  unfold Cert.Kernel8Ideal.defs₀ Cert.Kernel8.defs₀
  refine congrArg Defs.onTc ?_
  funext l x
  match l, x with
  | 0, (t, s) => rfl
  | ⟨n + 1, h⟩, _ => exact absurd h (Nat.not_lt.2 (Nat.le_add_left _ _))
theorem tables : @Cert.Kernel8Ideal.defs F _ _ = @Cert.Kernel8.defs F _ _ := congrArg (Pipeline.defs Cert.Kernel8Ideal.pcfgs) bodies
end

theorem frame : Cert.quiescent_Kernel8 := fun m g _ => by
  have h := Cert.Dgrad8.frame (F := Bits) m g
  rw [tables] at h
  exact h

theorem algebraic : Cert.algebraic_Kernel8Ideal_Reference8Ideal_pre_finite8 := by
  intro m ρ m' ρ' hpre hagree
  refine ⟨_, _, Cert.Dgrad8.run_blocks (F := Ideal) m ρ, ?_⟩
  refine (θ_run Cert.Reference8Ideal.defs _ _).mono (fun _ h c => ?_) (Cert.Reference8Ideal.Value.run (F := Ideal) m' ρ')
  obtain ⟨b0, b1, b2, b3, b4⟩ := hagree c
  obtain ⟨f0, f1, f2, f3⟩ := finite _ _ _ _ _ (hpre c)
  refine ⟨(h c).1.trans ?_, (h c).2.1.trans ?_, (h c).2.2⟩
  · refine (Cert.Reference8Ideal.Read.val_main_v39_eq m' c).trans ?_
    rw [b0, b1, b2, b3, b4]
    funext y
    obtain ⟨i, j, rfl⟩ : ∃ (i : Fin 8320) (j : Fin 1024), y = ValueIdx.ix2 i j := ⟨y 0, y 1, ValueIdx.eq_ix2 y⟩
    refine (r_dh _ _ _ _ _ i j).trans (Eq.trans ?_ (congrFun (result_dh m c) (ValueIdx.ix2 i j)).symm)
    show _ = DH m c i.val j.val
    unfold DH HN UN
    rw [at_val, cl_val]
    exact (dh_real (fun k => f2 _) (fun k => real_prod f0 f1 _ _) (fun k => f3 _) _ j).symm
  · refine (Cert.Reference8Ideal.Read.val_main_v43_eq _ _ _ ).trans ?_
    show Cert.Reference8Ideal.Read.val_main_v43 (F := Ideal) (m' ((c.tc : Thread Cert.Reference8Ideal.nD Cert.Reference8Ideal.τ).loc Cert.Reference8Ideal.main_arg0)) (m' ((c.tc : Thread Cert.Reference8Ideal.nD Cert.Reference8Ideal.τ).loc Cert.Reference8Ideal.main_arg1)) (m' ((c.tc : Thread Cert.Reference8Ideal.nD Cert.Reference8Ideal.τ).loc Cert.Reference8Ideal.main_arg2)) = _
    rw [b0, b1, b2]
    funext y
    obtain ⟨p, j, rfl⟩ : ∃ (p : Fin 8) (j : Fin 1024), y = ValueIdx.ix2 p j := ⟨y 0, y 1, ValueIdx.eq_ix2 y⟩
    refine (r_dg _ _ _ p j).trans (Eq.trans ?_ (congrFun (result_dg m c) (ValueIdx.ix2 p j)).symm)
    show _ = upto (HN m c) (UN m c) p.val (cl j.val) 1040
    rw [cl_val]
    rfl

end Cert.Norm8

end
-- ==== Proof.Dgrad9.lean ====
/- The backward call `in_dgrad`: what one grid point leaves, and the launch. -/
module

public import proofs.«01_k».proof.Proof.Rows
public import proofs.«01_k».proof.Proof.Gen.Kernel9Ideal.Frame.Runs
public import Idealize.ShloMosaic.Lib.Pipeline.Value

@[expose] public section

set_option maxRecDepth 16384

noncomputable section

namespace Cert.Dgrad9

open Cert.Kernel9Ideal Cert.Kernel9Ideal.Gen
open Cert.Rows hiding S640x1024 S32x1024 S8x1024
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem off_eq : ∀ k : Fin k0_t1_loop.trips, k0_off1 k = ![32 * k.val, 0] := by decide +kernel

/-- The first result's block: 32 rows at a time. -/
def dhBlock (h du : Vec F S640x1024 .f32) (g : Vec F S1x1024 .f32) (dres : Vec F S640x1024 .f32) : Vec F S640x1024 .f32 :=
  fun y => k0_pay7 (rows ((y 0).val / 32) h) (rows ((y 0).val / 32) du) g (rows ((y 0).val / 32) dres) (ValueIdx.ix2 ⟨(y 0).val % 32, Nat.mod_lt _ (by decide)⟩ (y 1))

/-- The second result after `n` groups of 32 rows, from `v`. -/
def dgLoop (h du : Vec F S640x1024 .f32) (v : Vec F S8x1024 .f32) : ℕ → Vec F S8x1024 .f32
  | 0 => v
  | n + 1 => k0_pay6 (rows n h) (rows n du) (dgLoop h du v n)

section
variable (c : Dev nD) (𝒱 : Variants) (bd : Option 𝒱.V) (i : grid0.Coords) (arg1 : Memref sig .tc .vmem S640x7168 .bf16) (harg1 : arg1.IsWhole) (arg2 : Memref sig .tc .vmem S7168x1024 .bf16) (harg2 : arg2.IsWhole) (arg3 : Memref sig .tc .vmem S640x1024 .f32) (harg3 : arg3.IsWhole) (arg4 : Memref sig .tc .vmem S1x1024 .f32) (harg4 : arg4.IsWhole) (arg5 : Memref sig .tc .vmem S640x1024 .f32) (harg5 : arg5.IsWhole) (arg6 : Memref sig .tc .vmem S640x128 .bf16) (harg6 : arg6.IsWhole) (arg7 : Memref sig .tc .vmem S128x1024 .bf16) (harg7 : arg7.IsWhole) (arg8 : Memref sig .tc .vmem S640x1024 .f32) (harg8 : arg8.IsWhole) (arg9 : Memref sig .tc .vmem S8x1024 .f32) (harg9 : arg9.IsWhole) (arg10 : Memref sig .tc .vmem S640x1024 .f32) (harg10 : arg10.IsWhole)

theorem trip (X3 : BufTy.Contents (Elt F) arg3.view.ty) (X4 : BufTy.Contents (Elt F) arg4.view.ty) (X5 : BufTy.Contents (Elt F) arg5.view.ty) (X8 : BufTy.Contents (Elt F) arg10.view.ty) (k : Fin k0_t1_loop.trips) (f6 : BufTy.Contents (Elt F) arg8.view.ty) (f7 : BufTy.Contents (Elt F) arg9.view.ty) :
    tripL_k0_t1 (F := F) 𝒱 c bd i arg1 harg1 arg2 harg2 arg3 harg3 arg4 harg4 arg5 harg5 arg6 harg6 arg7 harg7 arg8 harg8 arg9 harg9 arg10 harg10 X3 X4 X5 X8 k f6 f7
      = ([⟨Rect.unit (s := S640x1024) (k0_off1 k) S32x1024.size (k0_off1_inb k), k0_pay7 (View.ld (arg3.view.read (Elt F) X3) (Rect.unit (s := S640x1024) (k0_off1 k) S32x1024.size (k0_off1_inb k))) (View.ld (arg10.view.read (Elt F) X8) (Rect.unit (s := S640x1024) (k0_off1 k) S32x1024.size (k0_off1_inb k))) (View.ld (arg4.view.read (Elt F) X4) (Rect.unit (s := S1x1024) ![0, 0] S1x1024.size inb_S1x1024_S1x1024_0_0)) (View.ld (arg5.view.read (Elt F) X5) (Rect.unit (s := S640x1024) (k0_off1 k) S32x1024.size (k0_off1_inb k)))⟩],
        [⟨Rect.unit (s := S8x1024) ![0, 0] S8x1024.size inb_S8x1024_S8x1024_0_0, k0_pay6 (View.ld (arg3.view.read (Elt F) X3) (Rect.unit (s := S640x1024) (k0_off1 k) S32x1024.size (k0_off1_inb k))) (View.ld (arg10.view.read (Elt F) X8) (Rect.unit (s := S640x1024) (k0_off1 k) S32x1024.size (k0_off1_inb k))) (View.ld (arg9.view.read (Elt F) f7) (Rect.unit (s := S8x1024) ![0, 0] S8x1024.size inb_S8x1024_S8x1024_0_0))⟩]) := by
  unfold tripL_k0_t1 trip_k0_t1
  rfl

variable {X3 : BufTy.Contents (Elt F) arg3.view.ty} {X4 : BufTy.Contents (Elt F) arg4.view.ty} {X5 : BufTy.Contents (Elt F) arg5.view.ty} {X8 : BufTy.Contents (Elt F) arg10.view.ty}
  {h du dres : Vec F S640x1024 .f32} {gn : Vec F S1x1024 .f32}
  (e3 : arg3.view.read (Elt F) X3 = h) (e4 : arg4.view.read (Elt F) X4 = gn) (e5 : arg5.view.read (Elt F) X5 = dres) (e8 : arg10.view.read (Elt F) X8 = du)
  (G6 : BufTy.Contents (Elt F) arg8.view.ty) (G7 : BufTy.Contents (Elt F) arg9.view.ty)

include e3 e4 e5 e8 in
/-- The groups of rows before the `k`-th. -/
theorem groups : ∀ k : ℕ, k ≤ k0_t1_loop.trips →
    Groups arg9.view (dhBlock h du gn dres) (dgLoop h du (arg9.view.read (Elt F) G7)) G7 k (pb_k0_t1 (F := F) 𝒱 c bd i arg1 harg1 arg2 harg2 arg3 harg3 arg4 harg4 arg5 harg5 arg6 harg6 arg7 harg7 arg8 harg8 arg9 harg9 arg10 harg10 X3 X4 X5 X8 G6 G7 k)
  | 0, _ => ⟨fun _ hp => absurd hp List.not_mem_nil, fun y hy => absurd hy (Nat.not_lt_zero _), rfl⟩
  | k + 1, hk => by
    have ih := groups k (Nat.le_of_succ_le hk)
    have e := pb_k0_t1_succ (F := F) 𝒱 c bd i arg1 harg1 arg2 harg2 arg3 harg3 arg4 harg4 arg5 harg5 arg6 harg6 arg7 harg7 arg8 harg8 arg9 harg9 arg10 harg10 X3 X4 X5 X8 G6 G7 ⟨k, hk⟩
    rw [trip] at e
    refine Groups.succ ih e (off_eq ⟨k, hk⟩) (fun x => ?_) ?_
    · have h0 : (x 0).val < 32 := (x 0).isLt
      have h20 : k < 20 := hk
      unfold dhBlock
      rw [e3, e4, e5, e8, ld_rows _ _ (off_eq ⟨k, hk⟩) h20, ld_rows _ _ (off_eq ⟨k, hk⟩) h20, ld_rows _ _ (off_eq ⟨k, hk⟩) h20, View.ld_unit_zero zz]
      exact at_group (fun q => k0_pay7 (rows q h) (rows q du) gn (rows q dres)) k x _ (off_eq ⟨k, hk⟩)
    · have h20 : k < 20 := hk
      rw [e3, e8, ih.2.2, ld_rows _ _ (off_eq ⟨k, hk⟩) h20, ld_rows _ _ (off_eq ⟨k, hk⟩) h20, View.ld_unit_zero zz]
      rfl

include e3 e4 e5 e8 in
theorem loop_dh {k : ℕ} (hk : k = k0_t1_loop.trips) : arg8.view.read (Elt F) (arg8.view.writes (Elt F) G6 (pb_k0_t1 (F := F) 𝒱 c bd i arg1 harg1 arg2 harg2 arg3 harg3 arg4 harg4 arg5 harg5 arg6 harg6 arg7 harg7 arg8 harg8 arg9 harg9 arg10 harg10 X3 X4 X5 X8 G6 G7 k).1) = dhBlock h du gn dres := by
  have hg := groups c 𝒱 bd i arg1 harg1 arg2 harg2 arg3 harg3 arg4 harg4 arg5 harg5 arg6 harg6 arg7 harg7 arg8 harg8 arg9 harg9 arg10 harg10 e3 e4 e5 e8 G6 G7 k hk.le
  have hc : ∀ y : S640x1024.Idx, ∃ pc ∈ (pb_k0_t1 (F := F) 𝒱 c bd i arg1 harg1 arg2 harg2 arg3 harg3 arg4 harg4 arg5 harg5 arg6 harg6 arg7 harg7 arg8 harg8 arg9 harg9 arg10 harg10 X3 X4 X5 X8 G6 G7 k).1, y ∈ pc.1.set := fun y => hg.2.1 y (by subst hk; exact (y 0).isLt)
  rw [View.read_writes_eq_canon _ _ _ hc]
  exact funext fun y => View.canon_apply_of_pieces _ _ hg.1 y (hc y)

include e3 e4 e5 e8 in
theorem loop_dg {k : ℕ} (hk : k = k0_t1_loop.trips) : arg9.view.read (Elt F) (arg9.view.writes (Elt F) G7 (pb_k0_t1 (F := F) 𝒱 c bd i arg1 harg1 arg2 harg2 arg3 harg3 arg4 harg4 arg5 harg5 arg6 harg6 arg7 harg7 arg8 harg8 arg9 harg9 arg10 harg10 X3 X4 X5 X8 G6 G7 k).2) = dgLoop h du (arg9.view.read (Elt F) G7) 20 := by
  have hg := groups c 𝒱 bd i arg1 harg1 arg2 harg2 arg3 harg3 arg4 harg4 arg5 harg5 arg6 harg6 arg7 harg7 arg8 harg8 arg9 harg9 arg10 harg10 e3 e4 e5 e8 G6 G7 k hk.le
  subst hk
  exact hg.2.2

set_option maxHeartbeats 1000000 in
/-- One grid point, the first: the block of the first result at `dhBlock`, the second result at `dgLoop` of what it held. -/
theorem run_A (hc : cond0_0 i) (x0 : Vec F S640x7168 .bf16) (x1 : Vec F S7168x1024 .bf16) (x2 : Vec F S640x1024 .f32) (x3 : Vec F S1x1024 .f32) (x4 : Vec F S640x1024 .f32) (x5 : Vec F S640x128 .bf16) (x6 : Vec F S128x1024 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (dhBlock x2 (k0_pay3 (k0_pay2 x0 x1) x5 x6) x3 x4) ∗ owns (c : Thread nD τ) arg9 fullShare (dgLoop x2 (k0_pay3 (k0_pay2 x0 x1) x5 x6) (k0_pay1 (F := F)) 20) ∗ (∃ d, owns (c : Thread nD τ) arg10 fullShare d)) -∗ K ⟨⟩))
      ⊢ wp frame (wpE (defs₀ (F := F)) Variants.none c none) E (cc0_in_dgrad i arg1 harg1 arg2 harg2 arg3 harg3 arg4 harg4 arg5 harg5 arg6 harg6 arg7 harg7 arg8 harg8 arg9 harg9 arg10 harg10) K := by
  simp only [cc0_in_dgrad_eq_skeleton]; unfold cc0_in_dgrad_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d8, %f8, -, H8⟩, ⟨%d9, %f9, -, H9⟩, ⟨%ds0, %fs0, -, HS0⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
  sl_exec (disch := first | sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H8]
  · iexists _; isplitr
    swap; · iexact H8
    ipureintro
    exact loop_dh c Variants.none none i arg1 harg1 arg2 harg2 arg3 harg3 arg4 harg4 arg5 harg5 arg6 harg6 arg7 harg7 arg8 harg8 arg9 harg9 arg10 harg10 (harg3.read_unread _) (harg4.read_unread _) (harg5.read_unread _) ((whole_last zz _ _ _).trans (congr (congrArg₂ k0_pay3 ((congrArg (View.ld · _) ((whole_last zz _ _ _).trans (congrArg₂ k0_pay2 (rd_whole zz _ harg1) (rd_whole zz _ harg2)))).trans (View.ld_unit_zero zz _ _)) (rd_whole zz _ harg6)) (rd_whole zz _ harg7))) _ _ rfl
  isplitl [H9]
  · iexists _; isplitr
    swap; · iexact H9
    ipureintro
    rw [View.writes_append]
    exact (loop_dg c Variants.none none i arg1 harg1 arg2 harg2 arg3 harg3 arg4 harg4 arg5 harg5 arg6 harg6 arg7 harg7 arg8 harg8 arg9 harg9 arg10 harg10 (harg3.read_unread _) (harg4.read_unread _) (harg5.read_unread _) ((whole_last zz _ _ _).trans (congr (congrArg₂ k0_pay3 ((congrArg (View.ld · _) ((whole_last zz _ _ _).trans (congrArg₂ k0_pay2 (rd_whole zz _ harg1) (rd_whole zz _ harg2)))).trans (View.ld_unit_zero zz _ _)) (rd_whole zz _ harg6)) (rd_whole zz _ harg7))) _ _ rfl).trans (congrArg (dgLoop _ _ · 20) (whole_last zz _ _ _))
  iexists _, _; isplitr; swap; · iexact HS0
  ipureintro; rfl

set_option maxHeartbeats 1000000 in
/-- One grid point, a later one: the block of the first result at `dhBlock`, the second result at `dgLoop` of what it held. -/
theorem run_B (hc : ¬cond0_0 i) (x0 : Vec F S640x7168 .bf16) (x1 : Vec F S7168x1024 .bf16) (x2 : Vec F S640x1024 .f32) (x3 : Vec F S1x1024 .f32) (x4 : Vec F S640x1024 .f32) (x5 : Vec F S640x128 .bf16) (x6 : Vec F S128x1024 .bf16) (xo : Vec F S8x1024 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xo ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (dhBlock x2 (k0_pay3 (k0_pay2 x0 x1) x5 x6) x3 x4) ∗ owns (c : Thread nD τ) arg9 fullShare (dgLoop x2 (k0_pay3 (k0_pay2 x0 x1) x5 x6) xo 20) ∗ (∃ d, owns (c : Thread nD τ) arg10 fullShare d)) -∗ K ⟨⟩))
      ⊢ wp frame (wpE (defs₀ (F := F)) Variants.none c none) E (cc0_in_dgrad i arg1 harg1 arg2 harg2 arg3 harg3 arg4 harg4 arg5 harg5 arg6 harg6 arg7 harg7 arg8 harg8 arg9 harg9 arg10 harg10) K := by
  simp only [cc0_in_dgrad_eq_skeleton]; unfold cc0_in_dgrad_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d8, %f8, -, H8⟩, ⟨%f9, %hf9, H9⟩, ⟨%ds0, %fs0, -, HS0⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf9
  sl_exec (disch := first | sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H8]
  · iexists _; isplitr
    swap; · iexact H8
    ipureintro
    exact loop_dh c Variants.none none i arg1 harg1 arg2 harg2 arg3 harg3 arg4 harg4 arg5 harg5 arg6 harg6 arg7 harg7 arg8 harg8 arg9 harg9 arg10 harg10 (harg3.read_unread _) (harg4.read_unread _) (harg5.read_unread _) ((whole_last zz _ _ _).trans (congr (congrArg₂ k0_pay3 ((congrArg (View.ld · _) ((whole_last zz _ _ _).trans (congrArg₂ k0_pay2 (rd_whole zz _ harg1) (rd_whole zz _ harg2)))).trans (View.ld_unit_zero zz _ _)) (rd_whole zz _ harg6)) (rd_whole zz _ harg7))) _ _ rfl
  isplitl [H9]
  · iexists _; isplitr
    swap; · iexact H9
    ipureintro
    skip
    exact (loop_dg c Variants.none none i arg1 harg1 arg2 harg2 arg3 harg3 arg4 harg4 arg5 harg5 arg6 harg6 arg7 harg7 arg8 harg8 arg9 harg9 arg10 harg10 (harg3.read_unread _) (harg4.read_unread _) (harg5.read_unread _) ((whole_last zz _ _ _).trans (congr (congrArg₂ k0_pay3 ((congrArg (View.ld · _) ((whole_last zz _ _ _).trans (congrArg₂ k0_pay2 (rd_whole zz _ harg1) (rd_whole zz _ harg2)))).trans (View.ld_unit_zero zz _ _)) (rd_whole zz _ harg6)) (rd_whole zz _ harg7))) _ _ rfl).trans (congrArg (dgLoop _ _ · 20) (harg9.read_unread _))
  iexists _, _; isplitr; swap; · iexact HS0
  ipureintro; rfl
end

variable (m : (ℓ : Loc nD τ sig) → Buf (Elt F) ℓ) (ρ : Dev nD → PrngReg)

/-- The rows' product with the weights, at point `t`. -/
def duAt (c : Dev nD) (t : Fin cfg0.N) : Vec F S640x1024 .f32 := k0_pay3 (k0_pay2 (iblk m c 0 t) (iblk m c 1 t)) (iblk m c 5 t) (iblk m c 6 t)

/-- The second result after point `n`. -/
def dgAcc (c : Dev nD) : (n : ℕ) → n < cfg0.N → Vec F S8x1024 .f32
  | 0, hn => dgLoop (iblk m c 2 ⟨0, hn⟩) (duAt m c ⟨0, hn⟩) k0_pay1 20
  | n + 1, hn => dgLoop (iblk m c 2 ⟨n + 1, hn⟩) (duAt m c ⟨n + 1, hn⟩) (dgAcc c n (Nat.lt_of_succ_lt hn)) 20

theorem dgAcc_A (c : Dev nD) (t : Fin cfg0.N) (h0 : t.val % 13 = 0) : dgAcc m c t.val t.isLt = dgLoop (iblk m c 2 t) (k0_pay3 (k0_pay2 (iblk m c 0 t) (iblk m c 1 t)) (iblk m c 5 t) (iblk m c 6 t)) k0_pay1 20 := by
  obtain ⟨n, hn⟩ := t
  have hN : n < 13 := lt_of_lt_of_eq hn (show cfg0.N = 13 from N_0)
  cases n with
  | zero => exact rfl
  | succ n => exact absurd (show (n + 1) % 13 = 0 from h0) (by omega)

theorem dgAcc_B (c : Dev nD) (t : Fin cfg0.N) (h0 : ¬t.val % 13 = 0) :
    dgAcc m c t.val t.isLt = dgLoop (iblk m c 2 t) (k0_pay3 (k0_pay2 (iblk m c 0 t) (iblk m c 1 t)) (iblk m c 5 t) (iblk m c 6 t)) (dgAcc m c (t.val - 1) (Nat.lt_of_le_of_lt (Nat.sub_le _ _) t.isLt)) 20 := by
  obtain ⟨n, hn⟩ := t
  cases n with
  | zero => exact absurd (Nat.zero_mod 13) h0
  | succ n => exact rfl

/-- What each window's buffer holds after a point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => dhBlock (iblk m c 2 t) (k0_pay3 (k0_pay2 (iblk m c 0 t) (iblk m c 1 t)) (iblk m c 5 t) (iblk m c 6 t)) (iblk m c 3 t) (iblk m c 4 t)
    | ⟨8, _⟩ => dgAcc m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = dhBlock (iblk m c 2 t) (k0_pay3 (k0_pay2 (iblk m c 0 t) (iblk m c 1 t)) (iblk m c 5 t) (iblk m c 6 t)) (iblk m c 3 t) (iblk m c 4 t) := by dsimp only [dats]
theorem after0_8 (c : Dev nD) (t : Fin cfg0.N) : (dats m 0 c).after 8 t = dgAcc m c t.val t.isLt := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

theorem before_dg (c : Dev nD) (t : Fin cfg0.N) (h0 : ¬t.val % 13 = 0) (d) :
    (dats m 0 c).before 8 t d = dgAcc m c (t.val - 1) (Nat.lt_of_le_of_lt (Nat.sub_le _ _) t.isLt) := by
  have hN : t.val < 13 := lt_of_lt_of_eq t.isLt (show cfg0.N = 13 from N_0)
  rw [Dat.before_out_kept _ 8 rfl t (by omega) (Bool.eq_false_iff.mpr fun h => by have := (flush0_8 _).mp h; dsimp only at this; omega)
    (fun _ => rfl) (fun _ _ => rfl)]
  dsimp only [dats]

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  rw [show (dats m 0 c).Φ t.castSucc = Pipeline.ΦA spec0 c from rfl, PhiA0_eq]
  by_cases h0 : t.val % 13 = 0
  · rw [dgAcc_A m c t h0]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_A c (grid0.coords t) _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [HS0]; · iexact HS0
    iintro ⟨H0, H1, H2, H3, H4, H5, H6, H7, H8, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [dgAcc_B m c t h0]
    simp only [before_dg m c t h0]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_B c (grid0.coords t) _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [HS0]; · iexact HS0
    iintro ⟨H0, H1, H2, H3, H4, H5, H6, H7, H8, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch, with every counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

/-- The run with both result arrays named. -/
theorem run_blocks : θ_run defs (onTc (τ := τ) (main (F := F))) ⟨m, fun _ => 0, ρ⟩ fun r => ∀ c : Dev nD,
      r.2.mem ((c : Thread nD τ).loc main_v0_0) = (dats m 0 c).arrAt 7 cfg0.N
      ∧ r.2.mem ((c : Thread nD τ).loc main_v0_1) = (dats m 0 c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨(h c).1 7, (h c).1 8, ((h c).1 0).trans (((dats m 0 c).arrAt_in 0 rfl _).trans ((A_eq m c 0).trans (V_main_arg0 m c))), ((h c).1 1).trans (((dats m 0 c).arrAt_in 1 rfl _).trans ((A_eq m c 1).trans (V_main_arg1 m c))), ((h c).1 2).trans (((dats m 0 c).arrAt_in 2 rfl _).trans ((A_eq m c 2).trans (V_main_arg2 m c))), ((h c).1 3).trans (((dats m 0 c).arrAt_in 3 rfl _).trans ((A_eq m c 3).trans (V_main_arg3 m c))), ((h c).1 4).trans (((dats m 0 c).arrAt_in 4 rfl _).trans ((A_eq m c 4).trans (V_main_arg4 m c))), ((h c).1 5).trans (((dats m 0 c).arrAt_in 5 rfl _).trans ((A_eq m c 5).trans (V_main_arg5 m c))), ((h c).1 6).trans (((dats m 0 c).arrAt_in 6 rfl _).trans ((A_eq m c 6).trans (V_main_arg6 m c)))⟩)
    (run_main m ρ)

end Cert.Dgrad9

end
-- ==== Proof.Norm9.lean ====
/- The gradient `in_dgrad`: the launch's two results are the reference's. -/
module

public import proofs.«01_k».proof.Defs
public import proofs.«01_k».proof.Proof.Norm
public import proofs.«01_k».proof.Proof.Finite
public import proofs.«01_k».proof.Proof.Dgrad9
public import proofs.«01_k».proof.Proof.Gen.Kernel9
public import proofs.«01_k».proof.Proof.Gen.Reference9Ideal.Run
public import proofs.«01_k».proof.Proof.Gen.Reference9Ideal.Read
public import proofs.«01_k».proof.Proof.Gen.Pre_finite9
public import Idealize.ShloMosaic.Lib.Pipeline.ValueKit.Geometry

@[expose] public section

set_option maxRecDepth 20000

noncomputable section

namespace Cert.Norm9

open Idealize.ShloMosaic Idealize.ShloMosaic.TcCoe Idealize.SL.Sem Cert.Norm
open scoped BigOperators

section
open Cert.Kernel9Ideal Cert.Kernel9Ideal.Gen Cert.Dgrad9

theorem ix0 : ∀ t : Fin cfg0.N, win0_0.index t = ![t.val, 0] := (by decide +kernel : ∀ t : Fin grid0.N, win0_0.index t = ![t.val, 0])
theorem ix1 : ∀ t : Fin cfg0.N, win0_1.index t = ![0, 0] := (by decide +kernel : ∀ t : Fin grid0.N, win0_1.index t = ![0, 0])
theorem ix2 : ∀ t : Fin cfg0.N, win0_2.index t = ![t.val, 0] := (by decide +kernel : ∀ t : Fin grid0.N, win0_2.index t = ![t.val, 0])
theorem ix3 : ∀ t : Fin cfg0.N, win0_3.index t = ![0, 0] := (by decide +kernel : ∀ t : Fin grid0.N, win0_3.index t = ![0, 0])
theorem ix4 : ∀ t : Fin cfg0.N, win0_4.index t = ![t.val, 0] := (by decide +kernel : ∀ t : Fin grid0.N, win0_4.index t = ![t.val, 0])
theorem ix5 : ∀ t : Fin cfg0.N, win0_5.index t = ![t.val, 0] := (by decide +kernel : ∀ t : Fin grid0.N, win0_5.index t = ![t.val, 0])
theorem ix6 : ∀ t : Fin cfg0.N, win0_6.index t = ![0, 0] := (by decide +kernel : ∀ t : Fin grid0.N, win0_6.index t = ![0, 0])
theorem ix7 : ∀ t : Fin cfg0.N, win0_7.index t = ![t.val, 0] := (by decide +kernel : ∀ t : Fin grid0.N, win0_7.index t = ![t.val, 0])
theorem ix8 : ∀ t : Fin cfg0.N, win0_8.index t = ![0, 0] := (by decide +kernel : ∀ t : Fin grid0.N, win0_8.index t = ![0, 0])

variable (m : (ℓ : Loc nD τ sig) → Buf (Elt Ideal) ℓ) (d : Dev nD)

/-- The arrays the kernel is launched on. -/
abbrev X0 : S8320x7168.Idx → EReal := (m ((d : Thread nD τ).loc main_arg0) : Vec Ideal S8320x7168 .bf16)
abbrev X1 : S7168x1024.Idx → EReal := (m ((d : Thread nD τ).loc main_arg1) : Vec Ideal S7168x1024 .bf16)
abbrev X2 : S8320x1024.Idx → EReal := (m ((d : Thread nD τ).loc main_arg2) : Vec Ideal S8320x1024 .f32)
abbrev X3 : S1x1024.Idx → EReal := (m ((d : Thread nD τ).loc main_arg3) : Vec Ideal S1x1024 .f32)
abbrev X4 : S8320x1024.Idx → EReal := (m ((d : Thread nD τ).loc main_arg4) : Vec Ideal S8320x1024 .f32)
abbrev X5 : S8320x128.Idx → EReal := (m ((d : Thread nD τ).loc main_arg5) : Vec Ideal S8320x128 .bf16)
abbrev X6 : S128x1024.Idx → EReal := (m ((d : Thread nD τ).loc main_arg6) : Vec Ideal S128x1024 .bf16)

theorem blk0 (t : Fin cfg0.N) (p : Fin 640) (k : Fin 7168) :
    (iblk m d 0 t : Vec Ideal S640x7168 .bf16) (ValueIdx.ix2 p k) = X0 m d (ValueIdx.ix2 (at' (640 * t.val + p.val)) k) := by
  have hN : t.val < 13 := (N_0 : cfg0.N = 13) ▸ t.isLt
  refine congrArg (X0 m d) (?_ : (((cfg0.win 0).blk t).view.emb (ValueIdx.ix2 p k) : S8320x7168.Idx) = _)
  funext a
  apply Fin.ext
  match a with
  | ⟨0, _⟩ =>
    have e : win0_0.index t 0 = t.val := by rw [ix0]; rfl
    show win0_0.index t 0 * 640 + 1 * p.val = (640 * t.val + p.val) % 8320
    rw [e]; omega
  | ⟨1, _⟩ =>
    have e : win0_0.index t 1 = 0 := by rw [ix0]; rfl
    show win0_0.index t 1 * 7168 + 1 * k.val = k.val
    rw [e]; omega

theorem blk2 (t : Fin cfg0.N) (p : Fin 640) (k : Fin 1024) :
    (iblk m d 2 t : Vec Ideal S640x1024 .f32) (ValueIdx.ix2 p k) = X2 m d (ValueIdx.ix2 (at' (640 * t.val + p.val)) k) := by
  have hN : t.val < 13 := (N_0 : cfg0.N = 13) ▸ t.isLt
  refine congrArg (X2 m d) (?_ : (((cfg0.win 2).blk t).view.emb (ValueIdx.ix2 p k) : S8320x1024.Idx) = _)
  funext a
  apply Fin.ext
  match a with
  | ⟨0, _⟩ =>
    have e : win0_2.index t 0 = t.val := by rw [ix2]; rfl
    show win0_2.index t 0 * 640 + 1 * p.val = (640 * t.val + p.val) % 8320
    rw [e]; omega
  | ⟨1, _⟩ =>
    have e : win0_2.index t 1 = 0 := by rw [ix2]; rfl
    show win0_2.index t 1 * 1024 + 1 * k.val = k.val
    rw [e]; omega

theorem blk4 (t : Fin cfg0.N) (p : Fin 640) (k : Fin 1024) :
    (iblk m d 4 t : Vec Ideal S640x1024 .f32) (ValueIdx.ix2 p k) = X4 m d (ValueIdx.ix2 (at' (640 * t.val + p.val)) k) := by
  have hN : t.val < 13 := (N_0 : cfg0.N = 13) ▸ t.isLt
  refine congrArg (X4 m d) (?_ : (((cfg0.win 4).blk t).view.emb (ValueIdx.ix2 p k) : S8320x1024.Idx) = _)
  funext a
  apply Fin.ext
  match a with
  | ⟨0, _⟩ =>
    have e : win0_4.index t 0 = t.val := by rw [ix4]; rfl
    show win0_4.index t 0 * 640 + 1 * p.val = (640 * t.val + p.val) % 8320
    rw [e]; omega
  | ⟨1, _⟩ =>
    have e : win0_4.index t 1 = 0 := by rw [ix4]; rfl
    show win0_4.index t 1 * 1024 + 1 * k.val = k.val
    rw [e]; omega

theorem blk5 (t : Fin cfg0.N) (p : Fin 640) (k : Fin 128) :
    (iblk m d 5 t : Vec Ideal S640x128 .bf16) (ValueIdx.ix2 p k) = X5 m d (ValueIdx.ix2 (at' (640 * t.val + p.val)) k) := by
  have hN : t.val < 13 := (N_0 : cfg0.N = 13) ▸ t.isLt
  refine congrArg (X5 m d) (?_ : (((cfg0.win 5).blk t).view.emb (ValueIdx.ix2 p k) : S8320x128.Idx) = _)
  funext a
  apply Fin.ext
  match a with
  | ⟨0, _⟩ =>
    have e : win0_5.index t 0 = t.val := by rw [ix5]; rfl
    show win0_5.index t 0 * 640 + 1 * p.val = (640 * t.val + p.val) % 8320
    rw [e]; omega
  | ⟨1, _⟩ =>
    have e : win0_5.index t 1 = 0 := by rw [ix5]; rfl
    show win0_5.index t 1 * 128 + 1 * k.val = k.val
    rw [e]; omega

theorem blk1 (t : Fin cfg0.N) : (iblk m d 1 t : Vec Ideal S7168x1024 .bf16) = X1 m d := by
  funext y
  refine congrArg (X1 m d) (?_ : (((cfg0.win 1).blk t).view.emb y : S7168x1024.Idx) = y)
  funext a
  apply Fin.ext
  match a with
  | ⟨0, _⟩ =>
    have e : win0_1.index t 0 = 0 := by rw [ix1]; rfl
    show win0_1.index t 0 * 7168 + 1 * (y 0).val = (y 0).val
    rw [e]; omega
  | ⟨1, _⟩ =>
    have e : win0_1.index t 1 = 0 := by rw [ix1]; rfl
    show win0_1.index t 1 * 1024 + 1 * (y 1).val = (y 1).val
    rw [e]; omega

theorem blk3 (t : Fin cfg0.N) : (iblk m d 3 t : Vec Ideal S1x1024 .f32) = X3 m d := by
  funext y
  refine congrArg (X3 m d) (?_ : (((cfg0.win 3).blk t).view.emb y : S1x1024.Idx) = y)
  funext a
  apply Fin.ext
  match a with
  | ⟨0, _⟩ =>
    have e : win0_3.index t 0 = 0 := by rw [ix3]; rfl
    show win0_3.index t 0 * 1 + 1 * (y 0).val = (y 0).val
    rw [e]; omega
  | ⟨1, _⟩ =>
    have e : win0_3.index t 1 = 0 := by rw [ix3]; rfl
    show win0_3.index t 1 * 1024 + 1 * (y 1).val = (y 1).val
    rw [e]; omega

theorem blk6 (t : Fin cfg0.N) : (iblk m d 6 t : Vec Ideal S128x1024 .bf16) = X6 m d := by
  funext y
  refine congrArg (X6 m d) (?_ : (((cfg0.win 6).blk t).view.emb y : S128x1024.Idx) = y)
  funext a
  apply Fin.ext
  match a with
  | ⟨0, _⟩ =>
    have e : win0_6.index t 0 = 0 := by rw [ix6]; rfl
    show win0_6.index t 0 * 128 + 1 * (y 0).val = (y 0).val
    rw [e]; omega
  | ⟨1, _⟩ =>
    have e : win0_6.index t 1 = 0 := by rw [ix6]; rfl
    show win0_6.index t 1 * 1024 + 1 * (y 1).val = (y 1).val
    rw [e]; omega

/-- The gradient of the scaled rows. -/
def DU (i : Fin 8320) (j : Fin 1024) : EReal := prod (X0 m d) (X1 m d) i j + prod (X5 m d) (X6 m d) i j
/-- The rows and the gradients of the scaled rows, over the natural numbers. -/
abbrev HN (n : ℕ) : Fin 1024 → EReal := row (X2 m d) (at' n)
abbrev UN (n : ℕ) : Fin 1024 → EReal := DU m d (at' n)

theorem h_row (t : Fin cfg0.N) (p : Fin 640) : row (iblk m d 2 t : Vec Ideal S640x1024 .f32) p = HN m d (640 * t.val + p.val) := funext fun k => blk2 m d t p k

theorem pay2_apply (Y : Vec Ideal S640x7168 .bf16) (W : Vec Ideal S7168x1024 .bf16) (p : Fin 640) (j : Fin 1024) :
    (k0_pay2 (F := Ideal) Y W (ValueIdx.ix2 p j) : EReal) = prod Y W p j := by
  unfold k0_pay2
  rw [shapeCast_self]
  exact mm_row Y W p j

theorem du_row (t : Fin cfg0.N) (p : Fin 640) : row (duAt m d t) p = UN m d (640 * t.val + p.val) := by
  funext j
  show k0_pay3 (F := Ideal) (k0_pay2 (iblk m d 0 t) (iblk m d 1 t)) (iblk m d 5 t) (iblk m d 6 t) (ValueIdx.ix2 p j) = _
  unfold k0_pay3
  rw [shapeCast_self, blk1, blk6]
  refine congrArg₂ (· + ·) ((pay2_apply _ _ p j).trans ?_) ((mm_row (φ := .bf16) (ψ := .bf16) _ _ p j).trans ?_)
  · exact Finset.sum_congr rfl fun k _ => congrArg (· * _) (blk0 m d t p k)
  · exact Finset.sum_congr rfl fun k _ => congrArg (· * _) (blk5 m d t p k)

/-- The groups of one point. -/
theorem loop (t : Fin cfg0.N) (v : Vec Ideal S8x1024 .f32) (p : Fin 8) (j : Fin 1024) (hv : (v (ValueIdx.ix2 p j) : EReal) = upto (HN m d) (UN m d) p j (80 * t.val)) :
    ∀ n, n ≤ 20 → (dgLoop (iblk m d 2 t) (duAt m d t) v n (ValueIdx.ix2 p j) : EReal) = upto (HN m d) (UN m d) p j (80 * t.val + 4 * n)
  | 0, _ => hv
  | n + 1, hn => by
    have e : ∀ r : Fin 32, (32 * n + r.val) % 640 = 32 * n + r.val := fun r => Nat.mod_eq_of_lt (by omega)
    refine (group_upto (HN m d) (UN m d) (80 * t.val + 4 * n) (Cert.Rows.rows (F := Ideal) n (iblk m d 2 t)) (Cert.Rows.rows (F := Ideal) n (duAt m d t)) _ (fun r => ?_) (fun r => ?_) p j (loop t v p j hv n (by omega))).trans ?_
    · rw [rows_row, h_row]
      show HN m d (640 * t.val + (32 * n + r.val) % 640) = _
      rw [e, show 640 * t.val + (32 * n + r.val) = 8 * (80 * t.val + 4 * n) + r.val from by ring]
    · rw [rows_row, du_row]
      show UN m d (640 * t.val + (32 * n + r.val) % 640) = _
      rw [e, show 640 * t.val + (32 * n + r.val) = 8 * (80 * t.val + 4 * n) + r.val from by ring]
    · rw [show 80 * t.val + 4 * (n + 1) = 80 * t.val + 4 * n + 4 from by ring]

theorem acc : ∀ (n : ℕ) (hn : n < cfg0.N) (p : Fin 8) (j : Fin 1024), (dgAcc m d n hn (ValueIdx.ix2 p j) : EReal) = upto (HN m d) (UN m d) p j (80 * (n + 1))
  | 0, hn, p, j => loop m d ⟨0, hn⟩ _ p j (Ideal.ofBits_zero_f32.trans (Finset.sum_range_zero _).symm) 20 le_rfl
  | n + 1, hn, p, j => loop m d ⟨n + 1, hn⟩ _ p j (acc n (Nat.lt_of_succ_lt hn) p j) 20 le_rfl

/-- The entries of the first result. -/
def DH (n j : ℕ) : EReal := dhK (HN m d n) (UN m d n) (row (X3 m d) 0) (X4 m d (ValueIdx.ix2 (at' n) (cl j))) (cl j)

theorem block (t : Fin cfg0.N) (p : Fin 640) (j : Fin 1024) :
    (dhBlock (iblk m d 2 t) (duAt m d t) (iblk m d 3 t) (iblk m d 4 t) (ValueIdx.ix2 p j) : EReal) = DH m d (640 * t.val + p.val) j := by
  refine (pay6_apply (Cert.Rows.rows (F := Ideal) (p.val / 32) (iblk m d 2 t)) (Cert.Rows.rows (F := Ideal) (p.val / 32) (duAt m d t)) (iblk m d 3 t) (Cert.Rows.rows (F := Ideal) (p.val / 32) (iblk m d 4 t)) ⟨p.val % 32, Nat.mod_lt _ (by norm_num)⟩ j).trans ?_
  rw [rows_div, rows_div, h_row, du_row, blk3]
  unfold DH
  rw [cl_val]
  refine congrArg (fun z => dhK (HN m d (640 * t.val + p.val)) (UN m d (640 * t.val + p.val)) (row (X3 m d) 0) z j) ?_
  exact (congrFun (rows_div (iblk m d 4 t : Vec Ideal S640x1024 .f32) p) j).trans (blk4 m d t p j)

theorem result_dh : ((dats m 0 d).arrAt 7 cfg0.N : Vec Ideal S8320x1024 .f32) = fun y => DH m d (y 0).val (y 1).val := by
  refine (dats m 0 d).arrAt_eq_of_covers 7 _ (by decide +kernel) fun t hf y => ?_
  blk_simp
  rw [after0_7]
  obtain ⟨p, j, rfl⟩ : ∃ (p : Fin 640) (j : Fin 1024), y = ValueIdx.ix2 p j := ⟨y 0, y 1, ValueIdx.eq_ix2 y⟩
  refine (block m d t p j).trans ?_
  show _ = DH m d (win0_7.index t 0 * 640 + p.val) (win0_7.index t 1 * 1024 + j.val)
  have e0 : win0_7.index t 0 = t.val := by rw [ix7]; rfl
  have e1 : win0_7.index t 1 = 0 := by rw [ix7]; rfl
  rw [e0, e1, Nat.mul_comm, Nat.zero_mul, Nat.zero_add]

theorem result_dg : ((dats m 0 d).arrAt 8 cfg0.N : Vec Ideal S8x1024 .f32) = fun y => upto (HN m d) (UN m d) (y 0).val (cl (y 1).val) 1040 := by
  refine (dats m 0 d).arrAt_eq_of_covers 8 _ (by decide +kernel) fun t hf y => ?_
  have hN : t.val < 13 := (N_0 : cfg0.N = 13) ▸ t.isLt
  have hm : t.val % 13 = 12 := (flush0_8 t).mp hf
  blk_simp
  rw [after0_8]
  obtain ⟨p, j, rfl⟩ : ∃ (p : Fin 8) (j : Fin 1024), y = ValueIdx.ix2 p j := ⟨y 0, y 1, ValueIdx.eq_ix2 y⟩
  refine (acc m d t.val t.isLt p j).trans ?_
  show _ = upto (HN m d) (UN m d) (win0_8.index t 0 * 8 + p.val) (cl (win0_8.index t 1 * 1024 + j.val)) 1040
  have e0 : win0_8.index t 0 = 0 := by rw [ix8]; rfl
  have e1 : win0_8.index t 1 = 0 := by rw [ix8]; rfl
  simp only [e0, e1, Nat.zero_mul, Nat.zero_add]
  rw [cl_val, show 80 * (t.val + 1) = 1040 from by omega]
end

section
open Cert.Reference9Ideal Cert.Reference9Ideal.Read
variable (x0 : S8320x7168.Idx → EReal) (x1 : S7168x1024.Idx → EReal) (x2 : S8320x1024.Idx → EReal) (x3 : S1x1024.Idx → EReal) (x4 : S8320x1024.Idx → EReal) (x5 : S8320x128.Idx → EReal) (x6 : S128x1024.Idx → EReal)

/-- The gradient of the scaled rows, of the reference's arguments. -/
def DR (x0 : S8320x7168.Idx → EReal) (x1 : S7168x1024.Idx → EReal) (x5 : S8320x128.Idx → EReal) (x6 : S128x1024.Idx → EReal) (i : Fin 8320) (j : Fin 1024) : EReal := prod x0 x1 i j + prod x5 x6 i j

theorem r_du (i : S8320x1024.Idx) : val_main_v28 (F := Ideal) x0 x1 x5 x6 i = DR x0 x1 x5 x6 (i 0) (i 1) := by
  refine (val_main_v28_apply ..).trans ((congrArg₂ (· + ·) ((val_main_v26_apply ..).trans (Finset.sum_congr rfl fun k _ => congrArg₂ (· * ·) (congrArg x5 (ValueIdx.eq_ix2 _)) ((val_main_v22_apply ..).trans (congrArg x6 (ValueIdx.eq_ix2 _)))))
    ((val_main_v27_apply ..).trans (Finset.sum_congr rfl fun k _ => congrArg₂ (· * ·) (congrArg x0 (ValueIdx.eq_ix2 _)) ((val_main_v19_apply ..).trans (congrArg x1 (ValueIdx.eq_ix2 _)))))).trans (add_comm _ _))

theorem r_gain (i : S8320x1024.Idx) : val_main_v3 (F := Ideal) x3 i = row x3 0 (i 1) := by
  rw [val_main_v3_apply, val_main_v2_apply, val_main_v1_apply, val_main_v0_apply]
  refine congrArg x3 (funext fun a => Fin.ext ?_)
  have h0 : (i 0).val < 8320 := (i 0).isLt
  have h1 : (i 1).val < 1024 := (i 1).isLt
  match a with
  | ⟨0, _⟩ => rfl
  | ⟨1, _⟩ =>
    show ((i 0).val * 1024 + (i 1).val) % 1024 = (i 1).val
    omega

theorem r_ms (i : S8320x1.Idx) : val_main_v10 (F := Ideal) x2 i = ms (row x2 (i 0)) := by
  rw [val_main_v10_apply, val_main_v8_apply, val_main_v6_apply, val_main_v5_apply, val_main_v7_apply, val_main_v9_apply]
  refine congrArg (fun s => Ideal.div s wid + small) ((congrArg (· + _) Ideal.ofBits_zero_f32).trans ((zero_add _).trans (Finset.sum_congr rfl fun k _ => congrArg (fun y => x2 y * x2 y) (ValueIdx.eq_ix2 _))))

theorem r_rs (i : S8320x1.Idx) : val_main_v11 (F := Ideal) x2 i = rs (row x2 (i 0)) :=
  (val_main_v11_apply ..).trans (congrArg Ideal.rsqrt (r_ms x2 i))

theorem r_uw (i : S8320x1024.Idx) : val_main_v30 (F := Ideal) x0 x1 x3 x5 x6 i = DR x0 x1 x5 x6 (i 0) (i 1) * row x3 0 (i 1) := by
  rw [val_main_v30_apply, r_du, r_gain]; rfl

theorem r_cf (i : S8320x1024.Idx) : val_main_v41 (F := Ideal) x0 x1 x2 x3 x5 x6 i = cf (row x2 (i 0)) (DR x0 x1 x5 x6 (i 0)) (row x3 0) := by
  rw [val_main_v41_apply, val_main_v40_apply]
  refine (congrArg (· + _) Ideal.ofBits_zero_f32).trans ((zero_add _).trans ?_)
  rw [Fin.sum_univ_one, val_main_v39_apply, val_main_v37_apply, val_main_v33_apply, val_main_v32_apply, val_main_v14_apply, val_main_v12_apply, val_main_v13_apply, val_main_v38_apply, r_rs, r_ms]
  refine congrArg (fun s => Ideal.div (s * (Ideal.ofBits .f32 0xBF000000#32 * Ideal.div (rs (row x2 (i 0))) (ms (row x2 (i 0))))) wid) ((congrArg (· + _) Ideal.ofBits_zero_f32).trans ((zero_add _).trans (Finset.sum_congr rfl fun k _ => ?_)))
  have e : idx_main_v32 (idx_main_v33 (idx_main_v40 (idx_main_v41 i) 0)) k = ValueIdx.ix2 (i 0) k := by
    funext a
    apply Fin.ext
    match a with
    | ⟨0, _⟩ =>
      show (i 0).val * 1 + 0 = (i 0).val
      omega
    | ⟨1, _⟩ => rfl
  rw [val_main_v31_apply, r_uw, e]
  rfl

theorem r_dh (i : Fin 8320) (j : Fin 1024) :
    val_main_v45 (F := Ideal) x0 x1 x2 x3 x4 x5 x6 (ValueIdx.ix2 i j) = dhR (row x2 i) (DR x0 x1 x5 x6 i) (row x3 0) (x4 (ValueIdx.ix2 i j)) j := by
  rw [val_main_v45_apply, val_main_v43_apply, val_main_v36_apply, val_main_v35_apply, val_main_v34_apply, val_main_v42_apply, val_main_v44_apply, r_cf, r_uw, r_rs]
  rfl

theorem r_dg (p : Fin 8) (j : Fin 1024) :
    val_main_v49 (F := Ideal) x0 x1 x2 x5 x6 (ValueIdx.ix2 p j) = upto (fun n => row x2 (at' n)) (fun n => DR x0 x1 x5 x6 (at' n)) p j 1040 := by
  rw [upto_all]
  refine (val_main_v49_apply ..).trans ((congrArg (· + _) Ideal.ofBits_zero_f32).trans ((zero_add _).trans ?_))
  rw [Fin.sum_univ_one, val_main_v48_apply]
  refine (val_main_v47_apply ..).trans ((congrArg (· + _) Ideal.ofBits_zero_f32).trans ((zero_add _).trans (Finset.sum_congr rfl fun k _ => ?_)))
  have e : idx_main_v46 (idx_main_v47 (idx_main_v48 (idx_main_v49 (ValueIdx.ix2 p j) 0)) k) = ValueIdx.ix2 (at' (8 * k.val + p.val)) j := by
    funext a
    apply Fin.ext
    match a with
    | ⟨0, _⟩ =>
      show ((k.val * 8 + p.val) * 1024 + j.val) / 1024 = (8 * k.val + p.val) % 8320
      omega
    | ⟨1, _⟩ =>
      show ((k.val * 8 + p.val) * 1024 + j.val) % 1024 = j.val
      omega
  rw [val_main_v46_apply, e, val_main_v29_apply, r_du, val_main_v16_apply, val_main_v15_apply, r_rs]
  exact mul_comm _ _

theorem ref_frame : Cert.quiescent_Reference9Ideal := fun m ρ _ =>
  (θ_run Cert.Reference9Ideal.defs _ _).mono (fun r h => ⟨fun c => (h c).2.2, sem_eq_zero_of_no_sems (by decide) r.2⟩)
    (Cert.Reference9Ideal.Value.run (F := Ideal) m ρ)
end

section
open Cert.Pre_finite9 Cert.Pre_finite9.Facts Cert.Gla.Finite
theorem finite (x0 : FVec Ideal S8320x7168 .bf16) (x1 : FVec Ideal S7168x1024 .bf16) (x2 : FVec Ideal S8320x1024 .f32) (x3 : FVec Ideal S1x1024 .f32) (x4 : FVec Ideal S8320x1024 .f32) (x5 : FVec Ideal S8320x128 .bf16) (x6 : FVec Ideal S128x1024 .bf16)
    (h : Cert.Pre_finite9.fn (F := Ideal) x0 x1 x2 x3 x4 x5 x6 = fun _ => 1#1) :
    (∀ i, Real' (x0 i)) ∧ (∀ i, Real' (x1 i)) ∧ (∀ i, Real' (x2 i)) ∧ (∀ i, Real' (x3 i)) ∧ (∀ i, Real' (x5 i)) ∧ (∀ i, Real' (x6 i)) := by
  unfold Cert.Pre_finite9.fn Cert.Pre_finite9.fn_part1 at h
  obtain ⟨h, e6⟩ := andi_split h
  obtain ⟨h, e5⟩ := andi_split h
  obtain ⟨h, e3⟩ := andi_split h
  obtain ⟨h, e2⟩ := andi_split h
  obtain ⟨e0, e1⟩ := andi_split h
  have j : (⟨0, ![]⟩ : Shape).Idx := Shape.Idx.first h_S_
  exact ⟨fun i => real_of_lt _ (Host.reduce_andi_all _ _ _ _ j (congrFun e0 j) i),
    fun i => real_of_lt _ (Host.reduce_andi_all _ _ _ _ j (congrFun e1 j) i),
    fun i => real_of_lt _ (Host.reduce_andi_all _ _ _ _ j (congrFun e2 j) i),
    fun i => real_of_lt _ (Host.reduce_andi_all _ _ _ _ j (congrFun e3 j) i),
    fun i => real_of_lt _ (Host.reduce_andi_all _ _ _ _ j (congrFun e5 j) i),
    fun i => real_of_lt _ (Host.reduce_andi_all _ _ _ _ j (congrFun e6 j) i)⟩
end

section
variable {F : FTy → Type} [FloatOps F]
theorem bodies : @Cert.Kernel9Ideal.defs₀ F _ _ = @Cert.Kernel9.defs₀ F _ _ := by
  unfold Cert.Kernel9Ideal.defs₀ Cert.Kernel9.defs₀
  refine congrArg Defs.onTc ?_
  funext l x
  match l, x with
  | 0, (t, s) => rfl
  | ⟨n + 1, h⟩, _ => exact absurd h (Nat.not_lt.2 (Nat.le_add_left _ _))
theorem tables : @Cert.Kernel9Ideal.defs F _ _ = @Cert.Kernel9.defs F _ _ := congrArg (Pipeline.defs Cert.Kernel9Ideal.pcfgs) bodies
end

theorem frame : Cert.quiescent_Kernel9 := fun m g _ => by
  have h := Cert.Dgrad9.frame (F := Bits) m g
  rw [tables] at h
  exact h

theorem algebraic : Cert.algebraic_Kernel9Ideal_Reference9Ideal_pre_finite9 := by
  intro m ρ m' ρ' hpre hagree
  refine ⟨_, _, Cert.Dgrad9.run_blocks (F := Ideal) m ρ, ?_⟩
  refine (θ_run Cert.Reference9Ideal.defs _ _).mono (fun _ h c => ?_) (Cert.Reference9Ideal.Value.run (F := Ideal) m' ρ')
  obtain ⟨b0, b1, b2, b3, b4, b5, b6⟩ := hagree c
  obtain ⟨f0, f1, f2, f3, f5, f6⟩ := finite _ _ _ _ _ _ _ (hpre c)
  refine ⟨(h c).1.trans ?_, (h c).2.1.trans ?_, (h c).2.2⟩
  · refine (Cert.Reference9Ideal.Read.val_main_v45_eq m' c).trans ?_
    rw [b0, b1, b2, b3, b4, b5, b6]
    funext y
    obtain ⟨i, j, rfl⟩ : ∃ (i : Fin 8320) (j : Fin 1024), y = ValueIdx.ix2 i j := ⟨y 0, y 1, ValueIdx.eq_ix2 y⟩
    refine (r_dh _ _ _ _ _ _ _ i j).trans (Eq.trans ?_ (congrFun (result_dh m c) (ValueIdx.ix2 i j)).symm)
    show _ = DH m c i.val j.val
    unfold DH HN UN
    rw [at_val, cl_val]
    exact (dh_real (fun k => f2 _) (fun k => real_add (real_prod f0 f1 _ _) (real_prod f5 f6 _ _)) (fun k => f3 _) _ j).symm
  · refine (Cert.Reference9Ideal.Read.val_main_v49_eq _ _ _ _ _ ).trans ?_
    show Cert.Reference9Ideal.Read.val_main_v49 (F := Ideal) (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1)) (m' ((c.tc : Thread Cert.Reference9Ideal.nD Cert.Reference9Ideal.τ).loc Cert.Reference9Ideal.main_arg2)) (m' ((c.tc : Thread Cert.Reference9Ideal.nD Cert.Reference9Ideal.τ).loc Cert.Reference9Ideal.main_arg5)) (m' ((c.tc : Thread Cert.Reference9Ideal.nD Cert.Reference9Ideal.τ).loc Cert.Reference9Ideal.main_arg6)) = _
    rw [b0, b1, b2, b5, b6]
    funext y
    obtain ⟨p, j, rfl⟩ : ∃ (p : Fin 8) (j : Fin 1024), y = ValueIdx.ix2 p j := ⟨y 0, y 1, ValueIdx.eq_ix2 y⟩
    refine (r_dg _ _ _ _ _ p j).trans (Eq.trans ?_ (congrFun (result_dg m c) (ValueIdx.ix2 p j)).symm)
    show _ = upto (HN m c) (UN m c) p.val (cl j.val) 1040
    rw [cl_val]
    rfl

end Cert.Norm9

end
-- ==== Proof.Proj10.lean ====
/- The forward call `up_proj`: what one grid point leaves, the block of scaled rows it keeps between points, and the launch. -/
module

public import proofs.«01_k».proof.Proof.Rows
public import proofs.«01_k».proof.Proof.Gen.Kernel10Ideal.Frame
public import proofs.«01_k».proof.Proof.Gen.Kernel10Ideal.Skeleton
public import proofs.«01_k».proof.Proof.Gen.Kernel10Ideal.Loops
public import Idealize.ShloMosaic.Lib.Pipeline.Value

@[expose] public section

set_option maxRecDepth 16384

noncomputable section

namespace Cert.Proj10

open Cert.Kernel10Ideal Cert.Kernel10Ideal.Gen
open Cert.Rows (zz whole_last rd_whole)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem off_eq : ∀ k : Fin k0_t1_loop.trips, k0_off1 k = ![32 * k.val, 0] := by decide +kernel

/-- The `k`-th 32 rows of a block of 1664. -/
def rows (k : ℕ) (X : Vec F S1664x1024 .f32) : Vec F S32x1024 .f32 :=
  fun x => X (ValueIdx.ix2 ⟨(32 * k + (x 0).val) % 1664, Nat.mod_lt _ (by decide)⟩ (x 1))

theorem emb_at {off : Fin 2 → ℕ} (inb : ∀ a, off a + S32x1024.size a ≤ S1664x1024.size a) {k : ℕ} (e : off = ![32 * k, 0]) (x : S32x1024.Idx) (hk : 32 * k + (x 0).val < 1664) :
    ((Rect.unit (s := S1664x1024) off S32x1024.size inb).emb x : S1664x1024.Idx) = ValueIdx.ix2 ⟨32 * k + (x 0).val, hk⟩ (x 1) := by
  subst e
  funext a
  apply Fin.ext
  match a with
  | ⟨0, _⟩ => show 32 * k + 1 * (x 0).val = 32 * k + (x 0).val; omega
  | ⟨1, _⟩ => show 0 + 1 * (x 1).val = (x 1).val; omega

theorem ld_rows {off : Fin 2 → ℕ} (X : Vec F S1664x1024 .f32) (inb : ∀ a, off a + S32x1024.size a ≤ S1664x1024.size a) {k : ℕ} (e : off = ![32 * k, 0]) (hk : k < 52) :
    View.ld (Val := Elt F) (S := S1664x1024) (e' := .f32) X (Rect.unit (s := S1664x1024) off S32x1024.size inb) = rows k X := by
  funext x
  have h0 : (x 0).val < 32 := (x 0).isLt
  refine congrArg X ((emb_at inb e x (by omega)).trans ?_)
  exact congrArg (fun q => ValueIdx.ix2 q (x 1)) (Fin.ext (Nat.mod_eq_of_lt (by omega)).symm)

/-- The block of scaled rows: 32 rows at a time. -/
def uBlock (h : Vec F S1664x1024 .f32) (g : Vec F S1x1024 .f32) : Vec F S1664x1024 .bf16 :=
  fun y => k0_pay1 (rows ((y 0).val / 32) h) g (ValueIdx.ix2 ⟨(y 0).val % 32, Nat.mod_lt _ (by decide)⟩ (y 1))

theorem at_group (h : Vec F S1664x1024 .f32) (g : Vec F S1x1024 .f32) {off : Fin 2 → ℕ} (k : ℕ) (x : S32x1024.Idx) (inb : ∀ a, off a + S32x1024.size a ≤ S1664x1024.size a) (e : off = ![32 * k, 0]) :
    k0_pay1 (rows k h) g x = uBlock h g ((Rect.unit (s := S1664x1024) off S32x1024.size inb).emb x) := by
  have h0 : (x 0).val < 32 := (x 0).isLt
  have hk : 32 * k + (x 0).val < 1664 := by
    have := inb 0
    subst e
    have : 32 * k + 32 ≤ 1664 := this
    omega
  rw [emb_at inb e x hk]
  have e1 : (32 * k + (x 0).val) / 32 = k := by omega
  have e2 : (32 * k + (x 0).val) % 32 = (x 0).val := by omega
  show k0_pay1 (rows k h) g x = k0_pay1 (rows ((32 * k + (x 0).val) / 32) h) g (ValueIdx.ix2 ⟨(32 * k + (x 0).val) % 32, _⟩ (x 1))
  rw [e1]
  refine congrArg (k0_pay1 (rows k h) g) ((ValueIdx.eq_ix2 x).trans ?_)
  exact congrArg (fun q => ValueIdx.ix2 q (x 1)) (Fin.ext e2.symm)

/-- After `k` groups: the pieces agree with `G` and fill the first `32 k` rows. -/
def Filled {e : EltTy} (G : Vec F S1664x1024 e) (k : ℕ) (L : List (View.Piece (Elt F) S1664x1024 e)) : Prop :=
  (∀ p ∈ L, ∀ x : p.1.shape.Idx, p.2 x = G (p.1.emb x)) ∧ (∀ y : S1664x1024.Idx, (y 0).val < 32 * k → ∃ p ∈ L, y ∈ p.1.set)

theorem Filled.succ {φ : EltTy} {G : Vec F S1664x1024 φ} {k : ℕ} {L L' : List (View.Piece (Elt F) S1664x1024 φ)} (h : Filled G k L) {off : Fin 2 → ℕ} {inb : ∀ a, off a + S32x1024.size a ≤ S1664x1024.size a} {P : Vec F S32x1024 φ}
    (e : L' = [(⟨Rect.unit (s := S1664x1024) off S32x1024.size inb, P⟩ : View.Piece (Elt F) S1664x1024 φ)] ++ L) (ho : off = ![32 * k, 0])
    (hP : ∀ x : S32x1024.Idx, P x = G ((Rect.unit (s := S1664x1024) off S32x1024.size inb).emb x)) : Filled G (k + 1) L' := by
  subst e
  refine ⟨fun p hp => ?_, fun y hy => ?_⟩
  · rcases List.mem_cons.mp hp with rfl | hp
    · exact hP
    · exact h.1 p hp
  · by_cases hl : (y 0).val < 32 * k
    · obtain ⟨p, hp, hy⟩ := h.2 y hl
      exact ⟨p, List.mem_cons_of_mem _ hp, hy⟩
    · refine ⟨_, List.mem_cons_self .., ?_⟩
      subst ho
      show y ∈ (Rect.unit (s := S1664x1024) ![32 * k, 0] S32x1024.size inb).set
      refine (Rect.mem_set_unit (inb := inb)).mpr fun a => ?_
      match a with
      | ⟨0, _⟩ => exact ⟨by show 32 * k ≤ (y 0).val; omega, by show (y 0).val < 32 * k + 32; omega⟩
      | ⟨1, _⟩ => exact ⟨Nat.zero_le _, by show (y 1).val < 0 + 1024; rw [Nat.zero_add]; exact (y 1).isLt⟩

section
variable (c : Dev nD) (𝒱 : Variants) (bd : Option 𝒱.V) (i : grid0.Coords) (arg2 : Memref sig .tc .vmem S1664x1024 .f32) (harg2 : arg2.IsWhole) (arg3 : Memref sig .tc .vmem S1x1024 .f32) (harg3 : arg3.IsWhole) (arg4 : Memref sig .tc .vmem S512x1024 .bf16) (harg4 : arg4.IsWhole) (arg5 : Memref sig .tc .vmem S1664x1024 .bf16) (harg5 : arg5.IsWhole) (arg6 : Memref sig .tc .vmem S1664x512 .bf16) (harg6 : arg6.IsWhole) (hc : k0_cond1 i = 1#1)

theorem trip (X2 : BufTy.Contents (Elt F) arg2.view.ty) (X3 : BufTy.Contents (Elt F) arg3.view.ty) (k : Fin k0_t1_loop.trips) :
    tripL_k0_t1 (F := F) 𝒱 c bd i arg2 harg2 arg3 harg3 arg4 harg4 arg5 harg5 arg6 harg6 hc X2 X3 k
      = [⟨Rect.unit (s := S1664x1024) (k0_off1 k) S32x1024.size (k0_off1_inb i k hc), k0_pay1 (View.ld (arg2.view.read (Elt F) X2) (Rect.unit (s := S1664x1024) (k0_off1 k) S32x1024.size (k0_off1_inb i k hc))) (View.ld (arg3.view.read (Elt F) X3) (Rect.unit (s := S1x1024) ![0, 0] S1x1024.size inb_S1x1024_S1x1024_0_0))⟩] := by
  unfold tripL_k0_t1 trip_k0_t1
  rfl

variable {X2 : BufTy.Contents (Elt F) arg2.view.ty} {X3 : BufTy.Contents (Elt F) arg3.view.ty} {h : Vec F S1664x1024 .f32} {g : Vec F S1x1024 .f32}
  (e2 : arg2.view.read (Elt F) X2 = h) (e3 : arg3.view.read (Elt F) X3 = g)

include e2 e3 in
/-- The groups of rows before the `k`-th. -/
theorem groups : ∀ k : ℕ, k ≤ k0_t1_loop.trips →
    Filled (uBlock h g) k (pb_k0_t1 (F := F) 𝒱 c bd i arg2 harg2 arg3 harg3 arg4 harg4 arg5 harg5 arg6 harg6 hc X2 X3 k)
  | 0, _ => ⟨fun _ hp => absurd hp List.not_mem_nil, fun y hy => absurd hy (Nat.not_lt_zero _)⟩
  | k + 1, hk => by
    have e := pb_k0_t1_succ (F := F) 𝒱 c bd i arg2 harg2 arg3 harg3 arg4 harg4 arg5 harg5 arg6 harg6 hc X2 X3 ⟨k, hk⟩
    rw [trip] at e
    refine Filled.succ (groups k (Nat.le_of_succ_le hk)) e (off_eq ⟨k, hk⟩) (fun x => ?_)
    have h52 : k < 52 := hk
    rw [e2, e3, ld_rows _ _ (off_eq ⟨k, hk⟩) h52, View.ld_unit_zero zz]
    exact at_group h g k x _ (off_eq ⟨k, hk⟩)

include e2 e3 in
theorem loop_u (G : BufTy.Contents (Elt F) arg5.view.ty) {k : ℕ} (hk : k = k0_t1_loop.trips) : arg5.view.read (Elt F) (arg5.view.writes (Elt F) G (pb_k0_t1 (F := F) 𝒱 c bd i arg2 harg2 arg3 harg3 arg4 harg4 arg5 harg5 arg6 harg6 hc X2 X3 k)) = uBlock h g := by
  have hg := groups c 𝒱 bd i arg2 harg2 arg3 harg3 arg4 harg4 arg5 harg5 arg6 harg6 hc e2 e3 k hk.le
  have hv : ∀ y : S1664x1024.Idx, ∃ pc ∈ pb_k0_t1 (F := F) 𝒱 c bd i arg2 harg2 arg3 harg3 arg4 harg4 arg5 harg5 arg6 harg6 hc X2 X3 k, y ∈ pc.1.set := fun y => hg.2 y (by subst hk; exact (y 0).isLt)
  rw [View.read_writes_eq_canon _ _ _ hv]
  exact funext fun y => View.canon_apply_of_pieces _ _ hg.1 y (hv y)

set_option maxHeartbeats 1000000 in
/-- The first point of a block of rows: it leaves the scaled rows and the first columns of their product. -/
theorem run_A (hc : k0_cond1 i = 1#1) (x0 : Vec F S1664x1024 .f32) (x1 : Vec F S1x1024 .f32) (x2 : Vec F S512x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare (uBlock x0 x1) ∗ owns (c : Thread nD τ) arg6 fullShare (k0_pay2 (uBlock x0 x1) x2)) -∗ K ⟨⟩))
      ⊢ wp frame (wpE (defs₀ (F := F)) Variants.none c none) E (cc0_up_proj i arg2 harg2 arg3 harg3 arg4 harg4 arg5 harg5 arg6 harg6) K := by
  simp only [cc0_up_proj_eq_skeleton]; unfold cc0_up_proj_skel
  unfold owns
  iintro ⟨⟨%f0, %hf0, H0⟩, ⟨%f1, %hf1, H1⟩, ⟨%f2, %hf2, H2⟩, ⟨%d3, %f3, -, H3⟩, ⟨%d4, %f4, -, H4⟩, Hk⟩
  obtain rfl := harg2.eq_unread hf0; obtain rfl := harg3.eq_unread hf1; obtain rfl := harg4.eq_unread hf2
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    exact loop_u c Variants.none none i arg2 harg2 arg3 harg3 arg4 harg4 arg5 harg5 arg6 harg6 hc (harg2.read_unread _) (harg3.read_unread _) _ rfl
  iexists _; isplitr
  swap; · iexact H4
  ipureintro
  refine (whole_last zz _ _ _).trans (congrArg₂ k0_pay2 ?_ (rd_whole zz _ harg4))
  exact (View.ld_unit_zero zz _ _).trans (loop_u c Variants.none none i arg2 harg2 arg3 harg3 arg4 harg4 arg5 harg5 arg6 harg6 hc (harg2.read_unread _) (harg3.read_unread _) _ rfl)

set_option maxHeartbeats 1000000 in
/-- A later point of the same rows: it leaves the scaled rows as found and the next columns of their product. -/
theorem run_B (hc : ¬k0_cond1 i = 1#1) (x0 : Vec F S1664x1024 .f32) (x1 : Vec F S1x1024 .f32) (x2 : Vec F S512x1024 .bf16) (xo : Vec F S1664x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xo ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare xo ∗ owns (c : Thread nD τ) arg6 fullShare (k0_pay2 xo x2)) -∗ K ⟨⟩))
      ⊢ wp frame (wpE (defs₀ (F := F)) Variants.none c none) E (cc0_up_proj i arg2 harg2 arg3 harg3 arg4 harg4 arg5 harg5 arg6 harg6) K := by
  simp only [cc0_up_proj_eq_skeleton]; unfold cc0_up_proj_skel
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := harg2.eq_unread hf0; obtain rfl := harg3.eq_unread hf1; obtain rfl := harg4.eq_unread hf2; obtain rfl := harg5.eq_unread hf3
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact H4
  ipureintro
  exact (whole_last zz _ _ _).trans (congrArg₂ k0_pay2 (rd_whole zz _ harg5) (rd_whole zz _ harg4))
end

theorem cond_iff : ∀ t : Fin cfg0.N, k0_cond1 (grid0.coords t) = 1#1 ↔ t.val % 11 = 0 :=
  (by decide +kernel : ∀ t : Fin grid0.N, k0_cond1 (grid0.coords t) = 1#1 ↔ t.val % 11 = 0)
theorem live {t : Fin cfg0.N} (h : t.val % 11 = 0) : cfg0.idle 3 (cfg0.grid.coords t) = false := by
  show (!(k0_cond1 (grid0.coords t) == 1#1)) = false
  rw [(cond_iff t).mpr h]; rfl
theorem still {t : Fin cfg0.N} (h : ¬t.val % 11 = 0) : cfg0.idle 3 (cfg0.grid.coords t) = true := by
  show (!(k0_cond1 (grid0.coords t) == 1#1)) = true
  rw [beq_false_of_ne fun e => h ((cond_iff t).mp e)]; rfl

variable (m : (ℓ : Loc nD τ sig) → Buf (Elt F) ℓ) (ρ : Dev nD → PrngReg)

/-- The first point of the block of rows point `t` is in. -/
def base (t : Fin cfg0.N) : Fin cfg0.N := ⟨11 * (t.val / 11), by have := t.isLt; omega⟩
theorem base_self {t : Fin cfg0.N} (h : t.val % 11 = 0) : base t = t := Fin.ext (by show 11 * (t.val / 11) = t.val; omega)
theorem base_pred {t s : Fin cfg0.N} (h : ¬t.val % 11 = 0) (hs : s.val = t.val - 1) : base s = base t := Fin.ext (by show 11 * (s.val / 11) = 11 * (t.val / 11); omega)

/-- The block of scaled rows at point `t`. -/
def uAt (c : Dev nD) (t : Fin cfg0.N) : Vec F S1664x1024 .bf16 := uBlock (iblk m c 0 (base t)) (iblk m c 1 (base t))

/-- What each window's buffer holds after a point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => uAt m c t
    | ⟨4, _⟩ => k0_pay2 (uAt m c t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = uAt m c t := by dsimp only [dats]
theorem after0_4 (c : Dev nD) (t : Fin cfg0.N) : (dats m 0 c).after 4 t = k0_pay2 (uAt m c t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- A later point of a block of rows finds the scaled rows. -/
theorem before_u (c : Dev nD) (n : ℕ) (t : Fin cfg0.N) (e : t.val = n) (h0 : ¬t.val % 11 = 0) (d) : (dats m 0 c).before 3 t d = uAt m c t := by
  induction n generalizing t with
  | zero => exact absurd (by rw [e]) h0
  | succ n ih =>
    have hp : uAt m c ⟨t.val - 1, Nat.lt_of_le_of_lt (Nat.sub_le _ _) t.isLt⟩ = uAt m c t := by unfold uAt; rw [base_pred h0 rfl]
    rw [(dats m 0 c).before_of_pos 3 t (by omega) ((cfg0.win 3).fetch_out rfl t), (Bool.eq_false_iff.mpr fun h => by have := (flush0_3 _).mp h; dsimp only at this; omega : (cfg0.win 3).flush ⟨t.val - 1, Nat.lt_of_le_of_lt (Nat.sub_le _ _) t.isLt⟩ = false), if_neg Bool.false_ne_true]
    unfold Dat.left
    by_cases h1 : (t.val - 1) % 11 = 0
    · rw [live (t := ⟨t.val - 1, Nat.lt_of_le_of_lt (Nat.sub_le _ _) t.isLt⟩) h1]
      exact hp
    · rw [still (t := ⟨t.val - 1, Nat.lt_of_le_of_lt (Nat.sub_le _ _) t.isLt⟩) h1]
      exact (ih ⟨t.val - 1, Nat.lt_of_le_of_lt (Nat.sub_le _ _) t.isLt⟩ (by show t.val - 1 = n; omega) h1).trans hp

/-- The scaled rows are what is left in their window, however the point is counted. -/
theorem leaves_u (c : Dev nD) (t : Fin cfg0.N) : owns (c : Thread nD τ) (st0_3 t) fullShare (uAt m c t) ⊢ (dats m 0 c).leavesExact 3 t := by
  by_cases h0 : t.val % 11 = 0
  · unfold Dat.leavesExact; rw [live h0]; exact .rfl
  · by_cases h1 : (cfg0.win 3).flush t = true
    · unfold Dat.leavesExact; rw [still h0, h1]; exact .rfl
    · rw [(dats m 0 c).leavesExact_idle 3 t (still h0) (Bool.eq_false_iff.mpr h1)]
      simp only [before_u m c t.val t rfl h0]
      iintro H
      iexists (uAt m c t)
      iexact H

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (dats m 0 c).leavesExact 3 t
    ∗ owns (c : Thread nD τ) (st0_4 t) fullShare ((dats m 0 c).after 4 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_4]
  by_cases h0 : t.val % 11 = 0
  · iintro ⟨HΦ, Ho, ⟨%d0, H0⟩, ⟨%d1, H1⟩, ⟨%d2, H2⟩, ⟨%d3, H3⟩, ⟨%d4, H4⟩⟩
    iapply (run_A c (grid0.coords t) _ _ _ _ _ _ _ _ _ _ ((cond_iff t).mpr h0) (iblk m c 0 t) (iblk m c 1 t) (iblk m c 2 t) Set.univ _)
    isplitl [H0]; · iexact H0
    isplitl [H1]; · iexact H1
    isplitl [H2]; · iexact H2
    isplitl [H3]; · iexists _; iexact H3
    isplitl [H4]; · iexists _; iexact H4
    rw [show uBlock (iblk m c 0 t) (iblk m c 1 t) = uAt m c t from by unfold uAt; rw [base_self h0]]
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iapply (leaves_u m c t); iexact H3
    iexact H4
  · simp only [before_u m c t.val t rfl h0]
    iintro ⟨HΦ, Ho, ⟨%d0, H0⟩, ⟨%d1, H1⟩, ⟨%d2, H2⟩, ⟨%d3, H3⟩, ⟨%d4, H4⟩⟩
    iapply (run_B c (grid0.coords t) _ _ _ _ _ _ _ _ _ _ (fun h => h0 ((cond_iff t).mp h)) (iblk m c 0 t) (iblk m c 1 t) (iblk m c 2 t) (uAt m c t) Set.univ _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iapply (leaves_u m c t); iexact H3
    iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch, with every counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

/-- The run with both result arrays named. -/
theorem run_blocks : θ_run defs (onTc (τ := τ) (main (F := F))) ⟨m, fun _ => 0, ρ⟩ fun r => ∀ c : Dev nD,
      r.2.mem ((c : Thread nD τ).loc main_v0_0) = (dats m 0 c).arrAt 3 cfg0.N
      ∧ r.2.mem ((c : Thread nD τ).loc main_v0_1) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1 3, (h c).1 4, ((h c).1 0).trans (((dats m 0 c).arrAt_in 0 rfl _).trans ((A_eq m c 0).trans (V_main_arg0 m c))), ((h c).1 1).trans (((dats m 0 c).arrAt_in 1 rfl _).trans ((A_eq m c 1).trans (V_main_arg1 m c))), ((h c).1 2).trans (((dats m 0 c).arrAt_in 2 rfl _).trans ((A_eq m c 2).trans (V_main_arg2 m c)))⟩)
    (run_main m ρ)

end Cert.Proj10

end
-- ==== Proof.Norm10.lean ====
/- The forward call `up_proj`: the launch's two results are the reference's. -/
module

public import proofs.«01_k».proof.Defs
public import proofs.«01_k».proof.Proof.Norm
public import proofs.«01_k».proof.Proof.Proj10
public import proofs.«01_k».proof.Proof.Gen.Kernel10
public import proofs.«01_k».proof.Proof.Gen.Reference10Ideal.Run
public import proofs.«01_k».proof.Proof.Gen.Reference10Ideal.Read
public import Idealize.ShloMosaic.Lib.Pipeline.ValueKit.Geometry

@[expose] public section

set_option maxRecDepth 20000

noncomputable section

namespace Cert.Norm10

open Idealize.ShloMosaic Idealize.ShloMosaic.TcCoe Idealize.SL.Sem
open Cert.Norm (row rs ms wid small at' at_val cl cl_val)
open scoped BigOperators

/-- A row, scaled by its root mean square and the gain. -/
def scaled (x w : Fin 1024 → EReal) (j : Fin 1024) : EReal := x j * rs x * w j

section
open Cert.Kernel10Ideal Cert.Kernel10Ideal.Gen Cert.Proj10

theorem ix0 : ∀ t : Fin cfg0.N, win0_0.index t = ![t.val / 11, 0] := (by decide +kernel : ∀ t : Fin grid0.N, win0_0.index t = ![t.val / 11, 0])
theorem ix1 : ∀ t : Fin cfg0.N, win0_1.index t = ![0, 0] := (by decide +kernel : ∀ t : Fin grid0.N, win0_1.index t = ![0, 0])
theorem ix2 : ∀ t : Fin cfg0.N, win0_2.index t = ![t.val % 11, 0] := (by decide +kernel : ∀ t : Fin grid0.N, win0_2.index t = ![t.val % 11, 0])
theorem ix3 : ∀ t : Fin cfg0.N, win0_3.index t = ![t.val / 11, 0] := (by decide +kernel : ∀ t : Fin grid0.N, win0_3.index t = ![t.val / 11, 0])
theorem ix4 : ∀ t : Fin cfg0.N, win0_4.index t = ![t.val / 11, t.val % 11] := (by decide +kernel : ∀ t : Fin grid0.N, win0_4.index t = ![t.val / 11, t.val % 11])

/-- Rows of the weights, over the natural numbers. -/
def wr (n : ℕ) : Fin 5632 := ⟨n % 5632, Nat.mod_lt _ (by norm_num)⟩
theorem wr_val (i : Fin 5632) : wr i.val = i := Fin.ext (Nat.mod_eq_of_lt i.isLt)

variable (m : (ℓ : Loc nD τ sig) → Buf (Elt Ideal) ℓ) (d : Dev nD)

/-- The arrays the kernel is launched on. -/
abbrev X0 : S8320x1024.Idx → EReal := (m ((d : Thread nD τ).loc main_arg0) : Vec Ideal S8320x1024 .f32)
abbrev X1 : S1x1024.Idx → EReal := (m ((d : Thread nD τ).loc main_arg1) : Vec Ideal S1x1024 .f32)
abbrev X2 : S5632x1024.Idx → EReal := (m ((d : Thread nD τ).loc main_arg2) : Vec Ideal S5632x1024 .bf16)

theorem blk0 (t : Fin cfg0.N) (p : Fin 1664) (k : Fin 1024) :
    (iblk m d 0 t : Vec Ideal S1664x1024 .f32) (ValueIdx.ix2 p k) = X0 m d (ValueIdx.ix2 (at' (1664 * (t.val / 11) + p.val)) k) := by
  have hN : t.val < 55 := (N_0 : cfg0.N = 55) ▸ t.isLt
  refine congrArg (X0 m d) (?_ : (((cfg0.win 0).blk t).view.emb (ValueIdx.ix2 p k) : S8320x1024.Idx) = _)
  funext a
  apply Fin.ext
  match a with
  | ⟨0, _⟩ =>
    have e : win0_0.index t 0 = t.val / 11 := by rw [ix0]; rfl
    show win0_0.index t 0 * 1664 + 1 * p.val = (1664 * (t.val / 11) + p.val) % 8320
    rw [e]; omega
  | ⟨1, _⟩ =>
    have e : win0_0.index t 1 = 0 := by rw [ix0]; rfl
    show win0_0.index t 1 * 1024 + 1 * k.val = k.val
    rw [e]; omega

theorem blk1 (t : Fin cfg0.N) : (iblk m d 1 t : Vec Ideal S1x1024 .f32) = X1 m d := by
  funext y
  refine congrArg (X1 m d) (?_ : (((cfg0.win 1).blk t).view.emb y : S1x1024.Idx) = y)
  funext a
  apply Fin.ext
  match a with
  | ⟨0, _⟩ =>
    have e : win0_1.index t 0 = 0 := by rw [ix1]; rfl
    show win0_1.index t 0 * 1 + 1 * (y 0).val = (y 0).val
    rw [e]; omega
  | ⟨1, _⟩ =>
    have e : win0_1.index t 1 = 0 := by rw [ix1]; rfl
    show win0_1.index t 1 * 1024 + 1 * (y 1).val = (y 1).val
    rw [e]; omega

theorem blk2 (t : Fin cfg0.N) (p : Fin 512) (k : Fin 1024) :
    (iblk m d 2 t : Vec Ideal S512x1024 .bf16) (ValueIdx.ix2 p k) = X2 m d (ValueIdx.ix2 (wr (512 * (t.val % 11) + p.val)) k) := by
  refine congrArg (X2 m d) (?_ : (((cfg0.win 2).blk t).view.emb (ValueIdx.ix2 p k) : S5632x1024.Idx) = _)
  funext a
  apply Fin.ext
  match a with
  | ⟨0, _⟩ =>
    have e : win0_2.index t 0 = t.val % 11 := by rw [ix2]; rfl
    show win0_2.index t 0 * 512 + 1 * p.val = (512 * (t.val % 11) + p.val) % 5632
    rw [e]; omega
  | ⟨1, _⟩ =>
    have e : win0_2.index t 1 = 0 := by rw [ix2]; rfl
    show win0_2.index t 1 * 1024 + 1 * k.val = k.val
    rw [e]; omega

theorem pay1_apply (X : FVec Ideal S32x1024 .f32) (g : FVec Ideal S1x1024 .f32) (p : Fin 32) (j : Fin 1024) :
    (k0_pay1 (F := Ideal) X g (ValueIdx.ix2 p j) : EReal) = scaled (row X p) (row g 0) j := by
  show X (ValueIdx.ix2 p j) * broadcastTo S32x1024 (_ : FVec Ideal S32x1 .f32) broadcasts_S32x1_S32x1024 (ValueIdx.ix2 p j) * broadcastTo S32x1024 g broadcasts_S1x1024_S32x1024 (ValueIdx.ix2 p j) = _
  rw [show broadcastTo S32x1024 g broadcasts_S1x1024_S32x1024 (ValueIdx.ix2 p j) = row g 0 j from ValueIdx.broadcastTo_1b_ab_apply _ _ _ _]
  refine congrArg (fun q : EReal => X (ValueIdx.ix2 p j) * q * row g 0 j) ((Cert.Norm.spread _ p j).trans ?_)
  show Ideal.rsqrt (Ideal.div (shapeCast S32x1 _ shapeCasts_S32_S32x1 (ValueIdx.ix2 p 0)) wid + small) = _
  refine congrArg (fun q => Ideal.rsqrt (Ideal.div q wid + small)) ((Cert.Norm.col _ p 0).trans ?_)
  exact (Cert.Norm.sum_row _ p _ rfl)

/-- The scaled rows of the array, over the natural numbers. -/
def UN (n : ℕ) : Fin 1024 → EReal := scaled (row (X0 m d) (at' n)) (row (X1 m d) 0)

theorem u_apply (t : Fin cfg0.N) (p : Fin 1664) (j : Fin 1024) :
    (uAt m d t (ValueIdx.ix2 p j) : EReal) = UN m d (1664 * (t.val / 11) + p.val) j := by
  refine (pay1_apply (Cert.Proj10.rows (F := Ideal) (p.val / 32) (iblk m d 0 (base t))) (iblk m d 1 (base t)) ⟨p.val % 32, Nat.mod_lt _ (by norm_num)⟩ j).trans ?_
  rw [blk1]
  refine congrArg (fun x => scaled x (row (X1 m d) 0) j) (funext fun k => ?_)
  have e : (32 * (p.val / 32) + p.val % 32) % 1664 = p.val := by rw [Nat.div_add_mod]; exact Nat.mod_eq_of_lt p.isLt
  have eb : (base t).val / 11 = t.val / 11 := by show 11 * (t.val / 11) / 11 = _; omega
  refine (congrArg (fun q => (iblk m d 0 (base t) : Vec Ideal S1664x1024 .f32) (ValueIdx.ix2 q k)) (Fin.ext e)).trans ((blk0 m d (base t) p k).trans ?_)
  rw [eb]
  rfl

/-- The product of the scaled rows with the rows of the weights. -/
def PN (n q : ℕ) : EReal := ∑ k : Fin 1024, UN m d n k * X2 m d (ValueIdx.ix2 (wr q) k)

theorem p_apply (t : Fin cfg0.N) (p : Fin 1664) (j : Fin 512) :
    (k0_pay2 (F := Ideal) (uAt m d t) (iblk m d 2 t) (ValueIdx.ix2 p j) : EReal) = PN m d (1664 * (t.val / 11) + p.val) (512 * (t.val % 11) + j.val) := by
  unfold k0_pay2
  rw [shapeCast_self]
  refine (Ideal.matmul_transposedRhs_apply (M := 1664) (K := 1024) (N := 512) (φ₁ := .bf16) (φ₂ := .bf16) none (uAt m d t) (iblk m d 2 t) _ p j).trans ?_
  refine (congrArg (· + _) Ideal.ofBits_zero_f32).trans ((zero_add _).trans ?_)
  exact Finset.sum_congr rfl fun k _ => congrArg₂ (fun a b : EReal => a * b) (u_apply m d t p k) (blk2 m d t j k)

theorem result_u : ((dats m 0 d).arrAt 3 cfg0.N : Vec Ideal S8320x1024 .bf16) = fun y => UN m d (y 0).val (cl (y 1).val) := by
  refine (dats m 0 d).arrAt_eq_of_covers 3 _ (by decide +kernel) fun t hf y => ?_
  blk_simp
  rw [after0_3]
  obtain ⟨p, j, rfl⟩ : ∃ (p : Fin 1664) (j : Fin 1024), y = ValueIdx.ix2 p j := ⟨y 0, y 1, ValueIdx.eq_ix2 y⟩
  refine (u_apply m d t p j).trans ?_
  show _ = UN m d (win0_3.index t 0 * 1664 + p.val) (cl (win0_3.index t 1 * 1024 + j.val))
  have e0 : win0_3.index t 0 = t.val / 11 := by rw [ix3]; rfl
  have e1 : win0_3.index t 1 = 0 := by rw [ix3]; rfl
  rw [e0, e1, Nat.mul_comm, Nat.zero_mul, Nat.zero_add, cl_val]

theorem result_p : ((dats m 0 d).arrAt 4 cfg0.N : Vec Ideal S8320x5632 .bf16) = fun y => PN m d (y 0).val (y 1).val := by
  refine (dats m 0 d).arrAt_eq_of_covers 4 _ (by decide +kernel) fun t hf y => ?_
  blk_simp
  rw [after0_4]
  obtain ⟨p, j, rfl⟩ : ∃ (p : Fin 1664) (j : Fin 512), y = ValueIdx.ix2 p j := ⟨y 0, y 1, ValueIdx.eq_ix2 y⟩
  refine (p_apply m d t p j).trans ?_
  show _ = PN m d (win0_4.index t 0 * 1664 + p.val) (win0_4.index t 1 * 512 + j.val)
  have e0 : win0_4.index t 0 = t.val / 11 := by rw [ix4]; rfl
  have e1 : win0_4.index t 1 = t.val % 11 := by rw [ix4]; rfl
  rw [e0, e1, Nat.mul_comm, Nat.mul_comm 512]
end

section
open Cert.Reference10Ideal Cert.Reference10Ideal.Read
variable (x0 : S8320x1024.Idx → EReal) (x1 : S1x1024.Idx → EReal) (x2 : S5632x1024.Idx → EReal)

theorem r_rs (i : S8320x1.Idx) : val_main_v7 (F := Ideal) x0 i = rs (row x0 (i 0)) := by
  rw [val_main_v7_apply, val_main_v6_apply, val_main_v4_apply, val_main_v2_apply, val_main_v1_apply, val_main_v3_apply, val_main_v5_apply]
  refine congrArg (fun s => Ideal.rsqrt (Ideal.div s wid + small)) ((congrArg (· + _) Ideal.ofBits_zero_f32).trans ((zero_add _).trans (Finset.sum_congr rfl fun k _ => congrArg (fun y => x0 y * x0 y) (ValueIdx.eq_ix2 _))))

theorem r_u (i : S8320x1024.Idx) : val_main_v11 (F := Ideal) x0 x1 i = scaled (row x0 (i 0)) (row x1 0) (i 1) := by
  rw [val_main_v11_apply, val_main_v9_apply, val_main_v8_apply, val_main_v10_apply, r_rs]
  exact congrArg₂ (fun a b : EReal => a * rs (row x0 (i 0)) * b) (congrArg x0 (ValueIdx.eq_ix2 _)) (congrArg x1 (ValueIdx.eq_ix2 _))

theorem r_p (i : S8320x5632.Idx) : val_main_v15 (F := Ideal) x0 x1 x2 i = ∑ k : Fin 1024, scaled (row x0 (i 0)) (row x1 0) k * x2 (ValueIdx.ix2 (i 1) k) := by
  refine (val_main_v15_apply ..).trans (Finset.sum_congr rfl fun k _ => congrArg₂ (fun a b : EReal => a * b) (r_u x0 x1 _) ?_)
  rw [val_main_v14_apply, val_main_v13_apply]
  exact congrArg x2 (ValueIdx.eq_ix2 _)

theorem ref_frame : Cert.quiescent_Reference10Ideal := fun m ρ _ =>
  (θ_run Cert.Reference10Ideal.defs _ _).mono (fun r h => ⟨fun c => (h c).2.2, sem_eq_zero_of_no_sems (by decide) r.2⟩)
    (Cert.Reference10Ideal.Value.run (F := Ideal) m ρ)
end

section
variable {F : FTy → Type} [FloatOps F]
theorem bodies : @Cert.Kernel10Ideal.defs₀ F _ _ = @Cert.Kernel10.defs₀ F _ _ := by
  unfold Cert.Kernel10Ideal.defs₀ Cert.Kernel10.defs₀
  refine congrArg Defs.onTc ?_
  funext l x
  match l, x with
  | 0, (t, s) => rfl
  | ⟨n + 1, h⟩, _ => exact absurd h (Nat.not_lt.2 (Nat.le_add_left _ _))
theorem tables : @Cert.Kernel10Ideal.defs F _ _ = @Cert.Kernel10.defs F _ _ := congrArg (Pipeline.defs Cert.Kernel10Ideal.pcfgs) bodies
end

theorem frame : Cert.quiescent_Kernel10 := fun m g _ => by
  have h := Cert.Proj10.frame (F := Bits) m g
  rw [tables] at h
  exact h

theorem algebraic : Cert.algebraic_Kernel10Ideal_Reference10Ideal := by
  intro m ρ m' ρ' hpre hagree
  refine ⟨_, _, Cert.Proj10.run_blocks (F := Ideal) m ρ, ?_⟩
  refine (θ_run Cert.Reference10Ideal.defs _ _).mono (fun _ h c => ?_) (Cert.Reference10Ideal.Value.run (F := Ideal) m' ρ')
  obtain ⟨b0, b1, b2⟩ := hagree c
  refine ⟨(h c).1.trans ?_, (h c).2.1.trans ?_, (h c).2.2⟩
  · refine (Cert.Reference10Ideal.Read.val_main_v12_eq (F := Ideal) _ _).trans ?_
    show Cert.Reference10Ideal.Read.val_main_v12 (F := Ideal) (m' ((c.tc : Thread Cert.Reference10Ideal.nD Cert.Reference10Ideal.τ).loc Cert.Reference10Ideal.main_arg0)) (m' ((c.tc : Thread Cert.Reference10Ideal.nD Cert.Reference10Ideal.τ).loc Cert.Reference10Ideal.main_arg1)) = _
    rw [b0, b1]
    funext y
    obtain ⟨i, j, rfl⟩ : ∃ (i : Fin 8320) (j : Fin 1024), y = ValueIdx.ix2 i j := ⟨y 0, y 1, ValueIdx.eq_ix2 y⟩
    refine (r_u (X0 m c) (X1 m c) (ValueIdx.ix2 i j)).trans (Eq.trans ?_ (congrFun (result_u m c) (ValueIdx.ix2 i j)).symm)
    show _ = UN m c i.val (cl j.val)
    unfold UN
    rw [at_val, cl_val]
  · refine (Cert.Reference10Ideal.Read.val_main_v16_eq (F := Ideal) _ _ _).trans ?_
    show Cert.Reference10Ideal.Read.val_main_v16 (F := Ideal) (m' ((c.tc : Thread Cert.Reference10Ideal.nD Cert.Reference10Ideal.τ).loc Cert.Reference10Ideal.main_arg0)) (m' ((c.tc : Thread Cert.Reference10Ideal.nD Cert.Reference10Ideal.τ).loc Cert.Reference10Ideal.main_arg1)) (m' ((c.tc : Thread Cert.Reference10Ideal.nD Cert.Reference10Ideal.τ).loc Cert.Reference10Ideal.main_arg2)) = _
    rw [b0, b1, b2]
    funext y
    obtain ⟨i, j, rfl⟩ : ∃ (i : Fin 8320) (j : Fin 5632), y = ValueIdx.ix2 i j := ⟨y 0, y 1, ValueIdx.eq_ix2 y⟩
    refine (r_p (X0 m c) (X1 m c) (X2 m c) (ValueIdx.ix2 i j)).trans (Eq.trans ?_ (congrFun (result_p m c) (ValueIdx.ix2 i j)).symm)
    show _ = PN m c i.val j.val
    unfold PN UN
    rw [at_val, wr_val]

end Cert.Norm10

end
-- ==== Proof.Proj11.lean ====
/- The forward call `in_proj`: what one grid point leaves, the blocks it keeps between points, and the launch. -/
module

public import proofs.«01_k».proof.Proof.Proj10
public import proofs.«01_k».proof.Proof.Gen.Kernel11Ideal.Frame
public import proofs.«01_k».proof.Proof.Gen.Kernel11Ideal.Skeleton
public import proofs.«01_k».proof.Proof.Gen.Kernel11Ideal.Loops
public import Idealize.ShloMosaic.Lib.Pipeline.Value

@[expose] public section

set_option maxRecDepth 16384

noncomputable section

namespace Cert.Proj11

open Cert.Kernel11Ideal Cert.Kernel11Ideal.Gen
open Cert.Rows (zz whole_last rd_whole)
open Cert.Proj10 (uBlock Filled)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

theorem off1_eq : ∀ k : Fin k0_t1_loop.trips, k0_off1 k = ![32 * k.val + 16, 0] := by decide +kernel
theorem off2_eq : ∀ k : Fin k0_t1_loop.trips, k0_off2 k = ![32 * (k.val + 1), 0] := by decide +kernel

/-- The block of rows the later layers read: the sixteen rows before, then the block's own, zero past the last row. -/
def hBlock (i : ℕ) (me xh : Vec F S16x1024 .f32) (x : Vec F S1664x1024 .f32) : Vec F S1664x1024 .f32 := fun y =>
  if 1664 * i + (y 0).val < 8208 then
    if h : (y 0).val < 16 then (if i = 0 then me else xh) (ValueIdx.ix2 ⟨(y 0).val, h⟩ (y 1))
    else x (ValueIdx.ix2 ⟨(y 0).val - 16, Nat.lt_of_le_of_lt (Nat.sub_le _ _) (y 0).isLt⟩ (y 1))
  else Scalar.ofBits .f32 0x00000000#32

theorem mask5 : ∀ (i : Fin 5) (k : Fin k0_t1_loop.trips) (p : Fin 32),
    (Scalar.cmpi .slt (Scalar.addi (Scalar.addi (Scalar.muli (BitVec.ofNat 32 i.val) 1664#32) (Scalar.muli (Scf.iv 1#32 1#32 k) 32#32)) (BitVec.ofNat 32 (0 * 32 + p.val))) 8208#32 = 1#1) ↔ 1664 * i.val + (32 * (k.val + 1) + p.val) < 8208 := by
  decide +kernel
theorem mask3 : ∀ (i : Fin 5) (p : Fin 32),
    (Scalar.cmpi .slt (Scalar.addi (Scalar.addi (Scalar.muli (BitVec.ofNat 32 i.val) 1664#32) 0#32) (BitVec.ofNat 32 (0 * 32 + p.val))) 8208#32 = 1#1) ↔ 1664 * i.val + p.val < 8208 := by
  decide +kernel
theorem first : ∀ i : Fin 5, (Scalar.cmpi .eq (BitVec.ofNat 32 i.val) 0#32 = 1#1) ↔ i.val = 0 := by decide +kernel

theorem pick {α : Type} {c : BitVec 1} {P : Prop} [Decidable P] (h : c = 1#1 ↔ P) (a b : α) : Scalar.select c a b = if P then a else b := by
  unfold Scalar.select
  exact if_congr h rfl rfl

theorem spread (v : IVec S32x1 1) (p : Fin 32) (j : Fin 1024) : broadcastTo S32x1024 v broadcasts_S32x1_S32x1024 (ValueIdx.ix2 p j) = v (ValueIdx.ix2 p 0) :=
  congrArg v (funext fun a => match a with
    | ⟨0, _⟩ => rfl
    | ⟨1, _⟩ => rfl)

theorem pay5_apply (i : Fin 5) (k : Fin k0_t1_loop.trips) (v : Vec F S32x1024 .f32) (p : Fin 32) (j : Fin 1024) :
    k0_pay5 (BitVec.ofNat 32 i.val) k v (ValueIdx.ix2 p j) = if 1664 * i.val + (32 * (k.val + 1) + p.val) < 8208 then v (ValueIdx.ix2 p j) else Scalar.ofBits .f32 0x00000000#32 := by
  unfold k0_pay5
  rw [shapeCast_self]
  exact (congrArg (fun c => Scalar.select c _ _) (spread _ p j)).trans (pick (mask5 i k p) _ _)

theorem pay3_apply (i : Fin 5) (me xh v : Vec F S16x1024 .f32) (p : Fin 32) (j : Fin 1024) :
    k0_pay3 (BitVec.ofNat 32 i.val) me xh v (ValueIdx.ix2 p j) = if 1664 * i.val + p.val < 8208 then
      if h : p.val < 16 then (if i.val = 0 then me else xh) (ValueIdx.ix2 ⟨p.val, h⟩ j) else v (ValueIdx.ix2 ⟨p.val - 16, by omega⟩ j)
      else Scalar.ofBits .f32 0x00000000#32 := by
  unfold k0_pay3
  rw [shapeCast_self]
  refine (congrArg (fun c => Scalar.select c _ _) (spread _ p j)).trans ((pick (mask3 i p) _ _).trans ?_)
  refine congrArg (fun q => ite _ q _) ?_
  rw [pick (first i)]
  by_cases h : p.val < 16
  · rw [dif_pos h]
    exact concatenate_pair_apply_left (s₁ := S16x1024) (s₂ := S16x1024) 0 _ _ _ (ValueIdx.ix2 p j) rfl (ValueIdx.ix2 ⟨p.val, h⟩ j) fun c => match c with | ⟨0, _⟩ => rfl | ⟨1, _⟩ => rfl
  · rw [dif_neg h]
    refine concatenate_pair_apply_right (s₁ := S16x1024) (s₂ := S16x1024) 0 _ _ _ (ValueIdx.ix2 p j) rfl rfl (ValueIdx.ix2 ⟨p.val - 16, by omega⟩ j) (fun c hc => ?_) ?_
    · match c with
      | ⟨0, _⟩ => exact absurd rfl hc
      | ⟨1, _⟩ => rfl
    · show p.val - 16 + 16 = p.val
      omega

/-- The 32 rows of a block starting at row `o`. -/
def rowsAt (o : ℕ) (X : Vec F S1664x1024 .f32) : Vec F S32x1024 .f32 :=
  fun x => X (ValueIdx.ix2 ⟨(o + (x 0).val) % 1664, Nat.mod_lt _ (by decide)⟩ (x 1))

theorem ld_at {o : ℕ} {R : ℕ} {off : Fin 2 → ℕ} (X : Vec F S1664x1024 .f32) (inb : ∀ a, off a + (⟨2, ![R, 1024]⟩ : Shape).size a ≤ S1664x1024.size a) (e : off = ![o, 0]) (x : (⟨2, ![R, 1024]⟩ : Shape).Idx) :
    View.ld (Val := Elt F) (S := S1664x1024) (e' := .f32) X (Rect.unit (s := S1664x1024) off (⟨2, ![R, 1024]⟩ : Shape).size inb) x = X (ValueIdx.ix2 ⟨(o + (x 0).val) % 1664, Nat.mod_lt _ (by decide)⟩ (x 1)) := by
  subst e
  have h0 : (x 0).val < R := (x 0).isLt
  have h1 : o + R ≤ 1664 := inb 0
  refine congrArg X (funext fun a => Fin.ext ?_)
  match a with
  | ⟨0, _⟩ => show o + 1 * (x 0).val = (o + (x 0).val) % 1664; rw [Nat.mod_eq_of_lt (by omega), Nat.one_mul]
  | ⟨1, _⟩ => show 0 + 1 * (x 1).val = (x 1).val; omega

theorem rows5 (i : Fin 5) (k : Fin k0_t1_loop.trips) (me xh : Vec F S16x1024 .f32) (x : Vec F S1664x1024 .f32) (inb : ∀ a, k0_off1 k a + S32x1024.size a ≤ S1664x1024.size a) :
    k0_pay5 (BitVec.ofNat 32 i.val) k (View.ld x (Rect.unit (s := S1664x1024) (k0_off1 k) S32x1024.size inb)) = Cert.Proj10.rows (k.val + 1) (hBlock i.val me xh x) := by
  funext y
  obtain ⟨p, j, rfl⟩ : ∃ (p : Fin 32) (j : Fin 1024), y = ValueIdx.ix2 p j := ⟨y 0, y 1, ValueIdx.eq_ix2 y⟩
  have hk : k.val < 51 := k.isLt
  rw [pay5_apply]
  have e : (32 * (k.val + 1) + p.val) % 1664 = 32 * (k.val + 1) + p.val := Nat.mod_eq_of_lt (by omega)
  show _ = hBlock i.val me xh x (ValueIdx.ix2 ⟨(32 * (k.val + 1) + p.val) % 1664, _⟩ j)
  unfold hBlock
  show _ = if 1664 * i.val + (32 * (k.val + 1) + p.val) % 1664 < 8208 then (if h : (32 * (k.val + 1) + p.val) % 1664 < 16 then _ else _) else _
  rw [dif_neg (by omega)]
  simp only [e]
  refine congrArg (fun q => ite _ q _) ((ld_at (R := 32) x inb (off1_eq k) (ValueIdx.ix2 p j)).trans ?_)
  refine congrArg (fun q => x (ValueIdx.ix2 q j)) (Fin.ext ?_)
  show (32 * k.val + 16 + p.val) % 1664 = 32 * (k.val + 1) + p.val - 16
  omega

theorem rows3 (i : Fin 5) (me xh : Vec F S16x1024 .f32) (x : Vec F S1664x1024 .f32) (inb : ∀ a, (![0, 0] : Fin 2 → ℕ) a + S16x1024.size a ≤ S1664x1024.size a) :
    k0_pay3 (BitVec.ofNat 32 i.val) me xh (View.ld x (Rect.unit (s := S1664x1024) ![0, 0] S16x1024.size inb)) = Cert.Proj10.rows 0 (hBlock i.val me xh x) := by
  funext y
  obtain ⟨p, j, rfl⟩ : ∃ (p : Fin 32) (j : Fin 1024), y = ValueIdx.ix2 p j := ⟨y 0, y 1, ValueIdx.eq_ix2 y⟩
  rw [pay3_apply]
  have e : (32 * 0 + p.val) % 1664 = p.val := by omega
  show _ = hBlock i.val me xh x (ValueIdx.ix2 ⟨(32 * 0 + p.val) % 1664, _⟩ j)
  rw [show (⟨(32 * 0 + p.val) % 1664, Nat.mod_lt _ (by decide)⟩ : Fin 1664) = ⟨p.val, by omega⟩ from Fin.ext e]
  unfold hBlock
  refine congrArg (fun q => ite _ q _) ?_
  by_cases h : p.val < 16
  · rw [dif_pos h, dif_pos (show (ValueIdx.ix2 (⟨p.val, by omega⟩ : Fin 1664) j 0).val < 16 from h)]
  · rw [dif_neg h, dif_neg (show ¬(ValueIdx.ix2 (⟨p.val, by omega⟩ : Fin 1664) j 0).val < 16 from h)]
    refine (ld_at (R := 16) x inb rfl _).trans ?_
    refine congrArg (fun q => x (ValueIdx.ix2 q j)) (Fin.ext ?_)
    show (0 + (p.val - 16)) % 1664 = p.val - 16
    omega

theorem at_rows (G : Vec F S1664x1024 .f32) {off : Fin 2 → ℕ} (k : ℕ) (x : S32x1024.Idx) (inb : ∀ a, off a + S32x1024.size a ≤ S1664x1024.size a) (e : off = ![32 * k, 0]) :
    Cert.Proj10.rows k G x = G ((Rect.unit (s := S1664x1024) off S32x1024.size inb).emb x) := by
  have h0 : (x 0).val < 32 := (x 0).isLt
  have hk : 32 * k + (x 0).val < 1664 := by
    have := inb 0
    subst e
    have : 32 * k + 32 ≤ 1664 := this
    omega
  rw [Cert.Proj10.emb_at inb e x hk]
  exact congrArg (fun q => G (ValueIdx.ix2 q (x 1))) (Fin.ext (Nat.mod_eq_of_lt hk))

theorem pay4_eq (a : BitVec 32) (me xh v : Vec F S16x1024 .f32) (g : Vec F S1x1024 .f32) : k0_pay4 a me xh v g = Cert.Kernel10Ideal.Gen.k0_pay1 (k0_pay3 a me xh v) g := rfl
theorem pay6_eq (a : BitVec 32) (k : Fin k0_t1_loop.trips) (v : Vec F S32x1024 .f32) (g : Vec F S1x1024 .f32) : k0_pay6 a k v g = Cert.Kernel10Ideal.Gen.k0_pay1 (k0_pay5 a k v) g := rfl

section
variable (c : Dev nD) (𝒱 : Variants) (bd : Option 𝒱.V) (i : grid0.Coords) (a2 : Memref sig .tc .vmem S1664x1024 .f32) (h2 : a2.IsWhole) (a3 : Memref sig .tc .vmem S16x1024 .f32) (h3 : a3.IsWhole) (a4 : Memref sig .tc .vmem S16x1024 .f32) (h4 : a4.IsWhole) (a5 : Memref sig .tc .vmem S1x1024 .f32) (h5 : a5.IsWhole) (a6 : Memref sig .tc .vmem S1024x1024 .bf16) (h6 : a6.IsWhole) (a7 : Memref sig .tc .vmem S128x1024 .bf16) (h7 : a7.IsWhole) (a8 : Memref sig .tc .vmem S1664x1024 .f32) (h8 : a8.IsWhole) (a9 : Memref sig .tc .vmem S1664x1024 .bf16) (h9 : a9.IsWhole) (a10 : Memref sig .tc .vmem S1664x1024 .bf16) (h10 : a10.IsWhole) (a11 : Memref sig .tc .vmem S1664x128 .bf16) (h11 : a11.IsWhole) (hc : k0_cond1 i = 1#1)

abbrev pb (a0 : BitVec 32) (X2 : BufTy.Contents (Elt F) a2.view.ty) (X5 : BufTy.Contents (Elt F) a5.view.ty) (k : ℕ) :=
  pb_k0_t1 (F := F) 𝒱 c bd i a2 h2 a3 h3 a4 h4 a5 h5 a6 h6 a7 h7 a8 h8 a9 h9 a10 h10 a11 h11 a0 hc X2 X5 k

theorem trip (a0 : BitVec 32) (X2 : BufTy.Contents (Elt F) a2.view.ty) (X5 : BufTy.Contents (Elt F) a5.view.ty) (k : Fin k0_t1_loop.trips) :
    tripL_k0_t1 (F := F) 𝒱 c bd i a2 h2 a3 h3 a4 h4 a5 h5 a6 h6 a7 h7 a8 h8 a9 h9 a10 h10 a11 h11 a0 hc X2 X5 k
      = ([⟨Rect.unit (s := S1664x1024) (k0_off2 k) S32x1024.size (k0_off2_inb i k hc), k0_pay5 a0 k (View.ld (a2.view.read (Elt F) X2) (Rect.unit (s := S1664x1024) (k0_off1 k) S32x1024.size (k0_off1_inb i k hc)))⟩],
        [⟨Rect.unit (s := S1664x1024) (k0_off2 k) S32x1024.size (k0_off2_inb i k hc), k0_pay6 a0 k (View.ld (a2.view.read (Elt F) X2) (Rect.unit (s := S1664x1024) (k0_off1 k) S32x1024.size (k0_off1_inb i k hc))) (View.ld (a5.view.read (Elt F) X5) (Rect.unit (s := S1x1024) ![0, 0] S1x1024.size inb_S1x1024_S1x1024_0_0))⟩]) := by
  unfold tripL_k0_t1 trip_k0_t1
  rfl

variable {X2 : BufTy.Contents (Elt F) a2.view.ty} {X5 : BufTy.Contents (Elt F) a5.view.ty} {x : Vec F S1664x1024 .f32} {g : Vec F S1x1024 .f32}
  (e2 : a2.view.read (Elt F) X2 = x) (e5 : a5.view.read (Elt F) X5 = g) (j : Fin 5) (me xh : Vec F S16x1024 .f32)

include e2 e5 in
/-- The groups of rows up to the `k`-th, over the first group's. -/
theorem groups {p8 : List (View.Piece (Elt F) S1664x1024 .f32)} {p9 : List (View.Piece (Elt F) S1664x1024 .bf16)} (f8 : Filled (hBlock j.val me xh x) 1 p8) (f9 : Filled (uBlock (hBlock j.val me xh x) g) 1 p9) : ∀ k : ℕ, k ≤ k0_t1_loop.trips →
    Filled (hBlock j.val me xh x) (k + 1) ((pb (F := F) c 𝒱 bd i a2 h2 a3 h3 a4 h4 a5 h5 a6 h6 a7 h7 a8 h8 a9 h9 a10 h10 a11 h11 hc (BitVec.ofNat 32 j.val) X2 X5 k).1 ++ p8)
      ∧ Filled (uBlock (hBlock j.val me xh x) g) (k + 1) ((pb (F := F) c 𝒱 bd i a2 h2 a3 h3 a4 h4 a5 h5 a6 h6 a7 h7 a8 h8 a9 h9 a10 h10 a11 h11 hc (BitVec.ofNat 32 j.val) X2 X5 k).2 ++ p9)
  | 0, _ => ⟨f8, f9⟩
  | k + 1, hk => by
    have e := pb_k0_t1_succ (F := F) 𝒱 c bd i a2 h2 a3 h3 a4 h4 a5 h5 a6 h6 a7 h7 a8 h8 a9 h9 a10 h10 a11 h11 (BitVec.ofNat 32 j.val) hc X2 X5 ⟨k, hk⟩
    rw [trip] at e
    have ih := groups f8 f9 k (Nat.le_of_succ_le hk)
    refine ⟨Filled.succ ih.1 (congrArg (·.1 ++ p8) e) (off2_eq ⟨k, hk⟩) fun y => ?_, Filled.succ ih.2 (congrArg (·.2 ++ p9) e) (off2_eq ⟨k, hk⟩) fun y => ?_⟩
    · rw [e2, rows5 j ⟨k, hk⟩ me xh x]
      exact at_rows _ _ y _ (off2_eq ⟨k, hk⟩)
    · rw [e2, e5, View.ld_unit_zero zz, pay6_eq, rows5 j ⟨k, hk⟩ me xh x]
      exact Cert.Proj10.at_group _ g (k + 1) y _ (off2_eq ⟨k, hk⟩)
end

theorem Filled.nil {e : EltTy} (G : Vec F S1664x1024 e) : Filled G 0 [] := ⟨fun _ hp => absurd hp List.not_mem_nil, fun y hy => absurd hy (Nat.not_lt_zero _)⟩

theorem Filled.read {e : EltTy} {G : Vec F S1664x1024 e} {L : List (View.Piece (Elt F) S1664x1024 e)} {k : ℕ} (h : Filled G k L) (hk : 52 ≤ k) {a : Memref sig .tc .vmem S1664x1024 e} (f : BufTy.Contents (Elt F) a.view.ty) :
    a.view.read (Elt F) (a.view.writes (Elt F) f L) = G := by
  have hv : ∀ y : S1664x1024.Idx, ∃ pc ∈ L, y ∈ pc.1.set := fun y => h.2 y (Nat.lt_of_lt_of_le (show (y 0).val < 32 * 52 from (y 0).isLt) (Nat.mul_le_mul_left 32 hk))
  rw [View.read_writes_eq_canon _ _ _ hv]
  exact funext fun y => View.canon_apply_of_pieces _ _ h.1 y (hv y)

theorem first8 (j : Fin 5) {me xh me' xh' v : Vec F S16x1024 .f32} {x : Vec F S1664x1024 .f32} {inb : ∀ a, (![0, 0] : Fin 2 → ℕ) a + S32x1024.size a ≤ S1664x1024.size a} {inb' : ∀ a, (![0, 0] : Fin 2 → ℕ) a + S16x1024.size a ≤ S1664x1024.size a}
    (em : me' = me) (ex : xh' = xh) (ev : v = View.ld x (Rect.unit (s := S1664x1024) ![0, 0] S16x1024.size inb')) :
    Filled (hBlock j.val me xh x) 1 [(⟨Rect.unit (s := S1664x1024) ![0, 0] S32x1024.size inb, k0_pay3 (BitVec.ofNat 32 j.val) me' xh' v⟩ : View.Piece (Elt F) S1664x1024 .f32)] := by
  subst em ex ev
  refine Filled.succ (Filled.nil _) rfl rfl fun y => ?_
  rw [rows3]
  exact at_rows _ 0 y _ rfl

theorem first9 (j : Fin 5) {me xh me' xh' v : Vec F S16x1024 .f32} {x : Vec F S1664x1024 .f32} {g g' : Vec F S1x1024 .f32} {inb : ∀ a, (![0, 0] : Fin 2 → ℕ) a + S32x1024.size a ≤ S1664x1024.size a} {inb' : ∀ a, (![0, 0] : Fin 2 → ℕ) a + S16x1024.size a ≤ S1664x1024.size a}
    (em : me' = me) (ex : xh' = xh) (ev : v = View.ld x (Rect.unit (s := S1664x1024) ![0, 0] S16x1024.size inb')) (eg : g' = g) :
    Filled (uBlock (hBlock j.val me xh x) g) 1 [(⟨Rect.unit (s := S1664x1024) ![0, 0] S32x1024.size inb, k0_pay4 (BitVec.ofNat 32 j.val) me' xh' v g'⟩ : View.Piece (Elt F) S1664x1024 .bf16)] := by
  subst em ex ev eg
  refine Filled.succ (Filled.nil _) rfl rfl fun y => ?_
  rw [pay4_eq, rows3]
  exact Cert.Proj10.at_group _ _ 0 y _ rfl

section
variable (c : Dev nD) (i : grid0.Coords) (a2 : Memref sig .tc .vmem S1664x1024 .f32) (h2 : a2.IsWhole) (a3 : Memref sig .tc .vmem S16x1024 .f32) (h3 : a3.IsWhole) (a4 : Memref sig .tc .vmem S16x1024 .f32) (h4 : a4.IsWhole) (a5 : Memref sig .tc .vmem S1x1024 .f32) (h5 : a5.IsWhole) (a6 : Memref sig .tc .vmem S1024x1024 .bf16) (h6 : a6.IsWhole) (a7 : Memref sig .tc .vmem S128x1024 .bf16) (h7 : a7.IsWhole) (a8 : Memref sig .tc .vmem S1664x1024 .f32) (h8 : a8.IsWhole) (a9 : Memref sig .tc .vmem S1664x1024 .bf16) (h9 : a9.IsWhole) (a10 : Memref sig .tc .vmem S1664x1024 .bf16) (h10 : a10.IsWhole) (a11 : Memref sig .tc .vmem S1664x128 .bf16) (h11 : a11.IsWhole)

set_option maxHeartbeats 2000000 in
/-- The first point of a block of rows: it leaves the rows, the scaled rows, their narrow product and the first columns of the wide one. -/
theorem run_A (hc : k0_cond1 i = 1#1) (x : Vec F S1664x1024 .f32) (xh me : Vec F S16x1024 .f32) (g : Vec F S1x1024 .f32) (w : Vec F S1024x1024 .bf16) (wa : Vec F S128x1024 .bf16) (E : Set ℕ) (K : PUnit → sProp 𝕄) :
    iprop(owns (c : Thread nD τ) a2 fullShare x ∗ owns (c : Thread nD τ) a3 fullShare xh ∗ owns (c : Thread nD τ) a4 fullShare me ∗ owns (c : Thread nD τ) a5 fullShare g ∗ owns (c : Thread nD τ) a6 fullShare w ∗ owns (c : Thread nD τ) a7 fullShare wa
        ∗ (∃ d, owns (c : Thread nD τ) a8 fullShare d) ∗ (∃ d, owns (c : Thread nD τ) a9 fullShare d) ∗ (∃ d, owns (c : Thread nD τ) a10 fullShare d) ∗ (∃ d, owns (c : Thread nD τ) a11 fullShare d)
        ∗ (iprop(owns (c : Thread nD τ) a2 fullShare x ∗ owns (c : Thread nD τ) a3 fullShare xh ∗ owns (c : Thread nD τ) a4 fullShare me ∗ owns (c : Thread nD τ) a5 fullShare g ∗ owns (c : Thread nD τ) a6 fullShare w ∗ owns (c : Thread nD τ) a7 fullShare wa
          ∗ owns (c : Thread nD τ) a8 fullShare (hBlock (i 0).val me xh x) ∗ owns (c : Thread nD τ) a9 fullShare (uBlock (hBlock (i 0).val me xh x) g) ∗ owns (c : Thread nD τ) a10 fullShare (k0_pay2 (uBlock (hBlock (i 0).val me xh x) g) w) ∗ owns (c : Thread nD τ) a11 fullShare (k0_pay1 (uBlock (hBlock (i 0).val me xh x) g) wa)) -∗ K ⟨⟩))
      ⊢ wp frame (wpE (defs₀ (F := F)) Variants.none c none) E (cc0_in_proj i a2 h2 a3 h3 a4 h4 a5 h5 a6 h6 a7 h7 a8 h8 a9 h9 a10 h10 a11 h11) K := by
  simp only [cc0_in_proj_eq_skeleton]; unfold cc0_in_proj_skel
  simp only [k0_part1_eq_skeleton]; unfold k0_part1_skel; simp only [bind_assoc]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, Hk⟩
  obtain rfl := h2.eq_unread hf2; obtain rfl := h3.eq_unread hf3; obtain rfl := h4.eq_unread hf4; obtain rfl := h5.eq_unread hf5; obtain rfl := h6.eq_unread hf6; obtain rfl := h7.eq_unread hf7
  sl_exec (disch := first | sl_exact hc)
  sl_step
  have ev := congrArg (fun q => View.ld (Val := Elt F) (S := S1664x1024) (e' := .f32) q (Rect.unit (s := S1664x1024) ![0, 0] S16x1024.size inb_S1664x1024_S16x1024_0_0)) (h2.read_unread x)
  have kk := groups c Variants.none none i a2 h2 a3 h3 a4 h4 a5 h5 a6 h6 a7 h7 a8 h8 a9 h9 a10 h10 a11 h11 hc (h2.read_unread x) (h5.read_unread g) (i 0) me xh (first8 (inb := inb_S1664x1024_S32x1024_0_0) (i 0) (rd_whole zz inb_S16x1024_S16x1024_0_0 h4) (rd_whole zz inb_S16x1024_S16x1024_0_0 h3) ev)
    (first9 (inb := inb_S1664x1024_S32x1024_0_0) (i 0) (rd_whole zz inb_S16x1024_S16x1024_0_0 h4) (rd_whole zz inb_S16x1024_S16x1024_0_0 h3) ev (rd_whole zz inb_S1x1024_S1x1024_0_0 h5)) k0_t1_loop.trips le_rfl
  have hk : 52 ≤ k0_t1_loop.trips + 1 := by decide
  iapply Hk
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H8]
  · iexists _; isplitr
    swap; · iexact H8
    ipureintro
    exact Filled.read kk.1 hk _
  isplitl [H9]
  · iexists _; isplitr
    swap; · iexact H9
    ipureintro
    exact Filled.read kk.2 hk _
  isplitl [H10]
  · iexists _; isplitr
    swap; · iexact H10
    ipureintro
    refine (whole_last zz _ _ _).trans (congrArg₂ k0_pay2 ?_ (rd_whole zz _ h6))
    exact (View.ld_unit_zero zz _ _).trans (Filled.read kk.2 hk _)
  iexists _; isplitr
  swap; · iexact H11
  ipureintro
  refine (whole_last zz _ _ _).trans (congrArg₂ k0_pay1 ?_ (rd_whole zz _ h7))
  exact (View.ld_unit_zero zz _ _).trans (Filled.read kk.2 hk _)

set_option maxHeartbeats 1000000 in
/-- A later point of the same rows: it leaves the next columns of the wide product. -/
theorem run_B (hc : ¬k0_cond1 i = 1#1) (w : Vec F S1024x1024 .bf16) (xo : Vec F S1664x1024 .bf16) (E : Set ℕ) (K : PUnit → sProp 𝕄) :
    iprop(owns (c : Thread nD τ) a6 fullShare w ∗ owns (c : Thread nD τ) a9 fullShare xo ∗ (∃ d, owns (c : Thread nD τ) a10 fullShare d)
        ∗ (iprop(owns (c : Thread nD τ) a6 fullShare w ∗ owns (c : Thread nD τ) a9 fullShare xo ∗ owns (c : Thread nD τ) a10 fullShare (k0_pay2 xo w)) -∗ K ⟨⟩))
      ⊢ wp frame (wpE (defs₀ (F := F)) Variants.none c none) E (cc0_in_proj i a2 h2 a3 h3 a4 h4 a5 h5 a6 h6 a7 h7 a8 h8 a9 h9 a10 h10 a11 h11) K := by
  simp only [cc0_in_proj_eq_skeleton]; unfold cc0_in_proj_skel
  unfold owns
  iintro ⟨⟨%f6, %hf6, H6⟩, ⟨%f9, %hf9, H9⟩, ⟨%d10, %f10, -, H10⟩, Hk⟩
  obtain rfl := h6.eq_unread hf6; obtain rfl := h9.eq_unread hf9
  sl_exec (disch := first | sl_exact hc)
  sl_step
  iapply Hk
  isplitl [H6]
  · iexists _; isplitr; · ipureintro; exact h6.read_unread _
    iexact H6
  isplitl [H9]
  · iexists _; isplitr; · ipureintro; exact h9.read_unread _
    iexact H9
  iexists _; isplitr
  swap; · iexact H10
  ipureintro
  exact (whole_last zz _ _ _).trans (congrArg₂ k0_pay2 (rd_whole zz _ h9) (rd_whole zz _ h6))
end

theorem cond_iff : ∀ t : Fin cfg0.N, k0_cond1 (grid0.coords t) = 1#1 ↔ t.val % 7 = 0 :=
  (by decide +kernel : ∀ t : Fin grid0.N, k0_cond1 (grid0.coords t) = 1#1 ↔ t.val % 7 = 0)
theorem coord : ∀ t : Fin cfg0.N, (grid0.coords t 0).val = t.val / 7 := (by decide +kernel : ∀ t : Fin grid0.N, (grid0.coords t 0).val = t.val / 7)
theorem size0 : ∀ t : Fin cfg0.N, (cfg0.win 0).xsize (cfg0.grid.coords t) 0 = min 1664 (8192 - 1664 * (t.val / 7)) ∧ (cfg0.win 0).xsize (cfg0.grid.coords t) 1 = 1024 :=
  (by decide +kernel : ∀ t : Fin grid0.N, win0_0.xsize (grid0.coords t) 0 = min 1664 (8192 - 1664 * (t.val / 7)) ∧ win0_0.xsize (grid0.coords t) 1 = 1024)
theorem index0 : ∀ t : Fin cfg0.N, win0_0.index t = ![t.val / 7, 0] := (by decide +kernel : ∀ t : Fin grid0.N, win0_0.index t = ![t.val / 7, 0])
theorem clip0 : ∀ t t' : Fin cfg0.N, t.val / 7 = t'.val / 7 → ∀ a, (cfg0.win 0).clip (cfg0.grid.coords t) a = (cfg0.win 0).clip (cfg0.grid.coords t') a := by
  have h : ∀ t : Fin grid0.N, ∀ a, win0_0.clip (grid0.coords t) a = win0_0.clip (grid0.coords ⟨7 * (t.val / 7), by have := t.isLt; omega⟩) a := by decide +kernel
  intro t t' e a
  refine (h t a).trans ((congrArg (fun s => win0_0.clip (grid0.coords s) a) (Fin.ext ?_)).trans (h t' a).symm)
  show 7 * (t.val / 7) = 7 * (t'.val / 7)
  rw [e]

/-- The windows the later points of a block of rows leave alone. -/
def Kept (F : FTy → Type) (w : Fin cfg0.W) : Prop := (cfg0.win w).isOut = true ∧ (∀ t : Fin cfg0.N, (cfg0.win w).flush t = true ↔ t.val % 7 = 6) ∧ (∀ i, cfg0.idle w i = !(k0_cond1 i == 1#1))
  ∧ ∀ i (d X : (cfg0.win w).block.Idx → Elt F (cfg0.win w).elt), (cfg0.win w).fill i d ((cfg0.win w).cut i X) = X
theorem kept6 : Kept F 6 := ⟨rfl, flush0_6, fun _ => rfl, fun _ _ _ => rfl⟩
theorem kept7 : Kept F 7 := ⟨rfl, flush0_7, fun _ => rfl, fun _ _ _ => rfl⟩
theorem kept9 : Kept F 9 := ⟨rfl, flush0_9, fun _ => rfl, fun _ _ _ => rfl⟩
theorem Kept.live {w : Fin cfg0.W} (k : Kept F w) {t : Fin cfg0.N} (h : t.val % 7 = 0) : cfg0.idle w (cfg0.grid.coords t) = false := by
  refine (k.2.2.1 _).trans ?_
  show (!(k0_cond1 (grid0.coords t) == 1#1)) = false
  rw [(cond_iff t).mpr h]; rfl
theorem Kept.still {w : Fin cfg0.W} (k : Kept F w) {t : Fin cfg0.N} (h : ¬t.val % 7 = 0) : cfg0.idle w (cfg0.grid.coords t) = true := by
  refine (k.2.2.1 _).trans ?_
  show (!(k0_cond1 (grid0.coords t) == 1#1)) = true
  rw [beq_false_of_ne fun e => h ((cond_iff t).mp e)]; rfl

theorem moved_row (t : Fin cfg0.N) (p : Fin 1664) (j : Fin 1024) (h : 1664 * (t.val / 7) + p.val < 8192) : (cfg0.win 0).moved (cfg0.grid.coords t) (ValueIdx.ix2 p j) = true := by
  refine ((cfg0.win 0).moved_iff _ _).mpr fun a => ?_
  match a with
  | ⟨0, _⟩ => refine Nat.lt_of_lt_of_eq ?_ (size0 t).1.symm; show p.val < _; omega
  | ⟨1, _⟩ => exact Nat.lt_of_lt_of_eq j.isLt (size0 t).2.symm

/-- Rows past the last one are zero whatever the cut block holds there. -/
theorem hBlock_fill (t : Fin cfg0.N) (me xh : Vec F S16x1024 .f32) (d d' : (cfg0.win 0).block.Idx → Elt F (cfg0.win 0).elt) (b : ((cfg0.win 0).xblock (cfg0.grid.coords t)).Idx → Elt F (cfg0.win 0).elt) :
    hBlock (grid0.coords t 0).val me xh ((cfg0.win 0).fill (cfg0.grid.coords t) d b) = hBlock (grid0.coords t 0).val me xh ((cfg0.win 0).fill (cfg0.grid.coords t) d' b) := by
  funext y
  unfold hBlock
  by_cases h : 1664 * (grid0.coords t 0).val + (y 0).val < 8208
  · rw [if_pos h, if_pos h]
    by_cases h' : (y 0).val < 16
    · rw [dif_pos h', dif_pos h']
    · rw [dif_neg h', dif_neg h']
      rw [coord] at h
      have hm := moved_row t (⟨(y 0).val - 16, Nat.lt_of_le_of_lt (Nat.sub_le _ _) (y 0).isLt⟩ : Fin 1664) (y 1) (by dsimp only; omega)
      unfold Window.fill
      rw [dif_pos hm, dif_pos hm]
  · rw [if_neg h, if_neg h]

variable (m : (ℓ : Loc nD τ sig) → Buf (Elt F) ℓ) (ρ : Dev nD → PrngReg)

/-- The first point of the block of rows point `t` is in. -/
def base (t : Fin cfg0.N) : Fin cfg0.N := ⟨7 * (t.val / 7), by have := t.isLt; omega⟩
theorem base_self {t : Fin cfg0.N} (h : t.val % 7 = 0) : base t = t := Fin.ext (by show 7 * (t.val / 7) = t.val; omega)
theorem base_pred {t s : Fin cfg0.N} (h : ¬t.val % 7 = 0) (hs : s.val = t.val - 1) : base s = base t := Fin.ext (by show 7 * (s.val / 7) = 7 * (t.val / 7); omega)

/-- The block of the sequence at point `t`, zero where it is cut. -/
def xAt (c : Dev nD) (t : Fin cfg0.N) : Vec F S1664x1024 .f32 := (cfg0.win 0).fill (cfg0.grid.coords t) (fun _ => Scalar.ofBits (F := F) .f32 0x00000000#32) (iblk m c 0 t)
/-- The block of rows at point `t`, -/
def hAt (c : Dev nD) (t : Fin cfg0.N) : Vec F S1664x1024 .f32 := hBlock (grid0.coords (base t) 0).val (iblk m c 2 (base t)) (iblk m c 1 (base t)) (xAt m c (base t))
/-- and scaled, -/
def uAt (c : Dev nD) (t : Fin cfg0.N) : Vec F S1664x1024 .bf16 := uBlock (hAt m c t) (iblk m c 3 (base t))
/-- and their narrow product. -/
def eAt (c : Dev nD) (t : Fin cfg0.N) : Vec F S1664x128 .bf16 := k0_pay1 (uAt m c t) (iblk m c 5 (base t))

/-- What each window's buffer holds after a point. -/
def dats (_ : Fin 1) (c : Dev nD) : Dat τ (Elt F) Unit ℕ (UR sig nD τ) ℕ cfg0 c where
  A w := V m c (Pipeline.arrRef spec0 w)
  after w t := match w with
    | ⟨0, _⟩ => xAt m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => hAt m c t
    | ⟨7, _⟩ => uAt m c t
    | ⟨8, _⟩ => k0_pay2 (uAt m c t) (iblk m c 4 t)
    | ⟨9, _⟩ => eAt m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = xAt m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = hAt m c t := by dsimp only [dats]
theorem after0_7 (c : Dev nD) (t : Fin cfg0.N) : (dats m 0 c).after 7 t = uAt m c t := by dsimp only [dats]
theorem after0_8 (c : Dev nD) (t : Fin cfg0.N) : (dats m 0 c).after 8 t = k0_pay2 (uAt m c t) (iblk m c 4 t) := by dsimp only [dats]
theorem after0_9 (c : Dev nD) (t : Fin cfg0.N) : (dats m 0 c).after 9 t = eAt m c t := by dsimp only [dats]

theorem before0_0 (c : Dev nD) (t : Fin cfg0.N) (d) : (dats m 0 c).before 0 t d = (cfg0.win 0).fill (cfg0.grid.coords t) d (iblk m c 0 t) := by
  refine ((dats m 0 c).before_in_eq_fetched 0 rfl (fun _ => rfl) (fun t t' h => ?_) (fun t => ?_) t d).trans ?_
  · refine funext (clip0 t t' ?_)
    have e : win0_0.index t 0 = win0_0.index t' 0 := congrFun h 0
    rw [index0, index0] at e
    exact e
  · rw [after0_0]
    refine ((cfg0.win 0).cut_fill _ _ _).trans ?_
    unfold Dat.blockOf iblk; rw [A_eq]
  · unfold Dat.fetched Dat.blockOf iblk; rw [A_eq]
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- A later point of a block of rows finds what the first one left. -/
theorem before_kept {w : Fin cfg0.W} (k : Kept F w) (c : Dev nD) (hp : ∀ s t : Fin cfg0.N, base s = base t → (dats m 0 c).after w s = (dats m 0 c).after w t) (n : ℕ) (t : Fin cfg0.N) (e : t.val = n) (h0 : ¬t.val % 7 = 0) (d) :
    (dats m 0 c).before w t d = (dats m 0 c).after w t := by
  induction n generalizing t with
  | zero => exact absurd (by rw [e]) h0
  | succ n ih =>
    have hp := hp ⟨t.val - 1, Nat.lt_of_le_of_lt (Nat.sub_le _ _) t.isLt⟩ t (base_pred h0 rfl)
    rw [(dats m 0 c).before_of_pos w t (by omega) ((cfg0.win w).fetch_out k.1 t), (Bool.eq_false_iff.mpr fun h => by have := (k.2.1 _).mp h; dsimp only at this; omega : (cfg0.win w).flush ⟨t.val - 1, Nat.lt_of_le_of_lt (Nat.sub_le _ _) t.isLt⟩ = false), if_neg Bool.false_ne_true]
    unfold Dat.left
    by_cases h1 : (t.val - 1) % 7 = 0
    · rw [k.live (t := ⟨t.val - 1, Nat.lt_of_le_of_lt (Nat.sub_le _ _) t.isLt⟩) h1]
      exact (k.2.2.2 _ _ _).trans hp
    · rw [k.still (t := ⟨t.val - 1, Nat.lt_of_le_of_lt (Nat.sub_le _ _) t.isLt⟩) h1]
      exact (ih ⟨t.val - 1, Nat.lt_of_le_of_lt (Nat.sub_le _ _) t.isLt⟩ (by show t.val - 1 = n; omega) h1).trans hp

theorem leaves_kept {w : Fin cfg0.W} (k : Kept F w) (c : Dev nD) (hp : ∀ s t : Fin cfg0.N, base s = base t → (dats m 0 c).after w s = (dats m 0 c).after w t) (t : Fin cfg0.N) :
    owns (c : Thread nD τ) ((cfg0.win w).stage (cfg0.slots t w)) fullShare ((dats m 0 c).after w t) ⊢ (dats m 0 c).leaves w t := by
  refine BI.BIBase.Entails.trans ?_ ((dats m 0 c).leaves_intro w t)
  by_cases h0 : t.val % 7 = 0
  · unfold Dat.leavesExact; rw [k.live h0]
  · by_cases h1 : (cfg0.win w).flush t = true
    · unfold Dat.leavesExact; rw [k.still h0, h1]
    · rw [(dats m 0 c).leavesExact_idle w t (k.still h0) (Bool.eq_false_iff.mpr h1)]
      simp only [before_kept m k c hp t.val t rfl h0]
      iintro H
      iexists ((dats m 0 c).after w t)
      iexact H

theorem same6 (c : Dev nD) (s t : Fin cfg0.N) (h : base s = base t) : (dats m 0 c).after 6 s = (dats m 0 c).after 6 t := by rw [after0_6, after0_6]; unfold hAt; rw [h]
theorem same7 (c : Dev nD) (s t : Fin cfg0.N) (h : base s = base t) : (dats m 0 c).after 7 s = (dats m 0 c).after 7 t := by rw [after0_7, after0_7]; unfold uAt hAt; rw [h]
theorem same9 (c : Dev nD) (s t : Fin cfg0.N) (h : base s = base t) : (dats m 0 c).after 9 s = (dats m 0 c).after 9 t := by rw [after0_9, after0_9]; unfold eAt uAt hAt; rw [h]

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (∃ d, owns (c : Thread nD τ) (st0_0 t) fullShare ((cfg0.win 0).fill (cfg0.grid.coords t) d ((cfg0.win 0).cut (cfg0.grid.coords t) ((dats m 0 c).after 0 t))))
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (dats m 0 c).leaves 6 t
    ∗ (dats m 0 c).leaves 7 t
    ∗ owns (c : Thread nD τ) (st0_8 t) fullShare ((dats m 0 c).after 8 t)
    ∗ (dats m 0 c).leaves 9 t)

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  have l6 := leaves_kept m kept6 c (same6 m c) t
  have l7 := leaves_kept m kept7 c (same7 m c) t
  have l9 := leaves_kept m kept9 c (same9 m c) t
  rw [after0_6] at l6; rw [after0_7] at l7; rw [after0_9] at l9
  have e0 : (cfg0.win 0).cut (cfg0.grid.coords t) ((dats m 0 c).after 0 t) = iblk m c 0 t := by rw [after0_0]; exact (cfg0.win 0).cut_fill _ _ _
  simp only [before0_0, before0_1, before0_2, before0_3, before0_4, before0_5, e0]
  rw [show (dats m 0 c).Φ t.succ = (dats m 0 c).Φ t.castSucc from rfl,
    show (dats m 0 c).owesAt () t.succ = (dats m 0 c).owesAt () t.castSucc from rfl,
    after0_1, after0_2, after0_3, after0_4, after0_5, after0_8]
  by_cases h0 : t.val % 7 = 0
  · have eh : ∀ d, hBlock (grid0.coords t 0).val (iblk m c 2 t) (iblk m c 1 t) ((cfg0.win 0).fill (cfg0.grid.coords t) d (iblk m c 0 t)) = hAt m c t := fun d => by
      unfold hAt xAt; rw [base_self h0]; exact hBlock_fill t _ _ _ _ _
    have eu : uBlock (hAt m c t) (iblk m c 3 t) = uAt m c t := by unfold uAt; rw [base_self h0]
    have ee : k0_pay1 (uAt m c t) (iblk m c 5 t) = eAt m c t := by unfold eAt; rw [base_self h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run_A c (grid0.coords t) _ _ _ _ _ _ _ _ _ _ _ _ _ _ _ _ _ _ _ _ ((cond_iff t).mpr h0) ((cfg0.win 0).fill (cfg0.grid.coords t) d0 (iblk m c 0 t)) (iblk m c 1 t) (iblk m c 2 t) (iblk m c 3 t) (iblk m c 4 t) (iblk m c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    rw [eh d0, eu, ee]
    iintro ⟨H0, H1, H2, H3, H4, H5, H6, H7, H8, H9⟩
    isplitl [HΦ]; · iexact HΦ
    isplitl [Ho]; · iexact Ho
    isplitl [H0]; · iexists d0; iexact H0
    isplitl [H1]; · iexact H1
    isplitl [H2]; · iexact H2
    isplitl [H3]; · iexact H3
    isplitl [H4]; · iexact H4
    isplitl [H5]; · iexact H5
    isplitl [H6]; · iapply l6; iexact H6
    isplitl [H7]; · iapply l7; iexact H7
    isplitl [H8]; · iexact H8
    iapply l9; iexact H9
  · simp only [before_kept m kept6 c (same6 m c) t.val t rfl h0, before_kept m kept7 c (same7 m c) t.val t rfl h0, before_kept m kept9 c (same9 m c) t.val t rfl h0, after0_6, after0_7, after0_9]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run_B c (grid0.coords t) _ _ _ _ _ _ _ _ _ _ _ _ _ _ _ _ _ _ _ _ (fun h => h0 ((cond_iff t).mp h)) (iblk m c 4 t) (uAt m c t) Set.univ _)
    isplitl [H4]; · iexact H4
    isplitl [H7]; · iexact H7
    isplitl [H8]; · iexists _; iexact H8
    iintro ⟨H4, H7, H8⟩
    isplitl [HΦ]; · iexact HΦ
    isplitl [Ho]; · iexact Ho
    isplitl [H0]; · iexists d0; iexact H0
    isplitl [H1]; · iexact H1
    isplitl [H2]; · iexact H2
    isplitl [H3]; · iexact H3
    isplitl [H4]; · iexact H4
    isplitl [H5]; · iexact H5
    isplitl [H6]; · iapply l6; iexact H6
    isplitl [H7]; · iapply l7; iexact H7
    isplitl [H8]; · iexact H8
    iapply l9; iexact H9

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligationLoose (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch, with every counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => body_obligation m c) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

/-- The run with the result arrays named. -/
theorem run_blocks : θ_run defs (onTc (τ := τ) (main (F := F))) ⟨m, fun _ => 0, ρ⟩ fun r => ∀ c : Dev nD,
      (r.2.mem ((c : Thread nD τ).loc main_v0_0) = (dats m 0 c).arrAt 6 cfg0.N
      ∧ r.2.mem ((c : Thread nD τ).loc main_v0_1) = (dats m 0 c).arrAt 7 cfg0.N
      ∧ r.2.mem ((c : Thread nD τ).loc main_v0_2) = (dats m 0 c).arrAt 8 cfg0.N
      ∧ r.2.mem ((c : Thread nD τ).loc main_v0_3) = (dats m 0 c).arrAt 9 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨⟨(h.2 c).1 6, (h.2 c).1 7, (h.2 c).1 8, (h.2 c).1 9⟩, h.1.1 c⟩) (θ_run_and (frame m ρ) (run_main m ρ))

end Cert.Proj11

end
-- ==== Proof.Norm11.lean ====
/- The forward call `in_proj`: the launch's four results are the reference's. -/
module

public import proofs.«01_k».proof.Defs
public import proofs.«01_k».proof.Proof.Norm10
public import proofs.«01_k».proof.Proof.Proj11
public import proofs.«01_k».proof.Proof.Gen.Kernel11
public import proofs.«01_k».proof.Proof.Gen.Reference11Ideal.Run
public import proofs.«01_k».proof.Proof.Gen.Reference11Ideal.Read
public import Idealize.ShloMosaic.Lib.KernelVsHost

@[expose] public section

set_option maxRecDepth 20000

noncomputable section

namespace Cert.Norm11

open Idealize.ShloMosaic Idealize.ShloMosaic.TcCoe Idealize.SL.Sem
open Cert.Norm (row rs at' at_val cl cl_val)
open Cert.Norm10 (scaled)
open scoped BigOperators

/-- Row `n` of the padded sequence: the meta rows, then the sequence, then zeros. -/
def HN (X0 : (⟨2, ![8192, 1024]⟩ : Shape).Idx → EReal) (X1 : (⟨2, ![16, 1024]⟩ : Shape).Idx → EReal) (n : ℕ) (k : Fin 1024) : EReal :=
  if n < 16 then X1 (ValueIdx.ix2 ⟨n % 16, Nat.mod_lt _ (by norm_num)⟩ k)
  else if n < 8208 then X0 (ValueIdx.ix2 ⟨(n - 16) % 8192, Nat.mod_lt _ (by norm_num)⟩ k) else 0

section
open Cert.Kernel11Ideal Cert.Kernel11Ideal.Gen Cert.Proj11

theorem ix1 : ∀ t : Fin cfg0.N, win0_1.index t = ![104 * (t.val / 7) - 1, 0] := (by decide +kernel : ∀ t : Fin grid0.N, win0_1.index t = ![104 * (t.val / 7) - 1, 0])
theorem ix2 : ∀ t : Fin cfg0.N, win0_2.index t = ![0, 0] := (by decide +kernel : ∀ t : Fin grid0.N, win0_2.index t = ![0, 0])
theorem ix3 : ∀ t : Fin cfg0.N, win0_3.index t = ![0, 0] := (by decide +kernel : ∀ t : Fin grid0.N, win0_3.index t = ![0, 0])
theorem ix4 : ∀ t : Fin cfg0.N, win0_4.index t = ![t.val % 7, 0] := (by decide +kernel : ∀ t : Fin grid0.N, win0_4.index t = ![t.val % 7, 0])
theorem ix5 : ∀ t : Fin cfg0.N, win0_5.index t = ![0, 0] := (by decide +kernel : ∀ t : Fin grid0.N, win0_5.index t = ![0, 0])
theorem ix6 : ∀ t : Fin cfg0.N, win0_6.index t = ![t.val / 7, 0] := (by decide +kernel : ∀ t : Fin grid0.N, win0_6.index t = ![t.val / 7, 0])
theorem ix7 : ∀ t : Fin cfg0.N, win0_7.index t = ![t.val / 7, 0] := (by decide +kernel : ∀ t : Fin grid0.N, win0_7.index t = ![t.val / 7, 0])
theorem ix8 : ∀ t : Fin cfg0.N, win0_8.index t = ![t.val / 7, t.val % 7] := (by decide +kernel : ∀ t : Fin grid0.N, win0_8.index t = ![t.val / 7, t.val % 7])
theorem ix9 : ∀ t : Fin cfg0.N, win0_9.index t = ![t.val / 7, 0] := (by decide +kernel : ∀ t : Fin grid0.N, win0_9.index t = ![t.val / 7, 0])

/-- Rows of the weights, over the natural numbers. -/
def wr (n : ℕ) : Fin 7168 := ⟨n % 7168, Nat.mod_lt _ (by norm_num)⟩
theorem wr_val (i : Fin 7168) : wr i.val = i := Fin.ext (Nat.mod_eq_of_lt i.isLt)
def ar (n : ℕ) : Fin 128 := ⟨n % 128, Nat.mod_lt _ (by norm_num)⟩
theorem ar_val (i : Fin 128) : ar i.val = i := Fin.ext (Nat.mod_eq_of_lt i.isLt)

variable (m : (ℓ : Loc nD τ sig) → Buf (Elt Ideal) ℓ) (d : Dev nD)

/-- The arrays the kernel is launched on. -/
abbrev X0 : S8192x1024.Idx → EReal := (m ((d : Thread nD τ).loc main_arg0) : Vec Ideal S8192x1024 .f32)
abbrev X1 : S16x1024.Idx → EReal := (m ((d : Thread nD τ).loc main_arg1) : Vec Ideal S16x1024 .f32)
abbrev X2 : S1x1024.Idx → EReal := (m ((d : Thread nD τ).loc main_arg2) : Vec Ideal S1x1024 .f32)
abbrev X3 : S7168x1024.Idx → EReal := (m ((d : Thread nD τ).loc main_arg3) : Vec Ideal S7168x1024 .bf16)
abbrev X4 : S128x1024.Idx → EReal := (m ((d : Thread nD τ).loc main_arg4) : Vec Ideal S128x1024 .bf16)

theorem blk0 (t : Fin cfg0.N) (p : Fin 1664) (k : Fin 1024) (h : 1664 * (t.val / 7) + p.val < 8192) :
    (xAt m d t (ValueIdx.ix2 p k) : EReal) = X0 m d (ValueIdx.ix2 ⟨1664 * (t.val / 7) + p.val, h⟩ k) := by
  unfold xAt Pipeline.Window.fill
  rw [dif_pos (moved_row t p k h)]
  refine congrArg (X0 m d) (?_ : (((cfg0.win 0).blk t).view.emb _ : S8192x1024.Idx) = _)
  have e0 : win0_0.index t 0 = t.val / 7 := by rw [index0]; rfl
  have e1 : win0_0.index t 1 = 0 := by rw [index0]; rfl
  funext a
  apply Fin.ext
  match a with
  | ⟨0, _⟩ => show win0_0.index t 0 * 1664 + 1 * p.val = 1664 * (t.val / 7) + p.val; rw [e0]; omega
  | ⟨1, _⟩ => show win0_0.index t 1 * 1024 + 1 * k.val = k.val; rw [e1]; omega

theorem blk1 (t : Fin cfg0.N) (p : Fin 16) (k : Fin 1024) (h : 16 * (104 * (t.val / 7) - 1) + p.val < 8192) :
    (iblk m d 1 t : Vec Ideal S16x1024 .f32) (ValueIdx.ix2 p k) = X0 m d (ValueIdx.ix2 ⟨16 * (104 * (t.val / 7) - 1) + p.val, h⟩ k) := by
  refine congrArg (X0 m d) (?_ : (((cfg0.win 1).blk t).view.emb (ValueIdx.ix2 p k) : S8192x1024.Idx) = _)
  have e0 : win0_1.index t 0 = 104 * (t.val / 7) - 1 := by rw [ix1]; rfl
  have e1 : win0_1.index t 1 = 0 := by rw [ix1]; rfl
  funext a
  apply Fin.ext
  match a with
  | ⟨0, _⟩ => show win0_1.index t 0 * 16 + 1 * p.val = 16 * (104 * (t.val / 7) - 1) + p.val; rw [e0]; omega
  | ⟨1, _⟩ => show win0_1.index t 1 * 1024 + 1 * k.val = k.val; rw [e1]; omega

theorem blk2 (t : Fin cfg0.N) : (iblk m d 2 t : Vec Ideal S16x1024 .f32) = X1 m d := by
  funext y
  refine congrArg (X1 m d) (?_ : (((cfg0.win 2).blk t).view.emb y : S16x1024.Idx) = y)
  have e0 : win0_2.index t 0 = 0 := by rw [ix2]; rfl
  have e1 : win0_2.index t 1 = 0 := by rw [ix2]; rfl
  funext a
  apply Fin.ext
  match a with
  | ⟨0, _⟩ => show win0_2.index t 0 * 16 + 1 * (y 0).val = (y 0).val; rw [e0]; omega
  | ⟨1, _⟩ => show win0_2.index t 1 * 1024 + 1 * (y 1).val = (y 1).val; rw [e1]; omega

theorem blk3 (t : Fin cfg0.N) : (iblk m d 3 t : Vec Ideal S1x1024 .f32) = X2 m d := by
  funext y
  refine congrArg (X2 m d) (?_ : (((cfg0.win 3).blk t).view.emb y : S1x1024.Idx) = y)
  have e0 : win0_3.index t 0 = 0 := by rw [ix3]; rfl
  have e1 : win0_3.index t 1 = 0 := by rw [ix3]; rfl
  funext a
  apply Fin.ext
  match a with
  | ⟨0, _⟩ => show win0_3.index t 0 * 1 + 1 * (y 0).val = (y 0).val; rw [e0]; omega
  | ⟨1, _⟩ => show win0_3.index t 1 * 1024 + 1 * (y 1).val = (y 1).val; rw [e1]; omega

theorem blk4 (t : Fin cfg0.N) (p : Fin 1024) (k : Fin 1024) :
    (iblk m d 4 t : Vec Ideal S1024x1024 .bf16) (ValueIdx.ix2 p k) = X3 m d (ValueIdx.ix2 (wr (1024 * (t.val % 7) + p.val)) k) := by
  refine congrArg (X3 m d) (?_ : (((cfg0.win 4).blk t).view.emb (ValueIdx.ix2 p k) : S7168x1024.Idx) = _)
  have e0 : win0_4.index t 0 = t.val % 7 := by rw [ix4]; rfl
  have e1 : win0_4.index t 1 = 0 := by rw [ix4]; rfl
  funext a
  apply Fin.ext
  match a with
  | ⟨0, _⟩ => show win0_4.index t 0 * 1024 + 1 * p.val = (1024 * (t.val % 7) + p.val) % 7168; rw [e0]; omega
  | ⟨1, _⟩ => show win0_4.index t 1 * 1024 + 1 * k.val = k.val; rw [e1]; omega

theorem blk5 (t : Fin cfg0.N) : (iblk m d 5 t : Vec Ideal S128x1024 .bf16) = X4 m d := by
  funext y
  refine congrArg (X4 m d) (?_ : (((cfg0.win 5).blk t).view.emb y : S128x1024.Idx) = y)
  have e0 : win0_5.index t 0 = 0 := by rw [ix5]; rfl
  have e1 : win0_5.index t 1 = 0 := by rw [ix5]; rfl
  funext a
  apply Fin.ext
  match a with
  | ⟨0, _⟩ => show win0_5.index t 0 * 128 + 1 * (y 0).val = (y 0).val; rw [e0]; omega
  | ⟨1, _⟩ => show win0_5.index t 1 * 1024 + 1 * (y 1).val = (y 1).val; rw [e1]; omega

theorem h_apply (t : Fin cfg0.N) (p : Fin 1664) (j : Fin 1024) :
    (hAt m d t (ValueIdx.ix2 p j) : EReal) = HN (X0 m d) (X1 m d) (1664 * (t.val / 7) + p.val) j := by
  have eb : (base t).val / 7 = t.val / 7 := by show 7 * (t.val / 7) / 7 = _; omega
  have hN : t.val < 35 := (N_0 : cfg0.N = 35) ▸ t.isLt
  have hp := p.isLt
  unfold hAt hBlock HN
  rw [coord, eb, blk2]
  show (if 1664 * (t.val / 7) + p.val < 8208 then (if h : p.val < 16 then (if t.val / 7 = 0 then X1 m d else (iblk m d 1 (base t) : Vec Ideal S16x1024 .f32)) (ValueIdx.ix2 ⟨p.val, h⟩ j) else xAt m d (base t) (ValueIdx.ix2 (⟨p.val - 16, _⟩ : Fin 1664) j)) else (Ideal.ofBits .f32 0x00000000#32 : EReal)) = _
  by_cases h : 1664 * (t.val / 7) + p.val < 8208
  · rw [if_pos h]
    by_cases h1 : p.val < 16
    · rw [dif_pos h1]
      by_cases h2 : t.val / 7 = 0
      · rw [if_pos h2, if_pos (by omega)]
        exact congrArg (fun q => X1 m d (ValueIdx.ix2 q j)) (Fin.ext (by show p.val = (1664 * (t.val / 7) + p.val) % 16; omega))
      · rw [if_neg h2, if_neg (by omega), if_pos h]
        refine (blk1 m d (base t) ⟨p.val, h1⟩ j (by rw [eb]; dsimp only; omega)).trans (congrArg (fun q => X0 m d (ValueIdx.ix2 q j)) (Fin.ext ?_))
        show 16 * (104 * ((base t).val / 7) - 1) + p.val = (1664 * (t.val / 7) + p.val - 16) % 8192
        rw [eb]; omega
    · rw [dif_neg h1, if_neg (by omega), if_pos h]
      refine (blk0 m d (base t) ⟨p.val - 16, by omega⟩ j (by rw [eb]; dsimp only; omega)).trans (congrArg (fun q => X0 m d (ValueIdx.ix2 q j)) (Fin.ext ?_))
      show 1664 * ((base t).val / 7) + (p.val - 16) = (1664 * (t.val / 7) + p.val - 16) % 8192
      rw [eb]; omega
  · rw [if_neg h, if_neg (by omega), if_neg h]
    exact Ideal.ofBits_zero_f32

/-- The scaled rows of the padded sequence, over the natural numbers. -/
def UN (n : ℕ) : Fin 1024 → EReal := scaled (HN (X0 m d) (X1 m d) n) (row (X2 m d) 0)

theorem u_apply (t : Fin cfg0.N) (p : Fin 1664) (j : Fin 1024) :
    (uAt m d t (ValueIdx.ix2 p j) : EReal) = UN m d (1664 * (t.val / 7) + p.val) j := by
  refine (Cert.Norm10.pay1_apply (Cert.Proj10.rows (F := Ideal) (p.val / 32) (hAt m d t)) (iblk m d 3 (base t)) ⟨p.val % 32, Nat.mod_lt _ (by norm_num)⟩ j).trans ?_
  rw [blk3]
  refine congrArg (fun x => scaled x (row (X2 m d) 0) j) (funext fun k => ?_)
  have e : (32 * (p.val / 32) + p.val % 32) % 1664 = p.val := by rw [Nat.div_add_mod]; exact Nat.mod_eq_of_lt p.isLt
  exact (congrArg (fun q => (hAt m d t : Vec Ideal S1664x1024 .f32) (ValueIdx.ix2 q k)) (Fin.ext e)).trans (h_apply m d t p k)

/-- The products of the scaled rows with the rows of the weights. -/
def PN (n q : ℕ) : EReal := ∑ k : Fin 1024, UN m d n k * X3 m d (ValueIdx.ix2 (wr q) k)
def EN (n q : ℕ) : EReal := ∑ k : Fin 1024, UN m d n k * X4 m d (ValueIdx.ix2 (ar q) k)

theorem p_apply (t : Fin cfg0.N) (p : Fin 1664) (j : Fin 1024) :
    (k0_pay2 (F := Ideal) (uAt m d t) (iblk m d 4 t) (ValueIdx.ix2 p j) : EReal) = PN m d (1664 * (t.val / 7) + p.val) (1024 * (t.val % 7) + j.val) := by
  unfold k0_pay2
  rw [shapeCast_self]
  refine (Ideal.matmul_transposedRhs_apply (M := 1664) (K := 1024) (N := 1024) (φ₁ := .bf16) (φ₂ := .bf16) none (uAt m d t) (iblk m d 4 t) _ p j).trans ?_
  refine (congrArg (· + _) Ideal.ofBits_zero_f32).trans ((zero_add _).trans ?_)
  exact Finset.sum_congr rfl fun k _ => congrArg₂ (fun a b : EReal => a * b) (u_apply m d t p k) (blk4 m d t j k)

theorem e_apply (t : Fin cfg0.N) (p : Fin 1664) (j : Fin 128) :
    (eAt m d t (ValueIdx.ix2 p j) : EReal) = EN m d (1664 * (t.val / 7) + p.val) j.val := by
  unfold eAt k0_pay1 EN
  rw [shapeCast_self, ar_val, blk5]
  refine (Ideal.matmul_transposedRhs_apply (M := 1664) (K := 1024) (N := 128) (φ₁ := .bf16) (φ₂ := .bf16) none (uAt m d t) (X4 m d) _ p j).trans ?_
  refine (congrArg (· + _) Ideal.ofBits_zero_f32).trans ((zero_add _).trans ?_)
  exact Finset.sum_congr rfl fun k _ => congrArg (fun a : EReal => a * _) (u_apply m d t p k)

theorem result_h : ((dats m 0 d).arrAt 6 cfg0.N : Vec Ideal S8320x1024 .f32) = fun y => HN (X0 m d) (X1 m d) (y 0).val (cl (y 1).val) := by
  refine (dats m 0 d).arrAt_eq_of_covers 6 _ (by decide +kernel) fun t hf y => ?_
  blk_simp
  rw [after0_6]
  obtain ⟨p, j, rfl⟩ : ∃ (p : Fin 1664) (j : Fin 1024), y = ValueIdx.ix2 p j := ⟨y 0, y 1, ValueIdx.eq_ix2 y⟩
  refine (h_apply m d t p j).trans ?_
  show _ = HN (X0 m d) (X1 m d) (win0_6.index t 0 * 1664 + p.val) (cl (win0_6.index t 1 * 1024 + j.val))
  have e0 : win0_6.index t 0 = t.val / 7 := by rw [ix6]; rfl
  have e1 : win0_6.index t 1 = 0 := by rw [ix6]; rfl
  rw [e0, e1, Nat.mul_comm, Nat.zero_mul, Nat.zero_add, cl_val]

theorem result_u : ((dats m 0 d).arrAt 7 cfg0.N : Vec Ideal S8320x1024 .bf16) = fun y => UN m d (y 0).val (cl (y 1).val) := by
  refine (dats m 0 d).arrAt_eq_of_covers 7 _ (by decide +kernel) fun t hf y => ?_
  blk_simp
  rw [after0_7]
  obtain ⟨p, j, rfl⟩ : ∃ (p : Fin 1664) (j : Fin 1024), y = ValueIdx.ix2 p j := ⟨y 0, y 1, ValueIdx.eq_ix2 y⟩
  refine (u_apply m d t p j).trans ?_
  show _ = UN m d (win0_7.index t 0 * 1664 + p.val) (cl (win0_7.index t 1 * 1024 + j.val))
  have e0 : win0_7.index t 0 = t.val / 7 := by rw [ix7]; rfl
  have e1 : win0_7.index t 1 = 0 := by rw [ix7]; rfl
  rw [e0, e1, Nat.mul_comm, Nat.zero_mul, Nat.zero_add, cl_val]

theorem result_p : ((dats m 0 d).arrAt 8 cfg0.N : Vec Ideal S8320x7168 .bf16) = fun y => PN m d (y 0).val (y 1).val := by
  refine (dats m 0 d).arrAt_eq_of_covers 8 _ (by decide +kernel) fun t hf y => ?_
  blk_simp
  rw [after0_8]
  obtain ⟨p, j, rfl⟩ : ∃ (p : Fin 1664) (j : Fin 1024), y = ValueIdx.ix2 p j := ⟨y 0, y 1, ValueIdx.eq_ix2 y⟩
  refine (p_apply m d t p j).trans ?_
  show _ = PN m d (win0_8.index t 0 * 1664 + p.val) (win0_8.index t 1 * 1024 + j.val)
  have e0 : win0_8.index t 0 = t.val / 7 := by rw [ix8]; rfl
  have e1 : win0_8.index t 1 = t.val % 7 := by rw [ix8]; rfl
  rw [e0, e1, Nat.mul_comm, Nat.mul_comm 1024]

theorem result_e : ((dats m 0 d).arrAt 9 cfg0.N : Vec Ideal S8320x128 .bf16) = fun y => EN m d (y 0).val (y 1).val := by
  refine (dats m 0 d).arrAt_eq_of_covers 9 _ (by decide +kernel) fun t hf y => ?_
  blk_simp
  rw [after0_9]
  obtain ⟨p, j, rfl⟩ : ∃ (p : Fin 1664) (j : Fin 128), y = ValueIdx.ix2 p j := ⟨y 0, y 1, ValueIdx.eq_ix2 y⟩
  refine (e_apply m d t p j).trans ?_
  show _ = EN m d (win0_9.index t 0 * 1664 + p.val) (win0_9.index t 1 * 128 + j.val)
  have e0 : win0_9.index t 0 = t.val / 7 := by rw [ix9]; rfl
  have e1 : win0_9.index t 1 = 0 := by rw [ix9]; rfl
  rw [e0, e1, Nat.mul_comm, Nat.zero_mul, Nat.zero_add]
end

section
open Cert.Reference11Ideal Cert.Reference11Ideal.Read
variable (x0 : S8192x1024.Idx → EReal) (x1 : S16x1024.Idx → EReal) (x2 : S1x1024.Idx → EReal) (x3 : S7168x1024.Idx → EReal) (x4 : S128x1024.Idx → EReal)

theorem r_h (i : Fin 8320) (j : Fin 1024) : val_main_v1 (F := Ideal) x0 x1 (ValueIdx.ix2 i j) = HN x0 x1 i.val j := by
  unfold val_main_v1 HN
  by_cases h : i.val < 8208
  · refine (pad_apply_of_inside _ _ _ _ _ _ _ _ (ValueIdx.ix2 (⟨i.val, h⟩ : Fin 8208) j) (fun a => match a with | ⟨0, _⟩ => ?_ | ⟨1, _⟩ => ?_)).trans ?_
    · show i.val = 0 + i.val * 1; omega
    · show j.val = 0 + j.val * 1; omega
    unfold val_main_v0
    by_cases h1 : i.val < 16
    · rw [if_pos h1]
      exact concatenate_pair_apply_left (s₁ := S16x1024) (s₂ := S8192x1024) 0 _ _ _ (ValueIdx.ix2 (⟨i.val, h⟩ : Fin 8208) j) rfl (ValueIdx.ix2 _ j) fun c => match c with | ⟨0, _⟩ => Nat.mod_eq_of_lt h1 | ⟨1, _⟩ => rfl
    · rw [if_neg h1, if_pos h]
      refine concatenate_pair_apply_right (s₁ := S16x1024) (s₂ := S8192x1024) 0 _ _ _ (ValueIdx.ix2 (⟨i.val, h⟩ : Fin 8208) j) rfl rfl (ValueIdx.ix2 _ j) (fun c hc => ?_) ?_
      · match c with
        | ⟨0, _⟩ => exact absurd rfl hc
        | ⟨1, _⟩ => rfl
      · show (i.val - 16) % 8192 + 16 = i.val
        omega
  · rw [if_neg (by omega), if_neg h]
    refine (pad_apply_of_not_inside _ _ _ _ _ _ _ _ (0 : Fin 2) fun q => h ?_).trans ?_
    · have := q.2.2
      have e : (i.val - 0) / (0 + 1) < 8208 := this
      omega
    · show ((((0#32 : BitVec 32).toInt : ℝ) : EReal)) = 0
      simp

theorem r_u (i : Fin 8320) (j : Fin 1024) : val_main_v13 (F := Ideal) x0 x1 x2 (ValueIdx.ix2 i j) = scaled (HN x0 x1 i.val) (row x2 0) j := by
  refine (Cert.Norm10.r_u (val_main_v1 (F := Ideal) x0 x1) x2 (ValueIdx.ix2 i j)).trans ?_
  exact congrArg (fun q => scaled q (row x2 0) j) (funext fun k => r_h x0 x1 i k)

theorem r_p (i : Fin 8320) (j : Fin 7168) : val_main_v17 (F := Ideal) x0 x1 x2 x3 (ValueIdx.ix2 i j) = ∑ k : Fin 1024, scaled (HN x0 x1 i.val) (row x2 0) k * x3 (ValueIdx.ix2 j k) := by
  refine (val_main_v17_apply ..).trans (Finset.sum_congr rfl fun k _ => congrArg₂ (fun a b : EReal => a * b) ((congrArg _ (ValueIdx.eq_ix2 _)).trans (r_u x0 x1 x2 i k)) ?_)
  rw [val_main_v16_apply, val_main_v15_apply]
  exact congrArg x3 (ValueIdx.eq_ix2 _)

theorem r_e (i : Fin 8320) (j : Fin 128) : val_main_v21 (F := Ideal) x0 x1 x2 x4 (ValueIdx.ix2 i j) = ∑ k : Fin 1024, scaled (HN x0 x1 i.val) (row x2 0) k * x4 (ValueIdx.ix2 j k) := by
  refine (val_main_v21_apply ..).trans (Finset.sum_congr rfl fun k _ => congrArg₂ (fun a b : EReal => a * b) ((congrArg _ (ValueIdx.eq_ix2 _)).trans (r_u x0 x1 x2 i k)) ?_)
  rw [val_main_v20_apply, val_main_v19_apply]
  exact congrArg x4 (ValueIdx.eq_ix2 _)

theorem ref_frame : Cert.quiescent_Reference11Ideal := fun m ρ _ =>
  (θ_run Cert.Reference11Ideal.defs _ _).mono (fun r h => ⟨fun c => (h c).2.2.2.2, sem_eq_zero_of_no_sems (by decide) r.2⟩)
    (Cert.Reference11Ideal.Value.run (F := Ideal) m ρ)
end

section
variable {F : FTy → Type} [FloatOps F]
theorem bodies : @Cert.Kernel11Ideal.defs₀ F _ _ = @Cert.Kernel11.defs₀ F _ _ := by
  unfold Cert.Kernel11Ideal.defs₀ Cert.Kernel11.defs₀
  refine congrArg Defs.onTc ?_
  funext l x
  match l, x with
  | 0, (t, s) => rfl
  | ⟨n + 1, h⟩, _ => exact absurd h (Nat.not_lt.2 (Nat.le_add_left _ _))
theorem tables : @Cert.Kernel11Ideal.defs F _ _ = @Cert.Kernel11.defs F _ _ := congrArg (Pipeline.defs Cert.Kernel11Ideal.pcfgs) bodies
end

theorem frame : Cert.quiescent_Kernel11 := fun m g _ => by
  have h := Cert.Proj11.frame (F := Bits) m g
  rw [tables] at h
  exact h

theorem algebraic : Cert.algebraic_Kernel11Ideal_Reference11Ideal := by
  intro m ρ m' ρ' hpre hagree
  refine ⟨_, _, _, _, (θ_run Cert.Kernel11Ideal.defs _ _).mono (fun _ h c => ⟨(h c).1.1, (h c).1.2.1, (h c).1.2.2.1, (h c).1.2.2.2, (h c).2⟩) (Cert.Proj11.run_blocks (F := Ideal) m ρ), ?_⟩
  refine (θ_run Cert.Reference11Ideal.defs _ _).mono (fun _ h c => ?_) (Cert.Reference11Ideal.Value.run (F := Ideal) m' ρ')
  obtain ⟨b0, b1, b2, b3, b4⟩ := hagree c
  obtain ⟨h1, h2, h3, h4, h5⟩ := h c
  rw [b0, b1] at h1
  rw [b0, b1, b2] at h2
  rw [b0, b1, b2, b3] at h3
  rw [b0, b1, b2, b4] at h4
  refine ⟨h1.trans ?_, h2.trans ?_, h3.trans ?_, h4.trans ?_, h5⟩
  · refine (Cert.Reference11Ideal.Read.val_main_v1_eq (F := Ideal) (X0 m c) (X1 m c)).trans ?_
    funext y
    obtain ⟨i, j, rfl⟩ : ∃ (i : Fin 8320) (j : Fin 1024), y = ValueIdx.ix2 i j := ⟨y 0, y 1, ValueIdx.eq_ix2 y⟩
    refine (r_h (X0 m c) (X1 m c) i j).trans (Eq.trans ?_ (congrFun (result_h m c) (ValueIdx.ix2 i j)).symm)
    show _ = HN (X0 m c) (X1 m c) i.val (cl j.val)
    rw [cl_val]
  · refine (Cert.Reference11Ideal.Read.val_main_v14_eq (F := Ideal) (X0 m c) (X1 m c) (X2 m c)).trans ?_
    funext y
    obtain ⟨i, j, rfl⟩ : ∃ (i : Fin 8320) (j : Fin 1024), y = ValueIdx.ix2 i j := ⟨y 0, y 1, ValueIdx.eq_ix2 y⟩
    refine (r_u (X0 m c) (X1 m c) (X2 m c) i j).trans (Eq.trans ?_ (congrFun (result_u m c) (ValueIdx.ix2 i j)).symm)
    show _ = UN m c i.val (cl j.val)
    rw [cl_val]; rfl
  · refine (Cert.Reference11Ideal.Read.val_main_v18_eq (F := Ideal) (X0 m c) (X1 m c) (X2 m c) (X3 m c)).trans ?_
    funext y
    obtain ⟨i, j, rfl⟩ : ∃ (i : Fin 8320) (j : Fin 7168), y = ValueIdx.ix2 i j := ⟨y 0, y 1, ValueIdx.eq_ix2 y⟩
    refine (r_p (X0 m c) (X1 m c) (X2 m c) (X3 m c) i j).trans (Eq.trans ?_ (congrFun (result_p m c) (ValueIdx.ix2 i j)).symm)
    show _ = PN m c i.val j.val
    unfold PN UN
    rw [wr_val]
  · refine (Cert.Reference11Ideal.Read.val_main_v22_eq (F := Ideal) (X0 m c) (X1 m c) (X2 m c) (X4 m c)).trans ?_
    funext y
    obtain ⟨i, j, rfl⟩ : ∃ (i : Fin 8320) (j : Fin 128), y = ValueIdx.ix2 i j := ⟨y 0, y 1, ValueIdx.eq_ix2 y⟩
    refine (r_e (X0 m c) (X1 m c) (X2 m c) (X4 m c) i j).trans (Eq.trans ?_ (congrFun (result_e m c) (ValueIdx.ix2 i j)).symm)
    show _ = EN m c i.val j.val
    unfold EN UN
    rw [ar_val]

end Cert.Norm11

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite
public import proofs.«01_k».proof.Proof.Attention
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Weights2
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Weights3
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Weights4
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Weights5
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Weights6
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Weights7
public import proofs.«01_k».proof.Proof.Gen.Kernel8
public import proofs.«01_k».proof.Proof.Gen.Kernel8Ideal
public import proofs.«01_k».proof.Proof.Gen.Reference8Ideal
public import proofs.«01_k».proof.Proof.Gen.Reference8Ideal.Run
public import proofs.«01_k».proof.Proof.Gen.Reference8Ideal.Read
public import proofs.«01_k».proof.Proof.Gen.Pre_finite8
public import proofs.«01_k».proof.Proof.Norm8
public import proofs.«01_k».proof.Proof.Gen.Kernel9
public import proofs.«01_k».proof.Proof.Gen.Kernel9Ideal
public import proofs.«01_k».proof.Proof.Gen.Reference9Ideal
public import proofs.«01_k».proof.Proof.Gen.Reference9Ideal.Run
public import proofs.«01_k».proof.Proof.Gen.Reference9Ideal.Read
public import proofs.«01_k».proof.Proof.Gen.Pre_finite9
public import proofs.«01_k».proof.Proof.Norm9
public import proofs.«01_k».proof.Proof.Gen.Kernel10
public import proofs.«01_k».proof.Proof.Gen.Kernel10Ideal
public import proofs.«01_k».proof.Proof.Gen.Reference10Ideal
public import proofs.«01_k».proof.Proof.Gen.Reference10Ideal.Run
public import proofs.«01_k».proof.Proof.Gen.Reference10Ideal.Read
public import proofs.«01_k».proof.Proof.Norm10
public import proofs.«01_k».proof.Proof.Gen.Kernel11
public import proofs.«01_k».proof.Proof.Gen.Kernel11Ideal
public import proofs.«01_k».proof.Proof.Gen.Reference11Ideal
public import proofs.«01_k».proof.Proof.Gen.Reference11Ideal.Run
public import proofs.«01_k».proof.Proof.Gen.Reference11Ideal.Read
public import proofs.«01_k».proof.Proof.Norm11

@[expose] public section

noncomputable section

namespace Cert.Proof

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Pre_finite.Gen.facts, Cert.Pre_finite8.Gen.facts, Cert.Pre_finite9.Gen.facts,
  fun m ρ _ => Cert.Kernel.Gen.frame m ρ,
  fun m ρ _ => Cert.KernelIdeal.Gen.frame m ρ,
  fun m ρ _ => Cert.KernelIdeal.Gen.frame m ρ,
  Cert.Gla.ref_frame,
  fun m ρ _ => Cert.Gla.ref_frame m ρ trivial,
  fun m ρ _ => Cert.Kernel2.Gen.frame m ρ,
  fun m ρ _ => Cert.Kernel2Ideal.Gen.frame m ρ,
  Cert.Weights2.ref_frame,
  fun m ρ _ => Cert.Kernel3.Gen.frame m ρ,
  fun m ρ _ => Cert.Kernel3Ideal.Gen.frame m ρ,
  Cert.Weights3.ref_frame,
  fun m ρ _ => Cert.Kernel4.Gen.frame m ρ,
  fun m ρ _ => Cert.Kernel4Ideal.Gen.frame m ρ,
  Cert.Weights4.ref_frame,
  fun m ρ _ => Cert.Kernel5.Gen.frame m ρ,
  fun m ρ _ => Cert.Kernel5Ideal.Gen.frame m ρ,
  Cert.Weights5.ref_frame,
  fun m ρ _ => Cert.Kernel6.Gen.frame m ρ,
  fun m ρ _ => Cert.Kernel6Ideal.Gen.frame m ρ,
  Cert.Weights6.ref_frame,
  fun m ρ _ => Cert.Kernel7.Gen.frame m ρ,
  fun m ρ _ => Cert.Kernel7Ideal.Gen.frame m ρ,
  Cert.Weights7.ref_frame,
  Cert.Norm8.frame,
  fun m ρ _ => Cert.Dgrad8.frame m ρ,
  fun m ρ _ => Cert.Dgrad8.frame m ρ,
  Cert.Norm8.ref_frame,
  fun m ρ _ => Cert.Norm8.ref_frame m ρ trivial,
  Cert.Norm9.frame,
  fun m ρ _ => Cert.Dgrad9.frame m ρ,
  fun m ρ _ => Cert.Dgrad9.frame m ρ,
  Cert.Norm9.ref_frame,
  fun m ρ _ => Cert.Norm9.ref_frame m ρ trivial,
  Cert.Norm10.frame,
  fun m ρ _ => Cert.Proj10.frame m ρ,
  Cert.Norm10.ref_frame,
  Cert.Norm11.frame,
  fun m ρ _ => Cert.Proj11.frame m ρ,
  Cert.Norm11.ref_frame,
  trivial,
  Cert.Gla.algebraic,
  trivial,
  Cert.Weights2.algebraic,
  trivial,
  Cert.Weights3.algebraic,
  trivial,
  Cert.Weights4.algebraic,
  trivial,
  Cert.Weights5.algebraic,
  trivial,
  Cert.Weights6.algebraic,
  trivial,
  Cert.Weights7.algebraic,
  trivial,
  Cert.Norm8.algebraic,
  trivial,
  Cert.Norm9.algebraic,
  trivial,
  Cert.Norm10.algebraic,
  trivial,
  Cert.Norm11.algebraic⟩

end Cert.Proof

end
